-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_cotangents_finite [hPre_cotangents_finite : Cert.Pre_cotangents_finite.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_cotangents_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).1 = (fun _ => 1#1)
    ∧ (Cert.Pre_cotangents_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.1 = (fun _ => 1#1)
    ∧ (Cert.Pre_cotangents_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.2.1 = (fun _ => 1#1)
    ∧ (Cert.Pre_cotangents_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.2.2.1 = (fun _ => 1#1)
    ∧ (Cert.Pre_cotangents_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.2.2.2.1 = (fun _ => 1#1)
    ∧ (Cert.Pre_cotangents_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.2.2.2.2.1 = (fun _ => 1#1)
    ∧ (Cert.Pre_cotangents_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))).2.2.2.2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_cotangents_finite [hPre_cotangents_finite : Cert.Pre_cotangents_finite.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_cotangents_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).1 = (fun _ => 1#1)
    ∧ (Cert.Pre_cotangents_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.1 = (fun _ => 1#1)
    ∧ (Cert.Pre_cotangents_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.2.1 = (fun _ => 1#1)
    ∧ (Cert.Pre_cotangents_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.2.2.1 = (fun _ => 1#1)
    ∧ (Cert.Pre_cotangents_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.2.2.2.1 = (fun _ => 1#1)
    ∧ (Cert.Pre_cotangents_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.2.2.2.2.1 = (fun _ => 1#1)
    ∧ (Cert.Pre_cotangents_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))).2.2.2.2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Kernel13Ideal_pre_cotangents_finite [hKernel13Ideal : Cert.Kernel13Ideal.Facts] [hPre_cotangents_finite : Cert.Pre_cotangents_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_cotangents_finite m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Reference13Ideal_pre_cotangents_finite [hReference13Ideal : Cert.Reference13Ideal.Facts] [hPre_cotangents_finite : Cert.Pre_cotangents_finite.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_cotangents_finite m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6)
      ∧ r.2.mem ((c.tc : Thread Cert.Kernel26.nD Cert.Kernel26.τ).loc Cert.Kernel26.main_arg7) = m ((c.tc : Thread Cert.Kernel26.nD Cert.Kernel26.τ).loc Cert.Kernel26.main_arg7)
      ∧ r.2.mem ((c.tc : Thread Cert.Kernel26.nD Cert.Kernel26.τ).loc Cert.Kernel26.main_arg8) = m ((c.tc : Thread Cert.Kernel26.nD Cert.Kernel26.τ).loc Cert.Kernel26.main_arg8)
      ∧ r.2.mem ((c.tc : Thread Cert.Kernel26.nD Cert.Kernel26.τ).loc Cert.Kernel26.main_arg9) = m ((c.tc : Thread Cert.Kernel26.nD Cert.Kernel26.τ).loc Cert.Kernel26.main_arg9)
      ∧ r.2.mem ((c.tc : Thread Cert.Kernel26.nD Cert.Kernel26.τ).loc Cert.Kernel26.main_arg10) = m ((c.tc : Thread Cert.Kernel26.nD Cert.Kernel26.τ).loc Cert.Kernel26.main_arg10)
      ∧ r.2.mem ((c.tc : Thread Cert.Kernel26.nD Cert.Kernel26.τ).loc Cert.Kernel26.main_arg11) = m ((c.tc : Thread Cert.Kernel26.nD Cert.Kernel26.τ).loc Cert.Kernel26.main_arg11)
      ∧ r.2.mem ((c.tc : Thread Cert.Kernel26.nD Cert.Kernel26.τ).loc Cert.Kernel26.main_arg12) = m ((c.tc : Thread Cert.Kernel26.nD Cert.Kernel26.τ).loc Cert.Kernel26.main_arg12)
      ∧ r.2.mem ((c.tc : Thread Cert.Kernel26.nD Cert.Kernel26.τ).loc Cert.Kernel26.main_arg13) = m ((c.tc : Thread Cert.Kernel26.nD Cert.Kernel26.τ).loc Cert.Kernel26.main_arg13)
      ∧ r.2.mem ((c.tc : Thread Cert.Kernel26.nD Cert.Kernel26.τ).loc Cert.Kernel26.main_arg14) = m ((c.tc : Thread Cert.Kernel26.nD Cert.Kernel26.τ).loc Cert.Kernel26.main_arg14)
      ∧ r.2.mem ((c.tc : Thread Cert.Kernel26.nD Cert.Kernel26.τ).loc Cert.Kernel26.main_arg15) = m ((c.tc : Thread Cert.Kernel26.nD Cert.Kernel26.τ).loc Cert.Kernel26.main_arg15)
      ∧ r.2.mem ((c.tc : Thread Cert.Kernel26.nD Cert.Kernel26.τ).loc Cert.Kernel26.main_arg16) = m ((c.tc : Thread Cert.Kernel26.nD Cert.Kernel26.τ).loc Cert.Kernel26.main_arg16)
      ∧ r.2.mem ((c.tc : Thread Cert.Kernel26.nD Cert.Kernel26.τ).loc Cert.Kernel26.main_arg17) = m ((c.tc : Thread Cert.Kernel26.nD Cert.Kernel26.τ).loc Cert.Kernel26.main_arg17)
      ∧ r.2.mem ((c.tc : Thread Cert.Kernel26.nD Cert.Kernel26.τ).loc Cert.Kernel26.main_arg18) = m ((c.tc : Thread Cert.Kernel26.nD Cert.Kernel26.τ).loc Cert.Kernel26.main_arg18)
      ∧ r.2.mem ((c.tc : Thread Cert.Kernel26.nD Cert.Kernel26.τ).loc Cert.Kernel26.main_arg19) = m ((c.tc : Thread Cert.Kernel26.nD Cert.Kernel26.τ).loc Cert.Kernel26.main_arg19)
      ∧ r.2.mem ((c.tc : Thread Cert.Kernel26.nD Cert.Kernel26.τ).loc Cert.Kernel26.main_arg20) = m ((c.tc : Thread Cert.Kernel26.nD Cert.Kernel26.τ).loc Cert.Kernel26.main_arg20)
      ∧ r.2.mem ((c.tc : Thread Cert.Kernel26.nD Cert.Kernel26.τ).loc Cert.Kernel26.main_arg21) = m ((c.tc : Thread Cert.Kernel26.nD Cert.Kernel26.τ).loc Cert.Kernel26.main_arg21)
      ∧ r.2.mem ((c.tc : Thread Cert.Kernel26.nD Cert.Kernel26.τ).loc Cert.Kernel26.main_arg22) = m ((c.tc : Thread Cert.Kernel26.nD Cert.Kernel26.τ).loc Cert.Kernel26.main_arg22)
      ∧ r.2.mem ((c.tc : Thread Cert.Kernel26.nD Cert.Kernel26.τ).loc Cert.Kernel26.main_arg23) = m ((c.tc : Thread Cert.Kernel26.nD Cert.Kernel26.τ).loc Cert.Kernel26.main_arg23)
      ∧ r.2.mem ((c.tc : Thread Cert.Kernel26.nD Cert.Kernel26.τ).loc Cert.Kernel26.main_arg24) = m ((c.tc : Thread Cert.Kernel26.nD Cert.Kernel26.τ).loc Cert.Kernel26.main_arg24)
      ∧ r.2.mem ((c.tc : Thread Cert.Kernel26.nD Cert.Kernel26.τ).loc Cert.Kernel26.main_arg25) = m ((c.tc : Thread Cert.Kernel26.nD Cert.Kernel26.τ).loc Cert.Kernel26.main_arg25)
      ∧ r.2.mem ((c.tc : Thread Cert.Kernel26.nD Cert.Kernel26.τ).loc Cert.Kernel26.main_arg26) = m ((c.tc : Thread Cert.Kernel26.nD Cert.Kernel26.τ).loc Cert.Kernel26.main_arg26)
      ∧ r.2.mem ((c.tc : Thread Cert.Kernel26.nD Cert.Kernel26.τ).loc Cert.Kernel26.main_arg27) = m ((c.tc : Thread Cert.Kernel26.nD Cert.Kernel26.τ).loc Cert.Kernel26.main_arg27)
      ∧ r.2.mem ((c.tc : Thread Cert.Kernel26.nD Cert.Kernel26.τ).loc Cert.Kernel26.main_arg28) = m ((c.tc : Thread Cert.Kernel26.nD Cert.Kernel26.τ).loc Cert.Kernel26.main_arg28)
      ∧ r.2.mem ((c.tc : Thread Cert.Kernel26.nD Cert.Kernel26.τ).loc Cert.Kernel26.main_arg29) = m ((c.tc : Thread Cert.Kernel26.nD Cert.Kernel26.τ).loc Cert.Kernel26.main_arg29)
      ∧ r.2.mem ((c.tc : Thread Cert.Kernel26.nD Cert.Kernel26.τ).loc Cert.Kernel26.main_arg30) = m ((c.tc : Thread Cert.Kernel26.nD Cert.Kernel26.τ).loc Cert.Kernel26.main_arg30)
      ∧ r.2.mem ((c.tc : Thread Cert.Kernel26.nD Cert.Kernel26.τ).loc Cert.Kernel26.main_arg31) = m ((c.tc : Thread Cert.Kernel26.nD Cert.Kernel26.τ).loc Cert.Kernel26.main_arg31)
      ∧ r.2.mem ((c.tc : Thread Cert.Kernel26.nD Cert.Kernel26.τ).loc Cert.Kernel26.main_arg32) = m ((c.tc : Thread Cert.Kernel26.nD Cert.Kernel26.τ).loc Cert.Kernel26.main_arg32)
      ∧ r.2.mem ((c.tc : Thread Cert.Kernel26.nD Cert.Kernel26.τ).loc Cert.Kernel26.main_arg33) = m ((c.tc : Thread Cert.Kernel26.nD Cert.Kernel26.τ).loc Cert.Kernel26.main_arg33)
      ∧ r.2.mem ((c.tc : Thread Cert.Kernel26.nD Cert.Kernel26.τ).loc Cert.Kernel26.main_arg34) = m ((c.tc : Thread Cert.Kernel26.nD Cert.Kernel26.τ).loc Cert.Kernel26.main_arg34)
      ∧ r.2.mem ((c.tc : Thread Cert.Kernel26.nD Cert.Kernel26.τ).loc Cert.Kernel26.main_arg35) = m ((c.tc : Thread Cert.Kernel26.nD Cert.Kernel26.τ).loc Cert.Kernel26.main_arg35)
      ∧ r.2.mem ((c.tc : Thread Cert.Kernel26.nD Cert.Kernel26.τ).loc Cert.Kernel26.main_arg36) = m ((c.tc : Thread Cert.Kernel26.nD Cert.Kernel26.τ).loc Cert.Kernel26.main_arg36)
      ∧ r.2.mem ((c.tc : Thread Cert.Kernel26.nD Cert.Kernel26.τ).loc Cert.Kernel26.main_arg37) = m ((c.tc : Thread Cert.Kernel26.nD Cert.Kernel26.τ).loc Cert.Kernel26.main_arg37)
      ∧ r.2.mem ((c.tc : Thread Cert.Kernel26.nD Cert.Kernel26.τ).loc Cert.Kernel26.main_arg38) = m ((c.tc : Thread Cert.Kernel26.nD Cert.Kernel26.τ).loc Cert.Kernel26.main_arg38)
      ∧ r.2.mem ((c.tc : Thread Cert.Kernel26.nD Cert.Kernel26.τ).loc Cert.Kernel26.main_arg39) = m ((c.tc : Thread Cert.Kernel26.nD Cert.Kernel26.τ).loc Cert.Kernel26.main_arg39)
      ∧ r.2.mem ((c.tc : Thread Cert.Kernel26.nD Cert.Kernel26.τ).loc Cert.Kernel26.main_arg40) = m ((c.tc : Thread Cert.Kernel26.nD Cert.Kernel26.τ).loc Cert.Kernel26.main_arg40)
      ∧ r.2.mem ((c.tc : Thread Cert.Kernel26.nD Cert.Kernel26.τ).loc Cert.Kernel26.main_arg41) = m ((c.tc : Thread Cert.Kernel26.nD Cert.Kernel26.τ).loc Cert.Kernel26.main_arg41)
      ∧ r.2.mem ((c.tc : Thread Cert.Kernel26.nD Cert.Kernel26.τ).loc Cert.Kernel26.main_arg42) = m ((c.tc : Thread Cert.Kernel26.nD Cert.Kernel26.τ).loc Cert.Kernel26.main_arg42)
      ∧ r.2.mem ((c.tc : Thread Cert.Kernel26.nD Cert.Kernel26.τ).loc Cert.Kernel26.main_arg43) = m ((c.tc : Thread Cert.Kernel26.nD Cert.Kernel26.τ).loc Cert.Kernel26.main_arg43)
      ∧ r.2.mem ((c.tc : Thread Cert.Kernel26.nD Cert.Kernel26.τ).loc Cert.Kernel26.main_arg44) = m ((c.tc : Thread Cert.Kernel26.nD Cert.Kernel26.τ).loc Cert.Kernel26.main_arg44)
      ∧ r.2.mem ((c.tc : Thread Cert.Kernel26.nD Cert.Kernel26.τ).loc Cert.Kernel26.main_arg45) = m ((c.tc : Thread Cert.Kernel26.nD Cert.Kernel26.τ).loc Cert.Kernel26.main_arg45)
      ∧ r.2.mem ((c.tc : Thread Cert.Kernel26.nD Cert.Kernel26.τ).loc Cert.Kernel26.main_arg46) = m ((c.tc : Thread Cert.Kernel26.nD Cert.Kernel26.τ).loc Cert.Kernel26.main_arg46)
      ∧ r.2.mem ((c.tc : Thread Cert.Kernel26.nD Cert.Kernel26.τ).loc Cert.Kernel26.main_arg47) = m ((c.tc : Thread Cert.Kernel26.nD Cert.Kernel26.τ).loc Cert.Kernel26.main_arg47)
      ∧ r.2.mem ((c.tc : Thread Cert.Kernel26.nD Cert.Kernel26.τ).loc Cert.Kernel26.main_arg48) = m ((c.tc : Thread Cert.Kernel26.nD Cert.Kernel26.τ).loc Cert.Kernel26.main_arg48)
      ∧ r.2.mem ((c.tc : Thread Cert.Kernel26.nD Cert.Kernel26.τ).loc Cert.Kernel26.main_arg49) = m ((c.tc : Thread Cert.Kernel26.nD Cert.Kernel26.τ).loc Cert.Kernel26.main_arg49)
      ∧ r.2.mem ((c.tc : Thread Cert.Kernel26.nD Cert.Kernel26.τ).loc Cert.Kernel26.main_arg50) = m ((c.tc : Thread Cert.Kernel26.nD Cert.Kernel26.τ).loc Cert.Kernel26.main_arg50)
      ∧ r.2.mem ((c.tc : Thread Cert.Kernel26.nD Cert.Kernel26.τ).loc Cert.Kernel26.main_arg51) = m ((c.tc : Thread Cert.Kernel26.nD Cert.Kernel26.τ).loc Cert.Kernel26.main_arg51))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
      ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
      ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8)
      ∧ r.2.mem ((c.tc : Thread Cert.Kernel26Ideal.nD Cert.Kernel26Ideal.τ).loc Cert.Kernel26Ideal.main_arg9) = m ((c.tc : Thread Cert.Kernel26Ideal.nD Cert.Kernel26Ideal.τ).loc Cert.Kernel26Ideal.main_arg9)
      ∧ r.2.mem ((c.tc : Thread Cert.Kernel26Ideal.nD Cert.Kernel26Ideal.τ).loc Cert.Kernel26Ideal.main_arg10) = m ((c.tc : Thread Cert.Kernel26Ideal.nD Cert.Kernel26Ideal.τ).loc Cert.Kernel26Ideal.main_arg10)
      ∧ r.2.mem ((c.tc : Thread Cert.Kernel26Ideal.nD Cert.Kernel26Ideal.τ).loc Cert.Kernel26Ideal.main_arg11) = m ((c.tc : Thread Cert.Kernel26Ideal.nD Cert.Kernel26Ideal.τ).loc Cert.Kernel26Ideal.main_arg11)
      ∧ r.2.mem ((c.tc : Thread Cert.Kernel26Ideal.nD Cert.Kernel26Ideal.τ).loc Cert.Kernel26Ideal.main_arg12) = m ((c.tc : Thread Cert.Kernel26Ideal.nD Cert.Kernel26Ideal.τ).loc Cert.Kernel26Ideal.main_arg12)
      ∧ r.2.mem ((c.tc : Thread Cert.Kernel26Ideal.nD Cert.Kernel26Ideal.τ).loc Cert.Kernel26Ideal.main_arg13) = m ((c.tc : Thread Cert.Kernel26Ideal.nD Cert.Kernel26Ideal.τ).loc Cert.Kernel26Ideal.main_arg13)
      ∧ r.2.mem ((c.tc : Thread Cert.Kernel26Ideal.nD Cert.Kernel26Ideal.τ).loc Cert.Kernel26Ideal.main_arg14) = m ((c.tc : Thread Cert.Kernel26Ideal.nD Cert.Kernel26Ideal.τ).loc Cert.Kernel26Ideal.main_arg14)
      ∧ r.2.mem ((c.tc : Thread Cert.Kernel26Ideal.nD Cert.Kernel26Ideal.τ).loc Cert.Kernel26Ideal.main_arg15) = m ((c.tc : Thread Cert.Kernel26Ideal.nD Cert.Kernel26Ideal.τ).loc Cert.Kernel26Ideal.main_arg15)
      ∧ r.2.mem ((c.tc : Thread Cert.Kernel26Ideal.nD Cert.Kernel26Ideal.τ).loc Cert.Kernel26Ideal.main_arg16) = m ((c.tc : Thread Cert.Kernel26Ideal.nD Cert.Kernel26Ideal.τ).loc Cert.Kernel26Ideal.main_arg16)
      ∧ r.2.mem ((c.tc : Thread Cert.Kernel26Ideal.nD Cert.Kernel26Ideal.τ).loc Cert.Kernel26Ideal.main_arg17) = m ((c.tc : Thread Cert.Kernel26Ideal.nD Cert.Kernel26Ideal.τ).loc Cert.Kernel26Ideal.main_arg17)
      ∧ r.2.mem ((c.tc : Thread Cert.Kernel26Ideal.nD Cert.Kernel26Ideal.τ).loc Cert.Kernel26Ideal.main_arg18) = m ((c.tc : Thread Cert.Kernel26Ideal.nD Cert.Kernel26Ideal.τ).loc Cert.Kernel26Ideal.main_arg18)
      ∧ r.2.mem ((c.tc : Thread Cert.Kernel26Ideal.nD Cert.Kernel26Ideal.τ).loc Cert.Kernel26Ideal.main_arg19) = m ((c.tc : Thread Cert.Kernel26Ideal.nD Cert.Kernel26Ideal.τ).loc Cert.Kernel26Ideal.main_arg19)
      ∧ r.2.mem ((c.tc : Thread Cert.Kernel26Ideal.nD Cert.Kernel26Ideal.τ).loc Cert.Kernel26Ideal.main_arg20) = m ((c.tc : Thread Cert.Kernel26Ideal.nD Cert.Kernel26Ideal.τ).loc Cert.Kernel26Ideal.main_arg20)
      ∧ r.2.mem ((c.tc : Thread Cert.Kernel26Ideal.nD Cert.Kernel26Ideal.τ).loc Cert.Kernel26Ideal.main_arg21) = m ((c.tc : Thread Cert.Kernel26Ideal.nD Cert.Kernel26Ideal.τ).loc Cert.Kernel26Ideal.main_arg21)
      ∧ r.2.mem ((c.tc : Thread Cert.Kernel26Ideal.nD Cert.Kernel26Ideal.τ).loc Cert.Kernel26Ideal.main_arg22) = m ((c.tc : Thread Cert.Kernel26Ideal.nD Cert.Kernel26Ideal.τ).loc Cert.Kernel26Ideal.main_arg22)
      ∧ r.2.mem ((c.tc : Thread Cert.Kernel26Ideal.nD Cert.Kernel26Ideal.τ).loc Cert.Kernel26Ideal.main_arg23) = m ((c.tc : Thread Cert.Kernel26Ideal.nD Cert.Kernel26Ideal.τ).loc Cert.Kernel26Ideal.main_arg23)
      ∧ r.2.mem ((c.tc : Thread Cert.Kernel26Ideal.nD Cert.Kernel26Ideal.τ).loc Cert.Kernel26Ideal.main_arg24) = m ((c.tc : Thread Cert.Kernel26Ideal.nD Cert.Kernel26Ideal.τ).loc Cert.Kernel26Ideal.main_arg24)
      ∧ r.2.mem ((c.tc : Thread Cert.Kernel26Ideal.nD Cert.Kernel26Ideal.τ).loc Cert.Kernel26Ideal.main_arg25) = m ((c.tc : Thread Cert.Kernel26Ideal.nD Cert.Kernel26Ideal.τ).loc Cert.Kernel26Ideal.main_arg25)
      ∧ r.2.mem ((c.tc : Thread Cert.Kernel26Ideal.nD Cert.Kernel26Ideal.τ).loc Cert.Kernel26Ideal.main_arg26) = m ((c.tc : Thread Cert.Kernel26Ideal.nD Cert.Kernel26Ideal.τ).loc Cert.Kernel26Ideal.main_arg26)
      ∧ r.2.mem ((c.tc : Thread Cert.Kernel26Ideal.nD Cert.Kernel26Ideal.τ).loc Cert.Kernel26Ideal.main_arg27) = m ((c.tc : Thread Cert.Kernel26Ideal.nD Cert.Kernel26Ideal.τ).loc Cert.Kernel26Ideal.main_arg27)
      ∧ r.2.mem ((c.tc : Thread Cert.Kernel26Ideal.nD Cert.Kernel26Ideal.τ).loc Cert.Kernel26Ideal.main_arg28) = m ((c.tc : Thread Cert.Kernel26Ideal.nD Cert.Kernel26Ideal.τ).loc Cert.Kernel26Ideal.main_arg28)
      ∧ r.2.mem ((c.tc : Thread Cert.Kernel26Ideal.nD Cert.Kernel26Ideal.τ).loc Cert.Kernel26Ideal.main_arg29) = m ((c.tc : Thread Cert.Kernel26Ideal.nD Cert.Kernel26Ideal.τ).loc Cert.Kernel26Ideal.main_arg29)
      ∧ r.2.mem ((c.tc : Thread Cert.Kernel26Ideal.nD Cert.Kernel26Ideal.τ).loc Cert.Kernel26Ideal.main_arg30) = m ((c.tc : Thread Cert.Kernel26Ideal.nD Cert.Kernel26Ideal.τ).loc Cert.Kernel26Ideal.main_arg30)
      ∧ r.2.mem ((c.tc : Thread Cert.Kernel26Ideal.nD Cert.Kernel26Ideal.τ).loc Cert.Kernel26Ideal.main_arg31) = m ((c.tc : Thread Cert.Kernel26Ideal.nD Cert.Kernel26Ideal.τ).loc Cert.Kernel26Ideal.main_arg31)
      ∧ r.2.mem ((c.tc : Thread Cert.Kernel26Ideal.nD Cert.Kernel26Ideal.τ).loc Cert.Kernel26Ideal.main_arg32) = m ((c.tc : Thread Cert.Kernel26Ideal.nD Cert.Kernel26Ideal.τ).loc Cert.Kernel26Ideal.main_arg32)
      ∧ r.2.mem ((c.tc : Thread Cert.Kernel26Ideal.nD Cert.Kernel26Ideal.τ).loc Cert.Kernel26Ideal.main_arg33) = m ((c.tc : Thread Cert.Kernel26Ideal.nD Cert.Kernel26Ideal.τ).loc Cert.Kernel26Ideal.main_arg33)
      ∧ r.2.mem ((c.tc : Thread Cert.Kernel26Ideal.nD Cert.Kernel26Ideal.τ).loc Cert.Kernel26Ideal.main_arg34) = m ((c.tc : Thread Cert.Kernel26Ideal.nD Cert.Kernel26Ideal.τ).loc Cert.Kernel26Ideal.main_arg34)
      ∧ r.2.mem ((c.tc : Thread Cert.Kernel26Ideal.nD Cert.Kernel26Ideal.τ).loc Cert.Kernel26Ideal.main_arg35) = m ((c.tc : Thread Cert.Kernel26Ideal.nD Cert.Kernel26Ideal.τ).loc Cert.Kernel26Ideal.main_arg35)
      ∧ r.2.mem ((c.tc : Thread Cert.Kernel26Ideal.nD Cert.Kernel26Ideal.τ).loc Cert.Kernel26Ideal.main_arg36) = m ((c.tc : Thread Cert.Kernel26Ideal.nD Cert.Kernel26Ideal.τ).loc Cert.Kernel26Ideal.main_arg36)
      ∧ r.2.mem ((c.tc : Thread Cert.Kernel26Ideal.nD Cert.Kernel26Ideal.τ).loc Cert.Kernel26Ideal.main_arg37) = m ((c.tc : Thread Cert.Kernel26Ideal.nD Cert.Kernel26Ideal.τ).loc Cert.Kernel26Ideal.main_arg37)
      ∧ r.2.mem ((c.tc : Thread Cert.Kernel26Ideal.nD Cert.Kernel26Ideal.τ).loc Cert.Kernel26Ideal.main_arg38) = m ((c.tc : Thread Cert.Kernel26Ideal.nD Cert.Kernel26Ideal.τ).loc Cert.Kernel26Ideal.main_arg38)
      ∧ r.2.mem ((c.tc : Thread Cert.Kernel26Ideal.nD Cert.Kernel26Ideal.τ).loc Cert.Kernel26Ideal.main_arg39) = m ((c.tc : Thread Cert.Kernel26Ideal.nD Cert.Kernel26Ideal.τ).loc Cert.Kernel26Ideal.main_arg39)
      ∧ r.2.mem ((c.tc : Thread Cert.Kernel26Ideal.nD Cert.Kernel26Ideal.τ).loc Cert.Kernel26Ideal.main_arg40) = m ((c.tc : Thread Cert.Kernel26Ideal.nD Cert.Kernel26Ideal.τ).loc Cert.Kernel26Ideal.main_arg40)
      ∧ r.2.mem ((c.tc : Thread Cert.Kernel26Ideal.nD Cert.Kernel26Ideal.τ).loc Cert.Kernel26Ideal.main_arg41) = m ((c.tc : Thread Cert.Kernel26Ideal.nD Cert.Kernel26Ideal.τ).loc Cert.Kernel26Ideal.main_arg41)
      ∧ r.2.mem ((c.tc : Thread Cert.Kernel26Ideal.nD Cert.Kernel26Ideal.τ).loc Cert.Kernel26Ideal.main_arg42) = m ((c.tc : Thread Cert.Kernel26Ideal.nD Cert.Kernel26Ideal.τ).loc Cert.Kernel26Ideal.main_arg42)
      ∧ r.2.mem ((c.tc : Thread Cert.Kernel26Ideal.nD Cert.Kernel26Ideal.τ).loc Cert.Kernel26Ideal.main_arg43) = m ((c.tc : Thread Cert.Kernel26Ideal.nD Cert.Kernel26Ideal.τ).loc Cert.Kernel26Ideal.main_arg43)
      ∧ r.2.mem ((c.tc : Thread Cert.Kernel26Ideal.nD Cert.Kernel26Ideal.τ).loc Cert.Kernel26Ideal.main_arg44) = m ((c.tc : Thread Cert.Kernel26Ideal.nD Cert.Kernel26Ideal.τ).loc Cert.Kernel26Ideal.main_arg44)
      ∧ r.2.mem ((c.tc : Thread Cert.Kernel26Ideal.nD Cert.Kernel26Ideal.τ).loc Cert.Kernel26Ideal.main_arg45) = m ((c.tc : Thread Cert.Kernel26Ideal.nD Cert.Kernel26Ideal.τ).loc Cert.Kernel26Ideal.main_arg45)
      ∧ r.2.mem ((c.tc : Thread Cert.Kernel26Ideal.nD Cert.Kernel26Ideal.τ).loc Cert.Kernel26Ideal.main_arg46) = m ((c.tc : Thread Cert.Kernel26Ideal.nD Cert.Kernel26Ideal.τ).loc Cert.Kernel26Ideal.main_arg46)
      ∧ r.2.mem ((c.tc : Thread Cert.Kernel26Ideal.nD Cert.Kernel26Ideal.τ).loc Cert.Kernel26Ideal.main_arg47) = m ((c.tc : Thread Cert.Kernel26Ideal.nD Cert.Kernel26Ideal.τ).loc Cert.Kernel26Ideal.main_arg47)
      ∧ r.2.mem ((c.tc : Thread Cert.Kernel26Ideal.nD Cert.Kernel26Ideal.τ).loc Cert.Kernel26Ideal.main_arg48) = m ((c.tc : Thread Cert.Kernel26Ideal.nD Cert.Kernel26Ideal.τ).loc Cert.Kernel26Ideal.main_arg48)
      ∧ r.2.mem ((c.tc : Thread Cert.Kernel26Ideal.nD Cert.Kernel26Ideal.τ).loc Cert.Kernel26Ideal.main_arg49) = m ((c.tc : Thread Cert.Kernel26Ideal.nD Cert.Kernel26Ideal.τ).loc Cert.Kernel26Ideal.main_arg49)
      ∧ r.2.mem ((c.tc : Thread Cert.Kernel26Ideal.nD Cert.Kernel26Ideal.τ).loc Cert.Kernel26Ideal.main_arg50) = m ((c.tc : Thread Cert.Kernel26Ideal.nD Cert.Kernel26Ideal.τ).loc Cert.Kernel26Ideal.main_arg50)
      ∧ r.2.mem ((c.tc : Thread Cert.Kernel26Ideal.nD Cert.Kernel26Ideal.τ).loc Cert.Kernel26Ideal.main_arg51) = m ((c.tc : Thread Cert.Kernel26Ideal.nD Cert.Kernel26Ideal.τ).loc Cert.Kernel26Ideal.main_arg51))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6)
      ∧ r.2.mem ((c.tc : Thread Cert.Reference26Ideal.nD Cert.Reference26Ideal.τ).loc Cert.Reference26Ideal.main_arg7) = m ((c.tc : Thread Cert.Reference26Ideal.nD Cert.Reference26Ideal.τ).loc Cert.Reference26Ideal.main_arg7)
      ∧ r.2.mem ((c.tc : Thread Cert.Reference26Ideal.nD Cert.Reference26Ideal.τ).loc Cert.Reference26Ideal.main_arg8) = m ((c.tc : Thread Cert.Reference26Ideal.nD Cert.Reference26Ideal.τ).loc Cert.Reference26Ideal.main_arg8)
      ∧ r.2.mem ((c.tc : Thread Cert.Reference26Ideal.nD Cert.Reference26Ideal.τ).loc Cert.Reference26Ideal.main_arg9) = m ((c.tc : Thread Cert.Reference26Ideal.nD Cert.Reference26Ideal.τ).loc Cert.Reference26Ideal.main_arg9)
      ∧ r.2.mem ((c.tc : Thread Cert.Reference26Ideal.nD Cert.Reference26Ideal.τ).loc Cert.Reference26Ideal.main_arg10) = m ((c.tc : Thread Cert.Reference26Ideal.nD Cert.Reference26Ideal.τ).loc Cert.Reference26Ideal.main_arg10)
      ∧ r.2.mem ((c.tc : Thread Cert.Reference26Ideal.nD Cert.Reference26Ideal.τ).loc Cert.Reference26Ideal.main_arg11) = m ((c.tc : Thread Cert.Reference26Ideal.nD Cert.Reference26Ideal.τ).loc Cert.Reference26Ideal.main_arg11)
      ∧ r.2.mem ((c.tc : Thread Cert.Reference26Ideal.nD Cert.Reference26Ideal.τ).loc Cert.Reference26Ideal.main_arg12) = m ((c.tc : Thread Cert.Reference26Ideal.nD Cert.Reference26Ideal.τ).loc Cert.Reference26Ideal.main_arg12)
      ∧ r.2.mem ((c.tc : Thread Cert.Reference26Ideal.nD Cert.Reference26Ideal.τ).loc Cert.Reference26Ideal.main_arg13) = m ((c.tc : Thread Cert.Reference26Ideal.nD Cert.Reference26Ideal.τ).loc Cert.Reference26Ideal.main_arg13)
      ∧ r.2.mem ((c.tc : Thread Cert.Reference26Ideal.nD Cert.Reference26Ideal.τ).loc Cert.Reference26Ideal.main_arg14) = m ((c.tc : Thread Cert.Reference26Ideal.nD Cert.Reference26Ideal.τ).loc Cert.Reference26Ideal.main_arg14)
      ∧ r.2.mem ((c.tc : Thread Cert.Reference26Ideal.nD Cert.Reference26Ideal.τ).loc Cert.Reference26Ideal.main_arg15) = m ((c.tc : Thread Cert.Reference26Ideal.nD Cert.Reference26Ideal.τ).loc Cert.Reference26Ideal.main_arg15)
      ∧ r.2.mem ((c.tc : Thread Cert.Reference26Ideal.nD Cert.Reference26Ideal.τ).loc Cert.Reference26Ideal.main_arg16) = m ((c.tc : Thread Cert.Reference26Ideal.nD Cert.Reference26Ideal.τ).loc Cert.Reference26Ideal.main_arg16)
      ∧ r.2.mem ((c.tc : Thread Cert.Reference26Ideal.nD Cert.Reference26Ideal.τ).loc Cert.Reference26Ideal.main_arg17) = m ((c.tc : Thread Cert.Reference26Ideal.nD Cert.Reference26Ideal.τ).loc Cert.Reference26Ideal.main_arg17)
      ∧ r.2.mem ((c.tc : Thread Cert.Reference26Ideal.nD Cert.Reference26Ideal.τ).loc Cert.Reference26Ideal.main_arg18) = m ((c.tc : Thread Cert.Reference26Ideal.nD Cert.Reference26Ideal.τ).loc Cert.Reference26Ideal.main_arg18)
      ∧ r.2.mem ((c.tc : Thread Cert.Reference26Ideal.nD Cert.Reference26Ideal.τ).loc Cert.Reference26Ideal.main_arg19) = m ((c.tc : Thread Cert.Reference26Ideal.nD Cert.Reference26Ideal.τ).loc Cert.Reference26Ideal.main_arg19)
      ∧ r.2.mem ((c.tc : Thread Cert.Reference26Ideal.nD Cert.Reference26Ideal.τ).loc Cert.Reference26Ideal.main_arg20) = m ((c.tc : Thread Cert.Reference26Ideal.nD Cert.Reference26Ideal.τ).loc Cert.Reference26Ideal.main_arg20)
      ∧ r.2.mem ((c.tc : Thread Cert.Reference26Ideal.nD Cert.Reference26Ideal.τ).loc Cert.Reference26Ideal.main_arg21) = m ((c.tc : Thread Cert.Reference26Ideal.nD Cert.Reference26Ideal.τ).loc Cert.Reference26Ideal.main_arg21)
      ∧ r.2.mem ((c.tc : Thread Cert.Reference26Ideal.nD Cert.Reference26Ideal.τ).loc Cert.Reference26Ideal.main_arg22) = m ((c.tc : Thread Cert.Reference26Ideal.nD Cert.Reference26Ideal.τ).loc Cert.Reference26Ideal.main_arg22)
      ∧ r.2.mem ((c.tc : Thread Cert.Reference26Ideal.nD Cert.Reference26Ideal.τ).loc Cert.Reference26Ideal.main_arg23) = m ((c.tc : Thread Cert.Reference26Ideal.nD Cert.Reference26Ideal.τ).loc Cert.Reference26Ideal.main_arg23)
      ∧ r.2.mem ((c.tc : Thread Cert.Reference26Ideal.nD Cert.Reference26Ideal.τ).loc Cert.Reference26Ideal.main_arg24) = m ((c.tc : Thread Cert.Reference26Ideal.nD Cert.Reference26Ideal.τ).loc Cert.Reference26Ideal.main_arg24)
      ∧ r.2.mem ((c.tc : Thread Cert.Reference26Ideal.nD Cert.Reference26Ideal.τ).loc Cert.Reference26Ideal.main_arg25) = m ((c.tc : Thread Cert.Reference26Ideal.nD Cert.Reference26Ideal.τ).loc Cert.Reference26Ideal.main_arg25)
      ∧ r.2.mem ((c.tc : Thread Cert.Reference26Ideal.nD Cert.Reference26Ideal.τ).loc Cert.Reference26Ideal.main_arg26) = m ((c.tc : Thread Cert.Reference26Ideal.nD Cert.Reference26Ideal.τ).loc Cert.Reference26Ideal.main_arg26)
      ∧ r.2.mem ((c.tc : Thread Cert.Reference26Ideal.nD Cert.Reference26Ideal.τ).loc Cert.Reference26Ideal.main_arg27) = m ((c.tc : Thread Cert.Reference26Ideal.nD Cert.Reference26Ideal.τ).loc Cert.Reference26Ideal.main_arg27)
      ∧ r.2.mem ((c.tc : Thread Cert.Reference26Ideal.nD Cert.Reference26Ideal.τ).loc Cert.Reference26Ideal.main_arg28) = m ((c.tc : Thread Cert.Reference26Ideal.nD Cert.Reference26Ideal.τ).loc Cert.Reference26Ideal.main_arg28)
      ∧ r.2.mem ((c.tc : Thread Cert.Reference26Ideal.nD Cert.Reference26Ideal.τ).loc Cert.Reference26Ideal.main_arg29) = m ((c.tc : Thread Cert.Reference26Ideal.nD Cert.Reference26Ideal.τ).loc Cert.Reference26Ideal.main_arg29)
      ∧ r.2.mem ((c.tc : Thread Cert.Reference26Ideal.nD Cert.Reference26Ideal.τ).loc Cert.Reference26Ideal.main_arg30) = m ((c.tc : Thread Cert.Reference26Ideal.nD Cert.Reference26Ideal.τ).loc Cert.Reference26Ideal.main_arg30)
      ∧ r.2.mem ((c.tc : Thread Cert.Reference26Ideal.nD Cert.Reference26Ideal.τ).loc Cert.Reference26Ideal.main_arg31) = m ((c.tc : Thread Cert.Reference26Ideal.nD Cert.Reference26Ideal.τ).loc Cert.Reference26Ideal.main_arg31)
      ∧ r.2.mem ((c.tc : Thread Cert.Reference26Ideal.nD Cert.Reference26Ideal.τ).loc Cert.Reference26Ideal.main_arg32) = m ((c.tc : Thread Cert.Reference26Ideal.nD Cert.Reference26Ideal.τ).loc Cert.Reference26Ideal.main_arg32)
      ∧ r.2.mem ((c.tc : Thread Cert.Reference26Ideal.nD Cert.Reference26Ideal.τ).loc Cert.Reference26Ideal.main_arg33) = m ((c.tc : Thread Cert.Reference26Ideal.nD Cert.Reference26Ideal.τ).loc Cert.Reference26Ideal.main_arg33)
      ∧ r.2.mem ((c.tc : Thread Cert.Reference26Ideal.nD Cert.Reference26Ideal.τ).loc Cert.Reference26Ideal.main_arg34) = m ((c.tc : Thread Cert.Reference26Ideal.nD Cert.Reference26Ideal.τ).loc Cert.Reference26Ideal.main_arg34)
      ∧ r.2.mem ((c.tc : Thread Cert.Reference26Ideal.nD Cert.Reference26Ideal.τ).loc Cert.Reference26Ideal.main_arg35) = m ((c.tc : Thread Cert.Reference26Ideal.nD Cert.Reference26Ideal.τ).loc Cert.Reference26Ideal.main_arg35)
      ∧ r.2.mem ((c.tc : Thread Cert.Reference26Ideal.nD Cert.Reference26Ideal.τ).loc Cert.Reference26Ideal.main_arg36) = m ((c.tc : Thread Cert.Reference26Ideal.nD Cert.Reference26Ideal.τ).loc Cert.Reference26Ideal.main_arg36)
      ∧ r.2.mem ((c.tc : Thread Cert.Reference26Ideal.nD Cert.Reference26Ideal.τ).loc Cert.Reference26Ideal.main_arg37) = m ((c.tc : Thread Cert.Reference26Ideal.nD Cert.Reference26Ideal.τ).loc Cert.Reference26Ideal.main_arg37)
      ∧ r.2.mem ((c.tc : Thread Cert.Reference26Ideal.nD Cert.Reference26Ideal.τ).loc Cert.Reference26Ideal.main_arg38) = m ((c.tc : Thread Cert.Reference26Ideal.nD Cert.Reference26Ideal.τ).loc Cert.Reference26Ideal.main_arg38)
      ∧ r.2.mem ((c.tc : Thread Cert.Reference26Ideal.nD Cert.Reference26Ideal.τ).loc Cert.Reference26Ideal.main_arg39) = m ((c.tc : Thread Cert.Reference26Ideal.nD Cert.Reference26Ideal.τ).loc Cert.Reference26Ideal.main_arg39)
      ∧ r.2.mem ((c.tc : Thread Cert.Reference26Ideal.nD Cert.Reference26Ideal.τ).loc Cert.Reference26Ideal.main_arg40) = m ((c.tc : Thread Cert.Reference26Ideal.nD Cert.Reference26Ideal.τ).loc Cert.Reference26Ideal.main_arg40)
      ∧ r.2.mem ((c.tc : Thread Cert.Reference26Ideal.nD Cert.Reference26Ideal.τ).loc Cert.Reference26Ideal.main_arg41) = m ((c.tc : Thread Cert.Reference26Ideal.nD Cert.Reference26Ideal.τ).loc Cert.Reference26Ideal.main_arg41)
      ∧ r.2.mem ((c.tc : Thread Cert.Reference26Ideal.nD Cert.Reference26Ideal.τ).loc Cert.Reference26Ideal.main_arg42) = m ((c.tc : Thread Cert.Reference26Ideal.nD Cert.Reference26Ideal.τ).loc Cert.Reference26Ideal.main_arg42)
      ∧ r.2.mem ((c.tc : Thread Cert.Reference26Ideal.nD Cert.Reference26Ideal.τ).loc Cert.Reference26Ideal.main_arg43) = m ((c.tc : Thread Cert.Reference26Ideal.nD Cert.Reference26Ideal.τ).loc Cert.Reference26Ideal.main_arg43)
      ∧ r.2.mem ((c.tc : Thread Cert.Reference26Ideal.nD Cert.Reference26Ideal.τ).loc Cert.Reference26Ideal.main_arg44) = m ((c.tc : Thread Cert.Reference26Ideal.nD Cert.Reference26Ideal.τ).loc Cert.Reference26Ideal.main_arg44)
      ∧ r.2.mem ((c.tc : Thread Cert.Reference26Ideal.nD Cert.Reference26Ideal.τ).loc Cert.Reference26Ideal.main_arg45) = m ((c.tc : Thread Cert.Reference26Ideal.nD Cert.Reference26Ideal.τ).loc Cert.Reference26Ideal.main_arg45)
      ∧ r.2.mem ((c.tc : Thread Cert.Reference26Ideal.nD Cert.Reference26Ideal.τ).loc Cert.Reference26Ideal.main_arg46) = m ((c.tc : Thread Cert.Reference26Ideal.nD Cert.Reference26Ideal.τ).loc Cert.Reference26Ideal.main_arg46)
      ∧ r.2.mem ((c.tc : Thread Cert.Reference26Ideal.nD Cert.Reference26Ideal.τ).loc Cert.Reference26Ideal.main_arg47) = m ((c.tc : Thread Cert.Reference26Ideal.nD Cert.Reference26Ideal.τ).loc Cert.Reference26Ideal.main_arg47)
      ∧ r.2.mem ((c.tc : Thread Cert.Reference26Ideal.nD Cert.Reference26Ideal.τ).loc Cert.Reference26Ideal.main_arg48) = m ((c.tc : Thread Cert.Reference26Ideal.nD Cert.Reference26Ideal.τ).loc Cert.Reference26Ideal.main_arg48)
      ∧ r.2.mem ((c.tc : Thread Cert.Reference26Ideal.nD Cert.Reference26Ideal.τ).loc Cert.Reference26Ideal.main_arg49) = m ((c.tc : Thread Cert.Reference26Ideal.nD Cert.Reference26Ideal.τ).loc Cert.Reference26Ideal.main_arg49)
      ∧ r.2.mem ((c.tc : Thread Cert.Reference26Ideal.nD Cert.Reference26Ideal.τ).loc Cert.Reference26Ideal.main_arg50) = m ((c.tc : Thread Cert.Reference26Ideal.nD Cert.Reference26Ideal.τ).loc Cert.Reference26Ideal.main_arg50)
      ∧ r.2.mem ((c.tc : Thread Cert.Reference26Ideal.nD Cert.Reference26Ideal.τ).loc Cert.Reference26Ideal.main_arg51) = m ((c.tc : Thread Cert.Reference26Ideal.nD Cert.Reference26Ideal.τ).loc Cert.Reference26Ideal.main_arg51))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_v11) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)) →
    ∃ (v0 : (c : Dev Cert.Kernel12Ideal.nD) → Buf (Elt Ideal) ((c.tc : Thread Cert.Kernel12Ideal.nD Cert.Kernel12Ideal.τ).loc Cert.Kernel12Ideal.main_v8)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v32) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10))

def preserves_Kernel13_Kernel13Ideal : Prop :=
  True

def algebraic_Kernel13Ideal_Reference13Ideal_pre_cotangents_finite [hKernel13Ideal : Cert.Kernel13Ideal.Facts] [hReference13Ideal : Cert.Reference13Ideal.Facts] [hPre_cotangents_finite : Cert.Pre_cotangents_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_cotangents_finite m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v5_0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5_0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v282) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v10_0)) (v1 : (c : Dev Cert.Kernel15Ideal.nD) → Buf (Elt Ideal) ((c.tc : Thread Cert.Kernel15Ideal.nD Cert.Kernel15Ideal.τ).loc Cert.Kernel15Ideal.main_v10_1)) (v2 : (c : Dev Cert.Kernel15Ideal.nD) → Buf (Elt Ideal) ((c.tc : Thread Cert.Kernel15Ideal.nD Cert.Kernel15Ideal.τ).loc Cert.Kernel15Ideal.main_v10_2)) (v3 : (c : Dev Cert.Kernel15Ideal.nD) → Buf (Elt Ideal) ((c.tc : Thread Cert.Kernel15Ideal.nD Cert.Kernel15Ideal.τ).loc Cert.Kernel15Ideal.main_v10_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v10_0) = v0 c
          ∧ r.2.mem ((c.tc : Thread Cert.Kernel15Ideal.nD Cert.Kernel15Ideal.τ).loc Cert.Kernel15Ideal.main_v10_1) = v1 c
          ∧ r.2.mem ((c.tc : Thread Cert.Kernel15Ideal.nD Cert.Kernel15Ideal.τ).loc Cert.Kernel15Ideal.main_v10_2) = v2 c
          ∧ r.2.mem ((c.tc : Thread Cert.Kernel15Ideal.nD Cert.Kernel15Ideal.τ).loc Cert.Kernel15Ideal.main_v10_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v64) = v0 c
          ∧ r.2.mem ((c.tc : Thread Cert.Reference15Ideal.nD Cert.Reference15Ideal.τ).loc Cert.Reference15Ideal.main_v65) = v1 c
          ∧ r.2.mem ((c.tc : Thread Cert.Reference15Ideal.nD Cert.Reference15Ideal.τ).loc Cert.Reference15Ideal.main_v66) = v2 c
          ∧ r.2.mem ((c.tc : Thread Cert.Reference15Ideal.nD Cert.Reference15Ideal.τ).loc Cert.Reference15Ideal.main_v63) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v25_0)) (v1 : (c : Dev Cert.Kernel16Ideal.nD) → Buf (Elt Ideal) ((c.tc : Thread Cert.Kernel16Ideal.nD Cert.Kernel16Ideal.τ).loc Cert.Kernel16Ideal.main_v25_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v25_0) = v0 c
          ∧ r.2.mem ((c.tc : Thread Cert.Kernel16Ideal.nD Cert.Kernel16Ideal.τ).loc Cert.Kernel16Ideal.main_v25_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v196) = v0 c
          ∧ r.2.mem ((c.tc : Thread Cert.Reference16Ideal.nD Cert.Reference16Ideal.τ).loc Cert.Reference16Ideal.main_v197) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v7)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v7) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v26) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v6_0)) (v1 : (c : Dev Cert.Kernel18Ideal.nD) → Buf (Elt Ideal) ((c.tc : Thread Cert.Kernel18Ideal.nD Cert.Kernel18Ideal.τ).loc Cert.Kernel18Ideal.main_v6_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v6_0) = v0 c
          ∧ r.2.mem ((c.tc : Thread Cert.Kernel18Ideal.nD Cert.Kernel18Ideal.τ).loc Cert.Kernel18Ideal.main_v6_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v108) = v0 c
          ∧ r.2.mem ((c.tc : Thread Cert.Reference18Ideal.nD Cert.Reference18Ideal.τ).loc Cert.Reference18Ideal.main_v109) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v66) = v0 c
          ∧ r.2.mem ((c.tc : Thread Cert.Reference19Ideal.nD Cert.Reference19Ideal.τ).loc Cert.Reference19Ideal.main_v68) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)) →
    ∃ (v0 : (c : Dev Cert.Kernel25Ideal.nD) → Buf (Elt Ideal) ((c.tc : Thread Cert.Kernel25Ideal.nD Cert.Kernel25Ideal.τ).loc Cert.Kernel25Ideal.main_v29_0)) (v1 : (c : Dev Cert.Kernel25Ideal.nD) → Buf (Elt Ideal) ((c.tc : Thread Cert.Kernel25Ideal.nD Cert.Kernel25Ideal.τ).loc Cert.Kernel25Ideal.main_v29_1)) (v2 : (c : Dev Cert.Kernel25Ideal.nD) → Buf (Elt Ideal) ((c.tc : Thread Cert.Kernel25Ideal.nD Cert.Kernel25Ideal.τ).loc Cert.Kernel25Ideal.main_v29_2)) (v3 : (c : Dev Cert.Kernel25Ideal.nD) → Buf (Elt Ideal) ((c.tc : Thread Cert.Kernel25Ideal.nD Cert.Kernel25Ideal.τ).loc Cert.Kernel25Ideal.main_v29_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v29_0) = v0 c
          ∧ r.2.mem ((c.tc : Thread Cert.Kernel25Ideal.nD Cert.Kernel25Ideal.τ).loc Cert.Kernel25Ideal.main_v29_1) = v1 c
          ∧ r.2.mem ((c.tc : Thread Cert.Kernel25Ideal.nD Cert.Kernel25Ideal.τ).loc Cert.Kernel25Ideal.main_v29_2) = v2 c
          ∧ r.2.mem ((c.tc : Thread Cert.Kernel25Ideal.nD Cert.Kernel25Ideal.τ).loc Cert.Kernel25Ideal.main_v29_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v54) = v0 c
          ∧ r.2.mem ((c.tc : Thread Cert.Reference25Ideal.nD Cert.Reference25Ideal.τ).loc Cert.Reference25Ideal.main_v109) = v1 c
          ∧ r.2.mem ((c.tc : Thread Cert.Reference25Ideal.nD Cert.Reference25Ideal.τ).loc Cert.Reference25Ideal.main_v110) = v2 c
          ∧ r.2.mem ((c.tc : Thread Cert.Reference25Ideal.nD Cert.Reference25Ideal.τ).loc Cert.Reference25Ideal.main_v111) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)
      ∧ m' ((c.tc : Thread Cert.Reference26Ideal.nD Cert.Reference26Ideal.τ).loc Cert.Reference26Ideal.main_arg7) = m ((c.tc : Thread Cert.Kernel26Ideal.nD Cert.Kernel26Ideal.τ).loc Cert.Kernel26Ideal.main_arg7)
      ∧ m' ((c.tc : Thread Cert.Reference26Ideal.nD Cert.Reference26Ideal.τ).loc Cert.Reference26Ideal.main_arg8) = m ((c.tc : Thread Cert.Kernel26Ideal.nD Cert.Kernel26Ideal.τ).loc Cert.Kernel26Ideal.main_arg8)
      ∧ m' ((c.tc : Thread Cert.Reference26Ideal.nD Cert.Reference26Ideal.τ).loc Cert.Reference26Ideal.main_arg9) = m ((c.tc : Thread Cert.Kernel26Ideal.nD Cert.Kernel26Ideal.τ).loc Cert.Kernel26Ideal.main_arg9)
      ∧ m' ((c.tc : Thread Cert.Reference26Ideal.nD Cert.Reference26Ideal.τ).loc Cert.Reference26Ideal.main_arg10) = m ((c.tc : Thread Cert.Kernel26Ideal.nD Cert.Kernel26Ideal.τ).loc Cert.Kernel26Ideal.main_arg10)
      ∧ m' ((c.tc : Thread Cert.Reference26Ideal.nD Cert.Reference26Ideal.τ).loc Cert.Reference26Ideal.main_arg11) = m ((c.tc : Thread Cert.Kernel26Ideal.nD Cert.Kernel26Ideal.τ).loc Cert.Kernel26Ideal.main_arg11)
      ∧ m' ((c.tc : Thread Cert.Reference26Ideal.nD Cert.Reference26Ideal.τ).loc Cert.Reference26Ideal.main_arg12) = m ((c.tc : Thread Cert.Kernel26Ideal.nD Cert.Kernel26Ideal.τ).loc Cert.Kernel26Ideal.main_arg12)
      ∧ m' ((c.tc : Thread Cert.Reference26Ideal.nD Cert.Reference26Ideal.τ).loc Cert.Reference26Ideal.main_arg13) = m ((c.tc : Thread Cert.Kernel26Ideal.nD Cert.Kernel26Ideal.τ).loc Cert.Kernel26Ideal.main_arg13)
      ∧ m' ((c.tc : Thread Cert.Reference26Ideal.nD Cert.Reference26Ideal.τ).loc Cert.Reference26Ideal.main_arg14) = m ((c.tc : Thread Cert.Kernel26Ideal.nD Cert.Kernel26Ideal.τ).loc Cert.Kernel26Ideal.main_arg14)
      ∧ m' ((c.tc : Thread Cert.Reference26Ideal.nD Cert.Reference26Ideal.τ).loc Cert.Reference26Ideal.main_arg15) = m ((c.tc : Thread Cert.Kernel26Ideal.nD Cert.Kernel26Ideal.τ).loc Cert.Kernel26Ideal.main_arg15)
      ∧ m' ((c.tc : Thread Cert.Reference26Ideal.nD Cert.Reference26Ideal.τ).loc Cert.Reference26Ideal.main_arg16) = m ((c.tc : Thread Cert.Kernel26Ideal.nD Cert.Kernel26Ideal.τ).loc Cert.Kernel26Ideal.main_arg16)
      ∧ m' ((c.tc : Thread Cert.Reference26Ideal.nD Cert.Reference26Ideal.τ).loc Cert.Reference26Ideal.main_arg17) = m ((c.tc : Thread Cert.Kernel26Ideal.nD Cert.Kernel26Ideal.τ).loc Cert.Kernel26Ideal.main_arg17)
      ∧ m' ((c.tc : Thread Cert.Reference26Ideal.nD Cert.Reference26Ideal.τ).loc Cert.Reference26Ideal.main_arg18) = m ((c.tc : Thread Cert.Kernel26Ideal.nD Cert.Kernel26Ideal.τ).loc Cert.Kernel26Ideal.main_arg18)
      ∧ m' ((c.tc : Thread Cert.Reference26Ideal.nD Cert.Reference26Ideal.τ).loc Cert.Reference26Ideal.main_arg19) = m ((c.tc : Thread Cert.Kernel26Ideal.nD Cert.Kernel26Ideal.τ).loc Cert.Kernel26Ideal.main_arg19)
      ∧ m' ((c.tc : Thread Cert.Reference26Ideal.nD Cert.Reference26Ideal.τ).loc Cert.Reference26Ideal.main_arg20) = m ((c.tc : Thread Cert.Kernel26Ideal.nD Cert.Kernel26Ideal.τ).loc Cert.Kernel26Ideal.main_arg20)
      ∧ m' ((c.tc : Thread Cert.Reference26Ideal.nD Cert.Reference26Ideal.τ).loc Cert.Reference26Ideal.main_arg21) = m ((c.tc : Thread Cert.Kernel26Ideal.nD Cert.Kernel26Ideal.τ).loc Cert.Kernel26Ideal.main_arg21)
      ∧ m' ((c.tc : Thread Cert.Reference26Ideal.nD Cert.Reference26Ideal.τ).loc Cert.Reference26Ideal.main_arg22) = m ((c.tc : Thread Cert.Kernel26Ideal.nD Cert.Kernel26Ideal.τ).loc Cert.Kernel26Ideal.main_arg22)
      ∧ m' ((c.tc : Thread Cert.Reference26Ideal.nD Cert.Reference26Ideal.τ).loc Cert.Reference26Ideal.main_arg23) = m ((c.tc : Thread Cert.Kernel26Ideal.nD Cert.Kernel26Ideal.τ).loc Cert.Kernel26Ideal.main_arg23)
      ∧ m' ((c.tc : Thread Cert.Reference26Ideal.nD Cert.Reference26Ideal.τ).loc Cert.Reference26Ideal.main_arg24) = m ((c.tc : Thread Cert.Kernel26Ideal.nD Cert.Kernel26Ideal.τ).loc Cert.Kernel26Ideal.main_arg24)
      ∧ m' ((c.tc : Thread Cert.Reference26Ideal.nD Cert.Reference26Ideal.τ).loc Cert.Reference26Ideal.main_arg25) = m ((c.tc : Thread Cert.Kernel26Ideal.nD Cert.Kernel26Ideal.τ).loc Cert.Kernel26Ideal.main_arg25)
      ∧ m' ((c.tc : Thread Cert.Reference26Ideal.nD Cert.Reference26Ideal.τ).loc Cert.Reference26Ideal.main_arg26) = m ((c.tc : Thread Cert.Kernel26Ideal.nD Cert.Kernel26Ideal.τ).loc Cert.Kernel26Ideal.main_arg26)
      ∧ m' ((c.tc : Thread Cert.Reference26Ideal.nD Cert.Reference26Ideal.τ).loc Cert.Reference26Ideal.main_arg27) = m ((c.tc : Thread Cert.Kernel26Ideal.nD Cert.Kernel26Ideal.τ).loc Cert.Kernel26Ideal.main_arg27)
      ∧ m' ((c.tc : Thread Cert.Reference26Ideal.nD Cert.Reference26Ideal.τ).loc Cert.Reference26Ideal.main_arg28) = m ((c.tc : Thread Cert.Kernel26Ideal.nD Cert.Kernel26Ideal.τ).loc Cert.Kernel26Ideal.main_arg28)
      ∧ m' ((c.tc : Thread Cert.Reference26Ideal.nD Cert.Reference26Ideal.τ).loc Cert.Reference26Ideal.main_arg29) = m ((c.tc : Thread Cert.Kernel26Ideal.nD Cert.Kernel26Ideal.τ).loc Cert.Kernel26Ideal.main_arg29)
      ∧ m' ((c.tc : Thread Cert.Reference26Ideal.nD Cert.Reference26Ideal.τ).loc Cert.Reference26Ideal.main_arg30) = m ((c.tc : Thread Cert.Kernel26Ideal.nD Cert.Kernel26Ideal.τ).loc Cert.Kernel26Ideal.main_arg30)
      ∧ m' ((c.tc : Thread Cert.Reference26Ideal.nD Cert.Reference26Ideal.τ).loc Cert.Reference26Ideal.main_arg31) = m ((c.tc : Thread Cert.Kernel26Ideal.nD Cert.Kernel26Ideal.τ).loc Cert.Kernel26Ideal.main_arg31)
      ∧ m' ((c.tc : Thread Cert.Reference26Ideal.nD Cert.Reference26Ideal.τ).loc Cert.Reference26Ideal.main_arg32) = m ((c.tc : Thread Cert.Kernel26Ideal.nD Cert.Kernel26Ideal.τ).loc Cert.Kernel26Ideal.main_arg32)
      ∧ m' ((c.tc : Thread Cert.Reference26Ideal.nD Cert.Reference26Ideal.τ).loc Cert.Reference26Ideal.main_arg33) = m ((c.tc : Thread Cert.Kernel26Ideal.nD Cert.Kernel26Ideal.τ).loc Cert.Kernel26Ideal.main_arg33)
      ∧ m' ((c.tc : Thread Cert.Reference26Ideal.nD Cert.Reference26Ideal.τ).loc Cert.Reference26Ideal.main_arg34) = m ((c.tc : Thread Cert.Kernel26Ideal.nD Cert.Kernel26Ideal.τ).loc Cert.Kernel26Ideal.main_arg34)
      ∧ m' ((c.tc : Thread Cert.Reference26Ideal.nD Cert.Reference26Ideal.τ).loc Cert.Reference26Ideal.main_arg35) = m ((c.tc : Thread Cert.Kernel26Ideal.nD Cert.Kernel26Ideal.τ).loc Cert.Kernel26Ideal.main_arg35)
      ∧ m' ((c.tc : Thread Cert.Reference26Ideal.nD Cert.Reference26Ideal.τ).loc Cert.Reference26Ideal.main_arg36) = m ((c.tc : Thread Cert.Kernel26Ideal.nD Cert.Kernel26Ideal.τ).loc Cert.Kernel26Ideal.main_arg36)
      ∧ m' ((c.tc : Thread Cert.Reference26Ideal.nD Cert.Reference26Ideal.τ).loc Cert.Reference26Ideal.main_arg37) = m ((c.tc : Thread Cert.Kernel26Ideal.nD Cert.Kernel26Ideal.τ).loc Cert.Kernel26Ideal.main_arg37)
      ∧ m' ((c.tc : Thread Cert.Reference26Ideal.nD Cert.Reference26Ideal.τ).loc Cert.Reference26Ideal.main_arg38) = m ((c.tc : Thread Cert.Kernel26Ideal.nD Cert.Kernel26Ideal.τ).loc Cert.Kernel26Ideal.main_arg38)
      ∧ m' ((c.tc : Thread Cert.Reference26Ideal.nD Cert.Reference26Ideal.τ).loc Cert.Reference26Ideal.main_arg39) = m ((c.tc : Thread Cert.Kernel26Ideal.nD Cert.Kernel26Ideal.τ).loc Cert.Kernel26Ideal.main_arg39)
      ∧ m' ((c.tc : Thread Cert.Reference26Ideal.nD Cert.Reference26Ideal.τ).loc Cert.Reference26Ideal.main_arg40) = m ((c.tc : Thread Cert.Kernel26Ideal.nD Cert.Kernel26Ideal.τ).loc Cert.Kernel26Ideal.main_arg40)
      ∧ m' ((c.tc : Thread Cert.Reference26Ideal.nD Cert.Reference26Ideal.τ).loc Cert.Reference26Ideal.main_arg41) = m ((c.tc : Thread Cert.Kernel26Ideal.nD Cert.Kernel26Ideal.τ).loc Cert.Kernel26Ideal.main_arg41)
      ∧ m' ((c.tc : Thread Cert.Reference26Ideal.nD Cert.Reference26Ideal.τ).loc Cert.Reference26Ideal.main_arg42) = m ((c.tc : Thread Cert.Kernel26Ideal.nD Cert.Kernel26Ideal.τ).loc Cert.Kernel26Ideal.main_arg42)
      ∧ m' ((c.tc : Thread Cert.Reference26Ideal.nD Cert.Reference26Ideal.τ).loc Cert.Reference26Ideal.main_arg43) = m ((c.tc : Thread Cert.Kernel26Ideal.nD Cert.Kernel26Ideal.τ).loc Cert.Kernel26Ideal.main_arg43)
      ∧ m' ((c.tc : Thread Cert.Reference26Ideal.nD Cert.Reference26Ideal.τ).loc Cert.Reference26Ideal.main_arg44) = m ((c.tc : Thread Cert.Kernel26Ideal.nD Cert.Kernel26Ideal.τ).loc Cert.Kernel26Ideal.main_arg44)
      ∧ m' ((c.tc : Thread Cert.Reference26Ideal.nD Cert.Reference26Ideal.τ).loc Cert.Reference26Ideal.main_arg45) = m ((c.tc : Thread Cert.Kernel26Ideal.nD Cert.Kernel26Ideal.τ).loc Cert.Kernel26Ideal.main_arg45)
      ∧ m' ((c.tc : Thread Cert.Reference26Ideal.nD Cert.Reference26Ideal.τ).loc Cert.Reference26Ideal.main_arg46) = m ((c.tc : Thread Cert.Kernel26Ideal.nD Cert.Kernel26Ideal.τ).loc Cert.Kernel26Ideal.main_arg46)
      ∧ m' ((c.tc : Thread Cert.Reference26Ideal.nD Cert.Reference26Ideal.τ).loc Cert.Reference26Ideal.main_arg47) = m ((c.tc : Thread Cert.Kernel26Ideal.nD Cert.Kernel26Ideal.τ).loc Cert.Kernel26Ideal.main_arg47)
      ∧ m' ((c.tc : Thread Cert.Reference26Ideal.nD Cert.Reference26Ideal.τ).loc Cert.Reference26Ideal.main_arg48) = m ((c.tc : Thread Cert.Kernel26Ideal.nD Cert.Kernel26Ideal.τ).loc Cert.Kernel26Ideal.main_arg48)
      ∧ m' ((c.tc : Thread Cert.Reference26Ideal.nD Cert.Reference26Ideal.τ).loc Cert.Reference26Ideal.main_arg49) = m ((c.tc : Thread Cert.Kernel26Ideal.nD Cert.Kernel26Ideal.τ).loc Cert.Kernel26Ideal.main_arg49)
      ∧ m' ((c.tc : Thread Cert.Reference26Ideal.nD Cert.Reference26Ideal.τ).loc Cert.Reference26Ideal.main_arg50) = m ((c.tc : Thread Cert.Kernel26Ideal.nD Cert.Kernel26Ideal.τ).loc Cert.Kernel26Ideal.main_arg50)
      ∧ m' ((c.tc : Thread Cert.Reference26Ideal.nD Cert.Reference26Ideal.τ).loc Cert.Reference26Ideal.main_arg51) = m ((c.tc : Thread Cert.Kernel26Ideal.nD Cert.Kernel26Ideal.τ).loc Cert.Kernel26Ideal.main_arg51)) →
    ∃ (v0 : (c : Dev Cert.Kernel26Ideal.nD) → Buf (Elt Ideal) ((c.tc : Thread Cert.Kernel26Ideal.nD Cert.Kernel26Ideal.τ).loc Cert.Kernel26Ideal.main_v63)) (v1 : (c : Dev Cert.Kernel26Ideal.nD) → Buf (Elt Ideal) ((c.tc : Thread Cert.Kernel26Ideal.nD Cert.Kernel26Ideal.τ).loc Cert.Kernel26Ideal.main_v65)) (v2 : (c : Dev Cert.Kernel26Ideal.nD) → Buf (Elt Ideal) ((c.tc : Thread Cert.Kernel26Ideal.nD Cert.Kernel26Ideal.τ).loc Cert.Kernel26Ideal.main_v67)) (v3 : (c : Dev Cert.Kernel26Ideal.nD) → Buf (Elt Ideal) ((c.tc : Thread Cert.Kernel26Ideal.nD Cert.Kernel26Ideal.τ).loc Cert.Kernel26Ideal.main_v69)) (v4 : (c : Dev Cert.Kernel26Ideal.nD) → Buf (Elt Ideal) ((c.tc : Thread Cert.Kernel26Ideal.nD Cert.Kernel26Ideal.τ).loc Cert.Kernel26Ideal.main_v71)) (v5 : (c : Dev Cert.Kernel26Ideal.nD) → Buf (Elt Ideal) ((c.tc : Thread Cert.Kernel26Ideal.nD Cert.Kernel26Ideal.τ).loc Cert.Kernel26Ideal.main_v73)) (v6 : (c : Dev Cert.Kernel26Ideal.nD) → Buf (Elt Ideal) ((c.tc : Thread Cert.Kernel26Ideal.nD Cert.Kernel26Ideal.τ).loc Cert.Kernel26Ideal.main_v75)) (v7 : (c : Dev Cert.Kernel26Ideal.nD) → Buf (Elt Ideal) ((c.tc : Thread Cert.Kernel26Ideal.nD Cert.Kernel26Ideal.τ).loc Cert.Kernel26Ideal.main_v77)) (v8 : (c : Dev Cert.Kernel26Ideal.nD) → Buf (Elt Ideal) ((c.tc : Thread Cert.Kernel26Ideal.nD Cert.Kernel26Ideal.τ).loc Cert.Kernel26Ideal.main_v79)) (v9 : (c : Dev Cert.Kernel26Ideal.nD) → Buf (Elt Ideal) ((c.tc : Thread Cert.Kernel26Ideal.nD Cert.Kernel26Ideal.τ).loc Cert.Kernel26Ideal.main_v81)) (v10 : (c : Dev Cert.Kernel26Ideal.nD) → Buf (Elt Ideal) ((c.tc : Thread Cert.Kernel26Ideal.nD Cert.Kernel26Ideal.τ).loc Cert.Kernel26Ideal.main_v83)) (v11 : (c : Dev Cert.Kernel26Ideal.nD) → Buf (Elt Ideal) ((c.tc : Thread Cert.Kernel26Ideal.nD Cert.Kernel26Ideal.τ).loc Cert.Kernel26Ideal.main_v85)) (v12 : (c : Dev Cert.Kernel26Ideal.nD) → Buf (Elt Ideal) ((c.tc : Thread Cert.Kernel26Ideal.nD Cert.Kernel26Ideal.τ).loc Cert.Kernel26Ideal.main_v86)) (v13 : (c : Dev Cert.Kernel26Ideal.nD) → Buf (Elt Ideal) ((c.tc : Thread Cert.Kernel26Ideal.nD Cert.Kernel26Ideal.τ).loc Cert.Kernel26Ideal.main_v89)) (v14 : (c : Dev Cert.Kernel26Ideal.nD) → Buf (Elt Ideal) ((c.tc : Thread Cert.Kernel26Ideal.nD Cert.Kernel26Ideal.τ).loc Cert.Kernel26Ideal.main_v91)) (v15 : (c : Dev Cert.Kernel26Ideal.nD) → Buf (Elt Ideal) ((c.tc : Thread Cert.Kernel26Ideal.nD Cert.Kernel26Ideal.τ).loc Cert.Kernel26Ideal.main_v93)) (v16 : (c : Dev Cert.Kernel26Ideal.nD) → Buf (Elt Ideal) ((c.tc : Thread Cert.Kernel26Ideal.nD Cert.Kernel26Ideal.τ).loc Cert.Kernel26Ideal.main_v95)) (v17 : (c : Dev Cert.Kernel26Ideal.nD) → Buf (Elt Ideal) ((c.tc : Thread Cert.Kernel26Ideal.nD Cert.Kernel26Ideal.τ).loc Cert.Kernel26Ideal.main_v97)) (v18 : (c : Dev Cert.Kernel26Ideal.nD) → Buf (Elt Ideal) ((c.tc : Thread Cert.Kernel26Ideal.nD Cert.Kernel26Ideal.τ).loc Cert.Kernel26Ideal.main_v99)) (v19 : (c : Dev Cert.Kernel26Ideal.nD) → Buf (Elt Ideal) ((c.tc : Thread Cert.Kernel26Ideal.nD Cert.Kernel26Ideal.τ).loc Cert.Kernel26Ideal.main_v101)) (v20 : (c : Dev Cert.Kernel26Ideal.nD) → Buf (Elt Ideal) ((c.tc : Thread Cert.Kernel26Ideal.nD Cert.Kernel26Ideal.τ).loc Cert.Kernel26Ideal.main_v103)) (v21 : (c : Dev Cert.Kernel26Ideal.nD) → Buf (Elt Ideal) ((c.tc : Thread Cert.Kernel26Ideal.nD Cert.Kernel26Ideal.τ).loc Cert.Kernel26Ideal.main_v105)) (v22 : (c : Dev Cert.Kernel26Ideal.nD) → Buf (Elt Ideal) ((c.tc : Thread Cert.Kernel26Ideal.nD Cert.Kernel26Ideal.τ).loc Cert.Kernel26Ideal.main_v107)) (v23 : (c : Dev Cert.Kernel26Ideal.nD) → Buf (Elt Ideal) ((c.tc : Thread Cert.Kernel26Ideal.nD Cert.Kernel26Ideal.τ).loc Cert.Kernel26Ideal.main_v109)) (v24 : (c : Dev Cert.Kernel26Ideal.nD) → Buf (Elt Ideal) ((c.tc : Thread Cert.Kernel26Ideal.nD Cert.Kernel26Ideal.τ).loc Cert.Kernel26Ideal.main_v111)) (v25 : (c : Dev Cert.Kernel26Ideal.nD) → Buf (Elt Ideal) ((c.tc : Thread Cert.Kernel26Ideal.nD Cert.Kernel26Ideal.τ).loc Cert.Kernel26Ideal.main_v112)) (v26 : (c : Dev Cert.Kernel26Ideal.nD) → Buf (Elt Ideal) ((c.tc : Thread Cert.Kernel26Ideal.nD Cert.Kernel26Ideal.τ).loc Cert.Kernel26Ideal.main_v115)) (v27 : (c : Dev Cert.Kernel26Ideal.nD) → Buf (Elt Ideal) ((c.tc : Thread Cert.Kernel26Ideal.nD Cert.Kernel26Ideal.τ).loc Cert.Kernel26Ideal.main_v117)) (v28 : (c : Dev Cert.Kernel26Ideal.nD) → Buf (Elt Ideal) ((c.tc : Thread Cert.Kernel26Ideal.nD Cert.Kernel26Ideal.τ).loc Cert.Kernel26Ideal.main_v119)) (v29 : (c : Dev Cert.Kernel26Ideal.nD) → Buf (Elt Ideal) ((c.tc : Thread Cert.Kernel26Ideal.nD Cert.Kernel26Ideal.τ).loc Cert.Kernel26Ideal.main_v121)) (v30 : (c : Dev Cert.Kernel26Ideal.nD) → Buf (Elt Ideal) ((c.tc : Thread Cert.Kernel26Ideal.nD Cert.Kernel26Ideal.τ).loc Cert.Kernel26Ideal.main_v123)) (v31 : (c : Dev Cert.Kernel26Ideal.nD) → Buf (Elt Ideal) ((c.tc : Thread Cert.Kernel26Ideal.nD Cert.Kernel26Ideal.τ).loc Cert.Kernel26Ideal.main_v125)) (v32 : (c : Dev Cert.Kernel26Ideal.nD) → Buf (Elt Ideal) ((c.tc : Thread Cert.Kernel26Ideal.nD Cert.Kernel26Ideal.τ).loc Cert.Kernel26Ideal.main_v127)) (v33 : (c : Dev Cert.Kernel26Ideal.nD) → Buf (Elt Ideal) ((c.tc : Thread Cert.Kernel26Ideal.nD Cert.Kernel26Ideal.τ).loc Cert.Kernel26Ideal.main_v129)) (v34 : (c : Dev Cert.Kernel26Ideal.nD) → Buf (Elt Ideal) ((c.tc : Thread Cert.Kernel26Ideal.nD Cert.Kernel26Ideal.τ).loc Cert.Kernel26Ideal.main_v131)) (v35 : (c : Dev Cert.Kernel26Ideal.nD) → Buf (Elt Ideal) ((c.tc : Thread Cert.Kernel26Ideal.nD Cert.Kernel26Ideal.τ).loc Cert.Kernel26Ideal.main_v133)) (v36 : (c : Dev Cert.Kernel26Ideal.nD) → Buf (Elt Ideal) ((c.tc : Thread Cert.Kernel26Ideal.nD Cert.Kernel26Ideal.τ).loc Cert.Kernel26Ideal.main_v135)) (v37 : (c : Dev Cert.Kernel26Ideal.nD) → Buf (Elt Ideal) ((c.tc : Thread Cert.Kernel26Ideal.nD Cert.Kernel26Ideal.τ).loc Cert.Kernel26Ideal.main_v137)) (v38 : (c : Dev Cert.Kernel26Ideal.nD) → Buf (Elt Ideal) ((c.tc : Thread Cert.Kernel26Ideal.nD Cert.Kernel26Ideal.τ).loc Cert.Kernel26Ideal.main_v138)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v63) = v0 c
          ∧ r.2.mem ((c.tc : Thread Cert.Kernel26Ideal.nD Cert.Kernel26Ideal.τ).loc Cert.Kernel26Ideal.main_v65) = v1 c
          ∧ r.2.mem ((c.tc : Thread Cert.Kernel26Ideal.nD Cert.Kernel26Ideal.τ).loc Cert.Kernel26Ideal.main_v67) = v2 c
          ∧ r.2.mem ((c.tc : Thread Cert.Kernel26Ideal.nD Cert.Kernel26Ideal.τ).loc Cert.Kernel26Ideal.main_v69) = v3 c
          ∧ r.2.mem ((c.tc : Thread Cert.Kernel26Ideal.nD Cert.Kernel26Ideal.τ).loc Cert.Kernel26Ideal.main_v71) = v4 c
          ∧ r.2.mem ((c.tc : Thread Cert.Kernel26Ideal.nD Cert.Kernel26Ideal.τ).loc Cert.Kernel26Ideal.main_v73) = v5 c
          ∧ r.2.mem ((c.tc : Thread Cert.Kernel26Ideal.nD Cert.Kernel26Ideal.τ).loc Cert.Kernel26Ideal.main_v75) = v6 c
          ∧ r.2.mem ((c.tc : Thread Cert.Kernel26Ideal.nD Cert.Kernel26Ideal.τ).loc Cert.Kernel26Ideal.main_v77) = v7 c
          ∧ r.2.mem ((c.tc : Thread Cert.Kernel26Ideal.nD Cert.Kernel26Ideal.τ).loc Cert.Kernel26Ideal.main_v79) = v8 c
          ∧ r.2.mem ((c.tc : Thread Cert.Kernel26Ideal.nD Cert.Kernel26Ideal.τ).loc Cert.Kernel26Ideal.main_v81) = v9 c
          ∧ r.2.mem ((c.tc : Thread Cert.Kernel26Ideal.nD Cert.Kernel26Ideal.τ).loc Cert.Kernel26Ideal.main_v83) = v10 c
          ∧ r.2.mem ((c.tc : Thread Cert.Kernel26Ideal.nD Cert.Kernel26Ideal.τ).loc Cert.Kernel26Ideal.main_v85) = v11 c
          ∧ r.2.mem ((c.tc : Thread Cert.Kernel26Ideal.nD Cert.Kernel26Ideal.τ).loc Cert.Kernel26Ideal.main_v86) = v12 c
          ∧ r.2.mem ((c.tc : Thread Cert.Kernel26Ideal.nD Cert.Kernel26Ideal.τ).loc Cert.Kernel26Ideal.main_v89) = v13 c
          ∧ r.2.mem ((c.tc : Thread Cert.Kernel26Ideal.nD Cert.Kernel26Ideal.τ).loc Cert.Kernel26Ideal.main_v91) = v14 c
          ∧ r.2.mem ((c.tc : Thread Cert.Kernel26Ideal.nD Cert.Kernel26Ideal.τ).loc Cert.Kernel26Ideal.main_v93) = v15 c
          ∧ r.2.mem ((c.tc : Thread Cert.Kernel26Ideal.nD Cert.Kernel26Ideal.τ).loc Cert.Kernel26Ideal.main_v95) = v16 c
          ∧ r.2.mem ((c.tc : Thread Cert.Kernel26Ideal.nD Cert.Kernel26Ideal.τ).loc Cert.Kernel26Ideal.main_v97) = v17 c
          ∧ r.2.mem ((c.tc : Thread Cert.Kernel26Ideal.nD Cert.Kernel26Ideal.τ).loc Cert.Kernel26Ideal.main_v99) = v18 c
          ∧ r.2.mem ((c.tc : Thread Cert.Kernel26Ideal.nD Cert.Kernel26Ideal.τ).loc Cert.Kernel26Ideal.main_v101) = v19 c
          ∧ r.2.mem ((c.tc : Thread Cert.Kernel26Ideal.nD Cert.Kernel26Ideal.τ).loc Cert.Kernel26Ideal.main_v103) = v20 c
          ∧ r.2.mem ((c.tc : Thread Cert.Kernel26Ideal.nD Cert.Kernel26Ideal.τ).loc Cert.Kernel26Ideal.main_v105) = v21 c
          ∧ r.2.mem ((c.tc : Thread Cert.Kernel26Ideal.nD Cert.Kernel26Ideal.τ).loc Cert.Kernel26Ideal.main_v107) = v22 c
          ∧ r.2.mem ((c.tc : Thread Cert.Kernel26Ideal.nD Cert.Kernel26Ideal.τ).loc Cert.Kernel26Ideal.main_v109) = v23 c
          ∧ r.2.mem ((c.tc : Thread Cert.Kernel26Ideal.nD Cert.Kernel26Ideal.τ).loc Cert.Kernel26Ideal.main_v111) = v24 c
          ∧ r.2.mem ((c.tc : Thread Cert.Kernel26Ideal.nD Cert.Kernel26Ideal.τ).loc Cert.Kernel26Ideal.main_v112) = v25 c
          ∧ r.2.mem ((c.tc : Thread Cert.Kernel26Ideal.nD Cert.Kernel26Ideal.τ).loc Cert.Kernel26Ideal.main_v115) = v26 c
          ∧ r.2.mem ((c.tc : Thread Cert.Kernel26Ideal.nD Cert.Kernel26Ideal.τ).loc Cert.Kernel26Ideal.main_v117) = v27 c
          ∧ r.2.mem ((c.tc : Thread Cert.Kernel26Ideal.nD Cert.Kernel26Ideal.τ).loc Cert.Kernel26Ideal.main_v119) = v28 c
          ∧ r.2.mem ((c.tc : Thread Cert.Kernel26Ideal.nD Cert.Kernel26Ideal.τ).loc Cert.Kernel26Ideal.main_v121) = v29 c
          ∧ r.2.mem ((c.tc : Thread Cert.Kernel26Ideal.nD Cert.Kernel26Ideal.τ).loc Cert.Kernel26Ideal.main_v123) = v30 c
          ∧ r.2.mem ((c.tc : Thread Cert.Kernel26Ideal.nD Cert.Kernel26Ideal.τ).loc Cert.Kernel26Ideal.main_v125) = v31 c
          ∧ r.2.mem ((c.tc : Thread Cert.Kernel26Ideal.nD Cert.Kernel26Ideal.τ).loc Cert.Kernel26Ideal.main_v127) = v32 c
          ∧ r.2.mem ((c.tc : Thread Cert.Kernel26Ideal.nD Cert.Kernel26Ideal.τ).loc Cert.Kernel26Ideal.main_v129) = v33 c
          ∧ r.2.mem ((c.tc : Thread Cert.Kernel26Ideal.nD Cert.Kernel26Ideal.τ).loc Cert.Kernel26Ideal.main_v131) = v34 c
          ∧ r.2.mem ((c.tc : Thread Cert.Kernel26Ideal.nD Cert.Kernel26Ideal.τ).loc Cert.Kernel26Ideal.main_v133) = v35 c
          ∧ r.2.mem ((c.tc : Thread Cert.Kernel26Ideal.nD Cert.Kernel26Ideal.τ).loc Cert.Kernel26Ideal.main_v135) = v36 c
          ∧ r.2.mem ((c.tc : Thread Cert.Kernel26Ideal.nD Cert.Kernel26Ideal.τ).loc Cert.Kernel26Ideal.main_v137) = v37 c
          ∧ r.2.mem ((c.tc : Thread Cert.Kernel26Ideal.nD Cert.Kernel26Ideal.τ).loc Cert.Kernel26Ideal.main_v138) = v38 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
          ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
          ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8)
          ∧ r.2.mem ((c.tc : Thread Cert.Kernel26Ideal.nD Cert.Kernel26Ideal.τ).loc Cert.Kernel26Ideal.main_arg9) = m ((c.tc : Thread Cert.Kernel26Ideal.nD Cert.Kernel26Ideal.τ).loc Cert.Kernel26Ideal.main_arg9)
          ∧ r.2.mem ((c.tc : Thread Cert.Kernel26Ideal.nD Cert.Kernel26Ideal.τ).loc Cert.Kernel26Ideal.main_arg10) = m ((c.tc : Thread Cert.Kernel26Ideal.nD Cert.Kernel26Ideal.τ).loc Cert.Kernel26Ideal.main_arg10)
          ∧ r.2.mem ((c.tc : Thread Cert.Kernel26Ideal.nD Cert.Kernel26Ideal.τ).loc Cert.Kernel26Ideal.main_arg11) = m ((c.tc : Thread Cert.Kernel26Ideal.nD Cert.Kernel26Ideal.τ).loc Cert.Kernel26Ideal.main_arg11)
          ∧ r.2.mem ((c.tc : Thread Cert.Kernel26Ideal.nD Cert.Kernel26Ideal.τ).loc Cert.Kernel26Ideal.main_arg12) = m ((c.tc : Thread Cert.Kernel26Ideal.nD Cert.Kernel26Ideal.τ).loc Cert.Kernel26Ideal.main_arg12)
          ∧ r.2.mem ((c.tc : Thread Cert.Kernel26Ideal.nD Cert.Kernel26Ideal.τ).loc Cert.Kernel26Ideal.main_arg13) = m ((c.tc : Thread Cert.Kernel26Ideal.nD Cert.Kernel26Ideal.τ).loc Cert.Kernel26Ideal.main_arg13)
          ∧ r.2.mem ((c.tc : Thread Cert.Kernel26Ideal.nD Cert.Kernel26Ideal.τ).loc Cert.Kernel26Ideal.main_arg14) = m ((c.tc : Thread Cert.Kernel26Ideal.nD Cert.Kernel26Ideal.τ).loc Cert.Kernel26Ideal.main_arg14)
          ∧ r.2.mem ((c.tc : Thread Cert.Kernel26Ideal.nD Cert.Kernel26Ideal.τ).loc Cert.Kernel26Ideal.main_arg15) = m ((c.tc : Thread Cert.Kernel26Ideal.nD Cert.Kernel26Ideal.τ).loc Cert.Kernel26Ideal.main_arg15)
          ∧ r.2.mem ((c.tc : Thread Cert.Kernel26Ideal.nD Cert.Kernel26Ideal.τ).loc Cert.Kernel26Ideal.main_arg16) = m ((c.tc : Thread Cert.Kernel26Ideal.nD Cert.Kernel26Ideal.τ).loc Cert.Kernel26Ideal.main_arg16)
          ∧ r.2.mem ((c.tc : Thread Cert.Kernel26Ideal.nD Cert.Kernel26Ideal.τ).loc Cert.Kernel26Ideal.main_arg17) = m ((c.tc : Thread Cert.Kernel26Ideal.nD Cert.Kernel26Ideal.τ).loc Cert.Kernel26Ideal.main_arg17)
          ∧ r.2.mem ((c.tc : Thread Cert.Kernel26Ideal.nD Cert.Kernel26Ideal.τ).loc Cert.Kernel26Ideal.main_arg18) = m ((c.tc : Thread Cert.Kernel26Ideal.nD Cert.Kernel26Ideal.τ).loc Cert.Kernel26Ideal.main_arg18)
          ∧ r.2.mem ((c.tc : Thread Cert.Kernel26Ideal.nD Cert.Kernel26Ideal.τ).loc Cert.Kernel26Ideal.main_arg19) = m ((c.tc : Thread Cert.Kernel26Ideal.nD Cert.Kernel26Ideal.τ).loc Cert.Kernel26Ideal.main_arg19)
          ∧ r.2.mem ((c.tc : Thread Cert.Kernel26Ideal.nD Cert.Kernel26Ideal.τ).loc Cert.Kernel26Ideal.main_arg20) = m ((c.tc : Thread Cert.Kernel26Ideal.nD Cert.Kernel26Ideal.τ).loc Cert.Kernel26Ideal.main_arg20)
          ∧ r.2.mem ((c.tc : Thread Cert.Kernel26Ideal.nD Cert.Kernel26Ideal.τ).loc Cert.Kernel26Ideal.main_arg21) = m ((c.tc : Thread Cert.Kernel26Ideal.nD Cert.Kernel26Ideal.τ).loc Cert.Kernel26Ideal.main_arg21)
          ∧ r.2.mem ((c.tc : Thread Cert.Kernel26Ideal.nD Cert.Kernel26Ideal.τ).loc Cert.Kernel26Ideal.main_arg22) = m ((c.tc : Thread Cert.Kernel26Ideal.nD Cert.Kernel26Ideal.τ).loc Cert.Kernel26Ideal.main_arg22)
          ∧ r.2.mem ((c.tc : Thread Cert.Kernel26Ideal.nD Cert.Kernel26Ideal.τ).loc Cert.Kernel26Ideal.main_arg23) = m ((c.tc : Thread Cert.Kernel26Ideal.nD Cert.Kernel26Ideal.τ).loc Cert.Kernel26Ideal.main_arg23)
          ∧ r.2.mem ((c.tc : Thread Cert.Kernel26Ideal.nD Cert.Kernel26Ideal.τ).loc Cert.Kernel26Ideal.main_arg24) = m ((c.tc : Thread Cert.Kernel26Ideal.nD Cert.Kernel26Ideal.τ).loc Cert.Kernel26Ideal.main_arg24)
          ∧ r.2.mem ((c.tc : Thread Cert.Kernel26Ideal.nD Cert.Kernel26Ideal.τ).loc Cert.Kernel26Ideal.main_arg25) = m ((c.tc : Thread Cert.Kernel26Ideal.nD Cert.Kernel26Ideal.τ).loc Cert.Kernel26Ideal.main_arg25)
          ∧ r.2.mem ((c.tc : Thread Cert.Kernel26Ideal.nD Cert.Kernel26Ideal.τ).loc Cert.Kernel26Ideal.main_arg26) = m ((c.tc : Thread Cert.Kernel26Ideal.nD Cert.Kernel26Ideal.τ).loc Cert.Kernel26Ideal.main_arg26)
          ∧ r.2.mem ((c.tc : Thread Cert.Kernel26Ideal.nD Cert.Kernel26Ideal.τ).loc Cert.Kernel26Ideal.main_arg27) = m ((c.tc : Thread Cert.Kernel26Ideal.nD Cert.Kernel26Ideal.τ).loc Cert.Kernel26Ideal.main_arg27)
          ∧ r.2.mem ((c.tc : Thread Cert.Kernel26Ideal.nD Cert.Kernel26Ideal.τ).loc Cert.Kernel26Ideal.main_arg28) = m ((c.tc : Thread Cert.Kernel26Ideal.nD Cert.Kernel26Ideal.τ).loc Cert.Kernel26Ideal.main_arg28)
          ∧ r.2.mem ((c.tc : Thread Cert.Kernel26Ideal.nD Cert.Kernel26Ideal.τ).loc Cert.Kernel26Ideal.main_arg29) = m ((c.tc : Thread Cert.Kernel26Ideal.nD Cert.Kernel26Ideal.τ).loc Cert.Kernel26Ideal.main_arg29)
          ∧ r.2.mem ((c.tc : Thread Cert.Kernel26Ideal.nD Cert.Kernel26Ideal.τ).loc Cert.Kernel26Ideal.main_arg30) = m ((c.tc : Thread Cert.Kernel26Ideal.nD Cert.Kernel26Ideal.τ).loc Cert.Kernel26Ideal.main_arg30)
          ∧ r.2.mem ((c.tc : Thread Cert.Kernel26Ideal.nD Cert.Kernel26Ideal.τ).loc Cert.Kernel26Ideal.main_arg31) = m ((c.tc : Thread Cert.Kernel26Ideal.nD Cert.Kernel26Ideal.τ).loc Cert.Kernel26Ideal.main_arg31)
          ∧ r.2.mem ((c.tc : Thread Cert.Kernel26Ideal.nD Cert.Kernel26Ideal.τ).loc Cert.Kernel26Ideal.main_arg32) = m ((c.tc : Thread Cert.Kernel26Ideal.nD Cert.Kernel26Ideal.τ).loc Cert.Kernel26Ideal.main_arg32)
          ∧ r.2.mem ((c.tc : Thread Cert.Kernel26Ideal.nD Cert.Kernel26Ideal.τ).loc Cert.Kernel26Ideal.main_arg33) = m ((c.tc : Thread Cert.Kernel26Ideal.nD Cert.Kernel26Ideal.τ).loc Cert.Kernel26Ideal.main_arg33)
          ∧ r.2.mem ((c.tc : Thread Cert.Kernel26Ideal.nD Cert.Kernel26Ideal.τ).loc Cert.Kernel26Ideal.main_arg34) = m ((c.tc : Thread Cert.Kernel26Ideal.nD Cert.Kernel26Ideal.τ).loc Cert.Kernel26Ideal.main_arg34)
          ∧ r.2.mem ((c.tc : Thread Cert.Kernel26Ideal.nD Cert.Kernel26Ideal.τ).loc Cert.Kernel26Ideal.main_arg35) = m ((c.tc : Thread Cert.Kernel26Ideal.nD Cert.Kernel26Ideal.τ).loc Cert.Kernel26Ideal.main_arg35)
          ∧ r.2.mem ((c.tc : Thread Cert.Kernel26Ideal.nD Cert.Kernel26Ideal.τ).loc Cert.Kernel26Ideal.main_arg36) = m ((c.tc : Thread Cert.Kernel26Ideal.nD Cert.Kernel26Ideal.τ).loc Cert.Kernel26Ideal.main_arg36)
          ∧ r.2.mem ((c.tc : Thread Cert.Kernel26Ideal.nD Cert.Kernel26Ideal.τ).loc Cert.Kernel26Ideal.main_arg37) = m ((c.tc : Thread Cert.Kernel26Ideal.nD Cert.Kernel26Ideal.τ).loc Cert.Kernel26Ideal.main_arg37)
          ∧ r.2.mem ((c.tc : Thread Cert.Kernel26Ideal.nD Cert.Kernel26Ideal.τ).loc Cert.Kernel26Ideal.main_arg38) = m ((c.tc : Thread Cert.Kernel26Ideal.nD Cert.Kernel26Ideal.τ).loc Cert.Kernel26Ideal.main_arg38)
          ∧ r.2.mem ((c.tc : Thread Cert.Kernel26Ideal.nD Cert.Kernel26Ideal.τ).loc Cert.Kernel26Ideal.main_arg39) = m ((c.tc : Thread Cert.Kernel26Ideal.nD Cert.Kernel26Ideal.τ).loc Cert.Kernel26Ideal.main_arg39)
          ∧ r.2.mem ((c.tc : Thread Cert.Kernel26Ideal.nD Cert.Kernel26Ideal.τ).loc Cert.Kernel26Ideal.main_arg40) = m ((c.tc : Thread Cert.Kernel26Ideal.nD Cert.Kernel26Ideal.τ).loc Cert.Kernel26Ideal.main_arg40)
          ∧ r.2.mem ((c.tc : Thread Cert.Kernel26Ideal.nD Cert.Kernel26Ideal.τ).loc Cert.Kernel26Ideal.main_arg41) = m ((c.tc : Thread Cert.Kernel26Ideal.nD Cert.Kernel26Ideal.τ).loc Cert.Kernel26Ideal.main_arg41)
          ∧ r.2.mem ((c.tc : Thread Cert.Kernel26Ideal.nD Cert.Kernel26Ideal.τ).loc Cert.Kernel26Ideal.main_arg42) = m ((c.tc : Thread Cert.Kernel26Ideal.nD Cert.Kernel26Ideal.τ).loc Cert.Kernel26Ideal.main_arg42)
          ∧ r.2.mem ((c.tc : Thread Cert.Kernel26Ideal.nD Cert.Kernel26Ideal.τ).loc Cert.Kernel26Ideal.main_arg43) = m ((c.tc : Thread Cert.Kernel26Ideal.nD Cert.Kernel26Ideal.τ).loc Cert.Kernel26Ideal.main_arg43)
          ∧ r.2.mem ((c.tc : Thread Cert.Kernel26Ideal.nD Cert.Kernel26Ideal.τ).loc Cert.Kernel26Ideal.main_arg44) = m ((c.tc : Thread Cert.Kernel26Ideal.nD Cert.Kernel26Ideal.τ).loc Cert.Kernel26Ideal.main_arg44)
          ∧ r.2.mem ((c.tc : Thread Cert.Kernel26Ideal.nD Cert.Kernel26Ideal.τ).loc Cert.Kernel26Ideal.main_arg45) = m ((c.tc : Thread Cert.Kernel26Ideal.nD Cert.Kernel26Ideal.τ).loc Cert.Kernel26Ideal.main_arg45)
          ∧ r.2.mem ((c.tc : Thread Cert.Kernel26Ideal.nD Cert.Kernel26Ideal.τ).loc Cert.Kernel26Ideal.main_arg46) = m ((c.tc : Thread Cert.Kernel26Ideal.nD Cert.Kernel26Ideal.τ).loc Cert.Kernel26Ideal.main_arg46)
          ∧ r.2.mem ((c.tc : Thread Cert.Kernel26Ideal.nD Cert.Kernel26Ideal.τ).loc Cert.Kernel26Ideal.main_arg47) = m ((c.tc : Thread Cert.Kernel26Ideal.nD Cert.Kernel26Ideal.τ).loc Cert.Kernel26Ideal.main_arg47)
          ∧ r.2.mem ((c.tc : Thread Cert.Kernel26Ideal.nD Cert.Kernel26Ideal.τ).loc Cert.Kernel26Ideal.main_arg48) = m ((c.tc : Thread Cert.Kernel26Ideal.nD Cert.Kernel26Ideal.τ).loc Cert.Kernel26Ideal.main_arg48)
          ∧ r.2.mem ((c.tc : Thread Cert.Kernel26Ideal.nD Cert.Kernel26Ideal.τ).loc Cert.Kernel26Ideal.main_arg49) = m ((c.tc : Thread Cert.Kernel26Ideal.nD Cert.Kernel26Ideal.τ).loc Cert.Kernel26Ideal.main_arg49)
          ∧ r.2.mem ((c.tc : Thread Cert.Kernel26Ideal.nD Cert.Kernel26Ideal.τ).loc Cert.Kernel26Ideal.main_arg50) = m ((c.tc : Thread Cert.Kernel26Ideal.nD Cert.Kernel26Ideal.τ).loc Cert.Kernel26Ideal.main_arg50)
          ∧ r.2.mem ((c.tc : Thread Cert.Kernel26Ideal.nD Cert.Kernel26Ideal.τ).loc Cert.Kernel26Ideal.main_arg51) = m ((c.tc : Thread Cert.Kernel26Ideal.nD Cert.Kernel26Ideal.τ).loc Cert.Kernel26Ideal.main_arg51))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v47) = v1 c
          ∧ r.2.mem ((c.tc : Thread Cert.Reference26Ideal.nD Cert.Reference26Ideal.τ).loc Cert.Reference26Ideal.main_v71) = v2 c
          ∧ r.2.mem ((c.tc : Thread Cert.Reference26Ideal.nD Cert.Reference26Ideal.τ).loc Cert.Reference26Ideal.main_v95) = v3 c
          ∧ r.2.mem ((c.tc : Thread Cert.Reference26Ideal.nD Cert.Reference26Ideal.τ).loc Cert.Reference26Ideal.main_v119) = v4 c
          ∧ r.2.mem ((c.tc : Thread Cert.Reference26Ideal.nD Cert.Reference26Ideal.τ).loc Cert.Reference26Ideal.main_v143) = v5 c
          ∧ r.2.mem ((c.tc : Thread Cert.Reference26Ideal.nD Cert.Reference26Ideal.τ).loc Cert.Reference26Ideal.main_v167) = v6 c
          ∧ r.2.mem ((c.tc : Thread Cert.Reference26Ideal.nD Cert.Reference26Ideal.τ).loc Cert.Reference26Ideal.main_v191) = v7 c
          ∧ r.2.mem ((c.tc : Thread Cert.Reference26Ideal.nD Cert.Reference26Ideal.τ).loc Cert.Reference26Ideal.main_v215) = v8 c
          ∧ r.2.mem ((c.tc : Thread Cert.Reference26Ideal.nD Cert.Reference26Ideal.τ).loc Cert.Reference26Ideal.main_v239) = v9 c
          ∧ r.2.mem ((c.tc : Thread Cert.Reference26Ideal.nD Cert.Reference26Ideal.τ).loc Cert.Reference26Ideal.main_v263) = v10 c
          ∧ r.2.mem ((c.tc : Thread Cert.Reference26Ideal.nD Cert.Reference26Ideal.τ).loc Cert.Reference26Ideal.main_v287) = v11 c
          ∧ r.2.mem ((c.tc : Thread Cert.Reference26Ideal.nD Cert.Reference26Ideal.τ).loc Cert.Reference26Ideal.main_v311) = v12 c
          ∧ r.2.mem ((c.tc : Thread Cert.Reference26Ideal.nD Cert.Reference26Ideal.τ).loc Cert.Reference26Ideal.main_v4) = v13 c
          ∧ r.2.mem ((c.tc : Thread Cert.Reference26Ideal.nD Cert.Reference26Ideal.τ).loc Cert.Reference26Ideal.main_v28) = v14 c
          ∧ r.2.mem ((c.tc : Thread Cert.Reference26Ideal.nD Cert.Reference26Ideal.τ).loc Cert.Reference26Ideal.main_v52) = v15 c
          ∧ r.2.mem ((c.tc : Thread Cert.Reference26Ideal.nD Cert.Reference26Ideal.τ).loc Cert.Reference26Ideal.main_v76) = v16 c
          ∧ r.2.mem ((c.tc : Thread Cert.Reference26Ideal.nD Cert.Reference26Ideal.τ).loc Cert.Reference26Ideal.main_v100) = v17 c
          ∧ r.2.mem ((c.tc : Thread Cert.Reference26Ideal.nD Cert.Reference26Ideal.τ).loc Cert.Reference26Ideal.main_v124) = v18 c
          ∧ r.2.mem ((c.tc : Thread Cert.Reference26Ideal.nD Cert.Reference26Ideal.τ).loc Cert.Reference26Ideal.main_v148) = v19 c
          ∧ r.2.mem ((c.tc : Thread Cert.Reference26Ideal.nD Cert.Reference26Ideal.τ).loc Cert.Reference26Ideal.main_v172) = v20 c
          ∧ r.2.mem ((c.tc : Thread Cert.Reference26Ideal.nD Cert.Reference26Ideal.τ).loc Cert.Reference26Ideal.main_v196) = v21 c
          ∧ r.2.mem ((c.tc : Thread Cert.Reference26Ideal.nD Cert.Reference26Ideal.τ).loc Cert.Reference26Ideal.main_v220) = v22 c
          ∧ r.2.mem ((c.tc : Thread Cert.Reference26Ideal.nD Cert.Reference26Ideal.τ).loc Cert.Reference26Ideal.main_v244) = v23 c
          ∧ r.2.mem ((c.tc : Thread Cert.Reference26Ideal.nD Cert.Reference26Ideal.τ).loc Cert.Reference26Ideal.main_v268) = v24 c
          ∧ r.2.mem ((c.tc : Thread Cert.Reference26Ideal.nD Cert.Reference26Ideal.τ).loc Cert.Reference26Ideal.main_v292) = v25 c
          ∧ r.2.mem ((c.tc : Thread Cert.Reference26Ideal.nD Cert.Reference26Ideal.τ).loc Cert.Reference26Ideal.main_v10) = v26 c
          ∧ r.2.mem ((c.tc : Thread Cert.Reference26Ideal.nD Cert.Reference26Ideal.τ).loc Cert.Reference26Ideal.main_v34) = v27 c
          ∧ r.2.mem ((c.tc : Thread Cert.Reference26Ideal.nD Cert.Reference26Ideal.τ).loc Cert.Reference26Ideal.main_v58) = v28 c
          ∧ r.2.mem ((c.tc : Thread Cert.Reference26Ideal.nD Cert.Reference26Ideal.τ).loc Cert.Reference26Ideal.main_v82) = v29 c
          ∧ r.2.mem ((c.tc : Thread Cert.Reference26Ideal.nD Cert.Reference26Ideal.τ).loc Cert.Reference26Ideal.main_v106) = v30 c
          ∧ r.2.mem ((c.tc : Thread Cert.Reference26Ideal.nD Cert.Reference26Ideal.τ).loc Cert.Reference26Ideal.main_v130) = v31 c
          ∧ r.2.mem ((c.tc : Thread Cert.Reference26Ideal.nD Cert.Reference26Ideal.τ).loc Cert.Reference26Ideal.main_v154) = v32 c
          ∧ r.2.mem ((c.tc : Thread Cert.Reference26Ideal.nD Cert.Reference26Ideal.τ).loc Cert.Reference26Ideal.main_v178) = v33 c
          ∧ r.2.mem ((c.tc : Thread Cert.Reference26Ideal.nD Cert.Reference26Ideal.τ).loc Cert.Reference26Ideal.main_v202) = v34 c
          ∧ r.2.mem ((c.tc : Thread Cert.Reference26Ideal.nD Cert.Reference26Ideal.τ).loc Cert.Reference26Ideal.main_v226) = v35 c
          ∧ r.2.mem ((c.tc : Thread Cert.Reference26Ideal.nD Cert.Reference26Ideal.τ).loc Cert.Reference26Ideal.main_v250) = v36 c
          ∧ r.2.mem ((c.tc : Thread Cert.Reference26Ideal.nD Cert.Reference26Ideal.τ).loc Cert.Reference26Ideal.main_v274) = v37 c
          ∧ r.2.mem ((c.tc : Thread Cert.Reference26Ideal.nD Cert.Reference26Ideal.τ).loc Cert.Reference26Ideal.main_v298) = v38 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6)
          ∧ r.2.mem ((c.tc : Thread Cert.Reference26Ideal.nD Cert.Reference26Ideal.τ).loc Cert.Reference26Ideal.main_arg7) = m' ((c.tc : Thread Cert.Reference26Ideal.nD Cert.Reference26Ideal.τ).loc Cert.Reference26Ideal.main_arg7)
          ∧ r.2.mem ((c.tc : Thread Cert.Reference26Ideal.nD Cert.Reference26Ideal.τ).loc Cert.Reference26Ideal.main_arg8) = m' ((c.tc : Thread Cert.Reference26Ideal.nD Cert.Reference26Ideal.τ).loc Cert.Reference26Ideal.main_arg8)
          ∧ r.2.mem ((c.tc : Thread Cert.Reference26Ideal.nD Cert.Reference26Ideal.τ).loc Cert.Reference26Ideal.main_arg9) = m' ((c.tc : Thread Cert.Reference26Ideal.nD Cert.Reference26Ideal.τ).loc Cert.Reference26Ideal.main_arg9)
          ∧ r.2.mem ((c.tc : Thread Cert.Reference26Ideal.nD Cert.Reference26Ideal.τ).loc Cert.Reference26Ideal.main_arg10) = m' ((c.tc : Thread Cert.Reference26Ideal.nD Cert.Reference26Ideal.τ).loc Cert.Reference26Ideal.main_arg10)
          ∧ r.2.mem ((c.tc : Thread Cert.Reference26Ideal.nD Cert.Reference26Ideal.τ).loc Cert.Reference26Ideal.main_arg11) = m' ((c.tc : Thread Cert.Reference26Ideal.nD Cert.Reference26Ideal.τ).loc Cert.Reference26Ideal.main_arg11)
          ∧ r.2.mem ((c.tc : Thread Cert.Reference26Ideal.nD Cert.Reference26Ideal.τ).loc Cert.Reference26Ideal.main_arg12) = m' ((c.tc : Thread Cert.Reference26Ideal.nD Cert.Reference26Ideal.τ).loc Cert.Reference26Ideal.main_arg12)
          ∧ r.2.mem ((c.tc : Thread Cert.Reference26Ideal.nD Cert.Reference26Ideal.τ).loc Cert.Reference26Ideal.main_arg13) = m' ((c.tc : Thread Cert.Reference26Ideal.nD Cert.Reference26Ideal.τ).loc Cert.Reference26Ideal.main_arg13)
          ∧ r.2.mem ((c.tc : Thread Cert.Reference26Ideal.nD Cert.Reference26Ideal.τ).loc Cert.Reference26Ideal.main_arg14) = m' ((c.tc : Thread Cert.Reference26Ideal.nD Cert.Reference26Ideal.τ).loc Cert.Reference26Ideal.main_arg14)
          ∧ r.2.mem ((c.tc : Thread Cert.Reference26Ideal.nD Cert.Reference26Ideal.τ).loc Cert.Reference26Ideal.main_arg15) = m' ((c.tc : Thread Cert.Reference26Ideal.nD Cert.Reference26Ideal.τ).loc Cert.Reference26Ideal.main_arg15)
          ∧ r.2.mem ((c.tc : Thread Cert.Reference26Ideal.nD Cert.Reference26Ideal.τ).loc Cert.Reference26Ideal.main_arg16) = m' ((c.tc : Thread Cert.Reference26Ideal.nD Cert.Reference26Ideal.τ).loc Cert.Reference26Ideal.main_arg16)
          ∧ r.2.mem ((c.tc : Thread Cert.Reference26Ideal.nD Cert.Reference26Ideal.τ).loc Cert.Reference26Ideal.main_arg17) = m' ((c.tc : Thread Cert.Reference26Ideal.nD Cert.Reference26Ideal.τ).loc Cert.Reference26Ideal.main_arg17)
          ∧ r.2.mem ((c.tc : Thread Cert.Reference26Ideal.nD Cert.Reference26Ideal.τ).loc Cert.Reference26Ideal.main_arg18) = m' ((c.tc : Thread Cert.Reference26Ideal.nD Cert.Reference26Ideal.τ).loc Cert.Reference26Ideal.main_arg18)
          ∧ r.2.mem ((c.tc : Thread Cert.Reference26Ideal.nD Cert.Reference26Ideal.τ).loc Cert.Reference26Ideal.main_arg19) = m' ((c.tc : Thread Cert.Reference26Ideal.nD Cert.Reference26Ideal.τ).loc Cert.Reference26Ideal.main_arg19)
          ∧ r.2.mem ((c.tc : Thread Cert.Reference26Ideal.nD Cert.Reference26Ideal.τ).loc Cert.Reference26Ideal.main_arg20) = m' ((c.tc : Thread Cert.Reference26Ideal.nD Cert.Reference26Ideal.τ).loc Cert.Reference26Ideal.main_arg20)
          ∧ r.2.mem ((c.tc : Thread Cert.Reference26Ideal.nD Cert.Reference26Ideal.τ).loc Cert.Reference26Ideal.main_arg21) = m' ((c.tc : Thread Cert.Reference26Ideal.nD Cert.Reference26Ideal.τ).loc Cert.Reference26Ideal.main_arg21)
          ∧ r.2.mem ((c.tc : Thread Cert.Reference26Ideal.nD Cert.Reference26Ideal.τ).loc Cert.Reference26Ideal.main_arg22) = m' ((c.tc : Thread Cert.Reference26Ideal.nD Cert.Reference26Ideal.τ).loc Cert.Reference26Ideal.main_arg22)
          ∧ r.2.mem ((c.tc : Thread Cert.Reference26Ideal.nD Cert.Reference26Ideal.τ).loc Cert.Reference26Ideal.main_arg23) = m' ((c.tc : Thread Cert.Reference26Ideal.nD Cert.Reference26Ideal.τ).loc Cert.Reference26Ideal.main_arg23)
          ∧ r.2.mem ((c.tc : Thread Cert.Reference26Ideal.nD Cert.Reference26Ideal.τ).loc Cert.Reference26Ideal.main_arg24) = m' ((c.tc : Thread Cert.Reference26Ideal.nD Cert.Reference26Ideal.τ).loc Cert.Reference26Ideal.main_arg24)
          ∧ r.2.mem ((c.tc : Thread Cert.Reference26Ideal.nD Cert.Reference26Ideal.τ).loc Cert.Reference26Ideal.main_arg25) = m' ((c.tc : Thread Cert.Reference26Ideal.nD Cert.Reference26Ideal.τ).loc Cert.Reference26Ideal.main_arg25)
          ∧ r.2.mem ((c.tc : Thread Cert.Reference26Ideal.nD Cert.Reference26Ideal.τ).loc Cert.Reference26Ideal.main_arg26) = m' ((c.tc : Thread Cert.Reference26Ideal.nD Cert.Reference26Ideal.τ).loc Cert.Reference26Ideal.main_arg26)
          ∧ r.2.mem ((c.tc : Thread Cert.Reference26Ideal.nD Cert.Reference26Ideal.τ).loc Cert.Reference26Ideal.main_arg27) = m' ((c.tc : Thread Cert.Reference26Ideal.nD Cert.Reference26Ideal.τ).loc Cert.Reference26Ideal.main_arg27)
          ∧ r.2.mem ((c.tc : Thread Cert.Reference26Ideal.nD Cert.Reference26Ideal.τ).loc Cert.Reference26Ideal.main_arg28) = m' ((c.tc : Thread Cert.Reference26Ideal.nD Cert.Reference26Ideal.τ).loc Cert.Reference26Ideal.main_arg28)
          ∧ r.2.mem ((c.tc : Thread Cert.Reference26Ideal.nD Cert.Reference26Ideal.τ).loc Cert.Reference26Ideal.main_arg29) = m' ((c.tc : Thread Cert.Reference26Ideal.nD Cert.Reference26Ideal.τ).loc Cert.Reference26Ideal.main_arg29)
          ∧ r.2.mem ((c.tc : Thread Cert.Reference26Ideal.nD Cert.Reference26Ideal.τ).loc Cert.Reference26Ideal.main_arg30) = m' ((c.tc : Thread Cert.Reference26Ideal.nD Cert.Reference26Ideal.τ).loc Cert.Reference26Ideal.main_arg30)
          ∧ r.2.mem ((c.tc : Thread Cert.Reference26Ideal.nD Cert.Reference26Ideal.τ).loc Cert.Reference26Ideal.main_arg31) = m' ((c.tc : Thread Cert.Reference26Ideal.nD Cert.Reference26Ideal.τ).loc Cert.Reference26Ideal.main_arg31)
          ∧ r.2.mem ((c.tc : Thread Cert.Reference26Ideal.nD Cert.Reference26Ideal.τ).loc Cert.Reference26Ideal.main_arg32) = m' ((c.tc : Thread Cert.Reference26Ideal.nD Cert.Reference26Ideal.τ).loc Cert.Reference26Ideal.main_arg32)
          ∧ r.2.mem ((c.tc : Thread Cert.Reference26Ideal.nD Cert.Reference26Ideal.τ).loc Cert.Reference26Ideal.main_arg33) = m' ((c.tc : Thread Cert.Reference26Ideal.nD Cert.Reference26Ideal.τ).loc Cert.Reference26Ideal.main_arg33)
          ∧ r.2.mem ((c.tc : Thread Cert.Reference26Ideal.nD Cert.Reference26Ideal.τ).loc Cert.Reference26Ideal.main_arg34) = m' ((c.tc : Thread Cert.Reference26Ideal.nD Cert.Reference26Ideal.τ).loc Cert.Reference26Ideal.main_arg34)
          ∧ r.2.mem ((c.tc : Thread Cert.Reference26Ideal.nD Cert.Reference26Ideal.τ).loc Cert.Reference26Ideal.main_arg35) = m' ((c.tc : Thread Cert.Reference26Ideal.nD Cert.Reference26Ideal.τ).loc Cert.Reference26Ideal.main_arg35)
          ∧ r.2.mem ((c.tc : Thread Cert.Reference26Ideal.nD Cert.Reference26Ideal.τ).loc Cert.Reference26Ideal.main_arg36) = m' ((c.tc : Thread Cert.Reference26Ideal.nD Cert.Reference26Ideal.τ).loc Cert.Reference26Ideal.main_arg36)
          ∧ r.2.mem ((c.tc : Thread Cert.Reference26Ideal.nD Cert.Reference26Ideal.τ).loc Cert.Reference26Ideal.main_arg37) = m' ((c.tc : Thread Cert.Reference26Ideal.nD Cert.Reference26Ideal.τ).loc Cert.Reference26Ideal.main_arg37)
          ∧ r.2.mem ((c.tc : Thread Cert.Reference26Ideal.nD Cert.Reference26Ideal.τ).loc Cert.Reference26Ideal.main_arg38) = m' ((c.tc : Thread Cert.Reference26Ideal.nD Cert.Reference26Ideal.τ).loc Cert.Reference26Ideal.main_arg38)
          ∧ r.2.mem ((c.tc : Thread Cert.Reference26Ideal.nD Cert.Reference26Ideal.τ).loc Cert.Reference26Ideal.main_arg39) = m' ((c.tc : Thread Cert.Reference26Ideal.nD Cert.Reference26Ideal.τ).loc Cert.Reference26Ideal.main_arg39)
          ∧ r.2.mem ((c.tc : Thread Cert.Reference26Ideal.nD Cert.Reference26Ideal.τ).loc Cert.Reference26Ideal.main_arg40) = m' ((c.tc : Thread Cert.Reference26Ideal.nD Cert.Reference26Ideal.τ).loc Cert.Reference26Ideal.main_arg40)
          ∧ r.2.mem ((c.tc : Thread Cert.Reference26Ideal.nD Cert.Reference26Ideal.τ).loc Cert.Reference26Ideal.main_arg41) = m' ((c.tc : Thread Cert.Reference26Ideal.nD Cert.Reference26Ideal.τ).loc Cert.Reference26Ideal.main_arg41)
          ∧ r.2.mem ((c.tc : Thread Cert.Reference26Ideal.nD Cert.Reference26Ideal.τ).loc Cert.Reference26Ideal.main_arg42) = m' ((c.tc : Thread Cert.Reference26Ideal.nD Cert.Reference26Ideal.τ).loc Cert.Reference26Ideal.main_arg42)
          ∧ r.2.mem ((c.tc : Thread Cert.Reference26Ideal.nD Cert.Reference26Ideal.τ).loc Cert.Reference26Ideal.main_arg43) = m' ((c.tc : Thread Cert.Reference26Ideal.nD Cert.Reference26Ideal.τ).loc Cert.Reference26Ideal.main_arg43)
          ∧ r.2.mem ((c.tc : Thread Cert.Reference26Ideal.nD Cert.Reference26Ideal.τ).loc Cert.Reference26Ideal.main_arg44) = m' ((c.tc : Thread Cert.Reference26Ideal.nD Cert.Reference26Ideal.τ).loc Cert.Reference26Ideal.main_arg44)
          ∧ r.2.mem ((c.tc : Thread Cert.Reference26Ideal.nD Cert.Reference26Ideal.τ).loc Cert.Reference26Ideal.main_arg45) = m' ((c.tc : Thread Cert.Reference26Ideal.nD Cert.Reference26Ideal.τ).loc Cert.Reference26Ideal.main_arg45)
          ∧ r.2.mem ((c.tc : Thread Cert.Reference26Ideal.nD Cert.Reference26Ideal.τ).loc Cert.Reference26Ideal.main_arg46) = m' ((c.tc : Thread Cert.Reference26Ideal.nD Cert.Reference26Ideal.τ).loc Cert.Reference26Ideal.main_arg46)
          ∧ r.2.mem ((c.tc : Thread Cert.Reference26Ideal.nD Cert.Reference26Ideal.τ).loc Cert.Reference26Ideal.main_arg47) = m' ((c.tc : Thread Cert.Reference26Ideal.nD Cert.Reference26Ideal.τ).loc Cert.Reference26Ideal.main_arg47)
          ∧ r.2.mem ((c.tc : Thread Cert.Reference26Ideal.nD Cert.Reference26Ideal.τ).loc Cert.Reference26Ideal.main_arg48) = m' ((c.tc : Thread Cert.Reference26Ideal.nD Cert.Reference26Ideal.τ).loc Cert.Reference26Ideal.main_arg48)
          ∧ r.2.mem ((c.tc : Thread Cert.Reference26Ideal.nD Cert.Reference26Ideal.τ).loc Cert.Reference26Ideal.main_arg49) = m' ((c.tc : Thread Cert.Reference26Ideal.nD Cert.Reference26Ideal.τ).loc Cert.Reference26Ideal.main_arg49)
          ∧ r.2.mem ((c.tc : Thread Cert.Reference26Ideal.nD Cert.Reference26Ideal.τ).loc Cert.Reference26Ideal.main_arg50) = m' ((c.tc : Thread Cert.Reference26Ideal.nD Cert.Reference26Ideal.τ).loc Cert.Reference26Ideal.main_arg50)
          ∧ r.2.mem ((c.tc : Thread Cert.Reference26Ideal.nD Cert.Reference26Ideal.τ).loc Cert.Reference26Ideal.main_arg51) = m' ((c.tc : Thread Cert.Reference26Ideal.nD Cert.Reference26Ideal.τ).loc Cert.Reference26Ideal.main_arg51))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_cotangents_finite : Cert.Pre_cotangents_finite.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_cotangents_finite (hKernel13Ideal := hKernel13Ideal) (hPre_cotangents_finite := hPre_cotangents_finite)
    ∧ quiescent_Reference13Ideal (hReference13Ideal := hReference13Ideal)
    ∧ quiescent_Reference13Ideal_pre_cotangents_finite (hReference13Ideal := hReference13Ideal) (hPre_cotangents_finite := hPre_cotangents_finite)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_cotangents_finite (hKernel13Ideal := hKernel13Ideal) (hReference13Ideal := hReference13Ideal) (hPre_cotangents_finite := hPre_cotangents_finite)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_cotangents_finite.lean ====
abbrev S4352x1024 : Shape := ⟨2, ![4352, 1024]⟩
abbrev S4352x512 : Shape := ⟨2, ![4352, 512]⟩
abbrev S4352x256 : Shape := ⟨2, ![4352, 256]⟩
abbrev S_ : Shape := ⟨0, ![]⟩

class Facts : Prop where
  bcast_S_S4352x512 : S_.BroadcastsInDim S4352x512 (![] : Fin 0 → Fin S4352x512.rank)
  bcast_S_S4352x256 : S_.BroadcastsInDim S4352x256 (![] : Fin 0 → Fin S4352x256.rank)

variable [Facts]

def fn_part1 {F : FTy → Type} [FloatOps F] (main_arg7 : FVec F S4352x256 .f32) (main_v2 : IVec S4352x512 1) (main_v5 : IVec S4352x512 1) (main_v8 : IVec S4352x512 1) (main_v11 : IVec S4352x256 1) (main_v14 : IVec S4352x256 1) (main_v17 : IVec S4352x256 1) : IVec S4352x512 1 × IVec S4352x512 1 × IVec S4352x512 1 × IVec S4352x256 1 × IVec S4352x256 1 × IVec S4352x256 1 × IVec S4352x256 1 :=
  let main_v18 : FVec F S4352x256 .f32 := Host.absf main_arg7
  let main_cst_5 : FVec F S_ .f32 := constant S_ .f32 0x7F800000#32
  let main_v19 : FVec F S4352x256 .f32 := broadcastInDim S4352x256 ![] bcast_S_S4352x256 main_cst_5
  let main_v20 : IVec S4352x256 1 := cmpf .olt main_v18 main_v19
  (main_v2, main_v5, main_v8, main_v11, main_v14, main_v17, main_v20)

def fn {F : FTy → Type} [FloatOps F] (main_arg0 : FVec F S4352x1024 .f32) (main_arg1 : FVec F S4352x512 .f32) (main_arg2 : FVec F S4352x512 .f32) (main_arg3 : FVec F S4352x512 .f32) (main_arg4 : FVec F S4352x256 .f32) (main_arg5 : FVec F S4352x256 .f32) (main_arg6 : FVec F S4352x256 .f32) (main_arg7 : FVec F S4352x256 .f32) : IVec S4352x512 1 × IVec S4352x512 1 × IVec S4352x512 1 × IVec S4352x256 1 × IVec S4352x256 1 × IVec S4352x256 1 × IVec S4352x256 1 :=
  let main_v0 : FVec F S4352x512 .f32 := Host.absf main_arg1
  let main_cst : FVec F S_ .f32 := constant S_ .f32 0x7F800000#32
  let main_v1 : FVec F S4352x512 .f32 := broadcastInDim S4352x512 ![] bcast_S_S4352x512 main_cst
  let main_v2 : IVec S4352x512 1 := cmpf .olt main_v0 main_v1
  let main_v3 : FVec F S4352x512 .f32 := Host.absf main_arg2
  let main_cst_0 : FVec F S_ .f32 := constant S_ .f32 0x7F800000#32
  let main_v4 : FVec F S4352x512 .f32 := broadcastInDim S4352x512 ![] bcast_S_S4352x512 main_cst_0
  let main_v5 : IVec S4352x512 1 := cmpf .olt main_v3 main_v4
  let main_v6 : FVec F S4352x512 .f32 := Host.absf main_arg3
  let main_cst_1 : FVec F S_ .f32 := constant S_ .f32 0x7F800000#32
  let main_v7 : FVec F S4352x512 .f32 := broadcastInDim S4352x512 ![] bcast_S_S4352x512 main_cst_1
  let main_v8 : IVec S4352x512 1 := cmpf .olt main_v6 main_v7
  let main_v9 : FVec F S4352x256 .f32 := Host.absf main_arg4
  let main_cst_2 : FVec F S_ .f32 := constant S_ .f32 0x7F800000#32
  let main_v10 : FVec F S4352x256 .f32 := broadcastInDim S4352x256 ![] bcast_S_S4352x256 main_cst_2
  let main_v11 : IVec S4352x256 1 := cmpf .olt main_v9 main_v10
  let main_v12 : FVec F S4352x256 .f32 := Host.absf main_arg5
  let main_cst_3 : FVec F S_ .f32 := constant S_ .f32 0x7F800000#32
  let main_v13 : FVec F S4352x256 .f32 := broadcastInDim S4352x256 ![] bcast_S_S4352x256 main_cst_3
  let main_v14 : IVec S4352x256 1 := cmpf .olt main_v12 main_v13
  let main_v15 : FVec F S4352x256 .f32 := Host.absf main_arg6
  let main_cst_4 : FVec F S_ .f32 := constant S_ .f32 0x7F800000#32
  let main_v16 : FVec F S4352x256 .f32 := broadcastInDim S4352x256 ![] bcast_S_S4352x256 main_cst_4
  let main_v17 : IVec S4352x256 1 := cmpf .olt main_v15 main_v16
  fn_part1 (F := F) main_arg7 main_v2 main_v5 main_v8 main_v11 main_v14 main_v17
-- ==== Kernel2.lean ====
abbrev S4352x1024 : Shape := ⟨2, ![4352, 1024]⟩
abbrev S1024x5632 : Shape := ⟨2, ![1024, 5632]⟩
abbrev S4352x2816 : Shape := ⟨2, ![4352, 2816]⟩
abbrev S4352x1408 : Shape := ⟨2, ![4352, 1408]⟩
abbrev S4352x5632 : Shape := ⟨2, ![4352, 5632]⟩
abbrev S1024x4x1408 : Shape := ⟨3, ![1024, 4, 1408]⟩
abbrev S4x1024x1408 : Shape := ⟨3, ![4, 1024, 1408]⟩
abbrev S544x5632 : Shape := ⟨2, ![544, 5632]⟩
abbrev S544x1024 : Shape := ⟨2, ![544, 1024]⟩
abbrev S544x1408 : Shape := ⟨2, ![544, 1408]⟩
abbrev S1x1024x1408 : Shape := ⟨3, ![1, 1024, 1408]⟩
abbrev S1024x1408 : Shape := ⟨2, ![1024, 1408]⟩

abbrev nBuf : Space → Nat
  | .hbm => 14
  | .vmem => 5
  | .smem => 0
  | _ => 0

abbrev bufTy : (tb : Table) → Fin (tcTables nBuf tb) → BufTy
  | .hbm, ⟨0, _⟩ => ⟨S4352x1024, .f32⟩
  | .hbm, ⟨1, _⟩ => ⟨S1024x5632, .f32⟩
  | .hbm, ⟨2, _⟩ => ⟨S4352x2816, .f32⟩
  | .hbm, ⟨3, _⟩ => ⟨S4352x2816, .f32⟩
  | .hbm, ⟨4, _⟩ => ⟨S4352x1408, .f32⟩
  | .hbm, ⟨5, _⟩ => ⟨S4352x1408, .f32⟩
  | .hbm, ⟨6, _⟩ => ⟨S4352x1408, .f32⟩
  | .hbm, ⟨7, _⟩ => ⟨S4352x1408, .f32⟩
  | .hbm, ⟨8, _⟩ => ⟨S4352x5632, .f32⟩
  | .hbm, ⟨9, _⟩ => ⟨S4352x5632, .bf16⟩
  | .hbm, ⟨10, _⟩ => ⟨S1024x4x1408, .f32⟩
  | .hbm, ⟨11, _⟩ => ⟨S4x1024x1408, .f32⟩
  | .hbm, ⟨12, _⟩ => ⟨S4x1024x1408, .bf16⟩
  | .hbm, ⟨13, _⟩ => ⟨S4352x1024, .bf16⟩
  | .local _ .vmem, ⟨0, _⟩ => ⟨S544x5632, .bf16⟩
  | .local _ .vmem, ⟨1, _⟩ => ⟨S544x5632, .bf16⟩
  | .local _ .vmem, ⟨2, _⟩ => ⟨S4x1024x1408, .bf16⟩
  | .local _ .vmem, ⟨3, _⟩ => ⟨S544x1024, .bf16⟩
  | .local _ .vmem, ⟨4, _⟩ => ⟨S544x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S4352x1024 : Shape := ⟨2, ![4352, 1024]⟩
abbrev S1024x5632 : Shape := ⟨2, ![1024, 5632]⟩
abbrev S4352x2816 : Shape := ⟨2, ![4352, 2816]⟩
abbrev S4352x5632 : Shape := ⟨2, ![4352, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x5632, .f32⟩
  | .hbm, ⟨2, _⟩ => ⟨S4352x2816, .f32⟩
  | .hbm, ⟨3, _⟩ => ⟨S4352x2816, .f32⟩
  | .hbm, ⟨4, _⟩ => ⟨S4352x5632, .f32⟩
  | .hbm, ⟨5, _⟩ => ⟨S4352x2816, .f32⟩
  | .hbm, ⟨6, _⟩ => ⟨S4352x2816, .f32⟩
  | .hbm, ⟨7, _⟩ => ⟨S4352x5632, .f32⟩
  | .hbm, ⟨8, _⟩ => ⟨S5632x1024, .f32⟩
  | .hbm, ⟨9, _⟩ => ⟨S1024x5632, .f32⟩
  | .hbm, ⟨10, _⟩ => ⟨S4352x1024, .f32⟩
  | .hbm, ⟨11, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel3.lean ====
abbrev S4352x1024 : Shape := ⟨2, ![4352, 1024]⟩
abbrev S1024x5632 : Shape := ⟨2, ![1024, 5632]⟩
abbrev S4352x2816 : Shape := ⟨2, ![4352, 2816]⟩
abbrev S4352x1408 : Shape := ⟨2, ![4352, 1408]⟩
abbrev S4352x5632 : Shape := ⟨2, ![4352, 5632]⟩
abbrev S4x1024x1408 : Shape := ⟨3, ![4, 1024, 1408]⟩
abbrev S4352x512 : Shape := ⟨2, ![4352, 512]⟩
abbrev S1x512x1408 : Shape := ⟨3, ![1, 512, 1408]⟩
abbrev S512x1408 : Shape := ⟨2, ![512, 1408]⟩

abbrev nBuf : Space → Nat
  | .hbm => 12
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S1024x5632, .f32⟩
  | .hbm, ⟨2, _⟩ => ⟨S4352x2816, .f32⟩
  | .hbm, ⟨3, _⟩ => ⟨S4352x2816, .f32⟩
  | .hbm, ⟨4, _⟩ => ⟨S4352x1024, .bf16⟩
  | .hbm, ⟨5, _⟩ => ⟨S4352x1408, .f32⟩
  | .hbm, ⟨6, _⟩ => ⟨S4352x1408, .f32⟩
  | .hbm, ⟨7, _⟩ => ⟨S4352x1408, .f32⟩
  | .hbm, ⟨8, _⟩ => ⟨S4352x1408, .f32⟩
  | .hbm, ⟨9, _⟩ => ⟨S4352x5632, .f32⟩
  | .hbm, ⟨10, _⟩ => ⟨S4352x5632, .bf16⟩
  | .hbm, ⟨11, _⟩ => ⟨S4x1024x1408, .bf16⟩
  | .local _ .vmem, ⟨0, _⟩ => ⟨S4352x512, .bf16⟩
  | .local _ .vmem, ⟨1, _⟩ => ⟨S4352x512, .bf16⟩
  | .local _ .vmem, ⟨2, _⟩ => ⟨S4352x1408, .bf16⟩
  | .local _ .vmem, ⟨3, _⟩ => ⟨S4352x1408, .bf16⟩
  | .local _ .vmem, ⟨4, _⟩ => ⟨S1x512x1408, .bf16⟩
  | .local _ .vmem, ⟨5, _⟩ => ⟨S1x512x1408, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg0 c2_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg0 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  ![v28.toNat, arg1.toNat, c0_i32_11.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4352x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4352x1024 : Shape := ⟨2, ![4352, 1024]⟩
abbrev S1024x5632 : Shape := ⟨2, ![1024, 5632]⟩
abbrev S4352x2816 : Shape := ⟨2, ![4352, 2816]⟩
abbrev S4352x5632 : Shape := ⟨2, ![4352, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 21
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x5632, .f32⟩
  | .hbm, ⟨2, _⟩ => ⟨S4352x2816, .f32⟩
  | .hbm, ⟨3, _⟩ => ⟨S4352x2816, .f32⟩
  | .hbm, ⟨4, _⟩ => ⟨S4352x5632, .f32⟩
  | .hbm, ⟨5, _⟩ => ⟨S4352x2816, .f32⟩
  | .hbm, ⟨6, _⟩ => ⟨S4352x2816, .f32⟩
  | .hbm, ⟨7, _⟩ => ⟨S4352x5632, .f32⟩
  | .hbm, ⟨8, _⟩ => ⟨S5632x1024, .f32⟩
  | .hbm, ⟨9, _⟩ => ⟨S1024x5632, .f32⟩
  | .hbm, ⟨10, _⟩ => ⟨S4352x1024, .f32⟩
  | .hbm, ⟨11, _⟩ => ⟨S1024x1408, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S1x1024x1408, .f32⟩
  | .hbm, ⟨16, _⟩ => ⟨S1x1024x1408, .f32⟩
  | .hbm, ⟨17, _⟩ => ⟨S1x1024x1408, .f32⟩
  | .hbm, ⟨18, _⟩ => ⟨S1x1024x1408, .f32⟩
  | .hbm, ⟨19, _⟩ => ⟨S4x1024x1408, .f32⟩
  | .hbm, ⟨20, _⟩ => ⟨S4x1024x1408, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel4.lean ====
abbrev S4352x2816 : Shape := ⟨2, ![4352, 2816]⟩
abbrev S2816x1024 : Shape := ⟨2, ![2816, 1024]⟩
abbrev S4352x1024 : Shape := ⟨2, ![4352, 1024]⟩
abbrev S4352x1408 : Shape := ⟨2, ![4352, 1408]⟩
abbrev S1408x1024 : Shape := ⟨2, ![1408, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4352x2816, .f32⟩
  | .hbm, ⟨1, _⟩ => ⟨S2816x1024, .f32⟩
  | .hbm, ⟨2, _⟩ => ⟨S4352x1024, .f32⟩
  | .hbm, ⟨3, _⟩ => ⟨S4352x2816, .bf16⟩
  | .hbm, ⟨4, _⟩ => ⟨S4352x1024, .bf16⟩
  | .hbm, ⟨5, _⟩ => ⟨S2816x1024, .bf16⟩
  | .local _ .vmem, ⟨0, _⟩ => ⟨S4352x1408, .bf16⟩
  | .local _ .vmem, ⟨1, _⟩ => ⟨S4352x1408, .bf16⟩
  | .local _ .vmem, ⟨2, _⟩ => ⟨S4352x1024, .bf16⟩
  | .local _ .vmem, ⟨3, _⟩ => ⟨S1408x1024, .bf16⟩
  | .local _ .vmem, ⟨4, _⟩ => ⟨S1408x1024, .bf16⟩
  | _, _ => ⟨S4352x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4352x2816 : Shape := ⟨2, ![4352, 2816]⟩
abbrev S2816x1024 : Shape := ⟨2, ![2816, 1024]⟩
abbrev S4352x1024 : Shape := ⟨2, ![4352, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4352x2816, .f32⟩
  | .hbm, ⟨1, _⟩ => ⟨S2816x1024, .f32⟩
  | .hbm, ⟨2, _⟩ => ⟨S4352x1024, .f32⟩
  | .hbm, ⟨3, _⟩ => ⟨S4352x1024, .f32⟩
  | .hbm, ⟨4, _⟩ => ⟨S1024x2816, .f32⟩
  | .hbm, ⟨5, _⟩ => ⟨S2816x1024, .f32⟩
  | .hbm, ⟨6, _⟩ => ⟨S4352x2816, .f32⟩
  | .hbm, ⟨7, _⟩ => ⟨S2816x1024, .bf16⟩
  | _, _ => ⟨S4352x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4352x256 : Shape := ⟨2, ![4352, 256]⟩
abbrev S4352x512 : Shape := ⟨2, ![4352, 512]⟩
abbrev S1024x1024 : Shape := ⟨2, ![1024, 1024]⟩
abbrev S4352x1024 : Shape := ⟨2, ![4352, 1024]⟩
abbrev S544x1024 : Shape := ⟨2, ![544, 1024]⟩

abbrev nBuf : Space → Nat
  | .hbm => 8
  | .vmem => 5
  | .smem => 0
  | _ => 0

abbrev bufTy : (tb : Table) → Fin (tcTables nBuf tb) → BufTy
  | .hbm, ⟨0, _⟩ => ⟨S4352x256, .f32⟩
  | .hbm, ⟨1, _⟩ => ⟨S4352x256, .f32⟩
  | .hbm, ⟨2, _⟩ => ⟨S4352x512, .f32⟩
  | .hbm, ⟨3, _⟩ => ⟨S1024x1024, .f32⟩
  | .hbm, ⟨4, _⟩ => ⟨S4352x1024, .f32⟩
  | .hbm, ⟨5, _⟩ => ⟨S4352x1024, .bf16⟩
  | .hbm, ⟨6, _⟩ => ⟨S1024x1024, .bf16⟩
  | .hbm, ⟨7, _⟩ => ⟨S4352x1024, .bf16⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x1024, .bf16⟩
  | .local _ .vmem, ⟨4, _⟩ => ⟨S544x1024, .bf16⟩
  | _, _ => ⟨S4352x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4352x256 : Shape := ⟨2, ![4352, 256]⟩
abbrev S4352x512 : Shape := ⟨2, ![4352, 512]⟩
abbrev S1024x1024 : Shape := ⟨2, ![1024, 1024]⟩
abbrev S4352x1024 : Shape := ⟨2, ![4352, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4352x256, .f32⟩
  | .hbm, ⟨1, _⟩ => ⟨S4352x256, .f32⟩
  | .hbm, ⟨2, _⟩ => ⟨S4352x512, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S1024x1024, .f32⟩
  | .hbm, ⟨8, _⟩ => ⟨S1024x1024, .f32⟩
  | .hbm, ⟨9, _⟩ => ⟨S4352x1024, .f32⟩
  | .hbm, ⟨10, _⟩ => ⟨S4352x256, .f32⟩
  | .hbm, ⟨11, _⟩ => ⟨S4352x256, .f32⟩
  | .hbm, ⟨12, _⟩ => ⟨S4352x512, .f32⟩
  | .hbm, ⟨13, _⟩ => ⟨S4352x1024, .f32⟩
  | .hbm, ⟨14, _⟩ => ⟨S4352x1024, .bf16⟩
  | _, _ => ⟨S4352x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel6.lean ====
abbrev S4352x256 : Shape := ⟨2, ![4352, 256]⟩
abbrev S4352x512 : Shape := ⟨2, ![4352, 512]⟩
abbrev S1024x1024 : Shape := ⟨2, ![1024, 1024]⟩
abbrev S4352x1024 : Shape := ⟨2, ![4352, 1024]⟩
abbrev S1024x512 : Shape := ⟨2, ![1024, 512]⟩
abbrev S256x512 : Shape := ⟨2, ![256, 512]⟩
abbrev S512x512 : Shape := ⟨2, ![512, 512]⟩

abbrev nBuf : Space → Nat
  | .hbm => 10
  | .vmem => 7
  | .smem => 0
  | _ => 0

abbrev bufTy : (tb : Table) → Fin (tcTables nBuf tb) → BufTy
  | .hbm, ⟨0, _⟩ => ⟨S4352x256, .f32⟩
  | .hbm, ⟨1, _⟩ => ⟨S4352x256, .f32⟩
  | .hbm, ⟨2, _⟩ => ⟨S4352x512, .f32⟩
  | .hbm, ⟨3, _⟩ => ⟨S1024x1024, .f32⟩
  | .hbm, ⟨4, _⟩ => ⟨S4352x1024, .f32⟩
  | .hbm, ⟨5, _⟩ => ⟨S4352x256, .bf16⟩
  | .hbm, ⟨6, _⟩ => ⟨S4352x256, .bf16⟩
  | .hbm, ⟨7, _⟩ => ⟨S4352x512, .bf16⟩
  | .hbm, ⟨8, _⟩ => ⟨S4352x1024, .bf16⟩
  | .hbm, ⟨9, _⟩ => ⟨S1024x1024, .bf16⟩
  | .local _ .vmem, ⟨0, _⟩ => ⟨S4352x256, .bf16⟩
  | .local _ .vmem, ⟨1, _⟩ => ⟨S4352x256, .bf16⟩
  | .local _ .vmem, ⟨2, _⟩ => ⟨S4352x512, .bf16⟩
  | .local _ .vmem, ⟨3, _⟩ => ⟨S4352x512, .bf16⟩
  | .local _ .vmem, ⟨4, _⟩ => ⟨S4352x512, .bf16⟩
  | .local _ .vmem, ⟨5, _⟩ => ⟨S1024x512, .bf16⟩
  | .local _ .vmem, ⟨6, _⟩ => ⟨S1024x512, .bf16⟩
  | _, _ => ⟨S4352x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4352x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4352x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4352x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4352x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S4352x256 : Shape := ⟨2, ![4352, 256]⟩
abbrev S4352x512 : Shape := ⟨2, ![4352, 512]⟩
abbrev S1024x1024 : Shape := ⟨2, ![1024, 1024]⟩
abbrev S4352x1024 : Shape := ⟨2, ![4352, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4352x256, .f32⟩
  | .hbm, ⟨1, _⟩ => ⟨S4352x256, .f32⟩
  | .hbm, ⟨2, _⟩ => ⟨S4352x512, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S1024x1024, .f32⟩
  | .hbm, ⟨8, _⟩ => ⟨S1024x1024, .f32⟩
  | .hbm, ⟨9, _⟩ => ⟨S4352x1024, .f32⟩
  | .hbm, ⟨10, _⟩ => ⟨S4352x256, .f32⟩
  | .hbm, ⟨11, _⟩ => ⟨S4352x256, .f32⟩
  | .hbm, ⟨12, _⟩ => ⟨S4352x512, .f32⟩
  | .hbm, ⟨13, _⟩ => ⟨S1024x1024, .bf16⟩
  | _, _ => ⟨S4352x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel7.lean ====
abbrev S4352x1024 : Shape := ⟨2, ![4352, 1024]⟩
abbrev S1024x2832 : Shape := ⟨2, ![1024, 2832]⟩
abbrev S4352x256 : Shape := ⟨2, ![4352, 256]⟩
abbrev S4352x512 : Shape := ⟨2, ![4352, 512]⟩
abbrev S4352x128 : Shape := ⟨2, ![4352, 128]⟩
abbrev S4352x16 : Shape := ⟨2, ![4352, 16]⟩
abbrev S_ : Shape := ⟨0, ![]⟩
abbrev S4352x112 : Shape := ⟨2, ![4352, 112]⟩
abbrev S1024x112 : Shape := ⟨2, ![1024, 112]⟩
abbrev S1024x2944 : Shape := ⟨2, ![1024, 2944]⟩
abbrev S544x256 : Shape := ⟨2, ![544, 256]⟩
abbrev S544x512 : Shape := ⟨2, ![544, 512]⟩
abbrev S544x128 : Shape := ⟨2, ![544, 128]⟩
abbrev S544x1024 : Shape := ⟨2, ![544, 1024]⟩
abbrev S1024x256 : Shape := ⟨2, ![1024, 256]⟩
abbrev S1024x512 : Shape := ⟨2, ![1024, 512]⟩
abbrev S1024x128 : Shape := ⟨2, ![1024, 128]⟩
abbrev S1024x1024 : Shape := ⟨2, ![1024, 1024]⟩

abbrev nBuf : Space → Nat
  | .hbm => 24
  | .vmem => 21
  | .smem => 0
  | _ => 0

abbrev bufTy : (tb : Table) → Fin (tcTables nBuf tb) → BufTy
  | .hbm, ⟨0, _⟩ => ⟨S4352x1024, .f32⟩
  | .hbm, ⟨1, _⟩ => ⟨S1024x2832, .f32⟩
  | .hbm, ⟨2, _⟩ => ⟨S4352x256, .f32⟩
  | .hbm, ⟨3, _⟩ => ⟨S4352x256, .f32⟩
  | .hbm, ⟨4, _⟩ => ⟨S4352x512, .f32⟩
  | .hbm, ⟨5, _⟩ => ⟨S4352x128, .f32⟩
  | .hbm, ⟨6, _⟩ => ⟨S4352x128, .f32⟩
  | .hbm, ⟨7, _⟩ => ⟨S4352x256, .f32⟩
  | .hbm, ⟨8, _⟩ => ⟨S4352x256, .f32⟩
  | .hbm, ⟨9, _⟩ => ⟨S4352x1024, .f32⟩
  | .hbm, ⟨10, _⟩ => ⟨S4352x16, .f32⟩
  | .hbm, ⟨11, _⟩ => ⟨S_, .f32⟩
  | .hbm, ⟨12, _⟩ => ⟨S4352x112, .f32⟩
  | .hbm, ⟨13, _⟩ => ⟨S4352x128, .f32⟩
  | .hbm, ⟨14, _⟩ => ⟨S4352x256, .bf16⟩
  | .hbm, ⟨15, _⟩ => ⟨S4352x256, .bf16⟩
  | .hbm, ⟨16, _⟩ => ⟨S4352x512, .bf16⟩
  | .hbm, ⟨17, _⟩ => ⟨S4352x128, .bf16⟩
  | .hbm, ⟨18, _⟩ => ⟨S4352x1024, .bf16⟩
  | .hbm, ⟨19, _⟩ => ⟨S_, .f32⟩
  | .hbm, ⟨20, _⟩ => ⟨S1024x112, .f32⟩
  | .hbm, ⟨21, _⟩ => ⟨S1024x2944, .f32⟩
  | .hbm, ⟨22, _⟩ => ⟨S1024x2944, .bf16⟩
  | .hbm, ⟨23, _⟩ => ⟨S4352x1024, .bf16⟩
  | .local _ .vmem, ⟨0, _⟩ => ⟨S544x256, .bf16⟩
  | .local _ .vmem, ⟨1, _⟩ => ⟨S544x256, .bf16⟩
  | .local _ .vmem, ⟨2, _⟩ => ⟨S544x256, .bf16⟩
  | .local _ .vmem, ⟨3, _⟩ => ⟨S544x256, .bf16⟩
  | .local _ .vmem, ⟨4, _⟩ => ⟨S544x512, .bf16⟩
  | .local _ .vmem, ⟨5, _⟩ => ⟨S544x512, .bf16⟩
  | .local _ .vmem, ⟨6, _⟩ => ⟨S544x128, .bf16⟩
  | .local _ .vmem, ⟨7, _⟩ => ⟨S544x128, .bf16⟩
  | .local _ .vmem, ⟨8, _⟩ => ⟨S544x128, .f32⟩
  | .local _ .vmem, ⟨9, _⟩ => ⟨S544x128, .f32⟩
  | .local _ .vmem, ⟨10, _⟩ => ⟨S544x256, .f32⟩
  | .local _ .vmem, ⟨11, _⟩ => ⟨S544x256, .f32⟩
  | .local _ .vmem, ⟨12, _⟩ => ⟨S544x256, .f32⟩
  | .local _ .vmem, ⟨13, _⟩ => ⟨S544x256, .f32⟩
  | .local _ .vmem, ⟨14, _⟩ => ⟨S544x1024, .bf16⟩
  | .local _ .vmem, ⟨15, _⟩ => ⟨S544x1024, .bf16⟩
  | .local _ .vmem, ⟨16, _⟩ => ⟨S544x128, .f32⟩
  | .local _ .vmem, ⟨17, _⟩ => ⟨S544x128, .f32⟩
  | .local _ .vmem, ⟨18, _⟩ => ⟨S1024x2944, .bf16⟩
  | .local _ .vmem, ⟨19, _⟩ => ⟨S544x1024, .bf16⟩
  | .local _ .vmem, ⟨20, _⟩ => ⟨S544x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2944 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S544x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S4352x1024 : Shape := ⟨2, ![4352, 1024]⟩
abbrev S1024x2832 : Shape := ⟨2, ![1024, 2832]⟩
abbrev S4352x256 : Shape := ⟨2, ![4352, 256]⟩
abbrev S4352x512 : Shape := ⟨2, ![4352, 512]⟩
abbrev S4352x128 : Shape := ⟨2, ![4352, 128]⟩
abbrev S4352x16 : Shape := ⟨2, ![4352, 16]⟩
abbrev S4352x2832 : Shape := ⟨2, ![4352, 2832]⟩
abbrev S_ : Shape := ⟨0, ![]⟩
abbrev S2832x1024 : Shape := ⟨2, ![2832, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x2832, .f32⟩
  | .hbm, ⟨2, _⟩ => ⟨S4352x256, .f32⟩
  | .hbm, ⟨3, _⟩ => ⟨S4352x256, .f32⟩
  | .hbm, ⟨4, _⟩ => ⟨S4352x512, .f32⟩
  | .hbm, ⟨5, _⟩ => ⟨S4352x128, .f32⟩
  | .hbm, ⟨6, _⟩ => ⟨S4352x128, .f32⟩
  | .hbm, ⟨7, _⟩ => ⟨S4352x256, .f32⟩
  | .hbm, ⟨8, _⟩ => ⟨S4352x256, .f32⟩
  | .hbm, ⟨9, _⟩ => ⟨S4352x1024, .f32⟩
  | .hbm, ⟨10, _⟩ => ⟨S4352x16, .f32⟩
  | .hbm, ⟨11, _⟩ => ⟨S4352x2832, .f32⟩
  | .hbm, ⟨12, _⟩ => ⟨S4352x256, .f32⟩
  | .hbm, ⟨13, _⟩ => ⟨S4352x256, .f32⟩
  | .hbm, ⟨14, _⟩ => ⟨S4352x512, .f32⟩
  | .hbm, ⟨15, _⟩ => ⟨S4352x128, .f32⟩
  | .hbm, ⟨16, _⟩ => ⟨S4352x128, .f32⟩
  | .hbm, ⟨17, _⟩ => ⟨S4352x256, .f32⟩
  | .hbm, ⟨18, _⟩ => ⟨S4352x256, .f32⟩
  | .hbm, ⟨19, _⟩ => ⟨S4352x1024, .f32⟩
  | .hbm, ⟨20, _⟩ => ⟨S4352x16, .f32⟩
  | .hbm, ⟨21, _⟩ => ⟨S_, .f32⟩
  | .hbm, ⟨22, _⟩ => ⟨S4352x2832, .f32⟩
  | .hbm, ⟨23, _⟩ => ⟨S_, .f32⟩
  | .hbm, ⟨24, _⟩ => ⟨S4352x2832, .f32⟩
  | .hbm, ⟨25, _⟩ => ⟨S4352x2832, .f32⟩
  | .hbm, ⟨26, _⟩ => ⟨S_, .f32⟩
  | .hbm, ⟨27, _⟩ => ⟨S4352x2832, .f32⟩
  | .hbm, ⟨28, _⟩ => ⟨S4352x2832, .f32⟩
  | .hbm, ⟨29, _⟩ => ⟨S_, .f32⟩
  | .hbm, ⟨30, _⟩ => ⟨S4352x2832, .f32⟩
  | .hbm, ⟨31, _⟩ => ⟨S4352x2832, .f32⟩
  | .hbm, ⟨32, _⟩ => ⟨S_, .f32⟩
  | .hbm, ⟨33, _⟩ => ⟨S4352x2832, .f32⟩
  | .hbm, ⟨34, _⟩ => ⟨S4352x2832, .f32⟩
  | .hbm, ⟨35, _⟩ => ⟨S_, .f32⟩
  | .hbm, ⟨36, _⟩ => ⟨S4352x2832, .f32⟩
  | .hbm, ⟨37, _⟩ => ⟨S4352x2832, .f32⟩
  | .hbm, ⟨38, _⟩ => ⟨S_, .f32⟩
  | .hbm, ⟨39, _⟩ => ⟨S4352x2832, .f32⟩
  | .hbm, ⟨40, _⟩ => ⟨S4352x2832, .f32⟩
  | .hbm, ⟨41, _⟩ => ⟨S_, .f32⟩
  | .hbm, ⟨42, _⟩ => ⟨S4352x2832, .f32⟩
  | .hbm, ⟨43, _⟩ => ⟨S4352x2832, .f32⟩
  | .hbm, ⟨44, _⟩ => ⟨S_, .f32⟩
  | .hbm, ⟨45, _⟩ => ⟨S4352x2832, .f32⟩
  | .hbm, ⟨46, _⟩ => ⟨S4352x2832, .f32⟩
  | .hbm, ⟨47, _⟩ => ⟨S2832x1024, .f32⟩
  | .hbm, ⟨48, _⟩ => ⟨S1024x2832, .f32⟩
  | .hbm, ⟨49, _⟩ => ⟨S4352x1024, .f32⟩
  | .hbm, ⟨50, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== Kernel8.lean ====
abbrev S4352x1024 : Shape := ⟨2, ![4352, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4352x5632 : Shape := ⟨2, ![4352, 5632]⟩
abbrev S4352x2816 : Shape := ⟨2, ![4352, 2816]⟩
abbrev S544x1024 : Shape := ⟨2, ![544, 1024]⟩
abbrev S1x1024x1408 : Shape := ⟨3, ![1, 1024, 1408]⟩
abbrev S544x2816 : Shape := ⟨2, ![544, 2816]⟩
abbrev S544x1408 : Shape := ⟨2, ![544, 1408]⟩
abbrev S272x1024 : Shape := ⟨2, ![272, 1024]⟩
abbrev S1024x1408 : Shape := ⟨2, ![1024, 1408]⟩
abbrev S272x1408 : Shape := ⟨2, ![272, 1408]⟩

abbrev nBuf : Space → Nat
  | .hbm => 8
  | .vmem => 10
  | .smem => 0
  | _ => 0

abbrev bufTy : (tb : Table) → Fin (tcTables nBuf tb) → BufTy
  | .hbm, ⟨0, _⟩ => ⟨S4352x1024, .f32⟩
  | .hbm, ⟨1, _⟩ => ⟨S1024x5632, .f32⟩
  | .hbm, ⟨2, _⟩ => ⟨S4352x1024, .bf16⟩
  | .hbm, ⟨3, _⟩ => ⟨S1024x4x1408, .f32⟩
  | .hbm, ⟨4, _⟩ => ⟨S4x1024x1408, .f32⟩
  | .hbm, ⟨5, _⟩ => ⟨S4x1024x1408, .bf16⟩
  | .hbm, ⟨6, _⟩ => ⟨S4352x5632, .bf16⟩
  | .hbm, ⟨7, _⟩ => ⟨S4352x2816, .bf16⟩
  | .local _ .vmem, ⟨0, _⟩ => ⟨S544x1024, .bf16⟩
  | .local _ .vmem, ⟨1, _⟩ => ⟨S544x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S544x2816, .bf16⟩
  | .local _ .vmem, ⟨7, _⟩ => ⟨S544x2816, .bf16⟩
  | .local _ .vmem, ⟨8, _⟩ => ⟨S544x1408, .bf16⟩
  | .local _ .vmem, ⟨9, _⟩ => ⟨S544x1408, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c2_i32_0 : BitVec 32 := 2#32
  let c0_i32_1 : BitVec 32 := 0#32
  let v2 : BitVec 1 := Scalar.cmpi .eq c2_i32_0 c0_i32_1
  let c1_i32 : BitVec 32 := 1#32
  let v3 : BitVec 32 := Scalar.select v2 c1_i32 c2_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c2_i32_5 : BitVec 32 := 2#32
  let v12 : BitVec 32 := Scalar.muli v11 c2_i32_5
  let c2_i32_6 : BitVec 32 := 2#32
  let v13 : BitVec 32 := Scalar.divsi v1 c2_i32_6
  let c0_i32_7 : BitVec 32 := 0#32
  let v14 : BitVec 1 := Scalar.cmpi .sgt v1 c0_i32_7
  let v15 : BitVec 32 := Scalar.extui v14
  let c0_i32_8 : BitVec 32 := 0#32
  let v16 : BitVec 1 := Scalar.cmpi .slt v1 c0_i32_8
  let v17 : BitVec 32 := Scalar.extui v16
  let v18 : BitVec 32 := Scalar.subi v15 v17
  let c0_i32_9 : BitVec 32 := 0#32
  let v19 : BitVec 1 := Scalar.cmpi .sgt c2_i32_6 c0_i32_9
  let v20 : BitVec 32 := Scalar.extui v19
  let c0_i32_10 : BitVec 32 := 0#32
  let v21 : BitVec 1 := Scalar.cmpi .slt c2_i32_6 c0_i32_10
  let v22 : BitVec 32 := Scalar.extui v21
  let v23 : BitVec 32 := Scalar.subi v20 v22
  let v24 : BitVec 1 := Scalar.cmpi .ne v18 v23
  let v25 : BitVec 32 := Scalar.remsi v1 c2_i32_6
  let c0_i32_11 : BitVec 32 := 0#32
  let v26 : BitVec 1 := Scalar.cmpi .ne v25 c0_i32_11
  let v27 : BitVec 1 := Scalar.andi v24 v26
  let c1_i32_12 : BitVec 32 := 1#32
  let v28 : BitVec 32 := Scalar.subi v13 c1_i32_12
  let v29 : BitVec 32 := Scalar.select v27 v28 v13
  let v30 : BitVec 32 := Scalar.addi v12 v29
  let c0_i32_13 : BitVec 32 := 0#32
  let c0_i32_14 : BitVec 32 := 0#32
  let c0_i32_15 : BitVec 32 := 0#32
  ![v30.toNat, c0_i32_13.toNat, c0_i32_14.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c2_i32_0 : BitVec 32 := 2#32
  let c0_i32 : BitVec 32 := 0#32
  let v2 : BitVec 1 := Scalar.cmpi .eq c2_i32_0 c0_i32
  let c1_i32_1 : BitVec 32 := 1#32
  let v3 : BitVec 32 := Scalar.select v2 c1_i32_1 c2_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c2_i32_5 : BitVec 32 := 2#32
  let v12 : BitVec 32 := Scalar.muli v11 c2_i32_5
  let c2_i32_6 : BitVec 32 := 2#32
  let v13 : BitVec 32 := Scalar.divsi v1 c2_i32_6
  let c0_i32_7 : BitVec 32 := 0#32
  let v14 : BitVec 1 := Scalar.cmpi .sgt v1 c0_i32_7
  let v15 : BitVec 32 := Scalar.extui v14
  let c0_i32_8 : BitVec 32 := 0#32
  let v16 : BitVec 1 := Scalar.cmpi .slt v1 c0_i32_8
  let v17 : BitVec 32 := Scalar.extui v16
  let v18 : BitVec 32 := Scalar.subi v15 v17
  let c0_i32_9 : BitVec 32 := 0#32
  let v19 : BitVec 1 := Scalar.cmpi .sgt c2_i32_6 c0_i32_9
  let v20 : BitVec 32 := Scalar.extui v19
  let c0_i32_10 : BitVec 32 := 0#32
  let v21 : BitVec 1 := Scalar.cmpi .slt c2_i32_6 c0_i32_10
  let v22 : BitVec 32 := Scalar.extui v21
  let v23 : BitVec 32 := Scalar.subi v20 v22
  let v24 : BitVec 1 := Scalar.cmpi .ne v18 v23
  let v25 : BitVec 32 := Scalar.remsi v1 c2_i32_6
  let c0_i32_11 : BitVec 32 := 0#32
  let v26 : BitVec 1 := Scalar.cmpi .ne v25 c0_i32_11
  let v27 : BitVec 1 := Scalar.andi v24 v26
  let c1_i32_12 : BitVec 32 := 1#32
  let v28 : BitVec 32 := Scalar.subi v13 c1_i32_12
  let v29 : BitVec 32 := Scalar.select v27 v28 v13
  let v30 : BitVec 32 := Scalar.addi v12 v29
  let c0_i32_13 : BitVec 32 := 0#32
  let c0_i32_14 : BitVec 32 := 0#32
  let c0_i32_15 : BitVec 32 := 0#32
  ![v30.toNat, c0_i32_13.toNat, c0_i32_14.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S544x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S4352x1024 : Shape := ⟨2, ![4352, 1024]⟩
abbrev S1024x5632 : Shape := ⟨2, ![1024, 5632]⟩
abbrev S4352x5632 : Shape := ⟨2, ![4352, 5632]⟩
abbrev S4352x2816 : Shape := ⟨2, ![4352, 2816]⟩
abbrev S_ : Shape := ⟨0, ![]⟩
abbrev S4352x1408 : Shape := ⟨2, ![4352, 1408]⟩

abbrev nBuf : Space → Nat
  | .hbm => 22
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x5632, .f32⟩
  | .hbm, ⟨2, _⟩ => ⟨S4352x5632, .f32⟩
  | .hbm, ⟨3, _⟩ => ⟨S4352x2816, .f32⟩
  | .hbm, ⟨4, _⟩ => ⟨S4352x2816, .f32⟩
  | .hbm, ⟨5, _⟩ => ⟨S4352x2816, .f32⟩
  | .hbm, ⟨6, _⟩ => ⟨S4352x2816, .f32⟩
  | .hbm, ⟨7, _⟩ => ⟨S_, .f32⟩
  | .hbm, ⟨8, _⟩ => ⟨S4352x2816, .f32⟩
  | .hbm, ⟨9, _⟩ => ⟨S4352x2816, .f32⟩
  | .hbm, ⟨10, _⟩ => ⟨S_, .f32⟩
  | .hbm, ⟨11, _⟩ => ⟨S4352x2816, .f32⟩
  | .hbm, ⟨12, _⟩ => ⟨S4352x2816, .f32⟩
  | .hbm, ⟨13, _⟩ => ⟨S4352x2816, .f32⟩
  | .hbm, ⟨14, _⟩ => ⟨S4352x2816, .f32⟩
  | .hbm, ⟨15, _⟩ => ⟨S4352x1408, .f32⟩
  | .hbm, ⟨16, _⟩ => ⟨S4352x1408, .f32⟩
  | .hbm, ⟨17, _⟩ => ⟨S4352x1408, .f32⟩
  | .hbm, ⟨18, _⟩ => ⟨S4352x1408, .f32⟩
  | .hbm, ⟨19, _⟩ => ⟨S4352x5632, .f32⟩
  | .hbm, ⟨20, _⟩ => ⟨S4352x5632, .bf16⟩
  | .hbm, ⟨21, _⟩ => ⟨S4352x2816, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel9.lean ====
abbrev S4352x2816 : Shape := ⟨2, ![4352, 2816]⟩
abbrev S2816x1024 : Shape := ⟨2, ![2816, 1024]⟩
abbrev S4352x1024 : Shape := ⟨2, ![4352, 1024]⟩
abbrev S544x2816 : Shape := ⟨2, ![544, 2816]⟩
abbrev S544x1024 : Shape := ⟨2, ![544, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4352x2816, .f32⟩
  | .hbm, ⟨1, _⟩ => ⟨S2816x1024, .f32⟩
  | .hbm, ⟨2, _⟩ => ⟨S4352x2816, .bf16⟩
  | .hbm, ⟨3, _⟩ => ⟨S2816x1024, .bf16⟩
  | .hbm, ⟨4, _⟩ => ⟨S4352x1024, .bf16⟩
  | .local _ .vmem, ⟨0, _⟩ => ⟨S544x2816, .bf16⟩
  | .local _ .vmem, ⟨1, _⟩ => ⟨S544x2816, .bf16⟩
  | .local _ .vmem, ⟨2, _⟩ => ⟨S2816x1024, .bf16⟩
  | .local _ .vmem, ⟨3, _⟩ => ⟨S544x1024, .bf16⟩
  | .local _ .vmem, ⟨4, _⟩ => ⟨S544x1024, .bf16⟩
  | _, _ => ⟨S4352x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4352x2816 : Shape := ⟨2, ![4352, 2816]⟩
abbrev S2816x1024 : Shape := ⟨2, ![2816, 1024]⟩
abbrev S4352x1024 : Shape := ⟨2, ![4352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4352x2816, .f32⟩
  | .hbm, ⟨1, _⟩ => ⟨S2816x1024, .f32⟩
  | .hbm, ⟨2, _⟩ => ⟨S4352x1024, .f32⟩
  | .hbm, ⟨3, _⟩ => ⟨S4352x1024, .bf16⟩
  | _, _ => ⟨S4352x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S4352x1024 : Shape := ⟨2, ![4352, 1024]⟩
abbrev S1024x2832 : Shape := ⟨2, ![1024, 2832]⟩
abbrev S_ : Shape := ⟨0, ![]⟩
abbrev S1024x112 : Shape := ⟨2, ![1024, 112]⟩
abbrev S1024x2944 : Shape := ⟨2, ![1024, 2944]⟩
abbrev S4352x2944 : Shape := ⟨2, ![4352, 2944]⟩
abbrev S544x1024 : Shape := ⟨2, ![544, 1024]⟩
abbrev S544x2944 : Shape := ⟨2, ![544, 2944]⟩

abbrev nBuf : Space → Nat
  | .hbm => 8
  | .vmem => 5
  | .smem => 0
  | _ => 0

abbrev bufTy : (tb : Table) → Fin (tcTables nBuf tb) → BufTy
  | .hbm, ⟨0, _⟩ => ⟨S4352x1024, .f32⟩
  | .hbm, ⟨1, _⟩ => ⟨S1024x2832, .f32⟩
  | .hbm, ⟨2, _⟩ => ⟨S4352x1024, .bf16⟩
  | .hbm, ⟨3, _⟩ => ⟨S_, .f32⟩
  | .hbm, ⟨4, _⟩ => ⟨S1024x112, .f32⟩
  | .hbm, ⟨5, _⟩ => ⟨S1024x2944, .f32⟩
  | .hbm, ⟨6, _⟩ => ⟨S1024x2944, .bf16⟩
  | .hbm, ⟨7, _⟩ => ⟨S4352x2944, .f32⟩
  | .local _ .vmem, ⟨0, _⟩ => ⟨S544x1024, .bf16⟩
  | .local _ .vmem, ⟨1, _⟩ => ⟨S544x1024, .bf16⟩
  | .local _ .vmem, ⟨2, _⟩ => ⟨S1024x2944, .bf16⟩
  | .local _ .vmem, ⟨3, _⟩ => ⟨S544x2944, .f32⟩
  | .local _ .vmem, ⟨4, _⟩ => ⟨S544x2944, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S544x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4352x1024 : Shape := ⟨2, ![4352, 1024]⟩
abbrev S1024x2832 : Shape := ⟨2, ![1024, 2832]⟩
abbrev S4352x2832 : Shape := ⟨2, ![4352, 2832]⟩
abbrev S_ : Shape := ⟨0, ![]⟩
abbrev S4352x112 : Shape := ⟨2, ![4352, 112]⟩
abbrev S4352x2944 : Shape := ⟨2, ![4352, 2944]⟩

abbrev nBuf : Space → Nat
  | .hbm => 6
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x2832, .f32⟩
  | .hbm, ⟨2, _⟩ => ⟨S4352x2832, .f32⟩
  | .hbm, ⟨3, _⟩ => ⟨S_, .f32⟩
  | .hbm, ⟨4, _⟩ => ⟨S4352x112, .f32⟩
  | .hbm, ⟨5, _⟩ => ⟨S4352x2944, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S4352x256 : Shape := ⟨2, ![4352, 256]⟩
abbrev S4352x512 : Shape := ⟨2, ![4352, 512]⟩
abbrev S1024x1024 : Shape := ⟨2, ![1024, 1024]⟩
abbrev S4352x1024 : Shape := ⟨2, ![4352, 1024]⟩
abbrev S544x256 : Shape := ⟨2, ![544, 256]⟩
abbrev S544x512 : Shape := ⟨2, ![544, 512]⟩
abbrev S544x1024 : Shape := ⟨2, ![544, 1024]⟩
abbrev S256x1024 : Shape := ⟨2, ![256, 1024]⟩
abbrev S512x1024 : Shape := ⟨2, ![512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4352x256, .f32⟩
  | .hbm, ⟨1, _⟩ => ⟨S4352x256, .f32⟩
  | .hbm, ⟨2, _⟩ => ⟨S4352x512, .f32⟩
  | .hbm, ⟨3, _⟩ => ⟨S1024x1024, .f32⟩
  | .hbm, ⟨4, _⟩ => ⟨S4352x256, .bf16⟩
  | .hbm, ⟨5, _⟩ => ⟨S4352x256, .bf16⟩
  | .hbm, ⟨6, _⟩ => ⟨S4352x512, .bf16⟩
  | .hbm, ⟨7, _⟩ => ⟨S1024x1024, .bf16⟩
  | .hbm, ⟨8, _⟩ => ⟨S4352x1024, .bf16⟩
  | .local _ .vmem, ⟨0, _⟩ => ⟨S544x256, .bf16⟩
  | .local _ .vmem, ⟨1, _⟩ => ⟨S544x256, .bf16⟩
  | .local _ .vmem, ⟨2, _⟩ => ⟨S544x256, .bf16⟩
  | .local _ .vmem, ⟨3, _⟩ => ⟨S544x256, .bf16⟩
  | .local _ .vmem, ⟨4, _⟩ => ⟨S544x512, .bf16⟩
  | .local _ .vmem, ⟨5, _⟩ => ⟨S544x512, .bf16⟩
  | .local _ .vmem, ⟨6, _⟩ => ⟨S1024x1024, .bf16⟩
  | .local _ .vmem, ⟨7, _⟩ => ⟨S544x1024, .bf16⟩
  | .local _ .vmem, ⟨8, _⟩ => ⟨S544x1024, .bf16⟩
  | _, _ => ⟨S4352x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S4352x256 : Shape := ⟨2, ![4352, 256]⟩
abbrev S4352x512 : Shape := ⟨2, ![4352, 512]⟩
abbrev S1024x1024 : Shape := ⟨2, ![1024, 1024]⟩
abbrev S4352x1024 : Shape := ⟨2, ![4352, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4352x256, .f32⟩
  | .hbm, ⟨1, _⟩ => ⟨S4352x256, .f32⟩
  | .hbm, ⟨2, _⟩ => ⟨S4352x512, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S4352x1024, .bf16⟩
  | _, _ => ⟨S4352x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel12.lean ====
abbrev S4352x1024 : Shape := ⟨2, ![4352, 1024]⟩
abbrev S1024x2832 : Shape := ⟨2, ![1024, 2832]⟩
abbrev S4352x256 : Shape := ⟨2, ![4352, 256]⟩
abbrev S4352x512 : Shape := ⟨2, ![4352, 512]⟩
abbrev S4352x128 : Shape := ⟨2, ![4352, 128]⟩
abbrev S4352x16 : Shape := ⟨2, ![4352, 16]⟩
abbrev S_ : Shape := ⟨0, ![]⟩
abbrev S4352x112 : Shape := ⟨2, ![4352, 112]⟩
abbrev S1024x2944 : Shape := ⟨2, ![1024, 2944]⟩
abbrev S1088x512 : Shape := ⟨2, ![1088, 512]⟩
abbrev S1088x256 : Shape := ⟨2, ![1088, 256]⟩
abbrev S1088x128 : Shape := ⟨2, ![1088, 128]⟩
abbrev S1088x1024 : Shape := ⟨2, ![1088, 1024]⟩
abbrev S512x2944 : Shape := ⟨2, ![512, 2944]⟩
abbrev S512x256 : Shape := ⟨2, ![512, 256]⟩
abbrev S512x512 : Shape := ⟨2, ![512, 512]⟩
abbrev S512x128 : Shape := ⟨2, ![512, 128]⟩
abbrev S512x1024 : Shape := ⟨2, ![512, 1024]⟩

abbrev nBuf : Space → Nat
  | .hbm => 21
  | .vmem => 23
  | .smem => 0
  | _ => 0

abbrev bufTy : (tb : Table) → Fin (tcTables nBuf tb) → BufTy
  | .hbm, ⟨0, _⟩ => ⟨S4352x1024, .f32⟩
  | .hbm, ⟨1, _⟩ => ⟨S1024x2832, .f32⟩
  | .hbm, ⟨2, _⟩ => ⟨S4352x256, .f32⟩
  | .hbm, ⟨3, _⟩ => ⟨S4352x256, .f32⟩
  | .hbm, ⟨4, _⟩ => ⟨S4352x512, .f32⟩
  | .hbm, ⟨5, _⟩ => ⟨S4352x128, .f32⟩
  | .hbm, ⟨6, _⟩ => ⟨S4352x128, .f32⟩
  | .hbm, ⟨7, _⟩ => ⟨S4352x256, .f32⟩
  | .hbm, ⟨8, _⟩ => ⟨S4352x256, .f32⟩
  | .hbm, ⟨9, _⟩ => ⟨S4352x1024, .f32⟩
  | .hbm, ⟨10, _⟩ => ⟨S4352x16, .f32⟩
  | .hbm, ⟨11, _⟩ => ⟨S_, .f32⟩
  | .hbm, ⟨12, _⟩ => ⟨S4352x112, .f32⟩
  | .hbm, ⟨13, _⟩ => ⟨S4352x128, .f32⟩
  | .hbm, ⟨14, _⟩ => ⟨S4352x256, .bf16⟩
  | .hbm, ⟨15, _⟩ => ⟨S4352x256, .bf16⟩
  | .hbm, ⟨16, _⟩ => ⟨S4352x512, .bf16⟩
  | .hbm, ⟨17, _⟩ => ⟨S4352x128, .bf16⟩
  | .hbm, ⟨18, _⟩ => ⟨S4352x1024, .bf16⟩
  | .hbm, ⟨19, _⟩ => ⟨S4352x1024, .bf16⟩
  | .hbm, ⟨20, _⟩ => ⟨S1024x2944, .bf16⟩
  | .local _ .vmem, ⟨0, _⟩ => ⟨S1088x512, .bf16⟩
  | .local _ .vmem, ⟨1, _⟩ => ⟨S1088x512, .bf16⟩
  | .local _ .vmem, ⟨2, _⟩ => ⟨S1088x256, .bf16⟩
  | .local _ .vmem, ⟨3, _⟩ => ⟨S1088x256, .bf16⟩
  | .local _ .vmem, ⟨4, _⟩ => ⟨S1088x256, .bf16⟩
  | .local _ .vmem, ⟨5, _⟩ => ⟨S1088x256, .bf16⟩
  | .local _ .vmem, ⟨6, _⟩ => ⟨S1088x512, .bf16⟩
  | .local _ .vmem, ⟨7, _⟩ => ⟨S1088x512, .bf16⟩
  | .local _ .vmem, ⟨8, _⟩ => ⟨S1088x128, .bf16⟩
  | .local _ .vmem, ⟨9, _⟩ => ⟨S1088x128, .bf16⟩
  | .local _ .vmem, ⟨10, _⟩ => ⟨S1088x128, .f32⟩
  | .local _ .vmem, ⟨11, _⟩ => ⟨S1088x128, .f32⟩
  | .local _ .vmem, ⟨12, _⟩ => ⟨S1088x256, .f32⟩
  | .local _ .vmem, ⟨13, _⟩ => ⟨S1088x256, .f32⟩
  | .local _ .vmem, ⟨14, _⟩ => ⟨S1088x256, .f32⟩
  | .local _ .vmem, ⟨15, _⟩ => ⟨S1088x256, .f32⟩
  | .local _ .vmem, ⟨16, _⟩ => ⟨S1088x1024, .bf16⟩
  | .local _ .vmem, ⟨17, _⟩ => ⟨S1088x1024, .bf16⟩
  | .local _ .vmem, ⟨18, _⟩ => ⟨S1088x128, .f32⟩
  | .local _ .vmem, ⟨19, _⟩ => ⟨S1088x128, .f32⟩
  | .local _ .vmem, ⟨20, _⟩ => ⟨S512x2944, .bf16⟩
  | .local _ .vmem, ⟨21, _⟩ => ⟨S512x2944, .bf16⟩
  | .local _ .vmem, ⟨22, _⟩ => ⟨S512x2944, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v94 : BitVec 1 := Scalar.cmpi .eq arg1 c3_i32
  let v95 : BitVec 32 := Scalar.extui v94
  let c0_i32_72 : BitVec 32 := 0#32
  let v96 : BitVec 1 := Scalar.cmpi .ne v95 c0_i32_72
  v96

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1088x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1088x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1088x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1088x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1088x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1088x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1088x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2944 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference12Ideal.lean ====
abbrev S4352x1024 : Shape := ⟨2, ![4352, 1024]⟩
abbrev S1024x2832 : Shape := ⟨2, ![1024, 2832]⟩
abbrev S4352x256 : Shape := ⟨2, ![4352, 256]⟩
abbrev S4352x512 : Shape := ⟨2, ![4352, 512]⟩
abbrev S4352x128 : Shape := ⟨2, ![4352, 128]⟩
abbrev S4352x16 : Shape := ⟨2, ![4352, 16]⟩
abbrev S4352x2832 : Shape := ⟨2, ![4352, 2832]⟩
abbrev S_ : Shape := ⟨0, ![]⟩
abbrev S2832x1024 : Shape := ⟨2, ![2832, 1024]⟩
abbrev S1024x112 : Shape := ⟨2, ![1024, 112]⟩
abbrev S1024x2944 : Shape := ⟨2, ![1024, 2944]⟩

abbrev nBuf : Space → Nat
  | .hbm => 54
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x2832, .f32⟩
  | .hbm, ⟨2, _⟩ => ⟨S4352x256, .f32⟩
  | .hbm, ⟨3, _⟩ => ⟨S4352x256, .f32⟩
  | .hbm, ⟨4, _⟩ => ⟨S4352x512, .f32⟩
  | .hbm, ⟨5, _⟩ => ⟨S4352x128, .f32⟩
  | .hbm, ⟨6, _⟩ => ⟨S4352x128, .f32⟩
  | .hbm, ⟨7, _⟩ => ⟨S4352x256, .f32⟩
  | .hbm, ⟨8, _⟩ => ⟨S4352x256, .f32⟩
  | .hbm, ⟨9, _⟩ => ⟨S4352x1024, .f32⟩
  | .hbm, ⟨10, _⟩ => ⟨S4352x16, .f32⟩
  | .hbm, ⟨11, _⟩ => ⟨S4352x2832, .f32⟩
  | .hbm, ⟨12, _⟩ => ⟨S4352x256, .f32⟩
  | .hbm, ⟨13, _⟩ => ⟨S4352x256, .f32⟩
  | .hbm, ⟨14, _⟩ => ⟨S4352x512, .f32⟩
  | .hbm, ⟨15, _⟩ => ⟨S4352x128, .f32⟩
  | .hbm, ⟨16, _⟩ => ⟨S4352x128, .f32⟩
  | .hbm, ⟨17, _⟩ => ⟨S4352x256, .f32⟩
  | .hbm, ⟨18, _⟩ => ⟨S4352x256, .f32⟩
  | .hbm, ⟨19, _⟩ => ⟨S4352x1024, .f32⟩
  | .hbm, ⟨20, _⟩ => ⟨S4352x16, .f32⟩
  | .hbm, ⟨21, _⟩ => ⟨S_, .f32⟩
  | .hbm, ⟨22, _⟩ => ⟨S4352x2832, .f32⟩
  | .hbm, ⟨23, _⟩ => ⟨S_, .f32⟩
  | .hbm, ⟨24, _⟩ => ⟨S4352x2832, .f32⟩
  | .hbm, ⟨25, _⟩ => ⟨S4352x2832, .f32⟩
  | .hbm, ⟨26, _⟩ => ⟨S_, .f32⟩
  | .hbm, ⟨27, _⟩ => ⟨S4352x2832, .f32⟩
  | .hbm, ⟨28, _⟩ => ⟨S4352x2832, .f32⟩
  | .hbm, ⟨29, _⟩ => ⟨S_, .f32⟩
  | .hbm, ⟨30, _⟩ => ⟨S4352x2832, .f32⟩
  | .hbm, ⟨31, _⟩ => ⟨S4352x2832, .f32⟩
  | .hbm, ⟨32, _⟩ => ⟨S_, .f32⟩
  | .hbm, ⟨33, _⟩ => ⟨S4352x2832, .f32⟩
  | .hbm, ⟨34, _⟩ => ⟨S4352x2832, .f32⟩
  | .hbm, ⟨35, _⟩ => ⟨S_, .f32⟩
  | .hbm, ⟨36, _⟩ => ⟨S4352x2832, .f32⟩
  | .hbm, ⟨37, _⟩ => ⟨S4352x2832, .f32⟩
  | .hbm, ⟨38, _⟩ => ⟨S_, .f32⟩
  | .hbm, ⟨39, _⟩ => ⟨S4352x2832, .f32⟩
  | .hbm, ⟨40, _⟩ => ⟨S4352x2832, .f32⟩
  | .hbm, ⟨41, _⟩ => ⟨S_, .f32⟩
  | .hbm, ⟨42, _⟩ => ⟨S4352x2832, .f32⟩
  | .hbm, ⟨43, _⟩ => ⟨S4352x2832, .f32⟩
  | .hbm, ⟨44, _⟩ => ⟨S_, .f32⟩
  | .hbm, ⟨45, _⟩ => ⟨S4352x2832, .f32⟩
  | .hbm, ⟨46, _⟩ => ⟨S4352x2832, .f32⟩
  | .hbm, ⟨47, _⟩ => ⟨S2832x1024, .f32⟩
  | .hbm, ⟨48, _⟩ => ⟨S1024x2832, .f32⟩
  | .hbm, ⟨49, _⟩ => ⟨S4352x1024, .f32⟩
  | .hbm, ⟨50, _⟩ => ⟨S_, .f32⟩
  | .hbm, ⟨51, _⟩ => ⟨S1024x112, .f32⟩
  | .hbm, ⟨52, _⟩ => ⟨S1024x2944, .f32⟩
  | .hbm, ⟨53, _⟩ => ⟨S1024x2944, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== Kernel13.lean ====
abbrev S4352x1024 : Shape := ⟨2, ![4352, 1024]⟩
abbrev S4352x512 : Shape := ⟨2, ![4352, 512]⟩
abbrev S4352x256 : Shape := ⟨2, ![4352, 256]⟩
abbrev S256x1024 : Shape := ⟨2, ![256, 1024]⟩
abbrev S256x512 : Shape := ⟨2, ![256, 512]⟩
abbrev S256x256 : Shape := ⟨2, ![256, 256]⟩

abbrev nBuf : Space → Nat
  | .hbm => 9
  | .vmem => 18
  | .smem => 0
  | _ => 0

abbrev bufTy : (tb : Table) → Fin (tcTables nBuf tb) → BufTy
  | .hbm, ⟨0, _⟩ => ⟨S4352x1024, .f32⟩
  | .hbm, ⟨1, _⟩ => ⟨S4352x512, .f32⟩
  | .hbm, ⟨2, _⟩ => ⟨S4352x512, .f32⟩
  | .hbm, ⟨3, _⟩ => ⟨S4352x512, .f32⟩
  | .hbm, ⟨4, _⟩ => ⟨S4352x256, .f32⟩
  | .hbm, ⟨5, _⟩ => ⟨S4352x256, .f32⟩
  | .hbm, ⟨6, _⟩ => ⟨S4352x256, .f32⟩
  | .hbm, ⟨7, _⟩ => ⟨S4352x256, .f32⟩
  | .hbm, ⟨8, _⟩ => ⟨S4352x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x1024, .f32⟩
  | .local _ .vmem, ⟨17, _⟩ => ⟨S256x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S4352x1024 : Shape := ⟨2, ![4352, 1024]⟩
abbrev S4352x512 : Shape := ⟨2, ![4352, 512]⟩
abbrev S4352x256 : Shape := ⟨2, ![4352, 256]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x512, .f32⟩
  | .hbm, ⟨2, _⟩ => ⟨S4352x512, .f32⟩
  | .hbm, ⟨3, _⟩ => ⟨S4352x512, .f32⟩
  | .hbm, ⟨4, _⟩ => ⟨S4352x256, .f32⟩
  | .hbm, ⟨5, _⟩ => ⟨S4352x256, .f32⟩
  | .hbm, ⟨6, _⟩ => ⟨S4352x256, .f32⟩
  | .hbm, ⟨7, _⟩ => ⟨S4352x256, .f32⟩
  | .hbm, ⟨8, _⟩ => ⟨S4352x1024, .f32⟩
  | .hbm, ⟨9, _⟩ => ⟨S4352x1024, .f32⟩
  | .hbm, ⟨10, _⟩ => ⟨S_, .f32⟩
  | .hbm, ⟨11, _⟩ => ⟨S4352x1024, .f32⟩
  | .hbm, ⟨12, _⟩ => ⟨S4352x1024, .f32⟩
  | .hbm, ⟨13, _⟩ => ⟨S_, .f32⟩
  | .hbm, ⟨14, _⟩ => ⟨S4352x1024, .f32⟩
  | .hbm, ⟨15, _⟩ => ⟨S4352x1024, .f32⟩
  | .hbm, ⟨16, _⟩ => ⟨S_, .f32⟩
  | .hbm, ⟨17, _⟩ => ⟨S4352x1024, .f32⟩
  | .hbm, ⟨18, _⟩ => ⟨S4352x1024, .f32⟩
  | .hbm, ⟨19, _⟩ => ⟨S4352x1024, .f32⟩
  | .hbm, ⟨20, _⟩ => ⟨S4352x1024, .f32⟩
  | .hbm, ⟨21, _⟩ => ⟨S4352x512, .f32⟩
  | .hbm, ⟨22, _⟩ => ⟨S4352x256, .f32⟩
  | .hbm, ⟨23, _⟩ => ⟨S4352x256, .f32⟩
  | .hbm, ⟨24, _⟩ => ⟨S4352x512, .f32⟩
  | .hbm, ⟨25, _⟩ => ⟨S4352x512, .f32⟩
  | .hbm, ⟨26, _⟩ => ⟨S4352x256, .f32⟩
  | .hbm, ⟨27, _⟩ => ⟨S4352x256, .f32⟩
  | .hbm, ⟨28, _⟩ => ⟨S4352x1024, .f32⟩
  | .hbm, ⟨29, _⟩ => ⟨S4352x1024, .f32⟩
  | .hbm, ⟨30, _⟩ => ⟨S4352x1024, .f32⟩
  | .hbm, ⟨31, _⟩ => ⟨S4352x1024, .f32⟩
  | .hbm, ⟨32, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v0_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v0_1 : Ref sig .tc := ⟨.hbm, 19, rfl⟩
abbrev main_v0_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v9 : Ref sig .tc := ⟨.hbm, 32, rfl⟩

abbrev nD : Nat := 1
abbrev τ : Topo := Topo.v7x

variable {F : FTy → Type} [FloatOps F]
-- ==== Kernel14.lean ====
abbrev S4352x1024 : Shape := ⟨2, ![4352, 1024]⟩
abbrev S7x1024 : Shape := ⟨2, ![7, 1024]⟩
abbrev S1024 : Shape := ⟨1, ![1024]⟩
abbrev S_ : Shape := ⟨0, ![]⟩
abbrev S4352x1792 : Shape := ⟨2, ![4352, 1792]⟩
abbrev S4352x128 : Shape := ⟨2, ![4352, 128]⟩
abbrev S4352x2944 : Shape := ⟨2, ![4352, 2944]⟩
abbrev S1x1024 : Shape := ⟨2, ![1, 1024]⟩
abbrev S8x1024 : Shape := ⟨2, ![8, 1024]⟩
abbrev S8x256 : Shape := ⟨2, ![8, 256]⟩
abbrev S256x256 : Shape := ⟨2, ![256, 256]⟩
abbrev S256x1024 : Shape := ⟨2, ![256, 1024]⟩
abbrev S272x256 : Shape := ⟨2, ![272, 256]⟩
abbrev S64x256 : Shape := ⟨2, ![64, 256]⟩
abbrev S1x256 : Shape := ⟨2, ![1, 256]⟩
abbrev S256 : Shape := ⟨1, ![256]⟩

abbrev nBuf : Space → Nat
  | .hbm => 15
  | .vmem => 38
  | .smem => 0
  | _ => 0

abbrev bufTy : (tb : Table) → Fin (tcTables nBuf tb) → BufTy
  | .hbm, ⟨0, _⟩ => ⟨S4352x1024, .f32⟩
  | .hbm, ⟨1, _⟩ => ⟨S7x1024, .f32⟩
  | .hbm, ⟨2, _⟩ => ⟨S1024, .f32⟩
  | .hbm, ⟨3, _⟩ => ⟨S4352x1024, .f32⟩
  | .hbm, ⟨4, _⟩ => ⟨S_, .f32⟩
  | .hbm, ⟨5, _⟩ => ⟨S4352x1792, .f32⟩
  | .hbm, ⟨6, _⟩ => ⟨S_, .f32⟩
  | .hbm, ⟨7, _⟩ => ⟨S4352x128, .f32⟩
  | .hbm, ⟨8, _⟩ => ⟨S4352x2944, .f32⟩
  | .hbm, ⟨9, _⟩ => ⟨S_, .f32⟩
  | .hbm, ⟨10, _⟩ => ⟨S1x1024, .f32⟩
  | .hbm, ⟨11, _⟩ => ⟨S8x1024, .f32⟩
  | .hbm, ⟨12, _⟩ => ⟨S4352x1024, .bf16⟩
  | .hbm, ⟨13, _⟩ => ⟨S8x1024, .f32⟩
  | .hbm, ⟨14, _⟩ => ⟨S8x1024, .f32⟩
  | .local _ .vmem, ⟨0, _⟩ => ⟨S8x256, .f32⟩
  | .local _ .vmem, ⟨1, _⟩ => ⟨S8x256, .f32⟩
  | .local _ .vmem, ⟨2, _⟩ => ⟨S256x256, .f32⟩
  | .local _ .vmem, ⟨3, _⟩ => ⟨S256x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S256x256, .f32⟩
  | .local _ .vmem, ⟨9, _⟩ => ⟨S256x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | .local _ .vmem, ⟨14, _⟩ => ⟨S256x256, .f32⟩
  | .local _ .vmem, ⟨15, _⟩ => ⟨S256x256, .f32⟩
  | .local _ .vmem, ⟨16, _⟩ => ⟨S8x256, .f32⟩
  | .local _ .vmem, ⟨17, _⟩ => ⟨S8x256, .f32⟩
  | .local _ .vmem, ⟨18, _⟩ => ⟨S8x256, .f32⟩
  | .local _ .vmem, ⟨19, _⟩ => ⟨S8x256, .f32⟩
  | .local _ .vmem, ⟨20, _⟩ => ⟨S256x256, .f32⟩
  | .local _ .vmem, ⟨21, _⟩ => ⟨S256x256, .f32⟩
  | .local _ .vmem, ⟨22, _⟩ => ⟨S8x256, .f32⟩
  | .local _ .vmem, ⟨23, _⟩ => ⟨S8x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S8x1024, .f32⟩
  | .local _ .vmem, ⟨33, _⟩ => ⟨S256x1024, .bf16⟩
  | .local _ .vmem, ⟨34, _⟩ => ⟨S256x1024, .bf16⟩
  | .local _ .vmem, ⟨35, _⟩ => ⟨S8x1024, .f32⟩
  | .local _ .vmem, ⟨36, _⟩ => ⟨S8x1024, .f32⟩
  | .local _ .vmem, ⟨37, _⟩ => ⟨S272x256, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg19_0 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem17_1 : DmaSem sig := 34
abbrev cc0_sem18_0 : DmaSem sig := 35
abbrev cc0_sem19_0 : DmaSem sig := 36

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c543_i32 : BitVec 32 := 543#32
  let v2 : BitVec 32 := Scalar.minsi v1 c543_i32
  let c1_i32_0 : BitVec 32 := 1#32
  let c0_i32 : BitVec 32 := 0#32
  ![v2.toNat, c1_i32_0.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c543_i32 : BitVec 32 := 543#32
  let v2 : BitVec 32 := Scalar.minsi v1 c543_i32
  let c2_i32 : BitVec 32 := 2#32
  let c0_i32 : BitVec 32 := 0#32
  ![v2.toNat, c2_i32.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_10 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c543_i32 : BitVec 32 := 543#32
  let v2 : BitVec 32 := Scalar.minsi v1 c543_i32
  let c3_i32 : BitVec 32 := 3#32
  let c0_i32 : BitVec 32 := 0#32
  ![v2.toNat, c3_i32.toNat]

def cc0_transform_12 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_13 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_14 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_15 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference14Ideal.lean ====
abbrev S4352x1024 : Shape := ⟨2, ![4352, 1024]⟩
abbrev S7x1024 : Shape := ⟨2, ![7, 1024]⟩
abbrev S1024 : Shape := ⟨1, ![1024]⟩
abbrev S4096x1024 : Shape := ⟨2, ![4096, 1024]⟩
abbrev S_ : Shape := ⟨0, ![]⟩
abbrev S3x1024 : Shape := ⟨2, ![3, 1024]⟩
abbrev S4102x1024 : Shape := ⟨2, ![4102, 1024]⟩
abbrev S1x1024 : Shape := ⟨2, ![1, 1024]⟩
abbrev S256x1024 : Shape := ⟨2, ![256, 1024]⟩
abbrev S262x1024 : Shape := ⟨2, ![262, 1024]⟩

abbrev nBuf : Space → Nat
  | .hbm => 355
  | .vmem => 0
  | .smem => 0
  | _ => 0

abbrev hbmTy0_0 (i : Nat) : BufTy := match i % 128 with
  | 0 => ⟨S4352x1024, .f32⟩
  | 1 => ⟨S7x1024, .f32⟩
  | 2 => ⟨S1024, .f32⟩
  | 3 => ⟨S4352x1024, .f32⟩
  | 4 => ⟨S4096x1024, .f32⟩
  | 5 => ⟨S_, .f32⟩
  | 6 => ⟨S3x1024, .f32⟩
  | 7 => ⟨S4102x1024, .f32⟩
  | 8 => ⟨S_, .f32⟩
  | 9 => ⟨S3x1024, .f32⟩
  | 10 => ⟨S_, .f32⟩
  | 11 => ⟨S3x1024, .f32⟩
  | 12 => ⟨S4096x1024, .f32⟩
  | 13 => ⟨S1x1024, .f32⟩
  | 14 => ⟨S1024, .f32⟩
  | 15 => ⟨S1x1024, .f32⟩
  | 16 => ⟨S4096x1024, .f32⟩
  | 17 => ⟨S4096x1024, .f32⟩
  | 18 => ⟨S4096x1024, .f32⟩
  | 19 => ⟨S1x1024, .f32⟩
  | 20 => ⟨S1024, .f32⟩
  | 21 => ⟨S1x1024, .f32⟩
  | 22 => ⟨S4096x1024, .f32⟩
  | 23 => ⟨S4096x1024, .f32⟩
  | 24 => ⟨S4096x1024, .f32⟩
  | 25 => ⟨S4096x1024, .f32⟩
  | 26 => ⟨S1x1024, .f32⟩
  | 27 => ⟨S1024, .f32⟩
  | 28 => ⟨S1x1024, .f32⟩
  | 29 => ⟨S4096x1024, .f32⟩
  | 30 => ⟨S4096x1024, .f32⟩
  | 31 => ⟨S4096x1024, .f32⟩
  | 32 => ⟨S4096x1024, .f32⟩
  | 33 => ⟨S1x1024, .f32⟩
  | 34 => ⟨S1024, .f32⟩
  | 35 => ⟨S1x1024, .f32⟩
  | 36 => ⟨S4096x1024, .f32⟩
  | 37 => ⟨S4096x1024, .f32⟩
  | 38 => ⟨S4096x1024, .f32⟩
  | 39 => ⟨S4096x1024, .f32⟩
  | 40 => ⟨S1x1024, .f32⟩
  | 41 => ⟨S1024, .f32⟩
  | 42 => ⟨S1x1024, .f32⟩
  | 43 => ⟨S4096x1024, .f32⟩
  | 44 => ⟨S4096x1024, .f32⟩
  | 45 => ⟨S4096x1024, .f32⟩
  | 46 => ⟨S4096x1024, .f32⟩
  | 47 => ⟨S1x1024, .f32⟩
  | 48 => ⟨S1024, .f32⟩
  | 49 => ⟨S1x1024, .f32⟩
  | 50 => ⟨S4096x1024, .f32⟩
  | 51 => ⟨S4096x1024, .f32⟩
  | 52 => ⟨S4096x1024, .f32⟩
  | 53 => ⟨S4096x1024, .f32⟩
  | 54 => ⟨S1x1024, .f32⟩
  | 55 => ⟨S1024, .f32⟩
  | 56 => ⟨S1x1024, .f32⟩
  | 57 => ⟨S4096x1024, .f32⟩
  | 58 => ⟨S4096x1024, .f32⟩
  | 59 => ⟨S4096x1024, .f32⟩
  | 60 => ⟨S1x1024, .f32⟩
  | 61 => ⟨S4096x1024, .f32⟩
  | 62 => ⟨S4096x1024, .f32⟩
  | 63 => ⟨S256x1024, .f32⟩
  | 64 => ⟨S_, .f32⟩
  | 65 => ⟨S3x1024, .f32⟩
  | 66 => ⟨S262x1024, .f32⟩
  | 67 => ⟨S_, .f32⟩
  | 68 => ⟨S3x1024, .f32⟩
  | 69 => ⟨S_, .f32⟩
  | 70 => ⟨S3x1024, .f32⟩
  | 71 => ⟨S256x1024, .f32⟩
  | 72 => ⟨S1x1024, .f32⟩
  | 73 => ⟨S1024, .f32⟩
  | 74 => ⟨S1x1024, .f32⟩
  | 75 => ⟨S256x1024, .f32⟩
  | 76 => ⟨S256x1024, .f32⟩
  | 77 => ⟨S256x1024, .f32⟩
  | 78 => ⟨S1x1024, .f32⟩
  | 79 => ⟨S1024, .f32⟩
  | 80 => ⟨S1x1024, .f32⟩
  | 81 => ⟨S256x1024, .f32⟩
  | 82 => ⟨S256x1024, .f32⟩
  | 83 => ⟨S256x1024, .f32⟩
  | 84 => ⟨S256x1024, .f32⟩
  | 85 => ⟨S1x1024, .f32⟩
  | 86 => ⟨S1024, .f32⟩
  | 87 => ⟨S1x1024, .f32⟩
  | 88 => ⟨S256x1024, .f32⟩
  | 89 => ⟨S256x1024, .f32⟩
  | 90 => ⟨S256x1024, .f32⟩
  | 91 => ⟨S256x1024, .f32⟩
  | 92 => ⟨S1x1024, .f32⟩
  | 93 => ⟨S1024, .f32⟩
  | 94 => ⟨S1x1024, .f32⟩
  | 95 => ⟨S256x1024, .f32⟩
  | 96 => ⟨S256x1024, .f32⟩
  | 97 => ⟨S256x1024, .f32⟩
  | 98 => ⟨S256x1024, .f32⟩
  | 99 => ⟨S1x1024, .f32⟩
  | 100 => ⟨S1024, .f32⟩
  | 101 => ⟨S1x1024, .f32⟩
  | 102 => ⟨S256x1024, .f32⟩
  | 103 => ⟨S256x1024, .f32⟩
  | 104 => ⟨S256x1024, .f32⟩
  | 105 => ⟨S256x1024, .f32⟩
  | 106 => ⟨S1x1024, .f32⟩
  | 107 => ⟨S1024, .f32⟩
  | 108 => ⟨S1x1024, .f32⟩
  | 109 => ⟨S256x1024, .f32⟩
  | 110 => ⟨S256x1024, .f32⟩
  | 111 => ⟨S256x1024, .f32⟩
  | 112 => ⟨S256x1024, .f32⟩
  | 113 => ⟨S1x1024, .f32⟩
  | 114 => ⟨S1024, .f32⟩
  | 115 => ⟨S1x1024, .f32⟩
  | 116 => ⟨S256x1024, .f32⟩
  | 117 => ⟨S256x1024, .f32⟩
  | 118 => ⟨S256x1024, .f32⟩
  | 119 => ⟨S1x1024, .f32⟩
  | 120 => ⟨S256x1024, .f32⟩
  | 121 => ⟨S256x1024, .f32⟩
  | 122 => ⟨S4352x1024, .f32⟩
  | 123 => ⟨S4096x1024, .f32⟩
  | 124 => ⟨S256x1024, .f32⟩
  | 125 => ⟨S_, .f32⟩
  | 126 => ⟨S1024, .f32⟩
  | 127 => ⟨S1x1024, .f32⟩
  | _ => ⟨S4352x1024, .f32⟩

abbrev hbmTy0_1 (i : Nat) : BufTy := match i % 128 with
  | 0 => ⟨S_, .f32⟩
  | 1 => ⟨S1024, .f32⟩
  | 2 => ⟨S256x1024, .f32⟩
  | 3 => ⟨S_, .f32⟩
  | 4 => ⟨S1024, .f32⟩
  | 5 => ⟨S1x1024, .f32⟩
  | 6 => ⟨S256x1024, .f32⟩
  | 7 => ⟨S256x1024, .f32⟩
  | 8 => ⟨S_, .f32⟩
  | 9 => ⟨S1024, .f32⟩
  | 10 => ⟨S1x1024, .f32⟩
  | 11 => ⟨S_, .f32⟩
  | 12 => ⟨S7x1024, .f32⟩
  | 13 => ⟨S_, .f32⟩
  | 14 => ⟨S262x1024, .f32⟩
  | 15 => ⟨S256x1024, .f32⟩
  | 16 => ⟨S_, .f32⟩
  | 17 => ⟨S1024, .f32⟩
  | 18 => ⟨S1x1024, .f32⟩
  | 19 => ⟨S256x1024, .f32⟩
  | 20 => ⟨S256x1024, .f32⟩
  | 21 => ⟨S_, .f32⟩
  | 22 => ⟨S1024, .f32⟩
  | 23 => ⟨S1x1024, .f32⟩
  | 24 => ⟨S_, .f32⟩
  | 25 => ⟨S7x1024, .f32⟩
  | 26 => ⟨S7x1024, .f32⟩
  | 27 => ⟨S_, .f32⟩
  | 28 => ⟨S262x1024, .f32⟩
  | 29 => ⟨S262x1024, .f32⟩
  | 30 => ⟨S256x1024, .f32⟩
  | 31 => ⟨S_, .f32⟩
  | 32 => ⟨S1024, .f32⟩
  | 33 => ⟨S1x1024, .f32⟩
  | 34 => ⟨S256x1024, .f32⟩
  | 35 => ⟨S256x1024, .f32⟩
  | 36 => ⟨S_, .f32⟩
  | 37 => ⟨S1024, .f32⟩
  | 38 => ⟨S1x1024, .f32⟩
  | 39 => ⟨S_, .f32⟩
  | 40 => ⟨S7x1024, .f32⟩
  | 41 => ⟨S7x1024, .f32⟩
  | 42 => ⟨S_, .f32⟩
  | 43 => ⟨S262x1024, .f32⟩
  | 44 => ⟨S262x1024, .f32⟩
  | 45 => ⟨S256x1024, .f32⟩
  | 46 => ⟨S_, .f32⟩
  | 47 => ⟨S1024, .f32⟩
  | 48 => ⟨S1x1024, .f32⟩
  | 49 => ⟨S256x1024, .f32⟩
  | 50 => ⟨S256x1024, .f32⟩
  | 51 => ⟨S_, .f32⟩
  | 52 => ⟨S1024, .f32⟩
  | 53 => ⟨S1x1024, .f32⟩
  | 54 => ⟨S_, .f32⟩
  | 55 => ⟨S7x1024, .f32⟩
  | 56 => ⟨S7x1024, .f32⟩
  | 57 => ⟨S_, .f32⟩
  | 58 => ⟨S262x1024, .f32⟩
  | 59 => ⟨S262x1024, .f32⟩
  | 60 => ⟨S256x1024, .f32⟩
  | 61 => ⟨S_, .f32⟩
  | 62 => ⟨S1024, .f32⟩
  | 63 => ⟨S1x1024, .f32⟩
  | 64 => ⟨S256x1024, .f32⟩
  | 65 => ⟨S256x1024, .f32⟩
  | 66 => ⟨S_, .f32⟩
  | 67 => ⟨S1024, .f32⟩
  | 68 => ⟨S1x1024, .f32⟩
  | 69 => ⟨S_, .f32⟩
  | 70 => ⟨S7x1024, .f32⟩
  | 71 => ⟨S7x1024, .f32⟩
  | 72 => ⟨S_, .f32⟩
  | 73 => ⟨S262x1024, .f32⟩
  | 74 => ⟨S262x1024, .f32⟩
  | 75 => ⟨S256x1024, .f32⟩
  | 76 => ⟨S_, .f32⟩
  | 77 => ⟨S1024, .f32⟩
  | 78 => ⟨S1x1024, .f32⟩
  | 79 => ⟨S256x1024, .f32⟩
  | 80 => ⟨S256x1024, .f32⟩
  | 81 => ⟨S_, .f32⟩
  | 82 => ⟨S1024, .f32⟩
  | 83 => ⟨S1x1024, .f32⟩
  | 84 => ⟨S_, .f32⟩
  | 85 => ⟨S7x1024, .f32⟩
  | 86 => ⟨S7x1024, .f32⟩
  | 87 => ⟨S_, .f32⟩
  | 88 => ⟨S262x1024, .f32⟩
  | 89 => ⟨S262x1024, .f32⟩
  | 90 => ⟨S256x1024, .f32⟩
  | 91 => ⟨S_, .f32⟩
  | 92 => ⟨S1024, .f32⟩
  | 93 => ⟨S1x1024, .f32⟩
  | 94 => ⟨S256x1024, .f32⟩
  | 95 => ⟨S256x1024, .f32⟩
  | 96 => ⟨S_, .f32⟩
  | 97 => ⟨S1024, .f32⟩
  | 98 => ⟨S1x1024, .f32⟩
  | 99 => ⟨S_, .f32⟩
  | 100 => ⟨S7x1024, .f32⟩
  | 101 => ⟨S7x1024, .f32⟩
  | 102 => ⟨S_, .f32⟩
  | 103 => ⟨S262x1024, .f32⟩
  | 104 => ⟨S262x1024, .f32⟩
  | 105 => ⟨S3x1024, .f32⟩
  | 106 => ⟨S256x1024, .f32⟩
  | 107 => ⟨S3x1024, .f32⟩
  | 108 => ⟨S_, .f32⟩
  | 109 => ⟨S4352x1024, .f32⟩
  | 110 => ⟨S_, .f32⟩
  | 111 => ⟨S1024, .f32⟩
  | 112 => ⟨S1x1024, .f32⟩
  | 113 => ⟨S_, .f32⟩
  | 114 => ⟨S1024, .f32⟩
  | 115 => ⟨S1024, .f32⟩
  | 116 => ⟨S4096x1024, .f32⟩
  | 117 => ⟨S_, .f32⟩
  | 118 => ⟨S1024, .f32⟩
  | 119 => ⟨S1x1024, .f32⟩
  | 120 => ⟨S4096x1024, .f32⟩
  | 121 => ⟨S4096x1024, .f32⟩
  | 122 => ⟨S_, .f32⟩
  | 123 => ⟨S1024, .f32⟩
  | 124 => ⟨S1x1024, .f32⟩
  | 125 => ⟨S_, .f32⟩
  | 126 => ⟨S7x1024, .f32⟩
  | 127 => ⟨S7x1024, .f32⟩
  | _ => ⟨S4352x1024, .f32⟩

abbrev hbmTy0_2 (i : Nat) : BufTy := match i % 128 with
  | 0 => ⟨S_, .f32⟩
  | 1 => ⟨S4102x1024, .f32⟩
  | 2 => ⟨S4096x1024, .f32⟩
  | 3 => ⟨S_, .f32⟩
  | 4 => ⟨S1024, .f32⟩
  | 5 => ⟨S1x1024, .f32⟩
  | 6 => ⟨S4096x1024, .f32⟩
  | 7 => ⟨S4096x1024, .f32⟩
  | 8 => ⟨S_, .f32⟩
  | 9 => ⟨S1024, .f32⟩
  | 10 => ⟨S1x1024, .f32⟩
  | 11 => ⟨S_, .f32⟩
  | 12 => ⟨S7x1024, .f32⟩
  | 13 => ⟨S7x1024, .f32⟩
  | 14 => ⟨S_, .f32⟩
  | 15 => ⟨S4102x1024, .f32⟩
  | 16 => ⟨S4102x1024, .f32⟩
  | 17 => ⟨S4096x1024, .f32⟩
  | 18 => ⟨S_, .f32⟩
  | 19 => ⟨S1024, .f32⟩
  | 20 => ⟨S1x1024, .f32⟩
  | 21 => ⟨S4096x1024, .f32⟩
  | 22 => ⟨S4096x1024, .f32⟩
  | 23 => ⟨S_, .f32⟩
  | 24 => ⟨S1024, .f32⟩
  | 25 => ⟨S1x1024, .f32⟩
  | 26 => ⟨S_, .f32⟩
  | 27 => ⟨S7x1024, .f32⟩
  | 28 => ⟨S7x1024, .f32⟩
  | 29 => ⟨S_, .f32⟩
  | 30 => ⟨S4102x1024, .f32⟩
  | 31 => ⟨S4102x1024, .f32⟩
  | 32 => ⟨S4096x1024, .f32⟩
  | 33 => ⟨S_, .f32⟩
  | 34 => ⟨S1024, .f32⟩
  | 35 => ⟨S1x1024, .f32⟩
  | 36 => ⟨S4096x1024, .f32⟩
  | 37 => ⟨S4096x1024, .f32⟩
  | 38 => ⟨S_, .f32⟩
  | 39 => ⟨S1024, .f32⟩
  | 40 => ⟨S1x1024, .f32⟩
  | 41 => ⟨S_, .f32⟩
  | 42 => ⟨S7x1024, .f32⟩
  | 43 => ⟨S7x1024, .f32⟩
  | 44 => ⟨S_, .f32⟩
  | 45 => ⟨S4102x1024, .f32⟩
  | 46 => ⟨S4102x1024, .f32⟩
  | 47 => ⟨S4096x1024, .f32⟩
  | 48 => ⟨S_, .f32⟩
  | 49 => ⟨S1024, .f32⟩
  | 50 => ⟨S1x1024, .f32⟩
  | 51 => ⟨S4096x1024, .f32⟩
  | 52 => ⟨S4096x1024, .f32⟩
  | 53 => ⟨S_, .f32⟩
  | 54 => ⟨S1024, .f32⟩
  | 55 => ⟨S1x1024, .f32⟩
  | 56 => ⟨S_, .f32⟩
  | 57 => ⟨S7x1024, .f32⟩
  | 58 => ⟨S7x1024, .f32⟩
  | 59 => ⟨S_, .f32⟩
  | 60 => ⟨S4102x1024, .f32⟩
  | 61 => ⟨S4102x1024, .f32⟩
  | 62 => ⟨S4096x1024, .f32⟩
  | 63 => ⟨S_, .f32⟩
  | 64 => ⟨S1024, .f32⟩
  | 65 => ⟨S1x1024, .f32⟩
  | 66 => ⟨S4096x1024, .f32⟩
  | 67 => ⟨S4096x1024, .f32⟩
  | 68 => ⟨S_, .f32⟩
  | 69 => ⟨S1024, .f32⟩
  | 70 => ⟨S1x1024, .f32⟩
  | 71 => ⟨S_, .f32⟩
  | 72 => ⟨S7x1024, .f32⟩
  | 73 => ⟨S7x1024, .f32⟩
  | 74 => ⟨S_, .f32⟩
  | 75 => ⟨S4102x1024, .f32⟩
  | 76 => ⟨S4102x1024, .f32⟩
  | 77 => ⟨S4096x1024, .f32⟩
  | 78 => ⟨S_, .f32⟩
  | 79 => ⟨S1024, .f32⟩
  | 80 => ⟨S1x1024, .f32⟩
  | 81 => ⟨S4096x1024, .f32⟩
  | 82 => ⟨S4096x1024, .f32⟩
  | 83 => ⟨S_, .f32⟩
  | 84 => ⟨S1024, .f32⟩
  | 85 => ⟨S1x1024, .f32⟩
  | 86 => ⟨S_, .f32⟩
  | 87 => ⟨S7x1024, .f32⟩
  | 88 => ⟨S7x1024, .f32⟩
  | 89 => ⟨S_, .f32⟩
  | 90 => ⟨S4102x1024, .f32⟩
  | 91 => ⟨S4102x1024, .f32⟩
  | 92 => ⟨S3x1024, .f32⟩
  | 93 => ⟨S4096x1024, .f32⟩
  | 94 => ⟨S3x1024, .f32⟩
  | 95 => ⟨S_, .f32⟩
  | 96 => ⟨S4352x1024, .f32⟩
  | 97 => ⟨S4352x1024, .f32⟩
  | 98 => ⟨S4352x1024, .bf16⟩
  | _ => ⟨S4352x1024, .f32⟩

abbrev hbmTy (i : Nat) : BufTy := match i / 128 with
  | 0 => hbmTy0_0 i
  | 1 => hbmTy0_1 i
  | 2 => hbmTy0_2 i
  | _ => ⟨S4352x1024, .f32⟩

abbrev bufTy : (tb : Table) → Fin (tcTables nBuf tb) → BufTy
  | .hbm, ⟨i, _⟩ => hbmTy i
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_cst_2 : Ref sig .tc := ⟨.hbm, 64, rfl⟩
abbrev main_v57 : Ref sig .tc := ⟨.hbm, 65, rfl⟩
abbrev main_v58 : Ref sig .tc := ⟨.hbm, 66, rfl⟩
abbrev main_cst_3 : Ref sig .tc := ⟨.hbm, 67, rfl⟩
abbrev main_v59 : Ref sig .tc := ⟨.hbm, 68, rfl⟩
abbrev main_cst_4 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_cst_5 : Ref sig .tc := ⟨.hbm, 125, rfl⟩
abbrev main_v115 : Ref sig .tc := ⟨.hbm, 126, rfl⟩
abbrev main_v116 : Ref sig .tc := ⟨.hbm, 127, rfl⟩
abbrev main_cst_6 : Ref sig .tc := ⟨.hbm, 128, rfl⟩
abbrev main_v117 : Ref sig .tc := ⟨.hbm, 129, rfl⟩
abbrev main_v118 : Ref sig .tc := ⟨.hbm, 130, rfl⟩
abbrev main_cst_7 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_cst_8 : Ref sig .tc := ⟨.hbm, 136, rfl⟩
abbrev main_v123 : Ref sig .tc := ⟨.hbm, 137, rfl⟩
abbrev main_v124 : Ref sig .tc := ⟨.hbm, 138, rfl⟩
abbrev main_cst_9 : Ref sig .tc := ⟨.hbm, 139, rfl⟩
abbrev main_v125 : Ref sig .tc := ⟨.hbm, 140, rfl⟩
abbrev main_cst_10 : Ref sig .tc := ⟨.hbm, 141, rfl⟩
abbrev main_v126 : Ref sig .tc := ⟨.hbm, 142, rfl⟩
abbrev main_v127 : Ref sig .tc := ⟨.hbm, 143, rfl⟩
abbrev main_cst_11 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_cst_12 : Ref sig .tc := ⟨.hbm, 149, rfl⟩
abbrev main_v132 : Ref sig .tc := ⟨.hbm, 150, rfl⟩
abbrev main_v133 : Ref sig .tc := ⟨.hbm, 151, rfl⟩
abbrev main_cst_13 : Ref sig .tc := ⟨.hbm, 152, rfl⟩
abbrev main_v134 : Ref sig .tc := ⟨.hbm, 153, rfl⟩
abbrev main_v135 : Ref sig .tc := ⟨.hbm, 154, rfl⟩
abbrev main_cst_14 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_cst_15 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_cst_16 : Ref sig .tc := ⟨.hbm, 164, rfl⟩
abbrev main_v143 : Ref sig .tc := ⟨.hbm, 165, rfl⟩
abbrev main_v144 : Ref sig .tc := ⟨.hbm, 166, rfl⟩
abbrev main_cst_17 : Ref sig .tc := ⟨.hbm, 167, rfl⟩
abbrev main_v145 : Ref sig .tc := ⟨.hbm, 168, rfl⟩
abbrev main_v146 : Ref sig .tc := ⟨.hbm, 169, rfl⟩
abbrev main_cst_18 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_cst_19 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_cst_20 : Ref sig .tc := ⟨.hbm, 179, rfl⟩
abbrev main_v154 : Ref sig .tc := ⟨.hbm, 180, rfl⟩
abbrev main_v155 : Ref sig .tc := ⟨.hbm, 181, rfl⟩
abbrev main_cst_21 : Ref sig .tc := ⟨.hbm, 182, rfl⟩
abbrev main_v156 : Ref sig .tc := ⟨.hbm, 183, rfl⟩
abbrev main_v157 : Ref sig .tc := ⟨.hbm, 184, rfl⟩
abbrev main_cst_22 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_cst_23 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_cst_24 : Ref sig .tc := ⟨.hbm, 194, rfl⟩
abbrev main_v165 : Ref sig .tc := ⟨.hbm, 195, rfl⟩
abbrev main_v166 : Ref sig .tc := ⟨.hbm, 196, rfl⟩
abbrev main_cst_25 : Ref sig .tc := ⟨.hbm, 197, rfl⟩
abbrev main_v167 : Ref sig .tc := ⟨.hbm, 198, rfl⟩
abbrev main_v168 : Ref sig .tc := ⟨.hbm, 199, rfl⟩
abbrev main_cst_26 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_cst_27 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_cst_28 : Ref sig .tc := ⟨.hbm, 209, rfl⟩
abbrev main_v176 : Ref sig .tc := ⟨.hbm, 210, rfl⟩
abbrev main_v177 : Ref sig .tc := ⟨.hbm, 211, rfl⟩
abbrev main_cst_29 : Ref sig .tc := ⟨.hbm, 212, rfl⟩
abbrev main_v178 : Ref sig .tc := ⟨.hbm, 213, rfl⟩
abbrev main_v179 : Ref sig .tc := ⟨.hbm, 214, rfl⟩
abbrev main_cst_30 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_cst_31 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_cst_32 : Ref sig .tc := ⟨.hbm, 224, rfl⟩
abbrev main_v187 : Ref sig .tc := ⟨.hbm, 225, rfl⟩
abbrev main_v188 : Ref sig .tc := ⟨.hbm, 226, rfl⟩
abbrev main_cst_33 : Ref sig .tc := ⟨.hbm, 227, rfl⟩
abbrev main_v189 : Ref sig .tc := ⟨.hbm, 228, rfl⟩
abbrev main_v190 : Ref sig .tc := ⟨.hbm, 229, rfl⟩
abbrev main_cst_34 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_cst_35 : Ref sig .tc := ⟨.hbm, 236, rfl⟩
abbrev main_v196 : Ref sig .tc := ⟨.hbm, 237, rfl⟩
abbrev main_cst_36 : Ref sig .tc := ⟨.hbm, 238, rfl⟩
abbrev main_v197 : Ref sig .tc := ⟨.hbm, 239, rfl⟩
abbrev main_v198 : Ref sig .tc := ⟨.hbm, 240, rfl⟩
abbrev main_cst_37 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_cst_38 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_cst_39 : Ref sig .tc := ⟨.hbm, 250, rfl⟩
abbrev main_v206 : Ref sig .tc := ⟨.hbm, 251, rfl⟩
abbrev main_v207 : Ref sig .tc := ⟨.hbm, 252, rfl⟩
abbrev main_cst_40 : Ref sig .tc := ⟨.hbm, 253, rfl⟩
abbrev main_v208 : Ref sig .tc := ⟨.hbm, 254, rfl⟩
abbrev main_v209 : Ref sig .tc := ⟨.hbm, 255, rfl⟩
abbrev main_cst_41 : Ref sig .tc := ⟨.hbm, 256, rfl⟩
abbrev main_v210 : Ref sig .tc := ⟨.hbm, 257, rfl⟩
abbrev main_v211 : Ref sig .tc := ⟨.hbm, 258, rfl⟩
abbrev main_cst_42 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_cst_43 : Ref sig .tc := ⟨.hbm, 264, rfl⟩
abbrev main_v216 : Ref sig .tc := ⟨.hbm, 265, rfl⟩
abbrev main_v217 : Ref sig .tc := ⟨.hbm, 266, rfl⟩
abbrev main_cst_44 : Ref sig .tc := ⟨.hbm, 267, rfl⟩
abbrev main_v218 : Ref sig .tc := ⟨.hbm, 268, rfl⟩
abbrev main_v219 : Ref sig .tc := ⟨.hbm, 269, rfl⟩
abbrev main_cst_45 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_cst_46 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_cst_47 : Ref sig .tc := ⟨.hbm, 279, rfl⟩
abbrev main_v227 : Ref sig .tc := ⟨.hbm, 280, rfl⟩
abbrev main_v228 : Ref sig .tc := ⟨.hbm, 281, rfl⟩
abbrev main_cst_48 : Ref sig .tc := ⟨.hbm, 282, rfl⟩
abbrev main_v229 : Ref sig .tc := ⟨.hbm, 283, rfl⟩
abbrev main_v230 : Ref sig .tc := ⟨.hbm, 284, rfl⟩
abbrev main_cst_49 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_cst_50 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_cst_51 : Ref sig .tc := ⟨.hbm, 294, rfl⟩
abbrev main_v238 : Ref sig .tc := ⟨.hbm, 295, rfl⟩
abbrev main_v239 : Ref sig .tc := ⟨.hbm, 296, rfl⟩
abbrev main_cst_52 : Ref sig .tc := ⟨.hbm, 297, rfl⟩
abbrev main_v240 : Ref sig .tc := ⟨.hbm, 298, rfl⟩
abbrev main_v241 : Ref sig .tc := ⟨.hbm, 299, rfl⟩
abbrev main_cst_53 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_cst_54 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_cst_55 : Ref sig .tc := ⟨.hbm, 309, rfl⟩
abbrev main_v249 : Ref sig .tc := ⟨.hbm, 310, rfl⟩
abbrev main_v250 : Ref sig .tc := ⟨.hbm, 311, rfl⟩
abbrev main_cst_56 : Ref sig .tc := ⟨.hbm, 312, rfl⟩
abbrev main_v251 : Ref sig .tc := ⟨.hbm, 313, rfl⟩
abbrev main_v252 : Ref sig .tc := ⟨.hbm, 314, rfl⟩
abbrev main_cst_57 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_cst_58 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_cst_59 : Ref sig .tc := ⟨.hbm, 324, rfl⟩
abbrev main_v260 : Ref sig .tc := ⟨.hbm, 325, rfl⟩
abbrev main_v261 : Ref sig .tc := ⟨.hbm, 326, rfl⟩
abbrev main_cst_60 : Ref sig .tc := ⟨.hbm, 327, rfl⟩
abbrev main_v262 : Ref sig .tc := ⟨.hbm, 328, rfl⟩
abbrev main_v263 : Ref sig .tc := ⟨.hbm, 329, rfl⟩
abbrev main_cst_61 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_cst_62 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_cst_63 : Ref sig .tc := ⟨.hbm, 339, rfl⟩
abbrev main_v271 : Ref sig .tc := ⟨.hbm, 340, rfl⟩
abbrev main_v272 : Ref sig .tc := ⟨.hbm, 341, rfl⟩
abbrev main_cst_64 : Ref sig .tc := ⟨.hbm, 342, rfl⟩
abbrev main_v273 : Ref sig .tc := ⟨.hbm, 343, rfl⟩
abbrev main_v274 : Ref sig .tc := ⟨.hbm, 344, rfl⟩
abbrev main_cst_65 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_cst_66 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩

abbrev nD : Nat := 1
abbrev τ : Topo := Topo.v7x

variable {F : FTy → Type} [FloatOps F]
-- ==== Kernel15.lean ====
abbrev S4352x512 : Shape := ⟨2, ![4352, 512]⟩
abbrev S4352x1024 : Shape := ⟨2, ![4352, 1024]⟩
abbrev S8 : Shape := ⟨1, ![8]⟩
abbrev S512 : Shape := ⟨1, ![512]⟩
abbrev S_ : Shape := ⟨0, ![]⟩
abbrev S4352x1920 : Shape := ⟨2, ![4352, 1920]⟩
abbrev S4352x2944 : Shape := ⟨2, ![4352, 2944]⟩
abbrev S8x64 : Shape := ⟨2, ![8, 64]⟩
abbrev S1x512 : Shape := ⟨2, ![1, 512]⟩
abbrev S8x512 : Shape := ⟨2, ![8, 512]⟩
abbrev S256x512 : Shape := ⟨2, ![256, 512]⟩
abbrev S256 : Shape := ⟨1, ![256]⟩
abbrev S256x1 : Shape := ⟨2, ![256, 1]⟩

abbrev nBuf : Space → Nat
  | .hbm => 24
  | .vmem => 19
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x1024, .f32⟩
  | .hbm, ⟨3, _⟩ => ⟨S4352x512, .f32⟩
  | .hbm, ⟨4, _⟩ => ⟨S8, .f32⟩
  | .hbm, ⟨5, _⟩ => ⟨S512, .f32⟩
  | .hbm, ⟨6, _⟩ => ⟨S4352x512, .f32⟩
  | .hbm, ⟨7, _⟩ => ⟨S_, .f32⟩
  | .hbm, ⟨8, _⟩ => ⟨S4352x512, .f32⟩
  | .hbm, ⟨9, _⟩ => ⟨S_, .f32⟩
  | .hbm, ⟨10, _⟩ => ⟨S4352x1920, .f32⟩
  | .hbm, ⟨11, _⟩ => ⟨S4352x2944, .f32⟩
  | .hbm, ⟨12, _⟩ => ⟨S_, .bf16⟩
  | .hbm, ⟨13, _⟩ => ⟨S4352x512, .bf16⟩
  | .hbm, ⟨14, _⟩ => ⟨S4352x512, .bf16⟩
  | .hbm, ⟨15, _⟩ => ⟨S4352x1024, .bf16⟩
  | .hbm, ⟨16, _⟩ => ⟨S8x64, .f32⟩
  | .hbm, ⟨17, _⟩ => ⟨S512, .f32⟩
  | .hbm, ⟨18, _⟩ => ⟨S1x512, .f32⟩
  | .hbm, ⟨19, _⟩ => ⟨S1x512, .f32⟩
  | .hbm, ⟨20, _⟩ => ⟨S4352x512, .f32⟩
  | .hbm, ⟨21, _⟩ => ⟨S4352x512, .f32⟩
  | .hbm, ⟨22, _⟩ => ⟨S4352x512, .bf16⟩
  | .hbm, ⟨23, _⟩ => ⟨S8x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .bf16⟩
  | .local _ .vmem, ⟨17, _⟩ => ⟨S256x512, .bf16⟩
  | .local _ .vmem, ⟨18, _⟩ => ⟨S8x512, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference15Ideal.lean ====
abbrev S4352x512 : Shape := ⟨2, ![4352, 512]⟩
abbrev S4352x1024 : Shape := ⟨2, ![4352, 1024]⟩
abbrev S8 : Shape := ⟨1, ![8]⟩
abbrev S512 : Shape := ⟨1, ![512]⟩
abbrev S8x1 : Shape := ⟨2, ![8, 1]⟩
abbrev S8x64 : Shape := ⟨2, ![8, 64]⟩
abbrev S4352x8x64 : Shape := ⟨3, ![4352, 8, 64]⟩
abbrev S1x8x64 : Shape := ⟨3, ![1, 8, 64]⟩
abbrev S_ : Shape := ⟨0, ![]⟩
abbrev S4352 : Shape := ⟨1, ![4352]⟩
abbrev S4352x1 : Shape := ⟨2, ![4352, 1]⟩
abbrev S1x512 : Shape := ⟨2, ![1, 512]⟩
abbrev S6x512 : Shape := ⟨2, ![6, 512]⟩
abbrev S8x512 : Shape := ⟨2, ![8, 512]⟩

abbrev nBuf : Space → Nat
  | .hbm => 101
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x1024, .f32⟩
  | .hbm, ⟨3, _⟩ => ⟨S4352x512, .f32⟩
  | .hbm, ⟨4, _⟩ => ⟨S8, .f32⟩
  | .hbm, ⟨5, _⟩ => ⟨S512, .f32⟩
  | .hbm, ⟨6, _⟩ => ⟨S4352x512, .f32⟩
  | .hbm, ⟨7, _⟩ => ⟨S8x1, .f32⟩
  | .hbm, ⟨8, _⟩ => ⟨S8x64, .f32⟩
  | .hbm, ⟨9, _⟩ => ⟨S4352x8x64, .f32⟩
  | .hbm, ⟨10, _⟩ => ⟨S4352x8x64, .f32⟩
  | .hbm, ⟨11, _⟩ => ⟨S4352x512, .f32⟩
  | .hbm, ⟨12, _⟩ => ⟨S4352x8x64, .f32⟩
  | .hbm, ⟨13, _⟩ => ⟨S4352x8x64, .f32⟩
  | .hbm, ⟨14, _⟩ => ⟨S1x8x64, .f32⟩
  | .hbm, ⟨15, _⟩ => ⟨S4352x8x64, .f32⟩
  | .hbm, ⟨16, _⟩ => ⟨S4352x8x64, .f32⟩
  | .hbm, ⟨17, _⟩ => ⟨S4352x8x64, .f32⟩
  | .hbm, ⟨18, _⟩ => ⟨S4352x512, .f32⟩
  | .hbm, ⟨19, _⟩ => ⟨S4352x512, .f32⟩
  | .hbm, ⟨20, _⟩ => ⟨S4352x512, .f32⟩
  | .hbm, ⟨21, _⟩ => ⟨S_, .f32⟩
  | .hbm, ⟨22, _⟩ => ⟨S4352x512, .f32⟩
  | .hbm, ⟨23, _⟩ => ⟨S4352x512, .f32⟩
  | .hbm, ⟨24, _⟩ => ⟨S_, .f32⟩
  | .hbm, ⟨25, _⟩ => ⟨S4352x512, .f32⟩
  | .hbm, ⟨26, _⟩ => ⟨S4352x512, .f32⟩
  | .hbm, ⟨27, _⟩ => ⟨S_, .f32⟩
  | .hbm, ⟨28, _⟩ => ⟨S4352x512, .f32⟩
  | .hbm, ⟨29, _⟩ => ⟨S4352x512, .f32⟩
  | .hbm, ⟨30, _⟩ => ⟨S4352x512, .f32⟩
  | .hbm, ⟨31, _⟩ => ⟨S4352x512, .f32⟩
  | .hbm, ⟨32, _⟩ => ⟨S4352x512, .f32⟩
  | .hbm, ⟨33, _⟩ => ⟨S4352x512, .f32⟩
  | .hbm, ⟨34, _⟩ => ⟨S_, .f32⟩
  | .hbm, ⟨35, _⟩ => ⟨S4352, .f32⟩
  | .hbm, ⟨36, _⟩ => ⟨S4352x1, .f32⟩
  | .hbm, ⟨37, _⟩ => ⟨S_, .f32⟩
  | .hbm, ⟨38, _⟩ => ⟨S4352x1, .f32⟩
  | .hbm, ⟨39, _⟩ => ⟨S4352x1, .f32⟩
  | .hbm, ⟨40, _⟩ => ⟨S_, .f32⟩
  | .hbm, ⟨41, _⟩ => ⟨S4352x1, .f32⟩
  | .hbm, ⟨42, _⟩ => ⟨S4352x1, .f32⟩
  | .hbm, ⟨43, _⟩ => ⟨S4352x1, .f32⟩
  | .hbm, ⟨44, _⟩ => ⟨S4352x1, .f32⟩
  | .hbm, ⟨45, _⟩ => ⟨S_, .f32⟩
  | .hbm, ⟨46, _⟩ => ⟨S4352x1, .f32⟩
  | .hbm, ⟨47, _⟩ => ⟨S4352x1, .f32⟩
  | .hbm, ⟨48, _⟩ => ⟨S4352x512, .f32⟩
  | .hbm, ⟨49, _⟩ => ⟨S4352x512, .f32⟩
  | .hbm, ⟨50, _⟩ => ⟨S1x512, .f32⟩
  | .hbm, ⟨51, _⟩ => ⟨S4352x512, .f32⟩
  | .hbm, ⟨52, _⟩ => ⟨S4352x512, .f32⟩
  | .hbm, ⟨53, _⟩ => ⟨S4352x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S4352x512, .f32⟩
  | .hbm, ⟨58, _⟩ => ⟨S4352x512, .f32⟩
  | .hbm, ⟨59, _⟩ => ⟨S_, .f32⟩
  | .hbm, ⟨60, _⟩ => ⟨S512, .f32⟩
  | .hbm, ⟨61, _⟩ => ⟨S4352x512, .f32⟩
  | .hbm, ⟨62, _⟩ => ⟨S_, .f32⟩
  | .hbm, ⟨63, _⟩ => ⟨S4352, .f32⟩
  | .hbm, ⟨64, _⟩ => ⟨S4352x1, .f32⟩
  | .hbm, ⟨65, _⟩ => ⟨S4352x512, .f32⟩
  | .hbm, ⟨66, _⟩ => ⟨S4352x512, .f32⟩
  | .hbm, ⟨67, _⟩ => ⟨S4352x1, .f32⟩
  | .hbm, ⟨68, _⟩ => ⟨S_, .f32⟩
  | .hbm, ⟨69, _⟩ => ⟨S4352x1, .f32⟩
  | .hbm, ⟨70, _⟩ => ⟨S4352x1, .f32⟩
  | .hbm, ⟨71, _⟩ => ⟨S_, .f32⟩
  | .hbm, ⟨72, _⟩ => ⟨S4352, .f32⟩
  | .hbm, ⟨73, _⟩ => ⟨S4352x512, .f32⟩
  | .hbm, ⟨74, _⟩ => ⟨S4352x512, .f32⟩
  | .hbm, ⟨75, _⟩ => ⟨S4352x512, .f32⟩
  | .hbm, ⟨76, _⟩ => ⟨S4352x512, .f32⟩
  | .hbm, ⟨77, _⟩ => ⟨S4352x512, .f32⟩
  | .hbm, ⟨78, _⟩ => ⟨S4352x512, .f32⟩
  | .hbm, ⟨79, _⟩ => ⟨S4352x512, .f32⟩
  | .hbm, ⟨80, _⟩ => ⟨S4352x512, .f32⟩
  | .hbm, ⟨81, _⟩ => ⟨S4352x512, .f32⟩
  | .hbm, ⟨82, _⟩ => ⟨S4352x512, .f32⟩
  | .hbm, ⟨83, _⟩ => ⟨S4352x512, .f32⟩
  | .hbm, ⟨84, _⟩ => ⟨S4352x8x64, .f32⟩
  | .hbm, ⟨85, _⟩ => ⟨S4352x8x64, .f32⟩
  | .hbm, ⟨86, _⟩ => ⟨S4352x8x64, .f32⟩
  | .hbm, ⟨87, _⟩ => ⟨S4352x8x64, .f32⟩
  | .hbm, ⟨88, _⟩ => ⟨S_, .f32⟩
  | .hbm, ⟨89, _⟩ => ⟨S8x64, .f32⟩
  | .hbm, ⟨90, _⟩ => ⟨S1x8x64, .f32⟩
  | .hbm, ⟨91, _⟩ => ⟨S_, .f32⟩
  | .hbm, ⟨92, _⟩ => ⟨S8x64, .f32⟩
  | .hbm, ⟨93, _⟩ => ⟨S1x512, .f32⟩
  | .hbm, ⟨94, _⟩ => ⟨S1x512, .f32⟩
  | .hbm, ⟨95, _⟩ => ⟨S_, .f32⟩
  | .hbm, ⟨96, _⟩ => ⟨S6x512, .f32⟩
  | .hbm, ⟨97, _⟩ => ⟨S8x512, .f32⟩
  | .hbm, ⟨98, _⟩ => ⟨S4352x512, .f32⟩
  | .hbm, ⟨99, _⟩ => ⟨S4352x512, .f32⟩
  | .hbm, ⟨100, _⟩ => ⟨S4352x512, .bf16⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_v12_2 : Ref sig .tc := ⟨.hbm, 26, rfl⟩
abbrev main_call0_cst_1 : Ref sig .tc := ⟨.hbm, 27, rfl⟩
abbrev main_call0_v6 : Ref sig .tc := ⟨.hbm, 28, rfl⟩
abbrev main_call0_v7 : Ref sig .tc := ⟨.hbm, 29, rfl⟩
abbrev main_v12_1 : Ref sig .tc := ⟨.hbm, 30, rfl⟩
abbrev main_v12_0 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_8 : Ref sig .tc := ⟨.hbm, 88, rfl⟩
abbrev main_v57 : Ref sig .tc := ⟨.hbm, 89, rfl⟩
abbrev main_v58 : Ref sig .tc := ⟨.hbm, 90, rfl⟩
abbrev main_cst_9 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_10 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩

abbrev nD : Nat := 1
abbrev τ : Topo := Topo.v7x

variable {F : FTy → Type} [FloatOps F]
-- ==== Kernel16.lean ====
abbrev S4352x256 : Shape := ⟨2, ![4352, 256]⟩
abbrev S4352x128 : Shape := ⟨2, ![4352, 128]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S_ : Shape := ⟨0, ![]⟩
abbrev S256x64 : Shape := ⟨2, ![256, 64]⟩
abbrev S4352x64 : Shape := ⟨2, ![4352, 64]⟩
abbrev S1x4352x1x64 : Shape := ⟨4, ![1, 4352, 1, 64]⟩
abbrev S1x4352x2x64 : Shape := ⟨4, ![1, 4352, 2, 64]⟩
abbrev S544x256 : Shape := ⟨2, ![544, 256]⟩
abbrev S544x128 : Shape := ⟨2, ![544, 128]⟩

abbrev nBuf : Space → Nat
  | .hbm => 36
  | .vmem => 12
  | .smem => 0
  | _ => 0

abbrev bufTy : (tb : Table) → Fin (tcTables nBuf tb) → BufTy
  | .hbm, ⟨0, _⟩ => ⟨S4352x256, .f32⟩
  | .hbm, ⟨1, _⟩ => ⟨S4352x128, .f32⟩
  | .hbm, ⟨2, _⟩ => ⟨S4096, .i32⟩
  | .hbm, ⟨3, _⟩ => ⟨S4096, .i32⟩
  | .hbm, ⟨4, _⟩ => ⟨S16, .f32⟩
  | .hbm, ⟨5, _⟩ => ⟨S4352x256, .f32⟩
  | .hbm, ⟨6, _⟩ => ⟨S4352x128, .f32⟩
  | .hbm, ⟨7, _⟩ => ⟨S4096, .f32⟩
  | .hbm, ⟨8, _⟩ => ⟨S4096x1, .f32⟩
  | .hbm, ⟨9, _⟩ => ⟨S1x16, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S4096, .f32⟩
  | .hbm, ⟨14, _⟩ => ⟨S4096x1, .f32⟩
  | .hbm, ⟨15, _⟩ => ⟨S1x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x64, .f32⟩
  | .hbm, ⟨20, _⟩ => ⟨S4096x64, .f32⟩
  | .hbm, ⟨21, _⟩ => ⟨S_, .f32⟩
  | .hbm, ⟨22, _⟩ => ⟨S256x64, .f32⟩
  | .hbm, ⟨23, _⟩ => ⟨S4352x64, .f32⟩
  | .hbm, ⟨24, _⟩ => ⟨S4096x64, .f32⟩
  | .hbm, ⟨25, _⟩ => ⟨S_, .f32⟩
  | .hbm, ⟨26, _⟩ => ⟨S256x64, .f32⟩
  | .hbm, ⟨27, _⟩ => ⟨S4352x64, .f32⟩
  | .hbm, ⟨28, _⟩ => ⟨S1x4352x1x64, .f32⟩
  | .hbm, ⟨29, _⟩ => ⟨S1x4352x2x64, .f32⟩
  | .hbm, ⟨30, _⟩ => ⟨S4352x128, .f32⟩
  | .hbm, ⟨31, _⟩ => ⟨S1x4352x1x64, .f32⟩
  | .hbm, ⟨32, _⟩ => ⟨S1x4352x2x64, .f32⟩
  | .hbm, ⟨33, _⟩ => ⟨S4352x128, .f32⟩
  | .hbm, ⟨34, _⟩ => ⟨S4352x256, .bf16⟩
  | .hbm, ⟨35, _⟩ => ⟨S4352x128, .bf16⟩
  | .local _ .vmem, ⟨0, _⟩ => ⟨S544x256, .f32⟩
  | .local _ .vmem, ⟨1, _⟩ => ⟨S544x256, .f32⟩
  | .local _ .vmem, ⟨2, _⟩ => ⟨S544x128, .f32⟩
  | .local _ .vmem, ⟨3, _⟩ => ⟨S544x128, .f32⟩
  | .local _ .vmem, ⟨4, _⟩ => ⟨S544x128, .f32⟩
  | .local _ .vmem, ⟨5, _⟩ => ⟨S544x128, .f32⟩
  | .local _ .vmem, ⟨6, _⟩ => ⟨S544x128, .f32⟩
  | .local _ .vmem, ⟨7, _⟩ => ⟨S544x128, .f32⟩
  | .local _ .vmem, ⟨8, _⟩ => ⟨S544x256, .bf16⟩
  | .local _ .vmem, ⟨9, _⟩ => ⟨S544x256, .bf16⟩
  | .local _ .vmem, ⟨10, _⟩ => ⟨S544x128, .bf16⟩
  | .local _ .vmem, ⟨11, _⟩ => ⟨S544x128, .bf16⟩
  | _, _ => ⟨S4352x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference16Ideal.lean ====
abbrev S4352x256 : Shape := ⟨2, ![4352, 256]⟩
abbrev S4352x128 : Shape := ⟨2, ![4352, 128]⟩
abbrev S4096 : Shape := ⟨1, ![4096]⟩
abbrev S16 : Shape := ⟨1, ![16]⟩
abbrev S4096x256 : Shape := ⟨2, ![4096, 256]⟩
abbrev S4096x4x64 : Shape := ⟨3, ![4096, 4, 64]⟩
abbrev S4096x4x32 : Shape := ⟨3, ![4096, 4, 32]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x4x16 : Shape := ⟨3, ![4096, 4, 16]⟩
abbrev S256x256 : Shape := ⟨2, ![256, 256]⟩
abbrev S4096x128 : Shape := ⟨2, ![4096, 128]⟩
abbrev S4096x2x64 : Shape := ⟨3, ![4096, 2, 64]⟩
abbrev S4096x2x32 : Shape := ⟨3, ![4096, 2, 32]⟩
abbrev S4096x2x16 : Shape := ⟨3, ![4096, 2, 16]⟩
abbrev S256x128 : Shape := ⟨2, ![256, 128]⟩
abbrev S_ : Shape := ⟨0, ![]⟩

abbrev nBuf : Space → Nat
  | .hbm => 221
  | .vmem => 0
  | .smem => 0
  | _ => 0

abbrev hbmTy0_0 (i : Nat) : BufTy := match i % 128 with
  | 0 => ⟨S4352x256, .f32⟩
  | 1 => ⟨S4352x128, .f32⟩
  | 2 => ⟨S4096, .i32⟩
  | 3 => ⟨S4096, .i32⟩
  | 4 => ⟨S16, .f32⟩
  | 5 => ⟨S4352x256, .f32⟩
  | 6 => ⟨S4352x128, .f32⟩
  | 7 => ⟨S4096x256, .f32⟩
  | 8 => ⟨S4096x4x64, .f32⟩
  | 9 => ⟨S4096x4x32, .f32⟩
  | 10 => ⟨S4096, .f32⟩
  | 11 => ⟨S4096x1, .f32⟩
  | 12 => ⟨S1x16, .f32⟩
  | 13 => ⟨S4096x16, .f32⟩
  | 14 => ⟨S4096x16, .f32⟩
  | 15 => ⟨S4096x16, .f32⟩
  | 16 => ⟨S4096x16, .f32⟩
  | 17 => ⟨S4096x1x16, .f32⟩
  | 18 => ⟨S4096x16, .f32⟩
  | 19 => ⟨S4096x1x16, .f32⟩
  | 20 => ⟨S4096x4x16, .f32⟩
  | 21 => ⟨S4096x4x16, .f32⟩
  | 22 => ⟨S4096x4x16, .f32⟩
  | 23 => ⟨S4096x4x16, .f32⟩
  | 24 => ⟨S4096x4x16, .f32⟩
  | 25 => ⟨S4096x4x16, .f32⟩
  | 26 => ⟨S4096x4x16, .f32⟩
  | 27 => ⟨S4096x4x16, .f32⟩
  | 28 => ⟨S4096x4x16, .f32⟩
  | 29 => ⟨S4096x4x16, .f32⟩
  | 30 => ⟨S4096x4x16, .f32⟩
  | 31 => ⟨S4096x4x16, .f32⟩
  | 32 => ⟨S4096x4x32, .f32⟩
  | 33 => ⟨S4096x4x32, .f32⟩
  | 34 => ⟨S4096, .f32⟩
  | 35 => ⟨S4096x1, .f32⟩
  | 36 => ⟨S1x16, .f32⟩
  | 37 => ⟨S4096x16, .f32⟩
  | 38 => ⟨S4096x16, .f32⟩
  | 39 => ⟨S4096x16, .f32⟩
  | 40 => ⟨S4096x16, .f32⟩
  | 41 => ⟨S4096x1x16, .f32⟩
  | 42 => ⟨S4096x16, .f32⟩
  | 43 => ⟨S4096x1x16, .f32⟩
  | 44 => ⟨S4096x4x16, .f32⟩
  | 45 => ⟨S4096x4x16, .f32⟩
  | 46 => ⟨S4096x4x16, .f32⟩
  | 47 => ⟨S4096x4x16, .f32⟩
  | 48 => ⟨S4096x4x16, .f32⟩
  | 49 => ⟨S4096x4x16, .f32⟩
  | 50 => ⟨S4096x4x16, .f32⟩
  | 51 => ⟨S4096x4x16, .f32⟩
  | 52 => ⟨S4096x4x16, .f32⟩
  | 53 => ⟨S4096x4x16, .f32⟩
  | 54 => ⟨S4096x4x16, .f32⟩
  | 55 => ⟨S4096x4x16, .f32⟩
  | 56 => ⟨S4096x4x32, .f32⟩
  | 57 => ⟨S4096x4x64, .f32⟩
  | 58 => ⟨S4096x256, .f32⟩
  | 59 => ⟨S256x256, .f32⟩
  | 60 => ⟨S4352x256, .f32⟩
  | 61 => ⟨S4096x128, .f32⟩
  | 62 => ⟨S4096x2x64, .f32⟩
  | 63 => ⟨S4096x2x32, .f32⟩
  | 64 => ⟨S4096, .f32⟩
  | 65 => ⟨S4096x1, .f32⟩
  | 66 => ⟨S1x16, .f32⟩
  | 67 => ⟨S4096x16, .f32⟩
  | 68 => ⟨S4096x16, .f32⟩
  | 69 => ⟨S4096x16, .f32⟩
  | 70 => ⟨S4096x16, .f32⟩
  | 71 => ⟨S4096x1x16, .f32⟩
  | 72 => ⟨S4096x16, .f32⟩
  | 73 => ⟨S4096x1x16, .f32⟩
  | 74 => ⟨S4096x2x16, .f32⟩
  | 75 => ⟨S4096x2x16, .f32⟩
  | 76 => ⟨S4096x2x16, .f32⟩
  | 77 => ⟨S4096x2x16, .f32⟩
  | 78 => ⟨S4096x2x16, .f32⟩
  | 79 => ⟨S4096x2x16, .f32⟩
  | 80 => ⟨S4096x2x16, .f32⟩
  | 81 => ⟨S4096x2x16, .f32⟩
  | 82 => ⟨S4096x2x16, .f32⟩
  | 83 => ⟨S4096x2x16, .f32⟩
  | 84 => ⟨S4096x2x16, .f32⟩
  | 85 => ⟨S4096x2x16, .f32⟩
  | 86 => ⟨S4096x2x32, .f32⟩
  | 87 => ⟨S4096x2x32, .f32⟩
  | 88 => ⟨S4096, .f32⟩
  | 89 => ⟨S4096x1, .f32⟩
  | 90 => ⟨S1x16, .f32⟩
  | 91 => ⟨S4096x16, .f32⟩
  | 92 => ⟨S4096x16, .f32⟩
  | 93 => ⟨S4096x16, .f32⟩
  | 94 => ⟨S4096x16, .f32⟩
  | 95 => ⟨S4096x1x16, .f32⟩
  | 96 => ⟨S4096x16, .f32⟩
  | 97 => ⟨S4096x1x16, .f32⟩
  | 98 => ⟨S4096x2x16, .f32⟩
  | 99 => ⟨S4096x2x16, .f32⟩
  | 100 => ⟨S4096x2x16, .f32⟩
  | 101 => ⟨S4096x2x16, .f32⟩
  | 102 => ⟨S4096x2x16, .f32⟩
  | 103 => ⟨S4096x2x16, .f32⟩
  | 104 => ⟨S4096x2x16, .f32⟩
  | 105 => ⟨S4096x2x16, .f32⟩
  | 106 => ⟨S4096x2x16, .f32⟩
  | 107 => ⟨S4096x2x16, .f32⟩
  | 108 => ⟨S4096x2x16, .f32⟩
  | 109 => ⟨S4096x2x16, .f32⟩
  | 110 => ⟨S4096x2x32, .f32⟩
  | 111 => ⟨S4096x2x64, .f32⟩
  | 112 => ⟨S4096x128, .f32⟩
  | 113 => ⟨S256x128, .f32⟩
  | 114 => ⟨S4352x128, .f32⟩
  | 115 => ⟨S4096x128, .f32⟩
  | 116 => ⟨S256x128, .f32⟩
  | 117 => ⟨S_, .f32⟩
  | 118 => ⟨S4352x128, .f32⟩
  | 119 => ⟨S4096x2x64, .f32⟩
  | 120 => ⟨S4096x2x32, .f32⟩
  | 121 => ⟨S4096x2x32, .f32⟩
  | 122 => ⟨S4096x2x16, .f32⟩
  | 123 => ⟨S4096x2x16, .f32⟩
  | 124 => ⟨S4096x2x16, .f32⟩
  | 125 => ⟨S4096x2x16, .f32⟩
  | 126 => ⟨S4096x2x16, .f32⟩
  | 127 => ⟨S4096x2x16, .f32⟩
  | _ => ⟨S4352x256, .f32⟩

abbrev hbmTy0_1 (i : Nat) : BufTy := match i % 128 with
  | 0 => ⟨S4096x2x16, .f32⟩
  | 1 => ⟨S4096x2x16, .f32⟩
  | 2 => ⟨S4096x2x16, .f32⟩
  | 3 => ⟨S4096x2x16, .f32⟩
  | 4 => ⟨S4096x2x16, .f32⟩
  | 5 => ⟨S4096x2x16, .f32⟩
  | 6 => ⟨S4096x2x16, .f32⟩
  | 7 => ⟨S_, .f32⟩
  | 8 => ⟨S4096x2x32, .f32⟩
  | 9 => ⟨S_, .f32⟩
  | 10 => ⟨S4096x2x32, .f32⟩
  | 11 => ⟨S4096x2x32, .f32⟩
  | 12 => ⟨S_, .f32⟩
  | 13 => ⟨S4096x2x64, .f32⟩
  | 14 => ⟨S4096x2x16, .f32⟩
  | 15 => ⟨S4096x2x16, .f32⟩
  | 16 => ⟨S4096x2x16, .f32⟩
  | 17 => ⟨S4096x2x16, .f32⟩
  | 18 => ⟨S4096x2x16, .f32⟩
  | 19 => ⟨S4096x2x16, .f32⟩
  | 20 => ⟨S4096x2x16, .f32⟩
  | 21 => ⟨S4096x2x16, .f32⟩
  | 22 => ⟨S4096x2x16, .f32⟩
  | 23 => ⟨S4096x2x16, .f32⟩
  | 24 => ⟨S4096x2x16, .f32⟩
  | 25 => ⟨S4096x2x16, .f32⟩
  | 26 => ⟨S4096x2x16, .f32⟩
  | 27 => ⟨S_, .f32⟩
  | 28 => ⟨S4096x2x32, .f32⟩
  | 29 => ⟨S_, .f32⟩
  | 30 => ⟨S4096x2x32, .f32⟩
  | 31 => ⟨S4096x2x32, .f32⟩
  | 32 => ⟨S_, .f32⟩
  | 33 => ⟨S4096x2x64, .f32⟩
  | 34 => ⟨S4096x2x64, .f32⟩
  | 35 => ⟨S4096x128, .f32⟩
  | 36 => ⟨S_, .f32⟩
  | 37 => ⟨S4352x128, .f32⟩
  | 38 => ⟨S4352x128, .f32⟩
  | 39 => ⟨S4096x256, .f32⟩
  | 40 => ⟨S256x256, .f32⟩
  | 41 => ⟨S_, .f32⟩
  | 42 => ⟨S4352x256, .f32⟩
  | 43 => ⟨S4096x4x64, .f32⟩
  | 44 => ⟨S4096x4x32, .f32⟩
  | 45 => ⟨S4096x4x32, .f32⟩
  | 46 => ⟨S4096x4x16, .f32⟩
  | 47 => ⟨S4096x4x16, .f32⟩
  | 48 => ⟨S4096x4x16, .f32⟩
  | 49 => ⟨S4096x4x16, .f32⟩
  | 50 => ⟨S4096x4x16, .f32⟩
  | 51 => ⟨S4096x4x16, .f32⟩
  | 52 => ⟨S4096x4x16, .f32⟩
  | 53 => ⟨S4096x4x16, .f32⟩
  | 54 => ⟨S4096x4x16, .f32⟩
  | 55 => ⟨S4096x4x16, .f32⟩
  | 56 => ⟨S4096x4x16, .f32⟩
  | 57 => ⟨S4096x4x16, .f32⟩
  | 58 => ⟨S4096x4x16, .f32⟩
  | 59 => ⟨S_, .f32⟩
  | 60 => ⟨S4096x4x32, .f32⟩
  | 61 => ⟨S_, .f32⟩
  | 62 => ⟨S4096x4x32, .f32⟩
  | 63 => ⟨S4096x4x32, .f32⟩
  | 64 => ⟨S_, .f32⟩
  | 65 => ⟨S4096x4x64, .f32⟩
  | 66 => ⟨S4096x4x16, .f32⟩
  | 67 => ⟨S4096x4x16, .f32⟩
  | 68 => ⟨S4096x4x16, .f32⟩
  | 69 => ⟨S4096x4x16, .f32⟩
  | 70 => ⟨S4096x4x16, .f32⟩
  | 71 => ⟨S4096x4x16, .f32⟩
  | 72 => ⟨S4096x4x16, .f32⟩
  | 73 => ⟨S4096x4x16, .f32⟩
  | 74 => ⟨S4096x4x16, .f32⟩
  | 75 => ⟨S4096x4x16, .f32⟩
  | 76 => ⟨S4096x4x16, .f32⟩
  | 77 => ⟨S4096x4x16, .f32⟩
  | 78 => ⟨S4096x4x16, .f32⟩
  | 79 => ⟨S_, .f32⟩
  | 80 => ⟨S4096x4x32, .f32⟩
  | 81 => ⟨S_, .f32⟩
  | 82 => ⟨S4096x4x32, .f32⟩
  | 83 => ⟨S4096x4x32, .f32⟩
  | 84 => ⟨S_, .f32⟩
  | 85 => ⟨S4096x4x64, .f32⟩
  | 86 => ⟨S4096x4x64, .f32⟩
  | 87 => ⟨S4096x256, .f32⟩
  | 88 => ⟨S_, .f32⟩
  | 89 => ⟨S4352x256, .f32⟩
  | 90 => ⟨S4352x256, .f32⟩
  | 91 => ⟨S4352x256, .bf16⟩
  | 92 => ⟨S4352x128, .bf16⟩
  | _ => ⟨S4352x256, .f32⟩

abbrev hbmTy (i : Nat) : BufTy := match i / 128 with
  | 0 => hbmTy0_0 i
  | 1 => hbmTy0_1 i
  | _ => ⟨S4352x256, .f32⟩

abbrev bufTy : (tb : Table) → Fin (tcTables nBuf tb) → BufTy
  | .hbm, ⟨i, _⟩ => hbmTy i
  | _, _ => ⟨S4352x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_cst : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_cst_0 : Ref sig .tc := ⟨.hbm, 135, rfl⟩
abbrev main_v127 : Ref sig .tc := ⟨.hbm, 136, rfl⟩
abbrev main_cst_1 : Ref sig .tc := ⟨.hbm, 137, rfl⟩
abbrev main_v128 : Ref sig .tc := ⟨.hbm, 138, rfl⟩
abbrev main_v129 : Ref sig .tc := ⟨.hbm, 139, rfl⟩
abbrev main_cst_2 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_cst_3 : Ref sig .tc := ⟨.hbm, 155, rfl⟩
abbrev main_v144 : Ref sig .tc := ⟨.hbm, 156, rfl⟩
abbrev main_cst_4 : Ref sig .tc := ⟨.hbm, 157, rfl⟩
abbrev main_v145 : Ref sig .tc := ⟨.hbm, 158, rfl⟩
abbrev main_v146 : Ref sig .tc := ⟨.hbm, 159, rfl⟩
abbrev main_cst_5 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_cst_6 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_cst_7 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_cst_8 : Ref sig .tc := ⟨.hbm, 187, rfl⟩
abbrev main_v171 : Ref sig .tc := ⟨.hbm, 188, rfl⟩
abbrev main_cst_9 : Ref sig .tc := ⟨.hbm, 189, rfl⟩
abbrev main_v172 : Ref sig .tc := ⟨.hbm, 190, rfl⟩
abbrev main_v173 : Ref sig .tc := ⟨.hbm, 191, rfl⟩
abbrev main_cst_10 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_cst_11 : Ref sig .tc := ⟨.hbm, 207, rfl⟩
abbrev main_v188 : Ref sig .tc := ⟨.hbm, 208, rfl⟩
abbrev main_cst_12 : Ref sig .tc := ⟨.hbm, 209, rfl⟩
abbrev main_v189 : Ref sig .tc := ⟨.hbm, 210, rfl⟩
abbrev main_v190 : Ref sig .tc := ⟨.hbm, 211, rfl⟩
abbrev main_cst_13 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_cst_14 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩

abbrev nD : Nat := 1
abbrev τ : Topo := Topo.v7x

variable {F : FTy → Type} [FloatOps F]
-- ==== Kernel17.lean ====
abbrev S4352x512 : Shape := ⟨2, ![4352, 512]⟩
abbrev S4352x1024 : Shape := ⟨2, ![4352, 1024]⟩
abbrev S8 : Shape := ⟨1, ![8]⟩
abbrev S512 : Shape := ⟨1, ![512]⟩
abbrev S_ : Shape := ⟨0, ![]⟩
abbrev S4352x1920 : Shape := ⟨2, ![4352, 1920]⟩
abbrev S4352x2944 : Shape := ⟨2, ![4352, 2944]⟩
abbrev S8x64 : Shape := ⟨2, ![8, 64]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 16
  | .vmem => 12
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x1024, .f32⟩
  | .hbm, ⟨3, _⟩ => ⟨S4352x512, .f32⟩
  | .hbm, ⟨4, _⟩ => ⟨S8, .f32⟩
  | .hbm, ⟨5, _⟩ => ⟨S512, .f32⟩
  | .hbm, ⟨6, _⟩ => ⟨S_, .f32⟩
  | .hbm, ⟨7, _⟩ => ⟨S4352x512, .f32⟩
  | .hbm, ⟨8, _⟩ => ⟨S_, .f32⟩
  | .hbm, ⟨9, _⟩ => ⟨S4352x1920, .f32⟩
  | .hbm, ⟨10, _⟩ => ⟨S4352x2944, .f32⟩
  | .hbm, ⟨11, _⟩ => ⟨S8x64, .f32⟩
  | .hbm, ⟨12, _⟩ => ⟨S512, .f32⟩
  | .hbm, ⟨13, _⟩ => ⟨S1x512, .f32⟩
  | .hbm, ⟨14, _⟩ => ⟨S1x512, .f32⟩
  | .hbm, ⟨15, _⟩ => ⟨S4352x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S4352x512 : Shape := ⟨2, ![4352, 512]⟩
abbrev S4352x1024 : Shape := ⟨2, ![4352, 1024]⟩
abbrev S8 : Shape := ⟨1, ![8]⟩
abbrev S512 : Shape := ⟨1, ![512]⟩
abbrev S4352x8x64 : Shape := ⟨3, ![4352, 8, 64]⟩
abbrev S8x1 : Shape := ⟨2, ![8, 1]⟩
abbrev S1x8x1 : Shape := ⟨3, ![1, 8, 1]⟩
abbrev S_ : Shape := ⟨0, ![]⟩
abbrev S4352 : Shape := ⟨1, ![4352]⟩
abbrev S4352x1 : Shape := ⟨2, ![4352, 1]⟩
abbrev S1x512 : Shape := ⟨2, ![1, 512]⟩

abbrev nBuf : Space → Nat
  | .hbm => 44
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x1024, .f32⟩
  | .hbm, ⟨3, _⟩ => ⟨S4352x512, .f32⟩
  | .hbm, ⟨4, _⟩ => ⟨S8, .f32⟩
  | .hbm, ⟨5, _⟩ => ⟨S512, .f32⟩
  | .hbm, ⟨6, _⟩ => ⟨S4352x8x64, .f32⟩
  | .hbm, ⟨7, _⟩ => ⟨S4352x8x64, .f32⟩
  | .hbm, ⟨8, _⟩ => ⟨S4352x512, .f32⟩
  | .hbm, ⟨9, _⟩ => ⟨S4352x8x64, .f32⟩
  | .hbm, ⟨10, _⟩ => ⟨S8x1, .f32⟩
  | .hbm, ⟨11, _⟩ => ⟨S4352x8x64, .f32⟩
  | .hbm, ⟨12, _⟩ => ⟨S1x8x1, .f32⟩
  | .hbm, ⟨13, _⟩ => ⟨S4352x8x64, .f32⟩
  | .hbm, ⟨14, _⟩ => ⟨S4352x8x64, .f32⟩
  | .hbm, ⟨15, _⟩ => ⟨S4352x8x64, .f32⟩
  | .hbm, ⟨16, _⟩ => ⟨S4352x512, .f32⟩
  | .hbm, ⟨17, _⟩ => ⟨S4352x512, .f32⟩
  | .hbm, ⟨18, _⟩ => ⟨S4352x512, .f32⟩
  | .hbm, ⟨19, _⟩ => ⟨S_, .f32⟩
  | .hbm, ⟨20, _⟩ => ⟨S4352x512, .f32⟩
  | .hbm, ⟨21, _⟩ => ⟨S4352x512, .f32⟩
  | .hbm, ⟨22, _⟩ => ⟨S_, .f32⟩
  | .hbm, ⟨23, _⟩ => ⟨S4352x512, .f32⟩
  | .hbm, ⟨24, _⟩ => ⟨S4352x512, .f32⟩
  | .hbm, ⟨25, _⟩ => ⟨S4352x512, .f32⟩
  | .hbm, ⟨26, _⟩ => ⟨S4352x512, .f32⟩
  | .hbm, ⟨27, _⟩ => ⟨S4352x512, .f32⟩
  | .hbm, ⟨28, _⟩ => ⟨S_, .f32⟩
  | .hbm, ⟨29, _⟩ => ⟨S4352, .f32⟩
  | .hbm, ⟨30, _⟩ => ⟨S4352x1, .f32⟩
  | .hbm, ⟨31, _⟩ => ⟨S_, .f32⟩
  | .hbm, ⟨32, _⟩ => ⟨S4352x1, .f32⟩
  | .hbm, ⟨33, _⟩ => ⟨S4352x1, .f32⟩
  | .hbm, ⟨34, _⟩ => ⟨S_, .f32⟩
  | .hbm, ⟨35, _⟩ => ⟨S4352x1, .f32⟩
  | .hbm, ⟨36, _⟩ => ⟨S4352x1, .f32⟩
  | .hbm, ⟨37, _⟩ => ⟨S4352x1, .f32⟩
  | .hbm, ⟨38, _⟩ => ⟨S4352x512, .f32⟩
  | .hbm, ⟨39, _⟩ => ⟨S4352x512, .f32⟩
  | .hbm, ⟨40, _⟩ => ⟨S1x512, .f32⟩
  | .hbm, ⟨41, _⟩ => ⟨S4352x512, .f32⟩
  | .hbm, ⟨42, _⟩ => ⟨S4352x512, .f32⟩
  | .hbm, ⟨43, _⟩ => ⟨S4352x512, .bf16⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Kernel18.lean ====
abbrev S4352x1024 : Shape := ⟨2, ![4352, 1024]⟩
abbrev S7x1024 : Shape := ⟨2, ![7, 1024]⟩
abbrev S1024 : Shape := ⟨1, ![1024]⟩
abbrev S_ : Shape := ⟨0, ![]⟩
abbrev S4352x1792 : Shape := ⟨2, ![4352, 1792]⟩
abbrev S4352x128 : Shape := ⟨2, ![4352, 128]⟩
abbrev S4352x2944 : Shape := ⟨2, ![4352, 2944]⟩
abbrev S1x1024 : Shape := ⟨2, ![1, 1024]⟩
abbrev S8x1024 : Shape := ⟨2, ![8, 1024]⟩
abbrev S8x256 : Shape := ⟨2, ![8, 256]⟩
abbrev S256x256 : Shape := ⟨2, ![256, 256]⟩
abbrev S256x1024 : Shape := ⟨2, ![256, 1024]⟩
abbrev S272x256 : Shape := ⟨2, ![272, 256]⟩
abbrev S1x256 : Shape := ⟨2, ![1, 256]⟩
abbrev S64x256 : Shape := ⟨2, ![64, 256]⟩

abbrev nBuf : Space → Nat
  | .hbm => 14
  | .vmem => 31
  | .smem => 0
  | _ => 0

abbrev bufTy : (tb : Table) → Fin (tcTables nBuf tb) → BufTy
  | .hbm, ⟨0, _⟩ => ⟨S4352x1024, .f32⟩
  | .hbm, ⟨1, _⟩ => ⟨S7x1024, .f32⟩
  | .hbm, ⟨2, _⟩ => ⟨S1024, .f32⟩
  | .hbm, ⟨3, _⟩ => ⟨S_, .f32⟩
  | .hbm, ⟨4, _⟩ => ⟨S4352x1792, .f32⟩
  | .hbm, ⟨5, _⟩ => ⟨S_, .f32⟩
  | .hbm, ⟨6, _⟩ => ⟨S4352x128, .f32⟩
  | .hbm, ⟨7, _⟩ => ⟨S4352x2944, .f32⟩
  | .hbm, ⟨8, _⟩ => ⟨S_, .f32⟩
  | .hbm, ⟨9, _⟩ => ⟨S1x1024, .f32⟩
  | .hbm, ⟨10, _⟩ => ⟨S8x1024, .f32⟩
  | .hbm, ⟨11, _⟩ => ⟨S1x1024, .f32⟩
  | .hbm, ⟨12, _⟩ => ⟨S4352x1024, .f32⟩
  | .hbm, ⟨13, _⟩ => ⟨S4352x1024, .f32⟩
  | .local _ .vmem, ⟨0, _⟩ => ⟨S8x256, .f32⟩
  | .local _ .vmem, ⟨1, _⟩ => ⟨S8x256, .f32⟩
  | .local _ .vmem, ⟨2, _⟩ => ⟨S256x256, .f32⟩
  | .local _ .vmem, ⟨3, _⟩ => ⟨S256x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S256x256, .f32⟩
  | .local _ .vmem, ⟨9, _⟩ => ⟨S256x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | .local _ .vmem, ⟨14, _⟩ => ⟨S256x256, .f32⟩
  | .local _ .vmem, ⟨15, _⟩ => ⟨S256x256, .f32⟩
  | .local _ .vmem, ⟨16, _⟩ => ⟨S8x256, .f32⟩
  | .local _ .vmem, ⟨17, _⟩ => ⟨S8x256, .f32⟩
  | .local _ .vmem, ⟨18, _⟩ => ⟨S8x256, .f32⟩
  | .local _ .vmem, ⟨19, _⟩ => ⟨S8x256, .f32⟩
  | .local _ .vmem, ⟨20, _⟩ => ⟨S256x256, .f32⟩
  | .local _ .vmem, ⟨21, _⟩ => ⟨S256x256, .f32⟩
  | .local _ .vmem, ⟨22, _⟩ => ⟨S8x256, .f32⟩
  | .local _ .vmem, ⟨23, _⟩ => ⟨S8x256, .f32⟩
  | .local _ .vmem, ⟨24, _⟩ => ⟨S8x1024, .f32⟩
  | .local _ .vmem, ⟨25, _⟩ => ⟨S1x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S272x256, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c543_i32 : BitVec 32 := 543#32
  let v2 : BitVec 32 := Scalar.minsi v1 c543_i32
  let c7_i32 : BitVec 32 := 7#32
  let c0_i32 : BitVec 32 := 0#32
  ![v2.toNat, c7_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c543_i32 : BitVec 32 := 543#32
  let v2 : BitVec 32 := Scalar.minsi v1 c543_i32
  let c8_i32 : BitVec 32 := 8#32
  let c0_i32 : BitVec 32 := 0#32
  ![v2.toNat, c8_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_7 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c543_i32 : BitVec 32 := 543#32
  let v2 : BitVec 32 := Scalar.minsi v1 c543_i32
  let c9_i32 : BitVec 32 := 9#32
  let c0_i32 : BitVec 32 := 0#32
  ![v2.toNat, c9_i32.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_10 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c543_i32 : BitVec 32 := 543#32
  let v2 : BitVec 32 := Scalar.minsi v1 c543_i32
  let c10_i32 : BitVec 32 := 10#32
  let c0_i32 : BitVec 32 := 0#32
  ![v2.toNat, c10_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference18Ideal.lean ====
abbrev S4352x1024 : Shape := ⟨2, ![4352, 1024]⟩
abbrev S7x1024 : Shape := ⟨2, ![7, 1024]⟩
abbrev S1024 : Shape := ⟨1, ![1024]⟩
abbrev S4096x1024 : Shape := ⟨2, ![4096, 1024]⟩
abbrev S_ : Shape := ⟨0, ![]⟩
abbrev S3x1024 : Shape := ⟨2, ![3, 1024]⟩
abbrev S4102x1024 : Shape := ⟨2, ![4102, 1024]⟩
abbrev S1x1024 : Shape := ⟨2, ![1, 1024]⟩
abbrev S256x1024 : Shape := ⟨2, ![256, 1024]⟩
abbrev S262x1024 : Shape := ⟨2, ![262, 1024]⟩

abbrev nBuf : Space → Nat
  | .hbm => 123
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S7x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S3x1024, .f32⟩
  | .hbm, ⟨6, _⟩ => ⟨S4102x1024, .f32⟩
  | .hbm, ⟨7, _⟩ => ⟨S4096x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S256x1024, .f32⟩
  | .hbm, ⟨59, _⟩ => ⟨S_, .f32⟩
  | .hbm, ⟨60, _⟩ => ⟨S3x1024, .f32⟩
  | .hbm, ⟨61, _⟩ => ⟨S262x1024, .f32⟩
  | .hbm, ⟨62, _⟩ => ⟨S256x1024, .f32⟩
  | .hbm, ⟨63, _⟩ => ⟨S1x1024, .f32⟩
  | .hbm, ⟨64, _⟩ => ⟨S1024, .f32⟩
  | .hbm, ⟨65, _⟩ => ⟨S1x1024, .f32⟩
  | .hbm, ⟨66, _⟩ => ⟨S256x1024, .f32⟩
  | .hbm, ⟨67, _⟩ => ⟨S256x1024, .f32⟩
  | .hbm, ⟨68, _⟩ => ⟨S256x1024, .f32⟩
  | .hbm, ⟨69, _⟩ => ⟨S1x1024, .f32⟩
  | .hbm, ⟨70, _⟩ => ⟨S1024, .f32⟩
  | .hbm, ⟨71, _⟩ => ⟨S1x1024, .f32⟩
  | .hbm, ⟨72, _⟩ => ⟨S256x1024, .f32⟩
  | .hbm, ⟨73, _⟩ => ⟨S256x1024, .f32⟩
  | .hbm, ⟨74, _⟩ => ⟨S256x1024, .f32⟩
  | .hbm, ⟨75, _⟩ => ⟨S256x1024, .f32⟩
  | .hbm, ⟨76, _⟩ => ⟨S1x1024, .f32⟩
  | .hbm, ⟨77, _⟩ => ⟨S1024, .f32⟩
  | .hbm, ⟨78, _⟩ => ⟨S1x1024, .f32⟩
  | .hbm, ⟨79, _⟩ => ⟨S256x1024, .f32⟩
  | .hbm, ⟨80, _⟩ => ⟨S256x1024, .f32⟩
  | .hbm, ⟨81, _⟩ => ⟨S256x1024, .f32⟩
  | .hbm, ⟨82, _⟩ => ⟨S256x1024, .f32⟩
  | .hbm, ⟨83, _⟩ => ⟨S1x1024, .f32⟩
  | .hbm, ⟨84, _⟩ => ⟨S1024, .f32⟩
  | .hbm, ⟨85, _⟩ => ⟨S1x1024, .f32⟩
  | .hbm, ⟨86, _⟩ => ⟨S256x1024, .f32⟩
  | .hbm, ⟨87, _⟩ => ⟨S256x1024, .f32⟩
  | .hbm, ⟨88, _⟩ => ⟨S256x1024, .f32⟩
  | .hbm, ⟨89, _⟩ => ⟨S256x1024, .f32⟩
  | .hbm, ⟨90, _⟩ => ⟨S1x1024, .f32⟩
  | .hbm, ⟨91, _⟩ => ⟨S1024, .f32⟩
  | .hbm, ⟨92, _⟩ => ⟨S1x1024, .f32⟩
  | .hbm, ⟨93, _⟩ => ⟨S256x1024, .f32⟩
  | .hbm, ⟨94, _⟩ => ⟨S256x1024, .f32⟩
  | .hbm, ⟨95, _⟩ => ⟨S256x1024, .f32⟩
  | .hbm, ⟨96, _⟩ => ⟨S256x1024, .f32⟩
  | .hbm, ⟨97, _⟩ => ⟨S1x1024, .f32⟩
  | .hbm, ⟨98, _⟩ => ⟨S1024, .f32⟩
  | .hbm, ⟨99, _⟩ => ⟨S1x1024, .f32⟩
  | .hbm, ⟨100, _⟩ => ⟨S256x1024, .f32⟩
  | .hbm, ⟨101, _⟩ => ⟨S256x1024, .f32⟩
  | .hbm, ⟨102, _⟩ => ⟨S256x1024, .f32⟩
  | .hbm, ⟨103, _⟩ => ⟨S256x1024, .f32⟩
  | .hbm, ⟨104, _⟩ => ⟨S1x1024, .f32⟩
  | .hbm, ⟨105, _⟩ => ⟨S1024, .f32⟩
  | .hbm, ⟨106, _⟩ => ⟨S1x1024, .f32⟩
  | .hbm, ⟨107, _⟩ => ⟨S256x1024, .f32⟩
  | .hbm, ⟨108, _⟩ => ⟨S256x1024, .f32⟩
  | .hbm, ⟨109, _⟩ => ⟨S256x1024, .f32⟩
  | .hbm, ⟨110, _⟩ => ⟨S1x1024, .f32⟩
  | .hbm, ⟨111, _⟩ => ⟨S256x1024, .f32⟩
  | .hbm, ⟨112, _⟩ => ⟨S256x1024, .f32⟩
  | .hbm, ⟨113, _⟩ => ⟨S4352x1024, .f32⟩
  | .hbm, ⟨114, _⟩ => ⟨S4352x1024, .f32⟩
  | .hbm, ⟨115, _⟩ => ⟨S4352x1024, .f32⟩
  | .hbm, ⟨116, _⟩ => ⟨S_, .f32⟩
  | .hbm, ⟨117, _⟩ => ⟨S4352x1024, .f32⟩
  | .hbm, ⟨118, _⟩ => ⟨S4352x1024, .f32⟩
  | .hbm, ⟨119, _⟩ => ⟨S_, .f32⟩
  | .hbm, ⟨120, _⟩ => ⟨S4352x1024, .f32⟩
  | .hbm, ⟨121, _⟩ => ⟨S4352x1024, .f32⟩
  | .hbm, ⟨122, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_cst_0 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_call0_v0 : Ref sig .tc := ⟨.hbm, 114, rfl⟩
abbrev main_call0_v1 : Ref sig .tc := ⟨.hbm, 115, rfl⟩
abbrev main_call0_cst : Ref sig .tc := ⟨.hbm, 116, rfl⟩
abbrev main_call0_v2 : Ref sig .tc := ⟨.hbm, 117, rfl⟩
abbrev main_call0_v3 : Ref sig .tc := ⟨.hbm, 118, rfl⟩
abbrev main_call0_cst_0 : Ref sig .tc := ⟨.hbm, 119, rfl⟩
abbrev main_call0_v4 : Ref sig .tc := ⟨.hbm, 120, rfl⟩
abbrev main_call0_v5 : Ref sig .tc := ⟨.hbm, 121, rfl⟩
abbrev main_v109 : Ref sig .tc := ⟨.hbm, 122, rfl⟩

abbrev nD : Nat := 1
abbrev τ : Topo := Topo.v7x

variable {F : FTy → Type} [FloatOps F]
-- ==== Kernel19.lean ====
abbrev S4352x1024 : Shape := ⟨2, ![4352, 1024]⟩
abbrev S2x3x1024 : Shape := ⟨3, ![2, 3, 1024]⟩
abbrev S1024 : Shape := ⟨1, ![1024]⟩
abbrev S_ : Shape := ⟨0, ![]⟩
abbrev S2x5x1024 : Shape := ⟨3, ![2, 5, 1024]⟩
abbrev S2x8x1024 : Shape := ⟨3, ![2, 8, 1024]⟩
abbrev S1x1024 : Shape := ⟨2, ![1, 1024]⟩
abbrev S256x1024 : Shape := ⟨2, ![256, 1024]⟩
abbrev S1x8x1024 : Shape := ⟨3, ![1, 8, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S2x3x1024, .f32⟩
  | .hbm, ⟨3, _⟩ => ⟨S1024, .f32⟩
  | .hbm, ⟨4, _⟩ => ⟨S_, .f32⟩
  | .hbm, ⟨5, _⟩ => ⟨S2x5x1024, .f32⟩
  | .hbm, ⟨6, _⟩ => ⟨S2x8x1024, .f32⟩
  | .hbm, ⟨7, _⟩ => ⟨S1x1024, .f32⟩
  | .hbm, ⟨8, _⟩ => ⟨S4352x1024, .f32⟩
  | .hbm, ⟨9, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference19Ideal.lean ====
abbrev S4352x1024 : Shape := ⟨2, ![4352, 1024]⟩
abbrev S2x3x1024 : Shape := ⟨3, ![2, 3, 1024]⟩
abbrev S1024 : Shape := ⟨1, ![1024]⟩
abbrev S4096x1024 : Shape := ⟨2, ![4096, 1024]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S256x1024 : Shape := ⟨2, ![256, 1024]⟩
abbrev S256 : Shape := ⟨1, ![256]⟩
abbrev S256x1 : Shape := ⟨2, ![256, 1]⟩

abbrev nBuf : Space → Nat
  | .hbm => 81
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S2x3x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S1x1x1024, .f32⟩
  | .hbm, ⟨7, _⟩ => ⟨S1024, .f32⟩
  | .hbm, ⟨8, _⟩ => ⟨S1x1x1024, .f32⟩
  | .hbm, ⟨9, _⟩ => ⟨S1024, .f32⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S256x1024, .f32⟩
  | .hbm, ⟨42, _⟩ => ⟨S256x1024, .f32⟩
  | .hbm, ⟨43, _⟩ => ⟨S1x1x1024, .f32⟩
  | .hbm, ⟨44, _⟩ => ⟨S1024, .f32⟩
  | .hbm, ⟨45, _⟩ => ⟨S1x1x1024, .f32⟩
  | .hbm, ⟨46, _⟩ => ⟨S1024, .f32⟩
  | .hbm, ⟨47, _⟩ => ⟨S1x1x1024, .f32⟩
  | .hbm, ⟨48, _⟩ => ⟨S1024, .f32⟩
  | .hbm, ⟨49, _⟩ => ⟨S1x1024, .f32⟩
  | .hbm, ⟨50, _⟩ => ⟨S256x1024, .f32⟩
  | .hbm, ⟨51, _⟩ => ⟨S256x1024, .f32⟩
  | .hbm, ⟨52, _⟩ => ⟨S256x1024, .f32⟩
  | .hbm, ⟨53, _⟩ => ⟨S256x1024, .f32⟩
  | .hbm, ⟨54, _⟩ => ⟨S_, .f32⟩
  | .hbm, ⟨55, _⟩ => ⟨S256, .f32⟩
  | .hbm, ⟨56, _⟩ => ⟨S256x1, .f32⟩
  | .hbm, ⟨57, _⟩ => ⟨S_, .f32⟩
  | .hbm, ⟨58, _⟩ => ⟨S256x1, .f32⟩
  | .hbm, ⟨59, _⟩ => ⟨S256x1, .f32⟩
  | .hbm, ⟨60, _⟩ => ⟨S_, .f32⟩
  | .hbm, ⟨61, _⟩ => ⟨S256x1, .f32⟩
  | .hbm, ⟨62, _⟩ => ⟨S256x1, .f32⟩
  | .hbm, ⟨63, _⟩ => ⟨S256x1, .f32⟩
  | .hbm, ⟨64, _⟩ => ⟨S256x1024, .f32⟩
  | .hbm, ⟨65, _⟩ => ⟨S256x1024, .f32⟩
  | .hbm, ⟨66, _⟩ => ⟨S1x1024, .f32⟩
  | .hbm, ⟨67, _⟩ => ⟨S256x1024, .f32⟩
  | .hbm, ⟨68, _⟩ => ⟨S256x1024, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S1x1024, .f32⟩
  | .hbm, ⟨73, _⟩ => ⟨S256x1024, .f32⟩
  | .hbm, ⟨74, _⟩ => ⟨S256x1024, .f32⟩
  | .hbm, ⟨75, _⟩ => ⟨S1x1024, .f32⟩
  | .hbm, ⟨76, _⟩ => ⟨S256x1024, .f32⟩
  | .hbm, ⟨77, _⟩ => ⟨S256x1024, .f32⟩
  | .hbm, ⟨78, _⟩ => ⟨S4352x1024, .f32⟩
  | .hbm, ⟨79, _⟩ => ⟨S4352x1024, .f32⟩
  | .hbm, ⟨80, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_3 : Ref sig .tc := ⟨.hbm, 54, rfl⟩
abbrev main_v46 : Ref sig .tc := ⟨.hbm, 55, rfl⟩
abbrev main_v47 : Ref sig .tc := ⟨.hbm, 56, rfl⟩
abbrev main_cst_4 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_6 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩

abbrev nD : Nat := 1
abbrev τ : Topo := Topo.v7x

variable {F : FTy → Type} [FloatOps F]
-- ==== Kernel20.lean ====
abbrev S2x1024x708 : Shape := ⟨3, ![2, 1024, 708]⟩
abbrev S1x512x708 : Shape := ⟨3, ![1, 512, 708]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x708, .f32⟩
  | .hbm, ⟨1, _⟩ => ⟨S2x1024x708, .f32⟩
  | .hbm, ⟨2, _⟩ => ⟨S2x1024x708, .f32⟩
  | .hbm, ⟨3, _⟩ => ⟨S2x1024x708, .f32⟩
  | .hbm, ⟨4, _⟩ => ⟨S2x1024x708, .f32⟩
  | .hbm, ⟨5, _⟩ => ⟨S2x1024x708, .f32⟩
  | .hbm, ⟨6, _⟩ => ⟨S2x1024x708, .f32⟩
  | .local _ .vmem, ⟨0, _⟩ => ⟨S1x512x708, .f32⟩
  | .local _ .vmem, ⟨1, _⟩ => ⟨S1x512x708, .f32⟩
  | .local _ .vmem, ⟨2, _⟩ => ⟨S1x512x708, .f32⟩
  | .local _ .vmem, ⟨3, _⟩ => ⟨S1x512x708, .f32⟩
  | .local _ .vmem, ⟨4, _⟩ => ⟨S1x512x708, .f32⟩
  | .local _ .vmem, ⟨5, _⟩ => ⟨S1x512x708, .f32⟩
  | .local _ .vmem, ⟨6, _⟩ => ⟨S1x512x708, .f32⟩
  | .local _ .vmem, ⟨7, _⟩ => ⟨S1x512x708, .f32⟩
  | .local _ .vmem, ⟨8, _⟩ => ⟨S1x512x708, .f32⟩
  | .local _ .vmem, ⟨9, _⟩ => ⟨S1x512x708, .f32⟩
  | .local _ .vmem, ⟨10, _⟩ => ⟨S1x512x708, .f32⟩
  | .local _ .vmem, ⟨11, _⟩ => ⟨S1x512x708, .f32⟩
  | .local _ .vmem, ⟨12, _⟩ => ⟨S1x512x708, .f32⟩
  | .local _ .vmem, ⟨13, _⟩ => ⟨S1x512x708, .f32⟩
  | _, _ => ⟨S2x1024x708, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x708 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x708 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x708 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x708 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x708 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x708 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x708 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S2x1024x708 : Shape := ⟨3, ![2, 1024, 708]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x708, .f32⟩
  | .hbm, ⟨1, _⟩ => ⟨S2x1024x708, .f32⟩
  | .hbm, ⟨2, _⟩ => ⟨S2x1024x708, .f32⟩
  | .hbm, ⟨3, _⟩ => ⟨S2x1024x708, .f32⟩
  | .hbm, ⟨4, _⟩ => ⟨S_, .f32⟩
  | .hbm, ⟨5, _⟩ => ⟨S2x1024x708, .f32⟩
  | .hbm, ⟨6, _⟩ => ⟨S2x1024x708, .f32⟩
  | .hbm, ⟨7, _⟩ => ⟨S_, .f32⟩
  | .hbm, ⟨8, _⟩ => ⟨S2x1024x708, .f32⟩
  | .hbm, ⟨9, _⟩ => ⟨S2x1024x708, .f32⟩
  | .hbm, ⟨10, _⟩ => ⟨S2x1024x708, .f32⟩
  | .hbm, ⟨11, _⟩ => ⟨S_, .f32⟩
  | .hbm, ⟨12, _⟩ => ⟨S2x1024x708, .f32⟩
  | .hbm, ⟨13, _⟩ => ⟨S2x1024x708, .f32⟩
  | .hbm, ⟨14, _⟩ => ⟨S2x1024x708, .f32⟩
  | .hbm, ⟨15, _⟩ => ⟨S_, .f32⟩
  | .hbm, ⟨16, _⟩ => ⟨S2x1024x708, .f32⟩
  | .hbm, ⟨17, _⟩ => ⟨S2x1024x708, .f32⟩
  | .hbm, ⟨18, _⟩ => ⟨S2x1024x708, .f32⟩
  | .hbm, ⟨19, _⟩ => ⟨S_, .f32⟩
  | .hbm, ⟨20, _⟩ => ⟨S2x1024x708, .f32⟩
  | .hbm, ⟨21, _⟩ => ⟨S2x1024x708, .f32⟩
  | .hbm, ⟨22, _⟩ => ⟨S_, .f32⟩
  | .hbm, ⟨23, _⟩ => ⟨S2x1024x708, .f32⟩
  | .hbm, ⟨24, _⟩ => ⟨S2x1024x708, .f32⟩
  | .hbm, ⟨25, _⟩ => ⟨S2x1024x708, .f32⟩
  | .hbm, ⟨26, _⟩ => ⟨S_, .f32⟩
  | .hbm, ⟨27, _⟩ => ⟨S2x1024x708, .f32⟩
  | .hbm, ⟨28, _⟩ => ⟨S2x1024x708, .f32⟩
  | .hbm, ⟨29, _⟩ => ⟨S2x1024x708, .f32⟩
  | .hbm, ⟨30, _⟩ => ⟨S_, .f32⟩
  | .hbm, ⟨31, _⟩ => ⟨S2x1024x708, .f32⟩
  | .hbm, ⟨32, _⟩ => ⟨S2x1024x708, .f32⟩
  | .hbm, ⟨33, _⟩ => ⟨S2x1024x708, .f32⟩
  | .hbm, ⟨34, _⟩ => ⟨S_, .f32⟩
  | .hbm, ⟨35, _⟩ => ⟨S2x1024x708, .f32⟩
  | .hbm, ⟨36, _⟩ => ⟨S2x1024x708, .f32⟩
  | _, _ => ⟨S2x1024x708, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S2x1024x1408 : Shape := ⟨3, ![2, 1024, 1408]⟩
abbrev S1x256x1408 : Shape := ⟨3, ![1, 256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S2x1024x1408 : Shape := ⟨3, ![2, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2x704x1024 : Shape := ⟨3, ![2, 704, 1024]⟩
abbrev S1x352x1024 : Shape := ⟨3, ![1, 352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference22Ideal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2x256x1024 : Shape := ⟨3, ![2, 256, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference23Ideal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S2x1024x1536 : Shape := ⟨3, ![2, 1024, 1536]⟩
abbrev S1x256x1536 : Shape := ⟨3, ![1, 256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2x1024x1536, .f32⟩
  | .hbm, ⟨5, _⟩ => ⟨S2x1024x1536, .f32⟩
  | .hbm, ⟨6, _⟩ => ⟨S2x1024x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference24Ideal.lean ====
abbrev S2x1024x1536 : Shape := ⟨3, ![2, 1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S_, .f32⟩
  | .hbm, ⟨5, _⟩ => ⟨S2x1024x1536, .f32⟩
  | .hbm, ⟨6, _⟩ => ⟨S2x1024x1536, .f32⟩
  | .hbm, ⟨7, _⟩ => ⟨S_, .f32⟩
  | .hbm, ⟨8, _⟩ => ⟨S2x1024x1536, .f32⟩
  | .hbm, ⟨9, _⟩ => ⟨S2x1024x1536, .f32⟩
  | .hbm, ⟨10, _⟩ => ⟨S2x1024x1536, .f32⟩
  | .hbm, ⟨11, _⟩ => ⟨S_, .f32⟩
  | .hbm, ⟨12, _⟩ => ⟨S2x1024x1536, .f32⟩
  | .hbm, ⟨13, _⟩ => ⟨S2x1024x1536, .f32⟩
  | .hbm, ⟨14, _⟩ => ⟨S2x1024x1536, .f32⟩
  | .hbm, ⟨15, _⟩ => ⟨S_, .f32⟩
  | .hbm, ⟨16, _⟩ => ⟨S2x1024x1536, .f32⟩
  | .hbm, ⟨17, _⟩ => ⟨S2x1024x1536, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S4352x256 : Shape := ⟨2, ![4352, 256]⟩
abbrev S4352x128 : Shape := ⟨2, ![4352, 128]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S_ : Shape := ⟨0, ![]⟩
abbrev S256x64 : Shape := ⟨2, ![256, 64]⟩
abbrev S4352x64 : Shape := ⟨2, ![4352, 64]⟩
abbrev S1x4352x1x64 : Shape := ⟨4, ![1, 4352, 1, 64]⟩
abbrev S1x4352x2x64 : Shape := ⟨4, ![1, 4352, 2, 64]⟩
abbrev S4352x768 : Shape := ⟨2, ![4352, 768]⟩
abbrev S4352x1152 : Shape := ⟨2, ![4352, 1152]⟩
abbrev S4352x2944 : Shape := ⟨2, ![4352, 2944]⟩
abbrev S544x256 : Shape := ⟨2, ![544, 256]⟩
abbrev S544x128 : Shape := ⟨2, ![544, 128]⟩

abbrev nBuf : Space → Nat
  | .hbm => 45
  | .vmem => 20
  | .smem => 0
  | _ => 0

abbrev bufTy : (tb : Table) → Fin (tcTables nBuf tb) → BufTy
  | .hbm, ⟨0, _⟩ => ⟨S4352x256, .f32⟩
  | .hbm, ⟨1, _⟩ => ⟨S4352x128, .f32⟩
  | .hbm, ⟨2, _⟩ => ⟨S4352x256, .f32⟩
  | .hbm, ⟨3, _⟩ => ⟨S4352x256, .f32⟩
  | .hbm, ⟨4, _⟩ => ⟨S4096, .i32⟩
  | .hbm, ⟨5, _⟩ => ⟨S4096, .i32⟩
  | .hbm, ⟨6, _⟩ => ⟨S16, .f32⟩
  | .hbm, ⟨7, _⟩ => ⟨S4096, .f32⟩
  | .hbm, ⟨8, _⟩ => ⟨S4096x1, .f32⟩
  | .hbm, ⟨9, _⟩ => ⟨S1x16, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S4096, .f32⟩
  | .hbm, ⟨14, _⟩ => ⟨S4096x1, .f32⟩
  | .hbm, ⟨15, _⟩ => ⟨S1x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x64, .f32⟩
  | .hbm, ⟨20, _⟩ => ⟨S4096x64, .f32⟩
  | .hbm, ⟨21, _⟩ => ⟨S_, .f32⟩
  | .hbm, ⟨22, _⟩ => ⟨S256x64, .f32⟩
  | .hbm, ⟨23, _⟩ => ⟨S4352x64, .f32⟩
  | .hbm, ⟨24, _⟩ => ⟨S4096x64, .f32⟩
  | .hbm, ⟨25, _⟩ => ⟨S_, .f32⟩
  | .hbm, ⟨26, _⟩ => ⟨S256x64, .f32⟩
  | .hbm, ⟨27, _⟩ => ⟨S4352x64, .f32⟩
  | .hbm, ⟨28, _⟩ => ⟨S1x4352x1x64, .f32⟩
  | .hbm, ⟨29, _⟩ => ⟨S1x4352x2x64, .f32⟩
  | .hbm, ⟨30, _⟩ => ⟨S4352x128, .f32⟩
  | .hbm, ⟨31, _⟩ => ⟨S1x4352x1x64, .f32⟩
  | .hbm, ⟨32, _⟩ => ⟨S1x4352x2x64, .f32⟩
  | .hbm, ⟨33, _⟩ => ⟨S4352x128, .f32⟩
  | .hbm, ⟨34, _⟩ => ⟨S_, .f32⟩
  | .hbm, ⟨35, _⟩ => ⟨S4352x768, .f32⟩
  | .hbm, ⟨36, _⟩ => ⟨S_, .f32⟩
  | .hbm, ⟨37, _⟩ => ⟨S4352x128, .f32⟩
  | .hbm, ⟨38, _⟩ => ⟨S_, .f32⟩
  | .hbm, ⟨39, _⟩ => ⟨S4352x1152, .f32⟩
  | .hbm, ⟨40, _⟩ => ⟨S4352x2944, .f32⟩
  | .hbm, ⟨41, _⟩ => ⟨S4352x256, .bf16⟩
  | .hbm, ⟨42, _⟩ => ⟨S4352x128, .bf16⟩
  | .hbm, ⟨43, _⟩ => ⟨S4352x256, .bf16⟩
  | .hbm, ⟨44, _⟩ => ⟨S4352x256, .bf16⟩
  | .local _ .vmem, ⟨0, _⟩ => ⟨S544x256, .f32⟩
  | .local _ .vmem, ⟨1, _⟩ => ⟨S544x256, .f32⟩
  | .local _ .vmem, ⟨2, _⟩ => ⟨S544x128, .f32⟩
  | .local _ .vmem, ⟨3, _⟩ => ⟨S544x128, .f32⟩
  | .local _ .vmem, ⟨4, _⟩ => ⟨S544x128, .f32⟩
  | .local _ .vmem, ⟨5, _⟩ => ⟨S544x128, .f32⟩
  | .local _ .vmem, ⟨6, _⟩ => ⟨S544x128, .f32⟩
  | .local _ .vmem, ⟨7, _⟩ => ⟨S544x128, .f32⟩
  | .local _ .vmem, ⟨8, _⟩ => ⟨S544x256, .f32⟩
  | .local _ .vmem, ⟨9, _⟩ => ⟨S544x256, .f32⟩
  | .local _ .vmem, ⟨10, _⟩ => ⟨S544x256, .f32⟩
  | .local _ .vmem, ⟨11, _⟩ => ⟨S544x256, .f32⟩
  | .local _ .vmem, ⟨12, _⟩ => ⟨S544x256, .bf16⟩
  | .local _ .vmem, ⟨13, _⟩ => ⟨S544x256, .bf16⟩
  | .local _ .vmem, ⟨14, _⟩ => ⟨S544x128, .bf16⟩
  | .local _ .vmem, ⟨15, _⟩ => ⟨S544x128, .bf16⟩
  | .local _ .vmem, ⟨16, _⟩ => ⟨S544x256, .bf16⟩
  | .local _ .vmem, ⟨17, _⟩ => ⟨S544x256, .bf16⟩
  | .local _ .vmem, ⟨18, _⟩ => ⟨S544x256, .bf16⟩
  | .local _ .vmem, ⟨19, _⟩ => ⟨S544x256, .bf16⟩
  | _, _ => ⟨S4352x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev main_v29_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S544x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference25Ideal.lean ====
abbrev S4352x256 : Shape := ⟨2, ![4352, 256]⟩
abbrev S4352x128 : Shape := ⟨2, ![4352, 128]⟩
abbrev S4096 : Shape := ⟨1, ![4096]⟩
abbrev S16 : Shape := ⟨1, ![16]⟩
abbrev S4096x256 : Shape := ⟨2, ![4096, 256]⟩
abbrev S4096x4x64 : Shape := ⟨3, ![4096, 4, 64]⟩
abbrev S4096x4x32 : Shape := ⟨3, ![4096, 4, 32]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x4x16 : Shape := ⟨3, ![4096, 4, 16]⟩
abbrev S256x256 : Shape := ⟨2, ![256, 256]⟩
abbrev S4096x128 : Shape := ⟨2, ![4096, 128]⟩
abbrev S4096x2x64 : Shape := ⟨3, ![4096, 2, 64]⟩
abbrev S4096x2x32 : Shape := ⟨3, ![4096, 2, 32]⟩
abbrev S4096x2x16 : Shape := ⟨3, ![4096, 2, 16]⟩
abbrev S256x128 : Shape := ⟨2, ![256, 128]⟩

abbrev nBuf : Space → Nat
  | .hbm => 119
  | .vmem => 0
  | .smem => 0
  | _ => 0

abbrev bufTy : (tb : Table) → Fin (tcTables nBuf tb) → BufTy
  | .hbm, ⟨0, _⟩ => ⟨S4352x256, .f32⟩
  | .hbm, ⟨1, _⟩ => ⟨S4352x128, .f32⟩
  | .hbm, ⟨2, _⟩ => ⟨S4352x256, .f32⟩
  | .hbm, ⟨3, _⟩ => ⟨S4352x256, .f32⟩
  | .hbm, ⟨4, _⟩ => ⟨S4096, .i32⟩
  | .hbm, ⟨5, _⟩ => ⟨S4096, .i32⟩
  | .hbm, ⟨6, _⟩ => ⟨S16, .f32⟩
  | .hbm, ⟨7, _⟩ => ⟨S4096x256, .f32⟩
  | .hbm, ⟨8, _⟩ => ⟨S4096x4x64, .f32⟩
  | .hbm, ⟨9, _⟩ => ⟨S4096x4x32, .f32⟩
  | .hbm, ⟨10, _⟩ => ⟨S4096, .f32⟩
  | .hbm, ⟨11, _⟩ => ⟨S4096x1, .f32⟩
  | .hbm, ⟨12, _⟩ => ⟨S1x16, .f32⟩
  | .hbm, ⟨13, _⟩ => ⟨S4096x16, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x1x16, .f32⟩
  | .hbm, ⟨18, _⟩ => ⟨S4096x16, .f32⟩
  | .hbm, ⟨19, _⟩ => ⟨S4096x1x16, .f32⟩
  | .hbm, ⟨20, _⟩ => ⟨S4096x4x16, .f32⟩
  | .hbm, ⟨21, _⟩ => ⟨S4096x4x16, .f32⟩
  | .hbm, ⟨22, _⟩ => ⟨S4096x4x16, .f32⟩
  | .hbm, ⟨23, _⟩ => ⟨S4096x4x16, .f32⟩
  | .hbm, ⟨24, _⟩ => ⟨S4096x4x16, .f32⟩
  | .hbm, ⟨25, _⟩ => ⟨S4096x4x16, .f32⟩
  | .hbm, ⟨26, _⟩ => ⟨S4096x4x16, .f32⟩
  | .hbm, ⟨27, _⟩ => ⟨S4096x4x16, .f32⟩
  | .hbm, ⟨28, _⟩ => ⟨S4096x4x16, .f32⟩
  | .hbm, ⟨29, _⟩ => ⟨S4096x4x16, .f32⟩
  | .hbm, ⟨30, _⟩ => ⟨S4096x4x16, .f32⟩
  | .hbm, ⟨31, _⟩ => ⟨S4096x4x16, .f32⟩
  | .hbm, ⟨32, _⟩ => ⟨S4096x4x32, .f32⟩
  | .hbm, ⟨33, _⟩ => ⟨S4096x4x32, .f32⟩
  | .hbm, ⟨34, _⟩ => ⟨S4096, .f32⟩
  | .hbm, ⟨35, _⟩ => ⟨S4096x1, .f32⟩
  | .hbm, ⟨36, _⟩ => ⟨S1x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S4096x16, .f32⟩
  | .hbm, ⟨41, _⟩ => ⟨S4096x1x16, .f32⟩
  | .hbm, ⟨42, _⟩ => ⟨S4096x16, .f32⟩
  | .hbm, ⟨43, _⟩ => ⟨S4096x1x16, .f32⟩
  | .hbm, ⟨44, _⟩ => ⟨S4096x4x16, .f32⟩
  | .hbm, ⟨45, _⟩ => ⟨S4096x4x16, .f32⟩
  | .hbm, ⟨46, _⟩ => ⟨S4096x4x16, .f32⟩
  | .hbm, ⟨47, _⟩ => ⟨S4096x4x16, .f32⟩
  | .hbm, ⟨48, _⟩ => ⟨S4096x4x16, .f32⟩
  | .hbm, ⟨49, _⟩ => ⟨S4096x4x16, .f32⟩
  | .hbm, ⟨50, _⟩ => ⟨S4096x4x16, .f32⟩
  | .hbm, ⟨51, _⟩ => ⟨S4096x4x16, .f32⟩
  | .hbm, ⟨52, _⟩ => ⟨S4096x4x16, .f32⟩
  | .hbm, ⟨53, _⟩ => ⟨S4096x4x16, .f32⟩
  | .hbm, ⟨54, _⟩ => ⟨S4096x4x16, .f32⟩
  | .hbm, ⟨55, _⟩ => ⟨S4096x4x16, .f32⟩
  | .hbm, ⟨56, _⟩ => ⟨S4096x4x32, .f32⟩
  | .hbm, ⟨57, _⟩ => ⟨S4096x4x64, .f32⟩
  | .hbm, ⟨58, _⟩ => ⟨S4096x256, .f32⟩
  | .hbm, ⟨59, _⟩ => ⟨S256x256, .f32⟩
  | .hbm, ⟨60, _⟩ => ⟨S4352x256, .f32⟩
  | .hbm, ⟨61, _⟩ => ⟨S4352x256, .bf16⟩
  | .hbm, ⟨62, _⟩ => ⟨S4096x128, .f32⟩
  | .hbm, ⟨63, _⟩ => ⟨S4096x2x64, .f32⟩
  | .hbm, ⟨64, _⟩ => ⟨S4096x2x32, .f32⟩
  | .hbm, ⟨65, _⟩ => ⟨S4096, .f32⟩
  | .hbm, ⟨66, _⟩ => ⟨S4096x1, .f32⟩
  | .hbm, ⟨67, _⟩ => ⟨S1x16, .f32⟩
  | .hbm, ⟨68, _⟩ => ⟨S4096x16, .f32⟩
  | .hbm, ⟨69, _⟩ => ⟨S4096x16, .f32⟩
  | .hbm, ⟨70, _⟩ => ⟨S4096x16, .f32⟩
  | .hbm, ⟨71, _⟩ => ⟨S4096x16, .f32⟩
  | .hbm, ⟨72, _⟩ => ⟨S4096x1x16, .f32⟩
  | .hbm, ⟨73, _⟩ => ⟨S4096x16, .f32⟩
  | .hbm, ⟨74, _⟩ => ⟨S4096x1x16, .f32⟩
  | .hbm, ⟨75, _⟩ => ⟨S4096x2x16, .f32⟩
  | .hbm, ⟨76, _⟩ => ⟨S4096x2x16, .f32⟩
  | .hbm, ⟨77, _⟩ => ⟨S4096x2x16, .f32⟩
  | .hbm, ⟨78, _⟩ => ⟨S4096x2x16, .f32⟩
  | .hbm, ⟨79, _⟩ => ⟨S4096x2x16, .f32⟩
  | .hbm, ⟨80, _⟩ => ⟨S4096x2x16, .f32⟩
  | .hbm, ⟨81, _⟩ => ⟨S4096x2x16, .f32⟩
  | .hbm, ⟨82, _⟩ => ⟨S4096x2x16, .f32⟩
  | .hbm, ⟨83, _⟩ => ⟨S4096x2x16, .f32⟩
  | .hbm, ⟨84, _⟩ => ⟨S4096x2x16, .f32⟩
  | .hbm, ⟨85, _⟩ => ⟨S4096x2x16, .f32⟩
  | .hbm, ⟨86, _⟩ => ⟨S4096x2x16, .f32⟩
  | .hbm, ⟨87, _⟩ => ⟨S4096x2x32, .f32⟩
  | .hbm, ⟨88, _⟩ => ⟨S4096x2x32, .f32⟩
  | .hbm, ⟨89, _⟩ => ⟨S4096, .f32⟩
  | .hbm, ⟨90, _⟩ => ⟨S4096x1, .f32⟩
  | .hbm, ⟨91, _⟩ => ⟨S1x16, .f32⟩
  | .hbm, ⟨92, _⟩ => ⟨S4096x16, .f32⟩
  | .hbm, ⟨93, _⟩ => ⟨S4096x16, .f32⟩
  | .hbm, ⟨94, _⟩ => ⟨S4096x16, .f32⟩
  | .hbm, ⟨95, _⟩ => ⟨S4096x16, .f32⟩
  | .hbm, ⟨96, _⟩ => ⟨S4096x1x16, .f32⟩
  | .hbm, ⟨97, _⟩ => ⟨S4096x16, .f32⟩
  | .hbm, ⟨98, _⟩ => ⟨S4096x1x16, .f32⟩
  | .hbm, ⟨99, _⟩ => ⟨S4096x2x16, .f32⟩
  | .hbm, ⟨100, _⟩ => ⟨S4096x2x16, .f32⟩
  | .hbm, ⟨101, _⟩ => ⟨S4096x2x16, .f32⟩
  | .hbm, ⟨102, _⟩ => ⟨S4096x2x16, .f32⟩
  | .hbm, ⟨103, _⟩ => ⟨S4096x2x16, .f32⟩
  | .hbm, ⟨104, _⟩ => ⟨S4096x2x16, .f32⟩
  | .hbm, ⟨105, _⟩ => ⟨S4096x2x16, .f32⟩
  | .hbm, ⟨106, _⟩ => ⟨S4096x2x16, .f32⟩
  | .hbm, ⟨107, _⟩ => ⟨S4096x2x16, .f32⟩
  | .hbm, ⟨108, _⟩ => ⟨S4096x2x16, .f32⟩
  | .hbm, ⟨109, _⟩ => ⟨S4096x2x16, .f32⟩
  | .hbm, ⟨110, _⟩ => ⟨S4096x2x16, .f32⟩
  | .hbm, ⟨111, _⟩ => ⟨S4096x2x32, .f32⟩
  | .hbm, ⟨112, _⟩ => ⟨S4096x2x64, .f32⟩
  | .hbm, ⟨113, _⟩ => ⟨S4096x128, .f32⟩
  | .hbm, ⟨114, _⟩ => ⟨S256x128, .f32⟩
  | .hbm, ⟨115, _⟩ => ⟨S4352x128, .f32⟩
  | .hbm, ⟨116, _⟩ => ⟨S4352x128, .bf16⟩
  | .hbm, ⟨117, _⟩ => ⟨S4352x256, .bf16⟩
  | .hbm, ⟨118, _⟩ => ⟨S4352x256, .bf16⟩
  | _, _ => ⟨S4352x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩

abbrev nD : Nat := 1
abbrev τ : Topo := Topo.v7x

variable {F : FTy → Type} [FloatOps F]
-- ==== Kernel26.lean ====
abbrev S1024 : Shape := ⟨1, ![1024]⟩
abbrev S2x6144 : Shape := ⟨2, ![2, 6144]⟩
abbrev S2x1024 : Shape := ⟨2, ![2, 1024]⟩
abbrev S2x4 : Shape := ⟨2, ![2, 4]⟩
abbrev S2x4x15x31 : Shape := ⟨4, ![2, 4, 15, 31]⟩
abbrev S2x7x256 : Shape := ⟨3, ![2, 7, 256]⟩
abbrev S2x2x8 : Shape := ⟨3, ![2, 2, 8]⟩
abbrev S2x8 : Shape := ⟨2, ![2, 8]⟩
abbrev S2x512 : Shape := ⟨2, ![2, 512]⟩
abbrev S12288 : Shape := ⟨1, ![12288]⟩
abbrev S2048 : Shape := ⟨1, ![2048]⟩
abbrev S8 : Shape := ⟨1, ![8]⟩
abbrev S3720 : Shape := ⟨1, ![3720]⟩
abbrev S3584 : Shape := ⟨1, ![3584]⟩
abbrev S32 : Shape := ⟨1, ![32]⟩
abbrev S16 : Shape := ⟨1, ![16]⟩
abbrev S28896 : Shape := ⟨1, ![28896]⟩
abbrev S_ : Shape := ⟨0, ![]⟩
abbrev S29696 : Shape := ⟨1, ![29696]⟩
abbrev S232x128 : Shape := ⟨2, ![232, 128]⟩
abbrev S1x232x128 : Shape := ⟨3, ![1, 232, 128]⟩

abbrev nBuf : Space → Nat
  | .hbm => 201
  | .vmem => 7
  | .smem => 0
  | _ => 0

abbrev hbmTy0_0 (i : Nat) : BufTy := match i % 128 with
  | 0 => ⟨S1024, .f32⟩
  | 1 => ⟨S2x6144, .f32⟩
  | 2 => ⟨S2x1024, .f32⟩
  | 3 => ⟨S2x4, .f32⟩
  | 4 => ⟨S2x4x15x31, .f32⟩
  | 5 => ⟨S2x7x256, .f32⟩
  | 6 => ⟨S2x1024, .f32⟩
  | 7 => ⟨S2x2x8, .f32⟩
  | 8 => ⟨S2x2x8, .f32⟩
  | 9 => ⟨S2x8, .f32⟩
  | 10 => ⟨S2x512, .f32⟩
  | 11 => ⟨S2x1024, .f32⟩
  | 12 => ⟨S1024, .f32⟩
  | 13 => ⟨S1024, .f32⟩
  | 14 => ⟨S2x6144, .f32⟩
  | 15 => ⟨S2x1024, .f32⟩
  | 16 => ⟨S2x4, .f32⟩
  | 17 => ⟨S2x4x15x31, .f32⟩
  | 18 => ⟨S2x7x256, .f32⟩
  | 19 => ⟨S2x1024, .f32⟩
  | 20 => ⟨S2x2x8, .f32⟩
  | 21 => ⟨S2x2x8, .f32⟩
  | 22 => ⟨S2x8, .f32⟩
  | 23 => ⟨S2x512, .f32⟩
  | 24 => ⟨S2x1024, .f32⟩
  | 25 => ⟨S1024, .f32⟩
  | 26 => ⟨S1024, .f32⟩
  | 27 => ⟨S2x6144, .f32⟩
  | 28 => ⟨S2x1024, .f32⟩
  | 29 => ⟨S2x4, .f32⟩
  | 30 => ⟨S2x4x15x31, .f32⟩
  | 31 => ⟨S2x7x256, .f32⟩
  | 32 => ⟨S2x1024, .f32⟩
  | 33 => ⟨S2x2x8, .f32⟩
  | 34 => ⟨S2x2x8, .f32⟩
  | 35 => ⟨S2x8, .f32⟩
  | 36 => ⟨S2x512, .f32⟩
  | 37 => ⟨S2x1024, .f32⟩
  | 38 => ⟨S1024, .f32⟩
  | 39 => ⟨S1024, .f32⟩
  | 40 => ⟨S2x6144, .f32⟩
  | 41 => ⟨S2x1024, .f32⟩
  | 42 => ⟨S2x4, .f32⟩
  | 43 => ⟨S2x4x15x31, .f32⟩
  | 44 => ⟨S2x7x256, .f32⟩
  | 45 => ⟨S2x1024, .f32⟩
  | 46 => ⟨S2x2x8, .f32⟩
  | 47 => ⟨S2x2x8, .f32⟩
  | 48 => ⟨S2x8, .f32⟩
  | 49 => ⟨S2x512, .f32⟩
  | 50 => ⟨S2x1024, .f32⟩
  | 51 => ⟨S1024, .f32⟩
  | 52 => ⟨S12288, .f32⟩
  | 53 => ⟨S2048, .f32⟩
  | 54 => ⟨S8, .f32⟩
  | 55 => ⟨S3720, .f32⟩
  | 56 => ⟨S3584, .f32⟩
  | 57 => ⟨S2048, .f32⟩
  | 58 => ⟨S32, .f32⟩
  | 59 => ⟨S32, .f32⟩
  | 60 => ⟨S16, .f32⟩
  | 61 => ⟨S1024, .f32⟩
  | 62 => ⟨S2048, .f32⟩
  | 63 => ⟨S12288, .f32⟩
  | 64 => ⟨S2048, .f32⟩
  | 65 => ⟨S8, .f32⟩
  | 66 => ⟨S3720, .f32⟩
  | 67 => ⟨S3584, .f32⟩
  | 68 => ⟨S2048, .f32⟩
  | 69 => ⟨S32, .f32⟩
  | 70 => ⟨S32, .f32⟩
  | 71 => ⟨S16, .f32⟩
  | 72 => ⟨S1024, .f32⟩
  | 73 => ⟨S2048, .f32⟩
  | 74 => ⟨S12288, .f32⟩
  | 75 => ⟨S2048, .f32⟩
  | 76 => ⟨S8, .f32⟩
  | 77 => ⟨S3720, .f32⟩
  | 78 => ⟨S3584, .f32⟩
  | 79 => ⟨S2048, .f32⟩
  | 80 => ⟨S32, .f32⟩
  | 81 => ⟨S32, .f32⟩
  | 82 => ⟨S16, .f32⟩
  | 83 => ⟨S1024, .f32⟩
  | 84 => ⟨S2048, .f32⟩
  | 85 => ⟨S12288, .f32⟩
  | 86 => ⟨S2048, .f32⟩
  | 87 => ⟨S8, .f32⟩
  | 88 => ⟨S3720, .f32⟩
  | 89 => ⟨S3584, .f32⟩
  | 90 => ⟨S2048, .f32⟩
  | 91 => ⟨S32, .f32⟩
  | 92 => ⟨S32, .f32⟩
  | 93 => ⟨S16, .f32⟩
  | 94 => ⟨S1024, .f32⟩
  | 95 => ⟨S2048, .f32⟩
  | 96 => ⟨S28896, .f32⟩
  | 97 => ⟨S_, .i32⟩
  | 98 => ⟨S_, .f32⟩
  | 99 => ⟨S29696, .f32⟩
  | 100 => ⟨S232x128, .f32⟩
  | 101 => ⟨S1x232x128, .f32⟩
  | 102 => ⟨S28896, .f32⟩
  | 103 => ⟨S_, .i32⟩
  | 104 => ⟨S_, .f32⟩
  | 105 => ⟨S29696, .f32⟩
  | 106 => ⟨S232x128, .f32⟩
  | 107 => ⟨S1x232x128, .f32⟩
  | 108 => ⟨S28896, .f32⟩
  | 109 => ⟨S_, .i32⟩
  | 110 => ⟨S_, .f32⟩
  | 111 => ⟨S29696, .f32⟩
  | 112 => ⟨S232x128, .f32⟩
  | 113 => ⟨S1x232x128, .f32⟩
  | 114 => ⟨S28896, .f32⟩
  | 115 => ⟨S_, .i32⟩
  | 116 => ⟨S_, .f32⟩
  | 117 => ⟨S29696, .f32⟩
  | 118 => ⟨S232x128, .f32⟩
  | 119 => ⟨S1x232x128, .f32⟩
  | 120 => ⟨S1x232x128, .f32⟩
  | 121 => ⟨S1x232x128, .f32⟩
  | 122 => ⟨S1x232x128, .f32⟩
  | 123 => ⟨S232x128, .f32⟩
  | 124 => ⟨S29696, .f32⟩
  | 125 => ⟨S1024, .f32⟩
  | 126 => ⟨S12288, .f32⟩
  | 127 => ⟨S2x6144, .f32⟩
  | _ => ⟨S1024, .f32⟩

abbrev hbmTy0_1 (i : Nat) : BufTy := match i % 128 with
  | 0 => ⟨S2048, .f32⟩
  | 1 => ⟨S2x1024, .f32⟩
  | 2 => ⟨S8, .f32⟩
  | 3 => ⟨S2x4, .f32⟩
  | 4 => ⟨S3720, .f32⟩
  | 5 => ⟨S2x4x15x31, .f32⟩
  | 6 => ⟨S3584, .f32⟩
  | 7 => ⟨S2x7x256, .f32⟩
  | 8 => ⟨S2048, .f32⟩
  | 9 => ⟨S2x1024, .f32⟩
  | 10 => ⟨S32, .f32⟩
  | 11 => ⟨S2x2x8, .f32⟩
  | 12 => ⟨S32, .f32⟩
  | 13 => ⟨S2x2x8, .f32⟩
  | 14 => ⟨S16, .f32⟩
  | 15 => ⟨S2x8, .f32⟩
  | 16 => ⟨S1024, .f32⟩
  | 17 => ⟨S2x512, .f32⟩
  | 18 => ⟨S2048, .f32⟩
  | 19 => ⟨S2x1024, .f32⟩
  | 20 => ⟨S1024, .f32⟩
  | 21 => ⟨S232x128, .f32⟩
  | 22 => ⟨S29696, .f32⟩
  | 23 => ⟨S1024, .f32⟩
  | 24 => ⟨S12288, .f32⟩
  | 25 => ⟨S2x6144, .f32⟩
  | 26 => ⟨S2048, .f32⟩
  | 27 => ⟨S2x1024, .f32⟩
  | 28 => ⟨S8, .f32⟩
  | 29 => ⟨S2x4, .f32⟩
  | 30 => ⟨S3720, .f32⟩
  | 31 => ⟨S2x4x15x31, .f32⟩
  | 32 => ⟨S3584, .f32⟩
  | 33 => ⟨S2x7x256, .f32⟩
  | 34 => ⟨S2048, .f32⟩
  | 35 => ⟨S2x1024, .f32⟩
  | 36 => ⟨S32, .f32⟩
  | 37 => ⟨S2x2x8, .f32⟩
  | 38 => ⟨S32, .f32⟩
  | 39 => ⟨S2x2x8, .f32⟩
  | 40 => ⟨S16, .f32⟩
  | 41 => ⟨S2x8, .f32⟩
  | 42 => ⟨S1024, .f32⟩
  | 43 => ⟨S2x512, .f32⟩
  | 44 => ⟨S2048, .f32⟩
  | 45 => ⟨S2x1024, .f32⟩
  | 46 => ⟨S1024, .f32⟩
  | 47 => ⟨S232x128, .f32⟩
  | 48 => ⟨S29696, .f32⟩
  | 49 => ⟨S1024, .f32⟩
  | 50 => ⟨S12288, .f32⟩
  | 51 => ⟨S2x6144, .f32⟩
  | 52 => ⟨S2048, .f32⟩
  | 53 => ⟨S2x1024, .f32⟩
  | 54 => ⟨S8, .f32⟩
  | 55 => ⟨S2x4, .f32⟩
  | 56 => ⟨S3720, .f32⟩
  | 57 => ⟨S2x4x15x31, .f32⟩
  | 58 => ⟨S3584, .f32⟩
  | 59 => ⟨S2x7x256, .f32⟩
  | 60 => ⟨S2048, .f32⟩
  | 61 => ⟨S2x1024, .f32⟩
  | 62 => ⟨S32, .f32⟩
  | 63 => ⟨S2x2x8, .f32⟩
  | 64 => ⟨S32, .f32⟩
  | 65 => ⟨S2x2x8, .f32⟩
  | 66 => ⟨S16, .f32⟩
  | 67 => ⟨S2x8, .f32⟩
  | 68 => ⟨S1024, .f32⟩
  | 69 => ⟨S2x512, .f32⟩
  | 70 => ⟨S2048, .f32⟩
  | 71 => ⟨S2x1024, .f32⟩
  | 72 => ⟨S1024, .f32⟩
  | _ => ⟨S1024, .f32⟩

abbrev hbmTy (i : Nat) : BufTy := match i / 128 with
  | 0 => hbmTy0_0 i
  | 1 => hbmTy0_1 i
  | _ => ⟨S1024, .f32⟩

abbrev bufTy : (tb : Table) → Fin (tcTables nBuf tb) → BufTy
  | .hbm, ⟨i, _⟩ => hbmTy i
  | .local _ .vmem, ⟨0, _⟩ => ⟨S1x232x128, .f32⟩
  | .local _ .vmem, ⟨1, _⟩ => ⟨S1x232x128, .f32⟩
  | .local _ .vmem, ⟨2, _⟩ => ⟨S1x232x128, .f32⟩
  | .local _ .vmem, ⟨3, _⟩ => ⟨S1x232x128, .f32⟩
  | .local _ .vmem, ⟨4, _⟩ => ⟨S1x232x128, .f32⟩
  | .local _ .vmem, ⟨5, _⟩ => ⟨S1x232x128, .f32⟩
  | .local _ .vmem, ⟨6, _⟩ => ⟨S1x232x128, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_v0 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_c : Ref sig .tc := ⟨.hbm, 97, rfl⟩
abbrev main_call0_v0 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_c_0 : Ref sig .tc := ⟨.hbm, 103, rfl⟩
abbrev main_call1_v0 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_c_1 : Ref sig .tc := ⟨.hbm, 109, rfl⟩
abbrev main_call2_v0 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_c_2 : Ref sig .tc := ⟨.hbm, 115, rfl⟩
abbrev main_call3_v0 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60_0 : Ref sig .tc := ⟨.hbm, 120, rfl⟩
abbrev main_v60_1 : Ref sig .tc := ⟨.hbm, 121, rfl⟩
abbrev main_v60_2 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x232x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x232x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x232x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x232x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x232x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x232x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x232x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference26Ideal.lean ====
abbrev S1024 : Shape := ⟨1, ![1024]⟩
abbrev S2x6144 : Shape := ⟨2, ![2, 6144]⟩
abbrev S2x1024 : Shape := ⟨2, ![2, 1024]⟩
abbrev S2x4 : Shape := ⟨2, ![2, 4]⟩
abbrev S2x4x15x31 : Shape := ⟨4, ![2, 4, 15, 31]⟩
abbrev S2x7x256 : Shape := ⟨3, ![2, 7, 256]⟩
abbrev S2x2x8 : Shape := ⟨3, ![2, 2, 8]⟩
abbrev S2x8 : Shape := ⟨2, ![2, 8]⟩
abbrev S2x512 : Shape := ⟨2, ![2, 512]⟩
abbrev S_ : Shape := ⟨0, ![]⟩

abbrev nBuf : Space → Nat
  | .hbm => 481
  | .vmem => 0
  | .smem => 0
  | _ => 0

abbrev hbmTy0_0 (i : Nat) : BufTy := match i % 128 with
  | 0 => ⟨S1024, .f32⟩
  | 1 => ⟨S2x6144, .f32⟩
  | 2 => ⟨S2x1024, .f32⟩
  | 3 => ⟨S2x4, .f32⟩
  | 4 => ⟨S2x4x15x31, .f32⟩
  | 5 => ⟨S2x7x256, .f32⟩
  | 6 => ⟨S2x1024, .f32⟩
  | 7 => ⟨S2x2x8, .f32⟩
  | 8 => ⟨S2x2x8, .f32⟩
  | 9 => ⟨S2x8, .f32⟩
  | 10 => ⟨S2x512, .f32⟩
  | 11 => ⟨S2x1024, .f32⟩
  | 12 => ⟨S1024, .f32⟩
  | 13 => ⟨S1024, .f32⟩
  | 14 => ⟨S2x6144, .f32⟩
  | 15 => ⟨S2x1024, .f32⟩
  | 16 => ⟨S2x4, .f32⟩
  | 17 => ⟨S2x4x15x31, .f32⟩
  | 18 => ⟨S2x7x256, .f32⟩
  | 19 => ⟨S2x1024, .f32⟩
  | 20 => ⟨S2x2x8, .f32⟩
  | 21 => ⟨S2x2x8, .f32⟩
  | 22 => ⟨S2x8, .f32⟩
  | 23 => ⟨S2x512, .f32⟩
  | 24 => ⟨S2x1024, .f32⟩
  | 25 => ⟨S1024, .f32⟩
  | 26 => ⟨S1024, .f32⟩
  | 27 => ⟨S2x6144, .f32⟩
  | 28 => ⟨S2x1024, .f32⟩
  | 29 => ⟨S2x4, .f32⟩
  | 30 => ⟨S2x4x15x31, .f32⟩
  | 31 => ⟨S2x7x256, .f32⟩
  | 32 => ⟨S2x1024, .f32⟩
  | 33 => ⟨S2x2x8, .f32⟩
  | 34 => ⟨S2x2x8, .f32⟩
  | 35 => ⟨S2x8, .f32⟩
  | 36 => ⟨S2x512, .f32⟩
  | 37 => ⟨S2x1024, .f32⟩
  | 38 => ⟨S1024, .f32⟩
  | 39 => ⟨S1024, .f32⟩
  | 40 => ⟨S2x6144, .f32⟩
  | 41 => ⟨S2x1024, .f32⟩
  | 42 => ⟨S2x4, .f32⟩
  | 43 => ⟨S2x4x15x31, .f32⟩
  | 44 => ⟨S2x7x256, .f32⟩
  | 45 => ⟨S2x1024, .f32⟩
  | 46 => ⟨S2x2x8, .f32⟩
  | 47 => ⟨S2x2x8, .f32⟩
  | 48 => ⟨S2x8, .f32⟩
  | 49 => ⟨S2x512, .f32⟩
  | 50 => ⟨S2x1024, .f32⟩
  | 51 => ⟨S1024, .f32⟩
  | 52 => ⟨S_, .f32⟩
  | 53 => ⟨S1024, .f32⟩
  | 54 => ⟨S1024, .f32⟩
  | 55 => ⟨S_, .f32⟩
  | 56 => ⟨S1024, .f32⟩
  | 57 => ⟨S1024, .f32⟩
  | 58 => ⟨S1024, .f32⟩
  | 59 => ⟨S_, .f32⟩
  | 60 => ⟨S1024, .f32⟩
  | 61 => ⟨S1024, .f32⟩
  | 62 => ⟨S1024, .f32⟩
  | 63 => ⟨S_, .f32⟩
  | 64 => ⟨S1024, .f32⟩
  | 65 => ⟨S1024, .f32⟩
  | 66 => ⟨S1024, .f32⟩
  | 67 => ⟨S_, .f32⟩
  | 68 => ⟨S1024, .f32⟩
  | 69 => ⟨S1024, .f32⟩
  | 70 => ⟨S_, .f32⟩
  | 71 => ⟨S1024, .f32⟩
  | 72 => ⟨S1024, .f32⟩
  | 73 => ⟨S1024, .f32⟩
  | 74 => ⟨S_, .f32⟩
  | 75 => ⟨S1024, .f32⟩
  | 76 => ⟨S1024, .f32⟩
  | 77 => ⟨S1024, .f32⟩
  | 78 => ⟨S_, .f32⟩
  | 79 => ⟨S1024, .f32⟩
  | 80 => ⟨S1024, .f32⟩
  | 81 => ⟨S1024, .f32⟩
  | 82 => ⟨S_, .f32⟩
  | 83 => ⟨S1024, .f32⟩
  | 84 => ⟨S1024, .f32⟩
  | 85 => ⟨S_, .f32⟩
  | 86 => ⟨S2x6144, .f32⟩
  | 87 => ⟨S2x6144, .f32⟩
  | 88 => ⟨S_, .f32⟩
  | 89 => ⟨S2x6144, .f32⟩
  | 90 => ⟨S2x6144, .f32⟩
  | 91 => ⟨S2x6144, .f32⟩
  | 92 => ⟨S_, .f32⟩
  | 93 => ⟨S2x6144, .f32⟩
  | 94 => ⟨S2x6144, .f32⟩
  | 95 => ⟨S2x6144, .f32⟩
  | 96 => ⟨S_, .f32⟩
  | 97 => ⟨S2x6144, .f32⟩
  | 98 => ⟨S2x6144, .f32⟩
  | 99 => ⟨S2x6144, .f32⟩
  | 100 => ⟨S_, .f32⟩
  | 101 => ⟨S2x6144, .f32⟩
  | 102 => ⟨S2x6144, .f32⟩
  | 103 => ⟨S_, .f32⟩
  | 104 => ⟨S2x6144, .f32⟩
  | 105 => ⟨S2x6144, .f32⟩
  | 106 => ⟨S2x6144, .f32⟩
  | 107 => ⟨S_, .f32⟩
  | 108 => ⟨S2x6144, .f32⟩
  | 109 => ⟨S2x6144, .f32⟩
  | 110 => ⟨S2x6144, .f32⟩
  | 111 => ⟨S_, .f32⟩
  | 112 => ⟨S2x6144, .f32⟩
  | 113 => ⟨S2x6144, .f32⟩
  | 114 => ⟨S2x6144, .f32⟩
  | 115 => ⟨S_, .f32⟩
  | 116 => ⟨S2x6144, .f32⟩
  | 117 => ⟨S2x6144, .f32⟩
  | 118 => ⟨S_, .f32⟩
  | 119 => ⟨S2x1024, .f32⟩
  | 120 => ⟨S2x1024, .f32⟩
  | 121 => ⟨S_, .f32⟩
  | 122 => ⟨S2x1024, .f32⟩
  | 123 => ⟨S2x1024, .f32⟩
  | 124 => ⟨S2x1024, .f32⟩
  | 125 => ⟨S_, .f32⟩
  | 126 => ⟨S2x1024, .f32⟩
  | 127 => ⟨S2x1024, .f32⟩
  | _ => ⟨S1024, .f32⟩

abbrev hbmTy0_1 (i : Nat) : BufTy := match i % 128 with
  | 0 => ⟨S2x1024, .f32⟩
  | 1 => ⟨S_, .f32⟩
  | 2 => ⟨S2x1024, .f32⟩
  | 3 => ⟨S2x1024, .f32⟩
  | 4 => ⟨S2x1024, .f32⟩
  | 5 => ⟨S_, .f32⟩
  | 6 => ⟨S2x1024, .f32⟩
  | 7 => ⟨S2x1024, .f32⟩
  | 8 => ⟨S_, .f32⟩
  | 9 => ⟨S2x1024, .f32⟩
  | 10 => ⟨S2x1024, .f32⟩
  | 11 => ⟨S2x1024, .f32⟩
  | 12 => ⟨S_, .f32⟩
  | 13 => ⟨S2x1024, .f32⟩
  | 14 => ⟨S2x1024, .f32⟩
  | 15 => ⟨S2x1024, .f32⟩
  | 16 => ⟨S_, .f32⟩
  | 17 => ⟨S2x1024, .f32⟩
  | 18 => ⟨S2x1024, .f32⟩
  | 19 => ⟨S2x1024, .f32⟩
  | 20 => ⟨S_, .f32⟩
  | 21 => ⟨S2x1024, .f32⟩
  | 22 => ⟨S2x1024, .f32⟩
  | 23 => ⟨S_, .f32⟩
  | 24 => ⟨S2x4, .f32⟩
  | 25 => ⟨S2x4, .f32⟩
  | 26 => ⟨S_, .f32⟩
  | 27 => ⟨S2x4, .f32⟩
  | 28 => ⟨S2x4, .f32⟩
  | 29 => ⟨S2x4, .f32⟩
  | 30 => ⟨S_, .f32⟩
  | 31 => ⟨S2x4, .f32⟩
  | 32 => ⟨S2x4, .f32⟩
  | 33 => ⟨S2x4, .f32⟩
  | 34 => ⟨S_, .f32⟩
  | 35 => ⟨S2x4, .f32⟩
  | 36 => ⟨S2x4, .f32⟩
  | 37 => ⟨S2x4, .f32⟩
  | 38 => ⟨S_, .f32⟩
  | 39 => ⟨S2x4, .f32⟩
  | 40 => ⟨S2x4, .f32⟩
  | 41 => ⟨S_, .f32⟩
  | 42 => ⟨S2x4, .f32⟩
  | 43 => ⟨S2x4, .f32⟩
  | 44 => ⟨S2x4, .f32⟩
  | 45 => ⟨S_, .f32⟩
  | 46 => ⟨S2x4, .f32⟩
  | 47 => ⟨S2x4, .f32⟩
  | 48 => ⟨S2x4, .f32⟩
  | 49 => ⟨S_, .f32⟩
  | 50 => ⟨S2x4, .f32⟩
  | 51 => ⟨S2x4, .f32⟩
  | 52 => ⟨S2x4, .f32⟩
  | 53 => ⟨S_, .f32⟩
  | 54 => ⟨S2x4, .f32⟩
  | 55 => ⟨S2x4, .f32⟩
  | 56 => ⟨S_, .f32⟩
  | 57 => ⟨S2x4x15x31, .f32⟩
  | 58 => ⟨S2x4x15x31, .f32⟩
  | 59 => ⟨S_, .f32⟩
  | 60 => ⟨S2x4x15x31, .f32⟩
  | 61 => ⟨S2x4x15x31, .f32⟩
  | 62 => ⟨S2x4x15x31, .f32⟩
  | 63 => ⟨S_, .f32⟩
  | 64 => ⟨S2x4x15x31, .f32⟩
  | 65 => ⟨S2x4x15x31, .f32⟩
  | 66 => ⟨S2x4x15x31, .f32⟩
  | 67 => ⟨S_, .f32⟩
  | 68 => ⟨S2x4x15x31, .f32⟩
  | 69 => ⟨S2x4x15x31, .f32⟩
  | 70 => ⟨S2x4x15x31, .f32⟩
  | 71 => ⟨S_, .f32⟩
  | 72 => ⟨S2x4x15x31, .f32⟩
  | 73 => ⟨S2x4x15x31, .f32⟩
  | 74 => ⟨S_, .f32⟩
  | 75 => ⟨S2x4x15x31, .f32⟩
  | 76 => ⟨S2x4x15x31, .f32⟩
  | 77 => ⟨S2x4x15x31, .f32⟩
  | 78 => ⟨S_, .f32⟩
  | 79 => ⟨S2x4x15x31, .f32⟩
  | 80 => ⟨S2x4x15x31, .f32⟩
  | 81 => ⟨S2x4x15x31, .f32⟩
  | 82 => ⟨S_, .f32⟩
  | 83 => ⟨S2x4x15x31, .f32⟩
  | 84 => ⟨S2x4x15x31, .f32⟩
  | 85 => ⟨S2x4x15x31, .f32⟩
  | 86 => ⟨S_, .f32⟩
  | 87 => ⟨S2x4x15x31, .f32⟩
  | 88 => ⟨S2x4x15x31, .f32⟩
  | 89 => ⟨S_, .f32⟩
  | 90 => ⟨S2x7x256, .f32⟩
  | 91 => ⟨S2x7x256, .f32⟩
  | 92 => ⟨S_, .f32⟩
  | 93 => ⟨S2x7x256, .f32⟩
  | 94 => ⟨S2x7x256, .f32⟩
  | 95 => ⟨S2x7x256, .f32⟩
  | 96 => ⟨S_, .f32⟩
  | 97 => ⟨S2x7x256, .f32⟩
  | 98 => ⟨S2x7x256, .f32⟩
  | 99 => ⟨S2x7x256, .f32⟩
  | 100 => ⟨S_, .f32⟩
  | 101 => ⟨S2x7x256, .f32⟩
  | 102 => ⟨S2x7x256, .f32⟩
  | 103 => ⟨S2x7x256, .f32⟩
  | 104 => ⟨S_, .f32⟩
  | 105 => ⟨S2x7x256, .f32⟩
  | 106 => ⟨S2x7x256, .f32⟩
  | 107 => ⟨S_, .f32⟩
  | 108 => ⟨S2x7x256, .f32⟩
  | 109 => ⟨S2x7x256, .f32⟩
  | 110 => ⟨S2x7x256, .f32⟩
  | 111 => ⟨S_, .f32⟩
  | 112 => ⟨S2x7x256, .f32⟩
  | 113 => ⟨S2x7x256, .f32⟩
  | 114 => ⟨S2x7x256, .f32⟩
  | 115 => ⟨S_, .f32⟩
  | 116 => ⟨S2x7x256, .f32⟩
  | 117 => ⟨S2x7x256, .f32⟩
  | 118 => ⟨S2x7x256, .f32⟩
  | 119 => ⟨S_, .f32⟩
  | 120 => ⟨S2x7x256, .f32⟩
  | 121 => ⟨S2x7x256, .f32⟩
  | 122 => ⟨S_, .f32⟩
  | 123 => ⟨S2x1024, .f32⟩
  | 124 => ⟨S2x1024, .f32⟩
  | 125 => ⟨S_, .f32⟩
  | 126 => ⟨S2x1024, .f32⟩
  | 127 => ⟨S2x1024, .f32⟩
  | _ => ⟨S1024, .f32⟩

abbrev hbmTy0_2 (i : Nat) : BufTy := match i % 128 with
  | 0 => ⟨S2x1024, .f32⟩
  | 1 => ⟨S_, .f32⟩
  | 2 => ⟨S2x1024, .f32⟩
  | 3 => ⟨S2x1024, .f32⟩
  | 4 => ⟨S2x1024, .f32⟩
  | 5 => ⟨S_, .f32⟩
  | 6 => ⟨S2x1024, .f32⟩
  | 7 => ⟨S2x1024, .f32⟩
  | 8 => ⟨S2x1024, .f32⟩
  | 9 => ⟨S_, .f32⟩
  | 10 => ⟨S2x1024, .f32⟩
  | 11 => ⟨S2x1024, .f32⟩
  | 12 => ⟨S_, .f32⟩
  | 13 => ⟨S2x1024, .f32⟩
  | 14 => ⟨S2x1024, .f32⟩
  | 15 => ⟨S2x1024, .f32⟩
  | 16 => ⟨S_, .f32⟩
  | 17 => ⟨S2x1024, .f32⟩
  | 18 => ⟨S2x1024, .f32⟩
  | 19 => ⟨S2x1024, .f32⟩
  | 20 => ⟨S_, .f32⟩
  | 21 => ⟨S2x1024, .f32⟩
  | 22 => ⟨S2x1024, .f32⟩
  | 23 => ⟨S2x1024, .f32⟩
  | 24 => ⟨S_, .f32⟩
  | 25 => ⟨S2x1024, .f32⟩
  | 26 => ⟨S2x1024, .f32⟩
  | 27 => ⟨S_, .f32⟩
  | 28 => ⟨S2x2x8, .f32⟩
  | 29 => ⟨S2x2x8, .f32⟩
  | 30 => ⟨S_, .f32⟩
  | 31 => ⟨S2x2x8, .f32⟩
  | 32 => ⟨S2x2x8, .f32⟩
  | 33 => ⟨S2x2x8, .f32⟩
  | 34 => ⟨S_, .f32⟩
  | 35 => ⟨S2x2x8, .f32⟩
  | 36 => ⟨S2x2x8, .f32⟩
  | 37 => ⟨S2x2x8, .f32⟩
  | 38 => ⟨S_, .f32⟩
  | 39 => ⟨S2x2x8, .f32⟩
  | 40 => ⟨S2x2x8, .f32⟩
  | 41 => ⟨S2x2x8, .f32⟩
  | 42 => ⟨S_, .f32⟩
  | 43 => ⟨S2x2x8, .f32⟩
  | 44 => ⟨S2x2x8, .f32⟩
  | 45 => ⟨S_, .f32⟩
  | 46 => ⟨S2x2x8, .f32⟩
  | 47 => ⟨S2x2x8, .f32⟩
  | 48 => ⟨S2x2x8, .f32⟩
  | 49 => ⟨S_, .f32⟩
  | 50 => ⟨S2x2x8, .f32⟩
  | 51 => ⟨S2x2x8, .f32⟩
  | 52 => ⟨S2x2x8, .f32⟩
  | 53 => ⟨S_, .f32⟩
  | 54 => ⟨S2x2x8, .f32⟩
  | 55 => ⟨S2x2x8, .f32⟩
  | 56 => ⟨S2x2x8, .f32⟩
  | 57 => ⟨S_, .f32⟩
  | 58 => ⟨S2x2x8, .f32⟩
  | 59 => ⟨S2x2x8, .f32⟩
  | 60 => ⟨S_, .f32⟩
  | 61 => ⟨S2x2x8, .f32⟩
  | 62 => ⟨S2x2x8, .f32⟩
  | 63 => ⟨S_, .f32⟩
  | 64 => ⟨S2x2x8, .f32⟩
  | 65 => ⟨S2x2x8, .f32⟩
  | 66 => ⟨S2x2x8, .f32⟩
  | 67 => ⟨S_, .f32⟩
  | 68 => ⟨S2x2x8, .f32⟩
  | 69 => ⟨S2x2x8, .f32⟩
  | 70 => ⟨S2x2x8, .f32⟩
  | 71 => ⟨S_, .f32⟩
  | 72 => ⟨S2x2x8, .f32⟩
  | 73 => ⟨S2x2x8, .f32⟩
  | 74 => ⟨S2x2x8, .f32⟩
  | 75 => ⟨S_, .f32⟩
  | 76 => ⟨S2x2x8, .f32⟩
  | 77 => ⟨S2x2x8, .f32⟩
  | 78 => ⟨S_, .f32⟩
  | 79 => ⟨S2x2x8, .f32⟩
  | 80 => ⟨S2x2x8, .f32⟩
  | 81 => ⟨S2x2x8, .f32⟩
  | 82 => ⟨S_, .f32⟩
  | 83 => ⟨S2x2x8, .f32⟩
  | 84 => ⟨S2x2x8, .f32⟩
  | 85 => ⟨S2x2x8, .f32⟩
  | 86 => ⟨S_, .f32⟩
  | 87 => ⟨S2x2x8, .f32⟩
  | 88 => ⟨S2x2x8, .f32⟩
  | 89 => ⟨S2x2x8, .f32⟩
  | 90 => ⟨S_, .f32⟩
  | 91 => ⟨S2x2x8, .f32⟩
  | 92 => ⟨S2x2x8, .f32⟩
  | 93 => ⟨S_, .f32⟩
  | 94 => ⟨S2x8, .f32⟩
  | 95 => ⟨S2x8, .f32⟩
  | 96 => ⟨S_, .f32⟩
  | 97 => ⟨S2x8, .f32⟩
  | 98 => ⟨S2x8, .f32⟩
  | 99 => ⟨S2x8, .f32⟩
  | 100 => ⟨S_, .f32⟩
  | 101 => ⟨S2x8, .f32⟩
  | 102 => ⟨S2x8, .f32⟩
  | 103 => ⟨S2x8, .f32⟩
  | 104 => ⟨S_, .f32⟩
  | 105 => ⟨S2x8, .f32⟩
  | 106 => ⟨S2x8, .f32⟩
  | 107 => ⟨S2x8, .f32⟩
  | 108 => ⟨S_, .f32⟩
  | 109 => ⟨S2x8, .f32⟩
  | 110 => ⟨S2x8, .f32⟩
  | 111 => ⟨S_, .f32⟩
  | 112 => ⟨S2x8, .f32⟩
  | 113 => ⟨S2x8, .f32⟩
  | 114 => ⟨S2x8, .f32⟩
  | 115 => ⟨S_, .f32⟩
  | 116 => ⟨S2x8, .f32⟩
  | 117 => ⟨S2x8, .f32⟩
  | 118 => ⟨S2x8, .f32⟩
  | 119 => ⟨S_, .f32⟩
  | 120 => ⟨S2x8, .f32⟩
  | 121 => ⟨S2x8, .f32⟩
  | 122 => ⟨S2x8, .f32⟩
  | 123 => ⟨S_, .f32⟩
  | 124 => ⟨S2x8, .f32⟩
  | 125 => ⟨S2x8, .f32⟩
  | 126 => ⟨S_, .f32⟩
  | 127 => ⟨S2x512, .f32⟩
  | _ => ⟨S1024, .f32⟩

abbrev hbmTy0_3 (i : Nat) : BufTy := match i % 128 with
  | 0 => ⟨S2x512, .f32⟩
  | 1 => ⟨S_, .f32⟩
  | 2 => ⟨S2x512, .f32⟩
  | 3 => ⟨S2x512, .f32⟩
  | 4 => ⟨S2x512, .f32⟩
  | 5 => ⟨S_, .f32⟩
  | 6 => ⟨S2x512, .f32⟩
  | 7 => ⟨S2x512, .f32⟩
  | 8 => ⟨S2x512, .f32⟩
  | 9 => ⟨S_, .f32⟩
  | 10 => ⟨S2x512, .f32⟩
  | 11 => ⟨S2x512, .f32⟩
  | 12 => ⟨S2x512, .f32⟩
  | 13 => ⟨S_, .f32⟩
  | 14 => ⟨S2x512, .f32⟩
  | 15 => ⟨S2x512, .f32⟩
  | 16 => ⟨S_, .f32⟩
  | 17 => ⟨S2x512, .f32⟩
  | 18 => ⟨S2x512, .f32⟩
  | 19 => ⟨S2x512, .f32⟩
  | 20 => ⟨S_, .f32⟩
  | 21 => ⟨S2x512, .f32⟩
  | 22 => ⟨S2x512, .f32⟩
  | 23 => ⟨S2x512, .f32⟩
  | 24 => ⟨S_, .f32⟩
  | 25 => ⟨S2x512, .f32⟩
  | 26 => ⟨S2x512, .f32⟩
  | 27 => ⟨S2x512, .f32⟩
  | 28 => ⟨S_, .f32⟩
  | 29 => ⟨S2x512, .f32⟩
  | 30 => ⟨S2x512, .f32⟩
  | 31 => ⟨S_, .f32⟩
  | 32 => ⟨S2x1024, .f32⟩
  | 33 => ⟨S2x1024, .f32⟩
  | 34 => ⟨S_, .f32⟩
  | 35 => ⟨S2x1024, .f32⟩
  | 36 => ⟨S2x1024, .f32⟩
  | 37 => ⟨S2x1024, .f32⟩
  | 38 => ⟨S_, .f32⟩
  | 39 => ⟨S2x1024, .f32⟩
  | 40 => ⟨S2x1024, .f32⟩
  | 41 => ⟨S2x1024, .f32⟩
  | 42 => ⟨S_, .f32⟩
  | 43 => ⟨S2x1024, .f32⟩
  | 44 => ⟨S2x1024, .f32⟩
  | 45 => ⟨S2x1024, .f32⟩
  | 46 => ⟨S_, .f32⟩
  | 47 => ⟨S2x1024, .f32⟩
  | 48 => ⟨S2x1024, .f32⟩
  | 49 => ⟨S_, .f32⟩
  | 50 => ⟨S2x1024, .f32⟩
  | 51 => ⟨S2x1024, .f32⟩
  | 52 => ⟨S2x1024, .f32⟩
  | 53 => ⟨S_, .f32⟩
  | 54 => ⟨S2x1024, .f32⟩
  | 55 => ⟨S2x1024, .f32⟩
  | 56 => ⟨S2x1024, .f32⟩
  | 57 => ⟨S_, .f32⟩
  | 58 => ⟨S2x1024, .f32⟩
  | 59 => ⟨S2x1024, .f32⟩
  | 60 => ⟨S2x1024, .f32⟩
  | 61 => ⟨S_, .f32⟩
  | 62 => ⟨S2x1024, .f32⟩
  | 63 => ⟨S2x1024, .f32⟩
  | 64 => ⟨S_, .f32⟩
  | 65 => ⟨S1024, .f32⟩
  | 66 => ⟨S1024, .f32⟩
  | 67 => ⟨S_, .f32⟩
  | 68 => ⟨S1024, .f32⟩
  | 69 => ⟨S1024, .f32⟩
  | 70 => ⟨S1024, .f32⟩
  | 71 => ⟨S_, .f32⟩
  | 72 => ⟨S1024, .f32⟩
  | 73 => ⟨S1024, .f32⟩
  | 74 => ⟨S1024, .f32⟩
  | 75 => ⟨S_, .f32⟩
  | 76 => ⟨S1024, .f32⟩
  | 77 => ⟨S1024, .f32⟩
  | 78 => ⟨S1024, .f32⟩
  | 79 => ⟨S_, .f32⟩
  | 80 => ⟨S1024, .f32⟩
  | 81 => ⟨S1024, .f32⟩
  | 82 => ⟨S_, .f32⟩
  | 83 => ⟨S1024, .f32⟩
  | 84 => ⟨S1024, .f32⟩
  | 85 => ⟨S1024, .f32⟩
  | 86 => ⟨S_, .f32⟩
  | 87 => ⟨S1024, .f32⟩
  | 88 => ⟨S1024, .f32⟩
  | 89 => ⟨S1024, .f32⟩
  | 90 => ⟨S_, .f32⟩
  | 91 => ⟨S1024, .f32⟩
  | 92 => ⟨S1024, .f32⟩
  | 93 => ⟨S1024, .f32⟩
  | 94 => ⟨S_, .f32⟩
  | 95 => ⟨S1024, .f32⟩
  | 96 => ⟨S1024, .f32⟩
  | _ => ⟨S1024, .f32⟩

abbrev hbmTy (i : Nat) : BufTy := match i / 128 with
  | 0 => hbmTy0_0 i
  | 1 => hbmTy0_1 i
  | 2 => hbmTy0_2 i
  | 3 => hbmTy0_3 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_cst : Ref sig .tc := ⟨.hbm, 52, rfl⟩
abbrev main_v0 : Ref sig .tc := ⟨.hbm, 53, rfl⟩
abbrev main_v1 : Ref sig .tc := ⟨.hbm, 54, rfl⟩
abbrev main_cst_0 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_cst_1 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_cst_2 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst_3 : Ref sig .tc := ⟨.hbm, 67, rfl⟩
abbrev main_v11 : Ref sig .tc := ⟨.hbm, 68, rfl⟩
abbrev main_v12 : Ref sig .tc := ⟨.hbm, 69, rfl⟩
abbrev main_cst_4 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_5 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_6 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_7 : Ref sig .tc := ⟨.hbm, 82, rfl⟩
abbrev main_v22 : Ref sig .tc := ⟨.hbm, 83, rfl⟩
abbrev main_v23 : Ref sig .tc := ⟨.hbm, 84, rfl⟩
abbrev main_cst_8 : Ref sig .tc := ⟨.hbm, 85, rfl⟩
abbrev main_v24 : Ref sig .tc := ⟨.hbm, 86, rfl⟩
abbrev main_v25 : Ref sig .tc := ⟨.hbm, 87, rfl⟩
abbrev main_cst_9 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_10 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_11 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_cst_12 : Ref sig .tc := ⟨.hbm, 100, rfl⟩
abbrev main_v35 : Ref sig .tc := ⟨.hbm, 101, rfl⟩
abbrev main_v36 : Ref sig .tc := ⟨.hbm, 102, rfl⟩
abbrev main_cst_13 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_14 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_15 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_16 : Ref sig .tc := ⟨.hbm, 115, rfl⟩
abbrev main_v46 : Ref sig .tc := ⟨.hbm, 116, rfl⟩
abbrev main_v47 : Ref sig .tc := ⟨.hbm, 117, rfl⟩
abbrev main_cst_17 : Ref sig .tc := ⟨.hbm, 118, rfl⟩
abbrev main_v48 : Ref sig .tc := ⟨.hbm, 119, rfl⟩
abbrev main_v49 : Ref sig .tc := ⟨.hbm, 120, rfl⟩
abbrev main_cst_18 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_19 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_20 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_cst_21 : Ref sig .tc := ⟨.hbm, 133, rfl⟩
abbrev main_v59 : Ref sig .tc := ⟨.hbm, 134, rfl⟩
abbrev main_v60 : Ref sig .tc := ⟨.hbm, 135, rfl⟩
abbrev main_cst_22 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_23 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_24 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_cst_25 : Ref sig .tc := ⟨.hbm, 148, rfl⟩
abbrev main_v70 : Ref sig .tc := ⟨.hbm, 149, rfl⟩
abbrev main_v71 : Ref sig .tc := ⟨.hbm, 150, rfl⟩
abbrev main_cst_26 : Ref sig .tc := ⟨.hbm, 151, rfl⟩
abbrev main_v72 : Ref sig .tc := ⟨.hbm, 152, rfl⟩
abbrev main_v73 : Ref sig .tc := ⟨.hbm, 153, rfl⟩
abbrev main_cst_27 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_28 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_cst_29 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_30 : Ref sig .tc := ⟨.hbm, 166, rfl⟩
abbrev main_v83 : Ref sig .tc := ⟨.hbm, 167, rfl⟩
abbrev main_v84 : Ref sig .tc := ⟨.hbm, 168, rfl⟩
abbrev main_cst_31 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_cst_32 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_33 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_34 : Ref sig .tc := ⟨.hbm, 181, rfl⟩
abbrev main_v94 : Ref sig .tc := ⟨.hbm, 182, rfl⟩
abbrev main_v95 : Ref sig .tc := ⟨.hbm, 183, rfl⟩
abbrev main_cst_35 : Ref sig .tc := ⟨.hbm, 184, rfl⟩
abbrev main_v96 : Ref sig .tc := ⟨.hbm, 185, rfl⟩
abbrev main_v97 : Ref sig .tc := ⟨.hbm, 186, rfl⟩
abbrev main_cst_36 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_cst_37 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_38 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_cst_39 : Ref sig .tc := ⟨.hbm, 199, rfl⟩
abbrev main_v107 : Ref sig .tc := ⟨.hbm, 200, rfl⟩
abbrev main_v108 : Ref sig .tc := ⟨.hbm, 201, rfl⟩
abbrev main_cst_40 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_cst_41 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_cst_42 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_cst_43 : Ref sig .tc := ⟨.hbm, 214, rfl⟩
abbrev main_v118 : Ref sig .tc := ⟨.hbm, 215, rfl⟩
abbrev main_v119 : Ref sig .tc := ⟨.hbm, 216, rfl⟩
abbrev main_cst_44 : Ref sig .tc := ⟨.hbm, 217, rfl⟩
abbrev main_v120 : Ref sig .tc := ⟨.hbm, 218, rfl⟩
abbrev main_v121 : Ref sig .tc := ⟨.hbm, 219, rfl⟩
abbrev main_cst_45 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_cst_46 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_cst_47 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_48 : Ref sig .tc := ⟨.hbm, 232, rfl⟩
abbrev main_v131 : Ref sig .tc := ⟨.hbm, 233, rfl⟩
abbrev main_v132 : Ref sig .tc := ⟨.hbm, 234, rfl⟩
abbrev main_cst_49 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_cst_50 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_cst_51 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_52 : Ref sig .tc := ⟨.hbm, 247, rfl⟩
abbrev main_v142 : Ref sig .tc := ⟨.hbm, 248, rfl⟩
abbrev main_v143 : Ref sig .tc := ⟨.hbm, 249, rfl⟩
abbrev main_cst_53 : Ref sig .tc := ⟨.hbm, 250, rfl⟩
abbrev main_v144 : Ref sig .tc := ⟨.hbm, 251, rfl⟩
abbrev main_v145 : Ref sig .tc := ⟨.hbm, 252, rfl⟩
abbrev main_cst_54 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_cst_55 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_cst_56 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_cst_57 : Ref sig .tc := ⟨.hbm, 265, rfl⟩
abbrev main_v155 : Ref sig .tc := ⟨.hbm, 266, rfl⟩
abbrev main_v156 : Ref sig .tc := ⟨.hbm, 267, rfl⟩
abbrev main_cst_58 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_cst_59 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_cst_60 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_cst_61 : Ref sig .tc := ⟨.hbm, 280, rfl⟩
abbrev main_v166 : Ref sig .tc := ⟨.hbm, 281, rfl⟩
abbrev main_v167 : Ref sig .tc := ⟨.hbm, 282, rfl⟩
abbrev main_cst_62 : Ref sig .tc := ⟨.hbm, 283, rfl⟩
abbrev main_v168 : Ref sig .tc := ⟨.hbm, 284, rfl⟩
abbrev main_v169 : Ref sig .tc := ⟨.hbm, 285, rfl⟩
abbrev main_cst_63 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_64 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_cst_65 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_cst_66 : Ref sig .tc := ⟨.hbm, 298, rfl⟩
abbrev main_v179 : Ref sig .tc := ⟨.hbm, 299, rfl⟩
abbrev main_v180 : Ref sig .tc := ⟨.hbm, 300, rfl⟩
abbrev main_cst_67 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_cst_68 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_cst_69 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_cst_70 : Ref sig .tc := ⟨.hbm, 313, rfl⟩
abbrev main_v190 : Ref sig .tc := ⟨.hbm, 314, rfl⟩
abbrev main_v191 : Ref sig .tc := ⟨.hbm, 315, rfl⟩
abbrev main_cst_71 : Ref sig .tc := ⟨.hbm, 316, rfl⟩
abbrev main_v192 : Ref sig .tc := ⟨.hbm, 317, rfl⟩
abbrev main_v193 : Ref sig .tc := ⟨.hbm, 318, rfl⟩
abbrev main_cst_72 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_cst_73 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_cst_74 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_cst_75 : Ref sig .tc := ⟨.hbm, 331, rfl⟩
abbrev main_v203 : Ref sig .tc := ⟨.hbm, 332, rfl⟩
abbrev main_v204 : Ref sig .tc := ⟨.hbm, 333, rfl⟩
abbrev main_cst_76 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_cst_77 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_cst_78 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_cst_79 : Ref sig .tc := ⟨.hbm, 346, rfl⟩
abbrev main_v214 : Ref sig .tc := ⟨.hbm, 347, rfl⟩
abbrev main_v215 : Ref sig .tc := ⟨.hbm, 348, rfl⟩
abbrev main_cst_80 : Ref sig .tc := ⟨.hbm, 349, rfl⟩
abbrev main_v216 : Ref sig .tc := ⟨.hbm, 350, rfl⟩
abbrev main_v217 : Ref sig .tc := ⟨.hbm, 351, rfl⟩
abbrev main_cst_81 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_cst_82 : Ref sig .tc := ⟨.hbm, 356, rfl⟩
abbrev main_v221 : Ref sig .tc := ⟨.hbm, 357, rfl⟩
abbrev main_v222 : Ref sig .tc := ⟨.hbm, 358, rfl⟩
abbrev main_v223 : Ref sig .tc := ⟨.hbm, 359, rfl⟩
abbrev main_cst_83 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_cst_84 : Ref sig .tc := ⟨.hbm, 364, rfl⟩
abbrev main_v227 : Ref sig .tc := ⟨.hbm, 365, rfl⟩
abbrev main_v228 : Ref sig .tc := ⟨.hbm, 366, rfl⟩
abbrev main_cst_85 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_86 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_cst_87 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_cst_88 : Ref sig .tc := ⟨.hbm, 379, rfl⟩
abbrev main_v238 : Ref sig .tc := ⟨.hbm, 380, rfl⟩
abbrev main_v239 : Ref sig .tc := ⟨.hbm, 381, rfl⟩
abbrev main_cst_89 : Ref sig .tc := ⟨.hbm, 382, rfl⟩
abbrev main_v240 : Ref sig .tc := ⟨.hbm, 383, rfl⟩
abbrev main_v241 : Ref sig .tc := ⟨.hbm, 384, rfl⟩
abbrev main_cst_90 : Ref sig .tc := ⟨.hbm, 385, rfl⟩
abbrev main_v242 : Ref sig .tc := ⟨.hbm, 386, rfl⟩
abbrev main_v243 : Ref sig .tc := ⟨.hbm, 387, rfl⟩
abbrev main_v244 : Ref sig .tc := ⟨.hbm, 388, rfl⟩
abbrev main_cst_91 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_cst_92 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_cst_93 : Ref sig .tc := ⟨.hbm, 397, rfl⟩
abbrev main_v251 : Ref sig .tc := ⟨.hbm, 398, rfl⟩
abbrev main_v252 : Ref sig .tc := ⟨.hbm, 399, rfl⟩
abbrev main_cst_94 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_cst_95 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_cst_96 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_cst_97 : Ref sig .tc := ⟨.hbm, 412, rfl⟩
abbrev main_v262 : Ref sig .tc := ⟨.hbm, 413, rfl⟩
abbrev main_v263 : Ref sig .tc := ⟨.hbm, 414, rfl⟩
abbrev main_cst_98 : Ref sig .tc := ⟨.hbm, 415, rfl⟩
abbrev main_v264 : Ref sig .tc := ⟨.hbm, 416, rfl⟩
abbrev main_v265 : Ref sig .tc := ⟨.hbm, 417, rfl⟩
abbrev main_cst_99 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_cst_100 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_cst_101 : Ref sig .tc := ⟨.hbm, 426, rfl⟩
abbrev main_v272 : Ref sig .tc := ⟨.hbm, 427, rfl⟩
abbrev main_v273 : Ref sig .tc := ⟨.hbm, 428, rfl⟩
abbrev main_v274 : Ref sig .tc := ⟨.hbm, 429, rfl⟩
abbrev main_cst_102 : Ref sig .tc := ⟨.hbm, 430, rfl⟩
abbrev main_v275 : Ref sig .tc := ⟨.hbm, 431, rfl⟩
abbrev main_v276 : Ref sig .tc := ⟨.hbm, 432, rfl⟩
abbrev main_cst_103 : Ref sig .tc := ⟨.hbm, 433, rfl⟩
abbrev main_v277 : Ref sig .tc := ⟨.hbm, 434, rfl⟩
abbrev main_v278 : Ref sig .tc := ⟨.hbm, 435, rfl⟩
abbrev main_v279 : Ref sig .tc := ⟨.hbm, 436, rfl⟩
abbrev main_cst_104 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_cst_105 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_cst_106 : Ref sig .tc := ⟨.hbm, 445, rfl⟩
abbrev main_v286 : Ref sig .tc := ⟨.hbm, 446, rfl⟩
abbrev main_v287 : Ref sig .tc := ⟨.hbm, 447, rfl⟩
abbrev main_cst_107 : Ref sig .tc := ⟨.hbm, 448, rfl⟩
abbrev main_v288 : Ref sig .tc := ⟨.hbm, 449, rfl⟩
abbrev main_v289 : Ref sig .tc := ⟨.hbm, 450, rfl⟩
abbrev main_cst_108 : Ref sig .tc := ⟨.hbm, 451, rfl⟩
abbrev main_v290 : Ref sig .tc := ⟨.hbm, 452, rfl⟩
abbrev main_v291 : Ref sig .tc := ⟨.hbm, 453, rfl⟩
abbrev main_v292 : Ref sig .tc := ⟨.hbm, 454, rfl⟩
abbrev main_cst_109 : Ref sig .tc := ⟨.hbm, 455, rfl⟩
abbrev main_v293 : Ref sig .tc := ⟨.hbm, 456, rfl⟩
abbrev main_v294 : Ref sig .tc := ⟨.hbm, 457, rfl⟩
abbrev main_v295 : Ref sig .tc := ⟨.hbm, 458, rfl⟩
abbrev main_cst_110 : Ref sig .tc := ⟨.hbm, 459, rfl⟩
abbrev main_v296 : Ref sig .tc := ⟨.hbm, 460, rfl⟩
abbrev main_v297 : Ref sig .tc := ⟨.hbm, 461, rfl⟩
abbrev main_v298 : Ref sig .tc := ⟨.hbm, 462, rfl⟩
abbrev main_cst_111 : Ref sig .tc := ⟨.hbm, 463, rfl⟩
abbrev main_v299 : Ref sig .tc := ⟨.hbm, 464, rfl⟩
abbrev main_v300 : Ref sig .tc := ⟨.hbm, 465, rfl⟩
abbrev main_cst_112 : Ref sig .tc := ⟨.hbm, 466, rfl⟩
abbrev main_v301 : Ref sig .tc := ⟨.hbm, 467, rfl⟩
abbrev main_v302 : Ref sig .tc := ⟨.hbm, 468, rfl⟩
abbrev main_v303 : Ref sig .tc := ⟨.hbm, 469, rfl⟩
abbrev main_cst_113 : Ref sig .tc := ⟨.hbm, 470, rfl⟩
abbrev main_v304 : Ref sig .tc := ⟨.hbm, 471, rfl⟩
abbrev main_v305 : Ref sig .tc := ⟨.hbm, 472, rfl⟩
abbrev main_v306 : Ref sig .tc := ⟨.hbm, 473, rfl⟩
abbrev main_cst_114 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_cst_115 : Ref sig .tc := ⟨.hbm, 478, rfl⟩
abbrev main_v310 : Ref sig .tc := ⟨.hbm, 479, rfl⟩
abbrev main_v311 : Ref sig .tc := ⟨.hbm, 480, rfl⟩

abbrev nD : Nat := 1
abbrev τ : Topo := Topo.v7x

variable {F : FTy → Type} [FloatOps F]
-- ==== Proof.FfnDx.lean ====
/- The gradient of the first feed-forward product with respect to its input rows: the pipelined kernel's four products of
   column blocks, added, are the one product of the transposed rule over all 5632 columns. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Kernel2Ideal.Dx

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val, 0] ∧ win0_1.index t = ![0, 0, 0] ∧ win0_2.index t = ![t.val, 0] :=
  (by decide +kernel : ∀ t : Fin grid0.N, _)

/-- The cotangent's columns as the host lays them out: the first halves of gate and up, then the second halves. -/
def columns (dg du : FVec Ideal S4352x2816 .f32) : FVec Ideal S4352x5632 .bf16 :=
  truncf .bf16 (concatenate S4352x5632 1
    [⟨S4352x1408, extractStridedSlice S4352x1408 ![0, 0] dg slices_S4352x2816_S4352x1408_0_0⟩,
     ⟨S4352x1408, extractStridedSlice S4352x1408 ![0, 0] du slices_S4352x2816_S4352x1408_0_0⟩,
     ⟨S4352x1408, extractStridedSlice S4352x1408 ![0, 1408] dg slices_S4352x2816_S4352x1408_0_1408⟩,
     ⟨S4352x1408, extractStridedSlice S4352x1408 ![0, 1408] du slices_S4352x2816_S4352x1408_0_1408⟩]
    concatenates_S4352x1408_S4352x1408_S4352x1408_S4352x1408_S4352x5632_d1) bitsLt_bf16_f32

/-- The weight's four column blocks, one per chip. -/
def blocks (w : FVec Ideal S1024x5632 .f32) : FVec Ideal S4x1024x1408 .bf16 :=
  truncf .bf16 (transpose S4x1024x1408 [1, 0, 2] (shapeCast S1024x4x1408 w shapeCasts_S1024x5632_S1024x4x1408)
    transposes_S1024x4x1408_S4x1024x1408_1_0_2) bitsLt_bf16_f32

theorem V_columns (c : Dev nD) : V m c main_v5 = columns (m ((c : Thread nD τ).loc main_arg2)) (m ((c : Thread nD τ).loc main_arg3)) := by
  unfold V; after_reads_simp; rfl

theorem V_blocks (c : Dev nD) : V m c main_v8 = blocks (m ((c : Thread nD τ).loc main_arg1)) := by
  unfold V; after_reads_simp; rfl

/-- The block of columns that a grid point reads, as rows of the laid-out cotangent. -/
theorem cols_block (c : Dev nD) (t : Fin cfg0.N) (r : Fin 544) (k : Fin 5632) :
    iblk m c 0 t (ix2 r k) = columns (m ((c : Thread nD τ).loc main_arg2)) (m ((c : Thread nD τ).loc main_arg3))
      (ix2 ⟨t.val * 544 + r.val, by have := t.isLt; have : cfg0.N = 8 := N_0; omega⟩ k) := by
  rw [← V_columns]
  blk_ext [iblk, idx t]

/-- Every grid point reads the weight's blocks whole. -/
theorem blocks_block (c : Dev nD) (t : Fin cfg0.N) (a : Fin 4) (r : Fin 1024) (k : Fin 1408) :
    iblk m c 1 t (ix3 a r k) = blocks (m ((c : Thread nD τ).loc main_arg1)) (ix3 a r k) := by
  rw [← V_blocks]
  blk_ext [iblk, idx t]

/-- The four products of column blocks are the one product over all the columns. -/
theorem product (dg du : FVec Ideal S4352x2816 .f32) (w : FVec Ideal S1024x5632 .f32) (r : Fin 4352) (q : Fin 1024) :
    ∑ x : Fin 1408, columns dg du (ix2 r ⟨x, by omega⟩) * blocks w (ix3 0 q x)
      + ∑ x : Fin 1408, columns dg du (ix2 r ⟨1408 + x, by omega⟩) * blocks w (ix3 2 q x)
      + ∑ x : Fin 1408, columns dg du (ix2 r ⟨2816 + x, by omega⟩) * blocks w (ix3 1 q x)
      + ∑ x : Fin 1408, columns dg du (ix2 r ⟨4224 + x, by omega⟩) * blocks w (ix3 3 q x)
      = Cert.Reference2Ideal.Read.val_main_v7 (F := Ideal) w dg du (ix2 r q) := by
  pointwise [columns, blocks, Cert.Reference2Ideal.Read.val_main_v7, Cert.Reference2Ideal.Read.val_main_v6, Cert.Reference2Ideal.Read.val_main_v3]
  have hs : ∀ f : Fin 2816 → EReal, ∑ k, f k = ∑ k : Fin 1408, f ⟨k, by omega⟩ + ∑ k : Fin 1408, f ⟨1408 + k, by omega⟩ :=
    fun f => Fin.sum_univ_two_halves 1408 1408 rfl f
  refine Eq.trans ?_ (congrArg₂ (fun a b : EReal => a + b) (hs _) (hs _)).symm
  have ha : ∀ a b c d : EReal, a + b + (c + d) = a + c + b + d := fun a b c d => by ac_rfl
  refine Eq.trans ?_ (ha _ _ _ _).symm
  blk_point []
  all_goals (exfalso; omega)

/-- One stored element is the reference's element at the place where it lands. -/
theorem point (c : Dev nD) (t : Fin cfg0.N) (y : S544x1024.Idx) :
    out0_2 (iblk m c 0 t) (iblk m c 1 t) y
      = Cert.Reference2Ideal.Read.val_main_v7 (F := Ideal) (m ((c : Thread nD τ).loc main_arg1))
          (m ((c : Thread nD τ).loc main_arg2)) (m ((c : Thread nD τ).loc main_arg3)) (((cfg0.win 2).blk t).view.emb y) := by
  frame_out
  pointwise [k0_pay1, cols_block, blocks_block]
  refine (product _ _ _ _ _).trans ?_
  blk_ext [idx t]

/-- The result array of the kernel is the reference's. -/
theorem final (c : Dev nD) : (dats m 0 c).arrAt 2 cfg0.N
    = Cert.Reference2Ideal.Read.val_main_v7 (F := Ideal) (m ((c : Thread nD τ).loc main_arg1))
          (m ((c : Thread nD τ).loc main_arg2)) (m ((c : Thread nD τ).loc main_arg3)) := by
  refine (dats m 0 c).arrAt_eq_of_covers 2 _ (by decide +kernel) fun t _ y => ?_
  blk_simp
  rw [after0_2]
  exact point m c t y

end Cert.Kernel2Ideal.Dx

namespace Cert.Proof

open Idealize.ShloMosaic Idealize.SL.Sem

/-- From equal arguments the kernel and the derivative of the forward lines end with equal results. -/
theorem algebraic_dx : Cert.algebraic_Kernel2Ideal_Reference2Ideal (hKernel2Ideal := Cert.Kernel2Ideal.Gen.facts)
    (hReference2Ideal := Cert.Reference2Ideal.Gen.facts) := by
  intro m g m' g' _ hargs
  refine ⟨_, Cert.Kernel2Ideal.Value.run_blocks (F := Ideal) m g, ?_⟩
  refine (θ_run (Cert.Reference2Ideal.defs (F := Ideal)) _ _).mono (fun r h c => ?_) (Cert.Reference2Ideal.Value.run (F := Ideal) m' g')
  refine ⟨(h c).1.trans ?_, (h c).2⟩
  rw [Cert.Kernel2Ideal.Dx.final, (hargs c).2.1, (hargs c).2.2.1, (hargs c).2.2.2]
  exact Cert.Reference2Ideal.Read.val_main_v7_eq _ _ _

end Cert.Proof

end
-- ==== Proof.FfnDw.lean ====
/- The gradient of the first feed-forward product with respect to its weight, one column block per chip: each tile
   that the pipelined kernel stores is the transposed product over all 4352 rows. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Kernel3Ideal.Dw

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`: the four column blocks by the two halves of the rows. -/
theorem idx : ∀ t : Fin cfg0.N, win0_0.index t = ![0, t.val % 2] ∧ win0_1.index t = ![0, t.val / 2]
    ∧ win0_2.index t = ![t.val / 2 % 2 * 2 + t.val / 2 / 2, t.val % 2, 0] :=
  (by decide +kernel : ∀ t : Fin grid0.N, _)

/-- The cotangent's columns as the host lays them out: the first halves of gate and up, then the second halves. -/
def columns (dg du : FVec Ideal S4352x2816 .f32) : FVec Ideal S4352x5632 .bf16 :=
  truncf .bf16 (concatenate S4352x5632 1
    [⟨S4352x1408, extractStridedSlice S4352x1408 ![0, 0] dg slices_S4352x2816_S4352x1408_0_0⟩,
     ⟨S4352x1408, extractStridedSlice S4352x1408 ![0, 0] du slices_S4352x2816_S4352x1408_0_0⟩,
     ⟨S4352x1408, extractStridedSlice S4352x1408 ![0, 1408] dg slices_S4352x2816_S4352x1408_0_1408⟩,
     ⟨S4352x1408, extractStridedSlice S4352x1408 ![0, 1408] du slices_S4352x2816_S4352x1408_0_1408⟩]
    concatenates_S4352x1408_S4352x1408_S4352x1408_S4352x1408_S4352x5632_d1) bitsLt_bf16_f32

theorem V_columns (c : Dev nD) : V m c main_v6 = columns (m ((c : Thread nD τ).loc main_arg2)) (m ((c : Thread nD τ).loc main_arg3)) := by
  unfold V; after_reads_simp; rfl

theorem V_rows (c : Dev nD) : V m c main_v0 = (m ((c : Thread nD τ).loc main_arg0) : FVec Ideal S4352x1024 .f32) := by
  unfold V; after_reads_simp; rfl

/-- The rows' columns that a grid point reads. -/
theorem rows_block (c : Dev nD) (t : Fin cfg0.N) (r : Fin 4352) (q : Fin 512) :
    iblk m c 0 t (ix2 r q) = (m ((c : Thread nD τ).loc main_arg0) : FVec Ideal S4352x1024 .f32)
      (ix2 r ⟨t.val % 2 * 512 + q.val, by omega⟩) := by
  rw [← V_rows m c]
  blk_ext [iblk, idx t]

/-- The cotangent's columns that a grid point reads. -/
theorem cols_block (c : Dev nD) (t : Fin cfg0.N) (r : Fin 4352) (x : Fin 1408) :
    iblk m c 1 t (ix2 r x) = columns (m ((c : Thread nD τ).loc main_arg2)) (m ((c : Thread nD τ).loc main_arg3))
      (ix2 r ⟨t.val / 2 * 1408 + x.val, by have := t.isLt; have : cfg0.N = 8 := N_0; omega⟩) := by
  rw [← V_columns]
  blk_ext [iblk, idx t]

/-- The product with column block `j` is the chip's block of the reference's gradient. -/
theorem product (h : FVec Ideal S4352x1024 .f32) (dg du : FVec Ideal S4352x2816 .f32) (j : Fin 4) (q : Fin 1024) (x : Fin 1408) :
    ∑ r : Fin 4352, columns dg du (ix2 r ⟨j.val * 1408 + x, by omega⟩) * h (ix2 r q)
      = Cert.Reference3Ideal.Read.val_main_v16 (F := Ideal) h dg du (ix3 ⟨j.val % 2 * 2 + j.val / 2, by omega⟩ q x) := by
  fin_cases j
  all_goals
    pointwise [columns, Cert.Reference3Ideal.Read.val_main_v16, Cert.Reference3Ideal.Read.val_main_v15, Cert.Reference3Ideal.Read.val_main_v14, Cert.Reference3Ideal.Read.val_main_v13, Cert.Reference3Ideal.Read.val_main_v12, Cert.Reference3Ideal.Read.val_main_v11, Cert.Reference3Ideal.Read.val_main_v10, Cert.Reference3Ideal.Read.val_main_v9, Cert.Reference3Ideal.Read.val_main_v8, Cert.Reference3Ideal.Read.val_main_v7, Cert.Reference3Ideal.Read.val_main_v5, Cert.Reference3Ideal.Read.val_main_v4, Cert.Reference3Ideal.Read.val_main_v3]
    try blk_point []
  all_goals (exfalso; omega)

/-- One stored element is the reference's element at the place where it lands. -/
theorem point (c : Dev nD) (t : Fin cfg0.N) (y : S1x512x1408.Idx) :
    out0_2 (iblk m c 0 t) (iblk m c 1 t) y
      = Cert.Reference3Ideal.Read.val_main_v16 (F := Ideal) (m ((c : Thread nD τ).loc main_arg0))
          (m ((c : Thread nD τ).loc main_arg2)) (m ((c : Thread nD τ).loc main_arg3)) (((cfg0.win 2).blk t).view.emb y) := by
  frame_out
  pointwise [k0_pay1, rows_block, cols_block]
  have ht : t.val < 8 := lt_of_lt_of_eq t.isLt N_0
  refine (Finset.sum_congr rfl fun _ _ => mul_comm (G := EReal) _ _).trans ((product _ _ _ ⟨t.val / 2, by omega⟩ _ _).trans ?_)
  blk_ext [idx t]

/-- The result array of the kernel is the reference's. -/
theorem final (c : Dev nD) : (dats m 0 c).arrAt 2 cfg0.N
    = Cert.Reference3Ideal.Read.val_main_v16 (F := Ideal) (m ((c : Thread nD τ).loc main_arg0))
          (m ((c : Thread nD τ).loc main_arg2)) (m ((c : Thread nD τ).loc main_arg3)) := by
  refine (dats m 0 c).arrAt_eq_of_covers 2 _ (by decide +kernel) fun t _ y => ?_
  blk_simp
  rw [after0_2]
  exact point m c t y

end Cert.Kernel3Ideal.Dw

namespace Cert.Proof

open Idealize.ShloMosaic Idealize.SL.Sem

/-- From equal arguments the kernel and the derivative of the forward lines end with equal results. -/
theorem algebraic_dw : Cert.algebraic_Kernel3Ideal_Reference3Ideal (hKernel3Ideal := Cert.Kernel3Ideal.Gen.facts)
    (hReference3Ideal := Cert.Reference3Ideal.Gen.facts) := by
  intro m g m' g' _ hargs
  refine ⟨_, Cert.Kernel3Ideal.Value.run_blocks (F := Ideal) m g, ?_⟩
  refine (θ_run (Cert.Reference3Ideal.defs (F := Ideal)) _ _).mono (fun r h c => ?_) (Cert.Reference3Ideal.Value.run (F := Ideal) m' g')
  refine ⟨(h c).1.trans ?_, (h c).2⟩
  rw [Cert.Kernel3Ideal.Dw.final, (hargs c).1, (hargs c).2.2.1, (hargs c).2.2.2]
  exact Cert.Reference3Ideal.Read.val_main_v16_eq _ _ _

end Cert.Proof

end
-- ==== Proof.DownDw.lean ====
/- The gradient of the second feed-forward product with respect to its weight: the kernel's two blocks of rows are the transposed rule's product. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Kernel4Ideal.Dw

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![0, t.val] ∧ win0_1.index t = ![0, 0] ∧ win0_2.index t = ![t.val, 0] :=
  (by decide +kernel : ∀ t : Fin grid0.N, _)

theorem V_rows (c : Dev nD) : V m c main_v0 = (m ((c : Thread nD τ).loc main_arg0) : FVec Ideal S4352x2816 .f32) := by
  unfold V; after_reads_simp; rfl

/-- The columns of the activation that a grid point reads. -/
theorem rows_block (c : Dev nD) (t : Fin cfg0.N) (r : Fin 4352) (q : Fin 1408) :
    iblk m c 0 t (ix2 r q) = (m ((c : Thread nD τ).loc main_arg0) : FVec Ideal S4352x2816 .f32) (ix2 r ⟨t.val * 1408 + q.val, by have := t.isLt; have : cfg0.N = 2 := N_0; omega⟩) := by
  rw [← V_rows m c]
  blk_ext [iblk, idx t]

theorem V_cols (c : Dev nD) : V m c main_v1 = (m ((c : Thread nD τ).loc main_arg2) : FVec Ideal S4352x1024 .f32) := by
  unfold V; after_reads_simp; rfl

/-- Every grid point reads the cotangent whole. -/
theorem cols_block (c : Dev nD) (t : Fin cfg0.N) (r : Fin 4352) (q : Fin 1024) :
    iblk m c 1 t (ix2 r q) = (m ((c : Thread nD τ).loc main_arg2) : FVec Ideal S4352x1024 .f32) (ix2 r q) := by
  rw [← V_cols m c]
  blk_ext [iblk, idx t]

/-- Where an element of the stored block lands. -/
theorem lands (t : Fin cfg0.N) (y : S1408x1024.Idx) :
    (win0_2.blk t).view.emb y = ix2 ⟨t.val * 1408 + (y 0).val, by have := t.isLt; have : cfg0.N = 2 := N_0; have : (y 0).val < 1408 := (y 0).isLt; omega⟩ (y 1) := by
  blk_ext [idx t]

/-- One stored element is the reference's element at the place where it lands. -/
theorem point (c : Dev nD) (t : Fin cfg0.N) (y : S1408x1024.Idx) :
    out0_2 (iblk m c 0 t) (iblk m c 1 t) y
      = Cert.Reference4Ideal.Read.val_main_v4 (F := Ideal) (m ((c : Thread nD τ).loc main_arg0)) (m ((c : Thread nD τ).loc main_arg2)) ((win0_2.blk t).view.emb y) := by
  rw [lands t y]
  frame_out
  pointwise [k0_pay1, rows_block, cols_block, Cert.Reference4Ideal.Read.val_main_v4, Cert.Reference4Ideal.Read.val_main_v2, Cert.Reference4Ideal.Read.val_main_v1]
  exact Finset.sum_congr rfl fun _ _ => mul_comm (G := EReal) _ _

/-- The result array of the kernel is the reference's. -/
theorem final (c : Dev nD) : (dats m 0 c).arrAt 2 cfg0.N
    = Cert.Reference4Ideal.Read.val_main_v4 (F := Ideal) (m ((c : Thread nD τ).loc main_arg0)) (m ((c : Thread nD τ).loc main_arg2)) := by
  refine (dats m 0 c).arrAt_eq_of_covers 2 _ (by decide +kernel) fun t _ y => ?_
  blk_simp
  rw [after0_2]
  exact point m c t y

end Cert.Kernel4Ideal.Dw

namespace Cert.Proof

open Idealize.ShloMosaic Idealize.SL.Sem

/-- From equal arguments the kernel and the reference end with equal results. -/
theorem algebraic_down_dw : Cert.algebraic_Kernel4Ideal_Reference4Ideal (hKernel4Ideal := Cert.Kernel4Ideal.Gen.facts)
    (hReference4Ideal := Cert.Reference4Ideal.Gen.facts) := by
  intro m g m' g' _ hargs
  refine ⟨_, Cert.Kernel4Ideal.Value.run_blocks (F := Ideal) m g, ?_⟩
  refine (θ_run (Cert.Reference4Ideal.defs (F := Ideal)) _ _).mono (fun r h c => ?_) (Cert.Reference4Ideal.Value.run (F := Ideal) m' g')
  refine ⟨(h c).1.trans ?_, (h c).2⟩
  rw [Cert.Kernel4Ideal.Dw.final, (hargs c).1, (hargs c).2.2]
  exact Cert.Reference4Ideal.Read.val_main_v4_eq _ _

end Cert.Proof

end
-- ==== Proof.OutDx.lean ====
/- The gradient of the output projection with respect to the mixers' outputs: the kernel's row blocks are the transposed rule's product. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Kernel5Ideal.Dx

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val, 0] ∧ win0_1.index t = ![0, 0] ∧ win0_2.index t = ![t.val, 0] :=
  (by decide +kernel : ∀ t : Fin grid0.N, _)

theorem V_rows (c : Dev nD) : V m c main_v0 = (m ((c : Thread nD τ).loc main_arg4) : FVec Ideal S4352x1024 .f32) := by
  unfold V; after_reads_simp; rfl

/-- The rows of the cotangent that a grid point reads. -/
theorem rows_block (c : Dev nD) (t : Fin cfg0.N) (r : Fin 544) (q : Fin 1024) :
    iblk m c 0 t (ix2 r q) = (m ((c : Thread nD τ).loc main_arg4) : FVec Ideal S4352x1024 .f32) (ix2 ⟨t.val * 544 + r.val, by have := t.isLt; have : cfg0.N = 8 := N_0; omega⟩ q) := by
  rw [← V_rows m c]
  blk_ext [iblk, idx t]

theorem V_weight (c : Dev nD) : V m c main_v1 = (m ((c : Thread nD τ).loc main_arg3) : FVec Ideal S1024x1024 .f32) := by
  unfold V; after_reads_simp; rfl

/-- Every grid point reads the weight whole. -/
theorem weight_block (c : Dev nD) (t : Fin cfg0.N) (r : Fin 1024) (q : Fin 1024) :
    iblk m c 1 t (ix2 r q) = (m ((c : Thread nD τ).loc main_arg3) : FVec Ideal S1024x1024 .f32) (ix2 r q) := by
  rw [← V_weight m c]
  blk_ext [iblk, idx t]

/-- Where an element of the stored block lands. -/
theorem lands (t : Fin cfg0.N) (y : S544x1024.Idx) :
    (win0_2.blk t).view.emb y = ix2 ⟨t.val * 544 + (y 0).val, by have := t.isLt; have : cfg0.N = 8 := N_0; have : (y 0).val < 544 := (y 0).isLt; omega⟩ (y 1) := by
  blk_ext [idx t]

/-- One stored element is the reference's element at the place where it lands. -/
theorem point (c : Dev nD) (t : Fin cfg0.N) (y : S544x1024.Idx) :
    out0_2 (iblk m c 0 t) (iblk m c 1 t) y
      = Cert.Reference5Ideal.Read.val_main_v9 (F := Ideal) (m ((c : Thread nD τ).loc main_arg3)) (m ((c : Thread nD τ).loc main_arg4)) ((win0_2.blk t).view.emb y) := by
  rw [lands t y]
  frame_out
  pointwise [k0_pay1, rows_block, weight_block, Cert.Reference5Ideal.Read.val_main_v9, Cert.Reference5Ideal.Read.val_main_v8, Cert.Reference5Ideal.Read.val_main_v7, Cert.Reference5Ideal.Read.val_main_v4, Cert.Reference5Ideal.Read.val_main_v6, Cert.Reference5Ideal.Read.val_main_v5]
  split_ifs with h1 h2
  · rfl
  all_goals
    refine Finset.sum_congr rfl fun x _ => ?_
    first
      | rfl
      | (congr 3; done)
      | (congr 3; apply Fin.ext; simp only []; omega)

/-- The result array of the kernel is the reference's. -/
theorem final (c : Dev nD) : (dats m 0 c).arrAt 2 cfg0.N
    = Cert.Reference5Ideal.Read.val_main_v9 (F := Ideal) (m ((c : Thread nD τ).loc main_arg3)) (m ((c : Thread nD τ).loc main_arg4)) := by
  refine (dats m 0 c).arrAt_eq_of_covers 2 _ (by decide +kernel) fun t _ y => ?_
  blk_simp
  rw [after0_2]
  exact point m c t y

end Cert.Kernel5Ideal.Dx

namespace Cert.Proof

open Idealize.ShloMosaic Idealize.SL.Sem

/-- From equal arguments the kernel and the reference end with equal results. -/
theorem algebraic_out_dx : Cert.algebraic_Kernel5Ideal_Reference5Ideal (hKernel5Ideal := Cert.Kernel5Ideal.Gen.facts)
    (hReference5Ideal := Cert.Reference5Ideal.Gen.facts) := by
  intro m g m' g' _ hargs
  refine ⟨_, Cert.Kernel5Ideal.Value.run_blocks (F := Ideal) m g, ?_⟩
  refine (θ_run (Cert.Reference5Ideal.defs (F := Ideal)) _ _).mono (fun r h c => ?_) (Cert.Reference5Ideal.Value.run (F := Ideal) m' g')
  refine ⟨(h c).1.trans ?_, (h c).2⟩
  rw [Cert.Kernel5Ideal.Dx.final, (hargs c).2.2.2.1, (hargs c).2.2.2.2]
  exact Cert.Reference5Ideal.Read.val_main_v9_eq _ _

end Cert.Proof

end
-- ==== Proof.OutDw.lean ====
/- The gradient of the output projection with respect to its weight: the three blocks of rows that a grid point stores are the mixers' rows of the product. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Kernel6Ideal.Dw

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![0, 0] ∧ win0_1.index t = ![0, 0] ∧ win0_2.index t = ![0, 0] ∧ win0_3.index t = ![0, t.val] ∧ win0_4.index t = ![0, t.val] :=
  (by decide +kernel : ∀ t : Fin grid0.N, _)

theorem V_a (c : Dev nD) : V m c main_v0 = (m ((c : Thread nD τ).loc main_arg0) : FVec Ideal S4352x256 .f32) := by
  unfold V; after_reads_simp; rfl

/-- Every grid point reads the first mixer whole. -/
theorem a_block (c : Dev nD) (t : Fin cfg0.N) (r : Fin 4352) (q : Fin 256) :
    iblk m c 0 t (ix2 r q) = (m ((c : Thread nD τ).loc main_arg0) : FVec Ideal S4352x256 .f32) (ix2 r q) := by
  rw [← V_a m c]
  blk_ext [iblk, idx t]

theorem V_b (c : Dev nD) : V m c main_v1 = (m ((c : Thread nD τ).loc main_arg1) : FVec Ideal S4352x256 .f32) := by
  unfold V; after_reads_simp; rfl

/-- Every grid point reads the second mixer whole. -/
theorem b_block (c : Dev nD) (t : Fin cfg0.N) (r : Fin 4352) (q : Fin 256) :
    iblk m c 1 t (ix2 r q) = (m ((c : Thread nD τ).loc main_arg1) : FVec Ideal S4352x256 .f32) (ix2 r q) := by
  rw [← V_b m c]
  blk_ext [iblk, idx t]

theorem V_c (c : Dev nD) : V m c main_v2 = (m ((c : Thread nD τ).loc main_arg2) : FVec Ideal S4352x512 .f32) := by
  unfold V; after_reads_simp; rfl

/-- Every grid point reads the third mixer whole. -/
theorem c_block (c : Dev nD) (t : Fin cfg0.N) (r : Fin 4352) (q : Fin 512) :
    iblk m c 2 t (ix2 r q) = (m ((c : Thread nD τ).loc main_arg2) : FVec Ideal S4352x512 .f32) (ix2 r q) := by
  rw [← V_c m c]
  blk_ext [iblk, idx t]

theorem V_cols (c : Dev nD) : V m c main_v3 = (m ((c : Thread nD τ).loc main_arg4) : FVec Ideal S4352x1024 .f32) := by
  unfold V; after_reads_simp; rfl

/-- The columns of the cotangent that a grid point reads. -/
theorem cols_block (c : Dev nD) (t : Fin cfg0.N) (r : Fin 4352) (q : Fin 512) :
    iblk m c 3 t (ix2 r q) = (m ((c : Thread nD τ).loc main_arg4) : FVec Ideal S4352x1024 .f32) (ix2 r ⟨t.val * 512 + q.val, by have := t.isLt; have : cfg0.N = 2 := N_0; omega⟩) := by
  rw [← V_cols m c]
  blk_ext [iblk, idx t]

/-- Where an element of the stored block lands. -/
theorem lands (t : Fin cfg0.N) (y : S1024x512.Idx) :
    (win0_4.blk t).view.emb y = ix2 (y 0) ⟨t.val * 512 + (y 1).val, by have := t.isLt; have : cfg0.N = 2 := N_0; have : (y 1).val < 512 := (y 1).isLt; omega⟩ := by
  blk_ext [idx t]

/-- One stored element is the reference's element at the place where it lands. -/
theorem point (c : Dev nD) (t : Fin cfg0.N) (y : S1024x512.Idx) :
    outsAt0 m c t y = Cert.Reference6Ideal.Read.val_main_v8 (F := Ideal) (m ((c : Thread nD τ).loc main_arg0)) (m ((c : Thread nD τ).loc main_arg1)) (m ((c : Thread nD τ).loc main_arg2)) (m ((c : Thread nD τ).loc main_arg4)) ((win0_4.blk t).view.emb y) := by
  rw [lands t y]
  simp only [outsAt0]
  frame_out
  have ht : t.val < 2 := lt_of_lt_of_eq t.isLt N_0
  canon_tiles x h using View.cover_of_tiledBy _ ![256, 512] (by sl_kernel_rfl) y
  all_goals
    open_payloads
    pointwise [a_block, b_block, c_block, cols_block, Cert.Reference6Ideal.Read.val_main_v8, Cert.Reference6Ideal.Read.val_main_v3, Cert.Reference6Ideal.Read.val_main_v2, Cert.Reference6Ideal.Read.val_main_v0]
    refine (Finset.sum_congr rfl fun _ _ => mul_comm (G := EReal) _ _).trans ?_
    blk_point [] <;> (exfalso; omega)

/-- The result array of the kernel is the reference's. -/
theorem final (c : Dev nD) : (dats m 0 c).arrAt 4 cfg0.N
    = Cert.Reference6Ideal.Read.val_main_v8 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 4 _ (by decide +kernel) fun t _ y => ?_
  blk_simp
  rw [after0_4]
  exact point m c t y

end Cert.Kernel6Ideal.Dw

namespace Cert.Proof

open Idealize.ShloMosaic Idealize.SL.Sem

/-- From equal arguments the kernel and the reference end with equal results. -/
theorem algebraic_out_dw : Cert.algebraic_Kernel6Ideal_Reference6Ideal (hKernel6Ideal := Cert.Kernel6Ideal.Gen.facts)
    (hReference6Ideal := Cert.Reference6Ideal.Gen.facts) := by
  intro m g m' g' _ hargs
  refine ⟨_, Cert.Kernel6Ideal.Value.run_blocks (F := Ideal) m g, ?_⟩
  refine (θ_run (Cert.Reference6Ideal.defs (F := Ideal)) _ _).mono (fun r h c => ?_) (Cert.Reference6Ideal.Value.run (F := Ideal) m' g')
  refine ⟨(h c).1.trans ?_, (h c).2⟩
  rw [Cert.Kernel6Ideal.Dw.final, (hargs c).1, (hargs c).2.1, (hargs c).2.2.1, (hargs c).2.2.2.2]
  exact Cert.Reference6Ideal.Read.val_main_v8_eq _ _ _ _

end Cert.Proof

end
-- ==== Proof.InDx.lean ====
/- The gradient of the input projection with respect to its rows: the nine cotangents, each against its own columns of the weight, add up to the product of the concatenated cotangent. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Kernel7Ideal.Dx

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![0, 0] ∧ win0_10.index t = ![t.val, 0] :=
  (by decide +kernel : ∀ t : Fin grid0.N, _)

/-- A sum over the 2832 columns of the projection is the sum of the sums over its nine parts. -/
theorem sum_nine (f : Fin 2832 → EReal) : ∑ x, f x
    = ((((((((∑ x : Fin 256, f ⟨x.val, by omega⟩) + (∑ x : Fin 256, f ⟨256 + x.val, by omega⟩)) + (∑ x : Fin 512, f ⟨512 + x.val, by omega⟩)) + (∑ x : Fin 128, f ⟨1024 + x.val, by omega⟩)) + (∑ x : Fin 128, f ⟨1152 + x.val, by omega⟩)) + (∑ x : Fin 256, f ⟨1280 + x.val, by omega⟩)) + (∑ x : Fin 256, f ⟨1536 + x.val, by omega⟩)) + (∑ x : Fin 1024, f ⟨1792 + x.val, by omega⟩)) + (∑ x : Fin 16, f ⟨2816 + x.val, by omega⟩) := by
  rw [Fin.sum_univ_two_halves 2816 16 rfl f, Fin.sum_univ_two_halves 1792 1024 rfl (fun x : Fin 2816 => f ⟨x.val, by omega⟩), Fin.sum_univ_two_halves 1536 256 rfl (fun x : Fin 1792 => f ⟨x.val, by omega⟩), Fin.sum_univ_two_halves 1280 256 rfl (fun x : Fin 1536 => f ⟨x.val, by omega⟩), Fin.sum_univ_two_halves 1152 128 rfl (fun x : Fin 1280 => f ⟨x.val, by omega⟩), Fin.sum_univ_two_halves 1024 128 rfl (fun x : Fin 1152 => f ⟨x.val, by omega⟩), Fin.sum_univ_two_halves 512 512 rfl (fun x : Fin 1024 => f ⟨x.val, by omega⟩), Fin.sum_univ_two_halves 256 256 rfl (fun x : Fin 512 => f ⟨x.val, by omega⟩)]

/-- A sum over 128 columns of which only the first sixteen count. -/
theorem sum_sixteen (f : Fin 128 → EReal) (h : ∀ x : Fin 112, f ⟨16 + x.val, by omega⟩ = 0) :
    ∑ x, f x = ∑ x : Fin 16, f ⟨x.val, by omega⟩ := by
  rw [Fin.sum_univ_two_halves 16 112 rfl f, Finset.sum_eq_zero fun x _ => h x, add_zero]

/-- The weight with its zero columns, as the host lays it out. -/
def weight (w : FVec Ideal S1024x2832 .f32) : FVec Ideal S1024x2944 .bf16 :=
  truncf .bf16 (concatenate S1024x2944 1 [⟨S1024x2832, w⟩, ⟨S1024x112, broadcastInDim S1024x112 ![] bcast_S_S1024x112 (constant S_ .f32 0x00000000#32 : FVec Ideal S_ .f32)⟩]
    concatenates_S1024x2832_S1024x112_S1024x2944_d1) bitsLt_bf16_f32

/-- An element of the padded weight. -/
theorem weight_at (w : FVec Ideal S1024x2832 .f32) (x : Fin 1024) (j : Fin 2944) :
    weight w (ix2 x j) = if h : j.val < 2832 then w (ix2 x ⟨j.val, h⟩) else (0 : EReal) := by
  pointwise [weight]

/-- The last cotangent with its zero columns, as the host lays it out. -/
def padded (d : FVec Ideal S4352x16 .f32) : FVec Ideal S4352x128 .f32 :=
  concatenate S4352x128 1 [⟨S4352x16, d⟩, ⟨S4352x112, broadcastInDim S4352x112 ![] bcast_S_S4352x112 (constant S_ .f32 0x00000000#32 : FVec Ideal S_ .f32)⟩]
    concatenates_S4352x16_S4352x112_S4352x128_d1

theorem padded_at (d : FVec Ideal S4352x16 .f32) (r : Fin 4352) (j : Fin 128) :
    padded d (ix2 r j) = if h : j.val < 16 then d (ix2 r ⟨j.val, h⟩) else (0 : EReal) := by
  pointwise [padded]

/-- The cotangent of the whole projection, as the reference adds it up from its nine parts. -/
def cotangent (x2 : FVec Ideal S4352x256 .f32) (x3 : FVec Ideal S4352x256 .f32) (x4 : FVec Ideal S4352x512 .f32) (x5 : FVec Ideal S4352x128 .f32) (x6 : FVec Ideal S4352x128 .f32) (x7 : FVec Ideal S4352x256 .f32) (x8 : FVec Ideal S4352x256 .f32) (x9 : FVec Ideal S4352x1024 .f32) (x10 : FVec Ideal S4352x16 .f32) : FVec Ideal Cert.Reference7Ideal.S4352x2832 .f32 :=
  Cert.Reference7Ideal.Read.val_main_v26 (F := Ideal) x2 x3 x4 x5 x6 x7 x8 x9 x10

theorem cotangent_0 (x2 : FVec Ideal S4352x256 .f32) (x3 : FVec Ideal S4352x256 .f32) (x4 : FVec Ideal S4352x512 .f32) (x5 : FVec Ideal S4352x128 .f32) (x6 : FVec Ideal S4352x128 .f32) (x7 : FVec Ideal S4352x256 .f32) (x8 : FVec Ideal S4352x256 .f32) (x9 : FVec Ideal S4352x1024 .f32) (x10 : FVec Ideal S4352x16 .f32) (i : Fin 4352) (x : Fin 256) :
    cotangent x2 x3 x4 x5 x6 x7 x8 x9 x10 (ix2 i (⟨x.val, by omega⟩ : Fin 2832)) = x2 (ix2 i x) := by
  have hx := x.isLt
  pointwise [cotangent, Cert.Reference7Ideal.Read.val_main_v26, Cert.Reference7Ideal.Read.val_main_v25, Cert.Reference7Ideal.Read.val_main_cst_7, Cert.Reference7Ideal.Read.val_main_v24, Cert.Reference7Ideal.Read.val_main_v23, Cert.Reference7Ideal.Read.val_main_cst_6, Cert.Reference7Ideal.Read.val_main_v22, Cert.Reference7Ideal.Read.val_main_v21, Cert.Reference7Ideal.Read.val_main_cst_5, Cert.Reference7Ideal.Read.val_main_v20, Cert.Reference7Ideal.Read.val_main_v19, Cert.Reference7Ideal.Read.val_main_cst_4, Cert.Reference7Ideal.Read.val_main_v18, Cert.Reference7Ideal.Read.val_main_v17, Cert.Reference7Ideal.Read.val_main_cst_3, Cert.Reference7Ideal.Read.val_main_v16, Cert.Reference7Ideal.Read.val_main_v15, Cert.Reference7Ideal.Read.val_main_cst_2, Cert.Reference7Ideal.Read.val_main_v14, Cert.Reference7Ideal.Read.val_main_v13, Cert.Reference7Ideal.Read.val_main_cst_1, Cert.Reference7Ideal.Read.val_main_v12, Cert.Reference7Ideal.Read.val_main_v11, Cert.Reference7Ideal.Read.val_main_cst_0, Cert.Reference7Ideal.Read.val_main_v10, Cert.Reference7Ideal.Read.val_main_cst]
  simp (disch := omega) only [dif_neg, zero_add, add_zero]
  rw [dif_neg fun h => h.1, zero_add]

theorem cotangent_1 (x2 : FVec Ideal S4352x256 .f32) (x3 : FVec Ideal S4352x256 .f32) (x4 : FVec Ideal S4352x512 .f32) (x5 : FVec Ideal S4352x128 .f32) (x6 : FVec Ideal S4352x128 .f32) (x7 : FVec Ideal S4352x256 .f32) (x8 : FVec Ideal S4352x256 .f32) (x9 : FVec Ideal S4352x1024 .f32) (x10 : FVec Ideal S4352x16 .f32) (i : Fin 4352) (x : Fin 256) :
    cotangent x2 x3 x4 x5 x6 x7 x8 x9 x10 (ix2 i (⟨256 + x.val, by omega⟩ : Fin 2832)) = x3 (ix2 i x) := by
  have hx := x.isLt
  pointwise [cotangent, Cert.Reference7Ideal.Read.val_main_v26, Cert.Reference7Ideal.Read.val_main_v25, Cert.Reference7Ideal.Read.val_main_cst_7, Cert.Reference7Ideal.Read.val_main_v24, Cert.Reference7Ideal.Read.val_main_v23, Cert.Reference7Ideal.Read.val_main_cst_6, Cert.Reference7Ideal.Read.val_main_v22, Cert.Reference7Ideal.Read.val_main_v21, Cert.Reference7Ideal.Read.val_main_cst_5, Cert.Reference7Ideal.Read.val_main_v20, Cert.Reference7Ideal.Read.val_main_v19, Cert.Reference7Ideal.Read.val_main_cst_4, Cert.Reference7Ideal.Read.val_main_v18, Cert.Reference7Ideal.Read.val_main_v17, Cert.Reference7Ideal.Read.val_main_cst_3, Cert.Reference7Ideal.Read.val_main_v16, Cert.Reference7Ideal.Read.val_main_v15, Cert.Reference7Ideal.Read.val_main_cst_2, Cert.Reference7Ideal.Read.val_main_v14, Cert.Reference7Ideal.Read.val_main_v13, Cert.Reference7Ideal.Read.val_main_cst_1, Cert.Reference7Ideal.Read.val_main_v12, Cert.Reference7Ideal.Read.val_main_v11, Cert.Reference7Ideal.Read.val_main_cst_0, Cert.Reference7Ideal.Read.val_main_v10, Cert.Reference7Ideal.Read.val_main_cst]
  simp (disch := omega) only [dif_neg, zero_add, add_zero]

theorem cotangent_2 (x2 : FVec Ideal S4352x256 .f32) (x3 : FVec Ideal S4352x256 .f32) (x4 : FVec Ideal S4352x512 .f32) (x5 : FVec Ideal S4352x128 .f32) (x6 : FVec Ideal S4352x128 .f32) (x7 : FVec Ideal S4352x256 .f32) (x8 : FVec Ideal S4352x256 .f32) (x9 : FVec Ideal S4352x1024 .f32) (x10 : FVec Ideal S4352x16 .f32) (i : Fin 4352) (x : Fin 512) :
    cotangent x2 x3 x4 x5 x6 x7 x8 x9 x10 (ix2 i (⟨512 + x.val, by omega⟩ : Fin 2832)) = x4 (ix2 i x) := by
  have hx := x.isLt
  pointwise [cotangent, Cert.Reference7Ideal.Read.val_main_v26, Cert.Reference7Ideal.Read.val_main_v25, Cert.Reference7Ideal.Read.val_main_cst_7, Cert.Reference7Ideal.Read.val_main_v24, Cert.Reference7Ideal.Read.val_main_v23, Cert.Reference7Ideal.Read.val_main_cst_6, Cert.Reference7Ideal.Read.val_main_v22, Cert.Reference7Ideal.Read.val_main_v21, Cert.Reference7Ideal.Read.val_main_cst_5, Cert.Reference7Ideal.Read.val_main_v20, Cert.Reference7Ideal.Read.val_main_v19, Cert.Reference7Ideal.Read.val_main_cst_4, Cert.Reference7Ideal.Read.val_main_v18, Cert.Reference7Ideal.Read.val_main_v17, Cert.Reference7Ideal.Read.val_main_cst_3, Cert.Reference7Ideal.Read.val_main_v16, Cert.Reference7Ideal.Read.val_main_v15, Cert.Reference7Ideal.Read.val_main_cst_2, Cert.Reference7Ideal.Read.val_main_v14, Cert.Reference7Ideal.Read.val_main_v13, Cert.Reference7Ideal.Read.val_main_cst_1, Cert.Reference7Ideal.Read.val_main_v12, Cert.Reference7Ideal.Read.val_main_v11, Cert.Reference7Ideal.Read.val_main_cst_0, Cert.Reference7Ideal.Read.val_main_v10, Cert.Reference7Ideal.Read.val_main_cst]
  simp (disch := omega) only [dif_neg, zero_add, add_zero]

theorem cotangent_3 (x2 : FVec Ideal S4352x256 .f32) (x3 : FVec Ideal S4352x256 .f32) (x4 : FVec Ideal S4352x512 .f32) (x5 : FVec Ideal S4352x128 .f32) (x6 : FVec Ideal S4352x128 .f32) (x7 : FVec Ideal S4352x256 .f32) (x8 : FVec Ideal S4352x256 .f32) (x9 : FVec Ideal S4352x1024 .f32) (x10 : FVec Ideal S4352x16 .f32) (i : Fin 4352) (x : Fin 128) :
    cotangent x2 x3 x4 x5 x6 x7 x8 x9 x10 (ix2 i (⟨1024 + x.val, by omega⟩ : Fin 2832)) = x5 (ix2 i x) := by
  have hx := x.isLt
  pointwise [cotangent, Cert.Reference7Ideal.Read.val_main_v26, Cert.Reference7Ideal.Read.val_main_v25, Cert.Reference7Ideal.Read.val_main_cst_7, Cert.Reference7Ideal.Read.val_main_v24, Cert.Reference7Ideal.Read.val_main_v23, Cert.Reference7Ideal.Read.val_main_cst_6, Cert.Reference7Ideal.Read.val_main_v22, Cert.Reference7Ideal.Read.val_main_v21, Cert.Reference7Ideal.Read.val_main_cst_5, Cert.Reference7Ideal.Read.val_main_v20, Cert.Reference7Ideal.Read.val_main_v19, Cert.Reference7Ideal.Read.val_main_cst_4, Cert.Reference7Ideal.Read.val_main_v18, Cert.Reference7Ideal.Read.val_main_v17, Cert.Reference7Ideal.Read.val_main_cst_3, Cert.Reference7Ideal.Read.val_main_v16, Cert.Reference7Ideal.Read.val_main_v15, Cert.Reference7Ideal.Read.val_main_cst_2, Cert.Reference7Ideal.Read.val_main_v14, Cert.Reference7Ideal.Read.val_main_v13, Cert.Reference7Ideal.Read.val_main_cst_1, Cert.Reference7Ideal.Read.val_main_v12, Cert.Reference7Ideal.Read.val_main_v11, Cert.Reference7Ideal.Read.val_main_cst_0, Cert.Reference7Ideal.Read.val_main_v10, Cert.Reference7Ideal.Read.val_main_cst]
  simp (disch := omega) only [dif_neg, zero_add, add_zero]

theorem cotangent_4 (x2 : FVec Ideal S4352x256 .f32) (x3 : FVec Ideal S4352x256 .f32) (x4 : FVec Ideal S4352x512 .f32) (x5 : FVec Ideal S4352x128 .f32) (x6 : FVec Ideal S4352x128 .f32) (x7 : FVec Ideal S4352x256 .f32) (x8 : FVec Ideal S4352x256 .f32) (x9 : FVec Ideal S4352x1024 .f32) (x10 : FVec Ideal S4352x16 .f32) (i : Fin 4352) (x : Fin 128) :
    cotangent x2 x3 x4 x5 x6 x7 x8 x9 x10 (ix2 i (⟨1152 + x.val, by omega⟩ : Fin 2832)) = x6 (ix2 i x) := by
  have hx := x.isLt
  pointwise [cotangent, Cert.Reference7Ideal.Read.val_main_v26, Cert.Reference7Ideal.Read.val_main_v25, Cert.Reference7Ideal.Read.val_main_cst_7, Cert.Reference7Ideal.Read.val_main_v24, Cert.Reference7Ideal.Read.val_main_v23, Cert.Reference7Ideal.Read.val_main_cst_6, Cert.Reference7Ideal.Read.val_main_v22, Cert.Reference7Ideal.Read.val_main_v21, Cert.Reference7Ideal.Read.val_main_cst_5, Cert.Reference7Ideal.Read.val_main_v20, Cert.Reference7Ideal.Read.val_main_v19, Cert.Reference7Ideal.Read.val_main_cst_4, Cert.Reference7Ideal.Read.val_main_v18, Cert.Reference7Ideal.Read.val_main_v17, Cert.Reference7Ideal.Read.val_main_cst_3, Cert.Reference7Ideal.Read.val_main_v16, Cert.Reference7Ideal.Read.val_main_v15, Cert.Reference7Ideal.Read.val_main_cst_2, Cert.Reference7Ideal.Read.val_main_v14, Cert.Reference7Ideal.Read.val_main_v13, Cert.Reference7Ideal.Read.val_main_cst_1, Cert.Reference7Ideal.Read.val_main_v12, Cert.Reference7Ideal.Read.val_main_v11, Cert.Reference7Ideal.Read.val_main_cst_0, Cert.Reference7Ideal.Read.val_main_v10, Cert.Reference7Ideal.Read.val_main_cst]
  simp (disch := omega) only [dif_neg, zero_add, add_zero]

theorem cotangent_5 (x2 : FVec Ideal S4352x256 .f32) (x3 : FVec Ideal S4352x256 .f32) (x4 : FVec Ideal S4352x512 .f32) (x5 : FVec Ideal S4352x128 .f32) (x6 : FVec Ideal S4352x128 .f32) (x7 : FVec Ideal S4352x256 .f32) (x8 : FVec Ideal S4352x256 .f32) (x9 : FVec Ideal S4352x1024 .f32) (x10 : FVec Ideal S4352x16 .f32) (i : Fin 4352) (x : Fin 256) :
    cotangent x2 x3 x4 x5 x6 x7 x8 x9 x10 (ix2 i (⟨1280 + x.val, by omega⟩ : Fin 2832)) = x7 (ix2 i x) := by
  have hx := x.isLt
  pointwise [cotangent, Cert.Reference7Ideal.Read.val_main_v26, Cert.Reference7Ideal.Read.val_main_v25, Cert.Reference7Ideal.Read.val_main_cst_7, Cert.Reference7Ideal.Read.val_main_v24, Cert.Reference7Ideal.Read.val_main_v23, Cert.Reference7Ideal.Read.val_main_cst_6, Cert.Reference7Ideal.Read.val_main_v22, Cert.Reference7Ideal.Read.val_main_v21, Cert.Reference7Ideal.Read.val_main_cst_5, Cert.Reference7Ideal.Read.val_main_v20, Cert.Reference7Ideal.Read.val_main_v19, Cert.Reference7Ideal.Read.val_main_cst_4, Cert.Reference7Ideal.Read.val_main_v18, Cert.Reference7Ideal.Read.val_main_v17, Cert.Reference7Ideal.Read.val_main_cst_3, Cert.Reference7Ideal.Read.val_main_v16, Cert.Reference7Ideal.Read.val_main_v15, Cert.Reference7Ideal.Read.val_main_cst_2, Cert.Reference7Ideal.Read.val_main_v14, Cert.Reference7Ideal.Read.val_main_v13, Cert.Reference7Ideal.Read.val_main_cst_1, Cert.Reference7Ideal.Read.val_main_v12, Cert.Reference7Ideal.Read.val_main_v11, Cert.Reference7Ideal.Read.val_main_cst_0, Cert.Reference7Ideal.Read.val_main_v10, Cert.Reference7Ideal.Read.val_main_cst]
  simp (disch := omega) only [dif_neg, zero_add, add_zero]

theorem cotangent_6 (x2 : FVec Ideal S4352x256 .f32) (x3 : FVec Ideal S4352x256 .f32) (x4 : FVec Ideal S4352x512 .f32) (x5 : FVec Ideal S4352x128 .f32) (x6 : FVec Ideal S4352x128 .f32) (x7 : FVec Ideal S4352x256 .f32) (x8 : FVec Ideal S4352x256 .f32) (x9 : FVec Ideal S4352x1024 .f32) (x10 : FVec Ideal S4352x16 .f32) (i : Fin 4352) (x : Fin 256) :
    cotangent x2 x3 x4 x5 x6 x7 x8 x9 x10 (ix2 i (⟨1536 + x.val, by omega⟩ : Fin 2832)) = x8 (ix2 i x) := by
  have hx := x.isLt
  pointwise [cotangent, Cert.Reference7Ideal.Read.val_main_v26, Cert.Reference7Ideal.Read.val_main_v25, Cert.Reference7Ideal.Read.val_main_cst_7, Cert.Reference7Ideal.Read.val_main_v24, Cert.Reference7Ideal.Read.val_main_v23, Cert.Reference7Ideal.Read.val_main_cst_6, Cert.Reference7Ideal.Read.val_main_v22, Cert.Reference7Ideal.Read.val_main_v21, Cert.Reference7Ideal.Read.val_main_cst_5, Cert.Reference7Ideal.Read.val_main_v20, Cert.Reference7Ideal.Read.val_main_v19, Cert.Reference7Ideal.Read.val_main_cst_4, Cert.Reference7Ideal.Read.val_main_v18, Cert.Reference7Ideal.Read.val_main_v17, Cert.Reference7Ideal.Read.val_main_cst_3, Cert.Reference7Ideal.Read.val_main_v16, Cert.Reference7Ideal.Read.val_main_v15, Cert.Reference7Ideal.Read.val_main_cst_2, Cert.Reference7Ideal.Read.val_main_v14, Cert.Reference7Ideal.Read.val_main_v13, Cert.Reference7Ideal.Read.val_main_cst_1, Cert.Reference7Ideal.Read.val_main_v12, Cert.Reference7Ideal.Read.val_main_v11, Cert.Reference7Ideal.Read.val_main_cst_0, Cert.Reference7Ideal.Read.val_main_v10, Cert.Reference7Ideal.Read.val_main_cst]
  simp (disch := omega) only [dif_neg, zero_add, add_zero]

theorem cotangent_7 (x2 : FVec Ideal S4352x256 .f32) (x3 : FVec Ideal S4352x256 .f32) (x4 : FVec Ideal S4352x512 .f32) (x5 : FVec Ideal S4352x128 .f32) (x6 : FVec Ideal S4352x128 .f32) (x7 : FVec Ideal S4352x256 .f32) (x8 : FVec Ideal S4352x256 .f32) (x9 : FVec Ideal S4352x1024 .f32) (x10 : FVec Ideal S4352x16 .f32) (i : Fin 4352) (x : Fin 1024) :
    cotangent x2 x3 x4 x5 x6 x7 x8 x9 x10 (ix2 i (⟨1792 + x.val, by omega⟩ : Fin 2832)) = x9 (ix2 i x) := by
  have hx := x.isLt
  pointwise [cotangent, Cert.Reference7Ideal.Read.val_main_v26, Cert.Reference7Ideal.Read.val_main_v25, Cert.Reference7Ideal.Read.val_main_cst_7, Cert.Reference7Ideal.Read.val_main_v24, Cert.Reference7Ideal.Read.val_main_v23, Cert.Reference7Ideal.Read.val_main_cst_6, Cert.Reference7Ideal.Read.val_main_v22, Cert.Reference7Ideal.Read.val_main_v21, Cert.Reference7Ideal.Read.val_main_cst_5, Cert.Reference7Ideal.Read.val_main_v20, Cert.Reference7Ideal.Read.val_main_v19, Cert.Reference7Ideal.Read.val_main_cst_4, Cert.Reference7Ideal.Read.val_main_v18, Cert.Reference7Ideal.Read.val_main_v17, Cert.Reference7Ideal.Read.val_main_cst_3, Cert.Reference7Ideal.Read.val_main_v16, Cert.Reference7Ideal.Read.val_main_v15, Cert.Reference7Ideal.Read.val_main_cst_2, Cert.Reference7Ideal.Read.val_main_v14, Cert.Reference7Ideal.Read.val_main_v13, Cert.Reference7Ideal.Read.val_main_cst_1, Cert.Reference7Ideal.Read.val_main_v12, Cert.Reference7Ideal.Read.val_main_v11, Cert.Reference7Ideal.Read.val_main_cst_0, Cert.Reference7Ideal.Read.val_main_v10, Cert.Reference7Ideal.Read.val_main_cst]
  simp (disch := omega) only [dif_neg, zero_add, add_zero]

theorem cotangent_8 (x2 : FVec Ideal S4352x256 .f32) (x3 : FVec Ideal S4352x256 .f32) (x4 : FVec Ideal S4352x512 .f32) (x5 : FVec Ideal S4352x128 .f32) (x6 : FVec Ideal S4352x128 .f32) (x7 : FVec Ideal S4352x256 .f32) (x8 : FVec Ideal S4352x256 .f32) (x9 : FVec Ideal S4352x1024 .f32) (x10 : FVec Ideal S4352x16 .f32) (i : Fin 4352) (x : Fin 16) :
    cotangent x2 x3 x4 x5 x6 x7 x8 x9 x10 (ix2 i (⟨2816 + x.val, by omega⟩ : Fin 2832)) = x10 (ix2 i x) := by
  have hx := x.isLt
  pointwise [cotangent, Cert.Reference7Ideal.Read.val_main_v26, Cert.Reference7Ideal.Read.val_main_v25, Cert.Reference7Ideal.Read.val_main_cst_7, Cert.Reference7Ideal.Read.val_main_v24, Cert.Reference7Ideal.Read.val_main_v23, Cert.Reference7Ideal.Read.val_main_cst_6, Cert.Reference7Ideal.Read.val_main_v22, Cert.Reference7Ideal.Read.val_main_v21, Cert.Reference7Ideal.Read.val_main_cst_5, Cert.Reference7Ideal.Read.val_main_v20, Cert.Reference7Ideal.Read.val_main_v19, Cert.Reference7Ideal.Read.val_main_cst_4, Cert.Reference7Ideal.Read.val_main_v18, Cert.Reference7Ideal.Read.val_main_v17, Cert.Reference7Ideal.Read.val_main_cst_3, Cert.Reference7Ideal.Read.val_main_v16, Cert.Reference7Ideal.Read.val_main_v15, Cert.Reference7Ideal.Read.val_main_cst_2, Cert.Reference7Ideal.Read.val_main_v14, Cert.Reference7Ideal.Read.val_main_v13, Cert.Reference7Ideal.Read.val_main_cst_1, Cert.Reference7Ideal.Read.val_main_v12, Cert.Reference7Ideal.Read.val_main_v11, Cert.Reference7Ideal.Read.val_main_cst_0, Cert.Reference7Ideal.Read.val_main_v10, Cert.Reference7Ideal.Read.val_main_cst]
  simp (disch := omega) only [dif_neg, zero_add, add_zero]

theorem V_piece_a (c : Dev nD) : V m c main_v2 = (m ((c : Thread nD τ).loc main_arg2) : FVec Ideal S4352x256 .f32) := by
  unfold V; after_reads_simp; rfl

/-- The rows of one cotangent that a grid point reads. -/
theorem piece_a_block (c : Dev nD) (t : Fin cfg0.N) (r : Fin 544) (q : Fin 256) :
    iblk m c 0 t (ix2 r q) = (m ((c : Thread nD τ).loc main_arg2) : FVec Ideal S4352x256 .f32) (ix2 ⟨t.val * 544 + r.val, by have := t.isLt; have : cfg0.N = 8 := N_0; omega⟩ q) := by
  rw [← V_piece_a m c]
  blk_ext [iblk, idx t]

theorem V_piece_b (c : Dev nD) : V m c main_v3 = (m ((c : Thread nD τ).loc main_arg3) : FVec Ideal S4352x256 .f32) := by
  unfold V; after_reads_simp; rfl

/-- The rows of one cotangent that a grid point reads. -/
theorem piece_b_block (c : Dev nD) (t : Fin cfg0.N) (r : Fin 544) (q : Fin 256) :
    iblk m c 1 t (ix2 r q) = (m ((c : Thread nD τ).loc main_arg3) : FVec Ideal S4352x256 .f32) (ix2 ⟨t.val * 544 + r.val, by have := t.isLt; have : cfg0.N = 8 := N_0; omega⟩ q) := by
  rw [← V_piece_b m c]
  blk_ext [iblk, idx t]

theorem V_piece_c (c : Dev nD) : V m c main_v4 = (m ((c : Thread nD τ).loc main_arg4) : FVec Ideal S4352x512 .f32) := by
  unfold V; after_reads_simp; rfl

/-- The rows of one cotangent that a grid point reads. -/
theorem piece_c_block (c : Dev nD) (t : Fin cfg0.N) (r : Fin 544) (q : Fin 512) :
    iblk m c 2 t (ix2 r q) = (m ((c : Thread nD τ).loc main_arg4) : FVec Ideal S4352x512 .f32) (ix2 ⟨t.val * 544 + r.val, by have := t.isLt; have : cfg0.N = 8 := N_0; omega⟩ q) := by
  rw [← V_piece_c m c]
  blk_ext [iblk, idx t]

theorem V_piece_d (c : Dev nD) : V m c main_v5 = (m ((c : Thread nD τ).loc main_arg5) : FVec Ideal S4352x128 .f32) := by
  unfold V; after_reads_simp; rfl

/-- The rows of one cotangent that a grid point reads. -/
theorem piece_d_block (c : Dev nD) (t : Fin cfg0.N) (r : Fin 544) (q : Fin 128) :
    iblk m c 3 t (ix2 r q) = (m ((c : Thread nD τ).loc main_arg5) : FVec Ideal S4352x128 .f32) (ix2 ⟨t.val * 544 + r.val, by have := t.isLt; have : cfg0.N = 8 := N_0; omega⟩ q) := by
  rw [← V_piece_d m c]
  blk_ext [iblk, idx t]

theorem V_piece_e (c : Dev nD) : V m c main_arg6 = (m ((c : Thread nD τ).loc main_arg6) : FVec Ideal S4352x128 .f32) := by
  unfold V; after_reads_simp

/-- The rows of one cotangent that a grid point reads. -/
theorem piece_e_block (c : Dev nD) (t : Fin cfg0.N) (r : Fin 544) (q : Fin 128) :
    iblk m c 4 t (ix2 r q) = (m ((c : Thread nD τ).loc main_arg6) : FVec Ideal S4352x128 .f32) (ix2 ⟨t.val * 544 + r.val, by have := t.isLt; have : cfg0.N = 8 := N_0; omega⟩ q) := by
  rw [← V_piece_e m c]
  blk_ext [iblk, idx t]

theorem V_piece_f (c : Dev nD) : V m c main_arg7 = (m ((c : Thread nD τ).loc main_arg7) : FVec Ideal S4352x256 .f32) := by
  unfold V; after_reads_simp

/-- The rows of one cotangent that a grid point reads. -/
theorem piece_f_block (c : Dev nD) (t : Fin cfg0.N) (r : Fin 544) (q : Fin 256) :
    iblk m c 5 t (ix2 r q) = (m ((c : Thread nD τ).loc main_arg7) : FVec Ideal S4352x256 .f32) (ix2 ⟨t.val * 544 + r.val, by have := t.isLt; have : cfg0.N = 8 := N_0; omega⟩ q) := by
  rw [← V_piece_f m c]
  blk_ext [iblk, idx t]

theorem V_piece_g (c : Dev nD) : V m c main_arg8 = (m ((c : Thread nD τ).loc main_arg8) : FVec Ideal S4352x256 .f32) := by
  unfold V; after_reads_simp

/-- The rows of one cotangent that a grid point reads. -/
theorem piece_g_block (c : Dev nD) (t : Fin cfg0.N) (r : Fin 544) (q : Fin 256) :
    iblk m c 6 t (ix2 r q) = (m ((c : Thread nD τ).loc main_arg8) : FVec Ideal S4352x256 .f32) (ix2 ⟨t.val * 544 + r.val, by have := t.isLt; have : cfg0.N = 8 := N_0; omega⟩ q) := by
  rw [← V_piece_g m c]
  blk_ext [iblk, idx t]

theorem V_piece_h (c : Dev nD) : V m c main_v6 = (m ((c : Thread nD τ).loc main_arg9) : FVec Ideal S4352x1024 .f32) := by
  unfold V; after_reads_simp; rfl

/-- The rows of one cotangent that a grid point reads. -/
theorem piece_h_block (c : Dev nD) (t : Fin cfg0.N) (r : Fin 544) (q : Fin 1024) :
    iblk m c 7 t (ix2 r q) = (m ((c : Thread nD τ).loc main_arg9) : FVec Ideal S4352x1024 .f32) (ix2 ⟨t.val * 544 + r.val, by have := t.isLt; have : cfg0.N = 8 := N_0; omega⟩ q) := by
  rw [← V_piece_h m c]
  blk_ext [iblk, idx t]

theorem V_piece_i (c : Dev nD) : V m c main_v1 = (padded (m ((c : Thread nD τ).loc main_arg10)) : FVec Ideal S4352x128 .f32) := by
  unfold V; after_reads_simp; rfl

/-- The rows of the last cotangent. -/
theorem piece_i_block (c : Dev nD) (t : Fin cfg0.N) (r : Fin 544) (q : Fin 128) :
    iblk m c 8 t (ix2 r q) = (padded (m ((c : Thread nD τ).loc main_arg10)) : FVec Ideal S4352x128 .f32) (ix2 ⟨t.val * 544 + r.val, by have := t.isLt; have : cfg0.N = 8 := N_0; omega⟩ q) := by
  rw [← V_piece_i m c]
  blk_ext [iblk, idx t]

theorem V_weight (c : Dev nD) : V m c main_v9 = (weight (m ((c : Thread nD τ).loc main_arg1)) : FVec Ideal S1024x2944 .bf16) := by
  unfold V; after_reads_simp; rfl

/-- Every grid point reads the padded weight whole. -/
theorem weight_block (c : Dev nD) (t : Fin cfg0.N) (r : Fin 1024) (q : Fin 2944) :
    iblk m c 9 t (ix2 r q) = (weight (m ((c : Thread nD τ).loc main_arg1)) : FVec Ideal S1024x2944 .bf16) (ix2 r q) := by
  rw [← V_weight m c]
  blk_ext [iblk, idx t]

/-- Where an element of the stored block lands. -/
theorem lands (t : Fin cfg0.N) (y : S544x1024.Idx) :
    (win0_10.blk t).view.emb y = ix2 ⟨t.val * 544 + (y 0).val, by have := t.isLt; have : cfg0.N = 8 := N_0; have : (y 0).val < 544 := (y 0).isLt; omega⟩ (y 1) := by
  blk_ext [idx t]

/-- One stored element is the reference's element at the place where it lands. -/
theorem point (c : Dev nD) (t : Fin cfg0.N) (y : S544x1024.Idx) :
    out0_10 (iblk m c 0 t) (iblk m c 1 t) (iblk m c 2 t) (iblk m c 3 t) (iblk m c 4 t) (iblk m c 5 t) (iblk m c 6 t) (iblk m c 7 t) (iblk m c 8 t) (iblk m c 9 t) y
      = Cert.Reference7Ideal.Read.val_main_v30 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ((win0_10.blk t).view.emb y) := by
  rw [lands t y]
  frame_out
  pointwise [k0_pay1, k0_pay2, piece_a_block, piece_b_block, piece_c_block, piece_d_block, piece_e_block, piece_f_block, piece_g_block, piece_h_block, piece_i_block, weight_block, Cert.Reference7Ideal.Read.val_main_v30, Cert.Reference7Ideal.Read.val_main_v29]
  rw [sum_nine]
  refine congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
    (congrArg₂ (fun a b : EReal => a + b) (congrArg₂ (fun a b : EReal => a + b) ?_ ?_) ?_) ?_) ?_) ?_) ?_) ?_) ?_
  · exact Finset.sum_congr rfl fun x _ => congrArg₂ (fun a b : EReal => a * b) (cotangent_0 _ _ _ _ _ _ _ _ _ _ x).symm ((weight_at _ _ _).trans (dif_pos (by have := x.isLt; simp only []; omega)))
  · exact Finset.sum_congr rfl fun x _ => congrArg₂ (fun a b : EReal => a * b) (cotangent_1 _ _ _ _ _ _ _ _ _ _ x).symm ((weight_at _ _ _).trans (dif_pos (by have := x.isLt; simp only []; omega)))
  · exact Finset.sum_congr rfl fun x _ => congrArg₂ (fun a b : EReal => a * b) (cotangent_2 _ _ _ _ _ _ _ _ _ _ x).symm ((weight_at _ _ _).trans (dif_pos (by have := x.isLt; simp only []; omega)))
  · exact Finset.sum_congr rfl fun x _ => congrArg₂ (fun a b : EReal => a * b) (cotangent_3 _ _ _ _ _ _ _ _ _ _ x).symm ((weight_at _ _ _).trans (dif_pos (by have := x.isLt; simp only []; omega)))
  · exact Finset.sum_congr rfl fun x _ => congrArg₂ (fun a b : EReal => a * b) (cotangent_4 _ _ _ _ _ _ _ _ _ _ x).symm ((weight_at _ _ _).trans (dif_pos (by have := x.isLt; simp only []; omega)))
  · exact Finset.sum_congr rfl fun x _ => congrArg₂ (fun a b : EReal => a * b) (cotangent_5 _ _ _ _ _ _ _ _ _ _ x).symm ((weight_at _ _ _).trans (dif_pos (by have := x.isLt; simp only []; omega)))
  · exact Finset.sum_congr rfl fun x _ => congrArg₂ (fun a b : EReal => a * b) (cotangent_6 _ _ _ _ _ _ _ _ _ _ x).symm ((weight_at _ _ _).trans (dif_pos (by have := x.isLt; simp only []; omega)))
  · exact Finset.sum_congr rfl fun x _ => congrArg₂ (fun a b : EReal => a * b) (cotangent_7 _ _ _ _ _ _ _ _ _ _ x).symm ((weight_at _ _ _).trans (dif_pos (by have := x.isLt; simp only []; omega)))
  · refine (sum_sixteen _ fun x => ?_).trans (Finset.sum_congr rfl fun x _ => ?_)
    · exact (congrArg (fun z : EReal => z * _) ((padded_at _ _ _).trans (dif_neg (by simp only []; omega)))).trans (zero_mul _)
    · exact congrArg₂ (fun a b : EReal => a * b) (((padded_at _ _ _).trans (dif_pos x.isLt)).trans (cotangent_8 _ _ _ _ _ _ _ _ _ _ x).symm)
        ((weight_at _ _ _).trans (dif_pos (by have := x.isLt; simp only []; omega)))

/-- The result array of the kernel is the reference's. -/
theorem final (c : Dev nD) : (dats m 0 c).arrAt 10 cfg0.N
    = Cert.Reference7Ideal.Read.val_main_v30 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 10 _ (by decide +kernel) fun t _ y => ?_
  blk_simp
  rw [after0_10]
  exact point m c t y

end Cert.Kernel7Ideal.Dx

namespace Cert.Proof

open Idealize.ShloMosaic Idealize.SL.Sem

/-- From equal arguments the kernel and the reference end with equal results. -/
theorem algebraic_in_dx : Cert.algebraic_Kernel7Ideal_Reference7Ideal (hKernel7Ideal := Cert.Kernel7Ideal.Gen.facts)
    (hReference7Ideal := Cert.Reference7Ideal.Gen.facts) := by
  intro m g m' g' _ hargs
  refine ⟨_, Cert.Kernel7Ideal.Value.run_blocks (F := Ideal) m g, ?_⟩
  refine (θ_run (Cert.Reference7Ideal.defs (F := Ideal)) _ _).mono (fun r h c => ?_) (Cert.Reference7Ideal.Value.run (F := Ideal) m' g')
  refine ⟨(h c).1.trans ?_, (h c).2⟩
  rw [Cert.Kernel7Ideal.Dx.final, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2.1, (hargs c).2.2.2.2.2.2.2.2.2.2]
  exact Cert.Reference7Ideal.Read.val_main_v30_eq _ _ _ _ _ _ _ _ _ _

end Cert.Proof

end
-- ==== Proof.UpFwd.lean ====
/- The first feed-forward product with its gate: a grid point stores the gate's and the up branch's columns side by side, and their gated product. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Kernel8Ideal.Fwd

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val % 8, 0] ∧ win0_1.index t = ![t.val / 8, 0, 0] ∧ win0_2.index t = ![2 + t.val / 8, 0, 0]
    ∧ win0_3.index t = ![t.val % 8, t.val / 8] ∧ win0_4.index t = ![t.val % 8, t.val / 8] :=
  (by decide +kernel : ∀ t : Fin grid0.N, _)

/-- The weight as the host lays it out: four shards of columns. -/
def shards (w : FVec Ideal S1024x5632 .f32) : FVec Ideal S4x1024x1408 .bf16 :=
  truncf .bf16 (transpose S4x1024x1408 [1, 0, 2] (shapeCast S1024x4x1408 w shapeCasts_S1024x5632_S1024x4x1408 : FVec Ideal S1024x4x1408 .f32)
    transposes_S1024x4x1408_S4x1024x1408_1_0_2) bitsLt_bf16_f32

theorem shards_at (w : FVec Ideal S1024x5632 .f32) (s : Fin 4) (k : Fin 1024) (q : Fin 1408) :
    shards w (ix3 s k q) = w (ix2 k ⟨s.val * 1408 + q.val, by omega⟩) := by
  pointwise [shards]

theorem V_shards (c : Dev nD) : V m c main_v3 = shards (m ((c : Thread nD τ).loc main_arg1)) := by
  unfold V; after_reads_simp; rfl

theorem V_rows (c : Dev nD) : V m c main_v0 = (m ((c : Thread nD τ).loc main_arg0) : FVec Ideal S4352x1024 .f32) := by
  unfold V; after_reads_simp; rfl

/-- The rows that a grid point reads. -/
theorem rows_block (c : Dev nD) (t : Fin cfg0.N) (r : Fin 544) (q : Fin 1024) :
    iblk m c 0 t (ix2 r q) = (m ((c : Thread nD τ).loc main_arg0) : FVec Ideal S4352x1024 .f32) (ix2 ⟨t.val % 8 * 544 + r.val, by omega⟩ q) := by
  rw [← V_rows m c]
  blk_ext [iblk, idx t]

/-- The gate's columns of the weight that a grid point reads. -/
theorem gate_block (c : Dev nD) (t : Fin cfg0.N) (u : Fin 1) (k : Fin 1024) (q : Fin 1408) :
    iblk m c 1 t (ix3 u k q) = (m ((c : Thread nD τ).loc main_arg1) : FVec Ideal S1024x5632 .f32) (ix2 k ⟨t.val / 8 * 1408 + q.val, by have := t.isLt; have : cfg0.N = 16 := N_0; omega⟩) := by
  have ht : t.val < 16 := lt_of_lt_of_eq t.isLt N_0
  refine Eq.trans ?_ (shards_at _ ⟨t.val / 8, by omega⟩ k q)
  rw [← V_shards m c]
  blk_ext [iblk, idx t]

/-- The up branch's columns of the weight that a grid point reads. -/
theorem up_block (c : Dev nD) (t : Fin cfg0.N) (u : Fin 1) (k : Fin 1024) (q : Fin 1408) :
    iblk m c 2 t (ix3 u k q) = (m ((c : Thread nD τ).loc main_arg1) : FVec Ideal S1024x5632 .f32) (ix2 k ⟨(2 + t.val / 8) * 1408 + q.val, by have := t.isLt; have : cfg0.N = 16 := N_0; omega⟩) := by
  have ht : t.val < 16 := lt_of_lt_of_eq t.isLt N_0
  refine Eq.trans ?_ (shards_at _ ⟨2 + t.val / 8, by omega⟩ k q)
  rw [← V_shards m c]
  blk_ext [iblk, idx t]

/-- The exponential of an extended real is not negative. -/
theorem exp_nonneg (z : EReal) : 0 ≤ Ideal.exp z := by
  induction z using EReal.rec with
  | bot => exact le_of_eq Ideal.exp_bot.symm
  | coe r => rw [Ideal.exp_coe]; exact_mod_cast (Real.exp_pos r).le
  | top => rw [Ideal.exp_top]; exact le_top

/-- The two ways of writing the gated product agree on all extended reals. -/
theorem gated (g u : EReal) : Ideal.div g (1 + Ideal.exp (0 - g)) * u = g * Ideal.div 1 (1 + Ideal.exp (-g)) * u := by
  rw [zero_sub, Idealize.ShloMosaic.Ideal.mul_one_div (ne_of_gt (lt_of_lt_of_le one_pos (le_add_of_nonneg_right (exp_nonneg _))))]

/-- Where an element of the stored block lands. -/
theorem lands_gu (t : Fin cfg0.N) (y : S544x2816.Idx) :
    (win0_3.blk t).view.emb y = ix2 ⟨t.val % 8 * 544 + (y 0).val, by have := t.isLt; have : cfg0.N = 16 := N_0; have : (y 0).val < 544 := (y 0).isLt; omega⟩
      ⟨t.val / 8 * 2816 + (y 1).val, by have := t.isLt; have : cfg0.N = 16 := N_0; have : (y 1).val < 2816 := (y 1).isLt; omega⟩ := by
  blk_ext [idx t]

/-- One stored element is the reference's element at the place where it lands. -/
theorem point_gu (c : Dev nD) (t : Fin cfg0.N) (y : S544x2816.Idx) :
    out0_3 (iblk m c 0 t) (iblk m c 1 t) (iblk m c 2 t) y = Cert.Reference8Ideal.Read.val_main_v10 (F := Ideal) (m ((c : Thread nD τ).loc main_arg0)) (m ((c : Thread nD τ).loc main_arg1)) ((win0_3.blk t).view.emb y) := by
  rw [lands_gu t y]
  have ht : t.val < 16 := lt_of_lt_of_eq t.isLt N_0
  frame_out
  canon_tiles x h
  all_goals
    open_payloads
    pointwise [k0_pay12, rows_block, gate_block, up_block, Cert.Reference8Ideal.Read.val_main_v0, Cert.Reference8Ideal.Read.val_main_v1, Cert.Reference8Ideal.Read.val_main_v2, Cert.Reference8Ideal.Read.val_main_call0_v0, Cert.Reference8Ideal.Read.val_main_call0_v1, Cert.Reference8Ideal.Read.val_main_call0_cst, Cert.Reference8Ideal.Read.val_main_call0_v2, Cert.Reference8Ideal.Read.val_main_call0_v3, Cert.Reference8Ideal.Read.val_main_call0_cst_0, Cert.Reference8Ideal.Read.val_main_call0_v4, Cert.Reference8Ideal.Read.val_main_call0_v5, Cert.Reference8Ideal.Read.val_main_v3, Cert.Reference8Ideal.Read.val_main_v4, Cert.Reference8Ideal.Read.val_main_v5, Cert.Reference8Ideal.Read.val_main_v6, Cert.Reference8Ideal.Read.val_main_v7, Cert.Reference8Ideal.Read.val_main_v8, Cert.Reference8Ideal.Read.val_main_v9, Cert.Reference8Ideal.Read.val_main_v10, Cert.Reference8Ideal.Read.val_main_v11]
    blk_point [] <;> (exfalso; omega)

/-- The result array of the kernel is the reference's. -/
theorem final_gu (c : Dev nD) : (dats m 0 c).arrAt 3 cfg0.N
    = Cert.Reference8Ideal.Read.val_main_v10 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  exact point_gu m c t y

/-- Where an element of the stored block lands. -/
theorem lands_act (t : Fin cfg0.N) (y : S544x1408.Idx) :
    (win0_4.blk t).view.emb y = ix2 ⟨t.val % 8 * 544 + (y 0).val, by have := t.isLt; have : cfg0.N = 16 := N_0; have : (y 0).val < 544 := (y 0).isLt; omega⟩
      ⟨t.val / 8 * 1408 + (y 1).val, by have := t.isLt; have : cfg0.N = 16 := N_0; have : (y 1).val < 1408 := (y 1).isLt; omega⟩ := by
  blk_ext [idx t]

/-- One stored element is the reference's element at the place where it lands. -/
theorem point_act (c : Dev nD) (t : Fin cfg0.N) (y : S544x1408.Idx) :
    out0_4 (iblk m c 0 t) (iblk m c 1 t) (iblk m c 2 t) y = Cert.Reference8Ideal.Read.val_main_v11 (F := Ideal) (m ((c : Thread nD τ).loc main_arg0)) (m ((c : Thread nD τ).loc main_arg1)) ((win0_4.blk t).view.emb y) := by
  rw [lands_act t y]
  have ht : t.val < 16 := lt_of_lt_of_eq t.isLt N_0
  frame_out
  canon_tiles x h
  all_goals
    open_payloads
    pointwise [k0_pay12, rows_block, gate_block, up_block, Cert.Reference8Ideal.Read.val_main_v0, Cert.Reference8Ideal.Read.val_main_v1, Cert.Reference8Ideal.Read.val_main_v2, Cert.Reference8Ideal.Read.val_main_call0_v0, Cert.Reference8Ideal.Read.val_main_call0_v1, Cert.Reference8Ideal.Read.val_main_call0_cst, Cert.Reference8Ideal.Read.val_main_call0_v2, Cert.Reference8Ideal.Read.val_main_call0_v3, Cert.Reference8Ideal.Read.val_main_call0_cst_0, Cert.Reference8Ideal.Read.val_main_call0_v4, Cert.Reference8Ideal.Read.val_main_call0_v5, Cert.Reference8Ideal.Read.val_main_v3, Cert.Reference8Ideal.Read.val_main_v4, Cert.Reference8Ideal.Read.val_main_v5, Cert.Reference8Ideal.Read.val_main_v6, Cert.Reference8Ideal.Read.val_main_v7, Cert.Reference8Ideal.Read.val_main_v8, Cert.Reference8Ideal.Read.val_main_v9, Cert.Reference8Ideal.Read.val_main_v10, Cert.Reference8Ideal.Read.val_main_v11]
    refine (gated _ _).trans ?_
    blk_point []

/-- The result array of the kernel is the reference's. -/
theorem final_act (c : Dev nD) : (dats m 0 c).arrAt 4 cfg0.N
    = Cert.Reference8Ideal.Read.val_main_v11 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  exact point_act m c t y

end Cert.Kernel8Ideal.Fwd

namespace Cert.Proof

open Idealize.ShloMosaic Idealize.SL.Sem

/-- From equal arguments the kernel and the reference end with equal results. -/
theorem algebraic_ffn_fwd : Cert.algebraic_Kernel8Ideal_Reference8Ideal (hKernel8Ideal := Cert.Kernel8Ideal.Gen.facts)
    (hReference8Ideal := Cert.Reference8Ideal.Gen.facts) := by
  intro m g m' g' _ hargs
  refine ⟨_, _, Cert.Kernel8Ideal.Value.run_blocks (F := Ideal) m g, ?_⟩
  refine (θ_run (Cert.Reference8Ideal.defs (F := Ideal)) _ _).mono (fun r h c => ?_) (Cert.Reference8Ideal.Value.run (F := Ideal) m' g')
  refine ⟨(h c).1.trans ?_, (h c).2.1.trans ?_, (h c).2.2⟩
  · rw [Cert.Kernel8Ideal.Fwd.final_gu, (hargs c).1, (hargs c).2]
    exact Cert.Reference8Ideal.Read.val_main_v10_eq _ _
  · rw [Cert.Kernel8Ideal.Fwd.final_act, (hargs c).1, (hargs c).2]
    exact Cert.Reference8Ideal.Read.val_main_v11_eq _ _

end Cert.Proof

end
-- ==== Proof.DownFwd.lean ====
/- The second feed-forward product: the kernel's row blocks are the one product. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Kernel9Ideal.Fwd

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val, 0] ∧ win0_1.index t = ![0, 0] ∧ win0_2.index t = ![t.val, 0] :=
  (by decide +kernel : ∀ t : Fin grid0.N, _)

theorem V_rows (c : Dev nD) : V m c main_v0 = (m ((c : Thread nD τ).loc main_arg0) : FVec Ideal S4352x2816 .f32) := by
  unfold V; after_reads_simp; rfl

/-- The rows of the activation that a grid point reads. -/
theorem rows_block (c : Dev nD) (t : Fin cfg0.N) (r : Fin 544) (q : Fin 2816) :
    iblk m c 0 t (ix2 r q) = (m ((c : Thread nD τ).loc main_arg0) : FVec Ideal S4352x2816 .f32) (ix2 ⟨t.val * 544 + r.val, by have := t.isLt; have : cfg0.N = 8 := N_0; omega⟩ q) := by
  rw [← V_rows m c]
  blk_ext [iblk, idx t]

theorem V_weight (c : Dev nD) : V m c main_v1 = (m ((c : Thread nD τ).loc main_arg1) : FVec Ideal S2816x1024 .f32) := by
  unfold V; after_reads_simp; rfl

/-- Every grid point reads the weight whole. -/
theorem weight_block (c : Dev nD) (t : Fin cfg0.N) (r : Fin 2816) (q : Fin 1024) :
    iblk m c 1 t (ix2 r q) = (m ((c : Thread nD τ).loc main_arg1) : FVec Ideal S2816x1024 .f32) (ix2 r q) := by
  rw [← V_weight m c]
  blk_ext [iblk, idx t]

/-- Where an element of the stored block lands. -/
theorem lands (t : Fin cfg0.N) (y : S544x1024.Idx) :
    (win0_2.blk t).view.emb y = ix2 ⟨t.val * 544 + (y 0).val, by have := t.isLt; have : cfg0.N = 8 := N_0; have : (y 0).val < 544 := (y 0).isLt; omega⟩ (y 1) := by
  blk_ext [idx t]

/-- One stored element is the reference's element at the place where it lands. -/
theorem point (c : Dev nD) (t : Fin cfg0.N) (y : S544x1024.Idx) :
    out0_2 (iblk m c 0 t) (iblk m c 1 t) y
      = Cert.Reference9Ideal.Read.val_main_v1 (F := Ideal) (m ((c : Thread nD τ).loc main_arg0)) (m ((c : Thread nD τ).loc main_arg1)) ((win0_2.blk t).view.emb y) := by
  rw [lands t y]
  frame_out
  pointwise [k0_pay1, rows_block, weight_block, Cert.Reference9Ideal.Read.val_main_v1, Cert.Reference9Ideal.Read.val_main_v0]

/-- The result array of the kernel is the reference's. -/
theorem final (c : Dev nD) : (dats m 0 c).arrAt 2 cfg0.N
    = Cert.Reference9Ideal.Read.val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.Kernel9Ideal.Fwd

namespace Cert.Proof

open Idealize.ShloMosaic Idealize.SL.Sem

/-- From equal arguments the kernel and the reference end with equal results. -/
theorem algebraic_down_fwd : Cert.algebraic_Kernel9Ideal_Reference9Ideal (hKernel9Ideal := Cert.Kernel9Ideal.Gen.facts)
    (hReference9Ideal := Cert.Reference9Ideal.Gen.facts) := by
  intro m g m' g' _ hargs
  refine ⟨_, Cert.Kernel9Ideal.Value.run_blocks (F := Ideal) m g, ?_⟩
  refine (θ_run (Cert.Reference9Ideal.defs (F := Ideal)) _ _).mono (fun r h c => ?_) (Cert.Reference9Ideal.Value.run (F := Ideal) m' g')
  refine ⟨(h c).1.trans ?_, (h c).2⟩
  rw [Cert.Kernel9Ideal.Fwd.final, (hargs c).1, (hargs c).2]
  exact Cert.Reference9Ideal.Read.val_main_v1_eq _ _

end Cert.Proof

end
-- ==== Proof.InFwd.lean ====
/- The input projection: the kernel's row blocks against the weight padded with zero columns are the product, padded with zeros. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Kernel10Ideal.Fwd

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The weight with its zero columns, as the host lays it out. -/
def weight (w : FVec Ideal S1024x2832 .f32) : FVec Ideal S1024x2944 .bf16 :=
  truncf .bf16 (concatenate S1024x2944 1 [⟨S1024x2832, w⟩, ⟨S1024x112, broadcastInDim S1024x112 ![] bcast_S_S1024x112 (constant S_ .f32 0x00000000#32 : FVec Ideal S_ .f32)⟩]
    concatenates_S1024x2832_S1024x112_S1024x2944_d1) bitsLt_bf16_f32

/-- An element of the padded weight. -/
theorem weight_at (w : FVec Ideal S1024x2832 .f32) (x : Fin 1024) (j : Fin 2944) :
    weight w (ix2 x j) = if h : j.val < 2832 then w (ix2 x ⟨j.val, h⟩) else (0 : EReal) := by
  pointwise [weight]

theorem V_rows (c : Dev nD) : V m c main_v0 = (m ((c : Thread nD τ).loc main_arg0) : FVec Ideal S4352x1024 .f32) := by
  unfold V; after_reads_simp; rfl

/-- The rows that a grid point reads. -/
theorem rows_block (c : Dev nD) (t : Fin cfg0.N) (r : Fin 544) (q : Fin 1024) :
    iblk m c 0 t (ix2 r q) = (m ((c : Thread nD τ).loc main_arg0) : FVec Ideal S4352x1024 .f32) (ix2 ⟨t.val * 544 + r.val, by have := t.isLt; have : cfg0.N = 8 := N_0; omega⟩ q) := by
  rw [← V_rows m c]
  blk_ext [iblk, idx t]

theorem V_padded (c : Dev nD) : V m c main_v3 = (weight (m ((c : Thread nD τ).loc main_arg1)) : FVec Ideal S1024x2944 .bf16) := by
  unfold V; after_reads_simp; rfl

/-- Every grid point reads the padded weight whole. -/
theorem padded_block (c : Dev nD) (t : Fin cfg0.N) (r : Fin 1024) (q : Fin 2944) :
    iblk m c 1 t (ix2 r q) = (weight (m ((c : Thread nD τ).loc main_arg1)) : FVec Ideal S1024x2944 .bf16) (ix2 r q) := by
  rw [← V_padded m c]
  blk_ext [iblk, idx t]

/-- Where an element of the stored block lands. -/
theorem lands (t : Fin cfg0.N) (y : S544x2944.Idx) :
    (win0_2.blk t).view.emb y = ix2 ⟨t.val * 544 + (y 0).val, by have := t.isLt; have : cfg0.N = 8 := N_0; have : (y 0).val < 544 := (y 0).isLt; omega⟩ (y 1) := by
  blk_ext [idx t]

/-- One stored element is the reference's element at the place where it lands. -/
theorem point (c : Dev nD) (t : Fin cfg0.N) (y : S544x2944.Idx) :
    out0_2 (iblk m c 0 t) (iblk m c 1 t) y
      = Cert.Reference10Ideal.Read.val_main_v2 (F := Ideal) (m ((c : Thread nD τ).loc main_arg0)) (m ((c : Thread nD τ).loc main_arg1)) ((win0_2.blk t).view.emb y) := by
  rw [lands t y]
  frame_out
  pointwise [k0_pay1, rows_block, padded_block, Cert.Reference10Ideal.Read.val_main_v2, Cert.Reference10Ideal.Read.val_main_v1, Cert.Reference10Ideal.Read.val_main_cst, Cert.Reference10Ideal.Read.val_main_v0]
  split_ifs with h
  · exact Finset.sum_congr rfl fun x _ => congrArg (fun z : EReal => _ * z) ((weight_at _ x (y 1)).trans (dif_pos h))
  · exact Finset.sum_eq_zero fun x _ => (congrArg (fun z : EReal => _ * z) ((weight_at _ x (y 1)).trans (dif_neg h))).trans (mul_zero _)

/-- The result array of the kernel is the reference's. -/
theorem final (c : Dev nD) : (dats m 0 c).arrAt 2 cfg0.N
    = Cert.Reference10Ideal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.Kernel10Ideal.Fwd

namespace Cert.Proof

open Idealize.ShloMosaic Idealize.SL.Sem

/-- From equal arguments the kernel and the reference end with equal results. -/
theorem algebraic_in_fwd : Cert.algebraic_Kernel10Ideal_Reference10Ideal (hKernel10Ideal := Cert.Kernel10Ideal.Gen.facts)
    (hReference10Ideal := Cert.Reference10Ideal.Gen.facts) := by
  intro m g m' g' _ hargs
  refine ⟨_, Cert.Kernel10Ideal.Value.run_blocks (F := Ideal) m g, ?_⟩
  refine (θ_run (Cert.Reference10Ideal.defs (F := Ideal)) _ _).mono (fun r h c => ?_) (Cert.Reference10Ideal.Value.run (F := Ideal) m' g')
  refine ⟨(h c).1.trans ?_, (h c).2⟩
  rw [Cert.Kernel10Ideal.Fwd.final, (hargs c).1, (hargs c).2]
  exact Cert.Reference10Ideal.Read.val_main_v2_eq _ _

end Cert.Proof

end
-- ==== Proof.OutFwd.lean ====
/- The output projection: the sum of the three mixers' products is the product of their concatenation. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Kernel11Ideal.Fwd

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] :=
  (by decide +kernel : ∀ t : Fin grid0.N, _)

/-- A sum over the 1024 columns of the three mixers is the sum of the sums over each. -/
theorem sum_three (f : Fin 1024 → EReal) : ∑ x, f x
    = (∑ x : Fin 256, f ⟨x.val, by omega⟩) + (∑ x : Fin 256, f ⟨256 + x.val, by omega⟩) + ∑ x : Fin 512, f ⟨512 + x.val, by omega⟩ := by
  rw [Fin.sum_univ_two_halves 512 512 rfl f, Fin.sum_univ_two_halves 256 256 rfl (fun x : Fin 512 => f ⟨x.val, by omega⟩)]

theorem V_a (c : Dev nD) : V m c main_v0 = (m ((c : Thread nD τ).loc main_arg0) : FVec Ideal S4352x256 .f32) := by
  unfold V; after_reads_simp; rfl

/-- The rows of the first mixer that a grid point reads. -/
theorem a_block (c : Dev nD) (t : Fin cfg0.N) (r : Fin 544) (q : Fin 256) :
    iblk m c 0 t (ix2 r q) = (m ((c : Thread nD τ).loc main_arg0) : FVec Ideal S4352x256 .f32) (ix2 ⟨t.val * 544 + r.val, by have := t.isLt; have : cfg0.N = 8 := N_0; omega⟩ q) := by
  rw [← V_a m c]
  blk_ext [iblk, idx t]

theorem V_b (c : Dev nD) : V m c main_v1 = (m ((c : Thread nD τ).loc main_arg1) : FVec Ideal S4352x256 .f32) := by
  unfold V; after_reads_simp; rfl

/-- The rows of the second mixer. -/
theorem b_block (c : Dev nD) (t : Fin cfg0.N) (r : Fin 544) (q : Fin 256) :
    iblk m c 1 t (ix2 r q) = (m ((c : Thread nD τ).loc main_arg1) : FVec Ideal S4352x256 .f32) (ix2 ⟨t.val * 544 + r.val, by have := t.isLt; have : cfg0.N = 8 := N_0; omega⟩ q) := by
  rw [← V_b m c]
  blk_ext [iblk, idx t]

theorem V_c (c : Dev nD) : V m c main_v2 = (m ((c : Thread nD τ).loc main_arg2) : FVec Ideal S4352x512 .f32) := by
  unfold V; after_reads_simp; rfl

/-- The rows of the third mixer. -/
theorem c_block (c : Dev nD) (t : Fin cfg0.N) (r : Fin 544) (q : Fin 512) :
    iblk m c 2 t (ix2 r q) = (m ((c : Thread nD τ).loc main_arg2) : FVec Ideal S4352x512 .f32) (ix2 ⟨t.val * 544 + r.val, by have := t.isLt; have : cfg0.N = 8 := N_0; omega⟩ q) := by
  rw [← V_c m c]
  blk_ext [iblk, idx t]

theorem V_weight (c : Dev nD) : V m c main_v3 = (m ((c : Thread nD τ).loc main_arg3) : FVec Ideal S1024x1024 .f32) := by
  unfold V; after_reads_simp; rfl

/-- Every grid point reads the weight whole. -/
theorem weight_block (c : Dev nD) (t : Fin cfg0.N) (r : Fin 1024) (q : Fin 1024) :
    iblk m c 3 t (ix2 r q) = (m ((c : Thread nD τ).loc main_arg3) : FVec Ideal S1024x1024 .f32) (ix2 r q) := by
  rw [← V_weight m c]
  blk_ext [iblk, idx t]

/-- Where an element of the stored block lands. -/
theorem lands (t : Fin cfg0.N) (y : S544x1024.Idx) :
    (win0_4.blk t).view.emb y = ix2 ⟨t.val * 544 + (y 0).val, by have := t.isLt; have : cfg0.N = 8 := N_0; have : (y 0).val < 544 := (y 0).isLt; omega⟩ (y 1) := by
  blk_ext [idx t]

/-- One stored element is the reference's element at the place where it lands. -/
theorem point (c : Dev nD) (t : Fin cfg0.N) (y : S544x1024.Idx) :
    out0_4 (iblk m c 0 t) (iblk m c 1 t) (iblk m c 2 t) (iblk m c 3 t) y
      = Cert.Reference11Ideal.Read.val_main_v2 (F := Ideal) (m ((c : Thread nD τ).loc main_arg0)) (m ((c : Thread nD τ).loc main_arg1)) (m ((c : Thread nD τ).loc main_arg2)) (m ((c : Thread nD τ).loc main_arg3)) ((win0_4.blk t).view.emb y) := by
  rw [lands t y]
  frame_out
  pointwise [k0_pay1, a_block, b_block, c_block, weight_block, Cert.Reference11Ideal.Read.val_main_v2, Cert.Reference11Ideal.Read.val_main_v1, Cert.Reference11Ideal.Read.val_main_v0]
  rw [sum_three]
  refine congrArg₂ (fun a b : EReal => a + b) (congrArg₂ (fun a b : EReal => a + b) ?_ ?_) ?_
  all_goals
    refine Finset.sum_congr rfl fun x _ => ?_
    have hx := x.isLt
    first
      | rfl
      | (split_ifs <;> first | rfl | (exfalso; simp only [] at *; omega) | (congr 3; apply Fin.ext; simp only []; omega))

/-- The result array of the kernel is the reference's. -/
theorem final (c : Dev nD) : (dats m 0 c).arrAt 4 cfg0.N
    = Cert.Reference11Ideal.Read.val_main_v2 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Cert.Kernel11Ideal.Fwd

namespace Cert.Proof

open Idealize.ShloMosaic Idealize.SL.Sem

/-- From equal arguments the kernel and the reference end with equal results. -/
theorem algebraic_out_fwd : Cert.algebraic_Kernel11Ideal_Reference11Ideal (hKernel11Ideal := Cert.Kernel11Ideal.Gen.facts)
    (hReference11Ideal := Cert.Reference11Ideal.Gen.facts) := by
  intro m g m' g' _ hargs
  refine ⟨_, Cert.Kernel11Ideal.Value.run_blocks (F := Ideal) m g, ?_⟩
  refine (θ_run (Cert.Reference11Ideal.defs (F := Ideal)) _ _).mono (fun r h c => ?_) (Cert.Reference11Ideal.Value.run (F := Ideal) m' g')
  refine ⟨(h c).1.trans ?_, (h c).2⟩
  rw [Cert.Kernel11Ideal.Fwd.final, (hargs c).1, (hargs c).2.1, (hargs c).2.2.1, (hargs c).2.2.2]
  exact Cert.Reference11Ideal.Read.val_main_v2_eq _ _ _ _

end Cert.Proof

end
-- ==== Proof.InDw.lean ====
/- The gradient of the input projection's weight: its rows' transpose against the nine cotangents, each into its own columns of a scratch that adds up over the four blocks of rows. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pointwise
public import Idealize.ShloMosaic.Lib.Claim
public import Idealize.ShloMosaic.Lib.StableHlo.RunRead

public import Idealize.ShloMosaic.Lib.Pipeline.ReadBack
public import proofs.«01_k».proof.Proof.InDx

@[expose] public section

set_option maxRecDepth 16384

noncomputable section

namespace Cert.Kernel12Ideal.Dw

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val % 4, t.val / 4] ∧ win0_1.index t = ![t.val % 4, 0] ∧ win0_2.index t = ![t.val % 4, 0] ∧ win0_3.index t = ![t.val % 4, 0] ∧ win0_4.index t = ![t.val % 4, 0] ∧ win0_5.index t = ![t.val % 4, 0] ∧ win0_6.index t = ![t.val % 4, 0] ∧ win0_7.index t = ![t.val % 4, 0] ∧ win0_8.index t = ![t.val % 4, 0] ∧ win0_9.index t = ![t.val % 4, 0] ∧ win0_10.index t = ![t.val / 4, 0] :=
  (by decide +kernel : ∀ t : Fin grid0.N, _)

theorem row_lt (t : Fin cfg0.N) (r : Fin 1088) : t.val % 4 * 1088 + r.val < 4352 := by have := r.isLt; omega

theorem col_lt (t : Fin cfg0.N) (q : Fin 512) : t.val / 4 * 512 + q.val < 1024 := by
  have := q.isLt; have := t.isLt; have : cfg0.N = 8 := N_0; omega

/-- The last cotangent with its zero columns, as the host lays it out. -/
def padded (d : FVec Ideal S4352x16 .f32) : FVec Ideal S4352x128 .f32 :=
  concatenate S4352x128 1 [⟨S4352x16, d⟩, ⟨S4352x112, broadcastInDim S4352x112 ![] bcast_S_S4352x112 (constant S_ .f32 0x00000000#32 : FVec Ideal S_ .f32)⟩]
    concatenates_S4352x16_S4352x112_S4352x128_d1

theorem padded_at (d : FVec Ideal S4352x16 .f32) (r : Fin 4352) (j : Fin 128) :
    padded d (ix2 r j) = if h : j.val < 16 then d (ix2 r ⟨j.val, h⟩) else (0 : EReal) := by
  pointwise [padded]

/-- The cotangent of the whole projection, with zeros in the columns that pad it. -/
def wide (c : Dev nD) (r : Fin 4352) (j : Fin 2944) : EReal :=
  if h : j.val < 2832 then Cert.Kernel7Ideal.Dx.cotangent (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 r ⟨j.val, h⟩) else 0

/-- The reference adds up the same cotangent. -/
theorem cotangent_eq (c : Dev nD) : Cert.Reference12Ideal.Read.val_main_v26 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    = Cert.Kernel7Ideal.Dx.cotangent (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := rfl

theorem wide_a (c : Dev nD) (r : Fin 4352) (x : Fin 256) (h : x.val < 2944) :
    wide m c r ⟨x.val, h⟩ = (m ((c : Thread nD τ).loc main_arg2) : FVec Ideal S4352x256 .f32) (ix2 r x) :=
  (dif_pos (by have := x.isLt; simp only []; omega)).trans ((Cert.Kernel7Ideal.Dx.cotangent_0 _ _ _ _ _ _ _ _ _ r x))

theorem wide_b (c : Dev nD) (r : Fin 4352) (x : Fin 256) (h : 256 + x.val < 2944) :
    wide m c r ⟨256 + x.val, h⟩ = (m ((c : Thread nD τ).loc main_arg3) : FVec Ideal S4352x256 .f32) (ix2 r x) :=
  (dif_pos (by have := x.isLt; simp only []; omega)).trans ((Cert.Kernel7Ideal.Dx.cotangent_1 _ _ _ _ _ _ _ _ _ r x))

theorem wide_c (c : Dev nD) (r : Fin 4352) (x : Fin 512) (h : 512 + x.val < 2944) :
    wide m c r ⟨512 + x.val, h⟩ = (m ((c : Thread nD τ).loc main_arg4) : FVec Ideal S4352x512 .f32) (ix2 r x) :=
  (dif_pos (by have := x.isLt; simp only []; omega)).trans ((Cert.Kernel7Ideal.Dx.cotangent_2 _ _ _ _ _ _ _ _ _ r x))

theorem wide_d (c : Dev nD) (r : Fin 4352) (x : Fin 128) (h : 1024 + x.val < 2944) :
    wide m c r ⟨1024 + x.val, h⟩ = (m ((c : Thread nD τ).loc main_arg5) : FVec Ideal S4352x128 .f32) (ix2 r x) :=
  (dif_pos (by have := x.isLt; simp only []; omega)).trans ((Cert.Kernel7Ideal.Dx.cotangent_3 _ _ _ _ _ _ _ _ _ r x))

theorem wide_e (c : Dev nD) (r : Fin 4352) (x : Fin 128) (h : 1152 + x.val < 2944) :
    wide m c r ⟨1152 + x.val, h⟩ = (m ((c : Thread nD τ).loc main_arg6) : FVec Ideal S4352x128 .f32) (ix2 r x) :=
  (dif_pos (by have := x.isLt; simp only []; omega)).trans ((Cert.Kernel7Ideal.Dx.cotangent_4 _ _ _ _ _ _ _ _ _ r x))

theorem wide_f (c : Dev nD) (r : Fin 4352) (x : Fin 256) (h : 1280 + x.val < 2944) :
    wide m c r ⟨1280 + x.val, h⟩ = (m ((c : Thread nD τ).loc main_arg7) : FVec Ideal S4352x256 .f32) (ix2 r x) :=
  (dif_pos (by have := x.isLt; simp only []; omega)).trans ((Cert.Kernel7Ideal.Dx.cotangent_5 _ _ _ _ _ _ _ _ _ r x))

theorem wide_g (c : Dev nD) (r : Fin 4352) (x : Fin 256) (h : 1536 + x.val < 2944) :
    wide m c r ⟨1536 + x.val, h⟩ = (m ((c : Thread nD τ).loc main_arg8) : FVec Ideal S4352x256 .f32) (ix2 r x) :=
  (dif_pos (by have := x.isLt; simp only []; omega)).trans ((Cert.Kernel7Ideal.Dx.cotangent_6 _ _ _ _ _ _ _ _ _ r x))

theorem wide_h (c : Dev nD) (r : Fin 4352) (x : Fin 1024) (h : 1792 + x.val < 2944) :
    wide m c r ⟨1792 + x.val, h⟩ = (m ((c : Thread nD τ).loc main_arg9) : FVec Ideal S4352x1024 .f32) (ix2 r x) :=
  (dif_pos (by have := x.isLt; simp only []; omega)).trans ((Cert.Kernel7Ideal.Dx.cotangent_7 _ _ _ _ _ _ _ _ _ r x))

theorem wide_i (c : Dev nD) (r : Fin 4352) (x : Fin 128) (h : 2816 + x.val < 2944) :
    wide m c r ⟨2816 + x.val, h⟩ = (padded (m ((c : Thread nD τ).loc main_arg10)) : FVec Ideal S4352x128 .f32) (ix2 r x) := by
  rw [padded_at]
  by_cases hx : x.val < 16
  · rw [dif_pos hx]
    exact (dif_pos (by simp only []; omega)).trans (Cert.Kernel7Ideal.Dx.cotangent_8 _ _ _ _ _ _ _ _ _ r ⟨x.val, hx⟩)
  · rw [dif_neg hx]
    exact dif_neg (by simp only []; omega)

theorem V_rows (c : Dev nD) : V m c main_v7 = (m ((c : Thread nD τ).loc main_arg0) : FVec Ideal S4352x1024 .f32) := by
  unfold V; after_reads_simp; rfl

/-- The block of the projection's rows that a grid point reads. -/
theorem rows_block (c : Dev nD) (t : Fin cfg0.N) (r : Fin 1088) (q : Fin 512) :
    iblk m c 0 t (ix2 r q) = (m ((c : Thread nD τ).loc main_arg0) : FVec Ideal S4352x1024 .f32) (ix2 ⟨t.val % 4 * 1088 + r.val, row_lt t r⟩ ⟨t.val / 4 * 512 + q.val, col_lt t q⟩) := by
  rw [← V_rows m c]
  blk_ext [iblk, idx t]

theorem V_piece_a (c : Dev nD) : V m c main_v2 = (m ((c : Thread nD τ).loc main_arg2) : FVec Ideal S4352x256 .f32) := by
  unfold V; after_reads_simp; rfl

/-- The rows of one cotangent that a grid point reads, as columns of the whole. -/
theorem piece_a_block (c : Dev nD) (t : Fin cfg0.N) (r : Fin 1088) (q : Fin 256) (h : q.val < 2944) :
    iblk m c 1 t (ix2 r q) = wide m c ⟨t.val % 4 * 1088 + r.val, row_lt t r⟩ ⟨q.val, h⟩ := by
  rw [wide_a, ← V_piece_a m c]
  blk_ext [iblk, idx t]

theorem V_piece_b (c : Dev nD) : V m c main_v3 = (m ((c : Thread nD τ).loc main_arg3) : FVec Ideal S4352x256 .f32) := by
  unfold V; after_reads_simp; rfl

/-- The rows of one cotangent that a grid point reads, as columns of the whole. -/
theorem piece_b_block (c : Dev nD) (t : Fin cfg0.N) (r : Fin 1088) (q : Fin 256) (h : 256 + q.val < 2944) :
    iblk m c 2 t (ix2 r q) = wide m c ⟨t.val % 4 * 1088 + r.val, row_lt t r⟩ ⟨256 + q.val, h⟩ := by
  rw [wide_b, ← V_piece_b m c]
  blk_ext [iblk, idx t]

theorem V_piece_c (c : Dev nD) : V m c main_v4 = (m ((c : Thread nD τ).loc main_arg4) : FVec Ideal S4352x512 .f32) := by
  unfold V; after_reads_simp; rfl

/-- The rows of one cotangent that a grid point reads, as columns of the whole. -/
theorem piece_c_block (c : Dev nD) (t : Fin cfg0.N) (r : Fin 1088) (q : Fin 512) (h : 512 + q.val < 2944) :
    iblk m c 3 t (ix2 r q) = wide m c ⟨t.val % 4 * 1088 + r.val, row_lt t r⟩ ⟨512 + q.val, h⟩ := by
  rw [wide_c, ← V_piece_c m c]
  blk_ext [iblk, idx t]

theorem V_piece_d (c : Dev nD) : V m c main_v5 = (m ((c : Thread nD τ).loc main_arg5) : FVec Ideal S4352x128 .f32) := by
  unfold V; after_reads_simp; rfl

/-- The rows of one cotangent that a grid point reads, as columns of the whole. -/
theorem piece_d_block (c : Dev nD) (t : Fin cfg0.N) (r : Fin 1088) (q : Fin 128) (h : 1024 + q.val < 2944) :
    iblk m c 4 t (ix2 r q) = wide m c ⟨t.val % 4 * 1088 + r.val, row_lt t r⟩ ⟨1024 + q.val, h⟩ := by
  rw [wide_d, ← V_piece_d m c]
  blk_ext [iblk, idx t]

theorem V_piece_e (c : Dev nD) : V m c main_arg6 = (m ((c : Thread nD τ).loc main_arg6) : FVec Ideal S4352x128 .f32) := by
  unfold V; after_reads_simp

/-- The rows of one cotangent that a grid point reads, as columns of the whole. -/
theorem piece_e_block (c : Dev nD) (t : Fin cfg0.N) (r : Fin 1088) (q : Fin 128) (h : 1152 + q.val < 2944) :
    iblk m c 5 t (ix2 r q) = wide m c ⟨t.val % 4 * 1088 + r.val, row_lt t r⟩ ⟨1152 + q.val, h⟩ := by
  rw [wide_e, ← V_piece_e m c]
  blk_ext [iblk, idx t]

theorem V_piece_f (c : Dev nD) : V m c main_arg7 = (m ((c : Thread nD τ).loc main_arg7) : FVec Ideal S4352x256 .f32) := by
  unfold V; after_reads_simp

/-- The rows of one cotangent that a grid point reads, as columns of the whole. -/
theorem piece_f_block (c : Dev nD) (t : Fin cfg0.N) (r : Fin 1088) (q : Fin 256) (h : 1280 + q.val < 2944) :
    iblk m c 6 t (ix2 r q) = wide m c ⟨t.val % 4 * 1088 + r.val, row_lt t r⟩ ⟨1280 + q.val, h⟩ := by
  rw [wide_f, ← V_piece_f m c]
  blk_ext [iblk, idx t]

theorem V_piece_g (c : Dev nD) : V m c main_arg8 = (m ((c : Thread nD τ).loc main_arg8) : FVec Ideal S4352x256 .f32) := by
  unfold V; after_reads_simp

/-- The rows of one cotangent that a grid point reads, as columns of the whole. -/
theorem piece_g_block (c : Dev nD) (t : Fin cfg0.N) (r : Fin 1088) (q : Fin 256) (h : 1536 + q.val < 2944) :
    iblk m c 7 t (ix2 r q) = wide m c ⟨t.val % 4 * 1088 + r.val, row_lt t r⟩ ⟨1536 + q.val, h⟩ := by
  rw [wide_g, ← V_piece_g m c]
  blk_ext [iblk, idx t]

theorem V_piece_h (c : Dev nD) : V m c main_v6 = (m ((c : Thread nD τ).loc main_arg9) : FVec Ideal S4352x1024 .f32) := by
  unfold V; after_reads_simp; rfl

/-- The rows of one cotangent that a grid point reads, as columns of the whole. -/
theorem piece_h_block (c : Dev nD) (t : Fin cfg0.N) (r : Fin 1088) (q : Fin 1024) (h : 1792 + q.val < 2944) :
    iblk m c 8 t (ix2 r q) = wide m c ⟨t.val % 4 * 1088 + r.val, row_lt t r⟩ ⟨1792 + q.val, h⟩ := by
  rw [wide_h, ← V_piece_h m c]
  blk_ext [iblk, idx t]

theorem V_piece_i (c : Dev nD) : V m c main_v1 = (padded (m ((c : Thread nD τ).loc main_arg10)) : FVec Ideal S4352x128 .f32) := by
  unfold V; after_reads_simp; rfl

/-- The rows of one cotangent that a grid point reads, as columns of the whole. -/
theorem piece_i_block (c : Dev nD) (t : Fin cfg0.N) (r : Fin 1088) (q : Fin 128) (h : 2816 + q.val < 2944) :
    iblk m c 9 t (ix2 r q) = wide m c ⟨t.val % 4 * 1088 + r.val, row_lt t r⟩ ⟨2816 + q.val, h⟩ := by
  rw [wide_i, ← V_piece_i m c]
  blk_ext [iblk, idx t]

/-- An element of the projection's rows. -/
def left (c : Dev nD) (r : Fin 4352) (q : Fin 1024) : EReal := (m ((c : Thread nD τ).loc main_arg0) : FVec Ideal S4352x1024 .f32) (ix2 r q)

/-- What one grid point adds to an element of the scratch. -/
def part (c : Dev nD) (t : Fin cfg0.N) (y : S512x2944.Idx) : EReal :=
  ∑ r : Fin 1088, left m c ⟨t.val % 4 * 1088 + r.val, row_lt t r⟩ ⟨t.val / 4 * 512 + (y 0).val, col_lt t (y 0)⟩ * wide m c ⟨t.val % 4 * 1088 + r.val, row_lt t r⟩ (y 1)

/-- One of the nine stores: what stood there, and the product's own element. -/
theorem store_a (c : Dev nD) (t : Fin cfg0.N) (prev : FVec Ideal S512x2944 .f32) (q : Fin 512) (j : Fin 256) (h : j.val < 2944) :
    k0_pay4 (View.ld (Val := Elt Ideal) (S := S512x2944) (e' := .f32) prev (Rect.unit ![0, 0] ![512, 256] inb_S512x2944_S512x256_0_0)) (iblk m c 0 t) (iblk m c 1 t) (ix2 q j)
      = prev (ix2 q ⟨j.val, h⟩) + part m c t (ix2 q ⟨j.val, h⟩) := by
  pointwise [k0_pay4, rows_block]
  refine congrArg₂ (fun a b : EReal => a + b) ?_ (Finset.sum_congr rfl fun r _ => congrArg (fun z : EReal => _ * z) (piece_a_block m c t r j h))
  rfl

/-- One of the nine stores: what stood there, and the product's own element. -/
theorem store_b (c : Dev nD) (t : Fin cfg0.N) (prev : FVec Ideal S512x2944 .f32) (q : Fin 512) (j : Fin 256) (h : 256 + j.val < 2944) :
    k0_pay5 (View.ld (Val := Elt Ideal) (S := S512x2944) (e' := .f32) prev (Rect.unit ![0, 256] ![512, 256] inb_S512x2944_S512x256_0_256)) (iblk m c 0 t) (iblk m c 2 t) (ix2 q j)
      = prev (ix2 q ⟨256 + j.val, h⟩) + part m c t (ix2 q ⟨256 + j.val, h⟩) := by
  pointwise [k0_pay5, rows_block]
  refine congrArg₂ (fun a b : EReal => a + b) ?_ (Finset.sum_congr rfl fun r _ => congrArg (fun z : EReal => _ * z) (piece_b_block m c t r j h))
  rfl

/-- One of the nine stores: what stood there, and the product's own element. -/
theorem store_c (c : Dev nD) (t : Fin cfg0.N) (prev : FVec Ideal S512x2944 .f32) (q : Fin 512) (j : Fin 512) (h : 512 + j.val < 2944) :
    k0_pay8 (View.ld (Val := Elt Ideal) (S := S512x2944) (e' := .f32) prev (Rect.unit ![0, 512] ![512, 512] inb_S512x2944_S512x512_0_512)) (k0_pay6 (iblk m c 0 t)) (k0_pay7 (iblk m c 3 t)) (constant S512x512 FTy.f32 0#32) (ix2 q j)
      = prev (ix2 q ⟨512 + j.val, h⟩) + part m c t (ix2 q ⟨512 + j.val, h⟩) := by
  pointwise [k0_pay8, k0_pay6, k0_pay7, rows_block]
  refine congrArg₂ (fun a b : EReal => a + b) ?_ (Finset.sum_congr rfl fun r _ => congrArg (fun z : EReal => _ * z) (piece_c_block m c t r j h))
  rfl

/-- One of the nine stores: what stood there, and the product's own element. -/
theorem store_d (c : Dev nD) (t : Fin cfg0.N) (prev : FVec Ideal S512x2944 .f32) (q : Fin 512) (j : Fin 128) (h : 1024 + j.val < 2944) :
    k0_pay9 (View.ld (Val := Elt Ideal) (S := S512x2944) (e' := .f32) prev (Rect.unit ![0, 1024] ![512, 128] inb_S512x2944_S512x128_0_1024)) (iblk m c 0 t) (iblk m c 4 t) (ix2 q j)
      = prev (ix2 q ⟨1024 + j.val, h⟩) + part m c t (ix2 q ⟨1024 + j.val, h⟩) := by
  pointwise [k0_pay9, rows_block]
  refine congrArg₂ (fun a b : EReal => a + b) ?_ (Finset.sum_congr rfl fun r _ => congrArg (fun z : EReal => _ * z) (piece_d_block m c t r j h))
  rfl

/-- One of the nine stores: what stood there, and the product's own element. -/
theorem store_e (c : Dev nD) (t : Fin cfg0.N) (prev : FVec Ideal S512x2944 .f32) (q : Fin 512) (j : Fin 128) (h : 1152 + j.val < 2944) :
    k0_pay10 (View.ld (Val := Elt Ideal) (S := S512x2944) (e' := .f32) prev (Rect.unit ![0, 1152] ![512, 128] inb_S512x2944_S512x128_0_1152)) (iblk m c 0 t) (iblk m c 5 t) (ix2 q j)
      = prev (ix2 q ⟨1152 + j.val, h⟩) + part m c t (ix2 q ⟨1152 + j.val, h⟩) := by
  pointwise [k0_pay10, rows_block]
  refine congrArg₂ (fun a b : EReal => a + b) ?_ (Finset.sum_congr rfl fun r _ => congrArg (fun z : EReal => _ * z) (piece_e_block m c t r j h))
  rfl

/-- One of the nine stores: what stood there, and the product's own element. -/
theorem store_f (c : Dev nD) (t : Fin cfg0.N) (prev : FVec Ideal S512x2944 .f32) (q : Fin 512) (j : Fin 256) (h : 1280 + j.val < 2944) :
    k0_pay13 (View.ld (Val := Elt Ideal) (S := S512x2944) (e' := .f32) prev (Rect.unit ![0, 1280] ![512, 256] inb_S512x2944_S512x256_0_1280)) (k0_pay11 (iblk m c 0 t)) (k0_pay12 (iblk m c 6 t)) (constant S512x256 FTy.f32 0#32) (ix2 q j)
      = prev (ix2 q ⟨1280 + j.val, h⟩) + part m c t (ix2 q ⟨1280 + j.val, h⟩) := by
  pointwise [k0_pay13, k0_pay11, k0_pay12, rows_block]
  refine congrArg₂ (fun a b : EReal => a + b) ?_ (Finset.sum_congr rfl fun r _ => congrArg (fun z : EReal => _ * z) (piece_f_block m c t r j h))
  rfl

/-- One of the nine stores: what stood there, and the product's own element. -/
theorem store_g (c : Dev nD) (t : Fin cfg0.N) (prev : FVec Ideal S512x2944 .f32) (q : Fin 512) (j : Fin 256) (h : 1536 + j.val < 2944) :
    k0_pay14 (View.ld (Val := Elt Ideal) (S := S512x2944) (e' := .f32) prev (Rect.unit ![0, 1536] ![512, 256] inb_S512x2944_S512x256_0_1536)) (iblk m c 0 t) (iblk m c 7 t) (ix2 q j)
      = prev (ix2 q ⟨1536 + j.val, h⟩) + part m c t (ix2 q ⟨1536 + j.val, h⟩) := by
  pointwise [k0_pay14, rows_block]
  refine congrArg₂ (fun a b : EReal => a + b) ?_ (Finset.sum_congr rfl fun r _ => congrArg (fun z : EReal => _ * z) (piece_g_block m c t r j h))
  rfl

/-- One of the nine stores: what stood there, and the product's own element. -/
theorem store_h (c : Dev nD) (t : Fin cfg0.N) (prev : FVec Ideal S512x2944 .f32) (q : Fin 512) (j : Fin 1024) (h : 1792 + j.val < 2944) :
    k0_pay15 (View.ld (Val := Elt Ideal) (S := S512x2944) (e' := .f32) prev (Rect.unit ![0, 1792] ![512, 1024] inb_S512x2944_S512x1024_0_1792)) (iblk m c 0 t) (iblk m c 8 t) (ix2 q j)
      = prev (ix2 q ⟨1792 + j.val, h⟩) + part m c t (ix2 q ⟨1792 + j.val, h⟩) := by
  pointwise [k0_pay15, rows_block]
  refine congrArg₂ (fun a b : EReal => a + b) ?_ (Finset.sum_congr rfl fun r _ => congrArg (fun z : EReal => _ * z) (piece_h_block m c t r j h))
  rfl

/-- One of the nine stores: what stood there, and the product's own element. -/
theorem store_i (c : Dev nD) (t : Fin cfg0.N) (prev : FVec Ideal S512x2944 .f32) (q : Fin 512) (j : Fin 128) (h : 2816 + j.val < 2944) :
    k0_pay1 (View.ld (Val := Elt Ideal) (S := S512x2944) (e' := .f32) prev (Rect.unit ![0, 2816] ![512, 128] inb_S512x2944_S512x128_0_2816)) (k0_pay16 (iblk m c 0 t)) (k0_pay17 (iblk m c 9 t)) (ix2 q j)
      = prev (ix2 q ⟨2816 + j.val, h⟩) + part m c t (ix2 q ⟨2816 + j.val, h⟩) := by
  pointwise [k0_pay1, k0_pay16, k0_pay17, rows_block]
  refine congrArg₂ (fun a b : EReal => a + b) ?_ (Finset.sum_congr rfl fun r _ => congrArg (fun z : EReal => _ * z) (piece_i_block m c t r j h))
  rfl

/-- The nine stores of one grid point over a scratch that held `prev`, the last first. -/
def nine (c : Dev nD) (t : Fin cfg0.N) (prev : FVec Ideal S512x2944 .f32) : List (View.Piece (Elt Ideal) S512x2944 .f32) :=
  [⟨Rect.unit ![0, 2816] ![512, 128] inb_S512x2944_S512x128_0_2816, k0_pay1 (View.ld (Val := Elt Ideal) (S := S512x2944) (e' := .f32) prev (Rect.unit ![0, 2816] ![512, 128] inb_S512x2944_S512x128_0_2816)) (k0_pay16 (iblk m c 0 t)) (k0_pay17 (iblk m c 9 t))⟩,
    ⟨Rect.unit ![0, 1792] ![512, 1024] inb_S512x2944_S512x1024_0_1792, k0_pay15 (View.ld (Val := Elt Ideal) (S := S512x2944) (e' := .f32) prev (Rect.unit ![0, 1792] ![512, 1024] inb_S512x2944_S512x1024_0_1792)) (iblk m c 0 t) (iblk m c 8 t)⟩,
    ⟨Rect.unit ![0, 1536] ![512, 256] inb_S512x2944_S512x256_0_1536, k0_pay14 (View.ld (Val := Elt Ideal) (S := S512x2944) (e' := .f32) prev (Rect.unit ![0, 1536] ![512, 256] inb_S512x2944_S512x256_0_1536)) (iblk m c 0 t) (iblk m c 7 t)⟩,
    ⟨Rect.unit ![0, 1280] ![512, 256] inb_S512x2944_S512x256_0_1280, k0_pay13 (View.ld (Val := Elt Ideal) (S := S512x2944) (e' := .f32) prev (Rect.unit ![0, 1280] ![512, 256] inb_S512x2944_S512x256_0_1280)) (k0_pay11 (iblk m c 0 t)) (k0_pay12 (iblk m c 6 t)) (constant S512x256 FTy.f32 0#32)⟩,
    ⟨Rect.unit ![0, 1152] ![512, 128] inb_S512x2944_S512x128_0_1152, k0_pay10 (View.ld (Val := Elt Ideal) (S := S512x2944) (e' := .f32) prev (Rect.unit ![0, 1152] ![512, 128] inb_S512x2944_S512x128_0_1152)) (iblk m c 0 t) (iblk m c 5 t)⟩,
    ⟨Rect.unit ![0, 1024] ![512, 128] inb_S512x2944_S512x128_0_1024, k0_pay9 (View.ld (Val := Elt Ideal) (S := S512x2944) (e' := .f32) prev (Rect.unit ![0, 1024] ![512, 128] inb_S512x2944_S512x128_0_1024)) (iblk m c 0 t) (iblk m c 4 t)⟩,
    ⟨Rect.unit ![0, 512] ![512, 512] inb_S512x2944_S512x512_0_512, k0_pay8 (View.ld (Val := Elt Ideal) (S := S512x2944) (e' := .f32) prev (Rect.unit ![0, 512] ![512, 512] inb_S512x2944_S512x512_0_512)) (k0_pay6 (iblk m c 0 t)) (k0_pay7 (iblk m c 3 t)) (constant S512x512 FTy.f32 0#32)⟩,
    ⟨Rect.unit ![0, 256] ![512, 256] inb_S512x2944_S512x256_0_256, k0_pay5 (View.ld (Val := Elt Ideal) (S := S512x2944) (e' := .f32) prev (Rect.unit ![0, 256] ![512, 256] inb_S512x2944_S512x256_0_256)) (iblk m c 0 t) (iblk m c 2 t)⟩,
    ⟨Rect.unit ![0, 0] ![512, 256] inb_S512x2944_S512x256_0_0, k0_pay4 (View.ld (Val := Elt Ideal) (S := S512x2944) (e' := .f32) prev (Rect.unit ![0, 0] ![512, 256] inb_S512x2944_S512x256_0_0)) (iblk m c 0 t) (iblk m c 1 t)⟩]

/-- Each of the nine stores leaves the grown elements of its own columns. -/
theorem pieces (c : Dev nD) (t : Fin cfg0.N) (prev : FVec Ideal S512x2944 .f32) :
    View.PiecesOf (Val := Elt Ideal) (s := S512x2944) (e := .f32) (fun y => (prev y + part m c t y : EReal)) (nine m c t prev) := by
  refine ⟨fun x => ?_, fun x => ?_, fun x => ?_, fun x => ?_, fun x => ?_, fun x => ?_, fun x => ?_, fun x => ?_, fun x => ?_, trivial⟩
  · have hl : 2816 + (x 1).val < 2944 := by have : (x 1).val < 128 := (x 1).isLt; omega
    have hx : x = ix2 (x 0 : Fin 512) (x 1 : Fin 128) := by funext a; fin_cases a <;> rfl
    have he : (Rect.unit ![0, 2816] ![512, 128] inb_S512x2944_S512x128_0_2816).emb x = (ix2 (x 0 : Fin 512) (⟨2816 + (x 1).val, hl⟩ : Fin 2944) : S512x2944.Idx) := by
      funext a; apply Fin.ext; refine (Rect.idx_unit_val _ _ _ x a).trans ?_; fin_cases a <;> simp
    exact (congrArg _ hx).trans ((store_i m c t prev (x 0) (x 1) hl).trans (congrArg (fun z : S512x2944.Idx => (prev z + part m c t z : EReal)) he.symm))
  · have hl : 1792 + (x 1).val < 2944 := by have : (x 1).val < 1024 := (x 1).isLt; omega
    have hx : x = ix2 (x 0 : Fin 512) (x 1 : Fin 1024) := by funext a; fin_cases a <;> rfl
    have he : (Rect.unit ![0, 1792] ![512, 1024] inb_S512x2944_S512x1024_0_1792).emb x = (ix2 (x 0 : Fin 512) (⟨1792 + (x 1).val, hl⟩ : Fin 2944) : S512x2944.Idx) := by
      funext a; apply Fin.ext; refine (Rect.idx_unit_val _ _ _ x a).trans ?_; fin_cases a <;> simp
    exact (congrArg _ hx).trans ((store_h m c t prev (x 0) (x 1) hl).trans (congrArg (fun z : S512x2944.Idx => (prev z + part m c t z : EReal)) he.symm))
  · have hl : 1536 + (x 1).val < 2944 := by have : (x 1).val < 256 := (x 1).isLt; omega
    have hx : x = ix2 (x 0 : Fin 512) (x 1 : Fin 256) := by funext a; fin_cases a <;> rfl
    have he : (Rect.unit ![0, 1536] ![512, 256] inb_S512x2944_S512x256_0_1536).emb x = (ix2 (x 0 : Fin 512) (⟨1536 + (x 1).val, hl⟩ : Fin 2944) : S512x2944.Idx) := by
      funext a; apply Fin.ext; refine (Rect.idx_unit_val _ _ _ x a).trans ?_; fin_cases a <;> simp
    exact (congrArg _ hx).trans ((store_g m c t prev (x 0) (x 1) hl).trans (congrArg (fun z : S512x2944.Idx => (prev z + part m c t z : EReal)) he.symm))
  · have hl : 1280 + (x 1).val < 2944 := by have : (x 1).val < 256 := (x 1).isLt; omega
    have hx : x = ix2 (x 0 : Fin 512) (x 1 : Fin 256) := by funext a; fin_cases a <;> rfl
    have he : (Rect.unit ![0, 1280] ![512, 256] inb_S512x2944_S512x256_0_1280).emb x = (ix2 (x 0 : Fin 512) (⟨1280 + (x 1).val, hl⟩ : Fin 2944) : S512x2944.Idx) := by
      funext a; apply Fin.ext; refine (Rect.idx_unit_val _ _ _ x a).trans ?_; fin_cases a <;> simp
    exact (congrArg _ hx).trans ((store_f m c t prev (x 0) (x 1) hl).trans (congrArg (fun z : S512x2944.Idx => (prev z + part m c t z : EReal)) he.symm))
  · have hl : 1152 + (x 1).val < 2944 := by have : (x 1).val < 128 := (x 1).isLt; omega
    have hx : x = ix2 (x 0 : Fin 512) (x 1 : Fin 128) := by funext a; fin_cases a <;> rfl
    have he : (Rect.unit ![0, 1152] ![512, 128] inb_S512x2944_S512x128_0_1152).emb x = (ix2 (x 0 : Fin 512) (⟨1152 + (x 1).val, hl⟩ : Fin 2944) : S512x2944.Idx) := by
      funext a; apply Fin.ext; refine (Rect.idx_unit_val _ _ _ x a).trans ?_; fin_cases a <;> simp
    exact (congrArg _ hx).trans ((store_e m c t prev (x 0) (x 1) hl).trans (congrArg (fun z : S512x2944.Idx => (prev z + part m c t z : EReal)) he.symm))
  · have hl : 1024 + (x 1).val < 2944 := by have : (x 1).val < 128 := (x 1).isLt; omega
    have hx : x = ix2 (x 0 : Fin 512) (x 1 : Fin 128) := by funext a; fin_cases a <;> rfl
    have he : (Rect.unit ![0, 1024] ![512, 128] inb_S512x2944_S512x128_0_1024).emb x = (ix2 (x 0 : Fin 512) (⟨1024 + (x 1).val, hl⟩ : Fin 2944) : S512x2944.Idx) := by
      funext a; apply Fin.ext; refine (Rect.idx_unit_val _ _ _ x a).trans ?_; fin_cases a <;> simp
    exact (congrArg _ hx).trans ((store_d m c t prev (x 0) (x 1) hl).trans (congrArg (fun z : S512x2944.Idx => (prev z + part m c t z : EReal)) he.symm))
  · have hl : 512 + (x 1).val < 2944 := by have : (x 1).val < 512 := (x 1).isLt; omega
    have hx : x = ix2 (x 0 : Fin 512) (x 1 : Fin 512) := by funext a; fin_cases a <;> rfl
    have he : (Rect.unit ![0, 512] ![512, 512] inb_S512x2944_S512x512_0_512).emb x = (ix2 (x 0 : Fin 512) (⟨512 + (x 1).val, hl⟩ : Fin 2944) : S512x2944.Idx) := by
      funext a; apply Fin.ext; refine (Rect.idx_unit_val _ _ _ x a).trans ?_; fin_cases a <;> simp
    exact (congrArg _ hx).trans ((store_c m c t prev (x 0) (x 1) hl).trans (congrArg (fun z : S512x2944.Idx => (prev z + part m c t z : EReal)) he.symm))
  · have hl : 256 + (x 1).val < 2944 := by have : (x 1).val < 256 := (x 1).isLt; omega
    have hx : x = ix2 (x 0 : Fin 512) (x 1 : Fin 256) := by funext a; fin_cases a <;> rfl
    have he : (Rect.unit ![0, 256] ![512, 256] inb_S512x2944_S512x256_0_256).emb x = (ix2 (x 0 : Fin 512) (⟨256 + (x 1).val, hl⟩ : Fin 2944) : S512x2944.Idx) := by
      funext a; apply Fin.ext; refine (Rect.idx_unit_val _ _ _ x a).trans ?_; fin_cases a <;> simp
    exact (congrArg _ hx).trans ((store_b m c t prev (x 0) (x 1) hl).trans (congrArg (fun z : S512x2944.Idx => (prev z + part m c t z : EReal)) he.symm))
  · have hl : (x 1).val < 2944 := by have : (x 1).val < 256 := (x 1).isLt; omega
    have hx : x = ix2 (x 0 : Fin 512) (x 1 : Fin 256) := by funext a; fin_cases a <;> rfl
    have he : (Rect.unit ![0, 0] ![512, 256] inb_S512x2944_S512x256_0_0).emb x = (ix2 (x 0 : Fin 512) (⟨(x 1).val, hl⟩ : Fin 2944) : S512x2944.Idx) := by
      funext a; apply Fin.ext; refine (Rect.idx_unit_val _ _ _ x a).trans ?_; fin_cases a <;> simp
    exact (congrArg _ hx).trans ((store_a m c t prev (x 0) (x 1) hl).trans (congrArg (fun z : S512x2944.Idx => (prev z + part m c t z : EReal)) he.symm))

/-- The nine stores tile the scratch. -/
theorem tiled (c : Dev nD) (t : Fin cfg0.N) (prev : FVec Ideal S512x2944 .f32) : View.Piece.tiledBy (nine m c t prev) ![512, 128] = true := by
  unfold nine
  sl_kernel_rfl

/-- After the nine stores every element has grown by its part, whatever was stored before them. -/
theorem grows (c : Dev nD) (t : Fin cfg0.N) (prev : FVec Ideal S512x2944 .f32) (L : List (View.Piece (Elt Ideal) S512x2944 .f32)) (y : S512x2944.Idx) :
    View.canon (nine m c t prev ++ L) y = (prev y + part m c t y : EReal) := by
  exact View.canon_append_of_pieces (Val := Elt Ideal) (S := S512x2944) (e := .f32) (fun y => (prev y + part m c t y : EReal)) L (nine m c t prev)
    (fun p hp x => (pieces m c t prev).mem p hp x) y (View.cover_of_tiledBy (nine m c t prev) ![512, 128] (tiled m c t prev) y)

/-- The store of zeros at the first of four points. -/
def fill : View.Piece (Elt Ideal) S512x2944 .f32 := ⟨Rect.unit ![0, 0] ![512, 2944] inb_S512x2944_S512x2944_0_0, k0_pay3 (F := Ideal)⟩

theorem fill_at (y : S512x2944.Idx) : k0_pay3 (F := Ideal) y = (0 : EReal) := by
  pointwise [k0_pay3]

/-- The first of four grid points starts from zeros. -/
theorem step_first (c : Dev nD) (t : Fin cfg0.N) (h0 : t.val % 4 = 0) (h1 : ¬ t.val % 4 = 3) (y : S512x2944.Idx) :
    (outsAt0 m c t.val t.isLt).2 y = (0 + part m c t y : EReal) := by
  rw [outsAt0_A m c t h0 h1]
  frame_out
  simp (disch := decide) only [↓ View.readCov_skip, ↓ View.readCov_cons_toLoadRect, ↓ View.readCov_fill]
  exact (grows m c t (k0_pay3 (F := Ideal)) [fill] y).trans (congrArg (fun z : EReal => z + part m c t y) (fill_at y))

/-- A point between adds to what the point before left. -/
theorem step_mid (c : Dev nD) (t : Fin cfg0.N) (h0 : ¬ t.val % 4 = 0) (h1 : ¬ t.val % 4 = 3) (y : S512x2944.Idx) :
    (outsAt0 m c t.val t.isLt).2 y = ((outsAt0 m c (t.val - 1) (by omega)).2 y + part m c t y : EReal) := by
  rw [outsAt0_B m c t h0 h1]
  frame_out
  simp only [read_unread_whole]
  exact grows m c t _ [] y

/-- So does the last point. -/
theorem step_last (c : Dev nD) (t : Fin cfg0.N) (h0 : ¬ t.val % 4 = 0) (h1 : t.val % 4 = 3) (y : S512x2944.Idx) :
    (outsAt0 m c t.val t.isLt).2 y = ((outsAt0 m c (t.val - 1) (by omega)).2 y + part m c t y : EReal) := by
  rw [outsAt0_C m c t h0 h1]
  frame_out
  simp only [read_unread_whole]
  exact grows m c t _ [] y

theorem cast_scratch (Z : FVec Ideal S512x2944 .f32) (y : S512x2944.Idx) : (k0_pay2 (F := Ideal) Z y : EReal) = Z y := by
  pointwise [k0_pay2]

/-- The last point stores the scratch. -/
theorem stored (c : Dev nD) (t : Fin cfg0.N) (h0 : ¬ t.val % 4 = 0) (h1 : t.val % 4 = 3) (y : S512x2944.Idx) :
    (outsAt0 m c t.val t.isLt).1 y = (((outsAt0 m c t.val t.isLt).2 y : EReal) : EReal) := by
  refine Eq.trans ?_ (step_last m c t h0 h1 y).symm
  rw [outsAt0_C m c t h0 h1]
  frame_out
  simp only [read_unread_whole]
  refine (cast_scratch _ y).trans ?_
  rw [View.readCov_eq_canon']
  refine (View.ld_unit_apply_of _ _ _ _ _ y fun a => ?_).trans (grows m c t _ [] y)
  exact (Fin.forall_fin_two.mpr ⟨by simp, by simp⟩ : ∀ a : Fin 2, (y a).val = ![0, 0] a + (y a).val) a

/-- At the last of four points the scratch holds what the four added. -/
theorem total (c : Dev nD) (t : Fin cfg0.N) (hr : t.val % 4 = 3) (y : S512x2944.Idx) :
    (outsAt0 m c t.val t.isLt).2 y = ∑ s : Fin 4, (part m c ⟨4 * (t.val / 4) + s.val, Pipeline.run_point_lt_of_flush t hr s⟩ y : EReal) := by
  have h := Pipeline.eq_sum_fin_of_reset_step_apply_of_flush (M := EReal) (ι := S512x2944.Idx) (fun n h => (outsAt0 m c n h).2) 4 (fun _ => 0) (part m c)
    (fun t h y => step_first m c t h (by omega) y)
    (fun t h y => by
      by_cases h1 : t.val % 4 = 3
      · exact step_last m c t h h1 y
      · exact step_mid m c t h h1 y) t hr y
  exact h.trans (zero_add _)

/-- An element of the reference's gradient. -/
theorem ref_at (c : Dev nD) (i : Fin 1024) (j : Fin 2944) :
    Cert.Reference12Ideal.Read.val_main_v32 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 i j) = ∑ r : Fin 4352, (left m c r i * wide m c r j : EReal) := by
  by_cases hj : j.val < 2832
  · pointwise [Cert.Reference12Ideal.Read.val_main_v32, Cert.Reference12Ideal.Read.val_main_v31, Cert.Reference12Ideal.Read.val_main_v28, Cert.Reference12Ideal.Read.val_main_v27, cotangent_eq]
    rw [dif_pos hj]
    refine Finset.sum_congr rfl fun r _ => ?_
    refine (mul_comm (G := EReal) _ _).trans (congrArg (fun z : EReal => left m c r i * z) ?_)
    unfold wide
    rw [dif_pos hj]
  · refine Eq.trans (b := (0 : EReal)) ?_ (Finset.sum_eq_zero fun r _ => (congrArg (fun z : EReal => left m c r i * z) (dif_neg hj)).trans (mul_zero _)).symm
    pointwise [Cert.Reference12Ideal.Read.val_main_v32, Cert.Reference12Ideal.Read.val_main_v31, Cert.Reference12Ideal.Read.val_main_v30, Cert.Reference12Ideal.Read.val_main_cst_8]
    rw [dif_neg hj]

/-- Where an element of the stored block lands. -/
theorem lands (t : Fin cfg0.N) (y : S512x2944.Idx) :
    (win0_10.blk t).view.emb y = ix2 ⟨t.val / 4 * 512 + (y 0).val, col_lt t (y 0)⟩ (y 1) := by
  blk_ext [idx t]

/-- The four points' parts are the reference's sum over all rows. -/
theorem point (c : Dev nD) (t : Fin cfg0.N) (hr : t.val % 4 = 3) (y : S512x2944.Idx) :
    (outsAt0 m c t.val t.isLt).1 y = Cert.Reference12Ideal.Read.val_main_v32 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ((win0_10.blk t).view.emb y) := by
  rw [lands t y]
  refine (stored m c t (by omega) hr y).trans ((total m c t hr y).trans (Eq.trans ?_ (ref_at m c _ _).symm))
  unfold part
  refine Fin.sum_mul_add_congr fun s r hl => ?_
  have h1 : (4 * (t.val / 4) + s.val) % 4 = s.val := by have := s.isLt; omega
  have h2 : (4 * (t.val / 4) + s.val) / 4 = t.val / 4 := by have := s.isLt; omega
  simp only [h1, h2]

/-- The result array of the kernel is the reference's. -/
theorem final (c : Dev nD) : (dats m 0 c).arrAt 10 cfg0.N = Cert.Reference12Ideal.Read.val_main_v32 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 10 _ (by decide +kernel) fun t hf y => ?_
  blk_simp
  rw [after0_10]
  exact point m c t ((flush0_10 t).mp hf) y

end Cert.Kernel12Ideal.Dw

namespace Cert.Proof

open Idealize.ShloMosaic Idealize.SL.Sem

/-- From equal arguments the kernel and the reference end with equal results. -/
theorem algebraic_in_dw : Cert.algebraic_Kernel12Ideal_Reference12Ideal (hKernel12Ideal := Cert.Kernel12Ideal.Gen.facts)
    (hReference12Ideal := Cert.Reference12Ideal.Gen.facts) := by
  intro m g m' g' _ hargs
  refine ⟨_, Cert.Kernel12Ideal.Value.run_blocks (F := Ideal) m g, ?_⟩
  refine (θ_run (Cert.Reference12Ideal.defs (F := Ideal)) _ _).mono (fun r h c => ?_) (Cert.Reference12Ideal.Value.run (F := Ideal) m' g')
  refine ⟨(h c).1.trans ?_, (h c).2⟩
  rw [Cert.Kernel12Ideal.Dw.final, (hargs c).1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2.1, (hargs c).2.2.2.2.2.2.2.2.2.2]
  exact Cert.Reference12Ideal.Read.val_main_v32_eq _ _ _ _ _ _ _ _ _ _

end Cert.Proof

end
-- ==== Proof.ActDx.lean ====
/- The gradient of the convolution's activation: the kernel's row blocks are the derivative of the sigmoid-weighted unit, at the sum of the cotangents. -/
module

public import proofs.«01_k».proof.Defs
public import proofs.«01_k».proof.Proof.Gen.Kernel13Ideal.Value
public import proofs.«01_k».proof.Proof.Gen.Pre_cotangents_finite
public import proofs.«01_k».proof.Proof.Gen.Reference13Ideal.Run
public import proofs.«01_k».proof.Proof.Gen.Reference13Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Kernel13Ideal.Act

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The rows of argument 0 that a grid point reads. -/
theorem block0 (c : Dev nD) (t : Fin cfg0.N) (x : S256x1024.Idx) :
    iblk m c 0 t x = (m ((c : Thread nD τ).loc main_arg0) : FVec Ideal S4352x1024 .f32) (ix2 ⟨t.val * 256 + (x 0).val, by have := t.isLt; have : cfg0.N = 17 := N_0; have : (x 0).val < 256 := (x 0).isLt; omega⟩ (x 1)) := by
  have hv : V m c main_arg0 = (m ((c : Thread nD τ).loc main_arg0) : FVec Ideal S4352x1024 .f32) := by
    unfold V; after_reads_simp
  rw [← hv]
  blk_ext [iblk, idx t]

/-- The rows of argument 1 that a grid point reads. -/
theorem block1 (c : Dev nD) (t : Fin cfg0.N) (x : S256x512.Idx) :
    iblk m c 1 t x = (m ((c : Thread nD τ).loc main_arg1) : FVec Ideal S4352x512 .f32) (ix2 ⟨t.val * 256 + (x 0).val, by have := t.isLt; have : cfg0.N = 17 := N_0; have : (x 0).val < 256 := (x 0).isLt; omega⟩ (x 1)) := by
  have hv : V m c main_arg1 = (m ((c : Thread nD τ).loc main_arg1) : FVec Ideal S4352x512 .f32) := by
    unfold V; after_reads_simp
  rw [← hv]
  blk_ext [iblk, idx t]

/-- The rows of argument 2 that a grid point reads. -/
theorem block2 (c : Dev nD) (t : Fin cfg0.N) (x : S256x512.Idx) :
    iblk m c 2 t x = (m ((c : Thread nD τ).loc main_arg2) : FVec Ideal S4352x512 .f32) (ix2 ⟨t.val * 256 + (x 0).val, by have := t.isLt; have : cfg0.N = 17 := N_0; have : (x 0).val < 256 := (x 0).isLt; omega⟩ (x 1)) := by
  have hv : V m c main_arg2 = (m ((c : Thread nD τ).loc main_arg2) : FVec Ideal S4352x512 .f32) := by
    unfold V; after_reads_simp
  rw [← hv]
  blk_ext [iblk, idx t]

/-- The rows of argument 3 that a grid point reads. -/
theorem block3 (c : Dev nD) (t : Fin cfg0.N) (x : S256x512.Idx) :
    iblk m c 3 t x = (m ((c : Thread nD τ).loc main_arg3) : FVec Ideal S4352x512 .f32) (ix2 ⟨t.val * 256 + (x 0).val, by have := t.isLt; have : cfg0.N = 17 := N_0; have : (x 0).val < 256 := (x 0).isLt; omega⟩ (x 1)) := by
  have hv : V m c main_arg3 = (m ((c : Thread nD τ).loc main_arg3) : FVec Ideal S4352x512 .f32) := by
    unfold V; after_reads_simp
  rw [← hv]
  blk_ext [iblk, idx t]

/-- The rows of argument 4 that a grid point reads. -/
theorem block4 (c : Dev nD) (t : Fin cfg0.N) (x : S256x256.Idx) :
    iblk m c 4 t x = (m ((c : Thread nD τ).loc main_arg4) : FVec Ideal S4352x256 .f32) (ix2 ⟨t.val * 256 + (x 0).val, by have := t.isLt; have : cfg0.N = 17 := N_0; have : (x 0).val < 256 := (x 0).isLt; omega⟩ (x 1)) := by
  have hv : V m c main_arg4 = (m ((c : Thread nD τ).loc main_arg4) : FVec Ideal S4352x256 .f32) := by
    unfold V; after_reads_simp
  rw [← hv]
  blk_ext [iblk, idx t]

/-- The rows of argument 5 that a grid point reads. -/
theorem block5 (c : Dev nD) (t : Fin cfg0.N) (x : S256x256.Idx) :
    iblk m c 5 t x = (m ((c : Thread nD τ).loc main_arg5) : FVec Ideal S4352x256 .f32) (ix2 ⟨t.val * 256 + (x 0).val, by have := t.isLt; have : cfg0.N = 17 := N_0; have : (x 0).val < 256 := (x 0).isLt; omega⟩ (x 1)) := by
  have hv : V m c main_arg5 = (m ((c : Thread nD τ).loc main_arg5) : FVec Ideal S4352x256 .f32) := by
    unfold V; after_reads_simp
  rw [← hv]
  blk_ext [iblk, idx t]

/-- The rows of argument 6 that a grid point reads. -/
theorem block6 (c : Dev nD) (t : Fin cfg0.N) (x : S256x256.Idx) :
    iblk m c 6 t x = (m ((c : Thread nD τ).loc main_arg6) : FVec Ideal S4352x256 .f32) (ix2 ⟨t.val * 256 + (x 0).val, by have := t.isLt; have : cfg0.N = 17 := N_0; have : (x 0).val < 256 := (x 0).isLt; omega⟩ (x 1)) := by
  have hv : V m c main_arg6 = (m ((c : Thread nD τ).loc main_arg6) : FVec Ideal S4352x256 .f32) := by
    unfold V; after_reads_simp
  rw [← hv]
  blk_ext [iblk, idx t]

/-- The rows of argument 7 that a grid point reads. -/
theorem block7 (c : Dev nD) (t : Fin cfg0.N) (x : S256x256.Idx) :
    iblk m c 7 t x = (m ((c : Thread nD τ).loc main_arg7) : FVec Ideal S4352x256 .f32) (ix2 ⟨t.val * 256 + (x 0).val, by have := t.isLt; have : cfg0.N = 17 := N_0; have : (x 0).val < 256 := (x 0).isLt; omega⟩ (x 1)) := by
  have hv : V m c main_arg7 = (m ((c : Thread nD τ).loc main_arg7) : FVec Ideal S4352x256 .f32) := by
    unfold V; after_reads_simp
  rw [← hv]
  blk_ext [iblk, idx t]

/-- An extended real whose magnitude is below the infinite word is a real number. -/
theorem real_of_lt {x : EReal} (h : BitVec.ofBool (decide (FloatOps.absf (F := Ideal) (φ := .f32) x < Ideal.ofBits FTy.f32 0x7F800000#32)) = 1#1) :
    ∃ r : ℝ, x = r := by
  have h0 : Ideal.ofBits FTy.f32 0x7F800000#32 = ⊤ := by simp [Ideal.ofBits, Ideal.ieee]
  rw [h0] at h
  have hd : FloatOps.absf (F := Ideal) (φ := .f32) x < (⊤ : EReal) := by
    by_contra hn
    rw [decide_eq_false hn] at h
    exact absurd h (by decide)
  have hm : max x (-x) < ⊤ := hd
  induction x using EReal.rec with
  | bot => simp at hm
  | coe r => exact ⟨r, rfl⟩
  | top => simp at hm

/-- The sum of two real numbers is one. -/
theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

/-- The precondition, element by element: every cotangent is a real number. -/
theorem cotangents_real (h : Cert.Pre_Kernel13Ideal_cotangents_finite (hPre_cotangents_finite := Cert.Pre_cotangents_finite.Gen.facts) m) (c : Dev nD) :
    (∀ i : S4352x512.Idx, ∃ r : ℝ, (m ((c : Thread nD τ).loc main_arg1) : FVec Ideal S4352x512 .f32) i = (r : EReal)) ∧ (∀ i : S4352x512.Idx, ∃ r : ℝ, (m ((c : Thread nD τ).loc main_arg2) : FVec Ideal S4352x512 .f32) i = (r : EReal)) ∧ (∀ i : S4352x512.Idx, ∃ r : ℝ, (m ((c : Thread nD τ).loc main_arg3) : FVec Ideal S4352x512 .f32) i = (r : EReal)) ∧ (∀ i : S4352x256.Idx, ∃ r : ℝ, (m ((c : Thread nD τ).loc main_arg4) : FVec Ideal S4352x256 .f32) i = (r : EReal)) ∧ (∀ i : S4352x256.Idx, ∃ r : ℝ, (m ((c : Thread nD τ).loc main_arg5) : FVec Ideal S4352x256 .f32) i = (r : EReal)) ∧ (∀ i : S4352x256.Idx, ∃ r : ℝ, (m ((c : Thread nD τ).loc main_arg6) : FVec Ideal S4352x256 .f32) i = (r : EReal)) ∧ (∀ i : S4352x256.Idx, ∃ r : ℝ, (m ((c : Thread nD τ).loc main_arg7) : FVec Ideal S4352x256 .f32) i = (r : EReal)) := by
  obtain ⟨h1, h2, h3, h4, h5, h6, h7⟩ := h c
  refine ⟨fun i => ?_, fun i => ?_, fun i => ?_, fun i => ?_, fun i => ?_, fun i => ?_, fun i => ?_⟩
  · have e := congrFun h1 i
    pointwise [Cert.Pre_cotangents_finite.fn, Cert.Pre_cotangents_finite.fn_part1] at e
    exact real_of_lt e
  · have e := congrFun h2 i
    pointwise [Cert.Pre_cotangents_finite.fn, Cert.Pre_cotangents_finite.fn_part1] at e
    exact real_of_lt e
  · have e := congrFun h3 i
    pointwise [Cert.Pre_cotangents_finite.fn, Cert.Pre_cotangents_finite.fn_part1] at e
    exact real_of_lt e
  · have e := congrFun h4 i
    pointwise [Cert.Pre_cotangents_finite.fn, Cert.Pre_cotangents_finite.fn_part1] at e
    exact real_of_lt e
  · have e := congrFun h5 i
    pointwise [Cert.Pre_cotangents_finite.fn, Cert.Pre_cotangents_finite.fn_part1] at e
    exact real_of_lt e
  · have e := congrFun h6 i
    pointwise [Cert.Pre_cotangents_finite.fn, Cert.Pre_cotangents_finite.fn_part1] at e
    exact real_of_lt e
  · have e := congrFun h7 i
    pointwise [Cert.Pre_cotangents_finite.fn, Cert.Pre_cotangents_finite.fn_part1] at e
    exact real_of_lt e

/-- The two ways of writing the derivative of `x ↦ x · sigmoid x` agree at a finite cotangent. -/
theorem slope (x c : EReal) (h : ∃ r : ℝ, c = r) :
    c * (Ideal.div 1 (1 + Ideal.exp (0 - x)) + x * Ideal.div 1 (1 + Ideal.exp (0 - x)) * (1 - Ideal.div 1 (1 + Ideal.exp (0 - x))))
      = c * Ideal.div 1 (1 + Ideal.exp (-x)) + x * c * (Ideal.div 1 (1 + Ideal.exp (-x)) * (1 - Ideal.div 1 (1 + Ideal.exp (-x)))) := by
  obtain ⟨r, rfl⟩ := h
  rw [zero_sub]
  induction x using EReal.rec with
  | bot =>
    have hs : Ideal.div 1 (1 + Ideal.exp (-⊥)) = 0 := by
      rw [EReal.neg_bot, Ideal.exp_top, EReal.add_top_of_ne_bot (by decide), Ideal.div, if_neg (by decide), EReal.inv_top, mul_zero]
    rw [hs]; simp
  | coe z =>
    have hs : Ideal.div 1 (1 + Ideal.exp (-(z : EReal))) = ((1 / (1 + Real.exp (-z)) : ℝ) : EReal) := by
      rw [← EReal.coe_neg, Ideal.exp_coe, ← EReal.coe_one, ← EReal.coe_add, Ideal.div_coe (by positivity), ← EReal.coe_mul, one_mul]
    rw [hs, ← EReal.coe_one]
    norm_cast
    ring
  | top =>
    have hs : Ideal.div 1 (1 + Ideal.exp (-⊤)) = 1 := by
      rw [EReal.neg_top, Ideal.exp_bot, add_zero, ← EReal.coe_one, Ideal.div_coe one_ne_zero]; simp
    rw [hs]
    have h0 : (1 : EReal) - 1 = 0 := by rw [← EReal.coe_one, ← EReal.coe_sub, sub_self, EReal.coe_zero]
    rw [h0]; simp

/-- Where an element of the stored block lands. -/
theorem lands (t : Fin cfg0.N) (y : S256x1024.Idx) :
    (win0_8.blk t).view.emb y = ix2 ⟨t.val * 256 + (y 0).val, by have := t.isLt; have : cfg0.N = 17 := N_0; have : (y 0).val < 256 := (y 0).isLt; omega⟩ (y 1) := by
  blk_ext [idx t]

/-- One stored element is the reference's element at the place where it lands. -/
theorem point (hpre : Cert.Pre_Kernel13Ideal_cotangents_finite (hPre_cotangents_finite := Cert.Pre_cotangents_finite.Gen.facts) m) (c : Dev nD) (t : Fin cfg0.N) (y : S256x1024.Idx) :
    outsAt0 m c t y = Cert.Reference13Ideal.Read.val_main_v9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ((win0_8.blk t).view.emb y) := by
  obtain ⟨f1, f2, f3, f4, f5, f6, f7⟩ := cotangents_real m hpre c
  rw [lands t y]
  unfold outsAt0
  frame_out
  canon_tiles x h using View.cover_of_tiledBy _ ![256,256] (by sl_kernel_rfl) y
  all_goals
    open_payloads
    pointwise [k0_pay1, k0_pay2, k0_pay3, block0, block1, block2, block3, block4, block5, block6, block7, Cert.Reference13Ideal.Read.val_main_v9, Cert.Reference13Ideal.Read.val_main_call1_v2, Cert.Reference13Ideal.Read.val_main_v0_1, Cert.Reference13Ideal.Read.val_main_call0_v7, Cert.Reference13Ideal.Read.val_main_v0_2, Cert.Reference13Ideal.Read.val_main_call0_v3, Cert.Reference13Ideal.Read.val_main_call0_v1, Cert.Reference13Ideal.Read.val_main_call0_v0, Cert.Reference13Ideal.Read.val_main_call0_v2, Cert.Reference13Ideal.Read.val_main_call0_cst, Cert.Reference13Ideal.Read.val_main_call0_v4, Cert.Reference13Ideal.Read.val_main_call0_cst_0, Cert.Reference13Ideal.Read.val_main_call0_v6, Cert.Reference13Ideal.Read.val_main_call0_cst_1, Cert.Reference13Ideal.Read.val_main_call1_v0, Cert.Reference13Ideal.Read.val_main_v8, Cert.Reference13Ideal.Read.val_main_v7, Cert.Reference13Ideal.Read.val_main_v6, Cert.Reference13Ideal.Read.val_main_v5, Cert.Reference13Ideal.Read.val_main_v4, Cert.Reference13Ideal.Read.val_main_call1_v1]
    simp (disch := omega) only [dif_pos, dif_neg]
    refine Eq.trans ?_ (slope _ _ ?_)
    · blk_point []
    · first
      | exact real_add (real_add (f1 _) (f2 _)) (f3 _)
      | exact real_add (f4 _) (f5 _)
      | exact real_add (f6 _) (f7 _)

/-- The result array of the kernel is the reference's. -/
theorem final (hpre : Cert.Pre_Kernel13Ideal_cotangents_finite (hPre_cotangents_finite := Cert.Pre_cotangents_finite.Gen.facts) m) (c : Dev nD) : (dats m 0 c).arrAt 8 cfg0.N
    = Cert.Reference13Ideal.Read.val_main_v9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  exact point m hpre c t y

end Cert.Kernel13Ideal.Act

namespace Cert.Proof

open Idealize.ShloMosaic Idealize.SL.Sem

/-- From equal arguments whose cotangents are finite the kernel and the reference end with equal results. -/
theorem algebraic_act : Cert.algebraic_Kernel13Ideal_Reference13Ideal_pre_cotangents_finite (hKernel13Ideal := Cert.Kernel13Ideal.Gen.facts)
    (hReference13Ideal := Cert.Reference13Ideal.Gen.facts) (hPre_cotangents_finite := Cert.Pre_cotangents_finite.Gen.facts) := by
  intro m g m' g' hpre hargs
  refine ⟨_, Cert.Kernel13Ideal.Value.run_blocks (F := Ideal) m g, ?_⟩
  refine (θ_run (Cert.Reference13Ideal.defs (F := Ideal)) _ _).mono (fun r h c => ?_) (Cert.Reference13Ideal.Value.run (F := Ideal) m' g')
  refine ⟨(h c).1.trans ?_, (h c).2⟩
  rw [Cert.Kernel13Ideal.Act.final m hpre c, (hargs c).1, (hargs c).2.1, (hargs c).2.2.1, (hargs c).2.2.2.1, (hargs c).2.2.2.2.1, (hargs c).2.2.2.2.2.1, (hargs c).2.2.2.2.2.2.1, (hargs c).2.2.2.2.2.2.2]
  exact Cert.Reference13Ideal.Read.val_main_v9_eq _ _ _ _ _ _ _ _

end Cert.Proof

end
-- ==== Proof.ConvDx.lean ====
/- The gradient of the depthwise convolution: the kernel's row blocks with their halos are the derivative of the two sequences' convolutions. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.KernelVsHost
public import Idealize.ShloMosaic.Lib.StableHlo.RunRead

@[expose] public section

set_option maxRecDepth 16384

noncomputable section

open Cert.Reference14Ideal.Read

namespace Cert.Kernel14Ideal.ConvDx

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val * 32 - 1, 0] ∧ win0_1.index t = ![t.val, 0] ∧ win0_2.index t = ![min (t.val * 32 + 32) 543, 0] ∧ win0_3.index t = ![t.val * 32 - 1, 1] ∧ win0_4.index t = ![t.val, 1] ∧ win0_5.index t = ![min (t.val * 32 + 32) 543, 1] ∧ win0_6.index t = ![t.val * 32 - 1, 2] ∧ win0_7.index t = ![t.val, 2] ∧ win0_8.index t = ![min (t.val * 32 + 32) 543, 2] ∧ win0_9.index t = ![t.val * 32 - 1, 3] ∧ win0_10.index t = ![t.val, 3] ∧ win0_11.index t = ![min (t.val * 32 + 32) 543, 3] ∧ win0_16.index t = ![0, 0] ∧ win0_17.index t = ![t.val, 0] :=
  (by decide +kernel : ∀ t : Fin grid0.N, _)

/-- The row of the whole arrays that a row of grid point `t`'s block is. -/
def row (t : Fin cfg0.N) (r : Fin 256) : Fin 4352 :=
  ⟨t.val * 256 + r.val, by have := t.isLt; have : cfg0.N = 17 := N_0; omega⟩

/-- A row of the halo before grid point `t`'s block (of the block's own first rows at the first point). -/
def rowBefore (t : Fin cfg0.N) (r : Fin 8) : Fin 4352 :=
  ⟨(t.val * 32 - 1) * 8 + r.val, by have := t.isLt; have : cfg0.N = 17 := N_0; omega⟩

/-- A row of the halo behind grid point `t`'s block (of the last rows at the last point). -/
def rowBehind (t : Fin cfg0.N) (r : Fin 8) : Fin 4352 :=
  ⟨min (t.val * 32 + 32) 543 * 8 + r.val, by omega⟩

/-- The column of the whole array that is column `l` of the `j`-th column block. -/
def col (j : Fin 4) (l : Fin 256) : Fin 1024 := ⟨j.val * 256 + l.val, by omega⟩

theorem block_0 (c : Dev nD) (t : Fin cfg0.N) (x : S8x256.Idx) :
    iblk m c 0 t x = (m ((c : Thread nD τ).loc main_arg3) : FVec Ideal S4352x1024 .f32) (ix2 (rowBefore t (x 0)) (col 0 (x 1))) := by
  have hv : V m c main_arg3 = (m ((c : Thread nD τ).loc main_arg3) : FVec Ideal S4352x1024 .f32) := by
    unfold V; after_reads_simp
  rw [← hv]
  blk_ext [iblk, idx t, rowBefore, col]

theorem block_1 (c : Dev nD) (t : Fin cfg0.N) (x : S256x256.Idx) :
    iblk m c 1 t x = (m ((c : Thread nD τ).loc main_arg3) : FVec Ideal S4352x1024 .f32) (ix2 (row t (x 0)) (col 0 (x 1))) := by
  have hv : V m c main_arg3 = (m ((c : Thread nD τ).loc main_arg3) : FVec Ideal S4352x1024 .f32) := by
    unfold V; after_reads_simp
  rw [← hv]
  blk_ext [iblk, idx t, row, col]

theorem block_2 (c : Dev nD) (t : Fin cfg0.N) (x : S8x256.Idx) :
    iblk m c 2 t x = (m ((c : Thread nD τ).loc main_arg3) : FVec Ideal S4352x1024 .f32) (ix2 (rowBehind t (x 0)) (col 0 (x 1))) := by
  have hv : V m c main_arg3 = (m ((c : Thread nD τ).loc main_arg3) : FVec Ideal S4352x1024 .f32) := by
    unfold V; after_reads_simp
  rw [← hv]
  blk_ext [iblk, idx t, rowBehind, col]

theorem block_3 (c : Dev nD) (t : Fin cfg0.N) (x : S8x256.Idx) :
    iblk m c 3 t x = (m ((c : Thread nD τ).loc main_arg3) : FVec Ideal S4352x1024 .f32) (ix2 (rowBefore t (x 0)) (col 1 (x 1))) := by
  have hv : V m c main_arg3 = (m ((c : Thread nD τ).loc main_arg3) : FVec Ideal S4352x1024 .f32) := by
    unfold V; after_reads_simp
  rw [← hv]
  blk_ext [iblk, idx t, rowBefore, col]

theorem block_4 (c : Dev nD) (t : Fin cfg0.N) (x : S256x256.Idx) :
    iblk m c 4 t x = (m ((c : Thread nD τ).loc main_arg3) : FVec Ideal S4352x1024 .f32) (ix2 (row t (x 0)) (col 1 (x 1))) := by
  have hv : V m c main_arg3 = (m ((c : Thread nD τ).loc main_arg3) : FVec Ideal S4352x1024 .f32) := by
    unfold V; after_reads_simp
  rw [← hv]
  blk_ext [iblk, idx t, row, col]

theorem block_5 (c : Dev nD) (t : Fin cfg0.N) (x : S8x256.Idx) :
    iblk m c 5 t x = (m ((c : Thread nD τ).loc main_arg3) : FVec Ideal S4352x1024 .f32) (ix2 (rowBehind t (x 0)) (col 1 (x 1))) := by
  have hv : V m c main_arg3 = (m ((c : Thread nD τ).loc main_arg3) : FVec Ideal S4352x1024 .f32) := by
    unfold V; after_reads_simp
  rw [← hv]
  blk_ext [iblk, idx t, rowBehind, col]

theorem block_6 (c : Dev nD) (t : Fin cfg0.N) (x : S8x256.Idx) :
    iblk m c 6 t x = (m ((c : Thread nD τ).loc main_arg3) : FVec Ideal S4352x1024 .f32) (ix2 (rowBefore t (x 0)) (col 2 (x 1))) := by
  have hv : V m c main_arg3 = (m ((c : Thread nD τ).loc main_arg3) : FVec Ideal S4352x1024 .f32) := by
    unfold V; after_reads_simp
  rw [← hv]
  blk_ext [iblk, idx t, rowBefore, col]

theorem block_7 (c : Dev nD) (t : Fin cfg0.N) (x : S256x256.Idx) :
    iblk m c 7 t x = (m ((c : Thread nD τ).loc main_arg3) : FVec Ideal S4352x1024 .f32) (ix2 (row t (x 0)) (col 2 (x 1))) := by
  have hv : V m c main_arg3 = (m ((c : Thread nD τ).loc main_arg3) : FVec Ideal S4352x1024 .f32) := by
    unfold V; after_reads_simp
  rw [← hv]
  blk_ext [iblk, idx t, row, col]

theorem block_8 (c : Dev nD) (t : Fin cfg0.N) (x : S8x256.Idx) :
    iblk m c 8 t x = (m ((c : Thread nD τ).loc main_arg3) : FVec Ideal S4352x1024 .f32) (ix2 (rowBehind t (x 0)) (col 2 (x 1))) := by
  have hv : V m c main_arg3 = (m ((c : Thread nD τ).loc main_arg3) : FVec Ideal S4352x1024 .f32) := by
    unfold V; after_reads_simp
  rw [← hv]
  blk_ext [iblk, idx t, rowBehind, col]

theorem block_9 (c : Dev nD) (t : Fin cfg0.N) (x : S8x256.Idx) :
    iblk m c 9 t x = (m ((c : Thread nD τ).loc main_arg3) : FVec Ideal S4352x1024 .f32) (ix2 (rowBefore t (x 0)) (col 3 (x 1))) := by
  have hv : V m c main_arg3 = (m ((c : Thread nD τ).loc main_arg3) : FVec Ideal S4352x1024 .f32) := by
    unfold V; after_reads_simp
  rw [← hv]
  blk_ext [iblk, idx t, rowBefore, col]

theorem block_10 (c : Dev nD) (t : Fin cfg0.N) (x : S256x256.Idx) :
    iblk m c 10 t x = (m ((c : Thread nD τ).loc main_arg3) : FVec Ideal S4352x1024 .f32) (ix2 (row t (x 0)) (col 3 (x 1))) := by
  have hv : V m c main_arg3 = (m ((c : Thread nD τ).loc main_arg3) : FVec Ideal S4352x1024 .f32) := by
    unfold V; after_reads_simp
  rw [← hv]
  blk_ext [iblk, idx t, row, col]

theorem block_11 (c : Dev nD) (t : Fin cfg0.N) (x : S8x256.Idx) :
    iblk m c 11 t x = (m ((c : Thread nD τ).loc main_arg3) : FVec Ideal S4352x1024 .f32) (ix2 (rowBehind t (x 0)) (col 3 (x 1))) := by
  have hv : V m c main_arg3 = (m ((c : Thread nD τ).loc main_arg3) : FVec Ideal S4352x1024 .f32) := by
    unfold V; after_reads_simp
  rw [← hv]
  blk_ext [iblk, idx t, rowBehind, col]

/-- The weights, with a row of zeros below the seven rows. -/
def weights (c : Dev nD) : FVec Ideal S8x1024 .f32 :=
  concatenate S8x1024 0 [⟨S7x1024, (m ((c : Thread nD τ).loc main_arg1) : FVec Ideal S7x1024 .f32)⟩, ⟨S1x1024, broadcastInDim S1x1024 ![] bcast_S_S1x1024 (constant S_ .f32 0x00000000#32 : FVec Ideal S_ .f32)⟩]
    concatenates_S7x1024_S1x1024_S8x1024_d0

theorem V_weights (c : Dev nD) : V m c main_v4 = weights m c := by
  unfold V; after_reads_simp; rfl

theorem block_16 (c : Dev nD) (t : Fin cfg0.N) (x : S8x1024.Idx) : iblk m c 16 t x = weights m c (ix2 (x 0 : Fin 8) (x 1 : Fin 1024)) := by
  rw [← V_weights m c]
  blk_ext [iblk, idx t]

/-- Where a stored element lands in the result. -/
theorem lands (t : Fin cfg0.N) (y : S256x1024.Idx) : (win0_17.blk t).view.emb y = ix2 (row t (y 0)) (y 1 : Fin 1024) := by
  blk_ext [idx t, row]

/-- The cotangent at a row given as a number. -/
def ct (c : Dev nD) (p : ℕ) (l : Fin 1024) : EReal := if h : p < 4352 then (m ((c : Thread nD τ).loc main_arg3) : FVec Ideal S4352x1024 .f32) (ix2 (⟨p, h⟩ : Fin 4352) l) else 0

/-- A row of the extended block at grid point `t`, counted from eight rows before the block: zero where the other sequence lies. -/
def ext (c : Dev nD) (t : Fin cfg0.N) (q : ℕ) (l : Fin 1024) : EReal :=
  if (q < 8 ∧ (t.val = 0 ∨ t.val = 16)) ∨ (264 ≤ q ∧ (t.val = 15 ∨ t.val = 16)) then 0 else ct m c (t.val * 256 + q - 8) l

theorem flag_before : ∀ t : Fin cfg0.N, Scalar.andi (Scalar.cmpi CmpIPredicate.ne (BitVec.ofNat 32 (grid0.coords t 0).val) 0#32) (Scalar.cmpi CmpIPredicate.ne (BitVec.ofNat 32 (grid0.coords t 0).val) 16#32)
    = if t.val = 0 ∨ t.val = 16 then 0#1 else 1#1 :=
  (by decide +kernel : ∀ t : Fin grid0.N, _)

theorem flag_behind : ∀ t : Fin cfg0.N, Scalar.andi (Scalar.cmpi CmpIPredicate.ne (BitVec.ofNat 32 (grid0.coords t 0).val) 15#32) (Scalar.cmpi CmpIPredicate.ne (BitVec.ofNat 32 (grid0.coords t 0).val) 16#32)
    = if t.val = 15 ∨ t.val = 16 then 0#1 else 1#1 :=
  (by decide +kernel : ∀ t : Fin grid0.N, _)

theorem fill_0 (c : Dev nD) (t : Fin cfg0.N) (x : S8x256.Idx) : (k0_pay6 (F := Ideal) (grid0.coords t) (iblk m c 0 t) x : EReal) = ext m c t (x 0).val (col 0 (x 1)) := by
  have hx : (x 0).val < 8 := (x 0).isLt
  have ht := t.isLt
  have hN : cfg0.N = 17 := N_0
  unfold ext
  have hf := flag_before t
  by_cases h : t.val = 0 ∨ t.val = 16
  · rw [if_pos h] at hf
    rw [if_pos (Or.inl ⟨hx, h⟩)]
    pointwise [k0_pay6, block_0]
    rw [hf]
    pointwise []
  · rw [if_neg h] at hf
    rw [if_neg (by omega)]
    unfold ct
    rw [dif_pos (by omega)]
    pointwise [k0_pay6, block_0]
    rw [hf]
    pointwise []
    blk_point [rowBefore]

theorem fill_1 (c : Dev nD) (t : Fin cfg0.N) (x : S256x256.Idx) : (k0_pay7 (F := Ideal) (iblk m c 1 t) x : EReal) = ext m c t (8 + (x 0).val) (col 0 (x 1)) := by
  have hx : (x 0).val < 256 := (x 0).isLt
  have ht := t.isLt
  have hN : cfg0.N = 17 := N_0
  unfold ext
  rw [if_neg (by omega)]
  unfold ct
  rw [dif_pos (by omega)]
  pointwise [k0_pay7, block_1]
  blk_point [row]

theorem fill_2 (c : Dev nD) (t : Fin cfg0.N) (x : S8x256.Idx) : (k0_pay8 (F := Ideal) (grid0.coords t) (iblk m c 2 t) x : EReal) = ext m c t (264 + (x 0).val) (col 0 (x 1)) := by
  have hx : (x 0).val < 8 := (x 0).isLt
  have ht := t.isLt
  have hN : cfg0.N = 17 := N_0
  unfold ext
  have hf := flag_behind t
  by_cases h : t.val = 15 ∨ t.val = 16
  · rw [if_pos h] at hf
    rw [if_pos (Or.inr ⟨by omega, h⟩)]
    pointwise [k0_pay8, block_2]
    rw [hf]
    pointwise []
  · rw [if_neg h] at hf
    rw [if_neg (by omega)]
    unfold ct
    rw [dif_pos (by omega)]
    pointwise [k0_pay8, block_2]
    rw [hf]
    pointwise []
    blk_point [rowBehind]

theorem fill_3 (c : Dev nD) (t : Fin cfg0.N) (x : S8x256.Idx) : (k0_pay131 (F := Ideal) (BitVec.ofNat 32 (grid0.coords t 0).val) (iblk m c 3 t) x : EReal) = ext m c t (x 0).val (col 1 (x 1)) := by
  have hx : (x 0).val < 8 := (x 0).isLt
  have ht := t.isLt
  have hN : cfg0.N = 17 := N_0
  unfold ext
  have hf := flag_before t
  by_cases h : t.val = 0 ∨ t.val = 16
  · rw [if_pos h] at hf
    rw [if_pos (Or.inl ⟨hx, h⟩)]
    pointwise [k0_pay131, block_3]
    rw [hf]
    pointwise []
  · rw [if_neg h] at hf
    rw [if_neg (by omega)]
    unfold ct
    rw [dif_pos (by omega)]
    pointwise [k0_pay131, block_3]
    rw [hf]
    pointwise []
    blk_point [rowBefore]

theorem fill_4 (c : Dev nD) (t : Fin cfg0.N) (x : S256x256.Idx) : (k0_pay132 (F := Ideal) (iblk m c 4 t) x : EReal) = ext m c t (8 + (x 0).val) (col 1 (x 1)) := by
  have hx : (x 0).val < 256 := (x 0).isLt
  have ht := t.isLt
  have hN : cfg0.N = 17 := N_0
  unfold ext
  rw [if_neg (by omega)]
  unfold ct
  rw [dif_pos (by omega)]
  pointwise [k0_pay132, block_4]
  blk_point [row]

theorem fill_5 (c : Dev nD) (t : Fin cfg0.N) (x : S8x256.Idx) : (k0_pay133 (F := Ideal) (k0_pay130 (BitVec.ofNat 32 (grid0.coords t 0).val)) (iblk m c 5 t) x : EReal) = ext m c t (264 + (x 0).val) (col 1 (x 1)) := by
  have hx : (x 0).val < 8 := (x 0).isLt
  have ht := t.isLt
  have hN : cfg0.N = 17 := N_0
  unfold ext
  have hf := flag_behind t
  by_cases h : t.val = 15 ∨ t.val = 16
  · rw [if_pos h] at hf
    rw [if_pos (Or.inr ⟨by omega, h⟩)]
    pointwise [k0_pay133, k0_pay130, block_5]
    rw [hf]
    pointwise []
  · rw [if_neg h] at hf
    rw [if_neg (by omega)]
    unfold ct
    rw [dif_pos (by omega)]
    pointwise [k0_pay133, k0_pay130, block_5]
    rw [hf]
    pointwise []
    blk_point [rowBehind]

theorem fill_6 (c : Dev nD) (t : Fin cfg0.N) (x : S8x256.Idx) : (k0_pay248 (F := Ideal) (Scalar.andi (Scalar.cmpi CmpIPredicate.ne (BitVec.ofNat 32 (grid0.coords t 0).val) 0#32) (Scalar.cmpi CmpIPredicate.ne (BitVec.ofNat 32 (grid0.coords t 0).val) 16#32)) (1 : EReal) (0 : EReal) (iblk m c 6 t) x : EReal) = ext m c t (x 0).val (col 2 (x 1)) := by
  have hx : (x 0).val < 8 := (x 0).isLt
  have ht := t.isLt
  have hN : cfg0.N = 17 := N_0
  unfold ext
  have hf := flag_before t
  by_cases h : t.val = 0 ∨ t.val = 16
  · rw [if_pos h] at hf
    rw [if_pos (Or.inl ⟨hx, h⟩)]
    pointwise [k0_pay248, block_6]
    rw [hf]
    pointwise []
  · rw [if_neg h] at hf
    rw [if_neg (by omega)]
    unfold ct
    rw [dif_pos (by omega)]
    pointwise [k0_pay248, block_6]
    rw [hf]
    pointwise []
    blk_point [rowBefore]

theorem fill_7 (c : Dev nD) (t : Fin cfg0.N) (x : S256x256.Idx) : (k0_pay249 (F := Ideal) (iblk m c 7 t) x : EReal) = ext m c t (8 + (x 0).val) (col 2 (x 1)) := by
  have hx : (x 0).val < 256 := (x 0).isLt
  have ht := t.isLt
  have hN : cfg0.N = 17 := N_0
  unfold ext
  rw [if_neg (by omega)]
  unfold ct
  rw [dif_pos (by omega)]
  pointwise [k0_pay249, block_7]
  blk_point [row]

theorem fill_8 (c : Dev nD) (t : Fin cfg0.N) (x : S8x256.Idx) : (k0_pay250 (F := Ideal) (BitVec.ofNat 32 (grid0.coords t 0).val) (iblk m c 8 t) x : EReal) = ext m c t (264 + (x 0).val) (col 2 (x 1)) := by
  have hx : (x 0).val < 8 := (x 0).isLt
  have ht := t.isLt
  have hN : cfg0.N = 17 := N_0
  unfold ext
  have hf := flag_behind t
  by_cases h : t.val = 15 ∨ t.val = 16
  · rw [if_pos h] at hf
    rw [if_pos (Or.inr ⟨by omega, h⟩)]
    pointwise [k0_pay250, block_8]
    rw [hf]
    pointwise []
  · rw [if_neg h] at hf
    rw [if_neg (by omega)]
    unfold ct
    rw [dif_pos (by omega)]
    pointwise [k0_pay250, block_8]
    rw [hf]
    pointwise []
    blk_point [rowBehind]

theorem fill_9 (c : Dev nD) (t : Fin cfg0.N) (x : S8x256.Idx) : (k0_pay354 (F := Ideal) (BitVec.ofNat 32 (grid0.coords t 0).val) (iblk m c 9 t) x : EReal) = ext m c t (x 0).val (col 3 (x 1)) := by
  have hx : (x 0).val < 8 := (x 0).isLt
  have ht := t.isLt
  have hN : cfg0.N = 17 := N_0
  unfold ext
  have hf := flag_before t
  by_cases h : t.val = 0 ∨ t.val = 16
  · rw [if_pos h] at hf
    rw [if_pos (Or.inl ⟨hx, h⟩)]
    pointwise [k0_pay354, block_9]
    rw [hf]
    pointwise []
  · rw [if_neg h] at hf
    rw [if_neg (by omega)]
    unfold ct
    rw [dif_pos (by omega)]
    pointwise [k0_pay354, block_9]
    rw [hf]
    pointwise []
    blk_point [rowBefore]

theorem fill_10 (c : Dev nD) (t : Fin cfg0.N) (x : S256x256.Idx) : (k0_pay355 (F := Ideal) (iblk m c 10 t) x : EReal) = ext m c t (8 + (x 0).val) (col 3 (x 1)) := by
  have hx : (x 0).val < 256 := (x 0).isLt
  have ht := t.isLt
  have hN : cfg0.N = 17 := N_0
  unfold ext
  rw [if_neg (by omega)]
  unfold ct
  rw [dif_pos (by omega)]
  pointwise [k0_pay355, block_10]
  blk_point [row]

theorem fill_11 (c : Dev nD) (t : Fin cfg0.N) (x : S8x256.Idx) : (k0_pay357 (F := Ideal) (k0_pay356 (BitVec.ofNat 32 (grid0.coords t 0).val) (iblk m c 11 t)) x : EReal) = ext m c t (264 + (x 0).val) (col 3 (x 1)) := by
  have hx : (x 0).val < 8 := (x 0).isLt
  have ht := t.isLt
  have hN : cfg0.N = 17 := N_0
  unfold ext
  have hf := flag_behind t
  by_cases h : t.val = 15 ∨ t.val = 16
  · rw [if_pos h] at hf
    rw [if_pos (Or.inr ⟨by omega, h⟩)]
    pointwise [k0_pay357, k0_pay356, block_11]
    rw [hf]
    pointwise []
  · rw [if_neg h] at hf
    rw [if_neg (by omega)]
    unfold ct
    rw [dif_pos (by omega)]
    pointwise [k0_pay357, k0_pay356, block_11]
    rw [hf]
    pointwise []
    blk_point [rowBehind]

/-- What a load of 64 rows of the extended block reads, whatever was stored before its three stores. -/
theorem read_ext (e : ℕ → Fin 256 → EReal) (P0 P2 : S8x256.Idx → EReal) (P1 : S256x256.Idx → EReal)
    (h0 : ∀ x : S8x256.Idx, P0 x = e (x 0).val (x 1)) (h1 : ∀ x : S256x256.Idx, P1 x = e (8 + (x 0).val) (x 1)) (h2 : ∀ x : S8x256.Idx, P2 x = e (264 + (x 0).val) (x 1))
    (rest : List (View.Piece (Elt Ideal) S272x256 .f32)) (o : ℕ) (inb : ∀ a, (![o, 0] : Fin 2 → ℕ) a + (![64, 256] : Fin 2 → ℕ) a ≤ S272x256.size a) (x : S64x256.Idx) :
    (View.whole cc0_scratch0).readCov (Val := Elt Ideal) (⟨Rect.unit ![264, 0] ![8, 256] inb_S272x256_S8x256_264_0, P2⟩ :: ⟨Rect.unit ![8, 0] ![256, 256] inb_S272x256_S256x256_8_0, P1⟩
      :: ⟨Rect.unit ![0, 0] ![8, 256] inb_S272x256_S8x256_0_0, P0⟩ :: rest) (Rect.unit (s := S272x256) ![o, 0] ![64, 256] inb).toLoadRect x = e (o + (x 0).val) (x 1) := by
  rw [View.readCov_eq_canon']
  refine (View.canon_append_of_pieces (Val := Elt Ideal) (S := S272x256) (e := .f32) (fun y : S272x256.Idx => e (y 0).val (y 1)) rest
    [⟨Rect.unit ![264, 0] ![8, 256] inb_S272x256_S8x256_264_0, P2⟩, ⟨Rect.unit ![8, 0] ![256, 256] inb_S272x256_S256x256_8_0, P1⟩, ⟨Rect.unit ![0, 0] ![8, 256] inb_S272x256_S8x256_0_0, P0⟩] ?_ _ ?_).trans ?_
  · have hp : View.PiecesOf (Val := Elt Ideal) (s := S272x256) (e := .f32) (fun y : S272x256.Idx => e (y 0).val (y 1))
        [⟨Rect.unit ![264, 0] ![8, 256] inb_S272x256_S8x256_264_0, P2⟩, ⟨Rect.unit ![8, 0] ![256, 256] inb_S272x256_S256x256_8_0, P1⟩, ⟨Rect.unit ![0, 0] ![8, 256] inb_S272x256_S8x256_0_0, P0⟩] := by
      exact ⟨fun x => (h2 x).trans (congrArg₂ e (Rect.idx_unit_val (s := S272x256) ![264, 0] ![8, 256] inb_S272x256_S8x256_264_0 x 0).symm (Fin.ext ((Rect.idx_unit_val (s := S272x256) ![264, 0] ![8, 256] inb_S272x256_S8x256_264_0 x 1).trans (Nat.zero_add _)).symm)),
        fun x => (h1 x).trans (congrArg₂ e (Rect.idx_unit_val (s := S272x256) ![8, 0] ![256, 256] inb_S272x256_S256x256_8_0 x 0).symm (Fin.ext ((Rect.idx_unit_val (s := S272x256) ![8, 0] ![256, 256] inb_S272x256_S256x256_8_0 x 1).trans (Nat.zero_add _)).symm)),
        fun x => (h0 x).trans (congrArg₂ e ((Rect.idx_unit_val (s := S272x256) ![0, 0] ![8, 256] inb_S272x256_S8x256_0_0 x 0).trans (Nat.zero_add _)).symm (Fin.ext ((Rect.idx_unit_val (s := S272x256) ![0, 0] ![8, 256] inb_S272x256_S8x256_0_0 x 1).trans (Nat.zero_add _)).symm)),
        trivial⟩
    exact hp.mem
  · have hy : (((Rect.unit (s := S272x256) ![o, 0] ![64, 256] inb).toLoadRect.idx x 0).val : ℕ) < 272 := Fin.isLt _
    have hl : (((Rect.unit (s := S272x256) ![o, 0] ![64, 256] inb).toLoadRect.idx x 1).val : ℕ) < 256 := Fin.isLt _
    by_cases ha : (((Rect.unit (s := S272x256) ![o, 0] ![64, 256] inb).toLoadRect.idx x 0).val : ℕ) < 8
    · refine ⟨_, List.mem_cons_of_mem _ (List.mem_cons_of_mem _ (List.mem_cons_self ..)), (Rect.mem_set_unit (inb := inb_S272x256_S8x256_0_0)).mpr fun a => ?_⟩
      fin_cases a
      · exact ⟨Nat.zero_le _, ha⟩
      · exact ⟨Nat.zero_le _, by simpa using hl⟩
    · by_cases hb : (((Rect.unit (s := S272x256) ![o, 0] ![64, 256] inb).toLoadRect.idx x 0).val : ℕ) < 264
      · refine ⟨_, List.mem_cons_of_mem _ (List.mem_cons_self ..), (Rect.mem_set_unit (inb := inb_S272x256_S256x256_8_0)).mpr fun a => ?_⟩
        fin_cases a
        · exact ⟨Nat.le_of_not_lt ha, hb⟩
        · exact ⟨Nat.zero_le _, by simpa using hl⟩
      · refine ⟨_, List.mem_cons_self .., (Rect.mem_set_unit (inb := inb_S272x256_S8x256_264_0)).mpr fun a => ?_⟩
        fin_cases a
        · exact ⟨Nat.le_of_not_lt hb, hy⟩
        · exact ⟨Nat.zero_le _, by simpa using hl⟩
  · refine congrArg₂ e ?_ (Fin.ext ?_)
    · exact Rect.idx_unit_val (s := S272x256) ![o, 0] ![64, 256] inb x 0
    · refine (Rect.idx_unit_val (s := S272x256) ![o, 0] ![64, 256] inb x 1).trans ?_
      exact Nat.zero_add _

theorem read_0 (c : Dev nD) (t : Fin cfg0.N) (rest : List (View.Piece (Elt Ideal) S272x256 .f32)) (o : ℕ)
    (inb : ∀ a, (![o, 0] : Fin 2 → ℕ) a + (![64, 256] : Fin 2 → ℕ) a ≤ S272x256.size a) (x : S64x256.Idx) :
    (View.whole cc0_scratch0).readCov (Val := Elt Ideal) (⟨Rect.unit ![264, 0] ![8, 256] inb_S272x256_S8x256_264_0, (k0_pay8 (F := Ideal) (grid0.coords t) (iblk m c 2 t))⟩
      :: ⟨Rect.unit ![8, 0] ![256, 256] inb_S272x256_S256x256_8_0, (k0_pay7 (F := Ideal) (iblk m c 1 t))⟩
      :: ⟨Rect.unit ![0, 0] ![8, 256] inb_S272x256_S8x256_0_0, (k0_pay6 (F := Ideal) (grid0.coords t) (iblk m c 0 t))⟩ :: rest) (Rect.unit (s := S272x256) ![o, 0] ![64, 256] inb).toLoadRect x
      = ext m c t (o + (x 0).val) (col 0 (x 1)) :=
  read_ext (fun q l => ext m c t q (col 0 l)) _ _ _ (fill_0 m c t) (fill_1 m c t) (fill_2 m c t) rest o inb x

theorem read_1 (c : Dev nD) (t : Fin cfg0.N) (rest : List (View.Piece (Elt Ideal) S272x256 .f32)) (o : ℕ)
    (inb : ∀ a, (![o, 0] : Fin 2 → ℕ) a + (![64, 256] : Fin 2 → ℕ) a ≤ S272x256.size a) (x : S64x256.Idx) :
    (View.whole cc0_scratch0).readCov (Val := Elt Ideal) (⟨Rect.unit ![264, 0] ![8, 256] inb_S272x256_S8x256_264_0, (k0_pay133 (F := Ideal) (k0_pay130 (BitVec.ofNat 32 (grid0.coords t 0).val)) (iblk m c 5 t))⟩
      :: ⟨Rect.unit ![8, 0] ![256, 256] inb_S272x256_S256x256_8_0, (k0_pay132 (F := Ideal) (iblk m c 4 t))⟩
      :: ⟨Rect.unit ![0, 0] ![8, 256] inb_S272x256_S8x256_0_0, (k0_pay131 (F := Ideal) (BitVec.ofNat 32 (grid0.coords t 0).val) (iblk m c 3 t))⟩ :: rest) (Rect.unit (s := S272x256) ![o, 0] ![64, 256] inb).toLoadRect x
      = ext m c t (o + (x 0).val) (col 1 (x 1)) :=
  read_ext (fun q l => ext m c t q (col 1 l)) _ _ _ (fill_3 m c t) (fill_4 m c t) (fill_5 m c t) rest o inb x

theorem read_2 (c : Dev nD) (t : Fin cfg0.N) (rest : List (View.Piece (Elt Ideal) S272x256 .f32)) (o : ℕ)
    (inb : ∀ a, (![o, 0] : Fin 2 → ℕ) a + (![64, 256] : Fin 2 → ℕ) a ≤ S272x256.size a) (x : S64x256.Idx) :
    (View.whole cc0_scratch0).readCov (Val := Elt Ideal) (⟨Rect.unit ![264, 0] ![8, 256] inb_S272x256_S8x256_264_0, (k0_pay250 (F := Ideal) (BitVec.ofNat 32 (grid0.coords t 0).val) (iblk m c 8 t))⟩
      :: ⟨Rect.unit ![8, 0] ![256, 256] inb_S272x256_S256x256_8_0, (k0_pay249 (F := Ideal) (iblk m c 7 t))⟩
      :: ⟨Rect.unit ![0, 0] ![8, 256] inb_S272x256_S8x256_0_0, (k0_pay248 (F := Ideal) (Scalar.andi (Scalar.cmpi CmpIPredicate.ne (BitVec.ofNat 32 (grid0.coords t 0).val) 0#32) (Scalar.cmpi CmpIPredicate.ne (BitVec.ofNat 32 (grid0.coords t 0).val) 16#32)) (1 : EReal) (0 : EReal) (iblk m c 6 t))⟩ :: rest) (Rect.unit (s := S272x256) ![o, 0] ![64, 256] inb).toLoadRect x
      = ext m c t (o + (x 0).val) (col 2 (x 1)) :=
  read_ext (fun q l => ext m c t q (col 2 l)) _ _ _ (fill_6 m c t) (fill_7 m c t) (fill_8 m c t) rest o inb x

theorem read_3 (c : Dev nD) (t : Fin cfg0.N) (rest : List (View.Piece (Elt Ideal) S272x256 .f32)) (o : ℕ)
    (inb : ∀ a, (![o, 0] : Fin 2 → ℕ) a + (![64, 256] : Fin 2 → ℕ) a ≤ S272x256.size a) (x : S64x256.Idx) :
    (View.whole cc0_scratch0).readCov (Val := Elt Ideal) (⟨Rect.unit ![264, 0] ![8, 256] inb_S272x256_S8x256_264_0, (k0_pay357 (F := Ideal) (k0_pay356 (BitVec.ofNat 32 (grid0.coords t 0).val) (iblk m c 11 t)))⟩
      :: ⟨Rect.unit ![8, 0] ![256, 256] inb_S272x256_S256x256_8_0, (k0_pay355 (F := Ideal) (iblk m c 10 t))⟩
      :: ⟨Rect.unit ![0, 0] ![8, 256] inb_S272x256_S8x256_0_0, (k0_pay354 (F := Ideal) (BitVec.ofNat 32 (grid0.coords t 0).val) (iblk m c 9 t))⟩ :: rest) (Rect.unit (s := S272x256) ![o, 0] ![64, 256] inb).toLoadRect x
      = ext m c t (o + (x 0).val) (col 3 (x 1)) :=
  read_ext (fun q l => ext m c t q (col 3 l)) _ _ _ (fill_9 m c t) (fill_10 m c t) (fill_11 m c t) rest o inb x

/-- The gradient at a row of grid point `t`'s block: the seven shifted products. -/
def grad (c : Dev nD) (t : Fin cfg0.N) (q : ℕ) (l : Fin 1024) : EReal :=
  weights m c (ix2 (0 : Fin 8) l) * ext m c t (q + 11) l + weights m c (ix2 (1 : Fin 8) l) * ext m c t (q + 10) l + weights m c (ix2 (2 : Fin 8) l) * ext m c t (q + 9) l + weights m c (ix2 (3 : Fin 8) l) * ext m c t (q + 8) l + weights m c (ix2 (4 : Fin 8) l) * ext m c t (q + 7) l + weights m c (ix2 (5 : Fin 8) l) * ext m c t (q + 6) l + weights m c (ix2 (6 : Fin 8) l) * ext m c t (q + 5) l

theorem ext_congr (c : Dev nD) (t : Fin cfg0.N) {q q' : ℕ} {l l' : Fin 1024} (h : q = q') (hl : l = l') : ext m c t q l = ext m c t q' l' := by rw [h, hl]

theorem weights_congr (c : Dev nD) {z z' : S8x1024.Idx} (h : (z 0).val = (z' 0).val) (hl : (z 1).val = (z' 1).val) : weights m c z = weights m c z' := by
  refine congrArg _ (funext fun a => ?_)
  fin_cases a
  · exact Fin.ext h
  · exact Fin.ext hl

set_option maxHeartbeats 2000000 in
/-- What a grid point stores (the first): sixteen blocks of 64 rows and 256 columns, each the seven shifted products. -/
theorem stored_A (c : Dev nD) (t : Fin cfg0.N) (hB : t.val % 17 = 0) (y : S256x1024.Idx) :
    (outsAt0 m c t.val t.isLt).1 y = grad m c t (y 0).val (y 1) := by
  rw [outsAt0_A m c t hB]
  frame_out
  canon_tiles x h using View.cover_of_tiledBy _ ![64,256] (by sl_kernel_rfl) y
  case piece12 | piece13 | piece14 | piece15 =>
    have hc := h1
    rw [h0]
    unfold grad
    pointwise [k0_pay1, k0_pay2, k0_pay3, k0_pay17, k0_pay19, k0_pay20, k0_pay29, k0_pay30, k0_pay37, k0_pay40, k0_pay42, k0_pay43, k0_pay45, k0_pay47, k0_pay50, k0_pay51, k0_pay58, k0_pay59, k0_pay67, k0_pay69, k0_pay70, k0_pay71, k0_pay79, k0_pay82, k0_pay84, k0_pay87, k0_pay92, k0_pay94, k0_pay95, k0_pay101, k0_pay102, k0_pay112, k0_pay116, k0_pay118, k0_pay120, k0_pay121, k0_pay122, k0_pay123, k0_pay124, k0_pay125, k0_pay127, k0_pay128, k0_pay129, k0_pay142, k0_pay143, k0_pay144, k0_pay153, k0_pay156, k0_pay160, k0_pay164, k0_pay166, k0_pay167, k0_pay172, k0_pay173, k0_pay184, k0_pay185, k0_pay190, k0_pay192, k0_pay194, k0_pay198, k0_pay199, k0_pay202, k0_pay203, k0_pay211, k0_pay213, k0_pay214, k0_pay215, k0_pay225, k0_pay226, k0_pay232, k0_pay236, k0_pay238, k0_pay239, k0_pay240, k0_pay241, k0_pay242, k0_pay243, k0_pay244, k0_pay245, k0_pay246, k0_pay247, k0_pay259, k0_pay261, k0_pay265, k0_pay268, k0_pay269, k0_pay276, k0_pay278, k0_pay279, k0_pay280, k0_pay289, k0_pay290, k0_pay297, k0_pay301, k0_pay303, k0_pay304, k0_pay306, k0_pay309, k0_pay310, k0_pay317, k0_pay318, k0_pay327, k0_pay329, k0_pay331, k0_pay334, k0_pay336, k0_pay339, k0_pay340, k0_pay344, k0_pay346, k0_pay347, k0_pay348, k0_pay349, k0_pay350, k0_pay351, k0_pay352, k0_pay353, k0_pay365, k0_pay366, k0_pay368, k0_pay371, k0_pay372, k0_pay378, k0_pay379, k0_pay389, k0_pay391, k0_pay393, k0_pay396, k0_pay400, k0_pay401, k0_pay404, k0_pay406, k0_pay407, k0_pay408, k0_pay413, k0_pay414, k0_pay425, k0_pay426, k0_pay432, k0_pay433, k0_pay435, k0_pay436, k0_pay440, k0_pay441, k0_pay444, k0_pay445, k0_pay454, k0_pay459, k0_pay460, k0_pay461, k0_pay462, k0_pay463, block_16]
    exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a * b) (weights_congr m c rfl hc.symm) ((read_0 m c t _ _ _ _).trans (ext_congr m c t (by omega) (Fin.ext (by simp only [col]; omega))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega))))))
  case piece8 | piece9 | piece10 | piece11 =>
    have hc := h1
    rw [h0]
    unfold grad
    pointwise [k0_pay1, k0_pay2, k0_pay3, k0_pay17, k0_pay19, k0_pay20, k0_pay29, k0_pay30, k0_pay37, k0_pay40, k0_pay42, k0_pay43, k0_pay45, k0_pay47, k0_pay50, k0_pay51, k0_pay58, k0_pay59, k0_pay67, k0_pay69, k0_pay70, k0_pay71, k0_pay79, k0_pay82, k0_pay84, k0_pay87, k0_pay92, k0_pay94, k0_pay95, k0_pay101, k0_pay102, k0_pay112, k0_pay116, k0_pay118, k0_pay120, k0_pay121, k0_pay122, k0_pay123, k0_pay124, k0_pay125, k0_pay127, k0_pay128, k0_pay129, k0_pay142, k0_pay143, k0_pay144, k0_pay153, k0_pay156, k0_pay160, k0_pay164, k0_pay166, k0_pay167, k0_pay172, k0_pay173, k0_pay184, k0_pay185, k0_pay190, k0_pay192, k0_pay194, k0_pay198, k0_pay199, k0_pay202, k0_pay203, k0_pay211, k0_pay213, k0_pay214, k0_pay215, k0_pay225, k0_pay226, k0_pay232, k0_pay236, k0_pay238, k0_pay239, k0_pay240, k0_pay241, k0_pay242, k0_pay243, k0_pay244, k0_pay245, k0_pay246, k0_pay247, k0_pay259, k0_pay261, k0_pay265, k0_pay268, k0_pay269, k0_pay276, k0_pay278, k0_pay279, k0_pay280, k0_pay289, k0_pay290, k0_pay297, k0_pay301, k0_pay303, k0_pay304, k0_pay306, k0_pay309, k0_pay310, k0_pay317, k0_pay318, k0_pay327, k0_pay329, k0_pay331, k0_pay334, k0_pay336, k0_pay339, k0_pay340, k0_pay344, k0_pay346, k0_pay347, k0_pay348, k0_pay349, k0_pay350, k0_pay351, k0_pay352, k0_pay353, k0_pay365, k0_pay366, k0_pay368, k0_pay371, k0_pay372, k0_pay378, k0_pay379, k0_pay389, k0_pay391, k0_pay393, k0_pay396, k0_pay400, k0_pay401, k0_pay404, k0_pay406, k0_pay407, k0_pay408, k0_pay413, k0_pay414, k0_pay425, k0_pay426, k0_pay432, k0_pay433, k0_pay435, k0_pay436, k0_pay440, k0_pay441, k0_pay444, k0_pay445, k0_pay454, k0_pay459, k0_pay460, k0_pay461, k0_pay462, k0_pay463, block_16]
    exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a * b) (weights_congr m c rfl hc.symm) ((read_1 m c t _ _ _ _).trans (ext_congr m c t (by omega) (Fin.ext (by simp only [col]; omega))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega))))))
  case piece4 | piece5 | piece6 | piece7 =>
    have hc := h1
    rw [h0]
    unfold grad
    pointwise [k0_pay1, k0_pay2, k0_pay3, k0_pay17, k0_pay19, k0_pay20, k0_pay29, k0_pay30, k0_pay37, k0_pay40, k0_pay42, k0_pay43, k0_pay45, k0_pay47, k0_pay50, k0_pay51, k0_pay58, k0_pay59, k0_pay67, k0_pay69, k0_pay70, k0_pay71, k0_pay79, k0_pay82, k0_pay84, k0_pay87, k0_pay92, k0_pay94, k0_pay95, k0_pay101, k0_pay102, k0_pay112, k0_pay116, k0_pay118, k0_pay120, k0_pay121, k0_pay122, k0_pay123, k0_pay124, k0_pay125, k0_pay127, k0_pay128, k0_pay129, k0_pay142, k0_pay143, k0_pay144, k0_pay153, k0_pay156, k0_pay160, k0_pay164, k0_pay166, k0_pay167, k0_pay172, k0_pay173, k0_pay184, k0_pay185, k0_pay190, k0_pay192, k0_pay194, k0_pay198, k0_pay199, k0_pay202, k0_pay203, k0_pay211, k0_pay213, k0_pay214, k0_pay215, k0_pay225, k0_pay226, k0_pay232, k0_pay236, k0_pay238, k0_pay239, k0_pay240, k0_pay241, k0_pay242, k0_pay243, k0_pay244, k0_pay245, k0_pay246, k0_pay247, k0_pay259, k0_pay261, k0_pay265, k0_pay268, k0_pay269, k0_pay276, k0_pay278, k0_pay279, k0_pay280, k0_pay289, k0_pay290, k0_pay297, k0_pay301, k0_pay303, k0_pay304, k0_pay306, k0_pay309, k0_pay310, k0_pay317, k0_pay318, k0_pay327, k0_pay329, k0_pay331, k0_pay334, k0_pay336, k0_pay339, k0_pay340, k0_pay344, k0_pay346, k0_pay347, k0_pay348, k0_pay349, k0_pay350, k0_pay351, k0_pay352, k0_pay353, k0_pay365, k0_pay366, k0_pay368, k0_pay371, k0_pay372, k0_pay378, k0_pay379, k0_pay389, k0_pay391, k0_pay393, k0_pay396, k0_pay400, k0_pay401, k0_pay404, k0_pay406, k0_pay407, k0_pay408, k0_pay413, k0_pay414, k0_pay425, k0_pay426, k0_pay432, k0_pay433, k0_pay435, k0_pay436, k0_pay440, k0_pay441, k0_pay444, k0_pay445, k0_pay454, k0_pay459, k0_pay460, k0_pay461, k0_pay462, k0_pay463, block_16]
    exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a * b) (weights_congr m c rfl hc.symm) ((read_2 m c t _ _ _ _).trans (ext_congr m c t (by omega) (Fin.ext (by simp only [col]; omega))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega))))))
  case piece0 | piece1 | piece2 | piece3 =>
    have hc := h1
    rw [h0]
    unfold grad
    pointwise [k0_pay1, k0_pay2, k0_pay3, k0_pay17, k0_pay19, k0_pay20, k0_pay29, k0_pay30, k0_pay37, k0_pay40, k0_pay42, k0_pay43, k0_pay45, k0_pay47, k0_pay50, k0_pay51, k0_pay58, k0_pay59, k0_pay67, k0_pay69, k0_pay70, k0_pay71, k0_pay79, k0_pay82, k0_pay84, k0_pay87, k0_pay92, k0_pay94, k0_pay95, k0_pay101, k0_pay102, k0_pay112, k0_pay116, k0_pay118, k0_pay120, k0_pay121, k0_pay122, k0_pay123, k0_pay124, k0_pay125, k0_pay127, k0_pay128, k0_pay129, k0_pay142, k0_pay143, k0_pay144, k0_pay153, k0_pay156, k0_pay160, k0_pay164, k0_pay166, k0_pay167, k0_pay172, k0_pay173, k0_pay184, k0_pay185, k0_pay190, k0_pay192, k0_pay194, k0_pay198, k0_pay199, k0_pay202, k0_pay203, k0_pay211, k0_pay213, k0_pay214, k0_pay215, k0_pay225, k0_pay226, k0_pay232, k0_pay236, k0_pay238, k0_pay239, k0_pay240, k0_pay241, k0_pay242, k0_pay243, k0_pay244, k0_pay245, k0_pay246, k0_pay247, k0_pay259, k0_pay261, k0_pay265, k0_pay268, k0_pay269, k0_pay276, k0_pay278, k0_pay279, k0_pay280, k0_pay289, k0_pay290, k0_pay297, k0_pay301, k0_pay303, k0_pay304, k0_pay306, k0_pay309, k0_pay310, k0_pay317, k0_pay318, k0_pay327, k0_pay329, k0_pay331, k0_pay334, k0_pay336, k0_pay339, k0_pay340, k0_pay344, k0_pay346, k0_pay347, k0_pay348, k0_pay349, k0_pay350, k0_pay351, k0_pay352, k0_pay353, k0_pay365, k0_pay366, k0_pay368, k0_pay371, k0_pay372, k0_pay378, k0_pay379, k0_pay389, k0_pay391, k0_pay393, k0_pay396, k0_pay400, k0_pay401, k0_pay404, k0_pay406, k0_pay407, k0_pay408, k0_pay413, k0_pay414, k0_pay425, k0_pay426, k0_pay432, k0_pay433, k0_pay435, k0_pay436, k0_pay440, k0_pay441, k0_pay444, k0_pay445, k0_pay454, k0_pay459, k0_pay460, k0_pay461, k0_pay462, k0_pay463, block_16]
    exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a * b) (weights_congr m c rfl hc.symm) ((read_3 m c t _ _ _ _).trans (ext_congr m c t (by omega) (Fin.ext (by simp only [col]; omega))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega))))))

set_option maxHeartbeats 2000000 in
/-- What a grid point stores (the later ones): sixteen blocks of 64 rows and 256 columns, each the seven shifted products. -/
theorem stored_B (c : Dev nD) (t : Fin cfg0.N) (hB : ¬ t.val % 17 = 0) (y : S256x1024.Idx) :
    (outsAt0 m c t.val t.isLt).1 y = grad m c t (y 0).val (y 1) := by
  rw [outsAt0_B m c t hB]
  frame_out
  canon_tiles x h using View.cover_of_tiledBy _ ![64,256] (by sl_kernel_rfl) y
  case piece12 | piece13 | piece14 | piece15 =>
    have hc := h1
    rw [h0]
    unfold grad
    pointwise [k0_pay1, k0_pay2, k0_pay3, k0_pay17, k0_pay19, k0_pay20, k0_pay29, k0_pay30, k0_pay37, k0_pay40, k0_pay42, k0_pay43, k0_pay45, k0_pay47, k0_pay50, k0_pay51, k0_pay58, k0_pay59, k0_pay67, k0_pay69, k0_pay70, k0_pay71, k0_pay79, k0_pay82, k0_pay84, k0_pay87, k0_pay92, k0_pay94, k0_pay95, k0_pay101, k0_pay102, k0_pay112, k0_pay116, k0_pay118, k0_pay120, k0_pay121, k0_pay122, k0_pay123, k0_pay124, k0_pay125, k0_pay127, k0_pay128, k0_pay129, k0_pay142, k0_pay143, k0_pay144, k0_pay153, k0_pay156, k0_pay160, k0_pay164, k0_pay166, k0_pay167, k0_pay172, k0_pay173, k0_pay184, k0_pay185, k0_pay190, k0_pay192, k0_pay194, k0_pay198, k0_pay199, k0_pay202, k0_pay203, k0_pay211, k0_pay213, k0_pay214, k0_pay215, k0_pay225, k0_pay226, k0_pay232, k0_pay236, k0_pay238, k0_pay239, k0_pay240, k0_pay241, k0_pay242, k0_pay243, k0_pay244, k0_pay245, k0_pay246, k0_pay247, k0_pay259, k0_pay261, k0_pay265, k0_pay268, k0_pay269, k0_pay276, k0_pay278, k0_pay279, k0_pay280, k0_pay289, k0_pay290, k0_pay297, k0_pay301, k0_pay303, k0_pay304, k0_pay306, k0_pay309, k0_pay310, k0_pay317, k0_pay318, k0_pay327, k0_pay329, k0_pay331, k0_pay334, k0_pay336, k0_pay339, k0_pay340, k0_pay344, k0_pay346, k0_pay347, k0_pay348, k0_pay349, k0_pay350, k0_pay351, k0_pay352, k0_pay353, k0_pay365, k0_pay366, k0_pay368, k0_pay371, k0_pay372, k0_pay378, k0_pay379, k0_pay389, k0_pay391, k0_pay393, k0_pay396, k0_pay400, k0_pay401, k0_pay404, k0_pay406, k0_pay407, k0_pay408, k0_pay413, k0_pay414, k0_pay425, k0_pay426, k0_pay432, k0_pay433, k0_pay435, k0_pay436, k0_pay440, k0_pay441, k0_pay444, k0_pay445, k0_pay454, k0_pay459, k0_pay460, k0_pay461, k0_pay462, k0_pay463, block_16]
    exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a * b) (weights_congr m c rfl hc.symm) ((read_0 m c t _ _ _ _).trans (ext_congr m c t (by omega) (Fin.ext (by simp only [col]; omega))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega))))))
  case piece8 | piece9 | piece10 | piece11 =>
    have hc := h1
    rw [h0]
    unfold grad
    pointwise [k0_pay1, k0_pay2, k0_pay3, k0_pay17, k0_pay19, k0_pay20, k0_pay29, k0_pay30, k0_pay37, k0_pay40, k0_pay42, k0_pay43, k0_pay45, k0_pay47, k0_pay50, k0_pay51, k0_pay58, k0_pay59, k0_pay67, k0_pay69, k0_pay70, k0_pay71, k0_pay79, k0_pay82, k0_pay84, k0_pay87, k0_pay92, k0_pay94, k0_pay95, k0_pay101, k0_pay102, k0_pay112, k0_pay116, k0_pay118, k0_pay120, k0_pay121, k0_pay122, k0_pay123, k0_pay124, k0_pay125, k0_pay127, k0_pay128, k0_pay129, k0_pay142, k0_pay143, k0_pay144, k0_pay153, k0_pay156, k0_pay160, k0_pay164, k0_pay166, k0_pay167, k0_pay172, k0_pay173, k0_pay184, k0_pay185, k0_pay190, k0_pay192, k0_pay194, k0_pay198, k0_pay199, k0_pay202, k0_pay203, k0_pay211, k0_pay213, k0_pay214, k0_pay215, k0_pay225, k0_pay226, k0_pay232, k0_pay236, k0_pay238, k0_pay239, k0_pay240, k0_pay241, k0_pay242, k0_pay243, k0_pay244, k0_pay245, k0_pay246, k0_pay247, k0_pay259, k0_pay261, k0_pay265, k0_pay268, k0_pay269, k0_pay276, k0_pay278, k0_pay279, k0_pay280, k0_pay289, k0_pay290, k0_pay297, k0_pay301, k0_pay303, k0_pay304, k0_pay306, k0_pay309, k0_pay310, k0_pay317, k0_pay318, k0_pay327, k0_pay329, k0_pay331, k0_pay334, k0_pay336, k0_pay339, k0_pay340, k0_pay344, k0_pay346, k0_pay347, k0_pay348, k0_pay349, k0_pay350, k0_pay351, k0_pay352, k0_pay353, k0_pay365, k0_pay366, k0_pay368, k0_pay371, k0_pay372, k0_pay378, k0_pay379, k0_pay389, k0_pay391, k0_pay393, k0_pay396, k0_pay400, k0_pay401, k0_pay404, k0_pay406, k0_pay407, k0_pay408, k0_pay413, k0_pay414, k0_pay425, k0_pay426, k0_pay432, k0_pay433, k0_pay435, k0_pay436, k0_pay440, k0_pay441, k0_pay444, k0_pay445, k0_pay454, k0_pay459, k0_pay460, k0_pay461, k0_pay462, k0_pay463, block_16]
    exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a * b) (weights_congr m c rfl hc.symm) ((read_1 m c t _ _ _ _).trans (ext_congr m c t (by omega) (Fin.ext (by simp only [col]; omega))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega))))))
  case piece4 | piece5 | piece6 | piece7 =>
    have hc := h1
    rw [h0]
    unfold grad
    pointwise [k0_pay1, k0_pay2, k0_pay3, k0_pay17, k0_pay19, k0_pay20, k0_pay29, k0_pay30, k0_pay37, k0_pay40, k0_pay42, k0_pay43, k0_pay45, k0_pay47, k0_pay50, k0_pay51, k0_pay58, k0_pay59, k0_pay67, k0_pay69, k0_pay70, k0_pay71, k0_pay79, k0_pay82, k0_pay84, k0_pay87, k0_pay92, k0_pay94, k0_pay95, k0_pay101, k0_pay102, k0_pay112, k0_pay116, k0_pay118, k0_pay120, k0_pay121, k0_pay122, k0_pay123, k0_pay124, k0_pay125, k0_pay127, k0_pay128, k0_pay129, k0_pay142, k0_pay143, k0_pay144, k0_pay153, k0_pay156, k0_pay160, k0_pay164, k0_pay166, k0_pay167, k0_pay172, k0_pay173, k0_pay184, k0_pay185, k0_pay190, k0_pay192, k0_pay194, k0_pay198, k0_pay199, k0_pay202, k0_pay203, k0_pay211, k0_pay213, k0_pay214, k0_pay215, k0_pay225, k0_pay226, k0_pay232, k0_pay236, k0_pay238, k0_pay239, k0_pay240, k0_pay241, k0_pay242, k0_pay243, k0_pay244, k0_pay245, k0_pay246, k0_pay247, k0_pay259, k0_pay261, k0_pay265, k0_pay268, k0_pay269, k0_pay276, k0_pay278, k0_pay279, k0_pay280, k0_pay289, k0_pay290, k0_pay297, k0_pay301, k0_pay303, k0_pay304, k0_pay306, k0_pay309, k0_pay310, k0_pay317, k0_pay318, k0_pay327, k0_pay329, k0_pay331, k0_pay334, k0_pay336, k0_pay339, k0_pay340, k0_pay344, k0_pay346, k0_pay347, k0_pay348, k0_pay349, k0_pay350, k0_pay351, k0_pay352, k0_pay353, k0_pay365, k0_pay366, k0_pay368, k0_pay371, k0_pay372, k0_pay378, k0_pay379, k0_pay389, k0_pay391, k0_pay393, k0_pay396, k0_pay400, k0_pay401, k0_pay404, k0_pay406, k0_pay407, k0_pay408, k0_pay413, k0_pay414, k0_pay425, k0_pay426, k0_pay432, k0_pay433, k0_pay435, k0_pay436, k0_pay440, k0_pay441, k0_pay444, k0_pay445, k0_pay454, k0_pay459, k0_pay460, k0_pay461, k0_pay462, k0_pay463, block_16]
    exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a * b) (weights_congr m c rfl hc.symm) ((read_2 m c t _ _ _ _).trans (ext_congr m c t (by omega) (Fin.ext (by simp only [col]; omega))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega))))))
  case piece0 | piece1 | piece2 | piece3 =>
    have hc := h1
    rw [h0]
    unfold grad
    pointwise [k0_pay1, k0_pay2, k0_pay3, k0_pay17, k0_pay19, k0_pay20, k0_pay29, k0_pay30, k0_pay37, k0_pay40, k0_pay42, k0_pay43, k0_pay45, k0_pay47, k0_pay50, k0_pay51, k0_pay58, k0_pay59, k0_pay67, k0_pay69, k0_pay70, k0_pay71, k0_pay79, k0_pay82, k0_pay84, k0_pay87, k0_pay92, k0_pay94, k0_pay95, k0_pay101, k0_pay102, k0_pay112, k0_pay116, k0_pay118, k0_pay120, k0_pay121, k0_pay122, k0_pay123, k0_pay124, k0_pay125, k0_pay127, k0_pay128, k0_pay129, k0_pay142, k0_pay143, k0_pay144, k0_pay153, k0_pay156, k0_pay160, k0_pay164, k0_pay166, k0_pay167, k0_pay172, k0_pay173, k0_pay184, k0_pay185, k0_pay190, k0_pay192, k0_pay194, k0_pay198, k0_pay199, k0_pay202, k0_pay203, k0_pay211, k0_pay213, k0_pay214, k0_pay215, k0_pay225, k0_pay226, k0_pay232, k0_pay236, k0_pay238, k0_pay239, k0_pay240, k0_pay241, k0_pay242, k0_pay243, k0_pay244, k0_pay245, k0_pay246, k0_pay247, k0_pay259, k0_pay261, k0_pay265, k0_pay268, k0_pay269, k0_pay276, k0_pay278, k0_pay279, k0_pay280, k0_pay289, k0_pay290, k0_pay297, k0_pay301, k0_pay303, k0_pay304, k0_pay306, k0_pay309, k0_pay310, k0_pay317, k0_pay318, k0_pay327, k0_pay329, k0_pay331, k0_pay334, k0_pay336, k0_pay339, k0_pay340, k0_pay344, k0_pay346, k0_pay347, k0_pay348, k0_pay349, k0_pay350, k0_pay351, k0_pay352, k0_pay353, k0_pay365, k0_pay366, k0_pay368, k0_pay371, k0_pay372, k0_pay378, k0_pay379, k0_pay389, k0_pay391, k0_pay393, k0_pay396, k0_pay400, k0_pay401, k0_pay404, k0_pay406, k0_pay407, k0_pay408, k0_pay413, k0_pay414, k0_pay425, k0_pay426, k0_pay432, k0_pay433, k0_pay435, k0_pay436, k0_pay440, k0_pay441, k0_pay444, k0_pay445, k0_pay454, k0_pay459, k0_pay460, k0_pay461, k0_pay462, k0_pay463, block_16]
    exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a * b) (weights_congr m c rfl hc.symm) ((read_3 m c t _ _ _ _).trans (ext_congr m c t (by omega) (Fin.ext (by simp only [col]; omega))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega))))))

/-- A row given as a number of an array of 4352 rows. -/
def rowOf (x3 : FVec Ideal S4352x1024 .f32) (p : ℕ) (l : Fin 1024) : EReal := if h : p < 4352 then x3 (ix2 (⟨p, h⟩ : Fin 4352) l) else 0

/-- The derivative's term for the `k`-th weight, in a padded sequence of `n` rows that starts at row `o` of the array. -/
def term (x1 : FVec Ideal S7x1024 .f32) (x3 : FVec Ideal S4352x1024 .f32) (o n : ℕ) (k : Fin 7) (p : ℕ) (l : Fin 1024) : EReal :=
  if k.val ≤ p ∧ p - k.val < n then rowOf x3 (o + (p - k.val)) l * x1 (ix2 k l) else 0

theorem latent_6 (x1 : FVec Ideal S7x1024 .f32) (x3 : FVec Ideal S4352x1024 .f32) (x : Cert.Reference14Ideal.S4102x1024.Idx) : (val_main_v210 (F := Ideal) x1 x3 x : EReal) = term x1 x3 0 4096 6 (x 0).val (x 1) := by
  have hx : (x 0).val < 4102 := (x 0).isLt
  unfold term
  by_cases h : ((6 : Fin 7)).val ≤ (x 0).val ∧ (x 0).val - ((6 : Fin 7)).val < 4096
  · rw [if_pos h]
    have h1 : 6 ≤ (x 0).val ∧ (x 0).val - 6 < 4096 := h
    unfold rowOf
    rw [dif_pos (by omega)]
    pointwise [val_main_v210, val_main_cst_41, val_main_v205, val_main_v204, val_main_v49, val_main_v48, val_main_v47, val_main_v113]
    simp (disch := omega) only [dif_pos, dif_neg]
  · rw [if_neg h]
    have h1 : ¬ (6 ≤ (x 0).val ∧ (x 0).val - 6 < 4096) := h
    pointwise [val_main_v210, val_main_cst_41, val_main_v205, val_main_v204, val_main_v49, val_main_v48, val_main_v47, val_main_v113]
    simp (disch := omega) only [dif_pos, dif_neg]

theorem latent_5 (x1 : FVec Ideal S7x1024 .f32) (x3 : FVec Ideal S4352x1024 .f32) (x : Cert.Reference14Ideal.S4102x1024.Idx) : (val_main_v220 (F := Ideal) x1 x3 x : EReal) = term x1 x3 0 4096 5 (x 0).val (x 1) := by
  have hx : (x 0).val < 4102 := (x 0).isLt
  unfold term
  by_cases h : ((5 : Fin 7)).val ≤ (x 0).val ∧ (x 0).val - ((5 : Fin 7)).val < 4096
  · rw [if_pos h]
    have h1 : 5 ≤ (x 0).val ∧ (x 0).val - 5 < 4096 := h
    unfold rowOf
    rw [dif_pos (by omega)]
    pointwise [val_main_v220, val_main_cst_45, val_main_v215, val_main_v214, val_main_v42, val_main_v41, val_main_v40, val_main_v113]
    simp (disch := omega) only [dif_pos, dif_neg]
  · rw [if_neg h]
    have h1 : ¬ (5 ≤ (x 0).val ∧ (x 0).val - 5 < 4096) := h
    pointwise [val_main_v220, val_main_cst_45, val_main_v215, val_main_v214, val_main_v42, val_main_v41, val_main_v40, val_main_v113]
    simp (disch := omega) only [dif_pos, dif_neg]

theorem latent_4 (x1 : FVec Ideal S7x1024 .f32) (x3 : FVec Ideal S4352x1024 .f32) (x : Cert.Reference14Ideal.S4102x1024.Idx) : (val_main_v231 (F := Ideal) x1 x3 x : EReal) = term x1 x3 0 4096 4 (x 0).val (x 1) := by
  have hx : (x 0).val < 4102 := (x 0).isLt
  unfold term
  by_cases h : ((4 : Fin 7)).val ≤ (x 0).val ∧ (x 0).val - ((4 : Fin 7)).val < 4096
  · rw [if_pos h]
    have h1 : 4 ≤ (x 0).val ∧ (x 0).val - 4 < 4096 := h
    unfold rowOf
    rw [dif_pos (by omega)]
    pointwise [val_main_v231, val_main_cst_49, val_main_v226, val_main_v225, val_main_v35, val_main_v34, val_main_v33, val_main_v113]
    simp (disch := omega) only [dif_pos, dif_neg]
  · rw [if_neg h]
    have h1 : ¬ (4 ≤ (x 0).val ∧ (x 0).val - 4 < 4096) := h
    pointwise [val_main_v231, val_main_cst_49, val_main_v226, val_main_v225, val_main_v35, val_main_v34, val_main_v33, val_main_v113]
    simp (disch := omega) only [dif_pos, dif_neg]

theorem latent_3 (x1 : FVec Ideal S7x1024 .f32) (x3 : FVec Ideal S4352x1024 .f32) (x : Cert.Reference14Ideal.S4102x1024.Idx) : (val_main_v242 (F := Ideal) x1 x3 x : EReal) = term x1 x3 0 4096 3 (x 0).val (x 1) := by
  have hx : (x 0).val < 4102 := (x 0).isLt
  unfold term
  by_cases h : ((3 : Fin 7)).val ≤ (x 0).val ∧ (x 0).val - ((3 : Fin 7)).val < 4096
  · rw [if_pos h]
    have h1 : 3 ≤ (x 0).val ∧ (x 0).val - 3 < 4096 := h
    unfold rowOf
    rw [dif_pos (by omega)]
    pointwise [val_main_v242, val_main_cst_53, val_main_v237, val_main_v236, val_main_v28, val_main_v27, val_main_v26, val_main_v113]
    simp (disch := omega) only [dif_pos, dif_neg]
  · rw [if_neg h]
    have h1 : ¬ (3 ≤ (x 0).val ∧ (x 0).val - 3 < 4096) := h
    pointwise [val_main_v242, val_main_cst_53, val_main_v237, val_main_v236, val_main_v28, val_main_v27, val_main_v26, val_main_v113]
    simp (disch := omega) only [dif_pos, dif_neg]

theorem latent_2 (x1 : FVec Ideal S7x1024 .f32) (x3 : FVec Ideal S4352x1024 .f32) (x : Cert.Reference14Ideal.S4102x1024.Idx) : (val_main_v253 (F := Ideal) x1 x3 x : EReal) = term x1 x3 0 4096 2 (x 0).val (x 1) := by
  have hx : (x 0).val < 4102 := (x 0).isLt
  unfold term
  by_cases h : ((2 : Fin 7)).val ≤ (x 0).val ∧ (x 0).val - ((2 : Fin 7)).val < 4096
  · rw [if_pos h]
    have h1 : 2 ≤ (x 0).val ∧ (x 0).val - 2 < 4096 := h
    unfold rowOf
    rw [dif_pos (by omega)]
    pointwise [val_main_v253, val_main_cst_57, val_main_v248, val_main_v247, val_main_v21, val_main_v20, val_main_v19, val_main_v113]
    simp (disch := omega) only [dif_pos, dif_neg]
  · rw [if_neg h]
    have h1 : ¬ (2 ≤ (x 0).val ∧ (x 0).val - 2 < 4096) := h
    pointwise [val_main_v253, val_main_cst_57, val_main_v248, val_main_v247, val_main_v21, val_main_v20, val_main_v19, val_main_v113]
    simp (disch := omega) only [dif_pos, dif_neg]

theorem latent_1 (x1 : FVec Ideal S7x1024 .f32) (x3 : FVec Ideal S4352x1024 .f32) (x : Cert.Reference14Ideal.S4102x1024.Idx) : (val_main_v264 (F := Ideal) x1 x3 x : EReal) = term x1 x3 0 4096 1 (x 0).val (x 1) := by
  have hx : (x 0).val < 4102 := (x 0).isLt
  unfold term
  by_cases h : ((1 : Fin 7)).val ≤ (x 0).val ∧ (x 0).val - ((1 : Fin 7)).val < 4096
  · rw [if_pos h]
    have h1 : 1 ≤ (x 0).val ∧ (x 0).val - 1 < 4096 := h
    unfold rowOf
    rw [dif_pos (by omega)]
    pointwise [val_main_v264, val_main_cst_61, val_main_v259, val_main_v258, val_main_v14, val_main_v13, val_main_v12, val_main_v113]
    simp (disch := omega) only [dif_pos, dif_neg]
  · rw [if_neg h]
    have h1 : ¬ (1 ≤ (x 0).val ∧ (x 0).val - 1 < 4096) := h
    pointwise [val_main_v264, val_main_cst_61, val_main_v259, val_main_v258, val_main_v14, val_main_v13, val_main_v12, val_main_v113]
    simp (disch := omega) only [dif_pos, dif_neg]

theorem latent_0 (x1 : FVec Ideal S7x1024 .f32) (x3 : FVec Ideal S4352x1024 .f32) (x : Cert.Reference14Ideal.S4102x1024.Idx) : (val_main_v275 (F := Ideal) x1 x3 x : EReal) = term x1 x3 0 4096 0 (x 0).val (x 1) := by
  have hx : (x 0).val < 4102 := (x 0).isLt
  unfold term
  by_cases h : ((0 : Fin 7)).val ≤ (x 0).val ∧ (x 0).val - ((0 : Fin 7)).val < 4096
  · rw [if_pos h]
    have h1 : 0 ≤ (x 0).val ∧ (x 0).val - 0 < 4096 := h
    unfold rowOf
    rw [dif_pos (by omega)]
    pointwise [val_main_v275, val_main_cst_65, val_main_v270, val_main_v269, val_main_v8, val_main_v7, val_main_v6, val_main_v113]
    simp (disch := omega) only [dif_pos, dif_neg]
  · rw [if_neg h]
    have h1 : ¬ (0 ≤ (x 0).val ∧ (x 0).val - 0 < 4096) := h
    pointwise [val_main_v275, val_main_cst_65, val_main_v270, val_main_v269, val_main_v8, val_main_v7, val_main_v6, val_main_v113]
    simp (disch := omega) only [dif_pos, dif_neg]

theorem context_6 (x1 : FVec Ideal S7x1024 .f32) (x3 : FVec Ideal S4352x1024 .f32) (x : Cert.Reference14Ideal.S262x1024.Idx) : (val_main_v126 (F := Ideal) x1 x3 x : EReal) = term x1 x3 4096 256 6 (x 0).val (x 1) := by
  have hx : (x 0).val < 262 := (x 0).isLt
  unfold term
  by_cases h : ((6 : Fin 7)).val ≤ (x 0).val ∧ (x 0).val - ((6 : Fin 7)).val < 256
  · rw [if_pos h]
    have h1 : 6 ≤ (x 0).val ∧ (x 0).val - 6 < 256 := h
    unfold rowOf
    rw [dif_pos (by omega)]
    pointwise [val_main_v126, val_main_cst_10, val_main_v122, val_main_v121, val_main_v105, val_main_v104, val_main_v103, val_main_v114]
    simp (disch := omega) only [dif_pos, dif_neg]
  · rw [if_neg h]
    have h1 : ¬ (6 ≤ (x 0).val ∧ (x 0).val - 6 < 256) := h
    pointwise [val_main_v126, val_main_cst_10, val_main_v122, val_main_v121, val_main_v105, val_main_v104, val_main_v103, val_main_v114]
    simp (disch := omega) only [dif_pos, dif_neg]

theorem context_5 (x1 : FVec Ideal S7x1024 .f32) (x3 : FVec Ideal S4352x1024 .f32) (x : Cert.Reference14Ideal.S262x1024.Idx) : (val_main_v136 (F := Ideal) x1 x3 x : EReal) = term x1 x3 4096 256 5 (x 0).val (x 1) := by
  have hx : (x 0).val < 262 := (x 0).isLt
  unfold term
  by_cases h : ((5 : Fin 7)).val ≤ (x 0).val ∧ (x 0).val - ((5 : Fin 7)).val < 256
  · rw [if_pos h]
    have h1 : 5 ≤ (x 0).val ∧ (x 0).val - 5 < 256 := h
    unfold rowOf
    rw [dif_pos (by omega)]
    pointwise [val_main_v136, val_main_cst_14, val_main_v131, val_main_v130, val_main_v98, val_main_v97, val_main_v96, val_main_v114]
    simp (disch := omega) only [dif_pos, dif_neg]
  · rw [if_neg h]
    have h1 : ¬ (5 ≤ (x 0).val ∧ (x 0).val - 5 < 256) := h
    pointwise [val_main_v136, val_main_cst_14, val_main_v131, val_main_v130, val_main_v98, val_main_v97, val_main_v96, val_main_v114]
    simp (disch := omega) only [dif_pos, dif_neg]

theorem context_4 (x1 : FVec Ideal S7x1024 .f32) (x3 : FVec Ideal S4352x1024 .f32) (x : Cert.Reference14Ideal.S262x1024.Idx) : (val_main_v147 (F := Ideal) x1 x3 x : EReal) = term x1 x3 4096 256 4 (x 0).val (x 1) := by
  have hx : (x 0).val < 262 := (x 0).isLt
  unfold term
  by_cases h : ((4 : Fin 7)).val ≤ (x 0).val ∧ (x 0).val - ((4 : Fin 7)).val < 256
  · rw [if_pos h]
    have h1 : 4 ≤ (x 0).val ∧ (x 0).val - 4 < 256 := h
    unfold rowOf
    rw [dif_pos (by omega)]
    pointwise [val_main_v147, val_main_cst_18, val_main_v142, val_main_v141, val_main_v91, val_main_v90, val_main_v89, val_main_v114]
    simp (disch := omega) only [dif_pos, dif_neg]
  · rw [if_neg h]
    have h1 : ¬ (4 ≤ (x 0).val ∧ (x 0).val - 4 < 256) := h
    pointwise [val_main_v147, val_main_cst_18, val_main_v142, val_main_v141, val_main_v91, val_main_v90, val_main_v89, val_main_v114]
    simp (disch := omega) only [dif_pos, dif_neg]

theorem context_3 (x1 : FVec Ideal S7x1024 .f32) (x3 : FVec Ideal S4352x1024 .f32) (x : Cert.Reference14Ideal.S262x1024.Idx) : (val_main_v158 (F := Ideal) x1 x3 x : EReal) = term x1 x3 4096 256 3 (x 0).val (x 1) := by
  have hx : (x 0).val < 262 := (x 0).isLt
  unfold term
  by_cases h : ((3 : Fin 7)).val ≤ (x 0).val ∧ (x 0).val - ((3 : Fin 7)).val < 256
  · rw [if_pos h]
    have h1 : 3 ≤ (x 0).val ∧ (x 0).val - 3 < 256 := h
    unfold rowOf
    rw [dif_pos (by omega)]
    pointwise [val_main_v158, val_main_cst_22, val_main_v153, val_main_v152, val_main_v84, val_main_v83, val_main_v82, val_main_v114]
    simp (disch := omega) only [dif_pos, dif_neg]
  · rw [if_neg h]
    have h1 : ¬ (3 ≤ (x 0).val ∧ (x 0).val - 3 < 256) := h
    pointwise [val_main_v158, val_main_cst_22, val_main_v153, val_main_v152, val_main_v84, val_main_v83, val_main_v82, val_main_v114]
    simp (disch := omega) only [dif_pos, dif_neg]

theorem context_2 (x1 : FVec Ideal S7x1024 .f32) (x3 : FVec Ideal S4352x1024 .f32) (x : Cert.Reference14Ideal.S262x1024.Idx) : (val_main_v169 (F := Ideal) x1 x3 x : EReal) = term x1 x3 4096 256 2 (x 0).val (x 1) := by
  have hx : (x 0).val < 262 := (x 0).isLt
  unfold term
  by_cases h : ((2 : Fin 7)).val ≤ (x 0).val ∧ (x 0).val - ((2 : Fin 7)).val < 256
  · rw [if_pos h]
    have h1 : 2 ≤ (x 0).val ∧ (x 0).val - 2 < 256 := h
    unfold rowOf
    rw [dif_pos (by omega)]
    pointwise [val_main_v169, val_main_cst_26, val_main_v164, val_main_v163, val_main_v77, val_main_v76, val_main_v75, val_main_v114]
    simp (disch := omega) only [dif_pos, dif_neg]
  · rw [if_neg h]
    have h1 : ¬ (2 ≤ (x 0).val ∧ (x 0).val - 2 < 256) := h
    pointwise [val_main_v169, val_main_cst_26, val_main_v164, val_main_v163, val_main_v77, val_main_v76, val_main_v75, val_main_v114]
    simp (disch := omega) only [dif_pos, dif_neg]

theorem context_1 (x1 : FVec Ideal S7x1024 .f32) (x3 : FVec Ideal S4352x1024 .f32) (x : Cert.Reference14Ideal.S262x1024.Idx) : (val_main_v180 (F := Ideal) x1 x3 x : EReal) = term x1 x3 4096 256 1 (x 0).val (x 1) := by
  have hx : (x 0).val < 262 := (x 0).isLt
  unfold term
  by_cases h : ((1 : Fin 7)).val ≤ (x 0).val ∧ (x 0).val - ((1 : Fin 7)).val < 256
  · rw [if_pos h]
    have h1 : 1 ≤ (x 0).val ∧ (x 0).val - 1 < 256 := h
    unfold rowOf
    rw [dif_pos (by omega)]
    pointwise [val_main_v180, val_main_cst_30, val_main_v175, val_main_v174, val_main_v70, val_main_v69, val_main_v68, val_main_v114]
    simp (disch := omega) only [dif_pos, dif_neg]
  · rw [if_neg h]
    have h1 : ¬ (1 ≤ (x 0).val ∧ (x 0).val - 1 < 256) := h
    pointwise [val_main_v180, val_main_cst_30, val_main_v175, val_main_v174, val_main_v70, val_main_v69, val_main_v68, val_main_v114]
    simp (disch := omega) only [dif_pos, dif_neg]

theorem context_0 (x1 : FVec Ideal S7x1024 .f32) (x3 : FVec Ideal S4352x1024 .f32) (x : Cert.Reference14Ideal.S262x1024.Idx) : (val_main_v191 (F := Ideal) x1 x3 x : EReal) = term x1 x3 4096 256 0 (x 0).val (x 1) := by
  have hx : (x 0).val < 262 := (x 0).isLt
  unfold term
  by_cases h : ((0 : Fin 7)).val ≤ (x 0).val ∧ (x 0).val - ((0 : Fin 7)).val < 256
  · rw [if_pos h]
    have h1 : 0 ≤ (x 0).val ∧ (x 0).val - 0 < 256 := h
    unfold rowOf
    rw [dif_pos (by omega)]
    pointwise [val_main_v191, val_main_cst_34, val_main_v186, val_main_v185, val_main_v64, val_main_v63, val_main_v62, val_main_v114]
    simp (disch := omega) only [dif_pos, dif_neg]
  · rw [if_neg h]
    have h1 : ¬ (0 ≤ (x 0).val ∧ (x 0).val - 0 < 256) := h
    pointwise [val_main_v191, val_main_cst_34, val_main_v186, val_main_v185, val_main_v64, val_main_v63, val_main_v62, val_main_v114]
    simp (disch := omega) only [dif_pos, dif_neg]

theorem latent_sum (x1 : FVec Ideal S7x1024 .f32) (x3 : FVec Ideal S4352x1024 .f32) (x : Cert.Reference14Ideal.S4102x1024.Idx) : (val_main_v276 (F := Ideal) x1 x3 x : EReal)
    = term x1 x3 0 4096 6 (x 0).val (x 1) + term x1 x3 0 4096 5 (x 0).val (x 1) + term x1 x3 0 4096 4 (x 0).val (x 1) + term x1 x3 0 4096 3 (x 0).val (x 1) + term x1 x3 0 4096 2 (x 0).val (x 1) + term x1 x3 0 4096 1 (x 0).val (x 1) + term x1 x3 0 4096 0 (x 0).val (x 1) := by
  rw [← latent_6 x1 x3 x, ← latent_5 x1 x3 x, ← latent_4 x1 x3 x, ← latent_3 x1 x3 x, ← latent_2 x1 x3 x, ← latent_1 x1 x3 x, ← latent_0 x1 x3 x]
  rfl

theorem context_sum (x1 : FVec Ideal S7x1024 .f32) (x3 : FVec Ideal S4352x1024 .f32) (x : Cert.Reference14Ideal.S262x1024.Idx) : (val_main_v192 (F := Ideal) x1 x3 x : EReal)
    = term x1 x3 4096 256 6 (x 0).val (x 1) + term x1 x3 4096 256 5 (x 0).val (x 1) + term x1 x3 4096 256 4 (x 0).val (x 1) + term x1 x3 4096 256 3 (x 0).val (x 1) + term x1 x3 4096 256 2 (x 0).val (x 1) + term x1 x3 4096 256 1 (x 0).val (x 1) + term x1 x3 4096 256 0 (x 0).val (x 1) := by
  rw [← context_6 x1 x3 x, ← context_5 x1 x3 x, ← context_4 x1 x3 x, ← context_3 x1 x3 x, ← context_2 x1 x3 x, ← context_1 x1 x3 x, ← context_0 x1 x3 x]
  rfl

theorem latents_below (x1 : FVec Ideal S7x1024 .f32) (x3 : FVec Ideal S4352x1024 .f32) (x : Cert.Reference14Ideal.S4352x1024.Idx) (hx : 4096 ≤ (x 0).val) : (val_main_v280 (F := Ideal) x1 x3 x : EReal) = 0 := by
  pointwise [val_main_v280, val_main_cst_66]
  simp (disch := omega) only [dif_pos, dif_neg]

theorem context_above (x1 : FVec Ideal S7x1024 .f32) (x3 : FVec Ideal S4352x1024 .f32) (x : Cert.Reference14Ideal.S4352x1024.Idx) (hx : (x 0).val < 4096) : (val_main_v196 (F := Ideal) x1 x3 x : EReal) = 0 := by
  unfold val_main_v196
  refine (pad_apply_of_not_inside _ _ _ _ _ _ _ x (0 : Fin 2) fun h => ?_).trans ?_
  · have h1 : 4096 ≤ (x 0).val := h.1
    omega
  · pointwise [val_main_cst_35]

theorem latents_at (x1 : FVec Ideal S7x1024 .f32) (x3 : FVec Ideal S4352x1024 .f32) (x : Cert.Reference14Ideal.S4352x1024.Idx) (hx : (x 0).val < 4096) : (val_main_v280 (F := Ideal) x1 x3 x : EReal)
    = term x1 x3 0 4096 6 ((x 0).val + 3) (x 1) + term x1 x3 0 4096 5 ((x 0).val + 3) (x 1) + term x1 x3 0 4096 4 ((x 0).val + 3) (x 1) + term x1 x3 0 4096 3 ((x 0).val + 3) (x 1) + term x1 x3 0 4096 2 ((x 0).val + 3) (x 1) + term x1 x3 0 4096 1 ((x 0).val + 3) (x 1) + term x1 x3 0 4096 0 ((x 0).val + 3) (x 1) := by
  have h := latent_sum x1 x3 (ix2 (⟨3 + (x 0).val, by omega⟩ : Fin 4102) (x 1 : Fin 1024))
  rw [Nat.add_comm (x 0).val 3]
  refine Eq.trans ?_ h
  pointwise [val_main_v280, val_main_v278, val_main_cst_66]
  rw [dif_pos hx]

theorem context_at (x1 : FVec Ideal S7x1024 .f32) (x3 : FVec Ideal S4352x1024 .f32) (x : Cert.Reference14Ideal.S4352x1024.Idx) (hx : 4096 ≤ (x 0).val) : (val_main_v196 (F := Ideal) x1 x3 x : EReal)
    = term x1 x3 4096 256 6 ((x 0).val - 4096 + 3) (x 1) + term x1 x3 4096 256 5 ((x 0).val - 4096 + 3) (x 1) + term x1 x3 4096 256 4 ((x 0).val - 4096 + 3) (x 1) + term x1 x3 4096 256 3 ((x 0).val - 4096 + 3) (x 1) + term x1 x3 4096 256 2 ((x 0).val - 4096 + 3) (x 1) + term x1 x3 4096 256 1 ((x 0).val - 4096 + 3) (x 1) + term x1 x3 4096 256 0 ((x 0).val - 4096 + 3) (x 1) := by
  have hx2 : (x 0).val < 4352 := (x 0).isLt
  have h := context_sum x1 x3 (ix2 (⟨3 + ((x 0).val - 4096), by omega⟩ : Fin 262) (x 1 : Fin 1024))
  rw [Nat.add_comm ((x 0).val - 4096) 3]
  refine Eq.trans ?_ h
  unfold val_main_v196
  refine (pad_apply_of_inside _ _ _ _ _ _ _ x (ix2 (⟨(x 0).val - 4096, by omega⟩ : Fin 256) (x 1 : Fin 1024)) fun a => ?_).trans ?_
  · fin_cases a
    · show (x 0).val = 4096 + ((x 0).val - 4096) * 1
      omega
    · show (x 1).val = 0 + (x 1).val * 1
      omega
  · pointwise [val_main_v194]

/-- The derivative at a latent row. -/
theorem ref_latent (x1 : FVec Ideal S7x1024 .f32) (x3 : FVec Ideal S4352x1024 .f32) (x : Cert.Reference14Ideal.S4352x1024.Idx) (hx : (x 0).val < 4096) : (val_main_v282 (F := Ideal) x1 x3 x : EReal)
    = term x1 x3 0 4096 6 ((x 0).val + 3) (x 1) + term x1 x3 0 4096 5 ((x 0).val + 3) (x 1) + term x1 x3 0 4096 4 ((x 0).val + 3) (x 1) + term x1 x3 0 4096 3 ((x 0).val + 3) (x 1) + term x1 x3 0 4096 2 ((x 0).val + 3) (x 1) + term x1 x3 0 4096 1 ((x 0).val + 3) (x 1) + term x1 x3 0 4096 0 ((x 0).val + 3) (x 1) := by
  refine Eq.trans (show _ = (val_main_v196 (F := Ideal) x1 x3 x : EReal) + (val_main_v280 (F := Ideal) x1 x3 x : EReal) from rfl) ?_
  rw [context_above x1 x3 x hx, zero_add, latents_at x1 x3 x hx]

/-- The derivative at a context row. -/
theorem ref_context (x1 : FVec Ideal S7x1024 .f32) (x3 : FVec Ideal S4352x1024 .f32) (x : Cert.Reference14Ideal.S4352x1024.Idx) (hx : 4096 ≤ (x 0).val) : (val_main_v282 (F := Ideal) x1 x3 x : EReal)
    = term x1 x3 4096 256 6 ((x 0).val - 4096 + 3) (x 1) + term x1 x3 4096 256 5 ((x 0).val - 4096 + 3) (x 1) + term x1 x3 4096 256 4 ((x 0).val - 4096 + 3) (x 1) + term x1 x3 4096 256 3 ((x 0).val - 4096 + 3) (x 1) + term x1 x3 4096 256 2 ((x 0).val - 4096 + 3) (x 1) + term x1 x3 4096 256 1 ((x 0).val - 4096 + 3) (x 1) + term x1 x3 4096 256 0 ((x 0).val - 4096 + 3) (x 1) := by
  refine Eq.trans (show _ = (val_main_v196 (F := Ideal) x1 x3 x : EReal) + (val_main_v280 (F := Ideal) x1 x3 x : EReal) from rfl) ?_
  rw [latents_below x1 x3 x hx, add_zero, context_at x1 x3 x hx]

theorem reverse (a b c d e f g : EReal) : a + b + c + d + e + f + g = g + f + e + d + c + b + a := by abel

theorem weights_0 (c : Dev nD) (l : Fin 1024) : weights m c (ix2 (0 : Fin 8) l) = (m ((c : Thread nD τ).loc main_arg1) : FVec Ideal S7x1024 .f32) (ix2 (0 : Fin 7) l) := by
  unfold weights
  pointwise []

theorem weights_1 (c : Dev nD) (l : Fin 1024) : weights m c (ix2 (1 : Fin 8) l) = (m ((c : Thread nD τ).loc main_arg1) : FVec Ideal S7x1024 .f32) (ix2 (1 : Fin 7) l) := by
  unfold weights
  pointwise []

theorem weights_2 (c : Dev nD) (l : Fin 1024) : weights m c (ix2 (2 : Fin 8) l) = (m ((c : Thread nD τ).loc main_arg1) : FVec Ideal S7x1024 .f32) (ix2 (2 : Fin 7) l) := by
  unfold weights
  pointwise []

theorem weights_3 (c : Dev nD) (l : Fin 1024) : weights m c (ix2 (3 : Fin 8) l) = (m ((c : Thread nD τ).loc main_arg1) : FVec Ideal S7x1024 .f32) (ix2 (3 : Fin 7) l) := by
  unfold weights
  pointwise []

theorem weights_4 (c : Dev nD) (l : Fin 1024) : weights m c (ix2 (4 : Fin 8) l) = (m ((c : Thread nD τ).loc main_arg1) : FVec Ideal S7x1024 .f32) (ix2 (4 : Fin 7) l) := by
  unfold weights
  pointwise []

theorem weights_5 (c : Dev nD) (l : Fin 1024) : weights m c (ix2 (5 : Fin 8) l) = (m ((c : Thread nD τ).loc main_arg1) : FVec Ideal S7x1024 .f32) (ix2 (5 : Fin 7) l) := by
  unfold weights
  pointwise []

theorem weights_6 (c : Dev nD) (l : Fin 1024) : weights m c (ix2 (6 : Fin 8) l) = (m ((c : Thread nD τ).loc main_arg1) : FVec Ideal S7x1024 .f32) (ix2 (6 : Fin 7) l) := by
  unfold weights
  pointwise []

/-- One product of the kernel at a latent row is the derivative's term. -/
theorem product_latent (c : Dev nD) (t : Fin cfg0.N) (ht : t.val < 16) (q : ℕ) (hq : q < 256) (l : Fin 1024) (k : Fin 7) (k' : Fin 8) (o : ℕ) (ho : o = 11 - k.val)
    (hw : weights m c (ix2 k' l) = (m ((c : Thread nD τ).loc main_arg1) : FVec Ideal S7x1024 .f32) (ix2 k l)) :
    weights m c (ix2 k' l) * ext m c t (q + o) l = term (m ((c : Thread nD τ).loc main_arg1) : FVec Ideal S7x1024 .f32) (m ((c : Thread nD τ).loc main_arg3) : FVec Ideal S4352x1024 .f32) 0 4096 k (t.val * 256 + q + 3) l := by
  have hk := k.isLt
  unfold term ext
  rw [hw]
  by_cases h : k.val ≤ t.val * 256 + q + 3 ∧ t.val * 256 + q + 3 - k.val < 4096
  · rw [if_pos h, if_neg (by omega), mul_comm]
    refine congrArg (fun z : EReal => z * (m ((c : Thread nD τ).loc main_arg1) : FVec Ideal S7x1024 .f32) (ix2 k l)) ?_
    exact congrArg (fun p => ct m c p l) (by omega)
  · rw [if_neg h, if_pos (by omega), mul_zero]

/-- One product of the kernel at a context row is the derivative's term. -/
theorem product_context (c : Dev nD) (t : Fin cfg0.N) (ht : t.val = 16) (q : ℕ) (hq : q < 256) (l : Fin 1024) (k : Fin 7) (k' : Fin 8) (o : ℕ) (ho : o = 11 - k.val)
    (hw : weights m c (ix2 k' l) = (m ((c : Thread nD τ).loc main_arg1) : FVec Ideal S7x1024 .f32) (ix2 k l)) :
    weights m c (ix2 k' l) * ext m c t (q + o) l = term (m ((c : Thread nD τ).loc main_arg1) : FVec Ideal S7x1024 .f32) (m ((c : Thread nD τ).loc main_arg3) : FVec Ideal S4352x1024 .f32) 4096 256 k (t.val * 256 + q - 4096 + 3) l := by
  have hk := k.isLt
  unfold term ext
  rw [hw]
  by_cases h : k.val ≤ t.val * 256 + q - 4096 + 3 ∧ t.val * 256 + q - 4096 + 3 - k.val < 256
  · rw [if_pos h, if_neg (by omega), mul_comm]
    refine congrArg (fun z : EReal => z * (m ((c : Thread nD τ).loc main_arg1) : FVec Ideal S7x1024 .f32) (ix2 k l)) ?_
    exact congrArg (fun p => ct m c p l) (by omega)
  · rw [if_neg h, if_pos (by omega), mul_zero]

theorem grad_latent (c : Dev nD) (t : Fin cfg0.N) (ht : t.val < 16) (q : ℕ) (hq : q < 256) (l : Fin 1024) : grad m c t q l
    = term (m ((c : Thread nD τ).loc main_arg1) : FVec Ideal S7x1024 .f32) (m ((c : Thread nD τ).loc main_arg3) : FVec Ideal S4352x1024 .f32) 0 4096 6 (t.val * 256 + q + 3) l + term (m ((c : Thread nD τ).loc main_arg1) : FVec Ideal S7x1024 .f32) (m ((c : Thread nD τ).loc main_arg3) : FVec Ideal S4352x1024 .f32) 0 4096 5 (t.val * 256 + q + 3) l + term (m ((c : Thread nD τ).loc main_arg1) : FVec Ideal S7x1024 .f32) (m ((c : Thread nD τ).loc main_arg3) : FVec Ideal S4352x1024 .f32) 0 4096 4 (t.val * 256 + q + 3) l + term (m ((c : Thread nD τ).loc main_arg1) : FVec Ideal S7x1024 .f32) (m ((c : Thread nD τ).loc main_arg3) : FVec Ideal S4352x1024 .f32) 0 4096 3 (t.val * 256 + q + 3) l + term (m ((c : Thread nD τ).loc main_arg1) : FVec Ideal S7x1024 .f32) (m ((c : Thread nD τ).loc main_arg3) : FVec Ideal S4352x1024 .f32) 0 4096 2 (t.val * 256 + q + 3) l + term (m ((c : Thread nD τ).loc main_arg1) : FVec Ideal S7x1024 .f32) (m ((c : Thread nD τ).loc main_arg3) : FVec Ideal S4352x1024 .f32) 0 4096 1 (t.val * 256 + q + 3) l + term (m ((c : Thread nD τ).loc main_arg1) : FVec Ideal S7x1024 .f32) (m ((c : Thread nD τ).loc main_arg3) : FVec Ideal S4352x1024 .f32) 0 4096 0 (t.val * 256 + q + 3) l := by
  unfold grad
  exact Eq.trans (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (product_latent m c t ht q hq l 0 0 11 rfl (weights_0 m c l)) (product_latent m c t ht q hq l 1 1 10 rfl (weights_1 m c l))) (product_latent m c t ht q hq l 2 2 9 rfl (weights_2 m c l))) (product_latent m c t ht q hq l 3 3 8 rfl (weights_3 m c l))) (product_latent m c t ht q hq l 4 4 7 rfl (weights_4 m c l))) (product_latent m c t ht q hq l 5 5 6 rfl (weights_5 m c l))) (product_latent m c t ht q hq l 6 6 5 rfl (weights_6 m c l))) (reverse _ _ _ _ _ _ _)

theorem grad_context (c : Dev nD) (t : Fin cfg0.N) (ht : t.val = 16) (q : ℕ) (hq : q < 256) (l : Fin 1024) : grad m c t q l
    = term (m ((c : Thread nD τ).loc main_arg1) : FVec Ideal S7x1024 .f32) (m ((c : Thread nD τ).loc main_arg3) : FVec Ideal S4352x1024 .f32) 4096 256 6 (t.val * 256 + q - 4096 + 3) l + term (m ((c : Thread nD τ).loc main_arg1) : FVec Ideal S7x1024 .f32) (m ((c : Thread nD τ).loc main_arg3) : FVec Ideal S4352x1024 .f32) 4096 256 5 (t.val * 256 + q - 4096 + 3) l + term (m ((c : Thread nD τ).loc main_arg1) : FVec Ideal S7x1024 .f32) (m ((c : Thread nD τ).loc main_arg3) : FVec Ideal S4352x1024 .f32) 4096 256 4 (t.val * 256 + q - 4096 + 3) l + term (m ((c : Thread nD τ).loc main_arg1) : FVec Ideal S7x1024 .f32) (m ((c : Thread nD τ).loc main_arg3) : FVec Ideal S4352x1024 .f32) 4096 256 3 (t.val * 256 + q - 4096 + 3) l + term (m ((c : Thread nD τ).loc main_arg1) : FVec Ideal S7x1024 .f32) (m ((c : Thread nD τ).loc main_arg3) : FVec Ideal S4352x1024 .f32) 4096 256 2 (t.val * 256 + q - 4096 + 3) l + term (m ((c : Thread nD τ).loc main_arg1) : FVec Ideal S7x1024 .f32) (m ((c : Thread nD τ).loc main_arg3) : FVec Ideal S4352x1024 .f32) 4096 256 1 (t.val * 256 + q - 4096 + 3) l + term (m ((c : Thread nD τ).loc main_arg1) : FVec Ideal S7x1024 .f32) (m ((c : Thread nD τ).loc main_arg3) : FVec Ideal S4352x1024 .f32) 4096 256 0 (t.val * 256 + q - 4096 + 3) l := by
  unfold grad
  exact Eq.trans (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (product_context m c t ht q hq l 0 0 11 rfl (weights_0 m c l)) (product_context m c t ht q hq l 1 1 10 rfl (weights_1 m c l))) (product_context m c t ht q hq l 2 2 9 rfl (weights_2 m c l))) (product_context m c t ht q hq l 3 3 8 rfl (weights_3 m c l))) (product_context m c t ht q hq l 4 4 7 rfl (weights_4 m c l))) (product_context m c t ht q hq l 5 5 6 rfl (weights_5 m c l))) (product_context m c t ht q hq l 6 6 5 rfl (weights_6 m c l))) (reverse _ _ _ _ _ _ _)

/-- A grid point's gradient is the derivative at the row. -/
theorem grad_eq (c : Dev nD) (t : Fin cfg0.N) (y : S256x1024.Idx) : grad m c t (y 0).val (y 1) = val_main_v282 (F := Ideal) (m ((c : Thread nD τ).loc main_arg1)) (m ((c : Thread nD τ).loc main_arg3)) (ix2 (row t (y 0)) (y 1 : Fin 1024)) := by
  have hN : cfg0.N = 17 := N_0
  have hlt := t.isLt
  have hq : (y 0).val < 256 := (y 0).isLt
  by_cases ht : t.val < 16
  · exact (grad_latent m c t ht _ hq _).trans (ref_latent _ _ (ix2 (row t (y 0)) (y 1 : Fin 1024)) (show t.val * 256 + (y 0).val < 4096 by omega)).symm
  · exact (grad_context m c t (by omega) _ hq _).trans (ref_context _ _ (ix2 (row t (y 0)) (y 1 : Fin 1024)) (show 4096 ≤ t.val * 256 + (y 0).val by omega)).symm

/-- What a grid point stores is the derivative where it lands. -/
theorem point (c : Dev nD) (t : Fin cfg0.N) (y : S256x1024.Idx) : (outsAt0 m c t.val t.isLt).1 y
    = val_main_v282 (F := Ideal) (m ((c : Thread nD τ).loc main_arg1)) (m ((c : Thread nD τ).loc main_arg3)) ((win0_17.blk t).view.emb y) := by
  rw [lands]
  by_cases h : t.val % 17 = 0
  · exact (stored_A m c t h y).trans (grad_eq m c t y)
  · exact (stored_B m c t h y).trans (grad_eq m c t y)

/-- The kernel's whole result. -/
theorem final (c : Dev nD) : (dats m 0 c).arrAt 17 cfg0.N = val_main_v282 (F := Ideal) (m ((c : Thread nD τ).loc main_arg1)) (m ((c : Thread nD τ).loc main_arg3)) := by
  refine (dats m 0 c).arrAt_eq_of_covers 17 _ (by decide +kernel) fun t _ y => ?_
  blk_simp
  rw [after0_17]
  exact point m c t y

end Cert.Kernel14Ideal.ConvDx

namespace Cert.Proof

open Idealize.ShloMosaic Idealize.SL.Sem

/-- The gradient of the convolution's rows: the kernel's result is the reference's, the derivative of the two sequences' convolutions. -/
theorem algebraic_conv : Cert.algebraic_Kernel14Ideal_Reference14Ideal (hKernel14Ideal := Cert.Kernel14Ideal.Gen.facts)
    (hReference14Ideal := Cert.Reference14Ideal.Gen.facts) := by
  intro m g m' g' _ hargs
  refine ⟨_, (θ_run (Cert.Kernel14Ideal.defs (F := Ideal)) _ _).mono (fun r h c => ⟨(h c).1, (h c).2.2.2⟩) (Cert.Kernel14Ideal.Value.run_blocks (F := Ideal) m g), ?_⟩
  refine (θ_run (Cert.Reference14Ideal.defs (F := Ideal)) _ _).mono (fun r h c => ?_) (Cert.Reference14Ideal.Value.run (F := Ideal) m' g')
  refine ⟨(h c).1.trans ?_, (h c).2⟩
  rw [Cert.Kernel14Ideal.ConvDx.final]
  refine (val_main_v282_eq (StableHlo.launchContents m' c)).trans ?_
  rw [StableHlo.launchContents_devRef, StableHlo.launchContents_devRef, (hargs c).2.1, (hargs c).2.2.2]

end Cert.Proof

end
-- ==== Proof.NormDx.lean ====
/- The gradient of the gated norm behind the scans: the kernel's row blocks are the derivative of the root-mean-square norm of the gated output. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead

@[expose] public section

set_option maxRecDepth 16384

noncomputable section

namespace Cert.Kernel15Ideal.NormDx

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val, 0] ∧ win0_1.index t = ![t.val, 0] ∧ win0_2.index t = ![t.val, 0] ∧ win0_3.index t = ![t.val, 1] ∧ win0_4.index t = ![0, 0] ∧ win0_5.index t = ![0, 0]
    ∧ win0_6.index t = ![t.val, 1] ∧ win0_7.index t = ![t.val, 0] ∧ win0_8.index t = ![t.val, 0] ∧ win0_9.index t = ![t.val, 0] ∧ win0_10.index t = ![0, 0] :=
  (by decide +kernel : ∀ t : Fin grid0.N, _)

/-- The row of the whole arrays that a row of grid point `t`'s block is. -/
def row (t : Fin cfg0.N) (r : Fin 256) : Fin 4352 :=
  ⟨t.val * 256 + r.val, by have := t.isLt; have : cfg0.N = 17 := N_0; omega⟩

/-- The head to which a channel belongs. -/
def headOf (j : Fin 512) : Fin 8 := ⟨j.val / 64, by omega⟩

/-- The rows of the forward scan's output that a grid point reads. -/
theorem forward_block (c : Dev nD) (t : Fin cfg0.N) (x : S256x512.Idx) :
    iblk m c 0 t x = (m ((c : Thread nD τ).loc main_arg0) : FVec Ideal S4352x512 .f32) (ix2 (row t (x 0)) (x 1 : Fin 512)) := by
  have hv : V m c main_arg0 = (m ((c : Thread nD τ).loc main_arg0) : FVec Ideal S4352x512 .f32) := by
    unfold V; after_reads_simp
  rw [← hv]
  blk_ext [iblk, idx t, row]

/-- The rows of the backward scan's output that a grid point reads. -/
theorem backward_block (c : Dev nD) (t : Fin cfg0.N) (x : S256x512.Idx) :
    iblk m c 1 t x = (m ((c : Thread nD τ).loc main_arg1) : FVec Ideal S4352x512 .f32) (ix2 (row t (x 0)) (x 1 : Fin 512)) := by
  have hv : V m c main_arg1 = (m ((c : Thread nD τ).loc main_arg1) : FVec Ideal S4352x512 .f32) := by
    unfold V; after_reads_simp
  rw [← hv]
  blk_ext [iblk, idx t, row]

/-- The rows of the activation that a grid point reads: the first 512 columns. -/
theorem act_block (c : Dev nD) (t : Fin cfg0.N) (x : S256x512.Idx) :
    iblk m c 2 t x = (m ((c : Thread nD τ).loc main_arg2) : FVec Ideal S4352x1024 .f32) (ix2 (row t (x 0)) (⟨(x 1).val, by have : (x 1).val < 512 := (x 1).isLt; omega⟩ : Fin 1024)) := by
  have hv : V m c main_arg2 = (m ((c : Thread nD τ).loc main_arg2) : FVec Ideal S4352x1024 .f32) := by
    unfold V; after_reads_simp
  rw [← hv]
  blk_ext [iblk, idx t, row]

/-- The array that holds the gate's argument in its columns 512 to 1023. -/
def wide (c : Dev nD) : FVec Ideal S4352x2944 .f32 :=
  concatenate S4352x2944 1 [⟨S4352x512, broadcastInDim S4352x512 ![] bcast_S_S4352x512 (constant S_ .f32 0x00000000#32 : FVec Ideal S_ .f32)⟩, ⟨S4352x512, (m ((c : Thread nD τ).loc main_arg3) : FVec Ideal S4352x512 .f32)⟩,
    ⟨S4352x1920, broadcastInDim S4352x1920 ![] bcast_S_S4352x1920 (constant S_ .f32 0x00000000#32 : FVec Ideal S_ .f32)⟩]
    concatenates_S4352x512_S4352x512_S4352x1920_S4352x2944_d1

theorem V_wide (c : Dev nD) : V m c main_v2 = wide m c := by
  unfold V; after_reads_simp; rfl

/-- The rows of the gate's argument that a grid point reads. -/
theorem gate_block (c : Dev nD) (t : Fin cfg0.N) (x : S256x512.Idx) :
    X0_3 m c t x = (m ((c : Thread nD τ).loc main_arg3) : FVec Ideal S4352x512 .f32) (ix2 (row t (x 0)) (x 1 : Fin 512)) := by
  have h1 : X0_3 m c t x = wide m c (ix2 (row t (x 0)) (⟨512 + (x 1).val, by have : (x 1).val < 512 := (x 1).isLt; omega⟩ : Fin 2944)) := by
    rw [← V_wide m c]
    unfold X0_3
    unfold Pipeline.Window.fill
    refine (dif_pos (moved0_3 t x)).trans ?_
    blk_ext [iblk, idx t, row]
  have hl : (x 1).val < 512 := (x 1).isLt
  refine h1.trans ?_
  unfold wide
  pointwise []

/-- The array that holds the norm's cotangent in its last 512 columns. -/
def cotangent (c : Dev nD) : FVec Ideal S4352x1024 .bf16 :=
  concatenate S4352x1024 1 [⟨S4352x512, broadcastInDim S4352x512 ![] bcast_S_S4352x512 (constant S_ .bf16 0x0000#16 : FVec Ideal S_ .bf16)⟩, ⟨S4352x512, truncf .bf16 (m ((c : Thread nD τ).loc main_arg6) : FVec Ideal S4352x512 .f32) bitsLt_bf16_f32⟩]
    concatenates_S4352x512_S4352x512_S4352x1024_d1

theorem V_cotangent (c : Dev nD) : V m c main_v5 = cotangent m c := by
  unfold V; after_reads_simp; rfl

/-- The rows of the norm's cotangent that a grid point reads. -/
theorem cotangent_block (c : Dev nD) (t : Fin cfg0.N) (x : S256x512.Idx) :
    iblk m c 6 t x = (m ((c : Thread nD τ).loc main_arg6) : FVec Ideal S4352x512 .f32) (ix2 (row t (x 0)) (x 1 : Fin 512)) := by
  have h1 : iblk m c 6 t x = cotangent m c (ix2 (row t (x 0)) (⟨512 + (x 1).val, by have : (x 1).val < 512 := (x 1).isLt; omega⟩ : Fin 1024)) := by
    rw [← V_cotangent m c]
    blk_ext [iblk, idx t, row]
  have hl : (x 1).val < 512 := (x 1).isLt
  refine h1.trans ?_
  unfold cotangent
  pointwise []

theorem V_skip (c : Dev nD) : V m c main_v8 = broadcastInDim S1x512 ![1] bcast_S512_S1x512_1 (shapeCast S512 (broadcastInDim S8x64 ![0] bcast_S8_S8x64_0 (m ((c : Thread nD τ).loc main_arg4) : FVec Ideal S8 .f32)) shapeCasts_S8x64_S512) := by
  unfold V; after_reads_simp; rfl

/-- The skip connection's weights, each as often as its head has channels. -/
theorem skip_block (c : Dev nD) (t : Fin cfg0.N) (x : S1x512.Idx) :
    iblk m c 4 t x = (m ((c : Thread nD τ).loc main_arg4) : FVec Ideal S8 .f32) (ix1 (headOf (x 1))) := by
  have h1 : iblk m c 4 t x = V m c main_v8 (ix2 (0 : Fin 1) (x 1 : Fin 512)) := by
    blk_ext [iblk, idx t]
  refine h1.trans ?_
  rw [V_skip m c]
  pointwise []
  blk_point [headOf]

theorem V_scale (c : Dev nD) : V m c main_v9 = broadcastInDim S1x512 ![1] bcast_S512_S1x512_1 (m ((c : Thread nD τ).loc main_arg5) : FVec Ideal S512 .f32) := by
  unfold V; after_reads_simp

/-- The norm's scales. -/
theorem scale_block (c : Dev nD) (t : Fin cfg0.N) (x : S1x512.Idx) :
    iblk m c 5 t x = (m ((c : Thread nD τ).loc main_arg5) : FVec Ideal S512 .f32) (ix1 (x 1 : Fin 512)) := by
  have h1 : iblk m c 5 t x = V m c main_v9 (ix2 (0 : Fin 1) (x 1 : Fin 512)) := by
    blk_ext [iblk, idx t]
  refine h1.trans ?_
  rw [V_scale m c]
  pointwise []

/-- The exponential is never negative. -/
theorem exp_nonneg (z : EReal) : 0 ≤ Ideal.exp z := by
  induction z using EReal.rec with
  | bot => exact le_of_eq Ideal.exp_bot.symm
  | coe r => rw [Ideal.exp_coe]; exact_mod_cast (Real.exp_pos r).le
  | top => rw [Ideal.exp_top]; exact le_top

/-- The sigmoid-weighted unit. -/
def unit (z : EReal) : EReal := z * Ideal.div 1 (1 + Ideal.exp (-z))

/-- The two ways of writing the sigmoid-weighted unit agree on all extended reals. -/
theorem unit_eq (z : EReal) : Ideal.div z (1 + Ideal.exp (0 - z)) = unit z := by
  unfold unit
  rw [zero_sub, Idealize.ShloMosaic.Ideal.mul_one_div (ne_of_gt (lt_of_lt_of_le one_pos (le_add_of_nonneg_right (exp_nonneg _))))]

/-- The scans' outputs and the skip connection, added up. -/
def before (c : Dev nD) (p : Fin 4352) (j : Fin 512) : EReal :=
  FloatOps.addf (F := Ideal) (φ := .f32) (FloatOps.addf ((m ((c : Thread nD τ).loc main_arg0) : FVec Ideal S4352x512 .f32) (ix2 p j)) ((m ((c : Thread nD τ).loc main_arg1) : FVec Ideal S4352x512 .f32) (ix2 p j))) (FloatOps.mulf ((m ((c : Thread nD τ).loc main_arg4) : FVec Ideal S8 .f32) (ix1 (headOf j))) ((m ((c : Thread nD τ).loc main_arg2) : FVec Ideal S4352x1024 .f32) (ix2 p (⟨j.val, by omega⟩ : Fin 1024))))

/-- The gated output, which the norm takes. -/
def gated (c : Dev nD) (p : Fin 4352) (j : Fin 512) : EReal := before m c p j * unit ((m ((c : Thread nD τ).loc main_arg3) : FVec Ideal S4352x512 .f32) (ix2 p j))

/-- The kernel's gated output. -/
theorem kernel_gated (c : Dev nD) (t : Fin cfg0.N) (x : S256x512.Idx) :
    k0_pay14 (F := Ideal) (iblk m c 0 t) (iblk m c 1 t) (iblk m c 2 t) (X0_3 m c t) (iblk m c 4 t) x = gated m c (row t (x 0)) (x 1) := by
  refine Eq.trans ?_ (congrArg (fun z : EReal => before m c (row t (x 0)) (x 1) * z) (unit_eq _))
  pointwise [k0_pay14, k0_pay9, k0_pay7, k0_pay12, k0_pay6, k0_pay11, k0_pay10, forward_block, backward_block, act_block, gate_block, skip_block, before]

/-- The reference's sum of the scans' outputs and the skip connection. -/
theorem ref_before (c : Dev nD) (x : S4352x512.Idx) :
    Cert.Reference15Ideal.Read.val_main_v11 (F := Ideal) (m ((c : Thread nD τ).loc main_arg0)) (m ((c : Thread nD τ).loc main_arg1)) (m ((c : Thread nD τ).loc main_arg2)) (m ((c : Thread nD τ).loc main_arg4)) x = before m c (x 0) (x 1) := by
  unfold before
  pointwise [Cert.Reference15Ideal.Read.val_main_v0, Cert.Reference15Ideal.Read.val_main_v1, Cert.Reference15Ideal.Read.val_main_v2, Cert.Reference15Ideal.Read.val_main_v3, Cert.Reference15Ideal.Read.val_main_v4, Cert.Reference15Ideal.Read.val_main_v5, Cert.Reference15Ideal.Read.val_main_v6, Cert.Reference15Ideal.Read.val_main_v7, Cert.Reference15Ideal.Read.val_main_v8, Cert.Reference15Ideal.Read.val_main_v9, Cert.Reference15Ideal.Read.val_main_v10, Cert.Reference15Ideal.Read.val_main_v11]
  blk_point [headOf]

/-- The reference's sigmoid-weighted unit. -/
theorem ref_unit (c : Dev nD) (x : S4352x512.Idx) :
    Cert.Reference15Ideal.Read.val_main_v12_0 (F := Ideal) (m ((c : Thread nD τ).loc main_arg3)) x = unit ((m ((c : Thread nD τ).loc main_arg3) : FVec Ideal S4352x512 .f32) x) := by
  unfold unit
  pointwise [Cert.Reference15Ideal.Read.val_main_call0_v0, Cert.Reference15Ideal.Read.val_main_call0_v1, Cert.Reference15Ideal.Read.val_main_call0_cst, Cert.Reference15Ideal.Read.val_main_call0_v2, Cert.Reference15Ideal.Read.val_main_call0_v3, Cert.Reference15Ideal.Read.val_main_call0_cst_0, Cert.Reference15Ideal.Read.val_main_call0_v4, Cert.Reference15Ideal.Read.val_main_v12_2, Cert.Reference15Ideal.Read.val_main_call0_cst_1, Cert.Reference15Ideal.Read.val_main_call0_v6, Cert.Reference15Ideal.Read.val_main_call0_v7, Cert.Reference15Ideal.Read.val_main_v12_1, Cert.Reference15Ideal.Read.val_main_v12_0]

/-- The reference's gated output. -/
theorem ref_gated (c : Dev nD) (x : S4352x512.Idx) :
    Cert.Reference15Ideal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) x = gated m c (x 0) (x 1) := by
  unfold gated
  pointwise [Cert.Reference15Ideal.Read.val_main_v13, ref_before m c, ref_unit m c]

/-- The kernel's cotangent of the gated output is the reference's. -/
theorem kernel_norm (c : Dev nD) (t : Fin cfg0.N) (x : S256x512.Idx) :
    k0_pay20 (F := Ideal) (k0_pay8 (iblk m c 5 t)) (k0_pay14 (iblk m c 0 t) (iblk m c 1 t) (iblk m c 2 t) (X0_3 m c t) (iblk m c 4 t)) (k0_pay16 (iblk m c 0 t) (iblk m c 1 t) (iblk m c 2 t) (X0_3 m c t) (iblk m c 4 t)) (k0_pay17 (iblk m c 0 t) (iblk m c 1 t) (iblk m c 2 t) (X0_3 m c t) (iblk m c 4 t)) (iblk m c 6 t) x
      = Cert.Reference15Ideal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t (x 0)) (x 1 : Fin 512)) := by
  pointwise [k0_pay20, k0_pay18, k0_pay17, k0_pay16, k0_pay15, k0_pay8, kernel_gated, cotangent_block, scale_block, Cert.Reference15Ideal.Read.val_main_v14, Cert.Reference15Ideal.Read.val_main_cst, Cert.Reference15Ideal.Read.val_main_v15, Cert.Reference15Ideal.Read.val_main_v16, Cert.Reference15Ideal.Read.val_main_cst_0, Cert.Reference15Ideal.Read.val_main_v17, Cert.Reference15Ideal.Read.val_main_v18, Cert.Reference15Ideal.Read.val_main_cst_1, Cert.Reference15Ideal.Read.val_main_v19, Cert.Reference15Ideal.Read.val_main_v20, Cert.Reference15Ideal.Read.val_main_v21, Cert.Reference15Ideal.Read.val_main_v22, Cert.Reference15Ideal.Read.val_main_cst_2, Cert.Reference15Ideal.Read.val_main_v23, Cert.Reference15Ideal.Read.val_main_v24, Cert.Reference15Ideal.Read.val_main_v25, Cert.Reference15Ideal.Read.val_main_v26, Cert.Reference15Ideal.Read.val_main_v27, Cert.Reference15Ideal.Read.val_main_v28, Cert.Reference15Ideal.Read.val_main_v29, Cert.Reference15Ideal.Read.val_main_v30, Cert.Reference15Ideal.Read.val_main_cst_3, Cert.Reference15Ideal.Read.val_main_v31, Cert.Reference15Ideal.Read.val_main_v32, Cert.Reference15Ideal.Read.val_main_v33, Cert.Reference15Ideal.Read.val_main_v34, Cert.Reference15Ideal.Read.val_main_cst_4, Cert.Reference15Ideal.Read.val_main_v35, Cert.Reference15Ideal.Read.val_main_v36, Cert.Reference15Ideal.Read.val_main_cst_5, Cert.Reference15Ideal.Read.val_main_v37, Cert.Reference15Ideal.Read.val_main_v38, Cert.Reference15Ideal.Read.val_main_v39, Cert.Reference15Ideal.Read.val_main_v40, Cert.Reference15Ideal.Read.val_main_v41, Cert.Reference15Ideal.Read.val_main_cst_6, Cert.Reference15Ideal.Read.val_main_v42, Cert.Reference15Ideal.Read.val_main_v43, Cert.Reference15Ideal.Read.val_main_cst_7, Cert.Reference15Ideal.Read.val_main_v44, Cert.Reference15Ideal.Read.val_main_v45, Cert.Reference15Ideal.Read.val_main_v46, Cert.Reference15Ideal.Read.val_main_v47, Cert.Reference15Ideal.Read.val_main_v48, Cert.Reference15Ideal.Read.val_main_v49, ref_gated m c]

/-- The kernel's sigmoid-weighted unit. -/
theorem kernel_unit (c : Dev nD) (t : Fin cfg0.N) (x : S256x512.Idx) :
    k0_pay12 (F := Ideal) (X0_3 m c t) x = unit ((m ((c : Thread nD τ).loc main_arg3) : FVec Ideal S4352x512 .f32) (ix2 (row t (x 0)) (x 1 : Fin 512))) := by
  refine Eq.trans ?_ (unit_eq _)
  pointwise [k0_pay12, k0_pay6, k0_pay11, k0_pay10, gate_block]

/-- The kernel's gradient of the scans' outputs is the reference's. -/
theorem kernel_dy (c : Dev nD) (t : Fin cfg0.N) (x : S256x512.Idx) :
    k0_pay21 (F := Ideal) (k0_pay8 (iblk m c 5 t)) (k0_pay12 (X0_3 m c t)) (k0_pay14 (iblk m c 0 t) (iblk m c 1 t) (iblk m c 2 t) (X0_3 m c t) (iblk m c 4 t)) (k0_pay16 (iblk m c 0 t) (iblk m c 1 t) (iblk m c 2 t) (X0_3 m c t) (iblk m c 4 t)) (k0_pay17 (iblk m c 0 t) (iblk m c 1 t) (iblk m c 2 t) (X0_3 m c t) (iblk m c 4 t)) (iblk m c 6 t) x = Cert.Reference15Ideal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t (x 0)) (x 1 : Fin 512)) := by
  pointwise [k0_pay21, kernel_norm, kernel_unit, Cert.Reference15Ideal.Read.val_main_v51, ref_unit m c]

/-- The two ways of writing the gradient of the gate agree on all extended reals. -/
theorem gate_slope (x z : EReal) :
    Ideal.div x (1 + Ideal.exp (0 - z)) + (0 - (0 - x * Ideal.div 1 ((1 + Ideal.exp (0 - z)) * (1 + Ideal.exp (0 - z))) * z) * Ideal.exp (0 - z))
      = x * Ideal.div 1 (1 + Ideal.exp (-z)) + z * x * (Ideal.div 1 (1 + Ideal.exp (-z)) * (1 - Ideal.div 1 (1 + Ideal.exp (-z)))) := by
  rw [zero_sub, ← Idealize.ShloMosaic.Ideal.mul_one_div (ne_of_gt (lt_of_lt_of_le one_pos (le_add_of_nonneg_right (exp_nonneg (-z)))))]
  refine congrArg (fun w : EReal => x * Ideal.div 1 (1 + Ideal.exp (-z)) + w) ?_
  rw [zero_sub, zero_sub, EReal.neg_mul, neg_neg]
  induction z using EReal.rec with
  | bot =>
    have hs : Ideal.div 1 (1 + Ideal.exp (-⊥)) = 0 := by
      rw [EReal.neg_bot, Ideal.exp_top, EReal.add_top_of_ne_bot (by decide), Ideal.div, if_neg (by decide), EReal.inv_top, mul_zero]
    have ht : Ideal.div 1 ((1 + Ideal.exp (-⊥)) * (1 + Ideal.exp (-⊥))) = 0 := by
      rw [EReal.neg_bot, Ideal.exp_top, EReal.add_top_of_ne_bot (by decide), EReal.top_mul_top, Ideal.div, if_neg (by decide), EReal.inv_top, mul_zero]
    rw [hs, ht]; simp
  | coe z =>
    have hp : (1 + Real.exp (-z)) ≠ 0 := by positivity
    have hs : Ideal.div 1 (1 + Ideal.exp (-(z : EReal))) = ((1 / (1 + Real.exp (-z)) : ℝ) : EReal) := by
      rw [← EReal.coe_neg, Ideal.exp_coe, ← EReal.coe_one, ← EReal.coe_add, Ideal.div_coe hp, ← EReal.coe_mul, one_mul]
    have ht : Ideal.div 1 ((1 + Ideal.exp (-(z : EReal))) * (1 + Ideal.exp (-(z : EReal)))) = ((1 / ((1 + Real.exp (-z)) * (1 + Real.exp (-z))) : ℝ) : EReal) := by
      rw [← EReal.coe_neg, Ideal.exp_coe, ← EReal.coe_one, ← EReal.coe_add, ← EReal.coe_mul, Ideal.div_coe (mul_ne_zero hp hp), ← EReal.coe_mul, one_mul]
    have he : Ideal.exp (-(z : EReal)) = ((Real.exp (-z) : ℝ) : EReal) := by rw [← EReal.coe_neg, Ideal.exp_coe]
    have hr : 1 / ((1 + Real.exp (-z)) * (1 + Real.exp (-z))) * Real.exp (-z) = 1 / (1 + Real.exp (-z)) * (1 - 1 / (1 + Real.exp (-z))) := by
      field_simp
      ring
    rw [hs, ht, he, ← EReal.coe_one, ← EReal.coe_sub, ← EReal.coe_mul, ← hr, EReal.coe_mul, mul_assoc, mul_assoc, mul_comm (z : EReal) x, mul_assoc, mul_left_comm (z : EReal)]
  | top =>
    have hs : Ideal.div 1 (1 + Ideal.exp (-⊤)) = 1 := by
      rw [EReal.neg_top, Ideal.exp_bot, add_zero, ← EReal.coe_one, Ideal.div_coe one_ne_zero]; simp
    have h0 : (1 : EReal) - 1 = 0 := by rw [← EReal.coe_one, ← EReal.coe_sub, sub_self, EReal.coe_zero]
    rw [hs, h0, EReal.neg_top, Ideal.exp_bot]; simp

/-- The kernel's gradient of the gate is the reference's. -/
theorem kernel_dz (c : Dev nD) (t : Fin cfg0.N) (x : S256x512.Idx) :
    k0_pay22 (F := Ideal) (k0_pay6 (X0_3 m c t)) (k0_pay8 (iblk m c 5 t)) (k0_pay9 (iblk m c 0 t) (iblk m c 1 t) (iblk m c 2 t) (iblk m c 4 t)) (k0_pay10 (X0_3 m c t)) (k0_pay11 (X0_3 m c t)) (k0_pay13 (X0_3 m c t)) (k0_pay14 (iblk m c 0 t) (iblk m c 1 t) (iblk m c 2 t) (X0_3 m c t) (iblk m c 4 t)) (k0_pay16 (iblk m c 0 t) (iblk m c 1 t) (iblk m c 2 t) (X0_3 m c t) (iblk m c 4 t)) (k0_pay17 (iblk m c 0 t) (iblk m c 1 t) (iblk m c 2 t) (X0_3 m c t) (iblk m c 4 t)) (iblk m c 6 t) x = Cert.Reference15Ideal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t (x 0)) (x 1 : Fin 512)) := by
  refine Eq.trans ?_ ((gate_slope (before m c (row t (x 0)) (x 1) * Cert.Reference15Ideal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t (x 0)) (x 1 : Fin 512))) ((m ((c : Thread nD τ).loc main_arg3) : FVec Ideal S4352x512 .f32) (ix2 (row t (x 0)) (x 1 : Fin 512)))).trans ?_)
  · pointwise [k0_pay22, k0_pay9, k0_pay7, k0_pay6, k0_pay10, k0_pay11, k0_pay13, kernel_norm, forward_block, backward_block, act_block, gate_block, skip_block, before]
  · pointwise [Cert.Reference15Ideal.Read.val_main_call0_v0, Cert.Reference15Ideal.Read.val_main_call0_v1, Cert.Reference15Ideal.Read.val_main_call0_cst, Cert.Reference15Ideal.Read.val_main_call0_v2, Cert.Reference15Ideal.Read.val_main_call0_v3, Cert.Reference15Ideal.Read.val_main_call0_cst_0, Cert.Reference15Ideal.Read.val_main_call0_v4, Cert.Reference15Ideal.Read.val_main_v12_2, Cert.Reference15Ideal.Read.val_main_call0_cst_1, Cert.Reference15Ideal.Read.val_main_call0_v6, Cert.Reference15Ideal.Read.val_main_call0_v7, Cert.Reference15Ideal.Read.val_main_v12_1, Cert.Reference15Ideal.Read.val_main_v12_0, Cert.Reference15Ideal.Read.val_main_call1_v0, Cert.Reference15Ideal.Read.val_main_call1_v1, Cert.Reference15Ideal.Read.val_main_call1_v2, Cert.Reference15Ideal.Read.val_main_v52, Cert.Reference15Ideal.Read.val_main_v50, ref_before m c]

/-- Where an element of each stored block lands. -/
theorem lands7 (t : Fin cfg0.N) (y : S256x512.Idx) : (win0_7.blk t).view.emb y = ix2 (row t (y 0)) (y 1 : Fin 512) := by
  blk_ext [idx t, row]

theorem lands8 (t : Fin cfg0.N) (y : S256x512.Idx) : (win0_8.blk t).view.emb y = ix2 (row t (y 0)) (y 1 : Fin 512) := by
  blk_ext [idx t, row]

theorem lands9 (t : Fin cfg0.N) (y : S256x512.Idx) : (win0_9.blk t).view.emb y = ix2 (row t (y 0)) (y 1 : Fin 512) := by
  blk_ext [idx t, row]

theorem lands10 (t : Fin cfg0.N) (y : S8x512.Idx) : (win0_10.blk t).view.emb y = y := by
  blk_ext [idx t]

/-- The stored gradient of the scans' outputs. -/
theorem stored_dy (c : Dev nD) (t : Fin cfg0.N) (y : S256x512.Idx) :
    k0_pay25 (F := Ideal) (k0_pay8 (iblk m c 5 t)) (k0_pay12 (X0_3 m c t)) (k0_pay14 (iblk m c 0 t) (iblk m c 1 t) (iblk m c 2 t) (X0_3 m c t) (iblk m c 4 t)) (k0_pay16 (iblk m c 0 t) (iblk m c 1 t) (iblk m c 2 t) (X0_3 m c t) (iblk m c 4 t)) (k0_pay17 (iblk m c 0 t) (iblk m c 1 t) (iblk m c 2 t) (X0_3 m c t) (iblk m c 4 t)) (iblk m c 6 t) y = Cert.Reference15Ideal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t (y 0)) (y 1 : Fin 512)) := by
  pointwise [k0_pay25, kernel_dy, Cert.Reference15Ideal.Read.val_main_v64, Cert.Reference15Ideal.Read.val_main_v53]

/-- The stored gradient of the scans' input, along the skip connection. -/
theorem stored_dxs (c : Dev nD) (t : Fin cfg0.N) (y : S256x512.Idx) :
    k0_pay1 (F := Ideal) (k0_pay23 (k0_pay7 (iblk m c 4 t)) (k0_pay8 (iblk m c 5 t)) (k0_pay12 (X0_3 m c t)) (k0_pay14 (iblk m c 0 t) (iblk m c 1 t) (iblk m c 2 t) (X0_3 m c t) (iblk m c 4 t)) (k0_pay16 (iblk m c 0 t) (iblk m c 1 t) (iblk m c 2 t) (X0_3 m c t) (iblk m c 4 t)) (k0_pay17 (iblk m c 0 t) (iblk m c 1 t) (iblk m c 2 t) (X0_3 m c t) (iblk m c 4 t)) (iblk m c 6 t)) y = Cert.Reference15Ideal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t (y 0)) (y 1 : Fin 512)) := by
  pointwise [k0_pay1, k0_pay23, k0_pay7, kernel_dy, skip_block, Cert.Reference15Ideal.Read.val_main_v65, Cert.Reference15Ideal.Read.val_main_v55, Cert.Reference15Ideal.Read.val_main_v54, Cert.Reference15Ideal.Read.val_main_v53, Cert.Reference15Ideal.Read.val_main_v7, Cert.Reference15Ideal.Read.val_main_v1, Cert.Reference15Ideal.Read.val_main_v0]
  blk_point [headOf]

/-- The stored gradient of the gate. -/
theorem stored_dz (c : Dev nD) (t : Fin cfg0.N) (y : S256x512.Idx) :
    (k0_pay2 (F := Ideal) (k0_pay22 (F := Ideal) (k0_pay6 (X0_3 m c t)) (k0_pay8 (iblk m c 5 t)) (k0_pay9 (iblk m c 0 t) (iblk m c 1 t) (iblk m c 2 t) (iblk m c 4 t)) (k0_pay10 (X0_3 m c t)) (k0_pay11 (X0_3 m c t)) (k0_pay13 (X0_3 m c t)) (k0_pay14 (iblk m c 0 t) (iblk m c 1 t) (iblk m c 2 t) (X0_3 m c t) (iblk m c 4 t)) (k0_pay16 (iblk m c 0 t) (iblk m c 1 t) (iblk m c 2 t) (X0_3 m c t) (iblk m c 4 t)) (k0_pay17 (iblk m c 0 t) (iblk m c 1 t) (iblk m c 2 t) (X0_3 m c t) (iblk m c 4 t)) (iblk m c 6 t)) y : EReal) = Cert.Reference15Ideal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t (y 0)) (y 1 : Fin 512)) := by
  pointwise [k0_pay2, kernel_dz, Cert.Reference15Ideal.Read.val_main_v66]

theorem point7 (c : Dev nD) (t : Fin cfg0.N) (y : S256x512.Idx) :
    (outsAt0 m c t.val t.isLt).1 y = Cert.Reference15Ideal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ((win0_7.blk t).view.emb y) := by
  rw [lands7 t y]
  by_cases h0 : t.val % 17 = 0
  · rw [outsAt0_A m c t h0]
    frame_out
    exact stored_dy m c t y
  · rw [outsAt0_B m c t h0]
    frame_out
    exact stored_dy m c t y

theorem point8 (c : Dev nD) (t : Fin cfg0.N) (y : S256x512.Idx) :
    (outsAt0 m c t.val t.isLt).2.1 y = Cert.Reference15Ideal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ((win0_8.blk t).view.emb y) := by
  rw [lands8 t y]
  by_cases h0 : t.val % 17 = 0
  · rw [outsAt0_A m c t h0]
    frame_out
    exact stored_dxs m c t y
  · rw [outsAt0_B m c t h0]
    frame_out
    exact stored_dxs m c t y

theorem point9 (c : Dev nD) (t : Fin cfg0.N) (y : S256x512.Idx) :
    (outsAt0 m c t.val t.isLt).2.2.1 y = Cert.Reference15Ideal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ((win0_9.blk t).view.emb y) := by
  rw [lands9 t y]
  by_cases h0 : t.val % 17 = 0
  · rw [outsAt0_A m c t h0]
    frame_out
    exact stored_dz m c t y
  · rw [outsAt0_B m c t h0]
    frame_out
    exact stored_dz m c t y

/-- The terms of the gradient of a channel's skip weight, and of its scale. -/
def skipTerm (c : Dev nD) (p : Fin 4352) (j : Fin 512) : EReal :=
  FloatOps.mulf (F := Ideal) (φ := .f32) (Cert.Reference15Ideal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 p j)) ((m ((c : Thread nD τ).loc main_arg2) : FVec Ideal S4352x1024 .f32) (ix2 p (⟨j.val, by omega⟩ : Fin 1024)))

def scaleTerm (c : Dev nD) (p : Fin 4352) (j : Fin 512) : EReal := Cert.Reference15Ideal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (ix2 p j)

/-- What a grid point adds to the two sums over the rows, which lie in the first two of eight rows. -/
def part (c : Dev nD) (t : Fin cfg0.N) (y : S8x512.Idx) : EReal :=
  if (y 0).val = 0 then ∑ r : Fin 256, skipTerm m c (row t r) (y 1) else if (y 0).val = 1 then ∑ r : Fin 256, scaleTerm m c (row t r) (y 1) else 0

/-- The two rows stored at a grid point, over what was there. -/
def two (c : Dev nD) (t : Fin cfg0.N) (prev : FVec Ideal S8x512 .f32) : List (View.Piece (Elt Ideal) S8x512 .f32) :=
  [⟨Rect.unit ![1, 0] ![1, 512] inb_S8x512_S1x512_1_0, k0_pay4 (F := Ideal) (k0_pay19 (k0_pay14 (iblk m c 0 t) (iblk m c 1 t) (iblk m c 2 t) (X0_3 m c t) (iblk m c 4 t)) (k0_pay16 (iblk m c 0 t) (iblk m c 1 t) (iblk m c 2 t) (X0_3 m c t) (iblk m c 4 t)) (iblk m c 6 t))
      (View.ld (Val := Elt Ideal) (S := S8x512) (e' := .f32) prev (Rect.unit ![1, 0] ![1, 512] inb_S8x512_S1x512_1_0))⟩,
    ⟨Rect.unit ![0, 0] ![1, 512] inb_S8x512_S1x512_0_0, k0_pay3 (F := Ideal) (k0_pay24 (iblk m c 2 t) (k0_pay8 (iblk m c 5 t)) (k0_pay12 (X0_3 m c t)) (k0_pay14 (iblk m c 0 t) (iblk m c 1 t) (iblk m c 2 t) (X0_3 m c t) (iblk m c 4 t)) (k0_pay16 (iblk m c 0 t) (iblk m c 1 t) (iblk m c 2 t) (X0_3 m c t) (iblk m c 4 t)) (k0_pay17 (iblk m c 0 t) (iblk m c 1 t) (iblk m c 2 t) (X0_3 m c t) (iblk m c 4 t)) (iblk m c 6 t))
      (View.ld (Val := Elt Ideal) (S := S8x512) (e' := .f32) prev (Rect.unit ![0, 0] ![1, 512] inb_S8x512_S1x512_0_0))⟩]

theorem store_scale (c : Dev nD) (t : Fin cfg0.N) (prev : FVec Ideal S8x512 .f32) (q : Fin 1) (j : Fin 512) :
    (k0_pay4 (F := Ideal) (k0_pay19 (k0_pay14 (iblk m c 0 t) (iblk m c 1 t) (iblk m c 2 t) (X0_3 m c t) (iblk m c 4 t)) (k0_pay16 (iblk m c 0 t) (iblk m c 1 t) (iblk m c 2 t) (X0_3 m c t) (iblk m c 4 t)) (iblk m c 6 t))
      (View.ld (Val := Elt Ideal) (S := S8x512) (e' := .f32) prev (Rect.unit ![1, 0] ![1, 512] inb_S8x512_S1x512_1_0)) (ix2 q j) : EReal)
      = prev (ix2 (1 : Fin 8) j) + part m c t (ix2 (1 : Fin 8) j) := by
  have hp : part m c t (ix2 (1 : Fin 8) j) = ∑ r : Fin 256, scaleTerm m c (row t r) j := by
    unfold part
    exact (if_neg (show ¬ (1 : ℕ) = 0 by decide)).trans (if_pos rfl)
  rw [hp]
  unfold scaleTerm
  pointwise [k0_pay4, k0_pay19, k0_pay18, k0_pay16, k0_pay15, kernel_gated, cotangent_block, Cert.Reference15Ideal.Read.val_main_v14, Cert.Reference15Ideal.Read.val_main_cst, Cert.Reference15Ideal.Read.val_main_v15, Cert.Reference15Ideal.Read.val_main_v16, Cert.Reference15Ideal.Read.val_main_cst_0, Cert.Reference15Ideal.Read.val_main_v17, Cert.Reference15Ideal.Read.val_main_v18, Cert.Reference15Ideal.Read.val_main_cst_1, Cert.Reference15Ideal.Read.val_main_v19, Cert.Reference15Ideal.Read.val_main_v20, Cert.Reference15Ideal.Read.val_main_v21, Cert.Reference15Ideal.Read.val_main_v22, Cert.Reference15Ideal.Read.val_main_cst_2, Cert.Reference15Ideal.Read.val_main_v23, Cert.Reference15Ideal.Read.val_main_v24, Cert.Reference15Ideal.Read.val_main_v25, Cert.Reference15Ideal.Read.val_main_v26, Cert.Reference15Ideal.Read.val_main_v27, Cert.Reference15Ideal.Read.val_main_v28, Cert.Reference15Ideal.Read.val_main_v29, Cert.Reference15Ideal.Read.val_main_v30, ref_gated m c]

theorem store_skip (c : Dev nD) (t : Fin cfg0.N) (prev : FVec Ideal S8x512 .f32) (q : Fin 1) (j : Fin 512) :
    (k0_pay3 (F := Ideal) (k0_pay24 (iblk m c 2 t) (k0_pay8 (iblk m c 5 t)) (k0_pay12 (X0_3 m c t)) (k0_pay14 (iblk m c 0 t) (iblk m c 1 t) (iblk m c 2 t) (X0_3 m c t) (iblk m c 4 t)) (k0_pay16 (iblk m c 0 t) (iblk m c 1 t) (iblk m c 2 t) (X0_3 m c t) (iblk m c 4 t)) (k0_pay17 (iblk m c 0 t) (iblk m c 1 t) (iblk m c 2 t) (X0_3 m c t) (iblk m c 4 t)) (iblk m c 6 t))
      (View.ld (Val := Elt Ideal) (S := S8x512) (e' := .f32) prev (Rect.unit ![0, 0] ![1, 512] inb_S8x512_S1x512_0_0)) (ix2 q j) : EReal)
      = prev (ix2 (0 : Fin 8) j) + part m c t (ix2 (0 : Fin 8) j) := by
  have hp : part m c t (ix2 (0 : Fin 8) j) = ∑ r : Fin 256, skipTerm m c (row t r) j := by
    unfold part
    exact if_pos rfl
  rw [hp]
  unfold skipTerm
  pointwise [k0_pay3, k0_pay24, kernel_dy, act_block]

/-- Each of the two stores leaves the grown elements of its own row. -/
theorem pieces (c : Dev nD) (t : Fin cfg0.N) (prev : FVec Ideal S8x512 .f32) :
    View.PiecesOf (Val := Elt Ideal) (s := S8x512) (e := .f32) (fun y => (prev y + part m c t y : EReal)) (two m c t prev) := by
  refine ⟨fun x => ?_, fun x => ?_, trivial⟩
  · have hx : x = ix2 (x 0 : Fin 1) (x 1 : Fin 512) := by funext a; fin_cases a <;> rfl
    have he : (Rect.unit ![1, 0] ![1, 512] inb_S8x512_S1x512_1_0).emb x = (ix2 (1 : Fin 8) (x 1 : Fin 512) : S8x512.Idx) := by
      funext a; apply Fin.ext; refine (Rect.idx_unit_val _ _ _ x a).trans ?_; fin_cases a <;> simp
    exact (congrArg _ hx).trans ((store_scale m c t prev (x 0) (x 1)).trans (congrArg (fun z : S8x512.Idx => (prev z + part m c t z : EReal)) he.symm))
  · have hx : x = ix2 (x 0 : Fin 1) (x 1 : Fin 512) := by funext a; fin_cases a <;> rfl
    have he : (Rect.unit ![0, 0] ![1, 512] inb_S8x512_S1x512_0_0).emb x = (ix2 (0 : Fin 8) (x 1 : Fin 512) : S8x512.Idx) := by
      funext a; apply Fin.ext; refine (Rect.idx_unit_val _ _ _ x a).trans ?_; fin_cases a <;> simp
    exact (congrArg _ hx).trans ((store_skip m c t prev (x 0) (x 1)).trans (congrArg (fun z : S8x512.Idx => (prev z + part m c t z : EReal)) he.symm))

/-- An element that neither store covers has no part to take. -/
theorem part_of_uncovered (c : Dev nD) (t : Fin cfg0.N) (prev : FVec Ideal S8x512 .f32) (y : S8x512.Idx)
    (h : ∀ p ∈ two m c t prev, y ∉ p.1.set) : part m c t y = 0 := by
  have h1 : ¬ (y 0).val = 1 := fun e => h _ (List.mem_cons_self ..) (by
    have he : (Rect.unit ![1, 0] ![1, 512] inb_S8x512_S1x512_1_0).idx (ix2 (0 : Fin 1) (y 1 : Fin 512)) = y := by
      funext a; apply Fin.ext; refine (Rect.idx_unit_val _ _ _ _ a).trans ?_; fin_cases a <;> simp [e]
    exact he ▸ LoadRect.idx_mem _ _)
  have h0 : ¬ (y 0).val = 0 := fun e => h _ (List.mem_cons_of_mem _ (List.mem_cons_self ..)) (by
    have he : (Rect.unit ![0, 0] ![1, 512] inb_S8x512_S1x512_0_0).idx (ix2 (0 : Fin 1) (y 1 : Fin 512)) = y := by
      funext a; apply Fin.ext; refine (Rect.idx_unit_val _ _ _ _ a).trans ?_; fin_cases a <;> simp [e]
    exact he ▸ LoadRect.idx_mem _ _)
  unfold part
  rw [if_neg h0, if_neg h1]

/-- The store of zeros at the first point. -/
def fill : View.Piece (Elt Ideal) S8x512 .f32 := ⟨Rect.unit ![0, 0] ![8, 512] inb_S8x512_S8x512_0_0, k0_pay5 (F := Ideal)⟩

theorem fill_at (y : S8x512.Idx) : k0_pay5 (F := Ideal) y = (0 : EReal) := by
  pointwise [k0_pay5]

/-- The first point starts from zeros. -/
theorem step_first (c : Dev nD) (t : Fin cfg0.N) (h0 : t.val % 17 = 0) (y : S8x512.Idx) :
    (outsAt0 m c t.val t.isLt).2.2.2 y = (0 + part m c t y : EReal) := by
  rw [outsAt0_A m c t h0]
  frame_out
  simp (disch := decide) only [↓ View.readCov_skip, ↓ View.readCov_cons_toLoadRect, ↓ View.readCov_fill]
  refine Eq.trans (b := (k0_pay5 (F := Ideal) y + part m c t y : EReal)) ?_ (congrArg (fun z : EReal => z + part m c t y) (fill_at y))
  by_cases hc : ∃ p ∈ two m c t (k0_pay5 (F := Ideal)), y ∈ p.1.set
  · exact View.canon_append_of_pieces (Val := Elt Ideal) (S := S8x512) (e := .f32) (fun y => (k0_pay5 (F := Ideal) y + part m c t y : EReal)) [fill] (two m c t (k0_pay5 (F := Ideal)))
      (fun p hp x => (pieces m c t (k0_pay5 (F := Ideal))).mem p hp x) y hc
  · have hn : ∀ p ∈ two m c t (k0_pay5 (F := Ideal)), y ∉ p.1.set := fun p hp hy => hc ⟨p, hp, hy⟩
    rw [part_of_uncovered m c t _ y hn, add_zero]
    refine (View.canon_cons_of_not_mem _ _ (hn _ (List.mem_cons_self ..))).trans ((View.canon_cons_of_not_mem _ _ (hn _ (List.mem_cons_of_mem _ (List.mem_cons_self ..)))).trans ?_)
    exact congrFun (View.canon_unit_zero (by funext a; fin_cases a <;> rfl) _ _) y

/-- Every later point adds to what the point before left. -/
theorem step_next (c : Dev nD) (t : Fin cfg0.N) (h0 : ¬ t.val % 17 = 0) (y : S8x512.Idx) :
    (outsAt0 m c t.val t.isLt).2.2.2 y = ((outsAt0 m c (t.val - 1) (by omega)).2.2.2 y + part m c t y : EReal) := by
  rw [outsAt0_B m c t h0]
  frame_out
  by_cases hc : ∃ p ∈ two m c t (outsAt0 m c (t.val - 1) (by omega)).2.2.2, y ∈ p.1.set
  · exact View.read_writes_apply_of_pieces (Val := Elt Ideal) (s := S8x512) (e := .f32) _ _ (fun y => ((outsAt0 m c (t.val - 1) (by omega)).2.2.2 y + part m c t y : EReal)) (two m c t (outsAt0 m c (t.val - 1) (by omega)).2.2.2)
      (fun p hp x => (pieces m c t _).mem p hp x) y hc
  · have hn : ∀ p ∈ two m c t (outsAt0 m c (t.val - 1) (by omega)).2.2.2, y ∉ p.1.set := fun p hp hy => hc ⟨p, hp, hy⟩
    rw [part_of_uncovered m c t _ y hn, add_zero]
    refine (View.read_writes_apply_of_forall_not_mem (Val := Elt Ideal) (s := S8x512) (e := .f32) _ _ y (two m c t (outsAt0 m c (t.val - 1) (by omega)).2.2.2) hn).trans ?_
    exact congrFun (Memref.IsWhole.read_unread _ _) y

/-- At the last point the sums run over all rows. -/
theorem total (c : Dev nD) (t : Fin cfg0.N) (hr : t.val % 17 = 16) (y : S8x512.Idx) :
    (outsAt0 m c t.val t.isLt).2.2.2 y = ∑ s : Fin 17, (part m c ⟨17 * (t.val / 17) + s.val, Pipeline.run_point_lt_of_flush t hr s⟩ y : EReal) := by
  have h := Pipeline.eq_sum_fin_of_reset_step_apply_of_flush (M := EReal) (ι := S8x512.Idx) (fun n h => (outsAt0 m c n h).2.2.2) 17 (fun _ => 0) (part m c)
    (fun t h y => step_first m c t h y) (fun t h y => step_next m c t h y) t hr y
  exact h.trans (zero_add _)

/-- The reference's sums over all rows, in the first two of eight rows. -/
theorem ref_sums (c : Dev nD) (y : S8x512.Idx) :
    Cert.Reference15Ideal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) y
      = if (y 0).val = 0 then ∑ p : Fin 4352, skipTerm m c p (y 1) else if (y 0).val = 1 then ∑ p : Fin 4352, scaleTerm m c p (y 1) else 0 := by
  unfold skipTerm scaleTerm
  pointwise [Cert.Reference15Ideal.Read.val_main_v63, Cert.Reference15Ideal.Read.val_main_v62, Cert.Reference15Ideal.Read.val_main_v61, Cert.Reference15Ideal.Read.val_main_v60, Cert.Reference15Ideal.Read.val_main_v59, Cert.Reference15Ideal.Read.val_main_v58, Cert.Reference15Ideal.Read.val_main_v57, Cert.Reference15Ideal.Read.val_main_v56, Cert.Reference15Ideal.Read.val_main_v53, Cert.Reference15Ideal.Read.val_main_v35, Cert.Reference15Ideal.Read.val_main_v32, Cert.Reference15Ideal.Read.val_main_v31, Cert.Reference15Ideal.Read.val_main_v5, Cert.Reference15Ideal.Read.val_main_v4, Cert.Reference15Ideal.Read.val_main_cst, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7, Cert.Reference15Ideal.Read.val_main_cst_8, Cert.Reference15Ideal.Read.val_main_cst_9, Cert.Reference15Ideal.Read.val_main_cst_10]
  by_cases h0 : (y 0).val = 0
  · rw [dif_pos (by omega), if_pos h0]
    simp only [Fin.sum_univ_one]
  · by_cases h1 : (y 0).val = 1
    · rw [dif_neg (by omega), dif_pos (by omega), if_neg h0, if_pos h1]
      simp only [Fin.sum_univ_one]
    · rw [dif_neg (by omega), dif_neg (by omega), if_neg h0, if_neg h1]

theorem point10 (c : Dev nD) (t : Fin cfg0.N) (hr : t.val % 17 = 16) (y : S8x512.Idx) :
    (outsAt0 m c t.val t.isLt).2.2.2 y = Cert.Reference15Ideal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ((win0_10.blk t).view.emb y) := by
  rw [lands10 t y]
  refine (total m c t hr y).trans (Eq.trans ?_ (ref_sums m c y).symm)
  have h1 : t.val / 17 = 0 := by have := t.isLt; have : cfg0.N = 17 := N_0; omega
  unfold part
  by_cases h0 : (y 0).val = 0
  · simp only [h0, if_true]
    refine Fin.sum_mul_add_congr fun s r hl => ?_
    simp only [h1, row, mul_zero, zero_add]
  · by_cases h1' : (y 0).val = 1
    · simp only [h1', if_true, if_neg one_ne_zero]
      refine Fin.sum_mul_add_congr fun s r hl => ?_
      simp only [h1, row, mul_zero, zero_add]
    · simp only [if_neg h0, if_neg h1', Finset.sum_const_zero]

theorem final7 (c : Dev nD) : (dats m 0 c).arrAt 7 cfg0.N = Cert.Reference15Ideal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  exact point7 m c t y

theorem final8 (c : Dev nD) : (dats m 0 c).arrAt 8 cfg0.N = Cert.Reference15Ideal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  exact point8 m c t y

theorem final9 (c : Dev nD) : (dats m 0 c).arrAt 9 cfg0.N = Cert.Reference15Ideal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  exact point9 m c t y

theorem final10 (c : Dev nD) : (dats m 0 c).arrAt 10 cfg0.N = Cert.Reference15Ideal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10]
  exact point10 m c t ((flush0_10 t).mp hf) y

end Cert.Kernel15Ideal.NormDx

namespace Cert.Proof

open Idealize.ShloMosaic Idealize.SL.Sem

/-- From equal arguments the kernel and the reference end with equal results: the gradients of the scans' outputs, of the scans' input, of the gate, and of the weights of the skip connection and the norm. -/
theorem algebraic_norm_dx : Cert.algebraic_Kernel15Ideal_Reference15Ideal (hKernel15Ideal := Cert.Kernel15Ideal.Gen.facts)
    (hReference15Ideal := Cert.Reference15Ideal.Gen.facts) := by
  intro m g m' g' _ hargs
  refine ⟨_, _, _, _, Cert.Kernel15Ideal.Value.run_blocks (F := Ideal) m g, ?_⟩
  refine (θ_run (Cert.Reference15Ideal.defs (F := Ideal)) _ _).mono (fun r h c => ?_) (Cert.Reference15Ideal.Value.run (F := Ideal) m' g')
  refine ⟨(h c).1.trans ?_, (h c).2.1.trans ?_, (h c).2.2.1.trans ?_, (h c).2.2.2.1.trans ?_, (h c).2.2.2.2⟩
  · rw [Cert.Kernel15Ideal.NormDx.final7]
    refine (Cert.Reference15Ideal.Read.val_main_v64_eq m' c).trans ?_
    rw [(hargs c).1, (hargs c).2.1, (hargs c).2.2.1, (hargs c).2.2.2.1, (hargs c).2.2.2.2.1, (hargs c).2.2.2.2.2.1, (hargs c).2.2.2.2.2.2]
  · rw [Cert.Kernel15Ideal.NormDx.final8]
    refine (Cert.Reference15Ideal.Read.val_main_v65_eq m' c).trans ?_
    rw [(hargs c).1, (hargs c).2.1, (hargs c).2.2.1, (hargs c).2.2.2.1, (hargs c).2.2.2.2.1, (hargs c).2.2.2.2.2.1, (hargs c).2.2.2.2.2.2]
  · rw [Cert.Kernel15Ideal.NormDx.final9]
    refine (Cert.Reference15Ideal.Read.val_main_v66_eq m' c).trans ?_
    rw [(hargs c).1, (hargs c).2.1, (hargs c).2.2.1, (hargs c).2.2.2.1, (hargs c).2.2.2.2.1, (hargs c).2.2.2.2.2.1, (hargs c).2.2.2.2.2.2]
  · rw [Cert.Kernel15Ideal.NormDx.final10]
    refine (Cert.Reference15Ideal.Read.val_main_v63_eq m' c).trans ?_
    rw [(hargs c).1, (hargs c).2.1, (hargs c).2.2.1, (hargs c).2.2.2.1, (hargs c).2.2.2.2.1, (hargs c).2.2.2.2.2.1, (hargs c).2.2.2.2.2.2]

end Cert.Proof

end
-- ==== Proof.RopeDx.lean ====
/- The gradient of the rotary embedding: the kernel's row blocks turn the cotangents back, as the derivative of the rotation does. -/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pointwise
public import Idealize.ShloMosaic.Lib.Claim
public import Idealize.ShloMosaic.Lib.KernelVsHost
public import Idealize.ShloMosaic.Lib.StableHlo.RunRead

@[expose] public section

set_option maxRecDepth 16384

noncomputable section

open Cert.Reference16Ideal.Read

namespace Cert.Kernel16Ideal.RopeDx

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] :=
  (by decide +kernel : ∀ t : Fin grid0.N, _)

/-- The row of the whole arrays that a row of grid point `t`'s block is. -/
def row (t : Fin cfg0.N) (r : Fin 544) : Fin 4352 :=
  ⟨t.val * 544 + r.val, by have := t.isLt; have : cfg0.N = 8 := N_0; omega⟩

/-- The angle by which a token's row turns the `j`-th pair. -/
def rowAngle (c : Dev nD) (p : Fin 4096) (j : Fin 16) : EReal :=
  FloatOps.mulf (F := Ideal) (φ := .f32) (FloatOps.sitofp .f32 ((m ((c : Thread nD τ).loc main_arg2) : IVec S4096 32) (ix1 p))) ((m ((c : Thread nD τ).loc main_arg4) : FVec Ideal S16 .f32) (ix1 j))

/-- The angle by which a token's column turns the `j`-th pair. -/
def colAngle (c : Dev nD) (p : Fin 4096) (j : Fin 16) : EReal :=
  FloatOps.mulf (F := Ideal) (φ := .f32) (FloatOps.sitofp .f32 ((m ((c : Thread nD τ).loc main_arg3) : IVec S4096 32) (ix1 p))) ((m ((c : Thread nD τ).loc main_arg4) : FVec Ideal S16 .f32) (ix1 j))

/-- The angle at a token and a channel of a head: the row's for the first 32 channels, the column's for the others. -/
def angle (c : Dev nD) (p : Fin 4096) (d : ℕ) : EReal :=
  if d % 64 < 32 then rowAngle m c p ⟨d % 16, by omega⟩ else colAngle m c p ⟨d % 16, by omega⟩

/-- The cosine table: ones for the context tokens. -/
def cosAt (c : Dev nD) (p : Fin 4352) (d : ℕ) : EReal := if h : p.val < 4096 then Ideal.cos (angle m c ⟨p.val, h⟩ d) else 1

/-- The sine table: zeros for the context tokens. -/
def sinAt (c : Dev nD) (p : Fin 4352) (d : ℕ) : EReal := if h : p.val < 4096 then Ideal.sin (angle m c ⟨p.val, h⟩ d) else 0

/-- The kernel's angles by rows. -/
def byRow (c : Dev nD) : FVec Ideal S4096x16 .f32 :=
  mulf (broadcastInDim S4096x16 ![0, 1] bcast_S4096x1_S4096x16_0_1 (broadcastInDim S4096x1 ![0] bcast_S4096_S4096x1_0 (sitofp .f32 (m ((c : Thread nD τ).loc main_arg2) : IVec S4096 32))))
    (broadcastInDim S4096x16 ![0, 1] bcast_S1x16_S4096x16_0_1 (broadcastInDim S1x16 ![1] bcast_S16_S1x16_1 (m ((c : Thread nD τ).loc main_arg4) : FVec Ideal S16 .f32)))

/-- The kernel's angles by columns. -/
def byCol (c : Dev nD) : FVec Ideal S4096x16 .f32 :=
  mulf (broadcastInDim S4096x16 ![0, 1] bcast_S4096x1_S4096x16_0_1 (broadcastInDim S4096x1 ![0] bcast_S4096_S4096x1_0 (sitofp .f32 (m ((c : Thread nD τ).loc main_arg3) : IVec S4096 32))))
    (broadcastInDim S4096x16 ![0, 1] bcast_S1x16_S4096x16_0_1 (broadcastInDim S1x16 ![1] bcast_S16_S1x16_1 (m ((c : Thread nD τ).loc main_arg4) : FVec Ideal S16 .f32)))

/-- The kernel's angles of one head. -/
def angles (c : Dev nD) : FVec Ideal S4096x64 .f32 :=
  concatenate S4096x64 1 [⟨S4096x16, byRow m c⟩, ⟨S4096x16, byRow m c⟩, ⟨S4096x16, byCol m c⟩, ⟨S4096x16, byCol m c⟩] concatenates_S4096x16_S4096x16_S4096x16_S4096x16_S4096x64_d1

theorem byRow_at (c : Dev nD) (p : Fin 4096) (j : Fin 16) : byRow m c (ix2 p j) = rowAngle m c p j := by
  unfold byRow rowAngle
  pointwise []

theorem byCol_at (c : Dev nD) (p : Fin 4096) (j : Fin 16) : byCol m c (ix2 p j) = colAngle m c p j := by
  unfold byCol colAngle
  pointwise []

theorem rowAngle_congr (c : Dev nD) {p p' : Fin 4096} {j j' : Fin 16} (hp : p.val = p'.val) (hj : j.val = j'.val) : rowAngle m c p j = rowAngle m c p' j' := by
  rw [Fin.ext hp, Fin.ext hj]

theorem colAngle_congr (c : Dev nD) {p p' : Fin 4096} {j j' : Fin 16} (hp : p.val = p'.val) (hj : j.val = j'.val) : colAngle m c p j = colAngle m c p' j' := by
  rw [Fin.ext hp, Fin.ext hj]

/-- The kernel's angle at a channel. -/
theorem angles_at (c : Dev nD) (p : Fin 4096) (d : Fin 64) : angles m c (ix2 p d) = angle m c p d.val := by
  have hd := d.isLt
  unfold angles angle
  by_cases h : d.val % 64 < 32
  · rw [if_pos h]
    by_cases h2 : d.val < 16
    · pointwise [byRow_at]
      simp (disch := omega) only [dif_pos, dif_neg]
      exact rowAngle_congr m c rfl (by dsimp only; omega)
    · pointwise [byRow_at]
      simp (disch := omega) only [dif_pos, dif_neg]
      exact rowAngle_congr m c rfl (by dsimp only; omega)
  · rw [if_neg h]
    by_cases h2 : d.val < 48
    · pointwise [byCol_at]
      simp (disch := omega) only [dif_pos, dif_neg]
      exact colAngle_congr m c rfl (by dsimp only; omega)
    · pointwise [byCol_at]
      simp (disch := omega) only [dif_pos, dif_neg]
      exact colAngle_congr m c rfl (by dsimp only; omega)

theorem angle_mod (c : Dev nD) (p : Fin 4096) (d : ℕ) : angle m c p (d % 64) = angle m c p d := by
  unfold angle
  have h1 : d % 64 % 64 = d % 64 := by omega
  have h2 : d % 64 % 16 = d % 16 := by omega
  simp only [h1, h2]

/-- The cosine table of the kernel, of two heads. -/
theorem V_cos (c : Dev nD) : V m c main_v21 = shapeCast S4352x128 (broadcastInDim S1x4352x2x64 ![0, 1, 2, 3] bcast_S1x4352x1x64_S1x4352x2x64_0_1_2_3
    (shapeCast S1x4352x1x64 (concatenate S4352x64 0 [⟨S4096x64, Host.cos (angles m c)⟩, ⟨S256x64, broadcastInDim S256x64 ![] bcast_S_S256x64 (constant S_ .f32 0x3F800000#32 : FVec Ideal S_ .f32)⟩]
      concatenates_S4096x64_S256x64_S4352x64_d0) shapeCasts_S4352x64_S1x4352x1x64)) shapeCasts_S1x4352x2x64_S4352x128 := by
  unfold V; after_reads_simp; rfl

/-- The cosine table at a token and a channel. -/
theorem table_cos (c : Dev nD) (p : Fin 4352) (d : Fin 128) : V m c main_v21 (ix2 p d) = cosAt m c p d.val := by
  rw [V_cos m c]
  unfold cosAt
  by_cases h : p.val < 4096
  · rw [dif_pos h, ← angle_mod]
    pointwise [angles_at]
    try rw [dif_pos h]
  · rw [dif_neg h]
    pointwise []
    try rw [dif_neg h]

/-- The rows of the cosine table that a grid point reads. -/
theorem cos_block (c : Dev nD) (t : Fin cfg0.N) (x : S544x128.Idx) : iblk m c 2 t x = cosAt m c (row t (x 0)) (x 1).val := by
  refine Eq.trans ?_ (table_cos m c (row t (x 0)) (x 1 : Fin 128))
  blk_ext [iblk, idx t, row]

/-- The sinine table of the kernel, of two heads. -/
theorem V_sin (c : Dev nD) : V m c main_v24 = shapeCast S4352x128 (broadcastInDim S1x4352x2x64 ![0, 1, 2, 3] bcast_S1x4352x1x64_S1x4352x2x64_0_1_2_3
    (shapeCast S1x4352x1x64 (concatenate S4352x64 0 [⟨S4096x64, Host.sin (angles m c)⟩, ⟨S256x64, broadcastInDim S256x64 ![] bcast_S_S256x64 (constant S_ .f32 0x00000000#32 : FVec Ideal S_ .f32)⟩]
      concatenates_S4096x64_S256x64_S4352x64_d0) shapeCasts_S4352x64_S1x4352x1x64)) shapeCasts_S1x4352x2x64_S4352x128 := by
  unfold V; after_reads_simp; rfl

/-- The sinine table at a token and a channel. -/
theorem table_sin (c : Dev nD) (p : Fin 4352) (d : Fin 128) : V m c main_v24 (ix2 p d) = sinAt m c p d.val := by
  rw [V_sin m c]
  unfold sinAt
  by_cases h : p.val < 4096
  · rw [dif_pos h, ← angle_mod]
    pointwise [angles_at]
    try rw [dif_pos h]
  · rw [dif_neg h]
    pointwise []
    try rw [dif_neg h]

/-- The rows of the sinine table that a grid point reads. -/
theorem sin_block (c : Dev nD) (t : Fin cfg0.N) (x : S544x128.Idx) : iblk m c 3 t x = sinAt m c (row t (x 0)) (x 1).val := by
  refine Eq.trans ?_ (table_sin m c (row t (x 0)) (x 1 : Fin 128))
  blk_ext [iblk, idx t, row]

/-- The rows of the query cotangents that a grid point reads. -/
theorem query_block (c : Dev nD) (t : Fin cfg0.N) (x : S544x256.Idx) :
    iblk m c 0 t x = (m ((c : Thread nD τ).loc main_arg5) : FVec Ideal S4352x256 .f32) (ix2 (row t (x 0)) (x 1 : Fin 256)) := by
  have hv : V m c main_arg5 = (m ((c : Thread nD τ).loc main_arg5) : FVec Ideal S4352x256 .f32) := by
    unfold V; after_reads_simp
  rw [← hv]
  blk_ext [iblk, idx t, row]

/-- The rows of the key cotangents that a grid point reads. -/
theorem key_block (c : Dev nD) (t : Fin cfg0.N) (x : S544x128.Idx) :
    iblk m c 1 t x = (m ((c : Thread nD τ).loc main_arg6) : FVec Ideal S4352x128 .f32) (ix2 (row t (x 0)) (x 1 : Fin 128)) := by
  have hv : V m c main_arg6 = (m ((c : Thread nD τ).loc main_arg6) : FVec Ideal S4352x128 .f32) := by
    unfold V; after_reads_simp
  rw [← hv]
  blk_ext [iblk, idx t, row]

/-- The kernel's test for the first half of a pair's 32 channels. -/
theorem first_half : ∀ l : Fin 128, IntOp.cmpi CmpIPredicate.slt (Scalar.select (IntOp.andi (IntOp.xori (IntOp.cmpi CmpIPredicate.slt (IntOp.remsi ArithUnit.vector (BitVec.ofNat 32 l.val) (Scalar.select (Scalar.cmpi CmpIPredicate.eq 32#32 0#32) 1#32 32#32)) 0#32)
      (Scalar.cmpi CmpIPredicate.slt (Scalar.select (Scalar.cmpi CmpIPredicate.eq 32#32 0#32) 1#32 32#32) 0#32)) (IntOp.cmpi CmpIPredicate.ne (IntOp.remsi ArithUnit.vector (BitVec.ofNat 32 l.val) (Scalar.select (Scalar.cmpi CmpIPredicate.eq 32#32 0#32) 1#32 32#32)) 0#32))
      (IntOp.addi (IntOp.remsi ArithUnit.vector (BitVec.ofNat 32 l.val) (Scalar.select (Scalar.cmpi CmpIPredicate.eq 32#32 0#32) 1#32 32#32)) (Scalar.select (Scalar.cmpi CmpIPredicate.eq 32#32 0#32) 1#32 32#32)) (IntOp.remsi ArithUnit.vector (BitVec.ofNat 32 l.val) (Scalar.select (Scalar.cmpi CmpIPredicate.eq 32#32 0#32) 1#32 32#32))) 16#32 = if l.val % 32 < 16 then 1#1 else 0#1 := by
  decide +kernel

/-- The channel that the turn brings to channel `l` of two heads from sixteen places on. -/
def up (l : Fin 128) : Fin 128 := ⟨(l.val + 128 - 112) % 128, by omega⟩

/-- The channel that the turn brings to channel `l` of two heads from sixteen places before. -/
def down (l : Fin 128) : Fin 128 := ⟨(l.val + 128 - 16) % 128, by omega⟩

/-- The turn back at channel `l` of two heads, of cotangents `g` with the tables `a` and `b`. -/
def turned (g a b : Fin 128 → EReal) (l : Fin 128) : EReal :=
  if l.val % 32 < 16 then g l * a l + g (up l) * b (up l) else g l * a l + (0 - g (down l) * b (down l))

theorem turn_left (v0 v2 v4 : Vec Ideal S544x128 .f32) (x : S544x128.Idx) : k0_pay4 (F := Ideal) v0 v2 v4 x
    = turned (fun l => v4 (ix2 (x 0 : Fin 544) l)) (fun l => v0 (ix2 (x 0 : Fin 544) l)) (fun l => v2 (ix2 (x 0 : Fin 544) l)) (x 1) := by
  have hf := first_half (x 1)
  unfold turned
  by_cases h : (x 1).val % 32 < 16
  · rw [if_pos h] at hf ⊢
    pointwise [k0_pay4, k0_pay3, k0_pay2, up]
    rw [hf]
    pointwise []
  · rw [if_neg h] at hf ⊢
    pointwise [k0_pay4, k0_pay3, k0_pay2, down]
    rw [hf]
    pointwise []

theorem turn_right (v0 v2 v4 : Vec Ideal S544x128 .f32) (x : S544x128.Idx) : k0_pay5 (F := Ideal) v0 v2 v4 (iota .tc S544x128 32 [1] iota_S544x128_d1_w32) x
    = turned (fun l => v4 (ix2 (x 0 : Fin 544) l)) (fun l => v0 (ix2 (x 0 : Fin 544) l)) (fun l => v2 (ix2 (x 0 : Fin 544) l)) (x 1) := by
  have hf := first_half (x 1)
  unfold turned
  by_cases h : (x 1).val % 32 < 16
  · rw [if_pos h] at hf ⊢
    pointwise [k0_pay5, up]
    rw [hf]
    pointwise []
  · rw [if_neg h] at hf ⊢
    pointwise [k0_pay5, down]
    rw [hf]
    pointwise []

theorem turn_key (v0 v2 v4 : Vec Ideal S544x128 .f32) (x : S544x128.Idx) : k0_pay1 (F := Ideal) v0 v2 v4 (Scalar.select (Scalar.cmpi CmpIPredicate.eq 32#32 0#32) 1#32 32#32) k0_pay6 k0_pay7 k0_pay8 x
    = turned (fun l => v4 (ix2 (x 0 : Fin 544) l)) (fun l => v0 (ix2 (x 0 : Fin 544) l)) (fun l => v2 (ix2 (x 0 : Fin 544) l)) (x 1) := by
  have hf := first_half (x 1)
  unfold turned
  by_cases h : (x 1).val % 32 < 16
  · rw [if_pos h] at hf ⊢
    pointwise [k0_pay1, k0_pay6, k0_pay7, k0_pay8, up]
    rw [hf]
    pointwise []
  · rw [if_neg h] at hf ⊢
    pointwise [k0_pay1, k0_pay6, k0_pay7, k0_pay8, down]
    rw [hf]
    pointwise []

/-- The column of the queries' array that is channel `l` of the `j`-th two heads. -/
def col (j : Fin 2) (l : Fin 128) : Fin 256 := ⟨j.val * 128 + l.val, by omega⟩

/-- The turned cotangent of the keys. -/
def turnedKey (c : Dev nD) (p : Fin 4352) (l : Fin 128) : EReal :=
  turned (fun l => (m ((c : Thread nD τ).loc main_arg6) : FVec Ideal S4352x128 .f32) (ix2 p l)) (fun l => cosAt m c p l.val) (fun l => sinAt m c p l.val) l

/-- The turned cotangent of the queries. -/
def turnedQuery (c : Dev nD) (p : Fin 4352) (j : Fin 2) (l : Fin 128) : EReal :=
  turned (fun l => (m ((c : Thread nD τ).loc main_arg5) : FVec Ideal S4352x256 .f32) (ix2 p (col j l))) (fun l => cosAt m c p l.val) (fun l => sinAt m c p l.val) l

theorem read_congr {W : ℕ} (g : (⟨2, ![4352, W]⟩ : Shape).Idx → EReal) {p p' : Fin 4352} {l l' : Fin W} (hp : p.val = p'.val) (hl : l.val = l'.val) :
    g (ix2 p l) = g (ix2 p' l') := by rw [Fin.ext hp, Fin.ext hl]

/-- The two summands of a turned channel of a first half, in the other order. -/
theorem first_close {W : ℕ} (g : Fin W → EReal) (a : Fin 16 → EReal) {l l' k k' : Fin W} {i i' j j' : Fin 16}
    (hl : l.val = l'.val) (hk : k.val = k'.val) (hi : i.val = i'.val) (hj : j.val = j'.val) :
    g k * Ideal.sin (a j) + g l * Ideal.cos (a i) = g l' * Ideal.cos (a i') + g k' * Ideal.sin (a j') := by
  rw [Fin.ext hl, Fin.ext hk, Fin.ext hi, Fin.ext hj, add_comm]

/-- The two summands of a turned channel of a second half, with the sign at the product. -/
theorem second_close {W : ℕ} (g : Fin W → EReal) (a : Fin 16 → EReal) {l l' k k' : Fin W} {i i' j j' : Fin 16}
    (hl : l.val = l'.val) (hk : k.val = k'.val) (hi : i.val = i'.val) (hj : j.val = j'.val) :
    g l * Ideal.cos (a i) + -g k * Ideal.sin (a j) = g l' * Ideal.cos (a i') + (0 - g k' * Ideal.sin (a j')) := by
  rw [Fin.ext hl, Fin.ext hk, Fin.ext hi, Fin.ext hj, zero_sub, ← EReal.neg_mul]

theorem ref_v9 (c : Dev nD) (x : Cert.Reference16Ideal.S4096x16.Idx) : (val_main_v9 (F := Ideal) (m ((c : Thread nD τ).loc main_arg2)) (m ((c : Thread nD τ).loc main_arg4)) x : EReal) = Ideal.cos (rowAngle m c (x 0) (x 1)) := by
  unfold rowAngle
  pointwise [val_main_v9, val_main_v8, val_main_v7, val_main_v5, val_main_v6, val_main_v4, val_main_v3]

theorem ref_v11 (c : Dev nD) (x : Cert.Reference16Ideal.S4096x16.Idx) : (val_main_v11 (F := Ideal) (m ((c : Thread nD τ).loc main_arg2)) (m ((c : Thread nD τ).loc main_arg4)) x : EReal) = Ideal.sin (rowAngle m c (x 0) (x 1)) := by
  unfold rowAngle
  pointwise [val_main_v11, val_main_v8, val_main_v7, val_main_v5, val_main_v6, val_main_v4, val_main_v3]

theorem ref_v33 (c : Dev nD) (x : Cert.Reference16Ideal.S4096x16.Idx) : (val_main_v33 (F := Ideal) (m ((c : Thread nD τ).loc main_arg3)) (m ((c : Thread nD τ).loc main_arg4)) x : EReal) = Ideal.cos (colAngle m c (x 0) (x 1)) := by
  unfold colAngle
  pointwise [val_main_v33, val_main_v32, val_main_v31, val_main_v29, val_main_v30, val_main_v28, val_main_v27]

theorem ref_v35 (c : Dev nD) (x : Cert.Reference16Ideal.S4096x16.Idx) : (val_main_v35 (F := Ideal) (m ((c : Thread nD τ).loc main_arg3)) (m ((c : Thread nD τ).loc main_arg4)) x : EReal) = Ideal.sin (colAngle m c (x 0) (x 1)) := by
  unfold colAngle
  pointwise [val_main_v35, val_main_v32, val_main_v31, val_main_v29, val_main_v30, val_main_v28, val_main_v27]

theorem ref_v63 (c : Dev nD) (x : Cert.Reference16Ideal.S4096x16.Idx) : (val_main_v63 (F := Ideal) (m ((c : Thread nD τ).loc main_arg2)) (m ((c : Thread nD τ).loc main_arg4)) x : EReal) = Ideal.cos (rowAngle m c (x 0) (x 1)) := by
  unfold rowAngle
  pointwise [val_main_v63, val_main_v62, val_main_v61, val_main_v59, val_main_v60, val_main_v58, val_main_v57]

theorem ref_v65 (c : Dev nD) (x : Cert.Reference16Ideal.S4096x16.Idx) : (val_main_v65 (F := Ideal) (m ((c : Thread nD τ).loc main_arg2)) (m ((c : Thread nD τ).loc main_arg4)) x : EReal) = Ideal.sin (rowAngle m c (x 0) (x 1)) := by
  unfold rowAngle
  pointwise [val_main_v65, val_main_v62, val_main_v61, val_main_v59, val_main_v60, val_main_v58, val_main_v57]

theorem ref_v87 (c : Dev nD) (x : Cert.Reference16Ideal.S4096x16.Idx) : (val_main_v87 (F := Ideal) (m ((c : Thread nD τ).loc main_arg3)) (m ((c : Thread nD τ).loc main_arg4)) x : EReal) = Ideal.cos (colAngle m c (x 0) (x 1)) := by
  unfold colAngle
  pointwise [val_main_v87, val_main_v86, val_main_v85, val_main_v83, val_main_v84, val_main_v82, val_main_v81]

theorem ref_v89 (c : Dev nD) (x : Cert.Reference16Ideal.S4096x16.Idx) : (val_main_v89 (F := Ideal) (m ((c : Thread nD τ).loc main_arg3)) (m ((c : Thread nD τ).loc main_arg4)) x : EReal) = Ideal.sin (colAngle m c (x 0) (x 1)) := by
  unfold colAngle
  pointwise [val_main_v89, val_main_v86, val_main_v85, val_main_v83, val_main_v84, val_main_v82, val_main_v81]

theorem key_split (c : Dev nD) (x : Cert.Reference16Ideal.S4352x128.Idx) : (val_main_v197 (F := Ideal) (m ((c : Thread nD τ).loc main_arg2)) (m ((c : Thread nD τ).loc main_arg3)) (m ((c : Thread nD τ).loc main_arg4)) (m ((c : Thread nD τ).loc main_arg6)) x : EReal) = (val_main_v110 (F := Ideal) (m ((c : Thread nD τ).loc main_arg6)) x : EReal) + (val_main_v150 (F := Ideal) (m ((c : Thread nD τ).loc main_arg2)) (m ((c : Thread nD τ).loc main_arg3)) (m ((c : Thread nD τ).loc main_arg4)) (m ((c : Thread nD τ).loc main_arg6)) x : EReal) := rfl

theorem key_padc_zero (c : Dev nD) (x : Cert.Reference16Ideal.S4352x128.Idx) (hx : (x 0).val < 4096) : (val_main_v110 (F := Ideal) (m ((c : Thread nD τ).loc main_arg6)) x : EReal) = 0 := by
  unfold val_main_v110
  refine (pad_apply_of_not_inside _ _ _ _ _ _ _ x (0 : Fin 2) fun h => ?_).trans ?_
  · have h1 : 4096 ≤ (x 0).val := h.1
    omega
  · pointwise [val_main_cst]

theorem key_padl_zero (c : Dev nD) (x : Cert.Reference16Ideal.S4352x128.Idx) (hx : 4096 ≤ (x 0).val) : (val_main_v150 (F := Ideal) (m ((c : Thread nD τ).loc main_arg2)) (m ((c : Thread nD τ).loc main_arg3)) (m ((c : Thread nD τ).loc main_arg4)) (m ((c : Thread nD τ).loc main_arg6)) x : EReal) = 0 := by
  pointwise [val_main_v150, val_main_cst_6]
  simp (disch := omega) only [dif_pos, dif_neg]

/-- The context tokens' cotangent is the gradient. -/
theorem key_padc_at (c : Dev nD) (p : Fin 4352) (l : Fin 128) (hp : 4096 ≤ p.val) : (val_main_v110 (F := Ideal) (m ((c : Thread nD τ).loc main_arg6)) (ix2 p l) : EReal) = (m ((c : Thread nD τ).loc main_arg6) : FVec Ideal S4352x128 .f32) (ix2 p l) := by
  have hp2 := p.isLt
  unfold val_main_v110
  refine (pad_apply_of_inside _ _ _ _ _ _ _ (ix2 p l) (ix2 (⟨p.val - 4096, by omega⟩ : Fin 256) l) fun a => ?_).trans ?_
  · fin_cases a
    · show p.val = 4096 + (p.val - 4096) * 1
      omega
    · show l.val = 0 + l.val * 1
      omega
  · pointwise [val_main_v109]
    exact read_congr _ (by dsimp only; omega) rfl

set_option maxHeartbeats 1000000 in
/-- The gradient at an image token is the turned cotangent: channels 0 to 15 of a head. -/
theorem key_padl_at_0 (c : Dev nD) (p : Fin 4352) (l : Fin 128) (hp : p.val < 4096) (h0 : 0 ≤ l.val % 64) (h1 : l.val % 64 < 16) :
    (val_main_v150 (F := Ideal) (m ((c : Thread nD τ).loc main_arg2)) (m ((c : Thread nD τ).loc main_arg3)) (m ((c : Thread nD τ).loc main_arg4)) (m ((c : Thread nD τ).loc main_arg6)) (ix2 p (l)) : EReal) = turnedKey m c p l := by
  have hl := l.isLt
  unfold turnedKey turned cosAt sinAt angle
  simp only [dif_pos hp]
  rw [if_pos (show l.val % 32 < 16 by omega), if_pos (show l.val % 64 < 32 by omega),
    if_pos (show (up l).val % 64 < 32 by show (l.val + 128 - 112) % 128 % 64 < 32; omega)]
  pointwise [val_main_v150, val_main_cst_6, val_main_v149, val_main_v148, val_main_v147, val_main_cst_5, val_main_v146, val_main_v145, val_main_cst_4, val_main_v143, val_main_v142, val_main_v141, val_main_v64, val_main_v131, val_main_v112, val_main_v111, val_main_v108, val_main_v134, val_main_v133, val_main_v66, val_main_v132, val_main_v144, val_main_cst_3, val_main_v140, val_main_v139, val_main_v138, val_main_v137, val_main_v136, val_main_v135, val_main_v130, val_main_cst_2, val_main_v129, val_main_v128, val_main_cst_1, val_main_v126, val_main_v125, val_main_v124, val_main_v88, val_main_v114, val_main_v113, val_main_v117, val_main_v116, val_main_v90, val_main_v115, val_main_v127, val_main_cst_0, val_main_v123, val_main_v122, val_main_v121, val_main_v120, val_main_v119, val_main_v118, ref_v9 m c, ref_v11 m c, ref_v33 m c, ref_v35 m c, ref_v63 m c, ref_v65 m c, ref_v87 m c, ref_v89 m c]
  simp (disch := omega) only [dif_pos, dif_neg, zero_add, add_zero]
  refine first_close (fun l => (m ((c : Thread nD τ).loc main_arg6) : FVec Ideal S4352x128 .f32) (ix2 p l)) (rowAngle m c ⟨p.val, hp⟩) ?_ ?_ ?_ ?_
  · first | (dsimp only [up, down]; done) | (dsimp only [up, down]; omega) | omega
  · first | (dsimp only [up, down]; done) | (dsimp only [up, down]; omega) | omega
  · first | (dsimp only [up, down]; done) | (dsimp only [up, down]; omega) | omega
  · first | (dsimp only [up, down]; done) | (dsimp only [up, down]; omega) | omega

set_option maxHeartbeats 1000000 in
/-- The gradient at an image token is the turned cotangent: channels 16 to 31 of a head. -/
theorem key_padl_at_16 (c : Dev nD) (p : Fin 4352) (l : Fin 128) (hp : p.val < 4096) (h0 : 16 ≤ l.val % 64) (h1 : l.val % 64 < 32) :
    (val_main_v150 (F := Ideal) (m ((c : Thread nD τ).loc main_arg2)) (m ((c : Thread nD τ).loc main_arg3)) (m ((c : Thread nD τ).loc main_arg4)) (m ((c : Thread nD τ).loc main_arg6)) (ix2 p (l)) : EReal) = turnedKey m c p l := by
  have hl := l.isLt
  unfold turnedKey turned cosAt sinAt angle
  simp only [dif_pos hp]
  rw [if_neg (show ¬ l.val % 32 < 16 by omega), if_pos (show l.val % 64 < 32 by omega),
    if_pos (show (down l).val % 64 < 32 by show (l.val + 128 - 16) % 128 % 64 < 32; omega)]
  pointwise [val_main_v150, val_main_cst_6, val_main_v149, val_main_v148, val_main_v147, val_main_cst_5, val_main_v146, val_main_v145, val_main_cst_4, val_main_v143, val_main_v142, val_main_v141, val_main_v64, val_main_v131, val_main_v112, val_main_v111, val_main_v108, val_main_v134, val_main_v133, val_main_v66, val_main_v132, val_main_v144, val_main_cst_3, val_main_v140, val_main_v139, val_main_v138, val_main_v137, val_main_v136, val_main_v135, val_main_v130, val_main_cst_2, val_main_v129, val_main_v128, val_main_cst_1, val_main_v126, val_main_v125, val_main_v124, val_main_v88, val_main_v114, val_main_v113, val_main_v117, val_main_v116, val_main_v90, val_main_v115, val_main_v127, val_main_cst_0, val_main_v123, val_main_v122, val_main_v121, val_main_v120, val_main_v119, val_main_v118, ref_v9 m c, ref_v11 m c, ref_v33 m c, ref_v35 m c, ref_v63 m c, ref_v65 m c, ref_v87 m c, ref_v89 m c]
  simp (disch := omega) only [dif_pos, dif_neg, zero_add, add_zero]
  refine second_close (fun l => (m ((c : Thread nD τ).loc main_arg6) : FVec Ideal S4352x128 .f32) (ix2 p l)) (rowAngle m c ⟨p.val, hp⟩) ?_ ?_ ?_ ?_
  · first | (dsimp only [up, down]; done) | (dsimp only [up, down]; omega) | omega
  · first | (dsimp only [up, down]; done) | (dsimp only [up, down]; omega) | omega
  · first | (dsimp only [up, down]; done) | (dsimp only [up, down]; omega) | omega
  · first | (dsimp only [up, down]; done) | (dsimp only [up, down]; omega) | omega

set_option maxHeartbeats 1000000 in
/-- The gradient at an image token is the turned cotangent: channels 32 to 47 of a head. -/
theorem key_padl_at_32 (c : Dev nD) (p : Fin 4352) (l : Fin 128) (hp : p.val < 4096) (h0 : 32 ≤ l.val % 64) (h1 : l.val % 64 < 48) :
    (val_main_v150 (F := Ideal) (m ((c : Thread nD τ).loc main_arg2)) (m ((c : Thread nD τ).loc main_arg3)) (m ((c : Thread nD τ).loc main_arg4)) (m ((c : Thread nD τ).loc main_arg6)) (ix2 p (l)) : EReal) = turnedKey m c p l := by
  have hl := l.isLt
  unfold turnedKey turned cosAt sinAt angle
  simp only [dif_pos hp]
  rw [if_pos (show l.val % 32 < 16 by omega), if_neg (show ¬ l.val % 64 < 32 by omega),
    if_neg (show ¬ (up l).val % 64 < 32 by show ¬ (l.val + 128 - 112) % 128 % 64 < 32; omega)]
  pointwise [val_main_v150, val_main_cst_6, val_main_v149, val_main_v148, val_main_v147, val_main_cst_5, val_main_v146, val_main_v145, val_main_cst_4, val_main_v143, val_main_v142, val_main_v141, val_main_v64, val_main_v131, val_main_v112, val_main_v111, val_main_v108, val_main_v134, val_main_v133, val_main_v66, val_main_v132, val_main_v144, val_main_cst_3, val_main_v140, val_main_v139, val_main_v138, val_main_v137, val_main_v136, val_main_v135, val_main_v130, val_main_cst_2, val_main_v129, val_main_v128, val_main_cst_1, val_main_v126, val_main_v125, val_main_v124, val_main_v88, val_main_v114, val_main_v113, val_main_v117, val_main_v116, val_main_v90, val_main_v115, val_main_v127, val_main_cst_0, val_main_v123, val_main_v122, val_main_v121, val_main_v120, val_main_v119, val_main_v118, ref_v9 m c, ref_v11 m c, ref_v33 m c, ref_v35 m c, ref_v63 m c, ref_v65 m c, ref_v87 m c, ref_v89 m c]
  simp (disch := omega) only [dif_pos, dif_neg, zero_add, add_zero]
  refine first_close (fun l => (m ((c : Thread nD τ).loc main_arg6) : FVec Ideal S4352x128 .f32) (ix2 p l)) (colAngle m c ⟨p.val, hp⟩) ?_ ?_ ?_ ?_
  · first | (dsimp only [up, down]; done) | (dsimp only [up, down]; omega) | omega
  · first | (dsimp only [up, down]; done) | (dsimp only [up, down]; omega) | omega
  · first | (dsimp only [up, down]; done) | (dsimp only [up, down]; omega) | omega
  · first | (dsimp only [up, down]; done) | (dsimp only [up, down]; omega) | omega

set_option maxHeartbeats 1000000 in
/-- The gradient at an image token is the turned cotangent: channels 48 to 63 of a head. -/
theorem key_padl_at_48 (c : Dev nD) (p : Fin 4352) (l : Fin 128) (hp : p.val < 4096) (h0 : 48 ≤ l.val % 64) (h1 : l.val % 64 < 64) :
    (val_main_v150 (F := Ideal) (m ((c : Thread nD τ).loc main_arg2)) (m ((c : Thread nD τ).loc main_arg3)) (m ((c : Thread nD τ).loc main_arg4)) (m ((c : Thread nD τ).loc main_arg6)) (ix2 p (l)) : EReal) = turnedKey m c p l := by
  have hl := l.isLt
  unfold turnedKey turned cosAt sinAt angle
  simp only [dif_pos hp]
  rw [if_neg (show ¬ l.val % 32 < 16 by omega), if_neg (show ¬ l.val % 64 < 32 by omega),
    if_neg (show ¬ (down l).val % 64 < 32 by show ¬ (l.val + 128 - 16) % 128 % 64 < 32; omega)]
  pointwise [val_main_v150, val_main_cst_6, val_main_v149, val_main_v148, val_main_v147, val_main_cst_5, val_main_v146, val_main_v145, val_main_cst_4, val_main_v143, val_main_v142, val_main_v141, val_main_v64, val_main_v131, val_main_v112, val_main_v111, val_main_v108, val_main_v134, val_main_v133, val_main_v66, val_main_v132, val_main_v144, val_main_cst_3, val_main_v140, val_main_v139, val_main_v138, val_main_v137, val_main_v136, val_main_v135, val_main_v130, val_main_cst_2, val_main_v129, val_main_v128, val_main_cst_1, val_main_v126, val_main_v125, val_main_v124, val_main_v88, val_main_v114, val_main_v113, val_main_v117, val_main_v116, val_main_v90, val_main_v115, val_main_v127, val_main_cst_0, val_main_v123, val_main_v122, val_main_v121, val_main_v120, val_main_v119, val_main_v118, ref_v9 m c, ref_v11 m c, ref_v33 m c, ref_v35 m c, ref_v63 m c, ref_v65 m c, ref_v87 m c, ref_v89 m c]
  simp (disch := omega) only [dif_pos, dif_neg, zero_add, add_zero]
  refine second_close (fun l => (m ((c : Thread nD τ).loc main_arg6) : FVec Ideal S4352x128 .f32) (ix2 p l)) (colAngle m c ⟨p.val, hp⟩) ?_ ?_ ?_ ?_
  · first | (dsimp only [up, down]; done) | (dsimp only [up, down]; omega) | omega
  · first | (dsimp only [up, down]; done) | (dsimp only [up, down]; omega) | omega
  · first | (dsimp only [up, down]; done) | (dsimp only [up, down]; omega) | omega
  · first | (dsimp only [up, down]; done) | (dsimp only [up, down]; omega) | omega

/-- The gradient at an image token is the turned cotangent. -/
theorem key_padl_at (c : Dev nD) (p : Fin 4352) (l : Fin 128) (hp : p.val < 4096) : (val_main_v150 (F := Ideal) (m ((c : Thread nD τ).loc main_arg2)) (m ((c : Thread nD τ).loc main_arg3)) (m ((c : Thread nD τ).loc main_arg4)) (m ((c : Thread nD τ).loc main_arg6)) (ix2 p (l)) : EReal) = turnedKey m c p l := by
  have hl := l.isLt
  by_cases h0 : l.val % 64 < 16
  · exact key_padl_at_0 m c p l hp (Nat.zero_le _) h0
  by_cases h1 : l.val % 64 < 32
  · exact key_padl_at_16 m c p l hp (Nat.le_of_not_lt h0) h1
  by_cases h2 : l.val % 64 < 48
  · exact key_padl_at_32 m c p l hp (Nat.le_of_not_lt h1) h2
  · exact key_padl_at_48 m c p l hp (Nat.le_of_not_lt h2) (Nat.mod_lt _ (by decide))

/-- A context token's cotangent stays as it is. -/
theorem key_context (c : Dev nD) (p : Fin 4352) (l : Fin 128) (hp : ¬ p.val < 4096) : turnedKey m c p l = (m ((c : Thread nD τ).loc main_arg6) : FVec Ideal S4352x128 .f32) (ix2 p (l)) := by
  unfold turnedKey turned cosAt sinAt
  simp only [dif_neg hp]
  by_cases h : l.val % 32 < 16
  · rw [if_pos h, mul_one, mul_zero, add_zero]
  · rw [if_neg h, mul_one, mul_zero, sub_zero, add_zero]

/-- The reference's gradient is the turned cotangent. -/
theorem key_ref (c : Dev nD) (p : Fin 4352) (l : Fin 128) : (val_main_v197 (F := Ideal) (m ((c : Thread nD τ).loc main_arg2)) (m ((c : Thread nD τ).loc main_arg3)) (m ((c : Thread nD τ).loc main_arg4)) (m ((c : Thread nD τ).loc main_arg6)) (ix2 p (l)) : EReal) = turnedKey m c p l := by
  rw [key_split m c]
  by_cases hp : p.val < 4096
  · rw [key_padc_zero m c _ hp, zero_add]
    exact key_padl_at m c p l hp
  · rw [key_padl_zero m c _ (Nat.le_of_not_lt hp), add_zero, key_padc_at m c p _ (Nat.le_of_not_lt hp)]
    exact (key_context m c p l hp).symm

theorem query_split (c : Dev nD) (x : Cert.Reference16Ideal.S4352x256.Idx) : (val_main_v196 (F := Ideal) (m ((c : Thread nD τ).loc main_arg2)) (m ((c : Thread nD τ).loc main_arg3)) (m ((c : Thread nD τ).loc main_arg4)) (m ((c : Thread nD τ).loc main_arg5)) x : EReal) = (val_main_v154 (F := Ideal) (m ((c : Thread nD τ).loc main_arg5)) x : EReal) + (val_main_v194 (F := Ideal) (m ((c : Thread nD τ).loc main_arg2)) (m ((c : Thread nD τ).loc main_arg3)) (m ((c : Thread nD τ).loc main_arg4)) (m ((c : Thread nD τ).loc main_arg5)) x : EReal) := rfl

theorem query_padc_zero (c : Dev nD) (x : Cert.Reference16Ideal.S4352x256.Idx) (hx : (x 0).val < 4096) : (val_main_v154 (F := Ideal) (m ((c : Thread nD τ).loc main_arg5)) x : EReal) = 0 := by
  unfold val_main_v154
  refine (pad_apply_of_not_inside _ _ _ _ _ _ _ x (0 : Fin 2) fun h => ?_).trans ?_
  · have h1 : 4096 ≤ (x 0).val := h.1
    omega
  · pointwise [val_main_cst_7]

theorem query_padl_zero (c : Dev nD) (x : Cert.Reference16Ideal.S4352x256.Idx) (hx : 4096 ≤ (x 0).val) : (val_main_v194 (F := Ideal) (m ((c : Thread nD τ).loc main_arg2)) (m ((c : Thread nD τ).loc main_arg3)) (m ((c : Thread nD τ).loc main_arg4)) (m ((c : Thread nD τ).loc main_arg5)) x : EReal) = 0 := by
  pointwise [val_main_v194, val_main_cst_14]
  simp (disch := omega) only [dif_pos, dif_neg]

/-- The context tokens' cotangent is the gradient. -/
theorem query_padc_at (c : Dev nD) (p : Fin 4352) (l : Fin 256) (hp : 4096 ≤ p.val) : (val_main_v154 (F := Ideal) (m ((c : Thread nD τ).loc main_arg5)) (ix2 p l) : EReal) = (m ((c : Thread nD τ).loc main_arg5) : FVec Ideal S4352x256 .f32) (ix2 p l) := by
  have hp2 := p.isLt
  unfold val_main_v154
  refine (pad_apply_of_inside _ _ _ _ _ _ _ (ix2 p l) (ix2 (⟨p.val - 4096, by omega⟩ : Fin 256) l) fun a => ?_).trans ?_
  · fin_cases a
    · show p.val = 4096 + (p.val - 4096) * 1
      omega
    · show l.val = 0 + l.val * 1
      omega
  · pointwise [val_main_v153]
    exact read_congr _ (by dsimp only; omega) rfl

set_option maxHeartbeats 1000000 in
/-- The gradient at an image token is the turned cotangent: channels 0 to 15 of a head. -/
theorem query_padl_at_0 (c : Dev nD) (p : Fin 4352) (j : Fin 2) (l : Fin 128) (hp : p.val < 4096) (h0 : 0 ≤ l.val % 64) (h1 : l.val % 64 < 16) :
    (val_main_v194 (F := Ideal) (m ((c : Thread nD τ).loc main_arg2)) (m ((c : Thread nD τ).loc main_arg3)) (m ((c : Thread nD τ).loc main_arg4)) (m ((c : Thread nD τ).loc main_arg5)) (ix2 p (col j l)) : EReal) = turnedQuery m c p j l := by
  have hl := l.isLt
  have hj := j.isLt
  unfold turnedQuery turned cosAt sinAt angle
  simp only [dif_pos hp]
  rw [if_pos (show l.val % 32 < 16 by omega), if_pos (show l.val % 64 < 32 by omega),
    if_pos (show (up l).val % 64 < 32 by show (l.val + 128 - 112) % 128 % 64 < 32; omega)]
  pointwise [val_main_v194, val_main_cst_14, val_main_v193, val_main_v192, val_main_v191, val_main_cst_13, val_main_v190, val_main_v189, val_main_cst_12, val_main_v187, val_main_v186, val_main_v185, val_main_v10, val_main_v175, val_main_v156, val_main_v155, val_main_v152, val_main_v178, val_main_v177, val_main_v12, val_main_v176, val_main_v188, val_main_cst_11, val_main_v184, val_main_v183, val_main_v182, val_main_v181, val_main_v180, val_main_v179, val_main_v174, val_main_cst_10, val_main_v173, val_main_v172, val_main_cst_9, val_main_v170, val_main_v169, val_main_v168, val_main_v34, val_main_v158, val_main_v157, val_main_v161, val_main_v160, val_main_v36, val_main_v159, val_main_v171, val_main_cst_8, val_main_v167, val_main_v166, val_main_v165, val_main_v164, val_main_v163, val_main_v162, ref_v9 m c, ref_v11 m c, ref_v33 m c, ref_v35 m c, ref_v63 m c, ref_v65 m c, ref_v87 m c, ref_v89 m c, col]
  simp (disch := omega) only [dif_pos, dif_neg, zero_add, add_zero]
  refine first_close (fun l => (m ((c : Thread nD τ).loc main_arg5) : FVec Ideal S4352x256 .f32) (ix2 p l)) (rowAngle m c ⟨p.val, hp⟩) ?_ ?_ ?_ ?_
  · first | (dsimp only [col, up, down]; done) | (dsimp only [col, up, down]; omega) | omega
  · first | (dsimp only [col, up, down]; done) | (dsimp only [col, up, down]; omega) | omega
  · first | (dsimp only [col, up, down]; done) | (dsimp only [col, up, down]; omega) | omega
  · first | (dsimp only [col, up, down]; done) | (dsimp only [col, up, down]; omega) | omega

set_option maxHeartbeats 1000000 in
/-- The gradient at an image token is the turned cotangent: channels 16 to 31 of a head. -/
theorem query_padl_at_16 (c : Dev nD) (p : Fin 4352) (j : Fin 2) (l : Fin 128) (hp : p.val < 4096) (h0 : 16 ≤ l.val % 64) (h1 : l.val % 64 < 32) :
    (val_main_v194 (F := Ideal) (m ((c : Thread nD τ).loc main_arg2)) (m ((c : Thread nD τ).loc main_arg3)) (m ((c : Thread nD τ).loc main_arg4)) (m ((c : Thread nD τ).loc main_arg5)) (ix2 p (col j l)) : EReal) = turnedQuery m c p j l := by
  have hl := l.isLt
  have hj := j.isLt
  unfold turnedQuery turned cosAt sinAt angle
  simp only [dif_pos hp]
  rw [if_neg (show ¬ l.val % 32 < 16 by omega), if_pos (show l.val % 64 < 32 by omega),
    if_pos (show (down l).val % 64 < 32 by show (l.val + 128 - 16) % 128 % 64 < 32; omega)]
  pointwise [val_main_v194, val_main_cst_14, val_main_v193, val_main_v192, val_main_v191, val_main_cst_13, val_main_v190, val_main_v189, val_main_cst_12, val_main_v187, val_main_v186, val_main_v185, val_main_v10, val_main_v175, val_main_v156, val_main_v155, val_main_v152, val_main_v178, val_main_v177, val_main_v12, val_main_v176, val_main_v188, val_main_cst_11, val_main_v184, val_main_v183, val_main_v182, val_main_v181, val_main_v180, val_main_v179, val_main_v174, val_main_cst_10, val_main_v173, val_main_v172, val_main_cst_9, val_main_v170, val_main_v169, val_main_v168, val_main_v34, val_main_v158, val_main_v157, val_main_v161, val_main_v160, val_main_v36, val_main_v159, val_main_v171, val_main_cst_8, val_main_v167, val_main_v166, val_main_v165, val_main_v164, val_main_v163, val_main_v162, ref_v9 m c, ref_v11 m c, ref_v33 m c, ref_v35 m c, ref_v63 m c, ref_v65 m c, ref_v87 m c, ref_v89 m c, col]
  simp (disch := omega) only [dif_pos, dif_neg, zero_add, add_zero]
  refine second_close (fun l => (m ((c : Thread nD τ).loc main_arg5) : FVec Ideal S4352x256 .f32) (ix2 p l)) (rowAngle m c ⟨p.val, hp⟩) ?_ ?_ ?_ ?_
  · first | (dsimp only [col, up, down]; done) | (dsimp only [col, up, down]; omega) | omega
  · first | (dsimp only [col, up, down]; done) | (dsimp only [col, up, down]; omega) | omega
  · first | (dsimp only [col, up, down]; done) | (dsimp only [col, up, down]; omega) | omega
  · first | (dsimp only [col, up, down]; done) | (dsimp only [col, up, down]; omega) | omega

set_option maxHeartbeats 1000000 in
/-- The gradient at an image token is the turned cotangent: channels 32 to 47 of a head. -/
theorem query_padl_at_32 (c : Dev nD) (p : Fin 4352) (j : Fin 2) (l : Fin 128) (hp : p.val < 4096) (h0 : 32 ≤ l.val % 64) (h1 : l.val % 64 < 48) :
    (val_main_v194 (F := Ideal) (m ((c : Thread nD τ).loc main_arg2)) (m ((c : Thread nD τ).loc main_arg3)) (m ((c : Thread nD τ).loc main_arg4)) (m ((c : Thread nD τ).loc main_arg5)) (ix2 p (col j l)) : EReal) = turnedQuery m c p j l := by
  have hl := l.isLt
  have hj := j.isLt
  unfold turnedQuery turned cosAt sinAt angle
  simp only [dif_pos hp]
  rw [if_pos (show l.val % 32 < 16 by omega), if_neg (show ¬ l.val % 64 < 32 by omega),
    if_neg (show ¬ (up l).val % 64 < 32 by show ¬ (l.val + 128 - 112) % 128 % 64 < 32; omega)]
  pointwise [val_main_v194, val_main_cst_14, val_main_v193, val_main_v192, val_main_v191, val_main_cst_13, val_main_v190, val_main_v189, val_main_cst_12, val_main_v187, val_main_v186, val_main_v185, val_main_v10, val_main_v175, val_main_v156, val_main_v155, val_main_v152, val_main_v178, val_main_v177, val_main_v12, val_main_v176, val_main_v188, val_main_cst_11, val_main_v184, val_main_v183, val_main_v182, val_main_v181, val_main_v180, val_main_v179, val_main_v174, val_main_cst_10, val_main_v173, val_main_v172, val_main_cst_9, val_main_v170, val_main_v169, val_main_v168, val_main_v34, val_main_v158, val_main_v157, val_main_v161, val_main_v160, val_main_v36, val_main_v159, val_main_v171, val_main_cst_8, val_main_v167, val_main_v166, val_main_v165, val_main_v164, val_main_v163, val_main_v162, ref_v9 m c, ref_v11 m c, ref_v33 m c, ref_v35 m c, ref_v63 m c, ref_v65 m c, ref_v87 m c, ref_v89 m c, col]
  simp (disch := omega) only [dif_pos, dif_neg, zero_add, add_zero]
  refine first_close (fun l => (m ((c : Thread nD τ).loc main_arg5) : FVec Ideal S4352x256 .f32) (ix2 p l)) (colAngle m c ⟨p.val, hp⟩) ?_ ?_ ?_ ?_
  · first | (dsimp only [col, up, down]; done) | (dsimp only [col, up, down]; omega) | omega
  · first | (dsimp only [col, up, down]; done) | (dsimp only [col, up, down]; omega) | omega
  · first | (dsimp only [col, up, down]; done) | (dsimp only [col, up, down]; omega) | omega
  · first | (dsimp only [col, up, down]; done) | (dsimp only [col, up, down]; omega) | omega

set_option maxHeartbeats 1000000 in
/-- The gradient at an image token is the turned cotangent: channels 48 to 63 of a head. -/
theorem query_padl_at_48 (c : Dev nD) (p : Fin 4352) (j : Fin 2) (l : Fin 128) (hp : p.val < 4096) (h0 : 48 ≤ l.val % 64) (h1 : l.val % 64 < 64) :
    (val_main_v194 (F := Ideal) (m ((c : Thread nD τ).loc main_arg2)) (m ((c : Thread nD τ).loc main_arg3)) (m ((c : Thread nD τ).loc main_arg4)) (m ((c : Thread nD τ).loc main_arg5)) (ix2 p (col j l)) : EReal) = turnedQuery m c p j l := by
  have hl := l.isLt
  have hj := j.isLt
  unfold turnedQuery turned cosAt sinAt angle
  simp only [dif_pos hp]
  rw [if_neg (show ¬ l.val % 32 < 16 by omega), if_neg (show ¬ l.val % 64 < 32 by omega),
    if_neg (show ¬ (down l).val % 64 < 32 by show ¬ (l.val + 128 - 16) % 128 % 64 < 32; omega)]
  pointwise [val_main_v194, val_main_cst_14, val_main_v193, val_main_v192, val_main_v191, val_main_cst_13, val_main_v190, val_main_v189, val_main_cst_12, val_main_v187, val_main_v186, val_main_v185, val_main_v10, val_main_v175, val_main_v156, val_main_v155, val_main_v152, val_main_v178, val_main_v177, val_main_v12, val_main_v176, val_main_v188, val_main_cst_11, val_main_v184, val_main_v183, val_main_v182, val_main_v181, val_main_v180, val_main_v179, val_main_v174, val_main_cst_10, val_main_v173, val_main_v172, val_main_cst_9, val_main_v170, val_main_v169, val_main_v168, val_main_v34, val_main_v158, val_main_v157, val_main_v161, val_main_v160, val_main_v36, val_main_v159, val_main_v171, val_main_cst_8, val_main_v167, val_main_v166, val_main_v165, val_main_v164, val_main_v163, val_main_v162, ref_v9 m c, ref_v11 m c, ref_v33 m c, ref_v35 m c, ref_v63 m c, ref_v65 m c, ref_v87 m c, ref_v89 m c, col]
  simp (disch := omega) only [dif_pos, dif_neg, zero_add, add_zero]
  refine second_close (fun l => (m ((c : Thread nD τ).loc main_arg5) : FVec Ideal S4352x256 .f32) (ix2 p l)) (colAngle m c ⟨p.val, hp⟩) ?_ ?_ ?_ ?_
  · first | (dsimp only [col, up, down]; done) | (dsimp only [col, up, down]; omega) | omega
  · first | (dsimp only [col, up, down]; done) | (dsimp only [col, up, down]; omega) | omega
  · first | (dsimp only [col, up, down]; done) | (dsimp only [col, up, down]; omega) | omega
  · first | (dsimp only [col, up, down]; done) | (dsimp only [col, up, down]; omega) | omega

/-- The gradient at an image token is the turned cotangent. -/
theorem query_padl_at (c : Dev nD) (p : Fin 4352) (j : Fin 2) (l : Fin 128) (hp : p.val < 4096) : (val_main_v194 (F := Ideal) (m ((c : Thread nD τ).loc main_arg2)) (m ((c : Thread nD τ).loc main_arg3)) (m ((c : Thread nD τ).loc main_arg4)) (m ((c : Thread nD τ).loc main_arg5)) (ix2 p (col j l)) : EReal) = turnedQuery m c p j l := by
  have hl := l.isLt
  by_cases h0 : l.val % 64 < 16
  · exact query_padl_at_0 m c p j l hp (Nat.zero_le _) h0
  by_cases h1 : l.val % 64 < 32
  · exact query_padl_at_16 m c p j l hp (Nat.le_of_not_lt h0) h1
  by_cases h2 : l.val % 64 < 48
  · exact query_padl_at_32 m c p j l hp (Nat.le_of_not_lt h1) h2
  · exact query_padl_at_48 m c p j l hp (Nat.le_of_not_lt h2) (Nat.mod_lt _ (by decide))

/-- A context token's cotangent stays as it is. -/
theorem query_context (c : Dev nD) (p : Fin 4352) (j : Fin 2) (l : Fin 128) (hp : ¬ p.val < 4096) : turnedQuery m c p j l = (m ((c : Thread nD τ).loc main_arg5) : FVec Ideal S4352x256 .f32) (ix2 p (col j l)) := by
  unfold turnedQuery turned cosAt sinAt
  simp only [dif_neg hp]
  by_cases h : l.val % 32 < 16
  · rw [if_pos h, mul_one, mul_zero, add_zero]
  · rw [if_neg h, mul_one, mul_zero, sub_zero, add_zero]

/-- The reference's gradient is the turned cotangent. -/
theorem query_ref (c : Dev nD) (p : Fin 4352) (j : Fin 2) (l : Fin 128) : (val_main_v196 (F := Ideal) (m ((c : Thread nD τ).loc main_arg2)) (m ((c : Thread nD τ).loc main_arg3)) (m ((c : Thread nD τ).loc main_arg4)) (m ((c : Thread nD τ).loc main_arg5)) (ix2 p (col j l)) : EReal) = turnedQuery m c p j l := by
  rw [query_split m c]
  by_cases hp : p.val < 4096
  · rw [query_padc_zero m c _ hp, zero_add]
    exact query_padl_at m c p j l hp
  · rw [query_padl_zero m c _ (Nat.le_of_not_lt hp), add_zero, query_padc_at m c p _ (Nat.le_of_not_lt hp)]
    exact (query_context m c p j l hp).symm

/-- Where an element of a stored block lands. -/
theorem lands_query (t : Fin cfg0.N) (y : S544x256.Idx) : (win0_4.blk t).view.emb y = ix2 (row t (y 0)) (y 1 : Fin 256) := by
  blk_ext [idx t, row]

/-- Where an element of a stored block lands. -/
theorem lands_key (t : Fin cfg0.N) (y : S544x128.Idx) : (win0_5.blk t).view.emb y = ix2 (row t (y 0)) (y 1 : Fin 128) := by
  blk_ext [idx t, row]

/-- The keys' stored block. -/
theorem stored_key (c : Dev nD) (t : Fin cfg0.N) (y : S544x128.Idx) :
    out0_5 (iblk m c 0 t) (iblk m c 1 t) (iblk m c 2 t) (iblk m c 3 t) y = turnedKey m c (row t (y 0)) (y 1) := by
  frame_out
  refine (turn_key _ _ _ y).trans ?_
  unfold turnedKey
  refine congrFun (congr (congr (congrArg turned (funext fun l => ?_)) (funext fun l => ?_)) (funext fun l => ?_)) (_ : Fin 128)
  · exact key_block m c t (ix2 (y 0 : Fin 544) l)
  · pointwise [k0_pay9, k0_pay2, cos_block m c t]
  · pointwise [k0_pay10, k0_pay3, sin_block m c t]

/-- The queries' stored block. -/
theorem stored_query (c : Dev nD) (t : Fin cfg0.N) (y : S544x256.Idx) :
    out0_4 (iblk m c 0 t) (iblk m c 1 t) (iblk m c 2 t) (iblk m c 3 t) y = val_main_v196 (F := Ideal) (m ((c : Thread nD τ).loc main_arg2)) (m ((c : Thread nD τ).loc main_arg3)) (m ((c : Thread nD τ).loc main_arg4)) (m ((c : Thread nD τ).loc main_arg5)) (ix2 (row t (y 0)) (y 1 : Fin 256)) := by
  frame_out
  canon_tiles x h using View.cover_of_tiledBy _ ![544,128] (by sl_kernel_rfl) y
  · refine Eq.trans ?_ ((query_ref m c (row t (x 0)) 1 (x 1)).symm.trans (congrArg (val_main_v196 (F := Ideal) (m ((c : Thread nD τ).loc main_arg2)) (m ((c : Thread nD τ).loc main_arg3)) (m ((c : Thread nD τ).loc main_arg4)) (m ((c : Thread nD τ).loc main_arg5)) : Cert.Reference16Ideal.S4352x256.Idx → EReal) (?_ : ix2 (row t (x 0)) (col 1 (x 1)) = ix2 (row t (y 0)) (y 1 : Fin 256))))
    rotate_left
    · exact congrArg₂ (fun a b => ix2 (a : Fin 4352) (b : Fin 256)) (Fin.ext (by simp only [row]; omega)) (Fin.ext (by simp only [col]; omega))
    refine (turn_right _ _ _ x).trans ?_
    unfold turnedQuery
    refine congrFun (congr (congr (congrArg turned (funext fun l => ?_)) (funext fun l => ?_)) (funext fun l => ?_)) (_ : Fin 128)
    · pointwise [query_block m c t, col]
    · pointwise [k0_pay9, k0_pay2, cos_block m c t]
    · pointwise [k0_pay10, k0_pay3, sin_block m c t]
  · refine Eq.trans ?_ ((query_ref m c (row t (x 0)) 0 (x 1)).symm.trans (congrArg (val_main_v196 (F := Ideal) (m ((c : Thread nD τ).loc main_arg2)) (m ((c : Thread nD τ).loc main_arg3)) (m ((c : Thread nD τ).loc main_arg4)) (m ((c : Thread nD τ).loc main_arg5)) : Cert.Reference16Ideal.S4352x256.Idx → EReal) (?_ : ix2 (row t (x 0)) (col 0 (x 1)) = ix2 (row t (y 0)) (y 1 : Fin 256))))
    rotate_left
    · exact congrArg₂ (fun a b => ix2 (a : Fin 4352) (b : Fin 256)) (Fin.ext (by simp only [row]; omega)) (Fin.ext (by simp only [col]; omega))
    refine (turn_left _ _ _ x).trans ?_
    unfold turnedQuery
    refine congrFun (congr (congr (congrArg turned (funext fun l => ?_)) (funext fun l => ?_)) (funext fun l => ?_)) (_ : Fin 128)
    · pointwise [query_block m c t, col]
    · pointwise [k0_pay2, cos_block m c t]
    · pointwise [k0_pay3, sin_block m c t]

/-- The result array of the querys is the reference's. -/
theorem final_query (c : Dev nD) : (dats m 0 c).arrAt 4 cfg0.N = val_main_v196 (F := Ideal) (m ((c : Thread nD τ).loc main_arg2)) (m ((c : Thread nD τ).loc main_arg3)) (m ((c : Thread nD τ).loc main_arg4)) (m ((c : Thread nD τ).loc main_arg5)) := by
  refine (dats m 0 c).arrAt_eq_of_covers 4 _ (by decide +kernel) fun t _ y => ?_
  blk_simp
  rw [after0_4, lands_query t y]
  exact stored_query m c t y

/-- The result array of the keys is the reference's. -/
theorem final_key (c : Dev nD) : (dats m 0 c).arrAt 5 cfg0.N = val_main_v197 (F := Ideal) (m ((c : Thread nD τ).loc main_arg2)) (m ((c : Thread nD τ).loc main_arg3)) (m ((c : Thread nD τ).loc main_arg4)) (m ((c : Thread nD τ).loc main_arg6)) := by
  refine (dats m 0 c).arrAt_eq_of_covers 5 _ (by decide +kernel) fun t _ y => ?_
  blk_simp
  rw [after0_5, lands_key t y]
  exact (stored_key m c t y).trans (key_ref m c (row t (y 0)) (y 1)).symm

end Cert.Kernel16Ideal.RopeDx

namespace Cert.Proof

open Idealize.ShloMosaic Idealize.SL.Sem

/-- From equal arguments the kernel and the reference end with equal results: the gradients of the queries and of the keys before their rotary embedding. -/
theorem algebraic_rope_dx : Cert.algebraic_Kernel16Ideal_Reference16Ideal (hKernel16Ideal := Cert.Kernel16Ideal.Gen.facts)
    (hReference16Ideal := Cert.Reference16Ideal.Gen.facts) := by
  intro m g m' g' _ hargs
  refine ⟨_, _, Cert.Kernel16Ideal.Value.run_blocks (F := Ideal) m g, ?_⟩
  refine (θ_run (Cert.Reference16Ideal.defs (F := Ideal)) _ _).mono (fun r h c => ?_) (Cert.Reference16Ideal.Value.run (F := Ideal) m' g')
  refine ⟨(h c).1.trans ?_, (h c).2.1.trans ?_, (h c).2.2⟩
  · rw [Cert.Kernel16Ideal.RopeDx.final_query]
    refine (val_main_v196_eq _).trans ?_
    rw [StableHlo.launchContents_devRef, StableHlo.launchContents_devRef, StableHlo.launchContents_devRef, StableHlo.launchContents_devRef, (hargs c).2.2.1, (hargs c).2.2.2.1, (hargs c).2.2.2.2.1, (hargs c).2.2.2.2.2.1]
  · rw [Cert.Kernel16Ideal.RopeDx.final_key]
    refine (val_main_v197_eq _).trans ?_
    rw [StableHlo.launchContents_devRef, StableHlo.launchContents_devRef, StableHlo.launchContents_devRef, StableHlo.launchContents_devRef, (hargs c).2.2.1, (hargs c).2.2.2.1, (hargs c).2.2.2.2.1, (hargs c).2.2.2.2.2.2]

end Cert.Proof

end
-- ==== Proof.SsmOut.lean ====
/- The gated norm behind the scans: the kernel's row blocks are the skip connection, the gate and the root-mean-square norm of the two scans' outputs. -/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead

@[expose] public section

set_option maxRecDepth 16384

noncomputable section

namespace Cert.Kernel17Ideal.SsmOut

open Cert.Kernel17Ideal Cert.Kernel17Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val, 0] ∧ win0_1.index t = ![t.val, 0] ∧ win0_2.index t = ![t.val, 0] ∧ win0_3.index t = ![t.val, 1] ∧ win0_4.index t = ![0, 0] ∧ win0_5.index t = ![0, 0]
    ∧ win0_6.index t = ![t.val, 0] :=
  (by decide +kernel : ∀ t : Fin grid0.N, _)

/-- The row of the whole arrays that a row of grid point `t`'s block is. -/
def row (t : Fin cfg0.N) (r : Fin 256) : Fin 4352 :=
  ⟨t.val * 256 + r.val, by have := t.isLt; have : cfg0.N = 17 := N_0; omega⟩

/-- The head to which a channel belongs. -/
def headOf (j : Fin 512) : Fin 8 := ⟨j.val / 64, by omega⟩

/-- The rows of the forward scan's output that a grid point reads. -/
theorem forward_block (c : Dev nD) (t : Fin cfg0.N) (x : S256x512.Idx) :
    iblk m c 0 t x = (m ((c : Thread nD τ).loc main_arg0) : FVec Ideal S4352x512 .f32) (ix2 (row t (x 0)) (x 1 : Fin 512)) := by
  have hv : V m c main_arg0 = (m ((c : Thread nD τ).loc main_arg0) : FVec Ideal S4352x512 .f32) := by
    unfold V; after_reads_simp
  rw [← hv]
  blk_ext [iblk, idx t, row]

/-- The rows of the backward scan's output that a grid point reads. -/
theorem backward_block (c : Dev nD) (t : Fin cfg0.N) (x : S256x512.Idx) :
    iblk m c 1 t x = (m ((c : Thread nD τ).loc main_arg1) : FVec Ideal S4352x512 .f32) (ix2 (row t (x 0)) (x 1 : Fin 512)) := by
  have hv : V m c main_arg1 = (m ((c : Thread nD τ).loc main_arg1) : FVec Ideal S4352x512 .f32) := by
    unfold V; after_reads_simp
  rw [← hv]
  blk_ext [iblk, idx t, row]

/-- The rows of the activation that a grid point reads: the first 512 columns. -/
theorem act_block (c : Dev nD) (t : Fin cfg0.N) (x : S256x512.Idx) :
    iblk m c 2 t x = (m ((c : Thread nD τ).loc main_arg2) : FVec Ideal S4352x1024 .f32) (ix2 (row t (x 0)) (⟨(x 1).val, by have : (x 1).val < 512 := (x 1).isLt; omega⟩ : Fin 1024)) := by
  have hv : V m c main_arg2 = (m ((c : Thread nD τ).loc main_arg2) : FVec Ideal S4352x1024 .f32) := by
    unfold V; after_reads_simp
  rw [← hv]
  blk_ext [iblk, idx t, row]

/-- The array that holds the gate's argument in its columns 512 to 1023. -/
def wide (c : Dev nD) : FVec Ideal S4352x2944 .f32 :=
  concatenate S4352x2944 1 [⟨S4352x512, broadcastInDim S4352x512 ![] bcast_S_S4352x512 (constant S_ .f32 0x00000000#32 : FVec Ideal S_ .f32)⟩, ⟨S4352x512, (m ((c : Thread nD τ).loc main_arg3) : FVec Ideal S4352x512 .f32)⟩,
    ⟨S4352x1920, broadcastInDim S4352x1920 ![] bcast_S_S4352x1920 (constant S_ .f32 0x00000000#32 : FVec Ideal S_ .f32)⟩]
    concatenates_S4352x512_S4352x512_S4352x1920_S4352x2944_d1

theorem V_wide (c : Dev nD) : V m c main_v2 = wide m c := by
  unfold V; after_reads_simp; rfl

/-- The rows of the gate's argument that a grid point reads. -/
theorem gate_block (c : Dev nD) (t : Fin cfg0.N) (x : S256x512.Idx) :
    X0_3 m c t x = (m ((c : Thread nD τ).loc main_arg3) : FVec Ideal S4352x512 .f32) (ix2 (row t (x 0)) (x 1 : Fin 512)) := by
  have h1 : X0_3 m c t x = wide m c (ix2 (row t (x 0)) (⟨512 + (x 1).val, by have : (x 1).val < 512 := (x 1).isLt; omega⟩ : Fin 2944)) := by
    rw [← V_wide m c]
    unfold X0_3
    unfold Pipeline.Window.fill
    refine (dif_pos (moved0_3 t x)).trans ?_
    blk_ext [iblk, idx t, row]
  have hl : (x 1).val < 512 := (x 1).isLt
  refine h1.trans ?_
  unfold wide
  pointwise []

theorem V_skip (c : Dev nD) : V m c main_v5 = broadcastInDim S1x512 ![1] bcast_S512_S1x512_1 (shapeCast S512 (broadcastInDim S8x64 ![0] bcast_S8_S8x64_0 (m ((c : Thread nD τ).loc main_arg4) : FVec Ideal S8 .f32)) shapeCasts_S8x64_S512) := by
  unfold V; after_reads_simp; rfl

/-- The skip connection's weights, each as often as its head has channels. -/
theorem skip_block (c : Dev nD) (t : Fin cfg0.N) (x : S1x512.Idx) :
    iblk m c 4 t x = (m ((c : Thread nD τ).loc main_arg4) : FVec Ideal S8 .f32) (ix1 (headOf (x 1))) := by
  have h1 : iblk m c 4 t x = V m c main_v5 (ix2 (0 : Fin 1) (x 1 : Fin 512)) := by
    blk_ext [iblk, idx t]
  refine h1.trans ?_
  rw [V_skip m c]
  pointwise []
  blk_point [headOf]

theorem V_scale (c : Dev nD) : V m c main_v6 = broadcastInDim S1x512 ![1] bcast_S512_S1x512_1 (m ((c : Thread nD τ).loc main_arg5) : FVec Ideal S512 .f32) := by
  unfold V; after_reads_simp

/-- The norm's scales. -/
theorem scale_block (c : Dev nD) (t : Fin cfg0.N) (x : S1x512.Idx) :
    iblk m c 5 t x = (m ((c : Thread nD τ).loc main_arg5) : FVec Ideal S512 .f32) (ix1 (x 1 : Fin 512)) := by
  have h1 : iblk m c 5 t x = V m c main_v6 (ix2 (0 : Fin 1) (x 1 : Fin 512)) := by
    blk_ext [iblk, idx t]
  refine h1.trans ?_
  rw [V_scale m c]
  pointwise []

/-- The exponential is never negative. -/
theorem exp_nonneg (z : EReal) : 0 ≤ Ideal.exp z := by
  induction z using EReal.rec with
  | bot => exact le_of_eq Ideal.exp_bot.symm
  | coe r => rw [Ideal.exp_coe]; exact_mod_cast (Real.exp_pos r).le
  | top => rw [Ideal.exp_top]; exact le_top

/-- The two ways of writing the sigmoid-weighted unit agree on all extended reals. -/
theorem unit_eq (z : EReal) : z * Ideal.div 1 (1 + Ideal.exp (-z)) = Ideal.div z (1 + Ideal.exp (0 - z)) := by
  rw [zero_sub, Idealize.ShloMosaic.Ideal.mul_one_div (ne_of_gt (lt_of_lt_of_le one_pos (le_add_of_nonneg_right (exp_nonneg _))))]

/-- The scans' outputs and the skip connection, added up. -/
def before (c : Dev nD) (p : Fin 4352) (j : Fin 512) : EReal :=
  FloatOps.addf (F := Ideal) (φ := .f32) (FloatOps.addf ((m ((c : Thread nD τ).loc main_arg0) : FVec Ideal S4352x512 .f32) (ix2 p j)) ((m ((c : Thread nD τ).loc main_arg1) : FVec Ideal S4352x512 .f32) (ix2 p j))) (FloatOps.mulf ((m ((c : Thread nD τ).loc main_arg4) : FVec Ideal S8 .f32) (ix1 (headOf j))) ((m ((c : Thread nD τ).loc main_arg2) : FVec Ideal S4352x1024 .f32) (ix2 p (⟨j.val, by omega⟩ : Fin 1024))))

/-- The gated output, which the norm takes. -/
def gated (c : Dev nD) (p : Fin 4352) (j : Fin 512) : EReal := before m c p j * Ideal.div ((m ((c : Thread nD τ).loc main_arg3) : FVec Ideal S4352x512 .f32) (ix2 p j)) (1 + Ideal.exp (0 - (m ((c : Thread nD τ).loc main_arg3) : FVec Ideal S4352x512 .f32) (ix2 p j)))

/-- The reference's sum of the scans' outputs and the skip connection. -/
theorem ref_before (c : Dev nD) (x : S4352x512.Idx) :
    Cert.Reference17Ideal.Read.val_main_v10 (F := Ideal) (m ((c : Thread nD τ).loc main_arg0)) (m ((c : Thread nD τ).loc main_arg1)) (m ((c : Thread nD τ).loc main_arg2)) (m ((c : Thread nD τ).loc main_arg4)) x = before m c (x 0) (x 1) := by
  unfold before
  pointwise [Cert.Reference17Ideal.Read.val_main_v0, Cert.Reference17Ideal.Read.val_main_v1, Cert.Reference17Ideal.Read.val_main_v2, Cert.Reference17Ideal.Read.val_main_v3, Cert.Reference17Ideal.Read.val_main_v4, Cert.Reference17Ideal.Read.val_main_v5, Cert.Reference17Ideal.Read.val_main_v6, Cert.Reference17Ideal.Read.val_main_v7, Cert.Reference17Ideal.Read.val_main_v8, Cert.Reference17Ideal.Read.val_main_v9, Cert.Reference17Ideal.Read.val_main_v10]
  blk_point [headOf]

/-- The reference's sigmoid-weighted unit. -/
theorem ref_unit (c : Dev nD) (x : S4352x512.Idx) :
    Cert.Reference17Ideal.Read.val_main_v11 (F := Ideal) (m ((c : Thread nD τ).loc main_arg3)) x = Ideal.div ((m ((c : Thread nD τ).loc main_arg3) : FVec Ideal S4352x512 .f32) x) (1 + Ideal.exp (0 - (m ((c : Thread nD τ).loc main_arg3) : FVec Ideal S4352x512 .f32) x)) := by
  refine Eq.trans ?_ (unit_eq _)
  pointwise [Cert.Reference17Ideal.Read.val_main_call0_v0, Cert.Reference17Ideal.Read.val_main_call0_v1, Cert.Reference17Ideal.Read.val_main_call0_cst, Cert.Reference17Ideal.Read.val_main_call0_v2, Cert.Reference17Ideal.Read.val_main_call0_v3, Cert.Reference17Ideal.Read.val_main_call0_cst_0, Cert.Reference17Ideal.Read.val_main_call0_v4, Cert.Reference17Ideal.Read.val_main_call0_v5, Cert.Reference17Ideal.Read.val_main_v11]

/-- The reference's gated output. -/
theorem ref_gated (c : Dev nD) (x : S4352x512.Idx) :
    Cert.Reference17Ideal.Read.val_main_v12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) x = gated m c (x 0) (x 1) := by
  unfold gated
  pointwise [Cert.Reference17Ideal.Read.val_main_v12, ref_before m c, ref_unit m c]

/-- Where an element of the stored block lands. -/
theorem lands (t : Fin cfg0.N) (y : S256x512.Idx) :
    (win0_6.blk t).view.emb y = ix2 (row t (y 0)) (y 1 : Fin 512) := by
  blk_ext [idx t, row]

/-- The stored block, element by element. -/
theorem stored (c : Dev nD) (t : Fin cfg0.N) (y : S256x512.Idx) :
    k0_pay1 (F := Ideal) (iblk m c 0 t) (iblk m c 1 t) (iblk m c 2 t) (X0_3 m c t) (iblk m c 4 t) (iblk m c 5 t) y = Cert.Reference17Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t (y 0)) (y 1 : Fin 512)) := by
  pointwise [k0_pay1, forward_block, backward_block, act_block, gate_block, skip_block, scale_block, Cert.Reference17Ideal.Read.val_main_v13, Cert.Reference17Ideal.Read.val_main_cst, Cert.Reference17Ideal.Read.val_main_v14, Cert.Reference17Ideal.Read.val_main_v15, Cert.Reference17Ideal.Read.val_main_cst_0, Cert.Reference17Ideal.Read.val_main_v16, Cert.Reference17Ideal.Read.val_main_v17, Cert.Reference17Ideal.Read.val_main_cst_1, Cert.Reference17Ideal.Read.val_main_v18, Cert.Reference17Ideal.Read.val_main_v19, Cert.Reference17Ideal.Read.val_main_v20, Cert.Reference17Ideal.Read.val_main_v21, Cert.Reference17Ideal.Read.val_main_v22, Cert.Reference17Ideal.Read.val_main_v23, Cert.Reference17Ideal.Read.val_main_v24, Cert.Reference17Ideal.Read.val_main_v25, Cert.Reference17Ideal.Read.val_main_v26, ref_gated m c, gated, before]

/-- One stored element is the reference's element at the place where it lands. -/
theorem point (c : Dev nD) (t : Fin cfg0.N) (y : S256x512.Idx) :
    outsAt0 m c t y = Cert.Reference17Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((win0_6.blk t).view.emb y) := by
  rw [lands t y]
  unfold outsAt0
  frame_out
  exact stored m c t y

/-- The result array of the kernel is the reference's. -/
theorem final (c : Dev nD) : (dats m 0 c).arrAt 6 cfg0.N = Cert.Reference17Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  exact point m c t y

end Cert.Kernel17Ideal.SsmOut

namespace Cert.Proof

open Idealize.ShloMosaic Idealize.SL.Sem

/-- From equal arguments the kernel and the reference end with equal results. -/
theorem algebraic_ssm_out : Cert.algebraic_Kernel17Ideal_Reference17Ideal (hKernel17Ideal := Cert.Kernel17Ideal.Gen.facts)
    (hReference17Ideal := Cert.Reference17Ideal.Gen.facts) := by
  intro m g m' g' _ hargs
  refine ⟨_, Cert.Kernel17Ideal.Value.run_blocks (F := Ideal) m g, ?_⟩
  refine (θ_run (Cert.Reference17Ideal.defs (F := Ideal)) _ _).mono (fun r h c => ?_) (Cert.Reference17Ideal.Value.run (F := Ideal) m' g')
  refine ⟨(h c).1.trans ?_, (h c).2⟩
  rw [Cert.Kernel17Ideal.SsmOut.final, (hargs c).1, (hargs c).2.1, (hargs c).2.2.1, (hargs c).2.2.2.1, (hargs c).2.2.2.2.1, (hargs c).2.2.2.2.2]
  exact Cert.Reference17Ideal.Read.val_main_v26_eq _ _ _ _ _ _

end Cert.Proof

end
-- ==== Proof.ConvFwd.lean ====
/- The depthwise convolution and its sigmoid-weighted unit: the kernel's row blocks with their halos are the two sequences' convolutions. -/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead

@[expose] public section

set_option maxRecDepth 16384

noncomputable section

open Cert.Reference18Ideal.Read

namespace Cert.Kernel18Ideal.ConvFwd

open Cert.Kernel18Ideal Cert.Kernel18Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val * 32 - 1, 7] ∧ win0_1.index t = ![t.val, 7] ∧ win0_2.index t = ![min (t.val * 32 + 32) 543, 7] ∧ win0_3.index t = ![t.val * 32 - 1, 8] ∧ win0_4.index t = ![t.val, 8] ∧ win0_5.index t = ![min (t.val * 32 + 32) 543, 8] ∧ win0_6.index t = ![t.val * 32 - 1, 9] ∧ win0_7.index t = ![t.val, 9] ∧ win0_8.index t = ![min (t.val * 32 + 32) 543, 9] ∧ win0_9.index t = ![t.val * 32 - 1, 10] ∧ win0_10.index t = ![t.val, 10] ∧ win0_11.index t = ![min (t.val * 32 + 32) 543, 10] ∧ win0_12.index t = ![0, 0] ∧ win0_13.index t = ![0, 0] ∧ win0_14.index t = ![t.val, 0] ∧ win0_15.index t = ![t.val, 0] :=
  (by decide +kernel : ∀ t : Fin grid0.N, _)

/-- The row of the whole arrays that a row of grid point `t`'s block is. -/
def row (t : Fin cfg0.N) (r : Fin 256) : Fin 4352 :=
  ⟨t.val * 256 + r.val, by have := t.isLt; have : cfg0.N = 17 := N_0; omega⟩

/-- A row of the halo before grid point `t`'s block (of the block's own first rows at the first point). -/
def rowBefore (t : Fin cfg0.N) (r : Fin 8) : Fin 4352 :=
  ⟨(t.val * 32 - 1) * 8 + r.val, by have := t.isLt; have : cfg0.N = 17 := N_0; omega⟩

/-- A row of the halo behind grid point `t`'s block (of the last rows at the last point). -/
def rowBehind (t : Fin cfg0.N) (r : Fin 8) : Fin 4352 :=
  ⟨min (t.val * 32 + 32) 543 * 8 + r.val, by omega⟩

/-- The column of the whole array that is column `l` of the `j`-th column block. -/
def col (j : Fin 4) (l : Fin 256) : Fin 1024 := ⟨j.val * 256 + l.val, by omega⟩

/-- The array that holds the convolution's argument in its columns 1792 to 2815. -/
def wide (c : Dev nD) : FVec Ideal S4352x2944 .f32 :=
  concatenate S4352x2944 1 [⟨S4352x1792, broadcastInDim S4352x1792 ![] bcast_S_S4352x1792 (constant S_ .f32 0x00000000#32 : FVec Ideal S_ .f32)⟩, ⟨S4352x1024, (m ((c : Thread nD τ).loc main_arg0) : FVec Ideal S4352x1024 .f32)⟩,
    ⟨S4352x128, broadcastInDim S4352x128 ![] bcast_S_S4352x128 (constant S_ .f32 0x00000000#32 : FVec Ideal S_ .f32)⟩]
    concatenates_S4352x1792_S4352x1024_S4352x128_S4352x2944_d1

theorem V_wide (c : Dev nD) : V m c main_v2 = wide m c := by
  unfold V; after_reads_simp; rfl

/-- The wide array's columns from 1792 on are the argument's. -/
theorem wide_at (c : Dev nD) (p : Fin 4352) (l : Fin 1024) : wide m c (ix2 p (⟨1792 + l.val, by omega⟩ : Fin 2944)) = (m ((c : Thread nD τ).loc main_arg0) : FVec Ideal S4352x1024 .f32) (ix2 p l) := by
  have hl := l.isLt
  unfold wide
  pointwise []

theorem block_0 (c : Dev nD) (t : Fin cfg0.N) (x : S8x256.Idx) :
    X0_0 m c t x = (m ((c : Thread nD τ).loc main_arg0) : FVec Ideal S4352x1024 .f32) (ix2 (rowBefore t (x 0)) (col 0 (x 1))) := by
  refine Eq.trans ?_ (wide_at m c (rowBefore t (x 0)) (col 0 (x 1)))
  rw [← V_wide m c]
  unfold X0_0
  unfold Pipeline.Window.fill
  refine (dif_pos (moved0_0 t x)).trans ?_
  blk_ext [iblk, idx t, rowBefore, col]

theorem block_1 (c : Dev nD) (t : Fin cfg0.N) (x : S256x256.Idx) :
    X0_1 m c t x = (m ((c : Thread nD τ).loc main_arg0) : FVec Ideal S4352x1024 .f32) (ix2 (row t (x 0)) (col 0 (x 1))) := by
  refine Eq.trans ?_ (wide_at m c (row t (x 0)) (col 0 (x 1)))
  rw [← V_wide m c]
  unfold X0_1
  unfold Pipeline.Window.fill
  refine (dif_pos (moved0_1 t x)).trans ?_
  blk_ext [iblk, idx t, row, col]

theorem block_2 (c : Dev nD) (t : Fin cfg0.N) (x : S8x256.Idx) :
    X0_2 m c t x = (m ((c : Thread nD τ).loc main_arg0) : FVec Ideal S4352x1024 .f32) (ix2 (rowBehind t (x 0)) (col 0 (x 1))) := by
  refine Eq.trans ?_ (wide_at m c (rowBehind t (x 0)) (col 0 (x 1)))
  rw [← V_wide m c]
  unfold X0_2
  unfold Pipeline.Window.fill
  refine (dif_pos (moved0_2 t x)).trans ?_
  blk_ext [iblk, idx t, rowBehind, col]

theorem block_3 (c : Dev nD) (t : Fin cfg0.N) (x : S8x256.Idx) :
    X0_3 m c t x = (m ((c : Thread nD τ).loc main_arg0) : FVec Ideal S4352x1024 .f32) (ix2 (rowBefore t (x 0)) (col 1 (x 1))) := by
  refine Eq.trans ?_ (wide_at m c (rowBefore t (x 0)) (col 1 (x 1)))
  rw [← V_wide m c]
  unfold X0_3
  unfold Pipeline.Window.fill
  refine (dif_pos (moved0_3 t x)).trans ?_
  blk_ext [iblk, idx t, rowBefore, col]

theorem block_4 (c : Dev nD) (t : Fin cfg0.N) (x : S256x256.Idx) :
    X0_4 m c t x = (m ((c : Thread nD τ).loc main_arg0) : FVec Ideal S4352x1024 .f32) (ix2 (row t (x 0)) (col 1 (x 1))) := by
  refine Eq.trans ?_ (wide_at m c (row t (x 0)) (col 1 (x 1)))
  rw [← V_wide m c]
  unfold X0_4
  unfold Pipeline.Window.fill
  refine (dif_pos (moved0_4 t x)).trans ?_
  blk_ext [iblk, idx t, row, col]

theorem block_5 (c : Dev nD) (t : Fin cfg0.N) (x : S8x256.Idx) :
    X0_5 m c t x = (m ((c : Thread nD τ).loc main_arg0) : FVec Ideal S4352x1024 .f32) (ix2 (rowBehind t (x 0)) (col 1 (x 1))) := by
  refine Eq.trans ?_ (wide_at m c (rowBehind t (x 0)) (col 1 (x 1)))
  rw [← V_wide m c]
  unfold X0_5
  unfold Pipeline.Window.fill
  refine (dif_pos (moved0_5 t x)).trans ?_
  blk_ext [iblk, idx t, rowBehind, col]

theorem block_6 (c : Dev nD) (t : Fin cfg0.N) (x : S8x256.Idx) :
    X0_6 m c t x = (m ((c : Thread nD τ).loc main_arg0) : FVec Ideal S4352x1024 .f32) (ix2 (rowBefore t (x 0)) (col 2 (x 1))) := by
  refine Eq.trans ?_ (wide_at m c (rowBefore t (x 0)) (col 2 (x 1)))
  rw [← V_wide m c]
  unfold X0_6
  unfold Pipeline.Window.fill
  refine (dif_pos (moved0_6 t x)).trans ?_
  blk_ext [iblk, idx t, rowBefore, col]

theorem block_7 (c : Dev nD) (t : Fin cfg0.N) (x : S256x256.Idx) :
    X0_7 m c t x = (m ((c : Thread nD τ).loc main_arg0) : FVec Ideal S4352x1024 .f32) (ix2 (row t (x 0)) (col 2 (x 1))) := by
  refine Eq.trans ?_ (wide_at m c (row t (x 0)) (col 2 (x 1)))
  rw [← V_wide m c]
  unfold X0_7
  unfold Pipeline.Window.fill
  refine (dif_pos (moved0_7 t x)).trans ?_
  blk_ext [iblk, idx t, row, col]

theorem block_8 (c : Dev nD) (t : Fin cfg0.N) (x : S8x256.Idx) :
    X0_8 m c t x = (m ((c : Thread nD τ).loc main_arg0) : FVec Ideal S4352x1024 .f32) (ix2 (rowBehind t (x 0)) (col 2 (x 1))) := by
  refine Eq.trans ?_ (wide_at m c (rowBehind t (x 0)) (col 2 (x 1)))
  rw [← V_wide m c]
  unfold X0_8
  unfold Pipeline.Window.fill
  refine (dif_pos (moved0_8 t x)).trans ?_
  blk_ext [iblk, idx t, rowBehind, col]

theorem block_9 (c : Dev nD) (t : Fin cfg0.N) (x : S8x256.Idx) :
    X0_9 m c t x = (m ((c : Thread nD τ).loc main_arg0) : FVec Ideal S4352x1024 .f32) (ix2 (rowBefore t (x 0)) (col 3 (x 1))) := by
  refine Eq.trans ?_ (wide_at m c (rowBefore t (x 0)) (col 3 (x 1)))
  rw [← V_wide m c]
  unfold X0_9
  unfold Pipeline.Window.fill
  refine (dif_pos (moved0_9 t x)).trans ?_
  blk_ext [iblk, idx t, rowBefore, col]

theorem block_10 (c : Dev nD) (t : Fin cfg0.N) (x : S256x256.Idx) :
    X0_10 m c t x = (m ((c : Thread nD τ).loc main_arg0) : FVec Ideal S4352x1024 .f32) (ix2 (row t (x 0)) (col 3 (x 1))) := by
  refine Eq.trans ?_ (wide_at m c (row t (x 0)) (col 3 (x 1)))
  rw [← V_wide m c]
  unfold X0_10
  unfold Pipeline.Window.fill
  refine (dif_pos (moved0_10 t x)).trans ?_
  blk_ext [iblk, idx t, row, col]

theorem block_11 (c : Dev nD) (t : Fin cfg0.N) (x : S8x256.Idx) :
    X0_11 m c t x = (m ((c : Thread nD τ).loc main_arg0) : FVec Ideal S4352x1024 .f32) (ix2 (rowBehind t (x 0)) (col 3 (x 1))) := by
  refine Eq.trans ?_ (wide_at m c (rowBehind t (x 0)) (col 3 (x 1)))
  rw [← V_wide m c]
  unfold X0_11
  unfold Pipeline.Window.fill
  refine (dif_pos (moved0_11 t x)).trans ?_
  blk_ext [iblk, idx t, rowBehind, col]

/-- The weights, with a row of zeros below the seven rows. -/
def weights (c : Dev nD) : FVec Ideal S8x1024 .f32 :=
  concatenate S8x1024 0 [⟨S7x1024, (m ((c : Thread nD τ).loc main_arg1) : FVec Ideal S7x1024 .f32)⟩, ⟨S1x1024, broadcastInDim S1x1024 ![] bcast_S_S1x1024 (constant S_ .f32 0x00000000#32 : FVec Ideal S_ .f32)⟩]
    concatenates_S7x1024_S1x1024_S8x1024_d0

theorem V_weights (c : Dev nD) : V m c main_v4 = weights m c := by
  unfold V; after_reads_simp; rfl

theorem block_12 (c : Dev nD) (t : Fin cfg0.N) (x : S8x1024.Idx) : iblk m c 12 t x = weights m c (ix2 (x 0 : Fin 8) (x 1 : Fin 1024)) := by
  rw [← V_weights m c]
  blk_ext [iblk, idx t]

/-- Where a stored element lands in the result. -/
theorem lands (t : Fin cfg0.N) (y : S256x1024.Idx) : (win0_14.blk t).view.emb y = ix2 (row t (y 0)) (y 1 : Fin 1024) := by
  blk_ext [idx t, row]

theorem V_bias (c : Dev nD) : V m c main_v5 = broadcastInDim S1x1024 ![1] bcast_S1024_S1x1024_1 (m ((c : Thread nD τ).loc main_arg2) : FVec Ideal S1024 .f32) := by
  unfold V; after_reads_simp

/-- The biases. -/
theorem block_13 (c : Dev nD) (t : Fin cfg0.N) (x : S1x1024.Idx) :
    iblk m c 13 t x = (m ((c : Thread nD τ).loc main_arg2) : FVec Ideal S1024 .f32) (ix1 (x 1 : Fin 1024)) := by
  have h1 : iblk m c 13 t x = V m c main_v5 (ix2 (0 : Fin 1) (x 1 : Fin 1024)) := by
    blk_ext [iblk, idx t]
  refine h1.trans ?_
  rw [V_bias m c]
  pointwise []

/-- Where an element of the activation's block lands. -/
theorem lands_act (t : Fin cfg0.N) (y : S256x1024.Idx) : (win0_15.blk t).view.emb y = ix2 (row t (y 0)) (y 1 : Fin 1024) := by
  blk_ext [idx t, row]

/-- The argument at a row given as a number. -/
def ct (c : Dev nD) (p : ℕ) (l : Fin 1024) : EReal := if h : p < 4352 then (m ((c : Thread nD τ).loc main_arg0) : FVec Ideal S4352x1024 .f32) (ix2 (⟨p, h⟩ : Fin 4352) l) else 0

/-- A row of the extended block at grid point `t`, counted from eight rows before the block: zero where the other sequence lies. -/
def ext (c : Dev nD) (t : Fin cfg0.N) (q : ℕ) (l : Fin 1024) : EReal :=
  if (q < 8 ∧ (t.val = 0 ∨ t.val = 16)) ∨ (264 ≤ q ∧ (t.val = 15 ∨ t.val = 16)) then 0 else ct m c (t.val * 256 + q - 8) l

theorem flag_before : ∀ t : Fin cfg0.N, Scalar.andi (Scalar.cmpi CmpIPredicate.ne (BitVec.ofNat 32 (grid0.coords t 0).val) 0#32) (Scalar.cmpi CmpIPredicate.ne (BitVec.ofNat 32 (grid0.coords t 0).val) 16#32)
    = if t.val = 0 ∨ t.val = 16 then 0#1 else 1#1 :=
  (by decide +kernel : ∀ t : Fin grid0.N, _)

theorem flag_behind : ∀ t : Fin cfg0.N, Scalar.andi (Scalar.cmpi CmpIPredicate.ne (BitVec.ofNat 32 (grid0.coords t 0).val) 15#32) (Scalar.cmpi CmpIPredicate.ne (BitVec.ofNat 32 (grid0.coords t 0).val) 16#32)
    = if t.val = 15 ∨ t.val = 16 then 0#1 else 1#1 :=
  (by decide +kernel : ∀ t : Fin grid0.N, _)

theorem fill_0 (c : Dev nD) (t : Fin cfg0.N) (x : S8x256.Idx) : (k0_pay4 (F := Ideal) (grid0.coords t) (X0_0 m c t) x : EReal) = ext m c t (x 0).val (col 0 (x 1)) := by
  have hx : (x 0).val < 8 := (x 0).isLt
  have ht := t.isLt
  have hN : cfg0.N = 17 := N_0
  unfold ext
  have hf := flag_before t
  by_cases h : t.val = 0 ∨ t.val = 16
  · rw [if_pos h] at hf
    rw [if_pos (Or.inl ⟨hx, h⟩)]
    pointwise [k0_pay4, block_0]
    rw [hf]
    pointwise []
  · rw [if_neg h] at hf
    rw [if_neg (by omega)]
    unfold ct
    rw [dif_pos (by omega)]
    pointwise [k0_pay4, block_0]
    rw [hf]
    pointwise []
    blk_point [rowBefore]

theorem fill_1 (c : Dev nD) (t : Fin cfg0.N) (x : S256x256.Idx) : (k0_pay5 (F := Ideal) (X0_1 m c t) x : EReal) = ext m c t (8 + (x 0).val) (col 0 (x 1)) := by
  have hx : (x 0).val < 256 := (x 0).isLt
  have ht := t.isLt
  have hN : cfg0.N = 17 := N_0
  unfold ext
  rw [if_neg (by omega)]
  unfold ct
  rw [dif_pos (by omega)]
  pointwise [k0_pay5, block_1]
  blk_point [row]

theorem fill_2 (c : Dev nD) (t : Fin cfg0.N) (x : S8x256.Idx) : (k0_pay6 (F := Ideal) (grid0.coords t) (X0_2 m c t) x : EReal) = ext m c t (264 + (x 0).val) (col 0 (x 1)) := by
  have hx : (x 0).val < 8 := (x 0).isLt
  have ht := t.isLt
  have hN : cfg0.N = 17 := N_0
  unfold ext
  have hf := flag_behind t
  by_cases h : t.val = 15 ∨ t.val = 16
  · rw [if_pos h] at hf
    rw [if_pos (Or.inr ⟨by omega, h⟩)]
    pointwise [k0_pay6, block_2]
    rw [hf]
    pointwise []
  · rw [if_neg h] at hf
    rw [if_neg (by omega)]
    unfold ct
    rw [dif_pos (by omega)]
    pointwise [k0_pay6, block_2]
    rw [hf]
    pointwise []
    blk_point [rowBehind]

theorem fill_3 (c : Dev nD) (t : Fin cfg0.N) (x : S8x256.Idx) : (k0_pay27 (F := Ideal) (BitVec.ofNat 32 (grid0.coords t 0).val) (X0_3 m c t) x : EReal) = ext m c t (x 0).val (col 1 (x 1)) := by
  have hx : (x 0).val < 8 := (x 0).isLt
  have ht := t.isLt
  have hN : cfg0.N = 17 := N_0
  unfold ext
  have hf := flag_before t
  by_cases h : t.val = 0 ∨ t.val = 16
  · rw [if_pos h] at hf
    rw [if_pos (Or.inl ⟨hx, h⟩)]
    pointwise [k0_pay27, block_3]
    rw [hf]
    pointwise []
  · rw [if_neg h] at hf
    rw [if_neg (by omega)]
    unfold ct
    rw [dif_pos (by omega)]
    pointwise [k0_pay27, block_3]
    rw [hf]
    pointwise []
    blk_point [rowBefore]

theorem fill_4 (c : Dev nD) (t : Fin cfg0.N) (x : S256x256.Idx) : (k0_pay28 (F := Ideal) (X0_4 m c t) x : EReal) = ext m c t (8 + (x 0).val) (col 1 (x 1)) := by
  have hx : (x 0).val < 256 := (x 0).isLt
  have ht := t.isLt
  have hN : cfg0.N = 17 := N_0
  unfold ext
  rw [if_neg (by omega)]
  unfold ct
  rw [dif_pos (by omega)]
  pointwise [k0_pay28, block_4]
  blk_point [row]

theorem fill_5 (c : Dev nD) (t : Fin cfg0.N) (x : S8x256.Idx) : (k0_pay30 (F := Ideal) (k0_pay29 (BitVec.ofNat 32 (grid0.coords t 0).val) (X0_5 m c t)) x : EReal) = ext m c t (264 + (x 0).val) (col 1 (x 1)) := by
  have hx : (x 0).val < 8 := (x 0).isLt
  have ht := t.isLt
  have hN : cfg0.N = 17 := N_0
  unfold ext
  have hf := flag_behind t
  by_cases h : t.val = 15 ∨ t.val = 16
  · rw [if_pos h] at hf
    rw [if_pos (Or.inr ⟨by omega, h⟩)]
    pointwise [k0_pay30, k0_pay29, block_5]
    rw [hf]
    pointwise []
  · rw [if_neg h] at hf
    rw [if_neg (by omega)]
    unfold ct
    rw [dif_pos (by omega)]
    pointwise [k0_pay30, k0_pay29, block_5]
    rw [hf]
    pointwise []
    blk_point [rowBehind]

theorem fill_6 (c : Dev nD) (t : Fin cfg0.N) (x : S8x256.Idx) : (k0_pay51 (F := Ideal) (BitVec.ofNat 32 (grid0.coords t 0).val) (X0_6 m c t) x : EReal) = ext m c t (x 0).val (col 2 (x 1)) := by
  have hx : (x 0).val < 8 := (x 0).isLt
  have ht := t.isLt
  have hN : cfg0.N = 17 := N_0
  unfold ext
  have hf := flag_before t
  by_cases h : t.val = 0 ∨ t.val = 16
  · rw [if_pos h] at hf
    rw [if_pos (Or.inl ⟨hx, h⟩)]
    pointwise [k0_pay51, block_6]
    rw [hf]
    pointwise []
  · rw [if_neg h] at hf
    rw [if_neg (by omega)]
    unfold ct
    rw [dif_pos (by omega)]
    pointwise [k0_pay51, block_6]
    rw [hf]
    pointwise []
    blk_point [rowBefore]

theorem fill_7 (c : Dev nD) (t : Fin cfg0.N) (x : S256x256.Idx) : (k0_pay52 (F := Ideal) (X0_7 m c t) x : EReal) = ext m c t (8 + (x 0).val) (col 2 (x 1)) := by
  have hx : (x 0).val < 256 := (x 0).isLt
  have ht := t.isLt
  have hN : cfg0.N = 17 := N_0
  unfold ext
  rw [if_neg (by omega)]
  unfold ct
  rw [dif_pos (by omega)]
  pointwise [k0_pay52, block_7]
  blk_point [row]

theorem fill_8 (c : Dev nD) (t : Fin cfg0.N) (x : S8x256.Idx) : (k0_pay53 (F := Ideal) (k0_pay50 (BitVec.ofNat 32 (grid0.coords t 0).val)) (X0_8 m c t) x : EReal) = ext m c t (264 + (x 0).val) (col 2 (x 1)) := by
  have hx : (x 0).val < 8 := (x 0).isLt
  have ht := t.isLt
  have hN : cfg0.N = 17 := N_0
  unfold ext
  have hf := flag_behind t
  by_cases h : t.val = 15 ∨ t.val = 16
  · rw [if_pos h] at hf
    rw [if_pos (Or.inr ⟨by omega, h⟩)]
    pointwise [k0_pay53, k0_pay50, block_8]
    rw [hf]
    pointwise []
  · rw [if_neg h] at hf
    rw [if_neg (by omega)]
    unfold ct
    rw [dif_pos (by omega)]
    pointwise [k0_pay53, k0_pay50, block_8]
    rw [hf]
    pointwise []
    blk_point [rowBehind]

theorem fill_9 (c : Dev nD) (t : Fin cfg0.N) (x : S8x256.Idx) : (k0_pay77 (F := Ideal) (k0_pay75 (BitVec.ofNat 32 (grid0.coords t 0).val)) (X0_9 m c t) x : EReal) = ext m c t (x 0).val (col 3 (x 1)) := by
  have hx : (x 0).val < 8 := (x 0).isLt
  have ht := t.isLt
  have hN : cfg0.N = 17 := N_0
  unfold ext
  have hf := flag_before t
  by_cases h : t.val = 0 ∨ t.val = 16
  · rw [if_pos h] at hf
    rw [if_pos (Or.inl ⟨hx, h⟩)]
    pointwise [k0_pay77, k0_pay75, block_9]
    rw [hf]
    pointwise []
  · rw [if_neg h] at hf
    rw [if_neg (by omega)]
    unfold ct
    rw [dif_pos (by omega)]
    pointwise [k0_pay77, k0_pay75, block_9]
    rw [hf]
    pointwise []
    blk_point [rowBefore]

theorem fill_10 (c : Dev nD) (t : Fin cfg0.N) (x : S256x256.Idx) : (k0_pay78 (F := Ideal) (X0_10 m c t) x : EReal) = ext m c t (8 + (x 0).val) (col 3 (x 1)) := by
  have hx : (x 0).val < 256 := (x 0).isLt
  have ht := t.isLt
  have hN : cfg0.N = 17 := N_0
  unfold ext
  rw [if_neg (by omega)]
  unfold ct
  rw [dif_pos (by omega)]
  pointwise [k0_pay78, block_10]
  blk_point [row]

theorem fill_11 (c : Dev nD) (t : Fin cfg0.N) (x : S8x256.Idx) : (k0_pay79 (F := Ideal) (k0_pay76 (BitVec.ofNat 32 (grid0.coords t 0).val)) (X0_11 m c t) x : EReal) = ext m c t (264 + (x 0).val) (col 3 (x 1)) := by
  have hx : (x 0).val < 8 := (x 0).isLt
  have ht := t.isLt
  have hN : cfg0.N = 17 := N_0
  unfold ext
  have hf := flag_behind t
  by_cases h : t.val = 15 ∨ t.val = 16
  · rw [if_pos h] at hf
    rw [if_pos (Or.inr ⟨by omega, h⟩)]
    pointwise [k0_pay79, k0_pay76, block_11]
    rw [hf]
    pointwise []
  · rw [if_neg h] at hf
    rw [if_neg (by omega)]
    unfold ct
    rw [dif_pos (by omega)]
    pointwise [k0_pay79, k0_pay76, block_11]
    rw [hf]
    pointwise []
    blk_point [rowBehind]

/-- What a load of 64 rows of the extended block reads, whatever was stored before its three stores. -/
theorem read_ext (e : ℕ → Fin 256 → EReal) (P0 P2 : S8x256.Idx → EReal) (P1 : S256x256.Idx → EReal)
    (h0 : ∀ x : S8x256.Idx, P0 x = e (x 0).val (x 1)) (h1 : ∀ x : S256x256.Idx, P1 x = e (8 + (x 0).val) (x 1)) (h2 : ∀ x : S8x256.Idx, P2 x = e (264 + (x 0).val) (x 1))
    (rest : List (View.Piece (Elt Ideal) S272x256 .f32)) (o : ℕ) (inb : ∀ a, (![o, 0] : Fin 2 → ℕ) a + (![64, 256] : Fin 2 → ℕ) a ≤ S272x256.size a) (x : S64x256.Idx) :
    (View.whole cc0_scratch0).readCov (Val := Elt Ideal) (⟨Rect.unit ![264, 0] ![8, 256] inb_S272x256_S8x256_264_0, P2⟩ :: ⟨Rect.unit ![8, 0] ![256, 256] inb_S272x256_S256x256_8_0, P1⟩
      :: ⟨Rect.unit ![0, 0] ![8, 256] inb_S272x256_S8x256_0_0, P0⟩ :: rest) (Rect.unit (s := S272x256) ![o, 0] ![64, 256] inb).toLoadRect x = e (o + (x 0).val) (x 1) := by
  rw [View.readCov_eq_canon']
  refine (View.canon_append_of_pieces (Val := Elt Ideal) (S := S272x256) (e := .f32) (fun y : S272x256.Idx => e (y 0).val (y 1)) rest
    [⟨Rect.unit ![264, 0] ![8, 256] inb_S272x256_S8x256_264_0, P2⟩, ⟨Rect.unit ![8, 0] ![256, 256] inb_S272x256_S256x256_8_0, P1⟩, ⟨Rect.unit ![0, 0] ![8, 256] inb_S272x256_S8x256_0_0, P0⟩] ?_ _ ?_).trans ?_
  · have hp : View.PiecesOf (Val := Elt Ideal) (s := S272x256) (e := .f32) (fun y : S272x256.Idx => e (y 0).val (y 1))
        [⟨Rect.unit ![264, 0] ![8, 256] inb_S272x256_S8x256_264_0, P2⟩, ⟨Rect.unit ![8, 0] ![256, 256] inb_S272x256_S256x256_8_0, P1⟩, ⟨Rect.unit ![0, 0] ![8, 256] inb_S272x256_S8x256_0_0, P0⟩] := by
      exact ⟨fun x => (h2 x).trans (congrArg₂ e (Rect.idx_unit_val (s := S272x256) ![264, 0] ![8, 256] inb_S272x256_S8x256_264_0 x 0).symm (Fin.ext ((Rect.idx_unit_val (s := S272x256) ![264, 0] ![8, 256] inb_S272x256_S8x256_264_0 x 1).trans (Nat.zero_add _)).symm)),
        fun x => (h1 x).trans (congrArg₂ e (Rect.idx_unit_val (s := S272x256) ![8, 0] ![256, 256] inb_S272x256_S256x256_8_0 x 0).symm (Fin.ext ((Rect.idx_unit_val (s := S272x256) ![8, 0] ![256, 256] inb_S272x256_S256x256_8_0 x 1).trans (Nat.zero_add _)).symm)),
        fun x => (h0 x).trans (congrArg₂ e ((Rect.idx_unit_val (s := S272x256) ![0, 0] ![8, 256] inb_S272x256_S8x256_0_0 x 0).trans (Nat.zero_add _)).symm (Fin.ext ((Rect.idx_unit_val (s := S272x256) ![0, 0] ![8, 256] inb_S272x256_S8x256_0_0 x 1).trans (Nat.zero_add _)).symm)),
        trivial⟩
    exact hp.mem
  · have hy : (((Rect.unit (s := S272x256) ![o, 0] ![64, 256] inb).toLoadRect.idx x 0).val : ℕ) < 272 := Fin.isLt _
    have hl : (((Rect.unit (s := S272x256) ![o, 0] ![64, 256] inb).toLoadRect.idx x 1).val : ℕ) < 256 := Fin.isLt _
    by_cases ha : (((Rect.unit (s := S272x256) ![o, 0] ![64, 256] inb).toLoadRect.idx x 0).val : ℕ) < 8
    · refine ⟨_, List.mem_cons_of_mem _ (List.mem_cons_of_mem _ (List.mem_cons_self ..)), (Rect.mem_set_unit (inb := inb_S272x256_S8x256_0_0)).mpr fun a => ?_⟩
      fin_cases a
      · exact ⟨Nat.zero_le _, ha⟩
      · exact ⟨Nat.zero_le _, by simpa using hl⟩
    · by_cases hb : (((Rect.unit (s := S272x256) ![o, 0] ![64, 256] inb).toLoadRect.idx x 0).val : ℕ) < 264
      · refine ⟨_, List.mem_cons_of_mem _ (List.mem_cons_self ..), (Rect.mem_set_unit (inb := inb_S272x256_S256x256_8_0)).mpr fun a => ?_⟩
        fin_cases a
        · exact ⟨Nat.le_of_not_lt ha, hb⟩
        · exact ⟨Nat.zero_le _, by simpa using hl⟩
      · refine ⟨_, List.mem_cons_self .., (Rect.mem_set_unit (inb := inb_S272x256_S8x256_264_0)).mpr fun a => ?_⟩
        fin_cases a
        · exact ⟨Nat.le_of_not_lt hb, hy⟩
        · exact ⟨Nat.zero_le _, by simpa using hl⟩
  · refine congrArg₂ e ?_ (Fin.ext ?_)
    · exact Rect.idx_unit_val (s := S272x256) ![o, 0] ![64, 256] inb x 0
    · refine (Rect.idx_unit_val (s := S272x256) ![o, 0] ![64, 256] inb x 1).trans ?_
      exact Nat.zero_add _

theorem read_0 (c : Dev nD) (t : Fin cfg0.N) (rest : List (View.Piece (Elt Ideal) S272x256 .f32)) (o : ℕ)
    (inb : ∀ a, (![o, 0] : Fin 2 → ℕ) a + (![64, 256] : Fin 2 → ℕ) a ≤ S272x256.size a) (x : S64x256.Idx) :
    (View.whole cc0_scratch0).readCov (Val := Elt Ideal) (⟨Rect.unit ![264, 0] ![8, 256] inb_S272x256_S8x256_264_0, (k0_pay6 (F := Ideal) (grid0.coords t) (X0_2 m c t))⟩
      :: ⟨Rect.unit ![8, 0] ![256, 256] inb_S272x256_S256x256_8_0, (k0_pay5 (F := Ideal) (X0_1 m c t))⟩
      :: ⟨Rect.unit ![0, 0] ![8, 256] inb_S272x256_S8x256_0_0, (k0_pay4 (F := Ideal) (grid0.coords t) (X0_0 m c t))⟩ :: rest) (Rect.unit (s := S272x256) ![o, 0] ![64, 256] inb).toLoadRect x
      = ext m c t (o + (x 0).val) (col 0 (x 1)) :=
  read_ext (fun q l => ext m c t q (col 0 l)) _ _ _ (fill_0 m c t) (fill_1 m c t) (fill_2 m c t) rest o inb x

theorem read_1 (c : Dev nD) (t : Fin cfg0.N) (rest : List (View.Piece (Elt Ideal) S272x256 .f32)) (o : ℕ)
    (inb : ∀ a, (![o, 0] : Fin 2 → ℕ) a + (![64, 256] : Fin 2 → ℕ) a ≤ S272x256.size a) (x : S64x256.Idx) :
    (View.whole cc0_scratch0).readCov (Val := Elt Ideal) (⟨Rect.unit ![264, 0] ![8, 256] inb_S272x256_S8x256_264_0, (k0_pay30 (F := Ideal) (k0_pay29 (BitVec.ofNat 32 (grid0.coords t 0).val) (X0_5 m c t)))⟩
      :: ⟨Rect.unit ![8, 0] ![256, 256] inb_S272x256_S256x256_8_0, (k0_pay28 (F := Ideal) (X0_4 m c t))⟩
      :: ⟨Rect.unit ![0, 0] ![8, 256] inb_S272x256_S8x256_0_0, (k0_pay27 (F := Ideal) (BitVec.ofNat 32 (grid0.coords t 0).val) (X0_3 m c t))⟩ :: rest) (Rect.unit (s := S272x256) ![o, 0] ![64, 256] inb).toLoadRect x
      = ext m c t (o + (x 0).val) (col 1 (x 1)) :=
  read_ext (fun q l => ext m c t q (col 1 l)) _ _ _ (fill_3 m c t) (fill_4 m c t) (fill_5 m c t) rest o inb x

theorem read_2 (c : Dev nD) (t : Fin cfg0.N) (rest : List (View.Piece (Elt Ideal) S272x256 .f32)) (o : ℕ)
    (inb : ∀ a, (![o, 0] : Fin 2 → ℕ) a + (![64, 256] : Fin 2 → ℕ) a ≤ S272x256.size a) (x : S64x256.Idx) :
    (View.whole cc0_scratch0).readCov (Val := Elt Ideal) (⟨Rect.unit ![264, 0] ![8, 256] inb_S272x256_S8x256_264_0, (k0_pay53 (F := Ideal) (k0_pay50 (BitVec.ofNat 32 (grid0.coords t 0).val)) (X0_8 m c t))⟩
      :: ⟨Rect.unit ![8, 0] ![256, 256] inb_S272x256_S256x256_8_0, (k0_pay52 (F := Ideal) (X0_7 m c t))⟩
      :: ⟨Rect.unit ![0, 0] ![8, 256] inb_S272x256_S8x256_0_0, (k0_pay51 (F := Ideal) (BitVec.ofNat 32 (grid0.coords t 0).val) (X0_6 m c t))⟩ :: rest) (Rect.unit (s := S272x256) ![o, 0] ![64, 256] inb).toLoadRect x
      = ext m c t (o + (x 0).val) (col 2 (x 1)) :=
  read_ext (fun q l => ext m c t q (col 2 l)) _ _ _ (fill_6 m c t) (fill_7 m c t) (fill_8 m c t) rest o inb x

theorem read_3 (c : Dev nD) (t : Fin cfg0.N) (rest : List (View.Piece (Elt Ideal) S272x256 .f32)) (o : ℕ)
    (inb : ∀ a, (![o, 0] : Fin 2 → ℕ) a + (![64, 256] : Fin 2 → ℕ) a ≤ S272x256.size a) (x : S64x256.Idx) :
    (View.whole cc0_scratch0).readCov (Val := Elt Ideal) (⟨Rect.unit ![264, 0] ![8, 256] inb_S272x256_S8x256_264_0, (k0_pay79 (F := Ideal) (k0_pay76 (BitVec.ofNat 32 (grid0.coords t 0).val)) (X0_11 m c t))⟩
      :: ⟨Rect.unit ![8, 0] ![256, 256] inb_S272x256_S256x256_8_0, (k0_pay78 (F := Ideal) (X0_10 m c t))⟩
      :: ⟨Rect.unit ![0, 0] ![8, 256] inb_S272x256_S8x256_0_0, (k0_pay77 (F := Ideal) (k0_pay75 (BitVec.ofNat 32 (grid0.coords t 0).val)) (X0_9 m c t))⟩ :: rest) (Rect.unit (s := S272x256) ![o, 0] ![64, 256] inb).toLoadRect x
      = ext m c t (o + (x 0).val) (col 3 (x 1)) :=
  read_ext (fun q l => ext m c t q (col 3 l)) _ _ _ (fill_9 m c t) (fill_10 m c t) (fill_11 m c t) rest o inb x

/-- The bias of a channel. -/
def bias (c : Dev nD) (l : Fin 1024) : EReal := (m ((c : Thread nD τ).loc main_arg2) : FVec Ideal S1024 .f32) (ix1 l)

/-- The convolution at a row of grid point `t`'s block: the bias and the seven shifted products. -/
def conv (c : Dev nD) (t : Fin cfg0.N) (q : ℕ) (l : Fin 1024) : EReal :=
  bias m c l + weights m c (ix2 (0 : Fin 8) l) * ext m c t (q + 5) l + weights m c (ix2 (1 : Fin 8) l) * ext m c t (q + 6) l + weights m c (ix2 (2 : Fin 8) l) * ext m c t (q + 7) l + weights m c (ix2 (3 : Fin 8) l) * ext m c t (q + 8) l + weights m c (ix2 (4 : Fin 8) l) * ext m c t (q + 9) l + weights m c (ix2 (5 : Fin 8) l) * ext m c t (q + 10) l + weights m c (ix2 (6 : Fin 8) l) * ext m c t (q + 11) l

theorem ext_congr (c : Dev nD) (t : Fin cfg0.N) {q q' : ℕ} {l l' : Fin 1024} (h : q = q') (hl : l = l') : ext m c t q l = ext m c t q' l' := by rw [h, hl]

theorem weights_congr (c : Dev nD) {z z' : S8x1024.Idx} (h : (z 0).val = (z' 0).val) (hl : (z 1).val = (z' 1).val) : weights m c z = weights m c z' := by
  refine congrArg _ (funext fun a => ?_)
  fin_cases a
  · exact Fin.ext h
  · exact Fin.ext hl

theorem bias_congr (c : Dev nD) {l l' : Fin 1024} (h : l = l') : (m ((c : Thread nD τ).loc main_arg2) : FVec Ideal S1024 .f32) (ix1 l) = bias m c l' := by rw [h]; rfl

/-- A row and a column given by equal numbers read the same convolution. -/
theorem conv_congr (c : Dev nD) (t : Fin cfg0.N) {q q' : ℕ} {l l' : Fin 1024} (h : q = q') (hl : l = l') : conv m c t q l = conv m c t q' l' := by rw [h, hl]

set_option maxHeartbeats 4000000 in
/-- What a grid point stores: sixteen blocks of 64 rows and 256 columns, each the bias and the seven shifted products. -/
theorem stored_pre (c : Dev nD) (t : Fin cfg0.N) (y : S256x1024.Idx) :
    (outsAt0 m c t).1 y = conv m c t (y 0).val (y 1) := by
  unfold outsAt0
  frame_out
  canon_tiles x h using View.cover_of_tiledBy _ ![64,256] (by sl_kernel_rfl) y
  case piece12 | piece13 | piece14 | piece15 =>
    have hc := h1
    rw [h0]
    unfold conv
    pointwise [k0_pay1, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, block_12, block_13]
    exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (bias_congr m c (Fin.ext hc.symm)) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega))))))
  case piece8 | piece9 | piece10 | piece11 =>
    have hc := h1
    rw [h0]
    unfold conv
    pointwise [k0_pay1, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, block_12, block_13]
    exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (bias_congr m c (Fin.ext hc.symm)) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega))))))
  case piece4 | piece5 | piece6 | piece7 =>
    have hc := h1
    rw [h0]
    unfold conv
    pointwise [k0_pay1, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, block_12, block_13]
    exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (bias_congr m c (Fin.ext hc.symm)) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega))))))
  case piece0 | piece1 | piece2 | piece3 =>
    have hc := h1
    rw [h0]
    unfold conv
    pointwise [k0_pay1, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, block_12, block_13]
    exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (bias_congr m c (Fin.ext hc.symm)) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega))))))

set_option maxHeartbeats 4000000 in
/-- What a grid point stores: sixteen blocks of 64 rows and 256 columns, each the sigmoid-weighted unit of the same sums. -/
theorem stored_act (c : Dev nD) (t : Fin cfg0.N) (y : S256x1024.Idx) :
    (outsAt0 m c t).2 y = Ideal.div (conv m c t (y 0).val (y 1)) (1 + Ideal.exp (0 - conv m c t (y 0).val (y 1))) := by
  unfold outsAt0
  frame_out
  canon_tiles x h using View.cover_of_tiledBy _ ![64,256] (by sl_kernel_rfl) y
  case piece12 | piece13 | piece14 | piece15 =>
    have hc := h1
    rw [h0]
    unfold conv
    pointwise [k0_pay1, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, block_12, block_13]
    exact congrArg (fun z : EReal => Ideal.div z (1 + Ideal.exp (0 - z))) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (bias_congr m c (Fin.ext hc.symm)) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega)))))) (congrArg₂ (fun a b : EReal => a * b) (weights_congr m c rfl hc.symm) ((read_0 m c t _ _ _ _).trans (ext_congr m c t (by omega) (Fin.ext (by simp only [col]; omega))))))
  case piece8 | piece9 | piece10 | piece11 =>
    have hc := h1
    rw [h0]
    unfold conv
    pointwise [k0_pay1, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, block_12, block_13]
    exact congrArg (fun z : EReal => Ideal.div z (1 + Ideal.exp (0 - z))) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (bias_congr m c (Fin.ext hc.symm)) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega)))))) (congrArg₂ (fun a b : EReal => a * b) (weights_congr m c rfl hc.symm) ((read_1 m c t _ _ _ _).trans (ext_congr m c t (by omega) (Fin.ext (by simp only [col]; omega))))))
  case piece4 | piece5 | piece6 | piece7 =>
    have hc := h1
    rw [h0]
    unfold conv
    pointwise [k0_pay1, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, block_12, block_13]
    exact congrArg (fun z : EReal => Ideal.div z (1 + Ideal.exp (0 - z))) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (bias_congr m c (Fin.ext hc.symm)) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega)))))) (congrArg₂ (fun a b : EReal => a * b) (weights_congr m c rfl hc.symm) ((read_2 m c t _ _ _ _).trans (ext_congr m c t (by omega) (Fin.ext (by simp only [col]; omega))))))
  case piece0 | piece1 | piece2 | piece3 =>
    have hc := h1
    rw [h0]
    unfold conv
    pointwise [k0_pay1, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, block_12, block_13]
    exact congrArg (fun z : EReal => Ideal.div z (1 + Ideal.exp (0 - z))) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (bias_congr m c (Fin.ext hc.symm)) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega)))))) (congrArg₂ (fun a b : EReal => a * b) (weights_congr m c rfl hc.symm) ((read_3 m c t _ _ _ _).trans (ext_congr m c t (by omega) (Fin.ext (by simp only [col]; omega))))))

/-- A row given as a number of an array of 4352 rows. -/
def rowOf (x0 : FVec Ideal S4352x1024 .f32) (p : ℕ) (l : Fin 1024) : EReal := if h : p < 4352 then x0 (ix2 (⟨p, h⟩ : Fin 4352) l) else 0

/-- A row of a sequence of `n` rows that starts at row `o` of the array, with three rows of zeros before it and behind it. -/
def padRow (x0 : FVec Ideal S4352x1024 .f32) (o n p : ℕ) (l : Fin 1024) : EReal :=
  if 3 ≤ p ∧ p - 3 < n then rowOf x0 (o + (p - 3)) l else 0

/-- The latent rows, padded. -/
theorem latent_rows (x0 : FVec Ideal S4352x1024 .f32) (x : Cert.Reference18Ideal.S4102x1024.Idx) : (val_main_v2 (F := Ideal) x0 x : EReal) = padRow x0 0 4096 (x 0).val (x 1) := by
  have hx : (x 0).val < 4102 := (x 0).isLt
  unfold padRow
  by_cases h : 3 ≤ (x 0).val ∧ (x 0).val - 3 < 4096
  · rw [if_pos h]
    unfold rowOf
    rw [dif_pos (by omega)]
    pointwise [val_main_v2, val_main_v1, val_main_cst, val_main_v0]
    simp (disch := omega) only [dif_pos, dif_neg]
  · rw [if_neg h]
    pointwise [val_main_v2, val_main_v1, val_main_cst, val_main_v0]
    simp (disch := omega) only [dif_pos, dif_neg, dite_eq_ite, ite_self]

/-- The context rows, padded. -/
theorem context_rows (x0 : FVec Ideal S4352x1024 .f32) (x : Cert.Reference18Ideal.S262x1024.Idx) : (val_main_v56 (F := Ideal) x0 x : EReal) = padRow x0 4096 256 (x 0).val (x 1) := by
  have hx : (x 0).val < 262 := (x 0).isLt
  unfold padRow
  by_cases h : 3 ≤ (x 0).val ∧ (x 0).val - 3 < 256
  · rw [if_pos h]
    unfold rowOf
    rw [dif_pos (by omega)]
    pointwise [val_main_v56, val_main_v55, val_main_cst_0, val_main_v54]
    simp (disch := omega) only [dif_pos, dif_neg]
  · rw [if_neg h]
    pointwise [val_main_v56, val_main_v55, val_main_cst_0, val_main_v54]
    simp (disch := omega) only [dif_pos, dif_neg, dite_eq_ite, ite_self]

/-- The convolution of the latent rows. -/
theorem latent_conv (x0 : FVec Ideal S4352x1024 .f32) (x1 : FVec Ideal S7x1024 .f32) (x2 : FVec Ideal S1024 .f32) (p : Fin 4096) (l : Fin 1024) : (val_main_v53 (F := Ideal) x0 x1 x2 (ix2 p l) : EReal)
    = padRow x0 0 4096 (p.val + 0) l * x1 (ix2 (0 : Fin 7) l) + padRow x0 0 4096 (p.val + 1) l * x1 (ix2 (1 : Fin 7) l) + padRow x0 0 4096 (p.val + 2) l * x1 (ix2 (2 : Fin 7) l) + padRow x0 0 4096 (p.val + 3) l * x1 (ix2 (3 : Fin 7) l) + padRow x0 0 4096 (p.val + 4) l * x1 (ix2 (4 : Fin 7) l) + padRow x0 0 4096 (p.val + 5) l * x1 (ix2 (5 : Fin 7) l) + padRow x0 0 4096 (p.val + 6) l * x1 (ix2 (6 : Fin 7) l) + x2 (ix1 l) := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, latent_rows]
  simp only [Nat.add_comm _ p.val]

/-- The convolution of the context rows. -/
theorem context_conv (x0 : FVec Ideal S4352x1024 .f32) (x1 : FVec Ideal S7x1024 .f32) (x2 : FVec Ideal S1024 .f32) (p : Fin 256) (l : Fin 1024) : (val_main_v107 (F := Ideal) x0 x1 x2 (ix2 p l) : EReal)
    = padRow x0 4096 256 (p.val + 0) l * x1 (ix2 (0 : Fin 7) l) + padRow x0 4096 256 (p.val + 1) l * x1 (ix2 (1 : Fin 7) l) + padRow x0 4096 256 (p.val + 2) l * x1 (ix2 (2 : Fin 7) l) + padRow x0 4096 256 (p.val + 3) l * x1 (ix2 (3 : Fin 7) l) + padRow x0 4096 256 (p.val + 4) l * x1 (ix2 (4 : Fin 7) l) + padRow x0 4096 256 (p.val + 5) l * x1 (ix2 (5 : Fin 7) l) + padRow x0 4096 256 (p.val + 6) l * x1 (ix2 (6 : Fin 7) l) + x2 (ix1 l) := by
  pointwise [val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, context_rows]
  simp only [Nat.add_comm _ p.val]

theorem weights_0 (c : Dev nD) (l : Fin 1024) : weights m c (ix2 (0 : Fin 8) l) = (m ((c : Thread nD τ).loc main_arg1) : FVec Ideal S7x1024 .f32) (ix2 (0 : Fin 7) l) := by
  unfold weights
  pointwise []

theorem weights_1 (c : Dev nD) (l : Fin 1024) : weights m c (ix2 (1 : Fin 8) l) = (m ((c : Thread nD τ).loc main_arg1) : FVec Ideal S7x1024 .f32) (ix2 (1 : Fin 7) l) := by
  unfold weights
  pointwise []

theorem weights_2 (c : Dev nD) (l : Fin 1024) : weights m c (ix2 (2 : Fin 8) l) = (m ((c : Thread nD τ).loc main_arg1) : FVec Ideal S7x1024 .f32) (ix2 (2 : Fin 7) l) := by
  unfold weights
  pointwise []

theorem weights_3 (c : Dev nD) (l : Fin 1024) : weights m c (ix2 (3 : Fin 8) l) = (m ((c : Thread nD τ).loc main_arg1) : FVec Ideal S7x1024 .f32) (ix2 (3 : Fin 7) l) := by
  unfold weights
  pointwise []

theorem weights_4 (c : Dev nD) (l : Fin 1024) : weights m c (ix2 (4 : Fin 8) l) = (m ((c : Thread nD τ).loc main_arg1) : FVec Ideal S7x1024 .f32) (ix2 (4 : Fin 7) l) := by
  unfold weights
  pointwise []

theorem weights_5 (c : Dev nD) (l : Fin 1024) : weights m c (ix2 (5 : Fin 8) l) = (m ((c : Thread nD τ).loc main_arg1) : FVec Ideal S7x1024 .f32) (ix2 (5 : Fin 7) l) := by
  unfold weights
  pointwise []

theorem weights_6 (c : Dev nD) (l : Fin 1024) : weights m c (ix2 (6 : Fin 8) l) = (m ((c : Thread nD τ).loc main_arg1) : FVec Ideal S7x1024 .f32) (ix2 (6 : Fin 7) l) := by
  unfold weights
  pointwise []

/-- One product of the kernel at a row of the latent sequence is the reference's. -/
theorem product_latent (c : Dev nD) (t : Fin cfg0.N) (ht : t.val < 16) (q : ℕ) (hq : q < 256) (l : Fin 1024) (k : Fin 7) (k' : Fin 8) (o : ℕ) (ho : o = 5 + k.val)
    (hw : weights m c (ix2 k' l) = (m ((c : Thread nD τ).loc main_arg1) : FVec Ideal S7x1024 .f32) (ix2 k l)) :
    weights m c (ix2 k' l) * ext m c t (q + o) l = padRow (m ((c : Thread nD τ).loc main_arg0) : FVec Ideal S4352x1024 .f32) 0 4096 (t.val * 256 + q + k.val) l * (m ((c : Thread nD τ).loc main_arg1) : FVec Ideal S7x1024 .f32) (ix2 k l) := by
  have hk := k.isLt
  rw [hw, mul_comm]
  refine congrArg (fun z : EReal => z * (m ((c : Thread nD τ).loc main_arg1) : FVec Ideal S7x1024 .f32) (ix2 k l)) ?_
  unfold padRow ext
  by_cases h : 3 ≤ t.val * 256 + q + k.val ∧ t.val * 256 + q + k.val - 3 < 4096
  · rw [if_pos h, if_neg (by omega)]
    exact congrArg (fun p => ct m c p l) (by omega)
  · rw [if_neg h, if_pos (by omega)]

/-- One product of the kernel at a row of the context sequence is the reference's. -/
theorem product_context (c : Dev nD) (t : Fin cfg0.N) (ht : t.val = 16) (q : ℕ) (hq : q < 256) (l : Fin 1024) (k : Fin 7) (k' : Fin 8) (o : ℕ) (ho : o = 5 + k.val)
    (hw : weights m c (ix2 k' l) = (m ((c : Thread nD τ).loc main_arg1) : FVec Ideal S7x1024 .f32) (ix2 k l)) :
    weights m c (ix2 k' l) * ext m c t (q + o) l = padRow (m ((c : Thread nD τ).loc main_arg0) : FVec Ideal S4352x1024 .f32) 4096 256 (q + k.val) l * (m ((c : Thread nD τ).loc main_arg1) : FVec Ideal S7x1024 .f32) (ix2 k l) := by
  have hk := k.isLt
  rw [hw, mul_comm]
  refine congrArg (fun z : EReal => z * (m ((c : Thread nD τ).loc main_arg1) : FVec Ideal S7x1024 .f32) (ix2 k l)) ?_
  unfold padRow ext
  by_cases h : 3 ≤ q + k.val ∧ q + k.val - 3 < 256
  · rw [if_pos h, if_neg (by omega)]
    exact congrArg (fun p => ct m c p l) (by omega)
  · rw [if_neg h, if_pos (by omega)]

theorem reorder (z a b c d e f g : EReal) : z + a + b + c + d + e + f + g = a + b + c + d + e + f + g + z := by abel

/-- A grid point's convolution at a row of the latent sequence. -/
theorem conv_latent (c : Dev nD) (t : Fin cfg0.N) (ht : t.val < 16) (q : ℕ) (hq : q < 256) (l : Fin 1024) (p : Fin 4096) (hp : p.val = t.val * 256 + q) : conv m c t q l
    = val_main_v53 (F := Ideal) (m ((c : Thread nD τ).loc main_arg0)) (m ((c : Thread nD τ).loc main_arg1)) (m ((c : Thread nD τ).loc main_arg2)) (ix2 p l) := by
  refine Eq.trans ?_ (latent_conv _ _ _ p l).symm
  rw [hp]
  unfold conv
  exact Eq.trans (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (rfl : bias m c l = bias m c l) (product_latent m c t ht q hq l 0 0 5 rfl (weights_0 m c l))) (product_latent m c t ht q hq l 1 1 6 rfl (weights_1 m c l))) (product_latent m c t ht q hq l 2 2 7 rfl (weights_2 m c l))) (product_latent m c t ht q hq l 3 3 8 rfl (weights_3 m c l))) (product_latent m c t ht q hq l 4 4 9 rfl (weights_4 m c l))) (product_latent m c t ht q hq l 5 5 10 rfl (weights_5 m c l))) (product_latent m c t ht q hq l 6 6 11 rfl (weights_6 m c l))) (reorder _ _ _ _ _ _ _ _)

/-- A grid point's convolution at a row of the context sequence. -/
theorem conv_context (c : Dev nD) (t : Fin cfg0.N) (ht : t.val = 16) (q : ℕ) (hq : q < 256) (l : Fin 1024) (p : Fin 256) (hp : p.val = q) : conv m c t q l
    = val_main_v107 (F := Ideal) (m ((c : Thread nD τ).loc main_arg0)) (m ((c : Thread nD τ).loc main_arg1)) (m ((c : Thread nD τ).loc main_arg2)) (ix2 p l) := by
  refine Eq.trans ?_ (context_conv _ _ _ p l).symm
  rw [hp]
  unfold conv
  exact Eq.trans (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (rfl : bias m c l = bias m c l) (product_context m c t ht q hq l 0 0 5 rfl (weights_0 m c l))) (product_context m c t ht q hq l 1 1 6 rfl (weights_1 m c l))) (product_context m c t ht q hq l 2 2 7 rfl (weights_2 m c l))) (product_context m c t ht q hq l 3 3 8 rfl (weights_3 m c l))) (product_context m c t ht q hq l 4 4 9 rfl (weights_4 m c l))) (product_context m c t ht q hq l 5 5 10 rfl (weights_5 m c l))) (product_context m c t ht q hq l 6 6 11 rfl (weights_6 m c l))) (reorder _ _ _ _ _ _ _ _)

/-- A grid point's convolution is the reference's at the row. -/
theorem conv_eq (c : Dev nD) (t : Fin cfg0.N) (y : S256x1024.Idx) : conv m c t (y 0).val (y 1) = val_main_v108 (F := Ideal) (m ((c : Thread nD τ).loc main_arg0)) (m ((c : Thread nD τ).loc main_arg1)) (m ((c : Thread nD τ).loc main_arg2)) (ix2 (row t (y 0)) (y 1 : Fin 1024)) := by
  have hN : cfg0.N = 17 := N_0
  have hlt := t.isLt
  have hq : (y 0).val < 256 := (y 0).isLt
  by_cases ht : t.val < 16
  · refine (conv_latent m c t ht _ hq (y 1) ⟨(row t (y 0)).val, by show t.val * 256 + (y 0).val < 4096; omega⟩ rfl).trans ?_
    pointwise [val_main_v108]
    rw [dif_pos (show (row t (y 0)).val < 4096 by show t.val * 256 + (y 0).val < 4096; omega)]
  · refine (conv_context m c t (by omega) _ hq (y 1) ⟨(row t (y 0)).val - 4096, by show t.val * 256 + (y 0).val - 4096 < 256; omega⟩ (by show t.val * 256 + (y 0).val - 4096 = (y 0).val; omega)).trans ?_
    pointwise [val_main_v108]
    rw [dif_neg (show ¬ (row t (y 0)).val < 4096 by show ¬ t.val * 256 + (y 0).val < 4096; omega)]

/-- The exponential is never negative. -/
theorem exp_nonneg (z : EReal) : 0 ≤ Ideal.exp z := by
  induction z using EReal.rec with
  | bot => exact le_of_eq Ideal.exp_bot.symm
  | coe r => rw [Ideal.exp_coe]; exact_mod_cast (Real.exp_pos r).le
  | top => rw [Ideal.exp_top]; exact le_top

/-- The two ways of writing the sigmoid-weighted unit agree on all extended reals. -/
theorem unit_eq (z : EReal) : z * Ideal.div 1 (1 + Ideal.exp (-z)) = Ideal.div z (1 + Ideal.exp (0 - z)) := by
  rw [zero_sub, Idealize.ShloMosaic.Ideal.mul_one_div (ne_of_gt (lt_of_lt_of_le one_pos (le_add_of_nonneg_right (exp_nonneg _))))]

/-- The reference's activation is the sigmoid-weighted unit of its convolution. -/
theorem ref_act (c : Dev nD) (x : Cert.Reference18Ideal.S4352x1024.Idx) : (val_main_v109 (F := Ideal) (m ((c : Thread nD τ).loc main_arg0)) (m ((c : Thread nD τ).loc main_arg1)) (m ((c : Thread nD τ).loc main_arg2)) x : EReal)
    = Ideal.div (val_main_v108 (F := Ideal) (m ((c : Thread nD τ).loc main_arg0)) (m ((c : Thread nD τ).loc main_arg1)) (m ((c : Thread nD τ).loc main_arg2)) x) (1 + Ideal.exp (0 - val_main_v108 (F := Ideal) (m ((c : Thread nD τ).loc main_arg0)) (m ((c : Thread nD τ).loc main_arg1)) (m ((c : Thread nD τ).loc main_arg2)) x)) := by
  refine Eq.trans ?_ (unit_eq _)
  pointwise [val_main_call0_v0, val_main_call0_v1, val_main_call0_cst, val_main_call0_v2, val_main_call0_v3, val_main_call0_cst_0, val_main_call0_v4, val_main_call0_v5, val_main_v109]

/-- What a grid point stores is the reference's convolution where it lands. -/
theorem point_pre (c : Dev nD) (t : Fin cfg0.N) (y : S256x1024.Idx) : (outsAt0 m c t).1 y = val_main_v108 (F := Ideal) (m ((c : Thread nD τ).loc main_arg0)) (m ((c : Thread nD τ).loc main_arg1)) (m ((c : Thread nD τ).loc main_arg2)) ((win0_14.blk t).view.emb y) := by
  rw [lands]
  exact (stored_pre m c t y).trans (conv_eq m c t y)

/-- What a grid point stores is the reference's activation where it lands. -/
theorem point_act (c : Dev nD) (t : Fin cfg0.N) (y : S256x1024.Idx) : (outsAt0 m c t).2 y = val_main_v109 (F := Ideal) (m ((c : Thread nD τ).loc main_arg0)) (m ((c : Thread nD τ).loc main_arg1)) (m ((c : Thread nD τ).loc main_arg2)) ((win0_15.blk t).view.emb y) := by
  rw [lands_act]
  exact ((stored_act m c t y).trans (congrArg (fun z : EReal => Ideal.div z (1 + Ideal.exp (0 - z))) (conv_eq m c t y))).trans (ref_act m c _).symm

/-- The kernel's whole result. -/
theorem final_pre (c : Dev nD) : (dats m 0 c).arrAt 14 cfg0.N = val_main_v108 (F := Ideal) (m ((c : Thread nD τ).loc main_arg0)) (m ((c : Thread nD τ).loc main_arg1)) (m ((c : Thread nD τ).loc main_arg2)) := by
  refine (dats m 0 c).arrAt_eq_of_covers 14 _ (by decide +kernel) fun t _ y => ?_
  blk_simp
  rw [after0_14]
  exact point_pre m c t y

/-- The kernel's whole result. -/
theorem final_act (c : Dev nD) : (dats m 0 c).arrAt 15 cfg0.N = val_main_v109 (F := Ideal) (m ((c : Thread nD τ).loc main_arg0)) (m ((c : Thread nD τ).loc main_arg1)) (m ((c : Thread nD τ).loc main_arg2)) := by
  refine (dats m 0 c).arrAt_eq_of_covers 15 _ (by decide +kernel) fun t _ y => ?_
  blk_simp
  rw [after0_15]
  exact point_act m c t y

end Cert.Kernel18Ideal.ConvFwd

namespace Cert.Proof

open Idealize.ShloMosaic Idealize.SL.Sem

/-- From equal arguments the kernel and the reference end with equal results. -/
theorem algebraic_conv_fwd : Cert.algebraic_Kernel18Ideal_Reference18Ideal (hKernel18Ideal := Cert.Kernel18Ideal.Gen.facts)
    (hReference18Ideal := Cert.Reference18Ideal.Gen.facts) := by
  intro m g m' g' _ hargs
  refine ⟨_, _, Cert.Kernel18Ideal.Value.run_blocks (F := Ideal) m g, ?_⟩
  refine (θ_run (Cert.Reference18Ideal.defs (F := Ideal)) _ _).mono (fun r h c => ?_) (Cert.Reference18Ideal.Value.run (F := Ideal) m' g')
  refine ⟨(h c).1.trans ?_, (h c).2.1.trans ?_, (h c).2.2⟩
  · rw [Cert.Kernel18Ideal.ConvFwd.final_pre]
    refine (val_main_v108_eq m' c).trans ?_
    rw [(hargs c).1, (hargs c).2.1, (hargs c).2.2]
  · rw [Cert.Kernel18Ideal.ConvFwd.final_act]
    refine (val_main_v109_eq m' c).trans ?_
    rw [(hargs c).1, (hargs c).2.1, (hargs c).2.2]

end Cert.Proof

end
-- ==== Proof.NormFwd.lean ====
/- The residual connection and the norm behind it: the kernel's row blocks are the gated sum of the stream and the branch, and its scaled and shifted root-mean-square norm. -/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Kernel19Ideal.NormFwd

open Cert.Kernel19Ideal Cert.Kernel19Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val, 0] ∧ win0_1.index t = ![t.val, 0] ∧ win0_2.index t = ![t.val / 16, 0, 0] ∧ win0_3.index t = ![0, 0] ∧ win0_4.index t = ![t.val, 0] ∧ win0_5.index t = ![t.val, 0] :=
  (by decide +kernel : ∀ t : Fin grid0.N, _)

/-- The row of the whole arrays that a row of grid point `t`'s block is. -/
def row (t : Fin cfg0.N) (r : Fin 256) : Fin 4352 :=
  ⟨t.val * 256 + r.val, by have := t.isLt; have : cfg0.N = 17 := N_0; omega⟩

/-- Which of the two sets of modulation vectors a row takes: the image's rows the first, the context's the second. -/
def sideOf (p : Fin 4352) : Fin 2 := ⟨p.val / 4096, by omega⟩

/-- The rows of the stream that a grid point reads. -/
theorem stream_block (c : Dev nD) (t : Fin cfg0.N) (x : S256x1024.Idx) :
    iblk m c 0 t x = (m ((c : Thread nD τ).loc main_arg0) : FVec Ideal S4352x1024 .f32) (ix2 (row t (x 0)) (x 1 : Fin 1024)) := by
  have hv : V m c main_arg0 = (m ((c : Thread nD τ).loc main_arg0) : FVec Ideal S4352x1024 .f32) := by
    unfold V; after_reads_simp
  rw [← hv]
  blk_ext [iblk, idx t, row]

/-- The rows of the branch's output that a grid point reads. -/
theorem branch_block (c : Dev nD) (t : Fin cfg0.N) (x : S256x1024.Idx) :
    iblk m c 1 t x = (m ((c : Thread nD τ).loc main_arg1) : FVec Ideal S4352x1024 .f32) (ix2 (row t (x 0)) (x 1 : Fin 1024)) := by
  have hv : V m c main_arg1 = (m ((c : Thread nD τ).loc main_arg1) : FVec Ideal S4352x1024 .f32) := by
    unfold V; after_reads_simp
  rw [← hv]
  blk_ext [iblk, idx t, row]

/-- The modulation vectors, padded to eight rows. -/
def padded (c : Dev nD) : FVec Ideal S2x8x1024 .f32 :=
  concatenate S2x8x1024 1 [⟨S2x3x1024, (m ((c : Thread nD τ).loc main_arg2) : FVec Ideal S2x3x1024 .f32)⟩, ⟨S2x5x1024, broadcastInDim S2x5x1024 ![] bcast_S_S2x5x1024 (constant S_ .f32 0x00000000#32 : FVec Ideal S_ .f32)⟩]
    concatenates_S2x3x1024_S2x5x1024_S2x8x1024_d1

theorem V_padded (c : Dev nD) : V m c main_v1 = padded m c := by
  unfold V; after_reads_simp; rfl

/-- The set of modulation vectors that grid point `t` takes. -/
def sideAt (t : Fin cfg0.N) : Fin 2 := ⟨t.val / 16, by have := t.isLt; have : cfg0.N = 17 := N_0; omega⟩

theorem side_row (t : Fin cfg0.N) (r : Fin 256) : sideOf (row t r) = sideAt t :=
  Fin.ext (by show (t.val * 256 + r.val) / 4096 = t.val / 16; omega)

/-- The modulation vectors that a grid point reads. -/
theorem mods_block (c : Dev nD) (t : Fin cfg0.N) (x : S1x8x1024.Idx) :
    iblk m c 2 t x = padded m c (ix3 (sideAt t) (x 1 : Fin 8) (x 2 : Fin 1024)) := by
  rw [← V_padded m c]
  blk_ext [iblk, idx t, sideAt]

theorem V_norm (c : Dev nD) : V m c main_v2 = broadcastInDim S1x1024 ![1] bcast_S1024_S1x1024_1 (m ((c : Thread nD τ).loc main_arg3) : FVec Ideal S1024 .f32) := by
  unfold V; after_reads_simp

/-- The norm's weights. -/
theorem norm_block (c : Dev nD) (t : Fin cfg0.N) (x : S1x1024.Idx) :
    iblk m c 3 t x = (m ((c : Thread nD τ).loc main_arg3) : FVec Ideal S1024 .f32) (ix1 (x 1 : Fin 1024)) := by
  have h1 : iblk m c 3 t x = V m c main_v2 (ix2 (0 : Fin 1) (x 1 : Fin 1024)) := by
    blk_ext [iblk, idx t]
  refine h1.trans ?_
  rw [V_norm m c]
  pointwise []

/-- The stream after the branch's output is added. -/
def after (c : Dev nD) (p : Fin 4352) (j : Fin 1024) : EReal :=
  FloatOps.addf (F := Ideal) (φ := .f32) ((m ((c : Thread nD τ).loc main_arg0) : FVec Ideal S4352x1024 .f32) (ix2 p j)) (FloatOps.mulf ((m ((c : Thread nD τ).loc main_arg2) : FVec Ideal S2x3x1024 .f32) (ix3 (sideOf p) (0 : Fin 3) j)) ((m ((c : Thread nD τ).loc main_arg1) : FVec Ideal S4352x1024 .f32) (ix2 p j)))

/-- The stream that the kernel computes. -/
theorem kernel_after (c : Dev nD) (t : Fin cfg0.N) (x : S256x1024.Idx) :
    k0_pay2 (F := Ideal) (iblk m c 0 t) (View.ld (Val := Elt Ideal) (S := S1x8x1024) (e' := .f32) (iblk m c 2 t) r0_1) (iblk m c 1 t) x = after m c (row t (x 0)) (x 1) := by
  pointwise [k0_pay2, stream_block, branch_block, mods_block, padded, after, side_row]

/-- A row of the image takes the first set of modulation vectors. -/
theorem side_image (r : Fin 4096) : sideOf ⟨r.val, by omega⟩ = 0 := Fin.ext (by show r.val / 4096 = 0; omega)

/-- A row of the context takes the second set of modulation vectors. -/
theorem side_context (r : Fin 256) : sideOf ⟨4096 + r.val, by omega⟩ = 1 := Fin.ext (by show (4096 + r.val) / 4096 = 1; omega)

/-- The image's rows of the stream that the reference computes. -/
theorem image_after (c : Dev nD) (x : Cert.Reference19Ideal.S4096x1024.Idx) :
    Cert.Reference19Ideal.Read.val_main_v11 (F := Ideal) (m ((c : Thread nD τ).loc main_arg0)) (m ((c : Thread nD τ).loc main_arg1)) (m ((c : Thread nD τ).loc main_arg2)) x = after m c ⟨(x 0).val, by have : (x 0).val < 4096 := (x 0).isLt; omega⟩ (x 1) := by
  unfold after
  rw [side_image (x 0)]
  pointwise [Cert.Reference19Ideal.Read.val_main_v0, Cert.Reference19Ideal.Read.val_main_v1, Cert.Reference19Ideal.Read.val_main_v2, Cert.Reference19Ideal.Read.val_main_v3, Cert.Reference19Ideal.Read.val_main_v4, Cert.Reference19Ideal.Read.val_main_v5, Cert.Reference19Ideal.Read.val_main_v6, Cert.Reference19Ideal.Read.val_main_v7, Cert.Reference19Ideal.Read.val_main_v8, Cert.Reference19Ideal.Read.val_main_v9, Cert.Reference19Ideal.Read.val_main_v10, Cert.Reference19Ideal.Read.val_main_v11]

/-- The context's rows of the stream that the reference computes. -/
theorem context_after (c : Dev nD) (x : S256x1024.Idx) :
    Cert.Reference19Ideal.Read.val_main_v44 (F := Ideal) (m ((c : Thread nD τ).loc main_arg0)) (m ((c : Thread nD τ).loc main_arg1)) (m ((c : Thread nD τ).loc main_arg2)) x = after m c ⟨4096 + (x 0).val, by have : (x 0).val < 256 := (x 0).isLt; omega⟩ (x 1) := by
  unfold after
  rw [side_context (x 0)]
  pointwise [Cert.Reference19Ideal.Read.val_main_v33, Cert.Reference19Ideal.Read.val_main_v34, Cert.Reference19Ideal.Read.val_main_v35, Cert.Reference19Ideal.Read.val_main_v36, Cert.Reference19Ideal.Read.val_main_v37, Cert.Reference19Ideal.Read.val_main_v38, Cert.Reference19Ideal.Read.val_main_v39, Cert.Reference19Ideal.Read.val_main_v40, Cert.Reference19Ideal.Read.val_main_v41, Cert.Reference19Ideal.Read.val_main_v42, Cert.Reference19Ideal.Read.val_main_v43, Cert.Reference19Ideal.Read.val_main_v44]

/-- Where an element of a stored block of the stream lands. -/
theorem lands4 (t : Fin cfg0.N) (y : S256x1024.Idx) :
    (win0_4.blk t).view.emb y = ix2 (row t (y 0)) (y 1 : Fin 1024) := by
  blk_ext [idx t, row]

/-- Where an element of a stored block of the norm lands. -/
theorem lands5 (t : Fin cfg0.N) (y : S256x1024.Idx) :
    (win0_5.blk t).view.emb y = ix2 (row t (y 0)) (y 1 : Fin 1024) := by
  blk_ext [idx t, row]

/-- The reference's stream. -/
theorem ref_after (c : Dev nD) (p : Fin 4352) (j : Fin 1024) :
    Cert.Reference19Ideal.Read.val_main_v66 (F := Ideal) (m ((c : Thread nD τ).loc main_arg0)) (m ((c : Thread nD τ).loc main_arg1)) (m ((c : Thread nD τ).loc main_arg2)) (ix2 p j) = after m c p j := by
  by_cases hp : p.val < 4096
  · pointwise [Cert.Reference19Ideal.Read.val_main_v66, image_after m c, context_after m c]
    rw [dif_pos hp]
  · pointwise [Cert.Reference19Ideal.Read.val_main_v66, image_after m c, context_after m c]
    rw [dif_neg hp]
    exact congrArg (fun q => after m c q j) (Fin.ext (by show 4096 + (p.val - 4096) = p.val; omega))

/-- The stored block of the stream, element by element. -/
theorem stored4 (c : Dev nD) (t : Fin cfg0.N) (y : S256x1024.Idx) :
    k0_pay3 (F := Ideal) (iblk m c 0 t) (View.ld (Val := Elt Ideal) (S := S1x8x1024) (e' := .f32) (iblk m c 2 t) r0_1) (iblk m c 1 t) y = Cert.Reference19Ideal.Read.val_main_v66 (F := Ideal) (m ((c : Thread nD τ).loc main_arg0)) (m ((c : Thread nD τ).loc main_arg1)) (m ((c : Thread nD τ).loc main_arg2)) (ix2 (row t (y 0)) (y 1 : Fin 1024)) := by
  refine Eq.trans ?_ (ref_after m c _ _).symm
  pointwise [k0_pay3, kernel_after]

/-- The norm of a row of the image, as the kernel computes it. -/
theorem norm_image (c : Dev nD) (t : Fin cfg0.N) (y : S256x1024.Idx) (h : (row t (y 0)).val < 4096) :
    k0_pay4 (F := Ideal) (iblk m c 0 t) (View.ld (Val := Elt Ideal) (S := S1x8x1024) (e' := .f32) (iblk m c 2 t) r0_1) (iblk m c 1 t) (View.ld (Val := Elt Ideal) (S := S1x8x1024) (e' := .f32) (iblk m c 2 t) r0_2) (View.ld (Val := Elt Ideal) (S := S1x8x1024) (e' := .f32) (iblk m c 2 t) r0_3) (iblk m c 3 t) y
      = Cert.Reference19Ideal.Read.val_main_v32 (F := Ideal) (m ((c : Thread nD τ).loc main_arg0)) (m ((c : Thread nD τ).loc main_arg1)) (m ((c : Thread nD τ).loc main_arg2)) (m ((c : Thread nD τ).loc main_arg3)) (ix2 (⟨(row t (y 0)).val, h⟩ : Fin 4096) (y 1 : Fin 1024)) := by
  have hs : sideAt t = 0 := (side_row t (y 0)).symm.trans (Fin.ext (by show (row t (y 0)).val / 4096 = 0; omega))
  pointwise [k0_pay4, kernel_after, mods_block, padded, norm_block, Cert.Reference19Ideal.Read.val_main_v12, Cert.Reference19Ideal.Read.val_main_cst, Cert.Reference19Ideal.Read.val_main_v13, Cert.Reference19Ideal.Read.val_main_v14, Cert.Reference19Ideal.Read.val_main_cst_0, Cert.Reference19Ideal.Read.val_main_v15, Cert.Reference19Ideal.Read.val_main_v16, Cert.Reference19Ideal.Read.val_main_cst_1, Cert.Reference19Ideal.Read.val_main_v17, Cert.Reference19Ideal.Read.val_main_v18, Cert.Reference19Ideal.Read.val_main_v19, Cert.Reference19Ideal.Read.val_main_v20, Cert.Reference19Ideal.Read.val_main_v21, Cert.Reference19Ideal.Read.val_main_v22, Cert.Reference19Ideal.Read.val_main_v23, Cert.Reference19Ideal.Read.val_main_v24, Cert.Reference19Ideal.Read.val_main_cst_2, Cert.Reference19Ideal.Read.val_main_v25, Cert.Reference19Ideal.Read.val_main_v26, Cert.Reference19Ideal.Read.val_main_v27, Cert.Reference19Ideal.Read.val_main_v28, Cert.Reference19Ideal.Read.val_main_v29, Cert.Reference19Ideal.Read.val_main_v30, Cert.Reference19Ideal.Read.val_main_v31, Cert.Reference19Ideal.Read.val_main_v32, Cert.Reference19Ideal.Read.val_main_v4, Cert.Reference19Ideal.Read.val_main_v5, Cert.Reference19Ideal.Read.val_main_v6, Cert.Reference19Ideal.Read.val_main_v7, image_after m c, hs]

/-- The norm of a row of the context, as the kernel computes it. -/
theorem norm_context (c : Dev nD) (t : Fin cfg0.N) (y : S256x1024.Idx) (h : 4096 ≤ (row t (y 0)).val) (q : Fin 256) (hq : row t (y 0) = ⟨4096 + q.val, by omega⟩) :
    k0_pay4 (F := Ideal) (iblk m c 0 t) (View.ld (Val := Elt Ideal) (S := S1x8x1024) (e' := .f32) (iblk m c 2 t) r0_1) (iblk m c 1 t) (View.ld (Val := Elt Ideal) (S := S1x8x1024) (e' := .f32) (iblk m c 2 t) r0_2) (View.ld (Val := Elt Ideal) (S := S1x8x1024) (e' := .f32) (iblk m c 2 t) r0_3) (iblk m c 3 t) y
      = Cert.Reference19Ideal.Read.val_main_v65 (F := Ideal) (m ((c : Thread nD τ).loc main_arg0)) (m ((c : Thread nD τ).loc main_arg1)) (m ((c : Thread nD τ).loc main_arg2)) (m ((c : Thread nD τ).loc main_arg3)) (ix2 q (y 1 : Fin 1024)) := by
  have hs : sideAt t = 1 := (side_row t (y 0)).symm.trans ((congrArg sideOf hq).trans (side_context q))
  pointwise [k0_pay4, kernel_after, mods_block, padded, norm_block, Cert.Reference19Ideal.Read.val_main_v45, Cert.Reference19Ideal.Read.val_main_cst_3, Cert.Reference19Ideal.Read.val_main_v46, Cert.Reference19Ideal.Read.val_main_v47, Cert.Reference19Ideal.Read.val_main_cst_4, Cert.Reference19Ideal.Read.val_main_v48, Cert.Reference19Ideal.Read.val_main_v49, Cert.Reference19Ideal.Read.val_main_cst_5, Cert.Reference19Ideal.Read.val_main_v50, Cert.Reference19Ideal.Read.val_main_v51, Cert.Reference19Ideal.Read.val_main_v52, Cert.Reference19Ideal.Read.val_main_v53, Cert.Reference19Ideal.Read.val_main_v54, Cert.Reference19Ideal.Read.val_main_v55, Cert.Reference19Ideal.Read.val_main_v56, Cert.Reference19Ideal.Read.val_main_v57, Cert.Reference19Ideal.Read.val_main_cst_6, Cert.Reference19Ideal.Read.val_main_v58, Cert.Reference19Ideal.Read.val_main_v59, Cert.Reference19Ideal.Read.val_main_v60, Cert.Reference19Ideal.Read.val_main_v61, Cert.Reference19Ideal.Read.val_main_v62, Cert.Reference19Ideal.Read.val_main_v63, Cert.Reference19Ideal.Read.val_main_v64, Cert.Reference19Ideal.Read.val_main_v65, Cert.Reference19Ideal.Read.val_main_v37, Cert.Reference19Ideal.Read.val_main_v38, Cert.Reference19Ideal.Read.val_main_v39, Cert.Reference19Ideal.Read.val_main_v40, context_after m c, hs, hq]

/-- The stored block of the norm, element by element. -/
theorem stored5 (c : Dev nD) (t : Fin cfg0.N) (y : S256x1024.Idx) :
    k0_pay1 (F := Ideal) (k0_pay4 (F := Ideal) (iblk m c 0 t) (View.ld (Val := Elt Ideal) (S := S1x8x1024) (e' := .f32) (iblk m c 2 t) r0_1) (iblk m c 1 t) (View.ld (Val := Elt Ideal) (S := S1x8x1024) (e' := .f32) (iblk m c 2 t) r0_2) (View.ld (Val := Elt Ideal) (S := S1x8x1024) (e' := .f32) (iblk m c 2 t) r0_3) (iblk m c 3 t)) y
      = Cert.Reference19Ideal.Read.val_main_v68 (F := Ideal) (m ((c : Thread nD τ).loc main_arg0)) (m ((c : Thread nD τ).loc main_arg1)) (m ((c : Thread nD τ).loc main_arg2)) (m ((c : Thread nD τ).loc main_arg3)) (ix2 (row t (y 0)) (y 1 : Fin 1024)) := by
  have hl : (row t (y 0)).val < 4352 := (row t (y 0)).isLt
  by_cases hp : (row t (y 0)).val < 4096
  · refine Eq.trans ?_ ((norm_image m c t y hp).trans ?_)
    · pointwise [k0_pay1]
    · pointwise [Cert.Reference19Ideal.Read.val_main_v68, Cert.Reference19Ideal.Read.val_main_v67]
      rw [dif_pos hp]
  · refine Eq.trans ?_ ((norm_context m c t y (by omega) ⟨(row t (y 0)).val - 4096, by omega⟩ (Fin.ext (by show _ = 4096 + (_ - 4096); omega))).trans ?_)
    · pointwise [k0_pay1]
    · pointwise [Cert.Reference19Ideal.Read.val_main_v68, Cert.Reference19Ideal.Read.val_main_v67]
      rw [dif_neg hp]

theorem point4 (c : Dev nD) (t : Fin cfg0.N) (y : S256x1024.Idx) :
    out0_4 (iblk m c 0 t) (iblk m c 1 t) (iblk m c 2 t) (iblk m c 3 t) y = Cert.Reference19Ideal.Read.val_main_v66 (F := Ideal) (m ((c : Thread nD τ).loc main_arg0)) (m ((c : Thread nD τ).loc main_arg1)) (m ((c : Thread nD τ).loc main_arg2)) ((win0_4.blk t).view.emb y) := by
  rw [lands4 t y]
  frame_out
  exact stored4 m c t y

/-- The kernel's result 0 is the reference's. -/
theorem final4 (c : Dev nD) : (dats m 0 c).arrAt 4 cfg0.N = Cert.Reference19Ideal.Read.val_main_v66 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point4 m c t y

theorem point5 (c : Dev nD) (t : Fin cfg0.N) (y : S256x1024.Idx) :
    out0_5 (iblk m c 0 t) (iblk m c 1 t) (iblk m c 2 t) (iblk m c 3 t) y = Cert.Reference19Ideal.Read.val_main_v68 (F := Ideal) (m ((c : Thread nD τ).loc main_arg0)) (m ((c : Thread nD τ).loc main_arg1)) (m ((c : Thread nD τ).loc main_arg2)) (m ((c : Thread nD τ).loc main_arg3)) ((win0_5.blk t).view.emb y) := by
  rw [lands5 t y]
  frame_out
  exact stored5 m c t y

/-- The kernel's result 1 is the reference's. -/
theorem final5 (c : Dev nD) : (dats m 0 c).arrAt 5 cfg0.N = Cert.Reference19Ideal.Read.val_main_v68 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact point5 m c t y

end Cert.Kernel19Ideal.NormFwd

namespace Cert.Proof

open Idealize.ShloMosaic Idealize.SL.Sem

/-- From equal arguments the kernel and the reference end with equal results. -/
theorem algebraic_norm_fwd : Cert.algebraic_Kernel19Ideal_Reference19Ideal (hKernel19Ideal := Cert.Kernel19Ideal.Gen.facts)
    (hReference19Ideal := Cert.Reference19Ideal.Gen.facts) := by
  intro m g m' g' _ hargs
  refine ⟨_, _, Cert.Kernel19Ideal.Value.run_blocks (F := Ideal) m g, ?_⟩
  refine (θ_run (Cert.Reference19Ideal.defs (F := Ideal)) _ _).mono (fun r h c => ?_) (Cert.Reference19Ideal.Value.run (F := Ideal) m' g')
  refine ⟨(h c).1.trans ?_, (h c).2.1.trans ?_, (h c).2.2⟩
  · rw [Cert.Kernel19Ideal.NormFwd.final4]
    refine (Cert.Reference19Ideal.Read.val_main_v66_eq _ _ _).trans ?_
    rw [(hargs c).1, (hargs c).2.1, (hargs c).2.2.1]
  · rw [Cert.Kernel19Ideal.NormFwd.final5]
    refine (Cert.Reference19Ideal.Read.val_main_v68_eq m' c).trans ?_
    rw [(hargs c).1, (hargs c).2.1, (hargs c).2.2.1, (hargs c).2.2.2]

end Cert.Proof

end
-- ==== Proof.AdamIn.lean ====
/- The optimiser's step for the input projection's weight: the kernel's row blocks are the new moments and the update of the weight. -/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Cert.Reference20Ideal.Read

namespace Cert.Kernel20Ideal.AdamIn

open Cert.Kernel20Ideal Cert.Kernel20Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val / 2, t.val % 2, 0] ∧ win0_1.index t = ![t.val / 2, t.val % 2, 0] ∧ win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] :=
  (by decide +kernel : ∀ t : Fin grid0.N, _)

/-- The layer of grid point `t`'s block. -/
def layer (t : Fin cfg0.N) : Fin 2 :=
  ⟨t.val / 2, by have := t.isLt; have : cfg0.N = 4 := N_0; omega⟩

/-- The row of the whole arrays that a row of grid point `t`'s block is. -/
def row (t : Fin cfg0.N) (r : Fin 512) : Fin 1024 :=
  ⟨t.val % 2 * 512 + r.val, by omega⟩

/-- The rows of the weight that a grid point reads. -/
theorem block_0 (c : Dev nD) (t : Fin cfg0.N) (x : S1x512x708.Idx) :
    iblk m c 0 t x = (m ((c : Thread nD τ).loc main_arg0) : FVec Ideal S2x1024x708 .f32) (ix3 (layer t) (row t (x 1)) (x 2 : Fin 708)) := by
  have hv : V m c main_arg0 = (m ((c : Thread nD τ).loc main_arg0) : FVec Ideal S2x1024x708 .f32) := by
    unfold V; after_reads_simp
  rw [← hv]
  blk_ext [iblk, idx t, layer, row]

/-- The rows of the gradient that a grid point reads. -/
theorem block_1 (c : Dev nD) (t : Fin cfg0.N) (x : S1x512x708.Idx) :
    iblk m c 1 t x = (m ((c : Thread nD τ).loc main_arg1) : FVec Ideal S2x1024x708 .f32) (ix3 (layer t) (row t (x 1)) (x 2 : Fin 708)) := by
  have hv : V m c main_arg1 = (m ((c : Thread nD τ).loc main_arg1) : FVec Ideal S2x1024x708 .f32) := by
    unfold V; after_reads_simp
  rw [← hv]
  blk_ext [iblk, idx t, layer, row]

/-- The rows of the first moment that a grid point reads. -/
theorem block_2 (c : Dev nD) (t : Fin cfg0.N) (x : S1x512x708.Idx) :
    iblk m c 2 t x = (m ((c : Thread nD τ).loc main_arg2) : FVec Ideal S2x1024x708 .f32) (ix3 (layer t) (row t (x 1)) (x 2 : Fin 708)) := by
  have hv : V m c main_arg2 = (m ((c : Thread nD τ).loc main_arg2) : FVec Ideal S2x1024x708 .f32) := by
    unfold V; after_reads_simp
  rw [← hv]
  blk_ext [iblk, idx t, layer, row]

/-- The rows of the second moment that a grid point reads. -/
theorem block_3 (c : Dev nD) (t : Fin cfg0.N) (x : S1x512x708.Idx) :
    iblk m c 3 t x = (m ((c : Thread nD τ).loc main_arg3) : FVec Ideal S2x1024x708 .f32) (ix3 (layer t) (row t (x 1)) (x 2 : Fin 708)) := by
  have hv : V m c main_arg3 = (m ((c : Thread nD τ).loc main_arg3) : FVec Ideal S2x1024x708 .f32) := by
    unfold V; after_reads_simp
  rw [← hv]
  blk_ext [iblk, idx t, layer, row]

theorem lands_4 (t : Fin cfg0.N) (y : S1x512x708.Idx) : (win0_4.blk t).view.emb y = ix3 (layer t) (row t (y 1)) (y 2 : Fin 708) := by
  blk_ext [idx t, layer, row]

/-- The stored block of the update, element by element. -/
theorem stored_4 (c : Dev nD) (t : Fin cfg0.N) (y : S1x512x708.Idx) :
    out0_4 (iblk m c 0 t) (iblk m c 1 t) (iblk m c 2 t) (iblk m c 3 t) y = val_main_v23 (F := Ideal) (m ((c : Thread nD τ).loc main_arg0)) (m ((c : Thread nD τ).loc main_arg1)) (m ((c : Thread nD τ).loc main_arg2)) (m ((c : Thread nD τ).loc main_arg3)) (ix3 (layer t) (row t (y 1)) (y 2 : Fin 708)) := by
  frame_out
  pointwise [k0_pay1, k0_pay2, k0_pay3, k0_pay4, k0_pay5, block_0, block_1, block_2, block_3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The kernel's array of the update is the reference's. -/
theorem final_4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, lands_4 t y]
  exact stored_4 m c t y

theorem lands_5 (t : Fin cfg0.N) (y : S1x512x708.Idx) : (win0_5.blk t).view.emb y = ix3 (layer t) (row t (y 1)) (y 2 : Fin 708) := by
  blk_ext [idx t, layer, row]

/-- The stored block of the first moment, element by element. -/
theorem stored_5 (c : Dev nD) (t : Fin cfg0.N) (y : S1x512x708.Idx) :
    out0_5 (iblk m c 0 t) (iblk m c 1 t) (iblk m c 2 t) (iblk m c 3 t) y = val_main_v4 (F := Ideal) (m ((c : Thread nD τ).loc main_arg1)) (m ((c : Thread nD τ).loc main_arg2)) (ix3 (layer t) (row t (y 1)) (y 2 : Fin 708)) := by
  frame_out
  pointwise [k0_pay1, k0_pay2, k0_pay3, k0_pay4, k0_pay5, block_0, block_1, block_2, block_3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The kernel's array of the first moment is the reference's. -/
theorem final_5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5, lands_5 t y]
  exact stored_5 m c t y

theorem lands_6 (t : Fin cfg0.N) (y : S1x512x708.Idx) : (win0_6.blk t).view.emb y = ix3 (layer t) (row t (y 1)) (y 2 : Fin 708) := by
  blk_ext [idx t, layer, row]

/-- The stored block of the second moment, element by element. -/
theorem stored_6 (c : Dev nD) (t : Fin cfg0.N) (y : S1x512x708.Idx) :
    out0_6 (iblk m c 0 t) (iblk m c 1 t) (iblk m c 2 t) (iblk m c 3 t) y = val_main_v10 (F := Ideal) (m ((c : Thread nD τ).loc main_arg1)) (m ((c : Thread nD τ).loc main_arg3)) (ix3 (layer t) (row t (y 1)) (y 2 : Fin 708)) := by
  frame_out
  pointwise [k0_pay1, k0_pay2, k0_pay3, k0_pay4, k0_pay5, block_0, block_1, block_2, block_3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The kernel's array of the second moment is the reference's. -/
theorem final_6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6, lands_6 t y]
  exact stored_6 m c t y

end Cert.Kernel20Ideal.AdamIn

namespace Cert.Proof

open Idealize.ShloMosaic Idealize.SL.Sem

/-- From equal arguments the kernel and the reference end with equal results: the update of the input projection's weight and its two moments. -/
theorem algebraic_adamIn : Cert.algebraic_Kernel20Ideal_Reference20Ideal (hKernel20Ideal := Cert.Kernel20Ideal.Gen.facts)
    (hReference20Ideal := Cert.Reference20Ideal.Gen.facts) := by
  intro m g m' g' _ hargs
  refine ⟨_, _, _, Cert.Kernel20Ideal.Value.run_blocks (F := Ideal) m g, ?_⟩
  refine (θ_run (Cert.Reference20Ideal.defs (F := Ideal)) _ _).mono (fun r h c => ?_) (Cert.Reference20Ideal.Value.run (F := Ideal) m' g')
  refine ⟨(h c).1.trans ?_, (h c).2.1.trans ?_, (h c).2.2.1.trans ?_, (h c).2.2.2⟩
  · rw [Cert.Kernel20Ideal.AdamIn.final_4]
    refine (val_main_v23_eq _ _ _ _).trans ?_
    rw [(hargs c).1, (hargs c).2.1, (hargs c).2.2.1, (hargs c).2.2.2]
  · rw [Cert.Kernel20Ideal.AdamIn.final_5]
    refine (val_main_v4_eq _ _).trans ?_
    rw [(hargs c).2.1, (hargs c).2.2.1]
  · rw [Cert.Kernel20Ideal.AdamIn.final_6]
    refine (val_main_v10_eq _ _).trans ?_
    rw [(hargs c).2.1, (hargs c).2.2.2]

end Cert.Proof

end
-- ==== Proof.AdamUp.lean ====
/- The optimiser's step for the first feed-forward weight: the kernel's row blocks are the new moments and the update of the weight. -/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Cert.Reference21Ideal.Read

namespace Cert.Kernel21Ideal.AdamUp

open Cert.Kernel21Ideal Cert.Kernel21Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] :=
  (by decide +kernel : ∀ t : Fin grid0.N, _)

/-- The layer of grid point `t`'s block. -/
def layer (t : Fin cfg0.N) : Fin 2 :=
  ⟨t.val / 4, by have := t.isLt; have : cfg0.N = 8 := N_0; omega⟩

/-- The row of the whole arrays that a row of grid point `t`'s block is. -/
def row (t : Fin cfg0.N) (r : Fin 256) : Fin 1024 :=
  ⟨t.val % 4 * 256 + r.val, by omega⟩

/-- The rows of the weight that a grid point reads. -/
theorem block_0 (c : Dev nD) (t : Fin cfg0.N) (x : S1x256x1408.Idx) :
    iblk m c 0 t x = (m ((c : Thread nD τ).loc main_arg0) : FVec Ideal S2x1024x1408 .f32) (ix3 (layer t) (row t (x 1)) (x 2 : Fin 1408)) := by
  have hv : V m c main_arg0 = (m ((c : Thread nD τ).loc main_arg0) : FVec Ideal S2x1024x1408 .f32) := by
    unfold V; after_reads_simp
  rw [← hv]
  blk_ext [iblk, idx t, layer, row]

/-- The rows of the gradient that a grid point reads. -/
theorem block_1 (c : Dev nD) (t : Fin cfg0.N) (x : S1x256x1408.Idx) :
    iblk m c 1 t x = (m ((c : Thread nD τ).loc main_arg1) : FVec Ideal S2x1024x1408 .f32) (ix3 (layer t) (row t (x 1)) (x 2 : Fin 1408)) := by
  have hv : V m c main_arg1 = (m ((c : Thread nD τ).loc main_arg1) : FVec Ideal S2x1024x1408 .f32) := by
    unfold V; after_reads_simp
  rw [← hv]
  blk_ext [iblk, idx t, layer, row]

/-- The rows of the first moment that a grid point reads. -/
theorem block_2 (c : Dev nD) (t : Fin cfg0.N) (x : S1x256x1408.Idx) :
    iblk m c 2 t x = (m ((c : Thread nD τ).loc main_arg2) : FVec Ideal S2x1024x1408 .f32) (ix3 (layer t) (row t (x 1)) (x 2 : Fin 1408)) := by
  have hv : V m c main_arg2 = (m ((c : Thread nD τ).loc main_arg2) : FVec Ideal S2x1024x1408 .f32) := by
    unfold V; after_reads_simp
  rw [← hv]
  blk_ext [iblk, idx t, layer, row]

/-- The rows of the second moment that a grid point reads. -/
theorem block_3 (c : Dev nD) (t : Fin cfg0.N) (x : S1x256x1408.Idx) :
    iblk m c 3 t x = (m ((c : Thread nD τ).loc main_arg3) : FVec Ideal S2x1024x1408 .f32) (ix3 (layer t) (row t (x 1)) (x 2 : Fin 1408)) := by
  have hv : V m c main_arg3 = (m ((c : Thread nD τ).loc main_arg3) : FVec Ideal S2x1024x1408 .f32) := by
    unfold V; after_reads_simp
  rw [← hv]
  blk_ext [iblk, idx t, layer, row]

theorem lands_4 (t : Fin cfg0.N) (y : S1x256x1408.Idx) : (win0_4.blk t).view.emb y = ix3 (layer t) (row t (y 1)) (y 2 : Fin 1408) := by
  blk_ext [idx t, layer, row]

/-- The stored block of the update, element by element. -/
theorem stored_4 (c : Dev nD) (t : Fin cfg0.N) (y : S1x256x1408.Idx) :
    out0_4 (iblk m c 0 t) (iblk m c 1 t) (iblk m c 2 t) (iblk m c 3 t) y = val_main_v23 (F := Ideal) (m ((c : Thread nD τ).loc main_arg0)) (m ((c : Thread nD τ).loc main_arg1)) (m ((c : Thread nD τ).loc main_arg2)) (m ((c : Thread nD τ).loc main_arg3)) (ix3 (layer t) (row t (y 1)) (y 2 : Fin 1408)) := by
  frame_out
  pointwise [k0_pay1, k0_pay2, k0_pay3, k0_pay4, k0_pay5, block_0, block_1, block_2, block_3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The kernel's array of the update is the reference's. -/
theorem final_4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, lands_4 t y]
  exact stored_4 m c t y

theorem lands_5 (t : Fin cfg0.N) (y : S1x256x1408.Idx) : (win0_5.blk t).view.emb y = ix3 (layer t) (row t (y 1)) (y 2 : Fin 1408) := by
  blk_ext [idx t, layer, row]

/-- The stored block of the first moment, element by element. -/
theorem stored_5 (c : Dev nD) (t : Fin cfg0.N) (y : S1x256x1408.Idx) :
    out0_5 (iblk m c 0 t) (iblk m c 1 t) (iblk m c 2 t) (iblk m c 3 t) y = val_main_v4 (F := Ideal) (m ((c : Thread nD τ).loc main_arg1)) (m ((c : Thread nD τ).loc main_arg2)) (ix3 (layer t) (row t (y 1)) (y 2 : Fin 1408)) := by
  frame_out
  pointwise [k0_pay1, k0_pay2, k0_pay3, k0_pay4, k0_pay5, block_0, block_1, block_2, block_3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The kernel's array of the first moment is the reference's. -/
theorem final_5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5, lands_5 t y]
  exact stored_5 m c t y

theorem lands_6 (t : Fin cfg0.N) (y : S1x256x1408.Idx) : (win0_6.blk t).view.emb y = ix3 (layer t) (row t (y 1)) (y 2 : Fin 1408) := by
  blk_ext [idx t, layer, row]

/-- The stored block of the second moment, element by element. -/
theorem stored_6 (c : Dev nD) (t : Fin cfg0.N) (y : S1x256x1408.Idx) :
    out0_6 (iblk m c 0 t) (iblk m c 1 t) (iblk m c 2 t) (iblk m c 3 t) y = val_main_v10 (F := Ideal) (m ((c : Thread nD τ).loc main_arg1)) (m ((c : Thread nD τ).loc main_arg3)) (ix3 (layer t) (row t (y 1)) (y 2 : Fin 1408)) := by
  frame_out
  pointwise [k0_pay1, k0_pay2, k0_pay3, k0_pay4, k0_pay5, block_0, block_1, block_2, block_3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The kernel's array of the second moment is the reference's. -/
theorem final_6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6, lands_6 t y]
  exact stored_6 m c t y

end Cert.Kernel21Ideal.AdamUp

namespace Cert.Proof

open Idealize.ShloMosaic Idealize.SL.Sem

/-- From equal arguments the kernel and the reference end with equal results: the update of the first feed-forward weight and its two moments. -/
theorem algebraic_adamUp : Cert.algebraic_Kernel21Ideal_Reference21Ideal (hKernel21Ideal := Cert.Kernel21Ideal.Gen.facts)
    (hReference21Ideal := Cert.Reference21Ideal.Gen.facts) := by
  intro m g m' g' _ hargs
  refine ⟨_, _, _, Cert.Kernel21Ideal.Value.run_blocks (F := Ideal) m g, ?_⟩
  refine (θ_run (Cert.Reference21Ideal.defs (F := Ideal)) _ _).mono (fun r h c => ?_) (Cert.Reference21Ideal.Value.run (F := Ideal) m' g')
  refine ⟨(h c).1.trans ?_, (h c).2.1.trans ?_, (h c).2.2.1.trans ?_, (h c).2.2.2⟩
  · rw [Cert.Kernel21Ideal.AdamUp.final_4]
    refine (val_main_v23_eq _ _ _ _).trans ?_
    rw [(hargs c).1, (hargs c).2.1, (hargs c).2.2.1, (hargs c).2.2.2]
  · rw [Cert.Kernel21Ideal.AdamUp.final_5]
    refine (val_main_v4_eq _ _).trans ?_
    rw [(hargs c).2.1, (hargs c).2.2.1]
  · rw [Cert.Kernel21Ideal.AdamUp.final_6]
    refine (val_main_v10_eq _ _).trans ?_
    rw [(hargs c).2.1, (hargs c).2.2.2]

end Cert.Proof

end
-- ==== Proof.AdamDown.lean ====
/- The optimiser's step for the second feed-forward weight: the kernel's row blocks are the new moments and the update of the weight. -/
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Cert.Reference22Ideal.Read

namespace Cert.Kernel22Ideal.AdamDown

open Cert.Kernel22Ideal Cert.Kernel22Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val / 2, t.val % 2, 0] ∧ win0_1.index t = ![t.val / 2, t.val % 2, 0] ∧ win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] :=
  (by decide +kernel : ∀ t : Fin grid0.N, _)

/-- The layer of grid point `t`'s block. -/
def layer (t : Fin cfg0.N) : Fin 2 :=
  ⟨t.val / 2, by have := t.isLt; have : cfg0.N = 4 := N_0; omega⟩

/-- The row of the whole arrays that a row of grid point `t`'s block is. -/
def row (t : Fin cfg0.N) (r : Fin 352) : Fin 704 :=
  ⟨t.val % 2 * 352 + r.val, by omega⟩

/-- The rows of the weight that a grid point reads. -/
theorem block_0 (c : Dev nD) (t : Fin cfg0.N) (x : S1x352x1024.Idx) :
    iblk m c 0 t x = (m ((c : Thread nD τ).loc main_arg0) : FVec Ideal S2x704x1024 .f32) (ix3 (layer t) (row t (x 1)) (x 2 : Fin 1024)) := by
  have hv : V m c main_arg0 = (m ((c : Thread nD τ).loc main_arg0) : FVec Ideal S2x704x1024 .f32) := by
    unfold V; after_reads_simp
  rw [← hv]
  blk_ext [iblk, idx t, layer, row]

/-- The rows of the gradient that a grid point reads. -/
theorem block_1 (c : Dev nD) (t : Fin cfg0.N) (x : S1x352x1024.Idx) :
    iblk m c 1 t x = (m ((c : Thread nD τ).loc main_arg1) : FVec Ideal S2x704x1024 .f32) (ix3 (layer t) (row t (x 1)) (x 2 : Fin 1024)) := by
  have hv : V m c main_arg1 = (m ((c : Thread nD τ).loc main_arg1) : FVec Ideal S2x704x1024 .f32) := by
    unfold V; after_reads_simp
  rw [← hv]
  blk_ext [iblk, idx t, layer, row]

/-- The rows of the first moment that a grid point reads. -/
theorem block_2 (c : Dev nD) (t : Fin cfg0.N) (x : S1x352x1024.Idx) :
    iblk m c 2 t x = (m ((c : Thread nD τ).loc main_arg2) : FVec Ideal S2x704x1024 .f32) (ix3 (layer t) (row t (x 1)) (x 2 : Fin 1024)) := by
  have hv : V m c main_arg2 = (m ((c : Thread nD τ).loc main_arg2) : FVec Ideal S2x704x1024 .f32) := by
    unfold V; after_reads_simp
  rw [← hv]
  blk_ext [iblk, idx t, layer, row]

/-- The rows of the second moment that a grid point reads. -/
theorem block_3 (c : Dev nD) (t : Fin cfg0.N) (x : S1x352x1024.Idx) :
    iblk m c 3 t x = (m ((c : Thread nD τ).loc main_arg3) : FVec Ideal S2x704x1024 .f32) (ix3 (layer t) (row t (x 1)) (x 2 : Fin 1024)) := by
  have hv : V m c main_arg3 = (m ((c : Thread nD τ).loc main_arg3) : FVec Ideal S2x704x1024 .f32) := by
    unfold V; after_reads_simp
  rw [← hv]
  blk_ext [iblk, idx t, layer, row]

theorem lands_4 (t : Fin cfg0.N) (y : S1x352x1024.Idx) : (win0_4.blk t).view.emb y = ix3 (layer t) (row t (y 1)) (y 2 : Fin 1024) := by
  blk_ext [idx t, layer, row]

/-- The stored block of the update, element by element. -/
theorem stored_4 (c : Dev nD) (t : Fin cfg0.N) (y : S1x352x1024.Idx) :
    out0_4 (iblk m c 0 t) (iblk m c 1 t) (iblk m c 2 t) (iblk m c 3 t) y = val_main_v23 (F := Ideal) (m ((c : Thread nD τ).loc main_arg0)) (m ((c : Thread nD τ).loc main_arg1)) (m ((c : Thread nD τ).loc main_arg2)) (m ((c : Thread nD τ).loc main_arg3)) (ix3 (layer t) (row t (y 1)) (y 2 : Fin 1024)) := by
  frame_out
  pointwise [k0_pay1, k0_pay2, k0_pay3, k0_pay4, k0_pay5, block_0, block_1, block_2, block_3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The kernel's array of the update is the reference's. -/
theorem final_4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, lands_4 t y]
  exact stored_4 m c t y

theorem lands_5 (t : Fin cfg0.N) (y : S1x352x1024.Idx) : (win0_5.blk t).view.emb y = ix3 (layer t) (row t (y 1)) (y 2 : Fin 1024) := by
  blk_ext [idx t, layer, row]

/-- The stored block of the first moment, element by element. -/
theorem stored_5 (c : Dev nD) (t : Fin cfg0.N) (y : S1x352x1024.Idx) :
    out0_5 (iblk m c 0 t) (iblk m c 1 t) (iblk m c 2 t) (iblk m c 3 t) y = val_main_v4 (F := Ideal) (m ((c : Thread nD τ).loc main_arg1)) (m ((c : Thread nD τ).loc main_arg2)) (ix3 (layer t) (row t (y 1)) (y 2 : Fin 1024)) := by
  frame_out
  pointwise [k0_pay1, k0_pay2, k0_pay3, k0_pay4, k0_pay5, block_0, block_1, block_2, block_3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The kernel's array of the first moment is the reference's. -/
theorem final_5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5, lands_5 t y]
  exact stored_5 m c t y

theorem lands_6 (t : Fin cfg0.N) (y : S1x352x1024.Idx) : (win0_6.blk t).view.emb y = ix3 (layer t) (row t (y 1)) (y 2 : Fin 1024) := by
  blk_ext [idx t, layer, row]

/-- The stored block of the second moment, element by element. -/
theorem stored_6 (c : Dev nD) (t : Fin cfg0.N) (y : S1x352x1024.Idx) :
    out0_6 (iblk m c 0 t) (iblk m c 1 t) (iblk m c 2 t) (iblk m c 3 t) y = val_main_v10 (F := Ideal) (m ((c : Thread nD τ).loc main_arg1)) (m ((c : Thread nD τ).loc main_arg3)) (ix3 (layer t) (row t (y 1)) (y 2 : Fin 1024)) := by
  frame_out
  pointwise [k0_pay1, k0_pay2, k0_pay3, k0_pay4, k0_pay5, block_0, block_1, block_2, block_3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The kernel's array of the second moment is the reference's. -/
theorem final_6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6, lands_6 t y]
  exact stored_6 m c t y

end Cert.Kernel22Ideal.AdamDown

namespace Cert.Proof

open Idealize.ShloMosaic Idealize.SL.Sem

/-- From equal arguments the kernel and the reference end with equal results: the update of the second feed-forward weight and its two moments. -/
theorem algebraic_adamDown : Cert.algebraic_Kernel22Ideal_Reference22Ideal (hKernel22Ideal := Cert.Kernel22Ideal.Gen.facts)
    (hReference22Ideal := Cert.Reference22Ideal.Gen.facts) := by
  intro m g m' g' _ hargs
  refine ⟨_, _, _, Cert.Kernel22Ideal.Value.run_blocks (F := Ideal) m g, ?_⟩
  refine (θ_run (Cert.Reference22Ideal.defs (F := Ideal)) _ _).mono (fun r h c => ?_) (Cert.Reference22Ideal.Value.run (F := Ideal) m' g')
  refine ⟨(h c).1.trans ?_, (h c).2.1.trans ?_, (h c).2.2.1.trans ?_, (h c).2.2.2⟩
  · rw [Cert.Kernel22Ideal.AdamDown.final_4]
    refine (val_main_v23_eq _ _ _ _).trans ?_
    rw [(hargs c).1, (hargs c).2.1, (hargs c).2.2.1, (hargs c).2.2.2]
  · rw [Cert.Kernel22Ideal.AdamDown.final_5]
    refine (val_main_v4_eq _ _).trans ?_
    rw [(hargs c).2.1, (hargs c).2.2.1]
  · rw [Cert.Kernel22Ideal.AdamDown.final_6]
    refine (val_main_v10_eq _ _).trans ?_
    rw [(hargs c).2.1, (hargs c).2.2.2]

end Cert.Proof

end
-- ==== Proof.AdamOut.lean ====
/- The optimiser's step for the output projection's weight: the kernel's row blocks are the new moments and the update of the weight. -/
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Cert.Reference23Ideal.Read

namespace Cert.Kernel23Ideal.AdamOut

open Cert.Kernel23Ideal Cert.Kernel23Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val / 1, t.val % 1, 0] ∧ win0_1.index t = ![t.val / 1, t.val % 1, 0] ∧ win0_2.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] :=
  (by decide +kernel : ∀ t : Fin grid0.N, _)

/-- The layer of grid point `t`'s block. -/
def layer (t : Fin cfg0.N) : Fin 2 :=
  ⟨t.val / 1, by have := t.isLt; have : cfg0.N = 2 := N_0; omega⟩

/-- The row of the whole arrays that a row of grid point `t`'s block is. -/
def row (t : Fin cfg0.N) (r : Fin 256) : Fin 256 :=
  ⟨t.val % 1 * 256 + r.val, by omega⟩

/-- The rows of the weight that a grid point reads. -/
theorem block_0 (c : Dev nD) (t : Fin cfg0.N) (x : S1x256x1024.Idx) :
    iblk m c 0 t x = (m ((c : Thread nD τ).loc main_arg0) : FVec Ideal S2x256x1024 .f32) (ix3 (layer t) (row t (x 1)) (x 2 : Fin 1024)) := by
  have hv : V m c main_arg0 = (m ((c : Thread nD τ).loc main_arg0) : FVec Ideal S2x256x1024 .f32) := by
    unfold V; after_reads_simp
  rw [← hv]
  blk_ext [iblk, idx t, layer, row]

/-- The rows of the gradient that a grid point reads. -/
theorem block_1 (c : Dev nD) (t : Fin cfg0.N) (x : S1x256x1024.Idx) :
    iblk m c 1 t x = (m ((c : Thread nD τ).loc main_arg1) : FVec Ideal S2x256x1024 .f32) (ix3 (layer t) (row t (x 1)) (x 2 : Fin 1024)) := by
  have hv : V m c main_arg1 = (m ((c : Thread nD τ).loc main_arg1) : FVec Ideal S2x256x1024 .f32) := by
    unfold V; after_reads_simp
  rw [← hv]
  blk_ext [iblk, idx t, layer, row]

/-- The rows of the first moment that a grid point reads. -/
theorem block_2 (c : Dev nD) (t : Fin cfg0.N) (x : S1x256x1024.Idx) :
    iblk m c 2 t x = (m ((c : Thread nD τ).loc main_arg2) : FVec Ideal S2x256x1024 .f32) (ix3 (layer t) (row t (x 1)) (x 2 : Fin 1024)) := by
  have hv : V m c main_arg2 = (m ((c : Thread nD τ).loc main_arg2) : FVec Ideal S2x256x1024 .f32) := by
    unfold V; after_reads_simp
  rw [← hv]
  blk_ext [iblk, idx t, layer, row]

/-- The rows of the second moment that a grid point reads. -/
theorem block_3 (c : Dev nD) (t : Fin cfg0.N) (x : S1x256x1024.Idx) :
    iblk m c 3 t x = (m ((c : Thread nD τ).loc main_arg3) : FVec Ideal S2x256x1024 .f32) (ix3 (layer t) (row t (x 1)) (x 2 : Fin 1024)) := by
  have hv : V m c main_arg3 = (m ((c : Thread nD τ).loc main_arg3) : FVec Ideal S2x256x1024 .f32) := by
    unfold V; after_reads_simp
  rw [← hv]
  blk_ext [iblk, idx t, layer, row]

theorem lands_4 (t : Fin cfg0.N) (y : S1x256x1024.Idx) : (win0_4.blk t).view.emb y = ix3 (layer t) (row t (y 1)) (y 2 : Fin 1024) := by
  blk_ext [idx t, layer, row]

/-- The stored block of the update, element by element. -/
theorem stored_4 (c : Dev nD) (t : Fin cfg0.N) (y : S1x256x1024.Idx) :
    out0_4 (iblk m c 0 t) (iblk m c 1 t) (iblk m c 2 t) (iblk m c 3 t) y = val_main_v23 (F := Ideal) (m ((c : Thread nD τ).loc main_arg0)) (m ((c : Thread nD τ).loc main_arg1)) (m ((c : Thread nD τ).loc main_arg2)) (m ((c : Thread nD τ).loc main_arg3)) (ix3 (layer t) (row t (y 1)) (y 2 : Fin 1024)) := by
  frame_out
  pointwise [k0_pay1, k0_pay2, k0_pay3, k0_pay4, k0_pay5, block_0, block_1, block_2, block_3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The kernel's array of the update is the reference's. -/
theorem final_4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, lands_4 t y]
  exact stored_4 m c t y

theorem lands_5 (t : Fin cfg0.N) (y : S1x256x1024.Idx) : (win0_5.blk t).view.emb y = ix3 (layer t) (row t (y 1)) (y 2 : Fin 1024) := by
  blk_ext [idx t, layer, row]

/-- The stored block of the first moment, element by element. -/
theorem stored_5 (c : Dev nD) (t : Fin cfg0.N) (y : S1x256x1024.Idx) :
    out0_5 (iblk m c 0 t) (iblk m c 1 t) (iblk m c 2 t) (iblk m c 3 t) y = val_main_v4 (F := Ideal) (m ((c : Thread nD τ).loc main_arg1)) (m ((c : Thread nD τ).loc main_arg2)) (ix3 (layer t) (row t (y 1)) (y 2 : Fin 1024)) := by
  frame_out
  pointwise [k0_pay1, k0_pay2, k0_pay3, k0_pay4, k0_pay5, block_0, block_1, block_2, block_3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The kernel's array of the first moment is the reference's. -/
theorem final_5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5, lands_5 t y]
  exact stored_5 m c t y

theorem lands_6 (t : Fin cfg0.N) (y : S1x256x1024.Idx) : (win0_6.blk t).view.emb y = ix3 (layer t) (row t (y 1)) (y 2 : Fin 1024) := by
  blk_ext [idx t, layer, row]

/-- The stored block of the second moment, element by element. -/
theorem stored_6 (c : Dev nD) (t : Fin cfg0.N) (y : S1x256x1024.Idx) :
    out0_6 (iblk m c 0 t) (iblk m c 1 t) (iblk m c 2 t) (iblk m c 3 t) y = val_main_v10 (F := Ideal) (m ((c : Thread nD τ).loc main_arg1)) (m ((c : Thread nD τ).loc main_arg3)) (ix3 (layer t) (row t (y 1)) (y 2 : Fin 1024)) := by
  frame_out
  pointwise [k0_pay1, k0_pay2, k0_pay3, k0_pay4, k0_pay5, block_0, block_1, block_2, block_3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The kernel's array of the second moment is the reference's. -/
theorem final_6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6, lands_6 t y]
  exact stored_6 m c t y

end Cert.Kernel23Ideal.AdamOut

namespace Cert.Proof

open Idealize.ShloMosaic Idealize.SL.Sem

/-- From equal arguments the kernel and the reference end with equal results: the update of the output projection's weight and its two moments. -/
theorem algebraic_adamOut : Cert.algebraic_Kernel23Ideal_Reference23Ideal (hKernel23Ideal := Cert.Kernel23Ideal.Gen.facts)
    (hReference23Ideal := Cert.Reference23Ideal.Gen.facts) := by
  intro m g m' g' _ hargs
  refine ⟨_, _, _, Cert.Kernel23Ideal.Value.run_blocks (F := Ideal) m g, ?_⟩
  refine (θ_run (Cert.Reference23Ideal.defs (F := Ideal)) _ _).mono (fun r h c => ?_) (Cert.Reference23Ideal.Value.run (F := Ideal) m' g')
  refine ⟨(h c).1.trans ?_, (h c).2.1.trans ?_, (h c).2.2.1.trans ?_, (h c).2.2.2⟩
  · rw [Cert.Kernel23Ideal.AdamOut.final_4]
    refine (val_main_v23_eq _ _ _ _).trans ?_
    rw [(hargs c).1, (hargs c).2.1, (hargs c).2.2.1, (hargs c).2.2.2]
  · rw [Cert.Kernel23Ideal.AdamOut.final_5]
    refine (val_main_v4_eq _ _).trans ?_
    rw [(hargs c).2.1, (hargs c).2.2.1]
  · rw [Cert.Kernel23Ideal.AdamOut.final_6]
    refine (val_main_v10_eq _ _).trans ?_
    rw [(hargs c).2.1, (hargs c).2.2.2]

end Cert.Proof

end
-- ==== Proof.AdamMod.lean ====
/- The optimiser's step for the modulation's weight: the kernel's row blocks are the new moments and the update of the weight. -/
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Cert.Reference24Ideal.Read

namespace Cert.Kernel24Ideal.AdamMod

open Cert.Kernel24Ideal Cert.Kernel24Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] :=
  (by decide +kernel : ∀ t : Fin grid0.N, _)

/-- The layer of grid point `t`'s block. -/
def layer (t : Fin cfg0.N) : Fin 2 :=
  ⟨t.val / 4, by have := t.isLt; have : cfg0.N = 8 := N_0; omega⟩

/-- The row of the whole arrays that a row of grid point `t`'s block is. -/
def row (t : Fin cfg0.N) (r : Fin 256) : Fin 1024 :=
  ⟨t.val % 4 * 256 + r.val, by omega⟩

/-- The rows of the weight that a grid point reads. -/
theorem block_0 (c : Dev nD) (t : Fin cfg0.N) (x : S1x256x1536.Idx) :
    iblk m c 0 t x = (m ((c : Thread nD τ).loc main_arg0) : FVec Ideal S2x1024x1536 .f32) (ix3 (layer t) (row t (x 1)) (x 2 : Fin 1536)) := by
  have hv : V m c main_arg0 = (m ((c : Thread nD τ).loc main_arg0) : FVec Ideal S2x1024x1536 .f32) := by
    unfold V; after_reads_simp
  rw [← hv]
  blk_ext [iblk, idx t, layer, row]

/-- The rows of the gradient that a grid point reads. -/
theorem block_1 (c : Dev nD) (t : Fin cfg0.N) (x : S1x256x1536.Idx) :
    iblk m c 1 t x = (m ((c : Thread nD τ).loc main_arg1) : FVec Ideal S2x1024x1536 .f32) (ix3 (layer t) (row t (x 1)) (x 2 : Fin 1536)) := by
  have hv : V m c main_arg1 = (m ((c : Thread nD τ).loc main_arg1) : FVec Ideal S2x1024x1536 .f32) := by
    unfold V; after_reads_simp
  rw [← hv]
  blk_ext [iblk, idx t, layer, row]

/-- The rows of the first moment that a grid point reads. -/
theorem block_2 (c : Dev nD) (t : Fin cfg0.N) (x : S1x256x1536.Idx) :
    iblk m c 2 t x = (m ((c : Thread nD τ).loc main_arg2) : FVec Ideal S2x1024x1536 .f32) (ix3 (layer t) (row t (x 1)) (x 2 : Fin 1536)) := by
  have hv : V m c main_arg2 = (m ((c : Thread nD τ).loc main_arg2) : FVec Ideal S2x1024x1536 .f32) := by
    unfold V; after_reads_simp
  rw [← hv]
  blk_ext [iblk, idx t, layer, row]

/-- The rows of the second moment that a grid point reads. -/
theorem block_3 (c : Dev nD) (t : Fin cfg0.N) (x : S1x256x1536.Idx) :
    iblk m c 3 t x = (m ((c : Thread nD τ).loc main_arg3) : FVec Ideal S2x1024x1536 .f32) (ix3 (layer t) (row t (x 1)) (x 2 : Fin 1536)) := by
  have hv : V m c main_arg3 = (m ((c : Thread nD τ).loc main_arg3) : FVec Ideal S2x1024x1536 .f32) := by
    unfold V; after_reads_simp
  rw [← hv]
  blk_ext [iblk, idx t, layer, row]

theorem lands_4 (t : Fin cfg0.N) (y : S1x256x1536.Idx) : (win0_4.blk t).view.emb y = ix3 (layer t) (row t (y 1)) (y 2 : Fin 1536) := by
  blk_ext [idx t, layer, row]

/-- The stored block of the update, element by element. -/
theorem stored_4 (c : Dev nD) (t : Fin cfg0.N) (y : S1x256x1536.Idx) :
    out0_4 (iblk m c 0 t) (iblk m c 1 t) (iblk m c 2 t) (iblk m c 3 t) y = val_main_v23 (F := Ideal) (m ((c : Thread nD τ).loc main_arg0)) (m ((c : Thread nD τ).loc main_arg1)) (m ((c : Thread nD τ).loc main_arg2)) (m ((c : Thread nD τ).loc main_arg3)) (ix3 (layer t) (row t (y 1)) (y 2 : Fin 1536)) := by
  frame_out
  pointwise [k0_pay1, k0_pay2, k0_pay3, k0_pay4, k0_pay5, block_0, block_1, block_2, block_3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The kernel's array of the update is the reference's. -/
theorem final_4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, lands_4 t y]
  exact stored_4 m c t y

theorem lands_5 (t : Fin cfg0.N) (y : S1x256x1536.Idx) : (win0_5.blk t).view.emb y = ix3 (layer t) (row t (y 1)) (y 2 : Fin 1536) := by
  blk_ext [idx t, layer, row]

/-- The stored block of the first moment, element by element. -/
theorem stored_5 (c : Dev nD) (t : Fin cfg0.N) (y : S1x256x1536.Idx) :
    out0_5 (iblk m c 0 t) (iblk m c 1 t) (iblk m c 2 t) (iblk m c 3 t) y = val_main_v4 (F := Ideal) (m ((c : Thread nD τ).loc main_arg1)) (m ((c : Thread nD τ).loc main_arg2)) (ix3 (layer t) (row t (y 1)) (y 2 : Fin 1536)) := by
  frame_out
  pointwise [k0_pay1, k0_pay2, k0_pay3, k0_pay4, k0_pay5, block_0, block_1, block_2, block_3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The kernel's array of the first moment is the reference's. -/
theorem final_5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5, lands_5 t y]
  exact stored_5 m c t y

theorem lands_6 (t : Fin cfg0.N) (y : S1x256x1536.Idx) : (win0_6.blk t).view.emb y = ix3 (layer t) (row t (y 1)) (y 2 : Fin 1536) := by
  blk_ext [idx t, layer, row]

/-- The stored block of the second moment, element by element. -/
theorem stored_6 (c : Dev nD) (t : Fin cfg0.N) (y : S1x256x1536.Idx) :
    out0_6 (iblk m c 0 t) (iblk m c 1 t) (iblk m c 2 t) (iblk m c 3 t) y = val_main_v10 (F := Ideal) (m ((c : Thread nD τ).loc main_arg1)) (m ((c : Thread nD τ).loc main_arg3)) (ix3 (layer t) (row t (y 1)) (y 2 : Fin 1536)) := by
  frame_out
  pointwise [k0_pay1, k0_pay2, k0_pay3, k0_pay4, k0_pay5, block_0, block_1, block_2, block_3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

/-- The kernel's array of the second moment is the reference's. -/
theorem final_6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6, lands_6 t y]
  exact stored_6 m c t y

end Cert.Kernel24Ideal.AdamMod

namespace Cert.Proof

open Idealize.ShloMosaic Idealize.SL.Sem

/-- From equal arguments the kernel and the reference end with equal results: the update of the modulation's weight and its two moments. -/
theorem algebraic_adamMod : Cert.algebraic_Kernel24Ideal_Reference24Ideal (hKernel24Ideal := Cert.Kernel24Ideal.Gen.facts)
    (hReference24Ideal := Cert.Reference24Ideal.Gen.facts) := by
  intro m g m' g' _ hargs
  refine ⟨_, _, _, Cert.Kernel24Ideal.Value.run_blocks (F := Ideal) m g, ?_⟩
  refine (θ_run (Cert.Reference24Ideal.defs (F := Ideal)) _ _).mono (fun r h c => ?_) (Cert.Reference24Ideal.Value.run (F := Ideal) m' g')
  refine ⟨(h c).1.trans ?_, (h c).2.1.trans ?_, (h c).2.2.1.trans ?_, (h c).2.2.2⟩
  · rw [Cert.Kernel24Ideal.AdamMod.final_4]
    refine (val_main_v23_eq _ _ _ _).trans ?_
    rw [(hargs c).1, (hargs c).2.1, (hargs c).2.2.1, (hargs c).2.2.2]
  · rw [Cert.Kernel24Ideal.AdamMod.final_5]
    refine (val_main_v4_eq _ _).trans ?_
    rw [(hargs c).2.1, (hargs c).2.2.1]
  · rw [Cert.Kernel24Ideal.AdamMod.final_6]
    refine (val_main_v10_eq _ _).trans ?_
    rw [(hargs c).2.1, (hargs c).2.2.2]

end Cert.Proof

end
-- ==== Proof.RopeFwd.lean ====
/- The rotary embedding: the kernel's row blocks turn the queries and the keys by their tokens' angles and round the context's keys and values. -/
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import Idealize.ShloMosaic.Lib.Pipeline.ValueKit
public import Idealize.ShloMosaic.Lib.Pointwise
public import Idealize.ShloMosaic.Lib.Claim
public import Idealize.ShloMosaic.Lib.KernelVsHost
public import Idealize.ShloMosaic.Lib.StableHlo.RunRead

@[expose] public section

set_option maxRecDepth 16384

noncomputable section

open Cert.Reference25Ideal.Read

namespace Cert.Kernel25Ideal.RopeFwd

open Cert.Kernel25Ideal Cert.Kernel25Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val, 0] ∧ win0_1.index t = ![t.val, 8] ∧ win0_2.index t = ![t.val, 0] ∧ win0_3.index t = ![t.val, 0] ∧ win0_4.index t = ![t.val, 5] ∧ win0_5.index t = ![t.val, 6] ∧ win0_6.index t = ![t.val, 0] ∧ win0_7.index t = ![t.val, 0] ∧ win0_8.index t = ![t.val, 0] ∧ win0_9.index t = ![t.val, 0] :=
  (by decide +kernel : ∀ t : Fin grid0.N, _)

/-- The row of the whole arrays that a row of grid point `t`'s block is. -/
def row (t : Fin cfg0.N) (r : Fin 544) : Fin 4352 :=
  ⟨t.val * 544 + r.val, by have := t.isLt; have : cfg0.N = 8 := N_0; omega⟩

/-- The angle by which a token's row turns the `j`-th pair. -/
def rowAngle (c : Dev nD) (p : Fin 4096) (j : Fin 16) : EReal :=
  FloatOps.mulf (F := Ideal) (φ := .f32) (FloatOps.sitofp .f32 ((m ((c : Thread nD τ).loc main_arg4) : IVec S4096 32) (ix1 p))) ((m ((c : Thread nD τ).loc main_arg6) : FVec Ideal S16 .f32) (ix1 j))

/-- The angle by which a token's column turns the `j`-th pair. -/
def colAngle (c : Dev nD) (p : Fin 4096) (j : Fin 16) : EReal :=
  FloatOps.mulf (F := Ideal) (φ := .f32) (FloatOps.sitofp .f32 ((m ((c : Thread nD τ).loc main_arg5) : IVec S4096 32) (ix1 p))) ((m ((c : Thread nD τ).loc main_arg6) : FVec Ideal S16 .f32) (ix1 j))

/-- The angle at a token and a channel of a head: the row's for the first 32 channels, the column's for the others. -/
def angle (c : Dev nD) (p : Fin 4096) (d : ℕ) : EReal :=
  if d % 64 < 32 then rowAngle m c p ⟨d % 16, by omega⟩ else colAngle m c p ⟨d % 16, by omega⟩

/-- The cosine table: ones for the context tokens. -/
def cosAt (c : Dev nD) (p : Fin 4352) (d : ℕ) : EReal := if h : p.val < 4096 then Ideal.cos (angle m c ⟨p.val, h⟩ d) else 1

/-- The sine table: zeros for the context tokens. -/
def sinAt (c : Dev nD) (p : Fin 4352) (d : ℕ) : EReal := if h : p.val < 4096 then Ideal.sin (angle m c ⟨p.val, h⟩ d) else 0

/-- The kernel's angles by rows. -/
def byRow (c : Dev nD) : FVec Ideal S4096x16 .f32 :=
  mulf (broadcastInDim S4096x16 ![0, 1] bcast_S4096x1_S4096x16_0_1 (broadcastInDim S4096x1 ![0] bcast_S4096_S4096x1_0 (sitofp .f32 (m ((c : Thread nD τ).loc main_arg4) : IVec S4096 32))))
    (broadcastInDim S4096x16 ![0, 1] bcast_S1x16_S4096x16_0_1 (broadcastInDim S1x16 ![1] bcast_S16_S1x16_1 (m ((c : Thread nD τ).loc main_arg6) : FVec Ideal S16 .f32)))

/-- The kernel's angles by columns. -/
def byCol (c : Dev nD) : FVec Ideal S4096x16 .f32 :=
  mulf (broadcastInDim S4096x16 ![0, 1] bcast_S4096x1_S4096x16_0_1 (broadcastInDim S4096x1 ![0] bcast_S4096_S4096x1_0 (sitofp .f32 (m ((c : Thread nD τ).loc main_arg5) : IVec S4096 32))))
    (broadcastInDim S4096x16 ![0, 1] bcast_S1x16_S4096x16_0_1 (broadcastInDim S1x16 ![1] bcast_S16_S1x16_1 (m ((c : Thread nD τ).loc main_arg6) : FVec Ideal S16 .f32)))

/-- The kernel's angles of one head. -/
def angles (c : Dev nD) : FVec Ideal S4096x64 .f32 :=
  concatenate S4096x64 1 [⟨S4096x16, byRow m c⟩, ⟨S4096x16, byRow m c⟩, ⟨S4096x16, byCol m c⟩, ⟨S4096x16, byCol m c⟩] concatenates_S4096x16_S4096x16_S4096x16_S4096x16_S4096x64_d1

theorem byRow_at (c : Dev nD) (p : Fin 4096) (j : Fin 16) : byRow m c (ix2 p j) = rowAngle m c p j := by
  unfold byRow rowAngle
  pointwise []

theorem byCol_at (c : Dev nD) (p : Fin 4096) (j : Fin 16) : byCol m c (ix2 p j) = colAngle m c p j := by
  unfold byCol colAngle
  pointwise []

theorem rowAngle_congr (c : Dev nD) {p p' : Fin 4096} {j j' : Fin 16} (hp : p.val = p'.val) (hj : j.val = j'.val) : rowAngle m c p j = rowAngle m c p' j' := by
  rw [Fin.ext hp, Fin.ext hj]

theorem colAngle_congr (c : Dev nD) {p p' : Fin 4096} {j j' : Fin 16} (hp : p.val = p'.val) (hj : j.val = j'.val) : colAngle m c p j = colAngle m c p' j' := by
  rw [Fin.ext hp, Fin.ext hj]

/-- The kernel's angle at a channel. -/
theorem angles_at (c : Dev nD) (p : Fin 4096) (d : Fin 64) : angles m c (ix2 p d) = angle m c p d.val := by
  have hd := d.isLt
  unfold angles angle
  by_cases h : d.val % 64 < 32
  · rw [if_pos h]
    by_cases h2 : d.val < 16
    · pointwise [byRow_at]
      simp (disch := omega) only [dif_pos, dif_neg]
      exact rowAngle_congr m c rfl (by dsimp only; omega)
    · pointwise [byRow_at]
      simp (disch := omega) only [dif_pos, dif_neg]
      exact rowAngle_congr m c rfl (by dsimp only; omega)
  · rw [if_neg h]
    by_cases h2 : d.val < 48
    · pointwise [byCol_at]
      simp (disch := omega) only [dif_pos, dif_neg]
      exact colAngle_congr m c rfl (by dsimp only; omega)
    · pointwise [byCol_at]
      simp (disch := omega) only [dif_pos, dif_neg]
      exact colAngle_congr m c rfl (by dsimp only; omega)

theorem angle_mod (c : Dev nD) (p : Fin 4096) (d : ℕ) : angle m c p (d % 64) = angle m c p d := by
  unfold angle
  have h1 : d % 64 % 64 = d % 64 := by omega
  have h2 : d % 64 % 16 = d % 16 := by omega
  simp only [h1, h2]

/-- The cosine table of the kernel, of two heads. -/
theorem V_cos (c : Dev nD) : V m c main_v21 = shapeCast S4352x128 (broadcastInDim S1x4352x2x64 ![0, 1, 2, 3] bcast_S1x4352x1x64_S1x4352x2x64_0_1_2_3
    (shapeCast S1x4352x1x64 (concatenate S4352x64 0 [⟨S4096x64, Host.cos (angles m c)⟩, ⟨S256x64, broadcastInDim S256x64 ![] bcast_S_S256x64 (constant S_ .f32 0x3F800000#32 : FVec Ideal S_ .f32)⟩]
      concatenates_S4096x64_S256x64_S4352x64_d0) shapeCasts_S4352x64_S1x4352x1x64)) shapeCasts_S1x4352x2x64_S4352x128 := by
  unfold V; after_reads_simp; rfl

/-- The cosine table at a token and a channel. -/
theorem table_cos (c : Dev nD) (p : Fin 4352) (d : Fin 128) : V m c main_v21 (ix2 p d) = cosAt m c p d.val := by
  rw [V_cos m c]
  unfold cosAt
  by_cases h : p.val < 4096
  · rw [dif_pos h, ← angle_mod]
    pointwise [angles_at]
    try rw [dif_pos h]
  · rw [dif_neg h]
    pointwise []
    try rw [dif_neg h]

/-- The rows of the cosine table that a grid point reads. -/
theorem cos_block (c : Dev nD) (t : Fin cfg0.N) (x : S544x128.Idx) : iblk m c 2 t x = cosAt m c (row t (x 0)) (x 1).val := by
  refine Eq.trans ?_ (table_cos m c (row t (x 0)) (x 1 : Fin 128))
  blk_ext [iblk, idx t, row]

/-- The sinine table of the kernel, of two heads. -/
theorem V_sin (c : Dev nD) : V m c main_v24 = shapeCast S4352x128 (broadcastInDim S1x4352x2x64 ![0, 1, 2, 3] bcast_S1x4352x1x64_S1x4352x2x64_0_1_2_3
    (shapeCast S1x4352x1x64 (concatenate S4352x64 0 [⟨S4096x64, Host.sin (angles m c)⟩, ⟨S256x64, broadcastInDim S256x64 ![] bcast_S_S256x64 (constant S_ .f32 0x00000000#32 : FVec Ideal S_ .f32)⟩]
      concatenates_S4096x64_S256x64_S4352x64_d0) shapeCasts_S4352x64_S1x4352x1x64)) shapeCasts_S1x4352x2x64_S4352x128 := by
  unfold V; after_reads_simp; rfl

/-- The sinine table at a token and a channel. -/
theorem table_sin (c : Dev nD) (p : Fin 4352) (d : Fin 128) : V m c main_v24 (ix2 p d) = sinAt m c p d.val := by
  rw [V_sin m c]
  unfold sinAt
  by_cases h : p.val < 4096
  · rw [dif_pos h, ← angle_mod]
    pointwise [angles_at]
    try rw [dif_pos h]
  · rw [dif_neg h]
    pointwise []
    try rw [dif_neg h]

/-- The rows of the sinine table that a grid point reads. -/
theorem sin_block (c : Dev nD) (t : Fin cfg0.N) (x : S544x128.Idx) : iblk m c 3 t x = sinAt m c (row t (x 0)) (x 1).val := by
  refine Eq.trans ?_ (table_sin m c (row t (x 0)) (x 1 : Fin 128))
  blk_ext [iblk, idx t, row]

/-- The array whose columns hold the queries, the keys and the context's keys and values. -/
def wide (c : Dev nD) : FVec Ideal S4352x2944 .f32 :=
  concatenate S4352x2944 1 [⟨S4352x256, (m ((c : Thread nD τ).loc main_arg0) : FVec Ideal S4352x256 .f32)⟩, ⟨S4352x768, broadcastInDim S4352x768 ![] bcast_S_S4352x768 (constant S_ .f32 0x00000000#32 : FVec Ideal S_ .f32)⟩, ⟨S4352x128, (m ((c : Thread nD τ).loc main_arg1) : FVec Ideal S4352x128 .f32)⟩,
    ⟨S4352x128, broadcastInDim S4352x128 ![] bcast_S_S4352x128 (constant S_ .f32 0x00000000#32 : FVec Ideal S_ .f32)⟩, ⟨S4352x256, (m ((c : Thread nD τ).loc main_arg2) : FVec Ideal S4352x256 .f32)⟩, ⟨S4352x256, (m ((c : Thread nD τ).loc main_arg3) : FVec Ideal S4352x256 .f32)⟩,
    ⟨S4352x1152, broadcastInDim S4352x1152 ![] bcast_S_S4352x1152 (constant S_ .f32 0x00000000#32 : FVec Ideal S_ .f32)⟩]
    concatenates_S4352x256_S4352x768_S4352x128_S4352x128_S4352x256_S4352x256_S4352x1152_S4352x2944_d1

theorem V_wide (c : Dev nD) : V m c main_v28 = wide m c := by
  unfold V; after_reads_simp; rfl

theorem wide_query (c : Dev nD) (p : Fin 4352) (l : Fin 256) : wide m c (ix2 p (⟨l.val, by omega⟩ : Fin 2944)) = (m ((c : Thread nD τ).loc main_arg0) : FVec Ideal S4352x256 .f32) (ix2 p l) := by
  have hl := l.isLt
  unfold wide
  pointwise []
  try simp (disch := omega) only [dif_pos, dif_neg]
  try (refine congrArg _ (congrArg _ (Fin.ext ?_)); dsimp only; omega)

/-- The rows of this array that a grid point reads. -/
theorem query_block (c : Dev nD) (t : Fin cfg0.N) (x : S544x256.Idx) :
    X0_0 m c t x = (m ((c : Thread nD τ).loc main_arg0) : FVec Ideal S4352x256 .f32) (ix2 (row t (x 0)) (x 1 : Fin 256)) := by
  refine Eq.trans ?_ (wide_query m c (row t (x 0)) (x 1 : Fin 256))
  rw [← V_wide m c]
  unfold X0_0
  unfold Pipeline.Window.fill
  refine (dif_pos (moved0_0 t x)).trans ?_
  blk_ext [iblk, idx t, row]

theorem wide_key (c : Dev nD) (p : Fin 4352) (l : Fin 128) : wide m c (ix2 p (⟨1024 + l.val, by omega⟩ : Fin 2944)) = (m ((c : Thread nD τ).loc main_arg1) : FVec Ideal S4352x128 .f32) (ix2 p l) := by
  have hl := l.isLt
  unfold wide
  pointwise []
  try simp (disch := omega) only [dif_pos, dif_neg]
  try (refine congrArg _ (congrArg _ (Fin.ext ?_)); dsimp only; omega)

/-- The rows of this array that a grid point reads. -/
theorem key_block (c : Dev nD) (t : Fin cfg0.N) (x : S544x128.Idx) :
    iblk m c 1 t x = (m ((c : Thread nD τ).loc main_arg1) : FVec Ideal S4352x128 .f32) (ix2 (row t (x 0)) (x 1 : Fin 128)) := by
  refine Eq.trans ?_ (wide_key m c (row t (x 0)) (x 1 : Fin 128))
  rw [← V_wide m c]
  blk_ext [iblk, idx t, row]

theorem wide_context_key (c : Dev nD) (p : Fin 4352) (l : Fin 256) : wide m c (ix2 p (⟨1280 + l.val, by omega⟩ : Fin 2944)) = (m ((c : Thread nD τ).loc main_arg2) : FVec Ideal S4352x256 .f32) (ix2 p l) := by
  have hl := l.isLt
  unfold wide
  pointwise []
  try simp (disch := omega) only [dif_pos, dif_neg]
  try (refine congrArg _ (congrArg _ (Fin.ext ?_)); dsimp only; omega)

/-- The rows of this array that a grid point reads. -/
theorem context_key_block (c : Dev nD) (t : Fin cfg0.N) (x : S544x256.Idx) :
    X0_4 m c t x = (m ((c : Thread nD τ).loc main_arg2) : FVec Ideal S4352x256 .f32) (ix2 (row t (x 0)) (x 1 : Fin 256)) := by
  refine Eq.trans ?_ (wide_context_key m c (row t (x 0)) (x 1 : Fin 256))
  rw [← V_wide m c]
  unfold X0_4
  unfold Pipeline.Window.fill
  refine (dif_pos (moved0_4 t x)).trans ?_
  blk_ext [iblk, idx t, row]

theorem wide_context_value (c : Dev nD) (p : Fin 4352) (l : Fin 256) : wide m c (ix2 p (⟨1536 + l.val, by omega⟩ : Fin 2944)) = (m ((c : Thread nD τ).loc main_arg3) : FVec Ideal S4352x256 .f32) (ix2 p l) := by
  have hl := l.isLt
  unfold wide
  pointwise []
  try simp (disch := omega) only [dif_pos, dif_neg]
  try (refine congrArg _ (congrArg _ (Fin.ext ?_)); dsimp only; omega)

/-- The rows of this array that a grid point reads. -/
theorem context_value_block (c : Dev nD) (t : Fin cfg0.N) (x : S544x256.Idx) :
    X0_5 m c t x = (m ((c : Thread nD τ).loc main_arg3) : FVec Ideal S4352x256 .f32) (ix2 (row t (x 0)) (x 1 : Fin 256)) := by
  refine Eq.trans ?_ (wide_context_value m c (row t (x 0)) (x 1 : Fin 256))
  rw [← V_wide m c]
  unfold X0_5
  unfold Pipeline.Window.fill
  refine (dif_pos (moved0_5 t x)).trans ?_
  blk_ext [iblk, idx t, row]

/-- The kernel's test for the first half of a pair's 32 channels. -/
theorem first_half : ∀ l : Fin 128, IntOp.cmpi CmpIPredicate.slt (Scalar.select (IntOp.andi (IntOp.xori (IntOp.cmpi CmpIPredicate.slt (IntOp.remsi ArithUnit.vector (BitVec.ofNat 32 l.val) (Scalar.select (Scalar.cmpi CmpIPredicate.eq 32#32 0#32) 1#32 32#32)) 0#32)
      (Scalar.cmpi CmpIPredicate.slt (Scalar.select (Scalar.cmpi CmpIPredicate.eq 32#32 0#32) 1#32 32#32) 0#32)) (IntOp.cmpi CmpIPredicate.ne (IntOp.remsi ArithUnit.vector (BitVec.ofNat 32 l.val) (Scalar.select (Scalar.cmpi CmpIPredicate.eq 32#32 0#32) 1#32 32#32)) 0#32))
      (IntOp.addi (IntOp.remsi ArithUnit.vector (BitVec.ofNat 32 l.val) (Scalar.select (Scalar.cmpi CmpIPredicate.eq 32#32 0#32) 1#32 32#32)) (Scalar.select (Scalar.cmpi CmpIPredicate.eq 32#32 0#32) 1#32 32#32)) (IntOp.remsi ArithUnit.vector (BitVec.ofNat 32 l.val) (Scalar.select (Scalar.cmpi CmpIPredicate.eq 32#32 0#32) 1#32 32#32))) 16#32 = if l.val % 32 < 16 then 1#1 else 0#1 := by
  decide +kernel

/-- The channel that the turn brings to channel `l` of two heads from sixteen places on. -/
def up (l : Fin 128) : Fin 128 := ⟨(l.val + 128 - 112) % 128, by omega⟩

/-- The channel that the turn brings to channel `l` of two heads from sixteen places before. -/
def down (l : Fin 128) : Fin 128 := ⟨(l.val + 128 - 16) % 128, by omega⟩

/-- The turn at channel `l` of two heads, of values `g` with the tables `a` and `b`. -/
def turned (g a b : Fin 128 → EReal) (l : Fin 128) : EReal :=
  if l.val % 32 < 16 then g l * a l + (0 - g (up l)) * b l else g l * a l + g (down l) * b l

theorem turn_left (v0 v2 v4 : Vec Ideal S544x128 .f32) (x : S544x128.Idx) : k0_pay6 (F := Ideal) v0 v2 v4 x
    = turned (fun l => v4 (ix2 (x 0 : Fin 544) l)) (fun l => v0 (ix2 (x 0 : Fin 544) l)) (fun l => v2 (ix2 (x 0 : Fin 544) l)) (x 1) := by
  have hf := first_half (x 1)
  unfold turned
  by_cases h : (x 1).val % 32 < 16
  · rw [if_pos h] at hf ⊢
    pointwise [k0_pay6, k0_pay4, k0_pay5, up]
    rw [hf]
    pointwise []
  · rw [if_neg h] at hf ⊢
    pointwise [k0_pay6, k0_pay4, k0_pay5, down]
    rw [hf]
    pointwise []

theorem turn_right (v0 v2 v4 : Vec Ideal S544x128 .f32) (x : S544x128.Idx) : k0_pay7 (F := Ideal) v0 v2 v4 x
    = turned (fun l => v4 (ix2 (x 0 : Fin 544) l)) (fun l => v0 (ix2 (x 0 : Fin 544) l)) (fun l => v2 (ix2 (x 0 : Fin 544) l)) (x 1) := by
  have hf := first_half (x 1)
  unfold turned
  by_cases h : (x 1).val % 32 < 16
  · rw [if_pos h] at hf ⊢
    pointwise [k0_pay7, up]
    rw [hf]
    pointwise []
  · rw [if_neg h] at hf ⊢
    pointwise [k0_pay7, down]
    rw [hf]
    pointwise []

theorem turn_key (v0 v2 v4 : Vec Ideal S544x128 .f32) (x : S544x128.Idx) : k0_pay1 (F := Ideal) v0 v2 v4 (Scalar.select (Scalar.cmpi CmpIPredicate.eq 32#32 0#32) 1#32 32#32) k0_pay9 k0_pay10 x
    = turned (fun l => v4 (ix2 (x 0 : Fin 544) l)) (fun l => v0 (ix2 (x 0 : Fin 544) l)) (fun l => v2 (ix2 (x 0 : Fin 544) l)) (x 1) := by
  have hf := first_half (x 1)
  unfold turned
  by_cases h : (x 1).val % 32 < 16
  · rw [if_pos h] at hf ⊢
    pointwise [k0_pay1, k0_pay9, k0_pay10, up]
    rw [hf]
    pointwise []
  · rw [if_neg h] at hf ⊢
    pointwise [k0_pay1, k0_pay9, k0_pay10, down]
    rw [hf]
    pointwise []

/-- The column of the queries' array that is channel `l` of the `j`-th two heads. -/
def col (j : Fin 2) (l : Fin 128) : Fin 256 := ⟨j.val * 128 + l.val, by omega⟩

/-- The turned keys. -/
def turnedKey (c : Dev nD) (p : Fin 4352) (l : Fin 128) : EReal :=
  turned (fun l => (m ((c : Thread nD τ).loc main_arg1) : FVec Ideal S4352x128 .f32) (ix2 p l)) (fun l => cosAt m c p l.val) (fun l => sinAt m c p l.val) l

/-- The turned queries. -/
def turnedQuery (c : Dev nD) (p : Fin 4352) (j : Fin 2) (l : Fin 128) : EReal :=
  turned (fun l => (m ((c : Thread nD τ).loc main_arg0) : FVec Ideal S4352x256 .f32) (ix2 p (col j l))) (fun l => cosAt m c p l.val) (fun l => sinAt m c p l.val) l

theorem read_congr {W : ℕ} (g : (⟨2, ![4352, W]⟩ : Shape).Idx → EReal) {p p' : Fin 4352} {l l' : Fin W} (hp : p.val = p'.val) (hl : l.val = l'.val) :
    g (ix2 p l) = g (ix2 p' l') := by rw [Fin.ext hp, Fin.ext hl]

/-- A turned channel of a first half, with the sign at the other place. -/
theorem first_close {W : ℕ} (g : Fin W → EReal) (a : Fin 16 → EReal) {l l' k k' : Fin W} {i i' j j' : Fin 16}
    (hl : l.val = l'.val) (hk : k.val = k'.val) (hi : i.val = i'.val) (hj : j.val = j'.val) :
    g l * Ideal.cos (a i) - g k * Ideal.sin (a j) = g l' * Ideal.cos (a i') + (0 - g k') * Ideal.sin (a j') := by
  rw [Fin.ext hl, Fin.ext hk, Fin.ext hi, Fin.ext hj, zero_sub, EReal.neg_mul, sub_eq_add_neg]

/-- A turned channel of a second half. -/
theorem second_close {W : ℕ} (g : Fin W → EReal) (a : Fin 16 → EReal) {l l' k k' : Fin W} {i i' j j' : Fin 16}
    (hl : l.val = l'.val) (hk : k.val = k'.val) (hi : i.val = i'.val) (hj : j.val = j'.val) :
    g l * Ideal.cos (a i) + g k * Ideal.sin (a j) = g l' * Ideal.cos (a i') + g k' * Ideal.sin (a j') := by
  rw [Fin.ext hl, Fin.ext hk, Fin.ext hi, Fin.ext hj]

theorem ref_v9 (c : Dev nD) (x : Cert.Reference25Ideal.S4096x16.Idx) : (val_main_v9 (F := Ideal) (m ((c : Thread nD τ).loc main_arg4)) (m ((c : Thread nD τ).loc main_arg6)) x : EReal) = Ideal.cos (rowAngle m c (x 0) (x 1)) := by
  unfold rowAngle
  pointwise [val_main_v9, val_main_v8, val_main_v7, val_main_v5, val_main_v6, val_main_v4, val_main_v3]

theorem ref_v11 (c : Dev nD) (x : Cert.Reference25Ideal.S4096x16.Idx) : (val_main_v11 (F := Ideal) (m ((c : Thread nD τ).loc main_arg4)) (m ((c : Thread nD τ).loc main_arg6)) x : EReal) = Ideal.sin (rowAngle m c (x 0) (x 1)) := by
  unfold rowAngle
  pointwise [val_main_v11, val_main_v8, val_main_v7, val_main_v5, val_main_v6, val_main_v4, val_main_v3]

theorem ref_v33 (c : Dev nD) (x : Cert.Reference25Ideal.S4096x16.Idx) : (val_main_v33 (F := Ideal) (m ((c : Thread nD τ).loc main_arg5)) (m ((c : Thread nD τ).loc main_arg6)) x : EReal) = Ideal.cos (colAngle m c (x 0) (x 1)) := by
  unfold colAngle
  pointwise [val_main_v33, val_main_v32, val_main_v31, val_main_v29, val_main_v30, val_main_v28, val_main_v27]

theorem ref_v35 (c : Dev nD) (x : Cert.Reference25Ideal.S4096x16.Idx) : (val_main_v35 (F := Ideal) (m ((c : Thread nD τ).loc main_arg5)) (m ((c : Thread nD τ).loc main_arg6)) x : EReal) = Ideal.sin (colAngle m c (x 0) (x 1)) := by
  unfold colAngle
  pointwise [val_main_v35, val_main_v32, val_main_v31, val_main_v29, val_main_v30, val_main_v28, val_main_v27]

theorem ref_v64 (c : Dev nD) (x : Cert.Reference25Ideal.S4096x16.Idx) : (val_main_v64 (F := Ideal) (m ((c : Thread nD τ).loc main_arg4)) (m ((c : Thread nD τ).loc main_arg6)) x : EReal) = Ideal.cos (rowAngle m c (x 0) (x 1)) := by
  unfold rowAngle
  pointwise [val_main_v64, val_main_v63, val_main_v62, val_main_v60, val_main_v61, val_main_v59, val_main_v58]

theorem ref_v66 (c : Dev nD) (x : Cert.Reference25Ideal.S4096x16.Idx) : (val_main_v66 (F := Ideal) (m ((c : Thread nD τ).loc main_arg4)) (m ((c : Thread nD τ).loc main_arg6)) x : EReal) = Ideal.sin (rowAngle m c (x 0) (x 1)) := by
  unfold rowAngle
  pointwise [val_main_v66, val_main_v63, val_main_v62, val_main_v60, val_main_v61, val_main_v59, val_main_v58]

theorem ref_v88 (c : Dev nD) (x : Cert.Reference25Ideal.S4096x16.Idx) : (val_main_v88 (F := Ideal) (m ((c : Thread nD τ).loc main_arg5)) (m ((c : Thread nD τ).loc main_arg6)) x : EReal) = Ideal.cos (colAngle m c (x 0) (x 1)) := by
  unfold colAngle
  pointwise [val_main_v88, val_main_v87, val_main_v86, val_main_v84, val_main_v85, val_main_v83, val_main_v82]

theorem ref_v90 (c : Dev nD) (x : Cert.Reference25Ideal.S4096x16.Idx) : (val_main_v90 (F := Ideal) (m ((c : Thread nD τ).loc main_arg5)) (m ((c : Thread nD τ).loc main_arg6)) x : EReal) = Ideal.sin (colAngle m c (x 0) (x 1)) := by
  unfold colAngle
  pointwise [val_main_v90, val_main_v87, val_main_v86, val_main_v84, val_main_v85, val_main_v83, val_main_v82]

set_option maxHeartbeats 1000000 in
/-- The reference at an image token is the turned value: channels 0 to 15 of a head. -/
theorem key_at_0 (c : Dev nD) (p : Fin 4352) (l : Fin 128) (hp : p.val < 4096) (h0 : 0 ≤ l.val % 64) (h1 : l.val % 64 < 16) :
    (val_main_v109 (F := Ideal) (m ((c : Thread nD τ).loc main_arg1)) (m ((c : Thread nD τ).loc main_arg4)) (m ((c : Thread nD τ).loc main_arg5)) (m ((c : Thread nD τ).loc main_arg6)) (ix2 p (l)) : EReal) = turnedKey m c p l := by
  have hl := l.isLt
  unfold turnedKey turned cosAt sinAt angle
  simp only [dif_pos hp]
  rw [if_pos (show l.val % 32 < 16 by omega), if_pos (show l.val % 64 < 32 by omega)]
  pointwise [val_main_v109, val_main_v108, val_main_v107, val_main_v106, val_main_v105, val_main_v104, val_main_v103, val_main_v102, val_main_v101, val_main_v91, val_main_v92, val_main_v81, val_main_v56, val_main_v55, val_main_v100, val_main_v99, val_main_v89, val_main_v93, val_main_v98, val_main_v97, val_main_v96, val_main_v95, val_main_v94, val_main_v80, val_main_v79, val_main_v78, val_main_v77, val_main_v67, val_main_v68, val_main_v57, val_main_v76, val_main_v75, val_main_v65, val_main_v69, val_main_v74, val_main_v73, val_main_v72, val_main_v71, val_main_v70, ref_v9 m c, ref_v11 m c, ref_v33 m c, ref_v35 m c, ref_v64 m c, ref_v66 m c, ref_v88 m c, ref_v90 m c]
  simp (disch := omega) only [dif_pos, dif_neg]
  refine first_close (fun l => (m ((c : Thread nD τ).loc main_arg1) : FVec Ideal S4352x128 .f32) (ix2 p l)) (rowAngle m c ⟨p.val, hp⟩) ?_ ?_ ?_ ?_
  · first | (dsimp only [up, down]; done) | (dsimp only [up, down]; omega) | omega
  · first | (dsimp only [up, down]; done) | (dsimp only [up, down]; omega) | omega
  · first | (dsimp only [up, down]; done) | (dsimp only [up, down]; omega) | omega
  · first | (dsimp only [up, down]; done) | (dsimp only [up, down]; omega) | omega

set_option maxHeartbeats 1000000 in
/-- The reference at an image token is the turned value: channels 16 to 31 of a head. -/
theorem key_at_16 (c : Dev nD) (p : Fin 4352) (l : Fin 128) (hp : p.val < 4096) (h0 : 16 ≤ l.val % 64) (h1 : l.val % 64 < 32) :
    (val_main_v109 (F := Ideal) (m ((c : Thread nD τ).loc main_arg1)) (m ((c : Thread nD τ).loc main_arg4)) (m ((c : Thread nD τ).loc main_arg5)) (m ((c : Thread nD τ).loc main_arg6)) (ix2 p (l)) : EReal) = turnedKey m c p l := by
  have hl := l.isLt
  unfold turnedKey turned cosAt sinAt angle
  simp only [dif_pos hp]
  rw [if_neg (show ¬ l.val % 32 < 16 by omega), if_pos (show l.val % 64 < 32 by omega)]
  pointwise [val_main_v109, val_main_v108, val_main_v107, val_main_v106, val_main_v105, val_main_v104, val_main_v103, val_main_v102, val_main_v101, val_main_v91, val_main_v92, val_main_v81, val_main_v56, val_main_v55, val_main_v100, val_main_v99, val_main_v89, val_main_v93, val_main_v98, val_main_v97, val_main_v96, val_main_v95, val_main_v94, val_main_v80, val_main_v79, val_main_v78, val_main_v77, val_main_v67, val_main_v68, val_main_v57, val_main_v76, val_main_v75, val_main_v65, val_main_v69, val_main_v74, val_main_v73, val_main_v72, val_main_v71, val_main_v70, ref_v9 m c, ref_v11 m c, ref_v33 m c, ref_v35 m c, ref_v64 m c, ref_v66 m c, ref_v88 m c, ref_v90 m c]
  simp (disch := omega) only [dif_pos, dif_neg]
  refine second_close (fun l => (m ((c : Thread nD τ).loc main_arg1) : FVec Ideal S4352x128 .f32) (ix2 p l)) (rowAngle m c ⟨p.val, hp⟩) ?_ ?_ ?_ ?_
  · first | (dsimp only [up, down]; done) | (dsimp only [up, down]; omega) | omega
  · first | (dsimp only [up, down]; done) | (dsimp only [up, down]; omega) | omega
  · first | (dsimp only [up, down]; done) | (dsimp only [up, down]; omega) | omega
  · first | (dsimp only [up, down]; done) | (dsimp only [up, down]; omega) | omega

set_option maxHeartbeats 1000000 in
/-- The reference at an image token is the turned value: channels 32 to 47 of a head. -/
theorem key_at_32 (c : Dev nD) (p : Fin 4352) (l : Fin 128) (hp : p.val < 4096) (h0 : 32 ≤ l.val % 64) (h1 : l.val % 64 < 48) :
    (val_main_v109 (F := Ideal) (m ((c : Thread nD τ).loc main_arg1)) (m ((c : Thread nD τ).loc main_arg4)) (m ((c : Thread nD τ).loc main_arg5)) (m ((c : Thread nD τ).loc main_arg6)) (ix2 p (l)) : EReal) = turnedKey m c p l := by
  have hl := l.isLt
  unfold turnedKey turned cosAt sinAt angle
  simp only [dif_pos hp]
  rw [if_pos (show l.val % 32 < 16 by omega), if_neg (show ¬ l.val % 64 < 32 by omega)]
  pointwise [val_main_v109, val_main_v108, val_main_v107, val_main_v106, val_main_v105, val_main_v104, val_main_v103, val_main_v102, val_main_v101, val_main_v91, val_main_v92, val_main_v81, val_main_v56, val_main_v55, val_main_v100, val_main_v99, val_main_v89, val_main_v93, val_main_v98, val_main_v97, val_main_v96, val_main_v95, val_main_v94, val_main_v80, val_main_v79, val_main_v78, val_main_v77, val_main_v67, val_main_v68, val_main_v57, val_main_v76, val_main_v75, val_main_v65, val_main_v69, val_main_v74, val_main_v73, val_main_v72, val_main_v71, val_main_v70, ref_v9 m c, ref_v11 m c, ref_v33 m c, ref_v35 m c, ref_v64 m c, ref_v66 m c, ref_v88 m c, ref_v90 m c]
  simp (disch := omega) only [dif_pos, dif_neg]
  refine first_close (fun l => (m ((c : Thread nD τ).loc main_arg1) : FVec Ideal S4352x128 .f32) (ix2 p l)) (colAngle m c ⟨p.val, hp⟩) ?_ ?_ ?_ ?_
  · first | (dsimp only [up, down]; done) | (dsimp only [up, down]; omega) | omega
  · first | (dsimp only [up, down]; done) | (dsimp only [up, down]; omega) | omega
  · first | (dsimp only [up, down]; done) | (dsimp only [up, down]; omega) | omega
  · first | (dsimp only [up, down]; done) | (dsimp only [up, down]; omega) | omega

set_option maxHeartbeats 1000000 in
/-- The reference at an image token is the turned value: channels 48 to 63 of a head. -/
theorem key_at_48 (c : Dev nD) (p : Fin 4352) (l : Fin 128) (hp : p.val < 4096) (h0 : 48 ≤ l.val % 64) (h1 : l.val % 64 < 64) :
    (val_main_v109 (F := Ideal) (m ((c : Thread nD τ).loc main_arg1)) (m ((c : Thread nD τ).loc main_arg4)) (m ((c : Thread nD τ).loc main_arg5)) (m ((c : Thread nD τ).loc main_arg6)) (ix2 p (l)) : EReal) = turnedKey m c p l := by
  have hl := l.isLt
  unfold turnedKey turned cosAt sinAt angle
  simp only [dif_pos hp]
  rw [if_neg (show ¬ l.val % 32 < 16 by omega), if_neg (show ¬ l.val % 64 < 32 by omega)]
  pointwise [val_main_v109, val_main_v108, val_main_v107, val_main_v106, val_main_v105, val_main_v104, val_main_v103, val_main_v102, val_main_v101, val_main_v91, val_main_v92, val_main_v81, val_main_v56, val_main_v55, val_main_v100, val_main_v99, val_main_v89, val_main_v93, val_main_v98, val_main_v97, val_main_v96, val_main_v95, val_main_v94, val_main_v80, val_main_v79, val_main_v78, val_main_v77, val_main_v67, val_main_v68, val_main_v57, val_main_v76, val_main_v75, val_main_v65, val_main_v69, val_main_v74, val_main_v73, val_main_v72, val_main_v71, val_main_v70, ref_v9 m c, ref_v11 m c, ref_v33 m c, ref_v35 m c, ref_v64 m c, ref_v66 m c, ref_v88 m c, ref_v90 m c]
  simp (disch := omega) only [dif_pos, dif_neg]
  refine second_close (fun l => (m ((c : Thread nD τ).loc main_arg1) : FVec Ideal S4352x128 .f32) (ix2 p l)) (colAngle m c ⟨p.val, hp⟩) ?_ ?_ ?_ ?_
  · first | (dsimp only [up, down]; done) | (dsimp only [up, down]; omega) | omega
  · first | (dsimp only [up, down]; done) | (dsimp only [up, down]; omega) | omega
  · first | (dsimp only [up, down]; done) | (dsimp only [up, down]; omega) | omega
  · first | (dsimp only [up, down]; done) | (dsimp only [up, down]; omega) | omega

/-- A context token's value stays as it is. -/
theorem key_context (c : Dev nD) (p : Fin 4352) (l : Fin 128) (hp : ¬ p.val < 4096) : turnedKey m c p l = (m ((c : Thread nD τ).loc main_arg1) : FVec Ideal S4352x128 .f32) (ix2 p (l)) := by
  unfold turnedKey turned cosAt sinAt
  simp only [dif_neg hp]
  by_cases h : l.val % 32 < 16
  · rw [if_pos h, mul_one, mul_zero, add_zero]
  · rw [if_neg h, mul_one, mul_zero, add_zero]

/-- The reference at a context token is the value as it is. -/
theorem key_behind (c : Dev nD) (p : Fin 4352) (l : Fin 128) (hp : ¬ p.val < 4096) : (val_main_v109 (F := Ideal) (m ((c : Thread nD τ).loc main_arg1)) (m ((c : Thread nD τ).loc main_arg4)) (m ((c : Thread nD τ).loc main_arg5)) (m ((c : Thread nD τ).loc main_arg6)) (ix2 p (l)) : EReal) = (m ((c : Thread nD τ).loc main_arg1) : FVec Ideal S4352x128 .f32) (ix2 p (l)) := by
  have hp2 := p.isLt
  pointwise [val_main_v109, val_main_v108, val_main_v107]
  simp (disch := omega) only [dif_pos, dif_neg]
  exact read_congr _ (by dsimp only; omega) rfl

/-- The reference's value is the turned value. -/
theorem key_ref (c : Dev nD) (p : Fin 4352) (l : Fin 128) : (val_main_v109 (F := Ideal) (m ((c : Thread nD τ).loc main_arg1)) (m ((c : Thread nD τ).loc main_arg4)) (m ((c : Thread nD τ).loc main_arg5)) (m ((c : Thread nD τ).loc main_arg6)) (ix2 p (l)) : EReal) = turnedKey m c p l := by
  by_cases hp : p.val < 4096
  · have hl := l.isLt
    by_cases h0 : l.val % 64 < 16
    · exact key_at_0 m c p l hp (Nat.zero_le _) h0
    by_cases h1 : l.val % 64 < 32
    · exact key_at_16 m c p l hp (Nat.le_of_not_lt h0) h1
    by_cases h2 : l.val % 64 < 48
    · exact key_at_32 m c p l hp (Nat.le_of_not_lt h1) h2
    · exact key_at_48 m c p l hp (Nat.le_of_not_lt h2) (Nat.mod_lt _ (by decide))
  · rw [key_behind m c p l hp, key_context m c p l hp]

set_option maxHeartbeats 1000000 in
/-- The reference at an image token is the turned value: channels 0 to 15 of a head. -/
theorem query_at_0 (c : Dev nD) (p : Fin 4352) (j : Fin 2) (l : Fin 128) (hp : p.val < 4096) (h0 : 0 ≤ l.val % 64) (h1 : l.val % 64 < 16) :
    (val_main_v54 (F := Ideal) (m ((c : Thread nD τ).loc main_arg0)) (m ((c : Thread nD τ).loc main_arg4)) (m ((c : Thread nD τ).loc main_arg5)) (m ((c : Thread nD τ).loc main_arg6)) (ix2 p (col j l)) : EReal) = turnedQuery m c p j l := by
  have hl := l.isLt
  have hj := j.isLt
  unfold turnedQuery turned cosAt sinAt angle
  simp only [dif_pos hp]
  rw [if_pos (show l.val % 32 < 16 by omega), if_pos (show l.val % 64 < 32 by omega)]
  pointwise [val_main_v54, val_main_v53, val_main_v52, val_main_v51, val_main_v50, val_main_v49, val_main_v48, val_main_v47, val_main_v46, val_main_v36, val_main_v37, val_main_v26, val_main_v1, val_main_v0, val_main_v45, val_main_v44, val_main_v34, val_main_v38, val_main_v43, val_main_v42, val_main_v41, val_main_v40, val_main_v39, val_main_v25, val_main_v24, val_main_v23, val_main_v22, val_main_v12, val_main_v13, val_main_v2, val_main_v21, val_main_v20, val_main_v10, val_main_v14, val_main_v19, val_main_v18, val_main_v17, val_main_v16, val_main_v15, ref_v9 m c, ref_v11 m c, ref_v33 m c, ref_v35 m c, ref_v64 m c, ref_v66 m c, ref_v88 m c, ref_v90 m c, col]
  simp (disch := omega) only [dif_pos, dif_neg]
  refine first_close (fun l => (m ((c : Thread nD τ).loc main_arg0) : FVec Ideal S4352x256 .f32) (ix2 p l)) (rowAngle m c ⟨p.val, hp⟩) ?_ ?_ ?_ ?_
  · first | (dsimp only [col, up, down]; done) | (dsimp only [col, up, down]; omega) | omega
  · first | (dsimp only [col, up, down]; done) | (dsimp only [col, up, down]; omega) | omega
  · first | (dsimp only [col, up, down]; done) | (dsimp only [col, up, down]; omega) | omega
  · first | (dsimp only [col, up, down]; done) | (dsimp only [col, up, down]; omega) | omega

set_option maxHeartbeats 1000000 in
/-- The reference at an image token is the turned value: channels 16 to 31 of a head. -/
theorem query_at_16 (c : Dev nD) (p : Fin 4352) (j : Fin 2) (l : Fin 128) (hp : p.val < 4096) (h0 : 16 ≤ l.val % 64) (h1 : l.val % 64 < 32) :
    (val_main_v54 (F := Ideal) (m ((c : Thread nD τ).loc main_arg0)) (m ((c : Thread nD τ).loc main_arg4)) (m ((c : Thread nD τ).loc main_arg5)) (m ((c : Thread nD τ).loc main_arg6)) (ix2 p (col j l)) : EReal) = turnedQuery m c p j l := by
  have hl := l.isLt
  have hj := j.isLt
  unfold turnedQuery turned cosAt sinAt angle
  simp only [dif_pos hp]
  rw [if_neg (show ¬ l.val % 32 < 16 by omega), if_pos (show l.val % 64 < 32 by omega)]
  pointwise [val_main_v54, val_main_v53, val_main_v52, val_main_v51, val_main_v50, val_main_v49, val_main_v48, val_main_v47, val_main_v46, val_main_v36, val_main_v37, val_main_v26, val_main_v1, val_main_v0, val_main_v45, val_main_v44, val_main_v34, val_main_v38, val_main_v43, val_main_v42, val_main_v41, val_main_v40, val_main_v39, val_main_v25, val_main_v24, val_main_v23, val_main_v22, val_main_v12, val_main_v13, val_main_v2, val_main_v21, val_main_v20, val_main_v10, val_main_v14, val_main_v19, val_main_v18, val_main_v17, val_main_v16, val_main_v15, ref_v9 m c, ref_v11 m c, ref_v33 m c, ref_v35 m c, ref_v64 m c, ref_v66 m c, ref_v88 m c, ref_v90 m c, col]
  simp (disch := omega) only [dif_pos, dif_neg]
  refine second_close (fun l => (m ((c : Thread nD τ).loc main_arg0) : FVec Ideal S4352x256 .f32) (ix2 p l)) (rowAngle m c ⟨p.val, hp⟩) ?_ ?_ ?_ ?_
  · first | (dsimp only [col, up, down]; done) | (dsimp only [col, up, down]; omega) | omega
  · first | (dsimp only [col, up, down]; done) | (dsimp only [col, up, down]; omega) | omega
  · first | (dsimp only [col, up, down]; done) | (dsimp only [col, up, down]; omega) | omega
  · first | (dsimp only [col, up, down]; done) | (dsimp only [col, up, down]; omega) | omega

set_option maxHeartbeats 1000000 in
/-- The reference at an image token is the turned value: channels 32 to 47 of a head. -/
theorem query_at_32 (c : Dev nD) (p : Fin 4352) (j : Fin 2) (l : Fin 128) (hp : p.val < 4096) (h0 : 32 ≤ l.val % 64) (h1 : l.val % 64 < 48) :
    (val_main_v54 (F := Ideal) (m ((c : Thread nD τ).loc main_arg0)) (m ((c : Thread nD τ).loc main_arg4)) (m ((c : Thread nD τ).loc main_arg5)) (m ((c : Thread nD τ).loc main_arg6)) (ix2 p (col j l)) : EReal) = turnedQuery m c p j l := by
  have hl := l.isLt
  have hj := j.isLt
  unfold turnedQuery turned cosAt sinAt angle
  simp only [dif_pos hp]
  rw [if_pos (show l.val % 32 < 16 by omega), if_neg (show ¬ l.val % 64 < 32 by omega)]
  pointwise [val_main_v54, val_main_v53, val_main_v52, val_main_v51, val_main_v50, val_main_v49, val_main_v48, val_main_v47, val_main_v46, val_main_v36, val_main_v37, val_main_v26, val_main_v1, val_main_v0, val_main_v45, val_main_v44, val_main_v34, val_main_v38, val_main_v43, val_main_v42, val_main_v41, val_main_v40, val_main_v39, val_main_v25, val_main_v24, val_main_v23, val_main_v22, val_main_v12, val_main_v13, val_main_v2, val_main_v21, val_main_v20, val_main_v10, val_main_v14, val_main_v19, val_main_v18, val_main_v17, val_main_v16, val_main_v15, ref_v9 m c, ref_v11 m c, ref_v33 m c, ref_v35 m c, ref_v64 m c, ref_v66 m c, ref_v88 m c, ref_v90 m c, col]
  simp (disch := omega) only [dif_pos, dif_neg]
  refine first_close (fun l => (m ((c : Thread nD τ).loc main_arg0) : FVec Ideal S4352x256 .f32) (ix2 p l)) (colAngle m c ⟨p.val, hp⟩) ?_ ?_ ?_ ?_
  · first | (dsimp only [col, up, down]; done) | (dsimp only [col, up, down]; omega) | omega
  · first | (dsimp only [col, up, down]; done) | (dsimp only [col, up, down]; omega) | omega
  · first | (dsimp only [col, up, down]; done) | (dsimp only [col, up, down]; omega) | omega
  · first | (dsimp only [col, up, down]; done) | (dsimp only [col, up, down]; omega) | omega

set_option maxHeartbeats 1000000 in
/-- The reference at an image token is the turned value: channels 48 to 63 of a head. -/
theorem query_at_48 (c : Dev nD) (p : Fin 4352) (j : Fin 2) (l : Fin 128) (hp : p.val < 4096) (h0 : 48 ≤ l.val % 64) (h1 : l.val % 64 < 64) :
    (val_main_v54 (F := Ideal) (m ((c : Thread nD τ).loc main_arg0)) (m ((c : Thread nD τ).loc main_arg4)) (m ((c : Thread nD τ).loc main_arg5)) (m ((c : Thread nD τ).loc main_arg6)) (ix2 p (col j l)) : EReal) = turnedQuery m c p j l := by
  have hl := l.isLt
  have hj := j.isLt
  unfold turnedQuery turned cosAt sinAt angle
  simp only [dif_pos hp]
  rw [if_neg (show ¬ l.val % 32 < 16 by omega), if_neg (show ¬ l.val % 64 < 32 by omega)]
  pointwise [val_main_v54, val_main_v53, val_main_v52, val_main_v51, val_main_v50, val_main_v49, val_main_v48, val_main_v47, val_main_v46, val_main_v36, val_main_v37, val_main_v26, val_main_v1, val_main_v0, val_main_v45, val_main_v44, val_main_v34, val_main_v38, val_main_v43, val_main_v42, val_main_v41, val_main_v40, val_main_v39, val_main_v25, val_main_v24, val_main_v23, val_main_v22, val_main_v12, val_main_v13, val_main_v2, val_main_v21, val_main_v20, val_main_v10, val_main_v14, val_main_v19, val_main_v18, val_main_v17, val_main_v16, val_main_v15, ref_v9 m c, ref_v11 m c, ref_v33 m c, ref_v35 m c, ref_v64 m c, ref_v66 m c, ref_v88 m c, ref_v90 m c, col]
  simp (disch := omega) only [dif_pos, dif_neg]
  refine second_close (fun l => (m ((c : Thread nD τ).loc main_arg0) : FVec Ideal S4352x256 .f32) (ix2 p l)) (colAngle m c ⟨p.val, hp⟩) ?_ ?_ ?_ ?_
  · first | (dsimp only [col, up, down]; done) | (dsimp only [col, up, down]; omega) | omega
  · first | (dsimp only [col, up, down]; done) | (dsimp only [col, up, down]; omega) | omega
  · first | (dsimp only [col, up, down]; done) | (dsimp only [col, up, down]; omega) | omega
  · first | (dsimp only [col, up, down]; done) | (dsimp only [col, up, down]; omega) | omega

/-- A context token's value stays as it is. -/
theorem query_context (c : Dev nD) (p : Fin 4352) (j : Fin 2) (l : Fin 128) (hp : ¬ p.val < 4096) : turnedQuery m c p j l = (m ((c : Thread nD τ).loc main_arg0) : FVec Ideal S4352x256 .f32) (ix2 p (col j l)) := by
  unfold turnedQuery turned cosAt sinAt
  simp only [dif_neg hp]
  by_cases h : l.val % 32 < 16
  · rw [if_pos h, mul_one, mul_zero, add_zero]
  · rw [if_neg h, mul_one, mul_zero, add_zero]

/-- The reference at a context token is the value as it is. -/
theorem query_behind (c : Dev nD) (p : Fin 4352) (j : Fin 2) (l : Fin 128) (hp : ¬ p.val < 4096) : (val_main_v54 (F := Ideal) (m ((c : Thread nD τ).loc main_arg0)) (m ((c : Thread nD τ).loc main_arg4)) (m ((c : Thread nD τ).loc main_arg5)) (m ((c : Thread nD τ).loc main_arg6)) (ix2 p (col j l)) : EReal) = (m ((c : Thread nD τ).loc main_arg0) : FVec Ideal S4352x256 .f32) (ix2 p (col j l)) := by
  have hp2 := p.isLt
  pointwise [val_main_v54, val_main_v53, val_main_v52]
  simp (disch := omega) only [dif_pos, dif_neg]
  exact read_congr _ (by dsimp only; omega) rfl

/-- The reference's value is the turned value. -/
theorem query_ref (c : Dev nD) (p : Fin 4352) (j : Fin 2) (l : Fin 128) : (val_main_v54 (F := Ideal) (m ((c : Thread nD τ).loc main_arg0)) (m ((c : Thread nD τ).loc main_arg4)) (m ((c : Thread nD τ).loc main_arg5)) (m ((c : Thread nD τ).loc main_arg6)) (ix2 p (col j l)) : EReal) = turnedQuery m c p j l := by
  by_cases hp : p.val < 4096
  · have hl := l.isLt
    by_cases h0 : l.val % 64 < 16
    · exact query_at_0 m c p j l hp (Nat.zero_le _) h0
    by_cases h1 : l.val % 64 < 32
    · exact query_at_16 m c p j l hp (Nat.le_of_not_lt h0) h1
    by_cases h2 : l.val % 64 < 48
    · exact query_at_32 m c p j l hp (Nat.le_of_not_lt h1) h2
    · exact query_at_48 m c p j l hp (Nat.le_of_not_lt h2) (Nat.mod_lt _ (by decide))
  · rw [query_behind m c p j l hp, query_context m c p j l hp]

/-- Where an element of a stored block lands. -/
theorem lands_query (t : Fin cfg0.N) (y : S544x256.Idx) : (win0_6.blk t).view.emb y = ix2 (row t (y 0)) (y 1 : Fin 256) := by
  blk_ext [idx t, row]

/-- Where an element of a stored block lands. -/
theorem lands_key (t : Fin cfg0.N) (y : S544x128.Idx) : (win0_7.blk t).view.emb y = ix2 (row t (y 0)) (y 1 : Fin 128) := by
  blk_ext [idx t, row]

/-- Where an element of a stored block lands. -/
theorem lands_context_key (t : Fin cfg0.N) (y : S544x256.Idx) : (win0_8.blk t).view.emb y = ix2 (row t (y 0)) (y 1 : Fin 256) := by
  blk_ext [idx t, row]

/-- Where an element of a stored block lands. -/
theorem lands_context_value (t : Fin cfg0.N) (y : S544x256.Idx) : (win0_9.blk t).view.emb y = ix2 (row t (y 0)) (y 1 : Fin 256) := by
  blk_ext [idx t, row]

/-- The keys' stored block. -/
theorem stored_key (c : Dev nD) (t : Fin cfg0.N) (y : S544x128.Idx) :
    (outsAt0 m c t).2.1 y = turnedKey m c (row t (y 0)) (y 1) := by
  unfold outsAt0
  frame_out
  refine (turn_key _ _ _ y).trans ?_
  unfold turnedKey
  refine congrFun (congr (congr (congrArg turned (funext fun l => ?_)) (funext fun l => ?_)) (funext fun l => ?_)) (_ : Fin 128)
  · pointwise [k0_pay8, key_block m c t]
  · pointwise [k0_pay4, cos_block m c t]
  · pointwise [k0_pay5, sin_block m c t]

/-- The context keys' stored block. -/
theorem stored_context_key (c : Dev nD) (t : Fin cfg0.N) (y : S544x256.Idx) :
    (outsAt0 m c t).2.2.1 y = (truncf .bf16 (m ((c : Thread nD τ).loc main_arg2) : FVec Ideal S4352x256 .f32) bitsLt_bf16_f32 : FVec Ideal S4352x256 .bf16) (ix2 (row t (y 0)) (y 1 : Fin 256)) := by
  unfold outsAt0
  frame_out
  pointwise [k0_pay2, context_key_block m c t]

/-- The context values' stored block. -/
theorem stored_context_value (c : Dev nD) (t : Fin cfg0.N) (y : S544x256.Idx) :
    (outsAt0 m c t).2.2.2 y = (truncf .bf16 (m ((c : Thread nD τ).loc main_arg3) : FVec Ideal S4352x256 .f32) bitsLt_bf16_f32 : FVec Ideal S4352x256 .bf16) (ix2 (row t (y 0)) (y 1 : Fin 256)) := by
  unfold outsAt0
  frame_out
  pointwise [k0_pay3, context_value_block m c t]

/-- The queries' stored block. -/
theorem stored_query (c : Dev nD) (t : Fin cfg0.N) (y : S544x256.Idx) :
    (outsAt0 m c t).1 y = val_main_v54 (F := Ideal) (m ((c : Thread nD τ).loc main_arg0)) (m ((c : Thread nD τ).loc main_arg4)) (m ((c : Thread nD τ).loc main_arg5)) (m ((c : Thread nD τ).loc main_arg6)) (ix2 (row t (y 0)) (y 1 : Fin 256)) := by
  unfold outsAt0
  frame_out
  canon_tiles x h using View.cover_of_tiledBy _ ![544,128] (by sl_kernel_rfl) y
  · refine Eq.trans ?_ ((query_ref m c (row t (x 0)) 1 (x 1)).symm.trans (congrArg (val_main_v54 (F := Ideal) (m ((c : Thread nD τ).loc main_arg0)) (m ((c : Thread nD τ).loc main_arg4)) (m ((c : Thread nD τ).loc main_arg5)) (m ((c : Thread nD τ).loc main_arg6)) : Cert.Reference25Ideal.S4352x256.Idx → EReal) (?_ : ix2 (row t (x 0)) (col 1 (x 1)) = ix2 (row t (y 0)) (y 1 : Fin 256))))
    rotate_left
    · exact congrArg₂ (fun a b => ix2 (a : Fin 4352) (b : Fin 256)) (Fin.ext (by simp only [row]; omega)) (Fin.ext (by simp only [col]; omega))
    refine (turn_right _ _ _ x).trans ?_
    unfold turnedQuery
    refine congrFun (congr (congr (congrArg turned (funext fun l => ?_)) (funext fun l => ?_)) (funext fun l => ?_)) (_ : Fin 128)
    · pointwise [query_block m c t, col]
    · pointwise [k0_pay4, cos_block m c t]
    · pointwise [k0_pay5, sin_block m c t]
  · refine Eq.trans ?_ ((query_ref m c (row t (x 0)) 0 (x 1)).symm.trans (congrArg (val_main_v54 (F := Ideal) (m ((c : Thread nD τ).loc main_arg0)) (m ((c : Thread nD τ).loc main_arg4)) (m ((c : Thread nD τ).loc main_arg5)) (m ((c : Thread nD τ).loc main_arg6)) : Cert.Reference25Ideal.S4352x256.Idx → EReal) (?_ : ix2 (row t (x 0)) (col 0 (x 1)) = ix2 (row t (y 0)) (y 1 : Fin 256))))
    rotate_left
    · exact congrArg₂ (fun a b => ix2 (a : Fin 4352) (b : Fin 256)) (Fin.ext (by simp only [row]; omega)) (Fin.ext (by simp only [col]; omega))
    refine (turn_left _ _ _ x).trans ?_
    unfold turnedQuery
    refine congrFun (congr (congr (congrArg turned (funext fun l => ?_)) (funext fun l => ?_)) (funext fun l => ?_)) (_ : Fin 128)
    · pointwise [query_block m c t, col]
    · pointwise [cos_block m c t]
    · pointwise [sin_block m c t]

/-- This result array of the kernel is the reference's. -/
theorem final_query (c : Dev nD) : (dats m 0 c).arrAt 6 cfg0.N = val_main_v54 (F := Ideal) (m ((c : Thread nD τ).loc main_arg0)) (m ((c : Thread nD τ).loc main_arg4)) (m ((c : Thread nD τ).loc main_arg5)) (m ((c : Thread nD τ).loc main_arg6)) := by
  refine (dats m 0 c).arrAt_eq_of_covers 6 _ (by decide +kernel) fun t _ y => ?_
  blk_simp
  rw [after0_6, lands_query t y]
  exact stored_query m c t y

/-- This result array of the kernel is the reference's. -/
theorem final_key (c : Dev nD) : (dats m 0 c).arrAt 7 cfg0.N = val_main_v109 (F := Ideal) (m ((c : Thread nD τ).loc main_arg1)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7, lands_key t y]
  exact (stored_key m c t y).trans (key_ref m c (row t (y 0)) (y 1)).symm

/-- This result array of the kernel is the reference's. -/
theorem final_context_key (c : Dev nD) : (dats m 0 c).arrAt 8 cfg0.N = (truncf .bf16 (m ((c : Thread nD τ).loc main_arg2) : FVec Ideal S4352x256 .f32) bitsLt_bf16_f32 : FVec Ideal S4352x256 .bf16) := by
  refine (dats m 0 c).arrAt_eq_of_covers 8 _ (by decide +kernel) fun t _ y => ?_
  blk_simp
  rw [after0_8, lands_context_key t y]
  exact stored_context_key m c t y

/-- This result array of the kernel is the reference's. -/
theorem final_context_value (c : Dev nD) : (dats m 0 c).arrAt 9 cfg0.N = (truncf .bf16 (m ((c : Thread nD τ).loc main_arg3) : FVec Ideal S4352x256 .f32) bitsLt_bf16_f32 : FVec Ideal S4352x256 .bf16) := by
  refine (dats m 0 c).arrAt_eq_of_covers 9 _ (by decide +kernel) fun t _ y => ?_
  blk_simp
  rw [after0_9, lands_context_value t y]
  exact stored_context_value m c t y

end Cert.Kernel25Ideal.RopeFwd

namespace Cert.Proof

open Idealize.ShloMosaic Idealize.SL.Sem

/-- From equal arguments the kernel and the reference end with equal results: the turned queries and keys and the context's keys and values, rounded. -/
theorem algebraic_rope_fwd : Cert.algebraic_Kernel25Ideal_Reference25Ideal (hKernel25Ideal := Cert.Kernel25Ideal.Gen.facts)
    (hReference25Ideal := Cert.Reference25Ideal.Gen.facts) := by
  intro m g m' g' _ hargs
  refine ⟨_, _, _, _, Cert.Kernel25Ideal.Value.run_blocks (F := Ideal) m g, ?_⟩
  refine (θ_run (Cert.Reference25Ideal.defs (F := Ideal)) _ _).mono (fun r h c => ?_) (Cert.Reference25Ideal.Value.run (F := Ideal) m' g')
  refine ⟨(h c).1.trans ?_, (h c).2.1.trans ?_, (h c).2.2.1.trans ?_, (h c).2.2.2.1.trans ?_, (h c).2.2.2.2⟩
  · rw [Cert.Kernel25Ideal.RopeFwd.final_query]
    refine (val_main_v54_eq m' c).trans ?_
    rw [(hargs c).1, (hargs c).2.2.2.2.1, (hargs c).2.2.2.2.2.1, (hargs c).2.2.2.2.2.2]
  · rw [Cert.Kernel25Ideal.RopeFwd.final_key]
    refine (val_main_v109_eq m' c).trans ?_
    rw [(hargs c).2.1, (hargs c).2.2.2.2.1, (hargs c).2.2.2.2.2.1, (hargs c).2.2.2.2.2.2]
  · rw [Cert.Kernel25Ideal.RopeFwd.final_context_key, (hargs c).2.2.1]
  · rw [Cert.Kernel25Ideal.RopeFwd.final_context_value, (hargs c).2.2.2.1]

end Cert.Proof

end
-- ==== Proof.AdamSmall.lean ====
/- The optimiser's step for the small weights: thirteen weights are packed in one array, the step works on each element of it, and the thirteen parts are cut out again. -/
module

public import proofs.«01_k».proof.Defs
public import proofs.«01_k».proof.Proof.Gen.Kernel26Ideal.Frame
public import proofs.«01_k».proof.Proof.Gen.Reference26Ideal.Run
public import proofs.«01_k».proof.Proof.Gen.Reference26Ideal.Read
public import Idealize.ShloMosaic.Lib.Pipeline.ValueKit
public import Idealize.ShloMosaic.Lib.Pointwise
public import Idealize.ShloMosaic.Lib.KernelVsHost
public import Idealize.ShloMosaic.Lib.Claim
public import Idealize.ShloMosaic.Lib.StableHlo.RunRead

@[expose] public section

set_option maxRecDepth 16384

noncomputable section

namespace Cert.Kernel26Ideal.AdamSmall

open Cert.Kernel26Ideal Cert.Kernel26Ideal.Gen Idealize.ShloMosaic Idealize.ShloMosaic.TcCoe Idealize.SL.Sem
open Idealize.ShloMosaic.Pipeline (Dat)

variable (m : (ℓ : Loc nD τ sig) → Buf (Elt Ideal) ℓ)

open Cert.Reference26Ideal.Read

/-- Place n of the thirteen arrays laid one behind the other. -/
def place (n : Nat) (h : n < 28896) : S28896.Idx := fun a => ⟨n, by rw [Subsingleton.elim a 0]; exact h⟩

/-- Flat arrays one behind the other, with zeros behind them. -/
def laid (xs : List ((s : Shape) × (s.Idx → Ideal .f32))) (h : Shape.Concatenates (xs.map (·.1)) S28896 0) : FVec Ideal S29696 .f32 :=
  pad S29696 ![0] ![800] ![0] (concatenate S28896 0 xs h) (sitofp .f32 (constantI S_ 32 0#32) : FVec Ideal S_ .f32) pads_S28896_S29696_08000 h_S_

/-- What is cut out of the row at the place of a part is that part. -/
theorem slice_of {n : Nat} (off k : Nat) (b : (⟨1, ![n]⟩ : Shape).Idx → Ideal .f32) (xs : List ((s : Shape) × (s.Idx → Ideal .f32)))
    (h : Shape.Concatenates (xs.map (·.1)) S28896 0) (sl : S29696.Slices ![off] ⟨1, ![n]⟩) (hk : k < xs.length) (hb : xs[k] = ⟨_, b⟩) (hn : off + n ≤ 28896)
    (hs : (((xs.take k).map (·.1)).map fun s => if h : s.rank = S28896.rank then s.size ((0 : Fin S28896.rank).cast h.symm) else 0).sum = off) :
    extractStridedSlice ⟨1, ![n]⟩ ![off] (laid xs h) sl = b := by
  funext x
  have hx : (x 0).val < n := (x 0).isLt
  unfold extractStridedSlice laid
  refine (pad_apply_of_inside ![0] ![800] ![0] _ _ pads_S28896_S29696_08000 h_S_ _ (place (off + (x 0).val) (by omega)) fun a => ?_).trans ?_
  · rw [Subsingleton.elim a 0]
    show off + (x 0).val = 0 + (off + (x 0).val) * (0 + 1)
    omega
  · exact concatenate_apply_piece (t := S28896) 0 xs h (place (off + (x 0).val) (by omega)) k hk _ b hb rfl off hs x
      (fun a ha => absurd (Subsingleton.elim _ _) ha) rfl

section Parts

variable (b0 : FVec Ideal S1024 .f32) (b1 : FVec Ideal S12288 .f32) (b2 : FVec Ideal S2048 .f32) (b3 : FVec Ideal S8 .f32) (b4 : FVec Ideal S3720 .f32) (b5 : FVec Ideal S3584 .f32) (b6 : FVec Ideal S2048 .f32) (b7 : FVec Ideal S32 .f32) (b8 : FVec Ideal S32 .f32) (b9 : FVec Ideal S16 .f32) (b10 : FVec Ideal S1024 .f32) (b11 : FVec Ideal S2048 .f32) (b12 : FVec Ideal S1024 .f32)

/-- The thirteen flat arrays with their shapes. -/
abbrev pieces : List ((s : Shape) × (s.Idx → Ideal .f32)) := [⟨S1024, b0⟩, ⟨S12288, b1⟩, ⟨S2048, b2⟩, ⟨S8, b3⟩, ⟨S3720, b4⟩, ⟨S3584, b5⟩, ⟨S2048, b6⟩, ⟨S32, b7⟩, ⟨S32, b8⟩, ⟨S16, b9⟩, ⟨S1024, b10⟩, ⟨S2048, b11⟩, ⟨S1024, b12⟩]

/-- The thirteen flat arrays packed in one. -/
def packed : FVec Ideal S1x232x128 .f32 :=
  broadcastInDim S1x232x128 ![1, 2] bcast_S232x128_S1x232x128_1_2 (shapeCast S232x128 (laid (pieces b0 b1 b2 b3 b4 b5 b6 b7 b8 b9 b10 b11 b12)
    concatenates_S1024_S12288_S2048_S8_S3720_S3584_S2048_S32_S32_S16_S1024_S2048_S1024_S28896_d0) shapeCasts_S29696_S232x128)

/-- The packed array as one row of numbers. -/
def unrolled (p : FVec Ideal S1x232x128 .f32) : FVec Ideal S29696 .f32 := shapeCast S29696 (shapeCast S232x128 p shapeCasts_S1x232x128_S232x128) shapeCasts_S232x128_S29696

theorem unrolled_packed : unrolled (packed b0 b1 b2 b3 b4 b5 b6 b7 b8 b9 b10 b11 b12) = laid (pieces b0 b1 b2 b3 b4 b5 b6 b7 b8 b9 b10 b11 b12) concatenates_S1024_S12288_S2048_S8_S3720_S3584_S2048_S32_S32_S16_S1024_S2048_S1024_S28896_d0 := by
  unfold unrolled packed
  generalize laid (pieces b0 b1 b2 b3 b4 b5 b6 b7 b8 b9 b10 b11 b12) _ = q
  have h : shapeCast S232x128 (broadcastInDim S1x232x128 ![1, 2] bcast_S232x128_S1x232x128_1_2 (shapeCast S232x128 q shapeCasts_S29696_S232x128) : FVec Ideal S1x232x128 .f32)
      shapeCasts_S1x232x128_S232x128 = shapeCast S232x128 q shapeCasts_S29696_S232x128 := by
    funext x
    generalize shapeCast S232x128 q shapeCasts_S29696_S232x128 = z
    pointwise []
  rw [h]
  exact shapeCast_shapeCast q _ _

theorem packed_congr {d0 e0 : FVec Ideal S1024 .f32} {d1 e1 : FVec Ideal S12288 .f32} {d2 e2 : FVec Ideal S2048 .f32} {d3 e3 : FVec Ideal S8 .f32} {d4 e4 : FVec Ideal S3720 .f32} {d5 e5 : FVec Ideal S3584 .f32} {d6 e6 : FVec Ideal S2048 .f32} {d7 e7 : FVec Ideal S32 .f32} {d8 e8 : FVec Ideal S32 .f32} {d9 e9 : FVec Ideal S16 .f32} {d10 e10 : FVec Ideal S1024 .f32} {d11 e11 : FVec Ideal S2048 .f32} {d12 e12 : FVec Ideal S1024 .f32}
    (h0 : d0 = e0) (h1 : d1 = e1) (h2 : d2 = e2) (h3 : d3 = e3) (h4 : d4 = e4) (h5 : d5 = e5) (h6 : d6 = e6) (h7 : d7 = e7) (h8 : d8 = e8) (h9 : d9 = e9) (h10 : d10 = e10) (h11 : d11 = e11) (h12 : d12 = e12) :
    packed d0 d1 d2 d3 d4 d5 d6 d7 d8 d9 d10 d11 d12 = packed e0 e1 e2 e3 e4 e5 e6 e7 e8 e9 e10 e11 e12 := by
  subst_vars
  rfl

theorem slice0 : extractStridedSlice S1024 ![0] (unrolled (packed b0 b1 b2 b3 b4 b5 b6 b7 b8 b9 b10 b11 b12)) slices_S29696_S1024_0 = b0 := by
  rw [unrolled_packed]
  exact slice_of 0 0 b0 (pieces b0 b1 b2 b3 b4 b5 b6 b7 b8 b9 b10 b11 b12) _ _ (show 0 < 13 by decide) rfl (by decide) (show (([] : List Nat)).sum = 0 by decide)

theorem slice1 : extractStridedSlice S12288 ![1024] (unrolled (packed b0 b1 b2 b3 b4 b5 b6 b7 b8 b9 b10 b11 b12)) slices_S29696_S12288_1024 = b1 := by
  rw [unrolled_packed]
  exact slice_of 1024 1 b1 (pieces b0 b1 b2 b3 b4 b5 b6 b7 b8 b9 b10 b11 b12) _ _ (show 1 < 13 by decide) rfl (by decide) (show (([1024] : List Nat)).sum = 1024 by decide)

theorem slice2 : extractStridedSlice S2048 ![13312] (unrolled (packed b0 b1 b2 b3 b4 b5 b6 b7 b8 b9 b10 b11 b12)) slices_S29696_S2048_13312 = b2 := by
  rw [unrolled_packed]
  exact slice_of 13312 2 b2 (pieces b0 b1 b2 b3 b4 b5 b6 b7 b8 b9 b10 b11 b12) _ _ (show 2 < 13 by decide) rfl (by decide) (show (([1024, 12288] : List Nat)).sum = 13312 by decide)

theorem slice3 : extractStridedSlice S8 ![15360] (unrolled (packed b0 b1 b2 b3 b4 b5 b6 b7 b8 b9 b10 b11 b12)) slices_S29696_S8_15360 = b3 := by
  rw [unrolled_packed]
  exact slice_of 15360 3 b3 (pieces b0 b1 b2 b3 b4 b5 b6 b7 b8 b9 b10 b11 b12) _ _ (show 3 < 13 by decide) rfl (by decide) (show (([1024, 12288, 2048] : List Nat)).sum = 15360 by decide)

theorem slice4 : extractStridedSlice S3720 ![15368] (unrolled (packed b0 b1 b2 b3 b4 b5 b6 b7 b8 b9 b10 b11 b12)) slices_S29696_S3720_15368 = b4 := by
  rw [unrolled_packed]
  exact slice_of 15368 4 b4 (pieces b0 b1 b2 b3 b4 b5 b6 b7 b8 b9 b10 b11 b12) _ _ (show 4 < 13 by decide) rfl (by decide) (show (([1024, 12288, 2048, 8] : List Nat)).sum = 15368 by decide)

theorem slice5 : extractStridedSlice S3584 ![19088] (unrolled (packed b0 b1 b2 b3 b4 b5 b6 b7 b8 b9 b10 b11 b12)) slices_S29696_S3584_19088 = b5 := by
  rw [unrolled_packed]
  exact slice_of 19088 5 b5 (pieces b0 b1 b2 b3 b4 b5 b6 b7 b8 b9 b10 b11 b12) _ _ (show 5 < 13 by decide) rfl (by decide) (show (([1024, 12288, 2048, 8, 3720] : List Nat)).sum = 19088 by decide)

theorem slice6 : extractStridedSlice S2048 ![22672] (unrolled (packed b0 b1 b2 b3 b4 b5 b6 b7 b8 b9 b10 b11 b12)) slices_S29696_S2048_22672 = b6 := by
  rw [unrolled_packed]
  exact slice_of 22672 6 b6 (pieces b0 b1 b2 b3 b4 b5 b6 b7 b8 b9 b10 b11 b12) _ _ (show 6 < 13 by decide) rfl (by decide) (show (([1024, 12288, 2048, 8, 3720, 3584] : List Nat)).sum = 22672 by decide)

theorem slice7 : extractStridedSlice S32 ![24720] (unrolled (packed b0 b1 b2 b3 b4 b5 b6 b7 b8 b9 b10 b11 b12)) slices_S29696_S32_24720 = b7 := by
  rw [unrolled_packed]
  exact slice_of 24720 7 b7 (pieces b0 b1 b2 b3 b4 b5 b6 b7 b8 b9 b10 b11 b12) _ _ (show 7 < 13 by decide) rfl (by decide) (show (([1024, 12288, 2048, 8, 3720, 3584, 2048] : List Nat)).sum = 24720 by decide)

theorem slice8 : extractStridedSlice S32 ![24752] (unrolled (packed b0 b1 b2 b3 b4 b5 b6 b7 b8 b9 b10 b11 b12)) slices_S29696_S32_24752 = b8 := by
  rw [unrolled_packed]
  exact slice_of 24752 8 b8 (pieces b0 b1 b2 b3 b4 b5 b6 b7 b8 b9 b10 b11 b12) _ _ (show 8 < 13 by decide) rfl (by decide) (show (([1024, 12288, 2048, 8, 3720, 3584, 2048, 32] : List Nat)).sum = 24752 by decide)

theorem slice9 : extractStridedSlice S16 ![24784] (unrolled (packed b0 b1 b2 b3 b4 b5 b6 b7 b8 b9 b10 b11 b12)) slices_S29696_S16_24784 = b9 := by
  rw [unrolled_packed]
  exact slice_of 24784 9 b9 (pieces b0 b1 b2 b3 b4 b5 b6 b7 b8 b9 b10 b11 b12) _ _ (show 9 < 13 by decide) rfl (by decide) (show (([1024, 12288, 2048, 8, 3720, 3584, 2048, 32, 32] : List Nat)).sum = 24784 by decide)

theorem slice10 : extractStridedSlice S1024 ![24800] (unrolled (packed b0 b1 b2 b3 b4 b5 b6 b7 b8 b9 b10 b11 b12)) slices_S29696_S1024_24800 = b10 := by
  rw [unrolled_packed]
  exact slice_of 24800 10 b10 (pieces b0 b1 b2 b3 b4 b5 b6 b7 b8 b9 b10 b11 b12) _ _ (show 10 < 13 by decide) rfl (by decide) (show (([1024, 12288, 2048, 8, 3720, 3584, 2048, 32, 32, 16] : List Nat)).sum = 24800 by decide)

theorem slice11 : extractStridedSlice S2048 ![25824] (unrolled (packed b0 b1 b2 b3 b4 b5 b6 b7 b8 b9 b10 b11 b12)) slices_S29696_S2048_25824 = b11 := by
  rw [unrolled_packed]
  exact slice_of 25824 11 b11 (pieces b0 b1 b2 b3 b4 b5 b6 b7 b8 b9 b10 b11 b12) _ _ (show 11 < 13 by decide) rfl (by decide) (show (([1024, 12288, 2048, 8, 3720, 3584, 2048, 32, 32, 16, 1024] : List Nat)).sum = 25824 by decide)

theorem slice12 : extractStridedSlice S1024 ![27872] (unrolled (packed b0 b1 b2 b3 b4 b5 b6 b7 b8 b9 b10 b11 b12)) slices_S29696_S1024_27872 = b12 := by
  rw [unrolled_packed]
  exact slice_of 27872 12 b12 (pieces b0 b1 b2 b3 b4 b5 b6 b7 b8 b9 b10 b11 b12) _ _ (show 12 < 13 by decide) rfl (by decide) (show (([1024, 12288, 2048, 8, 3720, 3584, 2048, 32, 32, 16, 1024, 2048] : List Nat)).sum = 27872 by decide)

end Parts

/-- The thirteen arrays packed in one. -/
def pack (a0 : FVec Ideal S1024 .f32) (a1 : FVec Ideal S2x6144 .f32) (a2 : FVec Ideal S2x1024 .f32) (a3 : FVec Ideal S2x4 .f32) (a4 : FVec Ideal S2x4x15x31 .f32) (a5 : FVec Ideal S2x7x256 .f32) (a6 : FVec Ideal S2x1024 .f32) (a7 : FVec Ideal S2x2x8 .f32) (a8 : FVec Ideal S2x2x8 .f32) (a9 : FVec Ideal S2x8 .f32) (a10 : FVec Ideal S2x512 .f32) (a11 : FVec Ideal S2x1024 .f32) (a12 : FVec Ideal S1024 .f32) : FVec Ideal S1x232x128 .f32 :=
  packed (a0) (shapeCast S12288 a1 shapeCasts_S2x6144_S12288) (shapeCast S2048 a2 shapeCasts_S2x1024_S2048) (shapeCast S8 a3 shapeCasts_S2x4_S8) (shapeCast S3720 a4 shapeCasts_S2x4x15x31_S3720) (shapeCast S3584 a5 shapeCasts_S2x7x256_S3584) (shapeCast S2048 a6 shapeCasts_S2x1024_S2048) (shapeCast S32 a7 shapeCasts_S2x2x8_S32) (shapeCast S32 a8 shapeCasts_S2x2x8_S32) (shapeCast S16 a9 shapeCasts_S2x8_S16) (shapeCast S1024 a10 shapeCasts_S2x512_S1024) (shapeCast S2048 a11 shapeCasts_S2x1024_S2048) (a12)

/-- Part 0 of a packed array. -/
def cut0 (p : FVec Ideal S1x232x128 .f32) : FVec Ideal S1024 .f32 := extractStridedSlice S1024 ![0] (unrolled p) slices_S29696_S1024_0

/-- Part 1 of a packed array. -/
def cut1 (p : FVec Ideal S1x232x128 .f32) : FVec Ideal S2x6144 .f32 := shapeCast S2x6144 (extractStridedSlice S12288 ![1024] (unrolled p) slices_S29696_S12288_1024) shapeCasts_S12288_S2x6144

/-- Part 2 of a packed array. -/
def cut2 (p : FVec Ideal S1x232x128 .f32) : FVec Ideal S2x1024 .f32 := shapeCast S2x1024 (extractStridedSlice S2048 ![13312] (unrolled p) slices_S29696_S2048_13312) shapeCasts_S2048_S2x1024

/-- Part 3 of a packed array. -/
def cut3 (p : FVec Ideal S1x232x128 .f32) : FVec Ideal S2x4 .f32 := shapeCast S2x4 (extractStridedSlice S8 ![15360] (unrolled p) slices_S29696_S8_15360) shapeCasts_S8_S2x4

/-- Part 4 of a packed array. -/
def cut4 (p : FVec Ideal S1x232x128 .f32) : FVec Ideal S2x4x15x31 .f32 := shapeCast S2x4x15x31 (extractStridedSlice S3720 ![15368] (unrolled p) slices_S29696_S3720_15368) shapeCasts_S3720_S2x4x15x31

/-- Part 5 of a packed array. -/
def cut5 (p : FVec Ideal S1x232x128 .f32) : FVec Ideal S2x7x256 .f32 := shapeCast S2x7x256 (extractStridedSlice S3584 ![19088] (unrolled p) slices_S29696_S3584_19088) shapeCasts_S3584_S2x7x256

/-- Part 6 of a packed array. -/
def cut6 (p : FVec Ideal S1x232x128 .f32) : FVec Ideal S2x1024 .f32 := shapeCast S2x1024 (extractStridedSlice S2048 ![22672] (unrolled p) slices_S29696_S2048_22672) shapeCasts_S2048_S2x1024

/-- Part 7 of a packed array. -/
def cut7 (p : FVec Ideal S1x232x128 .f32) : FVec Ideal S2x2x8 .f32 := shapeCast S2x2x8 (extractStridedSlice S32 ![24720] (unrolled p) slices_S29696_S32_24720) shapeCasts_S32_S2x2x8

/-- Part 8 of a packed array. -/
def cut8 (p : FVec Ideal S1x232x128 .f32) : FVec Ideal S2x2x8 .f32 := shapeCast S2x2x8 (extractStridedSlice S32 ![24752] (unrolled p) slices_S29696_S32_24752) shapeCasts_S32_S2x2x8

/-- Part 9 of a packed array. -/
def cut9 (p : FVec Ideal S1x232x128 .f32) : FVec Ideal S2x8 .f32 := shapeCast S2x8 (extractStridedSlice S16 ![24784] (unrolled p) slices_S29696_S16_24784) shapeCasts_S16_S2x8

/-- Part 10 of a packed array. -/
def cut10 (p : FVec Ideal S1x232x128 .f32) : FVec Ideal S2x512 .f32 := shapeCast S2x512 (extractStridedSlice S1024 ![24800] (unrolled p) slices_S29696_S1024_24800) shapeCasts_S1024_S2x512

/-- Part 11 of a packed array. -/
def cut11 (p : FVec Ideal S1x232x128 .f32) : FVec Ideal S2x1024 .f32 := shapeCast S2x1024 (extractStridedSlice S2048 ![25824] (unrolled p) slices_S29696_S2048_25824) shapeCasts_S2048_S2x1024

/-- Part 12 of a packed array. -/
def cut12 (p : FVec Ideal S1x232x128 .f32) : FVec Ideal S1024 .f32 := extractStridedSlice S1024 ![27872] (unrolled p) slices_S29696_S1024_27872

section Cuts

variable (a0 : FVec Ideal S1024 .f32) (a1 : FVec Ideal S2x6144 .f32) (a2 : FVec Ideal S2x1024 .f32) (a3 : FVec Ideal S2x4 .f32) (a4 : FVec Ideal S2x4x15x31 .f32) (a5 : FVec Ideal S2x7x256 .f32) (a6 : FVec Ideal S2x1024 .f32) (a7 : FVec Ideal S2x2x8 .f32) (a8 : FVec Ideal S2x2x8 .f32) (a9 : FVec Ideal S2x8 .f32) (a10 : FVec Ideal S2x512 .f32) (a11 : FVec Ideal S2x1024 .f32) (a12 : FVec Ideal S1024 .f32)

theorem cut_pack0 : cut0 (pack a0 a1 a2 a3 a4 a5 a6 a7 a8 a9 a10 a11 a12) = a0 := by
  unfold cut0 pack
  rw [slice0]

theorem cut_pack1 : cut1 (pack a0 a1 a2 a3 a4 a5 a6 a7 a8 a9 a10 a11 a12) = a1 := by
  unfold cut1 pack
  rw [slice1]
  exact shapeCast_shapeCast a1 _ _

theorem cut_pack2 : cut2 (pack a0 a1 a2 a3 a4 a5 a6 a7 a8 a9 a10 a11 a12) = a2 := by
  unfold cut2 pack
  rw [slice2]
  exact shapeCast_shapeCast a2 _ _

theorem cut_pack3 : cut3 (pack a0 a1 a2 a3 a4 a5 a6 a7 a8 a9 a10 a11 a12) = a3 := by
  unfold cut3 pack
  rw [slice3]
  exact shapeCast_shapeCast a3 _ _

theorem cut_pack4 : cut4 (pack a0 a1 a2 a3 a4 a5 a6 a7 a8 a9 a10 a11 a12) = a4 := by
  unfold cut4 pack
  rw [slice4]
  exact shapeCast_shapeCast a4 _ _

theorem cut_pack5 : cut5 (pack a0 a1 a2 a3 a4 a5 a6 a7 a8 a9 a10 a11 a12) = a5 := by
  unfold cut5 pack
  rw [slice5]
  exact shapeCast_shapeCast a5 _ _

theorem cut_pack6 : cut6 (pack a0 a1 a2 a3 a4 a5 a6 a7 a8 a9 a10 a11 a12) = a6 := by
  unfold cut6 pack
  rw [slice6]
  exact shapeCast_shapeCast a6 _ _

theorem cut_pack7 : cut7 (pack a0 a1 a2 a3 a4 a5 a6 a7 a8 a9 a10 a11 a12) = a7 := by
  unfold cut7 pack
  rw [slice7]
  exact shapeCast_shapeCast a7 _ _

theorem cut_pack8 : cut8 (pack a0 a1 a2 a3 a4 a5 a6 a7 a8 a9 a10 a11 a12) = a8 := by
  unfold cut8 pack
  rw [slice8]
  exact shapeCast_shapeCast a8 _ _

theorem cut_pack9 : cut9 (pack a0 a1 a2 a3 a4 a5 a6 a7 a8 a9 a10 a11 a12) = a9 := by
  unfold cut9 pack
  rw [slice9]
  exact shapeCast_shapeCast a9 _ _

theorem cut_pack10 : cut10 (pack a0 a1 a2 a3 a4 a5 a6 a7 a8 a9 a10 a11 a12) = a10 := by
  unfold cut10 pack
  rw [slice10]
  exact shapeCast_shapeCast a10 _ _

theorem cut_pack11 : cut11 (pack a0 a1 a2 a3 a4 a5 a6 a7 a8 a9 a10 a11 a12) = a11 := by
  unfold cut11 pack
  rw [slice11]
  exact shapeCast_shapeCast a11 _ _

theorem cut_pack12 : cut12 (pack a0 a1 a2 a3 a4 a5 a6 a7 a8 a9 a10 a11 a12) = a12 := by
  unfold cut12 pack
  rw [slice12]

end Cuts

/-- What is in a buffer before the run. -/
abbrev inp (c : Dev nD) (b : Ref sig .tc) := m ((c : Thread nD τ).loc b)

/-- Where each window's block lies. -/
theorem idx : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] :=
  (by decide +kernel : ∀ t : Fin grid0.N, _)

/-- The packed weights. -/
def weights (c : Dev nD) : FVec Ideal S1x232x128 .f32 := pack (inp m c main_arg0) (inp m c main_arg1) (inp m c main_arg2) (inp m c main_arg3) (inp m c main_arg4) (inp m c main_arg5) (inp m c main_arg6) (inp m c main_arg7) (inp m c main_arg8) (inp m c main_arg9) (inp m c main_arg10) (inp m c main_arg11) (inp m c main_arg12)

theorem V_weights (c : Dev nD) : V m c main_v47 = weights m c := by
  unfold V V0
  after_reads_simp
  unfold weights pack
  refine packed_congr ?_ ?_ ?_ ?_ ?_ ?_ ?_ ?_ ?_ ?_ ?_ ?_ ?_
  all_goals simp only [Matrix.cons_val]
  all_goals after_reads_simp
  all_goals rfl

theorem block_0 (c : Dev nD) (t : Fin cfg0.N) : iblk m c 0 t = weights m c := by
  funext x
  rw [← V_weights m c]
  blk_ext [iblk, idx t]

/-- The packed gradients. -/
def gradients (c : Dev nD) : FVec Ideal S1x232x128 .f32 := pack (inp m c main_arg13) (inp m c main_arg14) (inp m c main_arg15) (inp m c main_arg16) (inp m c main_arg17) (inp m c main_arg18) (inp m c main_arg19) (inp m c main_arg20) (inp m c main_arg21) (inp m c main_arg22) (inp m c main_arg23) (inp m c main_arg24) (inp m c main_arg25)

theorem V_gradients (c : Dev nD) : V m c main_v51 = gradients m c := by
  unfold V V0
  after_reads_simp
  unfold gradients pack
  refine packed_congr ?_ ?_ ?_ ?_ ?_ ?_ ?_ ?_ ?_ ?_ ?_ ?_ ?_
  all_goals simp only [Matrix.cons_val]
  all_goals after_reads_simp
  all_goals rfl

theorem block_1 (c : Dev nD) (t : Fin cfg0.N) : iblk m c 1 t = gradients m c := by
  funext x
  rw [← V_gradients m c]
  blk_ext [iblk, idx t]

/-- The packed first moments. -/
def firsts (c : Dev nD) : FVec Ideal S1x232x128 .f32 := pack (inp m c main_arg26) (inp m c main_arg27) (inp m c main_arg28) (inp m c main_arg29) (inp m c main_arg30) (inp m c main_arg31) (inp m c main_arg32) (inp m c main_arg33) (inp m c main_arg34) (inp m c main_arg35) (inp m c main_arg36) (inp m c main_arg37) (inp m c main_arg38)

theorem V_firsts (c : Dev nD) : V m c main_v55 = firsts m c := by
  unfold V V0
  after_reads_simp
  unfold firsts pack
  refine packed_congr ?_ ?_ ?_ ?_ ?_ ?_ ?_ ?_ ?_ ?_ ?_ ?_ ?_
  all_goals simp only [Matrix.cons_val]
  all_goals after_reads_simp
  all_goals rfl

theorem block_2 (c : Dev nD) (t : Fin cfg0.N) : iblk m c 2 t = firsts m c := by
  funext x
  rw [← V_firsts m c]
  blk_ext [iblk, idx t]

/-- The packed second moments. -/
def seconds (c : Dev nD) : FVec Ideal S1x232x128 .f32 := pack (inp m c main_arg39) (inp m c main_arg40) (inp m c main_arg41) (inp m c main_arg42) (inp m c main_arg43) (inp m c main_arg44) (inp m c main_arg45) (inp m c main_arg46) (inp m c main_arg47) (inp m c main_arg48) (inp m c main_arg49) (inp m c main_arg50) (inp m c main_arg51)

theorem V_seconds (c : Dev nD) : V m c main_v59 = seconds m c := by
  unfold V V0
  after_reads_simp
  unfold seconds pack
  refine packed_congr ?_ ?_ ?_ ?_ ?_ ?_ ?_ ?_ ?_ ?_ ?_ ?_ ?_
  all_goals simp only [Matrix.cons_val]
  all_goals after_reads_simp
  all_goals rfl

theorem block_3 (c : Dev nD) (t : Fin cfg0.N) : iblk m c 3 t = seconds m c := by
  funext x
  rw [← V_seconds m c]
  blk_ext [iblk, idx t]

/-- A place of an array of 1024. -/
def z0 : S1024.Idx := fun a => ⟨0, by rw [Subsingleton.elim a 0]; decide⟩

theorem arr_inj : Function.Injective (Pipeline.arrRef (cfgs 0).spec) := by
  decide +kernel

/-- What the kernel's buffers hold when it ends. -/
abbrev ends (c : Dev nD) (b : Ref sig .tc) := Pipeline.afterTail₀ cfgs (dats m) 0 (V0 m) [hostOps1] c b

theorem lands_4 (t : Fin cfg0.N) (y : S1x232x128.Idx) : (win0_4.blk t).view.emb y = y := by
  blk_ext [idx t]

theorem final_4 (c : Dev nD) : (dats m 0 c).arrAt 4 cfg0.N = k0_pay4 (F := Ideal) (gradients m c) (firsts m c) (seconds m c) (weights m c) := by
  refine (dats m 0 c).arrAt_eq_of_covers 4 _ (by decide +kernel) fun t _ y => ?_
  blk_simp
  rw [after0_4, lands_4 t y, block_0, block_1, block_2, block_3]
  frame_out

/-- The step's result number 0 as a packed array. -/
def out0 (c : Dev nD) : FVec Ideal S1x232x128 .f32 :=
  Pipeline.withArrays (cfgs 0).spec c (V0 m c) (fun w => (dats m 0 c).arrAt w (cfgs 0).N) (Proc.devRef .tc main_v60_0)

theorem out0_eq (c : Dev nD) : out0 m c = k0_pay4 (F := Ideal) (gradients m c) (firsts m c) (seconds m c) (weights m c) :=
  (Pipeline.withArrays_arr (τ := τ) (cfgs 0).spec arr_inj c (V0 m c) (fun w => (dats m 0 c).arrAt w (cfgs 0).N) 4).trans (final_4 m c)

/-- The kernel's step at a place, as the reference's of the numbers there. -/
theorem delta_at (g m v w : FVec Ideal S1x232x128 .f32) (y : S1x232x128.Idx) : k0_pay4 (F := Ideal) g m v w y =
    val_main_v23 (F := Ideal) (fun _ => w y) (fun _ => g y) (fun _ => m y) (fun _ => v y) z0 := by
  pointwise [k0_pay1, k0_pay2, k0_pay3, k0_pay4, val_main_v23, val_main_v21, val_main_v20, val_main_v19, val_main_cst_6, val_main_v18, val_main_v17, val_main_v16, val_main_cst_5, val_main_v15, val_main_v14, val_main_v13, val_main_cst_4, val_main_v10, val_main_v9, val_main_v7, val_main_v8, val_main_cst_2, val_main_v6, val_main_v5, val_main_cst_1, val_main_v12, val_main_v11, val_main_cst_3, val_main_v4, val_main_v3, val_main_v2, val_main_cst_0, val_main_v1, val_main_v0, val_main_cst, val_main_v22, val_main_cst_7]

/-- The step works element by element, so it may be done after cutting out a part. -/
theorem delta_of {s : Shape} (cut : FVec Ideal S1x232x128 .f32 → FVec Ideal s .f32) (hc : ∃ f : s.Idx → S1x232x128.Idx, ∀ p x, cut p x = p (f x))
    (step : FVec Ideal s .f32 → FVec Ideal s .f32 → FVec Ideal s .f32 → FVec Ideal s .f32 → FVec Ideal s .f32) (hv : ∀ b0 b1 b2 b3 x, step b0 b1 b2 b3 x =
      val_main_v23 (F := Ideal) (fun _ => b0 x) (fun _ => b1 x) (fun _ => b2 x) (fun _ => b3 x) z0) (g m v w : FVec Ideal S1x232x128 .f32) :
    cut (k0_pay4 (F := Ideal) g m v w) = step (cut w) (cut g) (cut m) (cut v) := by
  obtain ⟨f, hf⟩ := hc
  funext x
  rw [hf, delta_at, hv, hf w, hf g, hf m, hf v]

theorem lands_5 (t : Fin cfg0.N) (y : S1x232x128.Idx) : (win0_5.blk t).view.emb y = y := by
  blk_ext [idx t]

theorem final_5 (c : Dev nD) : (dats m 0 c).arrAt 5 cfg0.N = k0_pay2 (F := Ideal) (gradients m c) (firsts m c) := by
  refine (dats m 0 c).arrAt_eq_of_covers 5 _ (by decide +kernel) fun t _ y => ?_
  blk_simp
  rw [after0_5, lands_5 t y, block_0, block_1, block_2, block_3]
  frame_out

/-- The step's result number 1 as a packed array. -/
def out1 (c : Dev nD) : FVec Ideal S1x232x128 .f32 :=
  Pipeline.withArrays (cfgs 0).spec c (V0 m c) (fun w => (dats m 0 c).arrAt w (cfgs 0).N) (Proc.devRef .tc main_v60_1)

theorem out1_eq (c : Dev nD) : out1 m c = k0_pay2 (F := Ideal) (gradients m c) (firsts m c) :=
  (Pipeline.withArrays_arr (τ := τ) (cfgs 0).spec arr_inj c (V0 m c) (fun w => (dats m 0 c).arrAt w (cfgs 0).N) 5).trans (final_5 m c)

/-- The kernel's step at a place, as the reference's of the numbers there. -/
theorem first_at (g m : FVec Ideal S1x232x128 .f32) (y : S1x232x128.Idx) : k0_pay2 (F := Ideal) g m y =
    val_main_v4 (F := Ideal) (fun _ => g y) (fun _ => m y) z0 := by
  pointwise [k0_pay1, k0_pay2, k0_pay3, k0_pay4, val_main_v4, val_main_v3, val_main_v2, val_main_cst_0, val_main_v1, val_main_v0, val_main_cst]

/-- The step works element by element, so it may be done after cutting out a part. -/
theorem first_of {s : Shape} (cut : FVec Ideal S1x232x128 .f32 → FVec Ideal s .f32) (hc : ∃ f : s.Idx → S1x232x128.Idx, ∀ p x, cut p x = p (f x))
    (step : FVec Ideal s .f32 → FVec Ideal s .f32 → FVec Ideal s .f32) (hv : ∀ b0 b1 x, step b0 b1 x =
      val_main_v4 (F := Ideal) (fun _ => b0 x) (fun _ => b1 x) z0) (g m : FVec Ideal S1x232x128 .f32) :
    cut (k0_pay2 (F := Ideal) g m) = step (cut g) (cut m) := by
  obtain ⟨f, hf⟩ := hc
  funext x
  rw [hf, first_at, hv, hf g, hf m]

theorem lands_6 (t : Fin cfg0.N) (y : S1x232x128.Idx) : (win0_6.blk t).view.emb y = y := by
  blk_ext [idx t]

theorem final_6 (c : Dev nD) : (dats m 0 c).arrAt 6 cfg0.N = k0_pay3 (F := Ideal) (gradients m c) (seconds m c) := by
  refine (dats m 0 c).arrAt_eq_of_covers 6 _ (by decide +kernel) fun t _ y => ?_
  blk_simp
  rw [after0_6, lands_6 t y, block_0, block_1, block_2, block_3]
  frame_out

/-- The step's result number 2 as a packed array. -/
def out2 (c : Dev nD) : FVec Ideal S1x232x128 .f32 :=
  Pipeline.withArrays (cfgs 0).spec c (V0 m c) (fun w => (dats m 0 c).arrAt w (cfgs 0).N) (Proc.devRef .tc main_v60_2)

theorem out2_eq (c : Dev nD) : out2 m c = k0_pay3 (F := Ideal) (gradients m c) (seconds m c) :=
  (Pipeline.withArrays_arr (τ := τ) (cfgs 0).spec arr_inj c (V0 m c) (fun w => (dats m 0 c).arrAt w (cfgs 0).N) 6).trans (final_6 m c)

/-- The kernel's step at a place, as the reference's of the numbers there. -/
theorem second_at (g v : FVec Ideal S1x232x128 .f32) (y : S1x232x128.Idx) : k0_pay3 (F := Ideal) g v y =
    val_main_v10 (F := Ideal) (fun _ => g y) (fun _ => v y) z0 := by
  pointwise [k0_pay1, k0_pay2, k0_pay3, k0_pay4, val_main_v10, val_main_v9, val_main_v7, val_main_v8, val_main_cst_2, val_main_v6, val_main_v5, val_main_cst_1]

/-- The step works element by element, so it may be done after cutting out a part. -/
theorem second_of {s : Shape} (cut : FVec Ideal S1x232x128 .f32 → FVec Ideal s .f32) (hc : ∃ f : s.Idx → S1x232x128.Idx, ∀ p x, cut p x = p (f x))
    (step : FVec Ideal s .f32 → FVec Ideal s .f32 → FVec Ideal s .f32) (hv : ∀ b0 b1 x, step b0 b1 x =
      val_main_v10 (F := Ideal) (fun _ => b0 x) (fun _ => b1 x) z0) (g v : FVec Ideal S1x232x128 .f32) :
    cut (k0_pay3 (F := Ideal) g v) = step (cut g) (cut v) := by
  obtain ⟨f, hf⟩ := hc
  funext x
  rw [hf, second_at, hv, hf g, hf v]

theorem delta0 (c : Dev nD) : ends m c main_v63 = val_main_v23 (F := Ideal) (inp m c main_arg0) (inp m c main_arg13) (inp m c main_arg26) (inp m c main_arg39) := by
  have h : ends m c main_v63 = cut0 (out0 m c) := by unfold ends Pipeline.afterTail₀ out0; after_reads_simp; rfl
  rw [h, out0_eq, delta_of cut0 ⟨_, fun _ _ => rfl⟩ (val_main_v23 (F := Ideal)) fun _ _ _ _ _ => rfl]
  simp only [weights, gradients, firsts, seconds, cut_pack0]

theorem delta1 (c : Dev nD) : ends m c main_v65 = val_main_v47 (F := Ideal) (inp m c main_arg1) (inp m c main_arg14) (inp m c main_arg27) (inp m c main_arg40) := by
  have h : ends m c main_v65 = cut1 (out0 m c) := by unfold ends Pipeline.afterTail₀ out0; after_reads_simp; rfl
  rw [h, out0_eq, delta_of cut1 ⟨_, fun _ _ => rfl⟩ (val_main_v47 (F := Ideal)) fun _ _ _ _ _ => rfl]
  simp only [weights, gradients, firsts, seconds, cut_pack1]

theorem delta2 (c : Dev nD) : ends m c main_v67 = val_main_v71 (F := Ideal) (inp m c main_arg2) (inp m c main_arg15) (inp m c main_arg28) (inp m c main_arg41) := by
  have h : ends m c main_v67 = cut2 (out0 m c) := by unfold ends Pipeline.afterTail₀ out0; after_reads_simp; rfl
  rw [h, out0_eq, delta_of cut2 ⟨_, fun _ _ => rfl⟩ (val_main_v71 (F := Ideal)) fun _ _ _ _ _ => rfl]
  simp only [weights, gradients, firsts, seconds, cut_pack2]

theorem delta3 (c : Dev nD) : ends m c main_v69 = val_main_v95 (F := Ideal) (inp m c main_arg3) (inp m c main_arg16) (inp m c main_arg29) (inp m c main_arg42) := by
  have h : ends m c main_v69 = cut3 (out0 m c) := by unfold ends Pipeline.afterTail₀ out0; after_reads_simp; rfl
  rw [h, out0_eq, delta_of cut3 ⟨_, fun _ _ => rfl⟩ (val_main_v95 (F := Ideal)) fun _ _ _ _ _ => rfl]
  simp only [weights, gradients, firsts, seconds, cut_pack3]

theorem delta4 (c : Dev nD) : ends m c main_v71 = val_main_v119 (F := Ideal) (inp m c main_arg4) (inp m c main_arg17) (inp m c main_arg30) (inp m c main_arg43) := by
  have h : ends m c main_v71 = cut4 (out0 m c) := by unfold ends Pipeline.afterTail₀ out0; after_reads_simp; rfl
  rw [h, out0_eq, delta_of cut4 ⟨_, fun _ _ => rfl⟩ (val_main_v119 (F := Ideal)) fun _ _ _ _ _ => rfl]
  simp only [weights, gradients, firsts, seconds, cut_pack4]

theorem delta5 (c : Dev nD) : ends m c main_v73 = val_main_v143 (F := Ideal) (inp m c main_arg5) (inp m c main_arg18) (inp m c main_arg31) (inp m c main_arg44) := by
  have h : ends m c main_v73 = cut5 (out0 m c) := by unfold ends Pipeline.afterTail₀ out0; after_reads_simp; rfl
  rw [h, out0_eq, delta_of cut5 ⟨_, fun _ _ => rfl⟩ (val_main_v143 (F := Ideal)) fun _ _ _ _ _ => rfl]
  simp only [weights, gradients, firsts, seconds, cut_pack5]

theorem delta6 (c : Dev nD) : ends m c main_v75 = val_main_v167 (F := Ideal) (inp m c main_arg6) (inp m c main_arg19) (inp m c main_arg32) (inp m c main_arg45) := by
  have h : ends m c main_v75 = cut6 (out0 m c) := by unfold ends Pipeline.afterTail₀ out0; after_reads_simp; rfl
  rw [h, out0_eq, delta_of cut6 ⟨_, fun _ _ => rfl⟩ (val_main_v167 (F := Ideal)) fun _ _ _ _ _ => rfl]
  simp only [weights, gradients, firsts, seconds, cut_pack6]

theorem delta7 (c : Dev nD) : ends m c main_v77 = val_main_v191 (F := Ideal) (inp m c main_arg7) (inp m c main_arg20) (inp m c main_arg33) (inp m c main_arg46) := by
  have h : ends m c main_v77 = cut7 (out0 m c) := by unfold ends Pipeline.afterTail₀ out0; after_reads_simp; rfl
  rw [h, out0_eq, delta_of cut7 ⟨_, fun _ _ => rfl⟩ (val_main_v191 (F := Ideal)) fun _ _ _ _ _ => rfl]
  simp only [weights, gradients, firsts, seconds, cut_pack7]

theorem delta8 (c : Dev nD) : ends m c main_v79 = val_main_v215 (F := Ideal) (inp m c main_arg8) (inp m c main_arg21) (inp m c main_arg34) (inp m c main_arg47) := by
  have h : ends m c main_v79 = cut8 (out0 m c) := by unfold ends Pipeline.afterTail₀ out0; after_reads_simp; rfl
  rw [h, out0_eq, delta_of cut8 ⟨_, fun _ _ => rfl⟩ (val_main_v215 (F := Ideal)) fun _ _ _ _ _ => rfl]
  simp only [weights, gradients, firsts, seconds, cut_pack8]

theorem delta9 (c : Dev nD) : ends m c main_v81 = val_main_v239 (F := Ideal) (inp m c main_arg9) (inp m c main_arg22) (inp m c main_arg35) (inp m c main_arg48) := by
  have h : ends m c main_v81 = cut9 (out0 m c) := by unfold ends Pipeline.afterTail₀ out0; after_reads_simp; rfl
  rw [h, out0_eq, delta_of cut9 ⟨_, fun _ _ => rfl⟩ (val_main_v239 (F := Ideal)) fun _ _ _ _ _ => rfl]
  simp only [weights, gradients, firsts, seconds, cut_pack9]

theorem delta10 (c : Dev nD) : ends m c main_v83 = val_main_v263 (F := Ideal) (inp m c main_arg10) (inp m c main_arg23) (inp m c main_arg36) (inp m c main_arg49) := by
  have h : ends m c main_v83 = cut10 (out0 m c) := by unfold ends Pipeline.afterTail₀ out0; after_reads_simp; rfl
  rw [h, out0_eq, delta_of cut10 ⟨_, fun _ _ => rfl⟩ (val_main_v263 (F := Ideal)) fun _ _ _ _ _ => rfl]
  simp only [weights, gradients, firsts, seconds, cut_pack10]

theorem delta11 (c : Dev nD) : ends m c main_v85 = val_main_v287 (F := Ideal) (inp m c main_arg11) (inp m c main_arg24) (inp m c main_arg37) (inp m c main_arg50) := by
  have h : ends m c main_v85 = cut11 (out0 m c) := by unfold ends Pipeline.afterTail₀ out0; after_reads_simp; rfl
  rw [h, out0_eq, delta_of cut11 ⟨_, fun _ _ => rfl⟩ (val_main_v287 (F := Ideal)) fun _ _ _ _ _ => rfl]
  simp only [weights, gradients, firsts, seconds, cut_pack11]

theorem delta12 (c : Dev nD) : ends m c main_v86 = val_main_v311 (F := Ideal) (inp m c main_arg12) (inp m c main_arg25) (inp m c main_arg38) (inp m c main_arg51) := by
  have h : ends m c main_v86 = cut12 (out0 m c) := by unfold ends Pipeline.afterTail₀ out0; after_reads_simp; rfl
  rw [h, out0_eq, delta_of cut12 ⟨_, fun _ _ => rfl⟩ (val_main_v311 (F := Ideal)) fun _ _ _ _ _ => rfl]
  simp only [weights, gradients, firsts, seconds, cut_pack12]

theorem first0 (c : Dev nD) : ends m c main_v89 = val_main_v4 (F := Ideal) (inp m c main_arg13) (inp m c main_arg26) := by
  have h : ends m c main_v89 = cut0 (out1 m c) := by unfold ends Pipeline.afterTail₀ out1; after_reads_simp; rfl
  rw [h, out1_eq, first_of cut0 ⟨_, fun _ _ => rfl⟩ (val_main_v4 (F := Ideal)) fun _ _ _ => rfl]
  simp only [gradients, firsts, cut_pack0]

theorem first1 (c : Dev nD) : ends m c main_v91 = val_main_v28 (F := Ideal) (inp m c main_arg14) (inp m c main_arg27) := by
  have h : ends m c main_v91 = cut1 (out1 m c) := by unfold ends Pipeline.afterTail₀ out1; after_reads_simp; rfl
  rw [h, out1_eq, first_of cut1 ⟨_, fun _ _ => rfl⟩ (val_main_v28 (F := Ideal)) fun _ _ _ => rfl]
  simp only [gradients, firsts, cut_pack1]

theorem first2 (c : Dev nD) : ends m c main_v93 = val_main_v52 (F := Ideal) (inp m c main_arg15) (inp m c main_arg28) := by
  have h : ends m c main_v93 = cut2 (out1 m c) := by unfold ends Pipeline.afterTail₀ out1; after_reads_simp; rfl
  rw [h, out1_eq, first_of cut2 ⟨_, fun _ _ => rfl⟩ (val_main_v52 (F := Ideal)) fun _ _ _ => rfl]
  simp only [gradients, firsts, cut_pack2]

theorem first3 (c : Dev nD) : ends m c main_v95 = val_main_v76 (F := Ideal) (inp m c main_arg16) (inp m c main_arg29) := by
  have h : ends m c main_v95 = cut3 (out1 m c) := by unfold ends Pipeline.afterTail₀ out1; after_reads_simp; rfl
  rw [h, out1_eq, first_of cut3 ⟨_, fun _ _ => rfl⟩ (val_main_v76 (F := Ideal)) fun _ _ _ => rfl]
  simp only [gradients, firsts, cut_pack3]

theorem first4 (c : Dev nD) : ends m c main_v97 = val_main_v100 (F := Ideal) (inp m c main_arg17) (inp m c main_arg30) := by
  have h : ends m c main_v97 = cut4 (out1 m c) := by unfold ends Pipeline.afterTail₀ out1; after_reads_simp; rfl
  rw [h, out1_eq, first_of cut4 ⟨_, fun _ _ => rfl⟩ (val_main_v100 (F := Ideal)) fun _ _ _ => rfl]
  simp only [gradients, firsts, cut_pack4]

theorem first5 (c : Dev nD) : ends m c main_v99 = val_main_v124 (F := Ideal) (inp m c main_arg18) (inp m c main_arg31) := by
  have h : ends m c main_v99 = cut5 (out1 m c) := by unfold ends Pipeline.afterTail₀ out1; after_reads_simp; rfl
  rw [h, out1_eq, first_of cut5 ⟨_, fun _ _ => rfl⟩ (val_main_v124 (F := Ideal)) fun _ _ _ => rfl]
  simp only [gradients, firsts, cut_pack5]

theorem first6 (c : Dev nD) : ends m c main_v101 = val_main_v148 (F := Ideal) (inp m c main_arg19) (inp m c main_arg32) := by
  have h : ends m c main_v101 = cut6 (out1 m c) := by unfold ends Pipeline.afterTail₀ out1; after_reads_simp; rfl
  rw [h, out1_eq, first_of cut6 ⟨_, fun _ _ => rfl⟩ (val_main_v148 (F := Ideal)) fun _ _ _ => rfl]
  simp only [gradients, firsts, cut_pack6]

theorem first7 (c : Dev nD) : ends m c main_v103 = val_main_v172 (F := Ideal) (inp m c main_arg20) (inp m c main_arg33) := by
  have h : ends m c main_v103 = cut7 (out1 m c) := by unfold ends Pipeline.afterTail₀ out1; after_reads_simp; rfl
  rw [h, out1_eq, first_of cut7 ⟨_, fun _ _ => rfl⟩ (val_main_v172 (F := Ideal)) fun _ _ _ => rfl]
  simp only [gradients, firsts, cut_pack7]

theorem first8 (c : Dev nD) : ends m c main_v105 = val_main_v196 (F := Ideal) (inp m c main_arg21) (inp m c main_arg34) := by
  have h : ends m c main_v105 = cut8 (out1 m c) := by unfold ends Pipeline.afterTail₀ out1; after_reads_simp; rfl
  rw [h, out1_eq, first_of cut8 ⟨_, fun _ _ => rfl⟩ (val_main_v196 (F := Ideal)) fun _ _ _ => rfl]
  simp only [gradients, firsts, cut_pack8]

theorem first9 (c : Dev nD) : ends m c main_v107 = val_main_v220 (F := Ideal) (inp m c main_arg22) (inp m c main_arg35) := by
  have h : ends m c main_v107 = cut9 (out1 m c) := by unfold ends Pipeline.afterTail₀ out1; after_reads_simp; rfl
  rw [h, out1_eq, first_of cut9 ⟨_, fun _ _ => rfl⟩ (val_main_v220 (F := Ideal)) fun _ _ _ => rfl]
  simp only [gradients, firsts, cut_pack9]

theorem first10 (c : Dev nD) : ends m c main_v109 = val_main_v244 (F := Ideal) (inp m c main_arg23) (inp m c main_arg36) := by
  have h : ends m c main_v109 = cut10 (out1 m c) := by unfold ends Pipeline.afterTail₀ out1; after_reads_simp; rfl
  rw [h, out1_eq, first_of cut10 ⟨_, fun _ _ => rfl⟩ (val_main_v244 (F := Ideal)) fun _ _ _ => rfl]
  simp only [gradients, firsts, cut_pack10]

theorem first11 (c : Dev nD) : ends m c main_v111 = val_main_v268 (F := Ideal) (inp m c main_arg24) (inp m c main_arg37) := by
  have h : ends m c main_v111 = cut11 (out1 m c) := by unfold ends Pipeline.afterTail₀ out1; after_reads_simp; rfl
  rw [h, out1_eq, first_of cut11 ⟨_, fun _ _ => rfl⟩ (val_main_v268 (F := Ideal)) fun _ _ _ => rfl]
  simp only [gradients, firsts, cut_pack11]

theorem first12 (c : Dev nD) : ends m c main_v112 = val_main_v292 (F := Ideal) (inp m c main_arg25) (inp m c main_arg38) := by
  have h : ends m c main_v112 = cut12 (out1 m c) := by unfold ends Pipeline.afterTail₀ out1; after_reads_simp; rfl
  rw [h, out1_eq, first_of cut12 ⟨_, fun _ _ => rfl⟩ (val_main_v292 (F := Ideal)) fun _ _ _ => rfl]
  simp only [gradients, firsts, cut_pack12]

theorem second0 (c : Dev nD) : ends m c main_v115 = val_main_v10 (F := Ideal) (inp m c main_arg13) (inp m c main_arg39) := by
  have h : ends m c main_v115 = cut0 (out2 m c) := by unfold ends Pipeline.afterTail₀ out2; after_reads_simp; rfl
  rw [h, out2_eq, second_of cut0 ⟨_, fun _ _ => rfl⟩ (val_main_v10 (F := Ideal)) fun _ _ _ => rfl]
  simp only [gradients, seconds, cut_pack0]

theorem second1 (c : Dev nD) : ends m c main_v117 = val_main_v34 (F := Ideal) (inp m c main_arg14) (inp m c main_arg40) := by
  have h : ends m c main_v117 = cut1 (out2 m c) := by unfold ends Pipeline.afterTail₀ out2; after_reads_simp; rfl
  rw [h, out2_eq, second_of cut1 ⟨_, fun _ _ => rfl⟩ (val_main_v34 (F := Ideal)) fun _ _ _ => rfl]
  simp only [gradients, seconds, cut_pack1]

theorem second2 (c : Dev nD) : ends m c main_v119 = val_main_v58 (F := Ideal) (inp m c main_arg15) (inp m c main_arg41) := by
  have h : ends m c main_v119 = cut2 (out2 m c) := by unfold ends Pipeline.afterTail₀ out2; after_reads_simp; rfl
  rw [h, out2_eq, second_of cut2 ⟨_, fun _ _ => rfl⟩ (val_main_v58 (F := Ideal)) fun _ _ _ => rfl]
  simp only [gradients, seconds, cut_pack2]

theorem second3 (c : Dev nD) : ends m c main_v121 = val_main_v82 (F := Ideal) (inp m c main_arg16) (inp m c main_arg42) := by
  have h : ends m c main_v121 = cut3 (out2 m c) := by unfold ends Pipeline.afterTail₀ out2; after_reads_simp; rfl
  rw [h, out2_eq, second_of cut3 ⟨_, fun _ _ => rfl⟩ (val_main_v82 (F := Ideal)) fun _ _ _ => rfl]
  simp only [gradients, seconds, cut_pack3]

theorem second4 (c : Dev nD) : ends m c main_v123 = val_main_v106 (F := Ideal) (inp m c main_arg17) (inp m c main_arg43) := by
  have h : ends m c main_v123 = cut4 (out2 m c) := by unfold ends Pipeline.afterTail₀ out2; after_reads_simp; rfl
  rw [h, out2_eq, second_of cut4 ⟨_, fun _ _ => rfl⟩ (val_main_v106 (F := Ideal)) fun _ _ _ => rfl]
  simp only [gradients, seconds, cut_pack4]

theorem second5 (c : Dev nD) : ends m c main_v125 = val_main_v130 (F := Ideal) (inp m c main_arg18) (inp m c main_arg44) := by
  have h : ends m c main_v125 = cut5 (out2 m c) := by unfold ends Pipeline.afterTail₀ out2; after_reads_simp; rfl
  rw [h, out2_eq, second_of cut5 ⟨_, fun _ _ => rfl⟩ (val_main_v130 (F := Ideal)) fun _ _ _ => rfl]
  simp only [gradients, seconds, cut_pack5]

theorem second6 (c : Dev nD) : ends m c main_v127 = val_main_v154 (F := Ideal) (inp m c main_arg19) (inp m c main_arg45) := by
  have h : ends m c main_v127 = cut6 (out2 m c) := by unfold ends Pipeline.afterTail₀ out2; after_reads_simp; rfl
  rw [h, out2_eq, second_of cut6 ⟨_, fun _ _ => rfl⟩ (val_main_v154 (F := Ideal)) fun _ _ _ => rfl]
  simp only [gradients, seconds, cut_pack6]

theorem second7 (c : Dev nD) : ends m c main_v129 = val_main_v178 (F := Ideal) (inp m c main_arg20) (inp m c main_arg46) := by
  have h : ends m c main_v129 = cut7 (out2 m c) := by unfold ends Pipeline.afterTail₀ out2; after_reads_simp; rfl
  rw [h, out2_eq, second_of cut7 ⟨_, fun _ _ => rfl⟩ (val_main_v178 (F := Ideal)) fun _ _ _ => rfl]
  simp only [gradients, seconds, cut_pack7]

theorem second8 (c : Dev nD) : ends m c main_v131 = val_main_v202 (F := Ideal) (inp m c main_arg21) (inp m c main_arg47) := by
  have h : ends m c main_v131 = cut8 (out2 m c) := by unfold ends Pipeline.afterTail₀ out2; after_reads_simp; rfl
  rw [h, out2_eq, second_of cut8 ⟨_, fun _ _ => rfl⟩ (val_main_v202 (F := Ideal)) fun _ _ _ => rfl]
  simp only [gradients, seconds, cut_pack8]

theorem second9 (c : Dev nD) : ends m c main_v133 = val_main_v226 (F := Ideal) (inp m c main_arg22) (inp m c main_arg48) := by
  have h : ends m c main_v133 = cut9 (out2 m c) := by unfold ends Pipeline.afterTail₀ out2; after_reads_simp; rfl
  rw [h, out2_eq, second_of cut9 ⟨_, fun _ _ => rfl⟩ (val_main_v226 (F := Ideal)) fun _ _ _ => rfl]
  simp only [gradients, seconds, cut_pack9]

theorem second10 (c : Dev nD) : ends m c main_v135 = val_main_v250 (F := Ideal) (inp m c main_arg23) (inp m c main_arg49) := by
  have h : ends m c main_v135 = cut10 (out2 m c) := by unfold ends Pipeline.afterTail₀ out2; after_reads_simp; rfl
  rw [h, out2_eq, second_of cut10 ⟨_, fun _ _ => rfl⟩ (val_main_v250 (F := Ideal)) fun _ _ _ => rfl]
  simp only [gradients, seconds, cut_pack10]

theorem second11 (c : Dev nD) : ends m c main_v137 = val_main_v274 (F := Ideal) (inp m c main_arg24) (inp m c main_arg50) := by
  have h : ends m c main_v137 = cut11 (out2 m c) := by unfold ends Pipeline.afterTail₀ out2; after_reads_simp; rfl
  rw [h, out2_eq, second_of cut11 ⟨_, fun _ _ => rfl⟩ (val_main_v274 (F := Ideal)) fun _ _ _ => rfl]
  simp only [gradients, seconds, cut_pack11]

theorem second12 (c : Dev nD) : ends m c main_v138 = val_main_v298 (F := Ideal) (inp m c main_arg25) (inp m c main_arg51) := by
  have h : ends m c main_v138 = cut12 (out2 m c) := by unfold ends Pipeline.afterTail₀ out2; after_reads_simp; rfl
  rw [h, out2_eq, second_of cut12 ⟨_, fun _ _ => rfl⟩ (val_main_v298 (F := Ideal)) fun _ _ _ => rfl]
  simp only [gradients, seconds, cut_pack12]

end Cert.Kernel26Ideal.AdamSmall

namespace Cert.Proof

open Idealize.ShloMosaic Idealize.SL.Sem Cert.Kernel26Ideal.AdamSmall Cert.Reference26Ideal.Read

/-- From equal arguments the kernel and the reference end with equal results: the updates and the new moments of the thirteen small weights. -/
theorem algebraic_adamSmall : Cert.algebraic_Kernel26Ideal_Reference26Ideal (hKernel26Ideal := Cert.Kernel26Ideal.Gen.facts)
    (hReference26Ideal := Cert.Reference26Ideal.Gen.facts) := by
  intro m g m' g' _ hargs
  refine ⟨_, _, _, _, _, _, _, _, _, _, _, _, _, _, _, _, _, _, _, _, _, _, _, _, _, _, _, _, _, _, _, _, _, _, _, _, _, _, _, (θ_run (Cert.Kernel26Ideal.defs (F := Ideal)) _ _).mono (fun r h c =>
    ⟨(h.1.rest_eq c Cert.Kernel26Ideal.main_v63 (by decide)).trans (delta0 m c),
      (h.1.rest_eq c Cert.Kernel26Ideal.main_v65 (by decide)).trans (delta1 m c),
      (h.1.rest_eq c Cert.Kernel26Ideal.main_v67 (by decide)).trans (delta2 m c),
      (h.1.rest_eq c Cert.Kernel26Ideal.main_v69 (by decide)).trans (delta3 m c),
      (h.1.rest_eq c Cert.Kernel26Ideal.main_v71 (by decide)).trans (delta4 m c),
      (h.1.rest_eq c Cert.Kernel26Ideal.main_v73 (by decide)).trans (delta5 m c),
      (h.1.rest_eq c Cert.Kernel26Ideal.main_v75 (by decide)).trans (delta6 m c),
      (h.1.rest_eq c Cert.Kernel26Ideal.main_v77 (by decide)).trans (delta7 m c),
      (h.1.rest_eq c Cert.Kernel26Ideal.main_v79 (by decide)).trans (delta8 m c),
      (h.1.rest_eq c Cert.Kernel26Ideal.main_v81 (by decide)).trans (delta9 m c),
      (h.1.rest_eq c Cert.Kernel26Ideal.main_v83 (by decide)).trans (delta10 m c),
      (h.1.rest_eq c Cert.Kernel26Ideal.main_v85 (by decide)).trans (delta11 m c),
      (h.1.rest_eq c Cert.Kernel26Ideal.main_v86 (by decide)).trans (delta12 m c),
      (h.1.rest_eq c Cert.Kernel26Ideal.main_v89 (by decide)).trans (first0 m c),
      (h.1.rest_eq c Cert.Kernel26Ideal.main_v91 (by decide)).trans (first1 m c),
      (h.1.rest_eq c Cert.Kernel26Ideal.main_v93 (by decide)).trans (first2 m c),
      (h.1.rest_eq c Cert.Kernel26Ideal.main_v95 (by decide)).trans (first3 m c),
      (h.1.rest_eq c Cert.Kernel26Ideal.main_v97 (by decide)).trans (first4 m c),
      (h.1.rest_eq c Cert.Kernel26Ideal.main_v99 (by decide)).trans (first5 m c),
      (h.1.rest_eq c Cert.Kernel26Ideal.main_v101 (by decide)).trans (first6 m c),
      (h.1.rest_eq c Cert.Kernel26Ideal.main_v103 (by decide)).trans (first7 m c),
      (h.1.rest_eq c Cert.Kernel26Ideal.main_v105 (by decide)).trans (first8 m c),
      (h.1.rest_eq c Cert.Kernel26Ideal.main_v107 (by decide)).trans (first9 m c),
      (h.1.rest_eq c Cert.Kernel26Ideal.main_v109 (by decide)).trans (first10 m c),
      (h.1.rest_eq c Cert.Kernel26Ideal.main_v111 (by decide)).trans (first11 m c),
      (h.1.rest_eq c Cert.Kernel26Ideal.main_v112 (by decide)).trans (first12 m c),
      (h.1.rest_eq c Cert.Kernel26Ideal.main_v115 (by decide)).trans (second0 m c),
      (h.1.rest_eq c Cert.Kernel26Ideal.main_v117 (by decide)).trans (second1 m c),
      (h.1.rest_eq c Cert.Kernel26Ideal.main_v119 (by decide)).trans (second2 m c),
      (h.1.rest_eq c Cert.Kernel26Ideal.main_v121 (by decide)).trans (second3 m c),
      (h.1.rest_eq c Cert.Kernel26Ideal.main_v123 (by decide)).trans (second4 m c),
      (h.1.rest_eq c Cert.Kernel26Ideal.main_v125 (by decide)).trans (second5 m c),
      (h.1.rest_eq c Cert.Kernel26Ideal.main_v127 (by decide)).trans (second6 m c),
      (h.1.rest_eq c Cert.Kernel26Ideal.main_v129 (by decide)).trans (second7 m c),
      (h.1.rest_eq c Cert.Kernel26Ideal.main_v131 (by decide)).trans (second8 m c),
      (h.1.rest_eq c Cert.Kernel26Ideal.main_v133 (by decide)).trans (second9 m c),
      (h.1.rest_eq c Cert.Kernel26Ideal.main_v135 (by decide)).trans (second10 m c),
      (h.1.rest_eq c Cert.Kernel26Ideal.main_v137 (by decide)).trans (second11 m c),
      (h.1.rest_eq c Cert.Kernel26Ideal.main_v138 (by decide)).trans (second12 m c),
      h.2 c⟩) (θ_run_and (Cert.Kernel26Ideal.Gen.run_main m g) (Cert.Kernel26Ideal.Gen.unchanged m g)), ?_⟩
  refine (θ_run (Cert.Reference26Ideal.defs (F := Ideal)) _ _).mono (fun r h c => ?_) (Cert.Reference26Ideal.Value.run (F := Ideal) m' g')
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51⟩ := hargs c
  obtain ⟨r0, r1, r2, r3, r4, r5, r6, r7, r8, r9, r10, r11, r12, r13, r14, r15, r16, r17, r18, r19, r20, r21, r22, r23, r24, r25, r26, r27, r28, r29, r30, r31, r32, r33, r34, r35, r36, r37, r38, rest⟩ := h c
  refine ⟨r0.trans ((val_main_v23_eq _).trans ?_),
    r1.trans ((val_main_v47_eq _).trans ?_),
    r2.trans ((val_main_v71_eq _).trans ?_),
    r3.trans ((val_main_v95_eq _).trans ?_),
    r4.trans ((val_main_v119_eq _).trans ?_),
    r5.trans ((val_main_v143_eq _).trans ?_),
    r6.trans ((val_main_v167_eq _).trans ?_),
    r7.trans ((val_main_v191_eq _).trans ?_),
    r8.trans ((val_main_v215_eq _).trans ?_),
    r9.trans ((val_main_v239_eq _).trans ?_),
    r10.trans ((val_main_v263_eq _).trans ?_),
    r11.trans ((val_main_v287_eq _).trans ?_),
    r12.trans ((val_main_v311_eq _).trans ?_),
    r13.trans ((val_main_v4_eq _).trans ?_),
    r14.trans ((val_main_v28_eq _).trans ?_),
    r15.trans ((val_main_v52_eq _).trans ?_),
    r16.trans ((val_main_v76_eq _).trans ?_),
    r17.trans ((val_main_v100_eq _).trans ?_),
    r18.trans ((val_main_v124_eq _).trans ?_),
    r19.trans ((val_main_v148_eq _).trans ?_),
    r20.trans ((val_main_v172_eq _).trans ?_),
    r21.trans ((val_main_v196_eq _).trans ?_),
    r22.trans ((val_main_v220_eq _).trans ?_),
    r23.trans ((val_main_v244_eq _).trans ?_),
    r24.trans ((val_main_v268_eq _).trans ?_),
    r25.trans ((val_main_v292_eq _).trans ?_),
    r26.trans ((val_main_v10_eq _).trans ?_),
    r27.trans ((val_main_v34_eq _).trans ?_),
    r28.trans ((val_main_v58_eq _).trans ?_),
    r29.trans ((val_main_v82_eq _).trans ?_),
    r30.trans ((val_main_v106_eq _).trans ?_),
    r31.trans ((val_main_v130_eq _).trans ?_),
    r32.trans ((val_main_v154_eq _).trans ?_),
    r33.trans ((val_main_v178_eq _).trans ?_),
    r34.trans ((val_main_v202_eq _).trans ?_),
    r35.trans ((val_main_v226_eq _).trans ?_),
    r36.trans ((val_main_v250_eq _).trans ?_),
    r37.trans ((val_main_v274_eq _).trans ?_),
    r38.trans ((val_main_v298_eq _).trans ?_), rest⟩
  all_goals simp only [StableHlo.launchContents_devRef, h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51]

end Cert.Proof

end
-- ==== Proof.lean ====
/- The assembly of the certificate: the frames (generated for the kernels; read off the generated runs for the references)
   and the value claims, each proved in a module of its own. -/
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Pre_cotangents_finite
public import proofs.«01_k».proof.Proof.FfnDx
public import proofs.«01_k».proof.Proof.FfnDw
public import proofs.«01_k».proof.Proof.DownDw
public import proofs.«01_k».proof.Proof.OutDx
public import proofs.«01_k».proof.Proof.OutDw
public import proofs.«01_k».proof.Proof.InDx
public import proofs.«01_k».proof.Proof.UpFwd
public import proofs.«01_k».proof.Proof.DownFwd
public import proofs.«01_k».proof.Proof.InFwd
public import proofs.«01_k».proof.Proof.OutFwd
public import proofs.«01_k».proof.Proof.InDw
public import proofs.«01_k».proof.Proof.ActDx
public import proofs.«01_k».proof.Proof.ConvDx
public import proofs.«01_k».proof.Proof.NormDx
public import proofs.«01_k».proof.Proof.RopeDx
public import proofs.«01_k».proof.Proof.SsmOut
public import proofs.«01_k».proof.Proof.ConvFwd
public import proofs.«01_k».proof.Proof.NormFwd
public import proofs.«01_k».proof.Proof.AdamIn
public import proofs.«01_k».proof.Proof.AdamUp
public import proofs.«01_k».proof.Proof.AdamDown
public import proofs.«01_k».proof.Proof.AdamOut
public import proofs.«01_k».proof.Proof.AdamMod
public import proofs.«01_k».proof.Proof.RopeFwd
public import proofs.«01_k».proof.Proof.AdamSmall
public import Idealize.ShloMosaic.Adequacy
public import Idealize.ShloMosaic.Init

@[expose] public section

noncomputable section

namespace Cert.Proof

open Idealize.ShloMosaic Idealize.SL.Sem Cert.Kernel2

/-- The reference of the feed-forward block's input gradient runs on the host alone: its arguments stay, and it declares no semaphore. -/
theorem quiescent_ref2 : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The reference of the gradient of the first feed-forward weight runs on the host alone: its arguments stay, and it declares no semaphore. -/
theorem quiescent_ref3 : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The reference of the gradient of the second feed-forward weight runs on the host alone: its arguments stay, and it declares no semaphore. -/
theorem quiescent_ref4 : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The reference of the mixers' cotangents runs on the host alone: its arguments stay, and it declares no semaphore. -/
theorem quiescent_ref5 : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The reference of the output projection's weight gradient runs on the host alone: its arguments stay, and it declares no semaphore. -/
theorem quiescent_ref6 : Cert.quiescent_Reference6Ideal (hReference6Ideal := Cert.Reference6Ideal.Gen.facts) := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The reference of the input projection's input gradient runs on the host alone: its arguments stay, and it declares no semaphore. -/
theorem quiescent_ref7 : Cert.quiescent_Reference7Ideal (hReference7Ideal := Cert.Reference7Ideal.Gen.facts) := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- The reference of the first feed-forward product with its gate runs on the host alone: its arguments stay, and it declares no semaphore. -/
theorem quiescent_ref8 : Cert.quiescent_Reference8Ideal (hReference8Ideal := Cert.Reference8Ideal.Gen.facts) := fun m ρ _ =>
  (θ_run Cert.Reference8Ideal.defs _ _).mono (fun r h => ⟨fun c => (h c).2.2, Idealize.ShloMosaic.sem_eq_zero_of_no_sems (by decide) r.2⟩)
    (Cert.Reference8Ideal.Value.run (F := Ideal) m ρ)

/-- The reference of the second feed-forward product runs on the host alone: its arguments stay, and it declares no semaphore. -/
theorem quiescent_ref9 : Cert.quiescent_Reference9Ideal (hReference9Ideal := Cert.Reference9Ideal.Gen.facts) := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

/-- The reference of the input projection runs on the host alone: its arguments stay, and it declares no semaphore. -/
theorem quiescent_ref10 : Cert.quiescent_Reference10Ideal (hReference10Ideal := Cert.Reference10Ideal.Gen.facts) := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

/-- The reference of the output projection runs on the host alone: its arguments stay, and it declares no semaphore. -/
theorem quiescent_ref11 : Cert.quiescent_Reference11Ideal (hReference11Ideal := Cert.Reference11Ideal.Gen.facts) := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

/-- The reference of the input projection's weight gradient runs on the host alone: its arguments stay, and it declares no semaphore. -/
theorem quiescent_ref12 : Cert.quiescent_Reference12Ideal (hReference12Ideal := Cert.Reference12Ideal.Gen.facts) := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

/-- The reference of the activation's gradient runs on the host alone: its arguments stay, and it declares no semaphore. -/
theorem quiescent_ref13 : Cert.quiescent_Reference13Ideal (hReference13Ideal := Cert.Reference13Ideal.Gen.facts) := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

/-- The reference of the convolution's gradient runs on the host alone: its arguments stay, and it declares no semaphore. -/
theorem quiescent_ref14 : Cert.quiescent_Reference14Ideal (hReference14Ideal := Cert.Reference14Ideal.Gen.facts) := fun m ρ _ =>
  (θ_run Cert.Reference14Ideal.defs _ _).mono (fun r h => ⟨fun c => (h c).2, Idealize.ShloMosaic.sem_eq_zero_of_no_sems (by decide) r.2⟩)
    (Cert.Reference14Ideal.Value.run (F := Ideal) m ρ)

/-- The reference of the gradient of the skip, gate and norm runs on the host alone: its arguments stay, and it declares no semaphore. -/
theorem quiescent_ref15 : Cert.quiescent_Reference15Ideal (hReference15Ideal := Cert.Reference15Ideal.Gen.facts) := fun m ρ _ =>
  (θ_run Cert.Reference15Ideal.defs _ _).mono (fun r h => ⟨fun c => (h c).2.2.2.2, Idealize.ShloMosaic.sem_eq_zero_of_no_sems (by decide) r.2⟩)
    (Cert.Reference15Ideal.Value.run (F := Ideal) m ρ)

/-- The reference of the gradient of the rotary embedding runs on the host alone: its arguments stay, and it declares no semaphore. -/
theorem quiescent_ref16 : Cert.quiescent_Reference16Ideal (hReference16Ideal := Cert.Reference16Ideal.Gen.facts) := fun m ρ _ =>
  (θ_run Cert.Reference16Ideal.defs _ _).mono (fun r h => ⟨fun c => (h c).2.2, Idealize.ShloMosaic.sem_eq_zero_of_no_sems (by decide) r.2⟩)
    (Cert.Reference16Ideal.Value.run (F := Ideal) m ρ)

/-- The reference of the skip, gate and norm runs on the host alone: its arguments stay, and it declares no semaphore. -/
theorem quiescent_ref17 : Cert.quiescent_Reference17Ideal (hReference17Ideal := Cert.Reference17Ideal.Gen.facts) := fun m ρ _ =>
  (θ_run Cert.Reference17Ideal.defs _ _).mono (fun r h => ⟨fun c => (h c).2, Idealize.ShloMosaic.sem_eq_zero_of_no_sems (by decide) r.2⟩)
    (Cert.Reference17Ideal.Value.run (F := Ideal) m ρ)

/-- The reference of the convolution and its activation runs on the host alone: its arguments stay, and it declares no semaphore. -/
theorem quiescent_ref18 : Cert.quiescent_Reference18Ideal (hReference18Ideal := Cert.Reference18Ideal.Gen.facts) := fun m ρ _ =>
  (θ_run Cert.Reference18Ideal.defs _ _).mono (fun r h => ⟨fun c => (h c).2.2, Idealize.ShloMosaic.sem_eq_zero_of_no_sems (by decide) r.2⟩)
    (Cert.Reference18Ideal.Value.run (F := Ideal) m ρ)

/-- The reference of the residual, norm and modulation runs on the host alone: its arguments stay, and it declares no semaphore. -/
theorem quiescent_ref19 : Cert.quiescent_Reference19Ideal (hReference19Ideal := Cert.Reference19Ideal.Gen.facts) := fun m ρ _ =>
  (θ_run Cert.Reference19Ideal.defs _ _).mono (fun r h => ⟨fun c => (h c).2.2, Idealize.ShloMosaic.sem_eq_zero_of_no_sems (by decide) r.2⟩)
    (Cert.Reference19Ideal.Value.run (F := Ideal) m ρ)

/-- The reference of the optimiser's step for the input projection's weight runs on the host alone: its arguments stay, and it declares no semaphore. -/
theorem quiescent_ref20 : Cert.quiescent_Reference20Ideal (hReference20Ideal := Cert.Reference20Ideal.Gen.facts) := fun m ρ _ =>
  (θ_run Cert.Reference20Ideal.defs _ _).mono (fun r h => ⟨fun c => (h c).2.2.2, Idealize.ShloMosaic.sem_eq_zero_of_no_sems (by decide) r.2⟩)
    (Cert.Reference20Ideal.Value.run (F := Ideal) m ρ)

/-- The reference of the optimiser's step for the first feed-forward weight runs on the host alone: its arguments stay, and it declares no semaphore. -/
theorem quiescent_ref21 : Cert.quiescent_Reference21Ideal (hReference21Ideal := Cert.Reference21Ideal.Gen.facts) := fun m ρ _ =>
  (θ_run Cert.Reference21Ideal.defs _ _).mono (fun r h => ⟨fun c => (h c).2.2.2, Idealize.ShloMosaic.sem_eq_zero_of_no_sems (by decide) r.2⟩)
    (Cert.Reference21Ideal.Value.run (F := Ideal) m ρ)

/-- The reference of the optimiser's step for the second feed-forward weight runs on the host alone: its arguments stay, and it declares no semaphore. -/
theorem quiescent_ref22 : Cert.quiescent_Reference22Ideal (hReference22Ideal := Cert.Reference22Ideal.Gen.facts) := fun m ρ _ =>
  (θ_run Cert.Reference22Ideal.defs _ _).mono (fun r h => ⟨fun c => (h c).2.2.2, Idealize.ShloMosaic.sem_eq_zero_of_no_sems (by decide) r.2⟩)
    (Cert.Reference22Ideal.Value.run (F := Ideal) m ρ)

/-- The reference of the optimiser's step for the output projection's weight runs on the host alone: its arguments stay, and it declares no semaphore. -/
theorem quiescent_ref23 : Cert.quiescent_Reference23Ideal (hReference23Ideal := Cert.Reference23Ideal.Gen.facts) := fun m ρ _ =>
  (θ_run Cert.Reference23Ideal.defs _ _).mono (fun r h => ⟨fun c => (h c).2.2.2, Idealize.ShloMosaic.sem_eq_zero_of_no_sems (by decide) r.2⟩)
    (Cert.Reference23Ideal.Value.run (F := Ideal) m ρ)

/-- The reference of the optimiser's step for the modulation's weight runs on the host alone: its arguments stay, and it declares no semaphore. -/
theorem quiescent_ref24 : Cert.quiescent_Reference24Ideal (hReference24Ideal := Cert.Reference24Ideal.Gen.facts) := fun m ρ _ =>
  (θ_run Cert.Reference24Ideal.defs _ _).mono (fun r h => ⟨fun c => (h c).2.2.2, Idealize.ShloMosaic.sem_eq_zero_of_no_sems (by decide) r.2⟩)
    (Cert.Reference24Ideal.Value.run (F := Ideal) m ρ)

/-- The reference of the rotary embedding runs on the host alone: its arguments stay, and it declares no semaphore. -/
theorem quiescent_ref25 : Cert.quiescent_Reference25Ideal (hReference25Ideal := Cert.Reference25Ideal.Gen.facts) := fun m ρ _ =>
  (θ_run Cert.Reference25Ideal.defs _ _).mono (fun r h => ⟨fun c => (h c).2.2.2.2, Idealize.ShloMosaic.sem_eq_zero_of_no_sems (by decide) r.2⟩)
    (Cert.Reference25Ideal.Value.run (F := Ideal) m ρ)

/-- The reference of the optimiser's step for the small weights runs on the host alone: its arguments stay, and it declares no semaphore. -/
theorem quiescent_ref26 : Cert.quiescent_Reference26Ideal (hReference26Ideal := Cert.Reference26Ideal.Gen.facts) := fun m ρ _ =>
  (θ_run Cert.Reference26Ideal.defs _ _).mono (fun r h => ⟨fun c => (h c).2.2.2.2.2.2.2.2.2.2.2.2.2.2.2.2.2.2.2.2.2.2.2.2.2.2.2.2.2.2.2.2.2.2.2.2.2.2.2, Idealize.ShloMosaic.sem_eq_zero_of_no_sems (by decide) r.2⟩)
    (Cert.Reference26Ideal.Value.run (F := Ideal) m ρ)

theorem claim : Cert.Claim := ⟨Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Pre_cotangents_finite.Gen.facts,
  fun m ρ _ => Cert.Kernel2.Gen.frame m ρ, fun m ρ _ => Cert.Kernel2Ideal.Gen.frame m ρ, quiescent_ref2,
  fun m ρ _ => Cert.Kernel3.Gen.frame m ρ, fun m ρ _ => Cert.Kernel3Ideal.Gen.frame m ρ, quiescent_ref3,
  fun m ρ _ => Cert.Kernel4.Gen.frame m ρ, fun m ρ _ => Cert.Kernel4Ideal.Gen.frame m ρ, quiescent_ref4,
  fun m ρ _ => Cert.Kernel5.Gen.frame m ρ, fun m ρ _ => Cert.Kernel5Ideal.Gen.frame m ρ, quiescent_ref5,
  fun m ρ _ => Cert.Kernel6.Gen.frame m ρ, fun m ρ _ => Cert.Kernel6Ideal.Gen.frame m ρ, quiescent_ref6,
  fun m ρ _ => Cert.Kernel7.Gen.frame m ρ, fun m ρ _ => Cert.Kernel7Ideal.Gen.frame m ρ, quiescent_ref7,
  fun m ρ _ => Cert.Kernel8.Gen.frame m ρ, fun m ρ _ => Cert.Kernel8Ideal.Gen.frame m ρ, quiescent_ref8,
  fun m ρ _ => Cert.Kernel9.Gen.frame m ρ, fun m ρ _ => Cert.Kernel9Ideal.Gen.frame m ρ, quiescent_ref9,
  fun m ρ _ => Cert.Kernel10.Gen.frame m ρ, fun m ρ _ => Cert.Kernel10Ideal.Gen.frame m ρ, quiescent_ref10,
  fun m ρ _ => Cert.Kernel11.Gen.frame m ρ, fun m ρ _ => Cert.Kernel11Ideal.Gen.frame m ρ, quiescent_ref11,
  fun m ρ _ => Cert.Kernel12.Gen.frame m ρ, fun m ρ _ => Cert.Kernel12Ideal.Gen.frame m ρ, quiescent_ref12,
  fun m ρ _ => Cert.Kernel13.Gen.frame m ρ, fun m ρ _ => Cert.Kernel13Ideal.Gen.frame m ρ, fun m ρ _ => Cert.Kernel13Ideal.Gen.frame m ρ, quiescent_ref13, fun m ρ _ => quiescent_ref13 m ρ trivial,
  fun m ρ _ => Cert.Kernel14.Gen.frame m ρ, fun m ρ _ => Cert.Kernel14Ideal.Gen.frame m ρ, quiescent_ref14,
  fun m ρ _ => Cert.Kernel15.Gen.frame m ρ, fun m ρ _ => Cert.Kernel15Ideal.Gen.frame m ρ, quiescent_ref15,
  fun m ρ _ => Cert.Kernel16.Gen.frame m ρ, fun m ρ _ => Cert.Kernel16Ideal.Gen.frame m ρ, quiescent_ref16,
  fun m ρ _ => Cert.Kernel17.Gen.frame m ρ, fun m ρ _ => Cert.Kernel17Ideal.Gen.frame m ρ, quiescent_ref17,
  fun m ρ _ => Cert.Kernel18.Gen.frame m ρ, fun m ρ _ => Cert.Kernel18Ideal.Gen.frame m ρ, quiescent_ref18,
  fun m ρ _ => Cert.Kernel19.Gen.frame m ρ, fun m ρ _ => Cert.Kernel19Ideal.Gen.frame m ρ, quiescent_ref19,
  fun m ρ _ => Cert.Kernel20.Gen.frame m ρ, fun m ρ _ => Cert.Kernel20Ideal.Gen.frame m ρ, quiescent_ref20,
  fun m ρ _ => Cert.Kernel21.Gen.frame m ρ, fun m ρ _ => Cert.Kernel21Ideal.Gen.frame m ρ, quiescent_ref21,
  fun m ρ _ => Cert.Kernel22.Gen.frame m ρ, fun m ρ _ => Cert.Kernel22Ideal.Gen.frame m ρ, quiescent_ref22,
  fun m ρ _ => Cert.Kernel23.Gen.frame m ρ, fun m ρ _ => Cert.Kernel23Ideal.Gen.frame m ρ, quiescent_ref23,
  fun m ρ _ => Cert.Kernel24.Gen.frame m ρ, fun m ρ _ => Cert.Kernel24Ideal.Gen.frame m ρ, quiescent_ref24,
  fun m ρ _ => Cert.Kernel25.Gen.frame m ρ, fun m ρ _ => Cert.Kernel25Ideal.Gen.frame m ρ, quiescent_ref25,
  fun m ρ _ => Cert.Kernel26.Gen.frame m ρ, fun m ρ _ => Cert.Kernel26Ideal.Gen.frame m ρ, quiescent_ref26,
  trivial, algebraic_dx,
  trivial, algebraic_dw,
  trivial, algebraic_down_dw,
  trivial, algebraic_out_dx,
  trivial, algebraic_out_dw,
  trivial, algebraic_in_dx,
  trivial, algebraic_ffn_fwd,
  trivial, algebraic_down_fwd,
  trivial, algebraic_in_fwd,
  trivial, algebraic_out_fwd,
  trivial, algebraic_in_dw,
  trivial, algebraic_act,
  trivial, algebraic_conv,
  trivial, algebraic_norm_dx,
  trivial, algebraic_rope_dx,
  trivial, algebraic_ssm_out,
  trivial, algebraic_conv_fwd,
  trivial, algebraic_norm_fwd,
  trivial, algebraic_adamIn,
  trivial, algebraic_adamUp,
  trivial, algebraic_adamDown,
  trivial, algebraic_adamOut,
  trivial, algebraic_adamMod,
  trivial, algebraic_rope_fwd,
  trivial, algebraic_adamSmall⟩

end Cert.Proof

end
